-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_v181) = v2 c
          ∧ r.2.mem ((c.tc : Thread Cert.ReferenceIdeal.nD Cert.ReferenceIdeal.τ).loc Cert.ReferenceIdeal.main_v183) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v33) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v16_0)) (v1 : (c : Dev Cert.Kernel7Ideal.nD) → Buf (Elt Ideal) ((c.tc : Thread Cert.Kernel7Ideal.nD Cert.Kernel7Ideal.τ).loc Cert.Kernel7Ideal.main_v16_1)) (v2 : (c : Dev Cert.Kernel7Ideal.nD) → Buf (Elt Ideal) ((c.tc : Thread Cert.Kernel7Ideal.nD Cert.Kernel7Ideal.τ).loc Cert.Kernel7Ideal.main_v16_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16_0) = v0 c
          ∧ r.2.mem ((c.tc : Thread Cert.Kernel7Ideal.nD Cert.Kernel7Ideal.τ).loc Cert.Kernel7Ideal.main_v16_1) = v1 c
          ∧ r.2.mem ((c.tc : Thread Cert.Kernel7Ideal.nD Cert.Kernel7Ideal.τ).loc Cert.Kernel7Ideal.main_v16_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_v15) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v35_0)) (v1 : (c : Dev Cert.Kernel8Ideal.nD) → Buf (Elt Ideal) ((c.tc : Thread Cert.Kernel8Ideal.nD Cert.Kernel8Ideal.τ).loc Cert.Kernel8Ideal.main_v35_1)) (v2 : (c : Dev Cert.Kernel8Ideal.nD) → Buf (Elt Ideal) ((c.tc : Thread Cert.Kernel8Ideal.nD Cert.Kernel8Ideal.τ).loc Cert.Kernel8Ideal.main_v35_2)) (v3 : (c : Dev Cert.Kernel8Ideal.nD) → Buf (Elt Ideal) ((c.tc : Thread Cert.Kernel8Ideal.nD Cert.Kernel8Ideal.τ).loc Cert.Kernel8Ideal.main_v35_3)) (v4 : (c : Dev Cert.Kernel8Ideal.nD) → Buf (Elt Ideal) ((c.tc : Thread Cert.Kernel8Ideal.nD Cert.Kernel8Ideal.τ).loc Cert.Kernel8Ideal.main_v35_4)) (v5 : (c : Dev Cert.Kernel8Ideal.nD) → Buf (Elt Ideal) ((c.tc : Thread Cert.Kernel8Ideal.nD Cert.Kernel8Ideal.τ).loc Cert.Kernel8Ideal.main_v35_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v35_0) = v0 c
          ∧ r.2.mem ((c.tc : Thread Cert.Kernel8Ideal.nD Cert.Kernel8Ideal.τ).loc Cert.Kernel8Ideal.main_v35_1) = v1 c
          ∧ r.2.mem ((c.tc : Thread Cert.Kernel8Ideal.nD Cert.Kernel8Ideal.τ).loc Cert.Kernel8Ideal.main_v35_2) = v2 c
          ∧ r.2.mem ((c.tc : Thread Cert.Kernel8Ideal.nD Cert.Kernel8Ideal.τ).loc Cert.Kernel8Ideal.main_v35_3) = v3 c
          ∧ r.2.mem ((c.tc : Thread Cert.Kernel8Ideal.nD Cert.Kernel8Ideal.τ).loc Cert.Kernel8Ideal.main_v35_4) = v4 c
          ∧ r.2.mem ((c.tc : Thread Cert.Kernel8Ideal.nD Cert.Kernel8Ideal.τ).loc Cert.Kernel8Ideal.main_v35_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v141) = v0 c
          ∧ r.2.mem ((c.tc : Thread Cert.Reference8Ideal.nD Cert.Reference8Ideal.τ).loc Cert.Reference8Ideal.main_v142) = v1 c
          ∧ r.2.mem ((c.tc : Thread Cert.Reference8Ideal.nD Cert.Reference8Ideal.τ).loc Cert.Reference8Ideal.main_v144) = v2 c
          ∧ r.2.mem ((c.tc : Thread Cert.Reference8Ideal.nD Cert.Reference8Ideal.τ).loc Cert.Reference8Ideal.main_v130) = v3 c
          ∧ r.2.mem ((c.tc : Thread Cert.Reference8Ideal.nD Cert.Reference8Ideal.τ).loc Cert.Reference8Ideal.main_v132) = v4 c
          ∧ r.2.mem ((c.tc : Thread Cert.Reference8Ideal.nD Cert.Reference8Ideal.τ).loc Cert.Reference8Ideal.main_v139) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v85) = v0 c
          ∧ r.2.mem ((c.tc : Thread Cert.Reference9Ideal.nD Cert.Reference9Ideal.τ).loc Cert.Reference9Ideal.main_v86) = v1 c
          ∧ r.2.mem ((c.tc : Thread Cert.Reference9Ideal.nD Cert.Reference9Ideal.τ).loc Cert.Reference9Ideal.main_v84) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v39) = v0 c
          ∧ r.2.mem ((c.tc : Thread Cert.Reference10Ideal.nD Cert.Reference10Ideal.τ).loc Cert.Reference10Ideal.main_v40) = v1 c
          ∧ r.2.mem ((c.tc : Thread Cert.Reference10Ideal.nD Cert.Reference10Ideal.τ).loc Cert.Reference10Ideal.main_v41) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v9_0)) (v1 : (c : Dev Cert.Kernel11Ideal.nD) → Buf (Elt Ideal) ((c.tc : Thread Cert.Kernel11Ideal.nD Cert.Kernel11Ideal.τ).loc Cert.Kernel11Ideal.main_v9_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9_0) = v0 c
          ∧ r.2.mem ((c.tc : Thread Cert.Kernel11Ideal.nD Cert.Kernel11Ideal.τ).loc Cert.Kernel11Ideal.main_v9_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v56) = v0 c
          ∧ r.2.mem ((c.tc : Thread Cert.Reference11Ideal.nD Cert.Reference11Ideal.τ).loc Cert.Reference11Ideal.main_v58) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S2x2048x512 : Shape := ⟨3, ![2, 2048, 512]⟩
abbrev S2x2048x128 : Shape := ⟨3, ![2, 2048, 128]⟩
abbrev S8 : Shape := ⟨1, ![8]⟩
abbrev S_ : Shape := ⟨0, ![]⟩

class Facts : Prop where
  bcast_S_S2x2048x512 : S_.BroadcastsInDim S2x2048x512 (![] : Fin 0 → Fin S2x2048x512.rank)
  bcast_S_S2x2048x128 : S_.BroadcastsInDim S2x2048x128 (![] : Fin 0 → Fin S2x2048x128.rank)
  bcast_S_S8 : S_.BroadcastsInDim S8 (![] : Fin 0 → Fin S8.rank)

variable [Facts]

def fn {F : FTy → Type} [FloatOps F] (main_arg0 : FVec F S2x2048x512 .f32) (main_arg1 : FVec F S2x2048x128 .f32) (main_arg2 : FVec F S2x2048x128 .f32) (main_arg3 : FVec F S8 .f32) (main_arg4 : FVec F S2x2048x512 .f32) : IVec S2x2048x512 1 × IVec S2x2048x128 1 × IVec S2x2048x128 1 × IVec S8 1 × IVec S2x2048x512 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S2x2048x128 .f32 := Host.absf main_arg1
  let main_cst_0 : FVec F S_ .f32 := constant S_ .f32 0x7F800000#32
  let main_v4 : FVec F S2x2048x128 .f32 := broadcastInDim S2x2048x128 ![] bcast_S_S2x2048x128 main_cst_0
  let main_v5 : IVec S2x2048x128 1 := cmpf .olt main_v3 main_v4
  let main_v6 : FVec F S2x2048x128 .f32 := Host.absf main_arg2
  let main_cst_1 : FVec F S_ .f32 := constant S_ .f32 0x7F800000#32
  let main_v7 : FVec F S2x2048x128 .f32 := broadcastInDim S2x2048x128 ![] bcast_S_S2x2048x128 main_cst_1
  let main_v8 : IVec S2x2048x128 1 := cmpf .olt main_v6 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_v12 : FVec F S2x2048x512 .f32 := Host.absf main_arg4
  let main_cst_3 : FVec F S_ .f32 := constant S_ .f32 0x7F800000#32
  let main_v13 : FVec F S2x2048x512 .f32 := broadcastInDim S2x2048x512 ![] bcast_S_S2x2048x512 main_cst_3
  let main_v14 : IVec S2x2048x512 1 := cmpf .olt main_v12 main_v13
  (main_v2, main_v5, main_v8, main_v11, main_v14)
-- ==== Pre_finite7.lean ====
abbrev S4096x1024 : Shape := ⟨2, ![4096, 1024]⟩
abbrev S2816x1024 : Shape := ⟨2, ![2816, 1024]⟩
abbrev S4096x2816 : Shape := ⟨2, ![4096, 2816]⟩
abbrev S1x2816 : Shape := ⟨2, ![1, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)
  bcast_S_S1x2816 : S_.BroadcastsInDim S1x2816 (![] : Fin 0 → Fin S1x2816.rank)

variable [Facts]

def fn {F : FTy → Type} [FloatOps F] (main_arg0 : FVec F S4096x1024 .bf16) (main_arg1 : FVec F S2816x1024 .bf16) (main_arg2 : FVec F S4096x2816 .f32) (main_arg3 : FVec F S1x2816 .f32) (main_arg4 : FVec F S4096x2816 .bf16) : IVec S4096x1024 1 × IVec S2816x1024 1 × IVec S4096x2816 1 × IVec S1x2816 1 × IVec S4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x2816 .f32 := Host.absf main_arg2
  let main_cst_1 : FVec F S_ .f32 := constant S_ .f32 0x7F800000#32
  let main_v9 : FVec F S4096x2816 .f32 := broadcastInDim S4096x2816 ![] bcast_S_S4096x2816 main_cst_1
  let main_v10 : IVec S4096x2816 1 := cmpf .olt main_v8 main_v9
  let main_v11 : FVec F S1x2816 .f32 := Host.absf main_arg3
  let main_cst_2 : FVec F S_ .f32 := constant S_ .f32 0x7F800000#32
  let main_v12 : FVec F S1x2816 .f32 := broadcastInDim S1x2816 ![] bcast_S_S1x2816 main_cst_2
  let main_v13 : IVec S1x2816 1 := cmpf .olt main_v11 main_v12
  let main_v14 : FVec F S4096x2816 .f32 := (extf .f32 · bitsLt_bf16_f32) main_arg4
  let main_v15 : FVec F S4096x2816 .f32 := Host.absf main_v14
  let main_cst_3 : FVec F S_ .f32 := constant S_ .f32 0x7F800000#32
  let main_v16 : FVec F S4096x2816 .f32 := broadcastInDim S4096x2816 ![] bcast_S_S4096x2816 main_cst_3
  let main_v17 : IVec S4096x2816 1 := cmpf .olt main_v15 main_v16
  (main_v3, main_v7, main_v10, main_v13, main_v17)
-- ==== Kernel.lean ====
abbrev S2x2048x512 : Shape := ⟨3, ![2, 2048, 512]⟩
abbrev S2x2048x128 : Shape := ⟨3, ![2, 2048, 128]⟩
abbrev S8 : Shape := ⟨1, ![8]⟩
abbrev S_ : Shape := ⟨0, ![]⟩
abbrev S2x2048x1536 : Shape := ⟨3, ![2, 2048, 1536]⟩
abbrev S2x2048x2304 : Shape := ⟨3, ![2, 2048, 2304]⟩
abbrev S8x128 : Shape := ⟨2, ![8, 128]⟩
abbrev S1x2048x512 : Shape := ⟨3, ![1, 2048, 512]⟩
abbrev S1x2048x128 : Shape := ⟨3, ![1, 2048, 128]⟩
abbrev S2048x256 : Shape := ⟨2, ![2048, 256]⟩
abbrev S384x128 : Shape := ⟨2, ![384, 128]⟩
abbrev S1x384x128 : Shape := ⟨3, ![1, 384, 128]⟩
abbrev S1x128x128 : Shape := ⟨3, ![1, 128, 128]⟩
abbrev S128x128 : Shape := ⟨2, ![128, 128]⟩
abbrev S1 : Shape := ⟨1, ![1]⟩
abbrev S128 : Shape := ⟨1, ![128]⟩
abbrev S1x128 : Shape := ⟨2, ![1, 128]⟩
abbrev S128x512 : Shape := ⟨2, ![128, 512]⟩
abbrev S1x128x512 : Shape := ⟨3, ![1, 128, 512]⟩
abbrev S384x256 : Shape := ⟨2, ![384, 256]⟩
abbrev S256x128 : Shape := ⟨2, ![256, 128]⟩
abbrev S1x256x128 : Shape := ⟨3, ![1, 256, 128]⟩
abbrev S8x1 : Shape := ⟨2, ![8, 1]⟩

abbrev nBuf : Space → Nat
  | .hbm => 19
  | .vmem => 17
  | .smem => 1
  | _ => 0

abbrev bufTy : (tb : Table) → Fin (tcTables nBuf tb) → BufTy
  | .hbm, ⟨0, _⟩ => ⟨S2x2048x512, .f32⟩
  | .hbm, ⟨1, _⟩ => ⟨S2x2048x128, .f32⟩
  | .hbm, ⟨2, _⟩ => ⟨S2x2048x128, .f32⟩
  | .hbm, ⟨3, _⟩ => ⟨S8, .f32⟩
  | .hbm, ⟨4, _⟩ => ⟨S2x2048x512, .f32⟩
  | .hbm, ⟨5, _⟩ => ⟨S_, .bf16⟩
  | .hbm, ⟨6, _⟩ => ⟨S2x2048x1536, .bf16⟩
  | .hbm, ⟨7, _⟩ => ⟨S_, .f32⟩
  | .hbm, ⟨8, _⟩ => ⟨S2x2048x512, .f32⟩
  | .hbm, ⟨9, _⟩ => ⟨S2x2048x512, .f32⟩
  | .hbm, ⟨10, _⟩ => ⟨S2x2048x512, .bf16⟩
  | .hbm, ⟨11, _⟩ => ⟨S2x2048x128, .bf16⟩
  | .hbm, ⟨12, _⟩ => ⟨S2x2048x128, .bf16⟩
  | .hbm, ⟨13, _⟩ => ⟨S2x2048x2304, .bf16⟩
  | .hbm, ⟨14, _⟩ => ⟨S2x2048x512, .bf16⟩
  | .hbm, ⟨15, _⟩ => ⟨S2x2048x512, .bf16⟩
  | .hbm, ⟨16, _⟩ => ⟨S2x2048x128, .bf16⟩
  | .hbm, ⟨17, _⟩ => ⟨S2x2048x128, .bf16⟩
  | .hbm, ⟨18, _⟩ => ⟨S8x128, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S8x128, .f32⟩
  | .local _ .vmem, ⟨15, _⟩ => ⟨S2048x256, .f32⟩
  | .local _ .vmem, ⟨16, _⟩ => ⟨S2048x256, .f32⟩
  | .local _ .smem, ⟨0, _⟩ => ⟨S8, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_5 : BitVec 32 := 0#32
  let c16_i32 : BitVec 32 := 16#32
  let v11 : BitVec 32 := Scalar.addi c0_i32_5 c16_i32
  let c1_i32 : BitVec 32 := 1#32
  ⟨c0_i32_5, v11, c1_i32⟩
def k0_mult1 (k0_t1 : Fin k0_t1_loop.trips) : BitVec 32 :=
  let c1664_i32 : BitVec 32 := 1664#32
  let c0_i32_13 : BitVec 32 := 0#32
  let c0_i32_5 : BitVec 32 := 0#32
  let c1_i32 : BitVec 32 := 1#32
  let arg12 : BitVec 32 := Scf.iv c0_i32_5 c1_i32 k0_t1
  let c128_i32 : BitVec 32 := 128#32
  let v16 : BitVec 32 := Scalar.muli arg12 c128_i32
  let c128_i32_12 : BitVec 32 := 128#32
  let v17 : BitVec 32 := Scalar.subi v16 c128_i32_12
  let v18 : BitVec 32 := Scalar.maxsi c0_i32_13 v17
  let v19 : BitVec 32 := Scalar.minsi c1664_i32 v18
  v19
def k0_mult2 (k0_t1 : Fin k0_t1_loop.trips) : BitVec 32 :=
  let c0_i32_5 : BitVec 32 := 0#32
  let c1_i32 : BitVec 32 := 1#32
  let arg12 : BitVec 32 := Scf.iv c0_i32_5 c1_i32 k0_t1
  let c128_i32_16 : BitVec 32 := 128#32
  let v32 : BitVec 32 := Scalar.muli arg12 c128_i32_16
  v32
def k0_off1 (k0_t1 : Fin k0_t1_loop.trips) : Fin 3 → Nat :=
  let c0_17 : Index := 0#32
  let c1664_i32 : BitVec 32 := 1664#32
  let c0_i32_13 : BitVec 32 := 0#32
  let c0_i32_5 : BitVec 32 := 0#32
  let c1_i32 : BitVec 32 := 1#32
  let arg12 : BitVec 32 := Scf.iv c0_i32_5 c1_i32 k0_t1
  let c128_i32 : BitVec 32 := 128#32
  let v16 : BitVec 32 := Scalar.muli arg12 c128_i32
  let c128_i32_12 : BitVec 32 := 128#32
  let v17 : BitVec 32 := Scalar.subi v16 c128_i32_12
  let v18 : BitVec 32 := Scalar.maxsi c0_i32_13 v17
  let v19 : BitVec 32 := Scalar.minsi c1664_i32 v18
  let v20 : BitVec 32 := v19
  let v34 : Index := Scalar.indexCast v20
  let c0_18 : Index := 0#32
  ![0, v34.toNat, 0]
def k0_off2 (k0_t1 : Fin k0_t1_loop.trips) : Fin 3 → Nat :=
  let c0_26 : Index := 0#32
  let c0_i32_5 : BitVec 32 := 0#32
  let c1_i32 : BitVec 32 := 1#32
  let arg12 : BitVec 32 := Scf.iv c0_i32_5 c1_i32 k0_t1
  let c128_i32_16 : BitVec 32 := 128#32
  let v32 : BitVec 32 := Scalar.muli arg12 c128_i32_16
  let v33 : BitVec 32 := v32
  let v58 : Index := Scalar.indexCast v33
  let c0_27 : Index := 0#32
  ![0, v58.toNat, 0]
def k0_off3 (k0_t1 : Fin k0_t1_loop.trips) : Fin 3 → Nat :=
  let c0_28 : Index := 0#32
  let c0_i32_5 : BitVec 32 := 0#32
  let c1_i32 : BitVec 32 := 1#32
  let arg12 : BitVec 32 := Scf.iv c0_i32_5 c1_i32 k0_t1
  let c128_i32_16 : BitVec 32 := 128#32
  let v32 : BitVec 32 := Scalar.muli arg12 c128_i32_16
  let v33 : BitVec 32 := v32
  let v61 : Index := Scalar.indexCast v33
  let c128 : Index := 128#32
  ![0, v61.toNat, 128]
def k0_off4 (k0_t1 : Fin k0_t1_loop.trips) : Fin 3 → Nat :=
  let c0_29 : Index := 0#32
  let c0_i32_5 : BitVec 32 := 0#32
  let c1_i32 : BitVec 32 := 1#32
  let arg12 : BitVec 32 := Scf.iv c0_i32_5 c1_i32 k0_t1
  let c128_i32_16 : BitVec 32 := 128#32
  let v32 : BitVec 32 := Scalar.muli arg12 c128_i32_16
  let v33 : BitVec 32 := v32
  let v64 : Index := Scalar.indexCast v33
  let c256 : Index := 256#32
  ![0, v64.toNat, 256]
def k0_off5 (k0_t1 : Fin k0_t1_loop.trips) : Fin 3 → Nat :=
  let c0_30 : Index := 0#32
  let c0_i32_5 : BitVec 32 := 0#32
  let c1_i32 : BitVec 32 := 1#32
  let arg12 : BitVec 32 := Scf.iv c0_i32_5 c1_i32 k0_t1
  let c128_i32_16 : BitVec 32 := 128#32
  let v32 : BitVec 32 := Scalar.muli arg12 c128_i32_16
  let v33 : BitVec 32 := v32
  let v67 : Index := Scalar.indexCast v33
  let c384 : Index := 384#32
  ![0, v67.toNat, 384]
def k0_off6 (k0_t1 : Fin k0_t1_loop.trips) : Fin 3 → Nat :=
  let c0_144 : Index := 0#32
  let c0_i32_5 : BitVec 32 := 0#32
  let c1_i32 : BitVec 32 := 1#32
  let arg12 : BitVec 32 := Scf.iv c0_i32_5 c1_i32 k0_t1
  let c128_i32_16 : BitVec 32 := 128#32
  let v32 : BitVec 32 := Scalar.muli arg12 c128_i32_16
  let v33 : BitVec 32 := v32
  let v400 : Index := Scalar.indexCast v33
  let c0_145 : Index := 0#32
  ![0, v400.toNat, 0]
def k0_off7 (k0_t1 : Fin k0_t1_loop.trips) : Fin 2 → Nat :=
  let c1664_i32 : BitVec 32 := 1664#32
  let c0_i32_13 : BitVec 32 := 0#32
  let c0_i32_5 : BitVec 32 := 0#32
  let c1_i32 : BitVec 32 := 1#32
  let arg12 : BitVec 32 := Scf.iv c0_i32_5 c1_i32 k0_t1
  let c128_i32 : BitVec 32 := 128#32
  let v16 : BitVec 32 := Scalar.muli arg12 c128_i32
  let c128_i32_12 : BitVec 32 := 128#32
  let v17 : BitVec 32 := Scalar.subi v16 c128_i32_12
  let v18 : BitVec 32 := Scalar.maxsi c0_i32_13 v17
  let v19 : BitVec 32 := Scalar.minsi c1664_i32 v18
  let v20 : BitVec 32 := v19
  let v435 : Index := Scalar.indexCast v20
  let c0_163 : Index := 0#32
  ![v435.toNat, 0]
@[reducible] def k0_t2_loop : Scf.Loop 32 :=
  let c0_i32_7 : BitVec 32 := 0#32
  let c8_i32 : BitVec 32 := 8#32
  let v12 : BitVec 32 := Scalar.addi c0_i32_7 c8_i32
  let c1_i32_8 : BitVec 32 := 1#32
  ⟨c0_i32_7, v12, c1_i32_8⟩
def k0_mult3 (k0_t2 : Fin k0_t2_loop.trips) : BitVec 32 :=
  let c0_i32_7 : BitVec 32 := 0#32
  let c1_i32_8 : BitVec 32 := 1#32
  let arg12 : BitVec 32 := Scf.iv c0_i32_7 c1_i32_8 k0_t2
  let c256_i32 : BitVec 32 := 256#32
  let v16 : BitVec 32 := Scalar.muli arg12 c256_i32
  v16
def k0_off8 (k0_t2 : Fin k0_t2_loop.trips) : Fin 2 → Nat :=
  let c0_i32_7 : BitVec 32 := 0#32
  let c1_i32_8 : BitVec 32 := 1#32
  let arg12 : BitVec 32 := Scf.iv c0_i32_7 c1_i32_8 k0_t2
  let c256_i32 : BitVec 32 := 256#32
  let v16 : BitVec 32 := Scalar.muli arg12 c256_i32
  let v17 : BitVec 32 := v16
  let v21 : Index := Scalar.indexCast v17
  let c0_12 : Index := 0#32
  ![v21.toNat, 0]
def k0_off9 (k0_t2 : Fin k0_t2_loop.trips) : Fin 2 → Nat :=
  let c0_i32_7 : BitVec 32 := 0#32
  let c1_i32_8 : BitVec 32 := 1#32
  let arg12 : BitVec 32 := Scf.iv c0_i32_7 c1_i32_8 k0_t2
  let c256_i32 : BitVec 32 := 256#32
  let v16 : BitVec 32 := Scalar.muli arg12 c256_i32
  let v17 : BitVec 32 := v16
  let v23 : Index := Scalar.indexCast v17
  let c128 : Index := 128#32
  ![v23.toNat, 128]
def k0_off10 (k0_t2 : Fin k0_t2_loop.trips) : Fin 3 → Nat :=
  let c0_15 : Index := 0#32
  let c0_i32_7 : BitVec 32 := 0#32
  let c1_i32_8 : BitVec 32 := 1#32
  let arg12 : BitVec 32 := Scf.iv c0_i32_7 c1_i32_8 k0_t2
  let c256_i32 : BitVec 32 := 256#32
  let v16 : BitVec 32 := Scalar.muli arg12 c256_i32
  let v17 : BitVec 32 := v16
  let v31 : Index := Scalar.indexCast v17
  let c0_16 : Index := 0#32
  ![0, v31.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let c0_i32 : BitVec 32 := 0#32
  let c16_i32 : BitVec 32 := 16#32
  let c0_i32_0 : BitVec 32 := 0#32
  ![arg0.toNat, c0_i32.toNat, c16_i32.toNat]

def cc0_transform_3 (i : grid0.Coords) : Fin 3 → Nat :=
  let arg0 : BitVec 32 := BitVec.ofNat 32 (i 0).val
  let c0_i32 : BitVec 32 := 0#32
  let c17_i32 : BitVec 32 := 17#32
  let c0_i32_0 : BitVec 32 := 0#32
  ![arg0.toNat, c0_i32.toNat, c17_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2x2048x512 : Shape := ⟨3, ![2, 2048, 512]⟩
abbrev S2x2048x128 : Shape := ⟨3, ![2, 2048, 128]⟩
abbrev S8 : Shape := ⟨1, ![8]⟩
abbrev S2x2048x8x64 : Shape := ⟨4, ![2, 2048, 8, 64]⟩
abbrev S2x2048x2x64 : Shape := ⟨4, ![2, 2048, 2, 64]⟩
abbrev S2x16x128x2x4x64 : Shape := ⟨6, ![2, 16, 128, 2, 4, 64]⟩
abbrev S_ : Shape := ⟨0, ![]⟩
abbrev S2x128x2x64 : Shape := ⟨4, ![2, 128, 2, 64]⟩
abbrev S2x2304x2x64 : Shape := ⟨4, ![2, 2304, 2, 64]⟩
abbrev S2x18x128x2x64 : Shape := ⟨5, ![2, 18, 128, 2, 64]⟩
abbrev S2x16x128x2x64 : Shape := ⟨5, ![2, 16, 128, 2, 64]⟩
abbrev S2x16x384x2x64 : Shape := ⟨5, ![2, 16, 384, 2, 64]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S384 : Shape := ⟨1, ![384]⟩
abbrev S1x384 : Shape := ⟨2, ![1, 384]⟩
abbrev S16x384 : Shape := ⟨2, ![16, 384]⟩
abbrev S16x128x1 : Shape := ⟨3, ![16, 128, 1]⟩
abbrev S16x1x384 : Shape := ⟨3, ![16, 1, 384]⟩
abbrev S16x128x384 : Shape := ⟨3, ![16, 128, 384]⟩
abbrev S2x2x16x384x128x4 : Shape := ⟨6, ![2, 2, 16, 384, 128, 4]⟩
abbrev S2x2x4x16x128x384 : Shape := ⟨6, ![2, 2, 4, 16, 128, 384]⟩
abbrev S1x1x1x16x128x384 : Shape := ⟨6, ![1, 1, 1, 16, 128, 384]⟩
abbrev S1x2x4x1x1 : Shape := ⟨5, ![1, 2, 4, 1, 1]⟩
abbrev S2x2x4x16x128 : Shape := ⟨5, ![2, 2, 4, 16, 128]⟩
abbrev S2x2x4x16x128x1 : Shape := ⟨6, ![2, 2, 4, 16, 128, 1]⟩
abbrev S2x16x2x64x4x128 : Shape := ⟨6, ![2, 16, 2, 64, 4, 128]⟩
abbrev S2x16x2x4x128x384 : Shape := ⟨6, ![2, 16, 2, 4, 128, 384]⟩
abbrev S2x16x2x64x384 : Shape := ⟨5, ![2, 16, 2, 64, 384]⟩
abbrev S2x4 : Shape := ⟨2, ![2, 4]⟩
abbrev S2x2x16x128x4x64 : Shape := ⟨6, ![2, 2, 16, 128, 4, 64]⟩
abbrev S2x2x16x384x64 : Shape := ⟨5, ![2, 2, 16, 384, 64]⟩
abbrev S8x1 : Shape := ⟨2, ![8, 1]⟩
abbrev S8x128 : Shape := ⟨2, ![8, 128]⟩

abbrev nBuf : Space → Nat
  | .hbm => 232
  | .vmem => 0
  | .smem => 0
  | _ => 0

abbrev hbmTy0_0 (i : Nat) : BufTy := match i % 128 with
  | 0 => ⟨S2x2048x512, .f32⟩
  | 1 => ⟨S2x2048x128, .f32⟩
  | 2 => ⟨S2x2048x128, .f32⟩
  | 3 => ⟨S8, .f32⟩
  | 4 => ⟨S2x2048x512, .f32⟩
  | 5 => ⟨S2x2048x8x64, .f32⟩
  | 6 => ⟨S2x2048x2x64, .f32⟩
  | 7 => ⟨S2x2048x2x64, .f32⟩
  | 8 => ⟨S2x16x128x2x4x64, .f32⟩
  | 9 => ⟨S_, .f32⟩
  | 10 => ⟨S2x128x2x64, .f32⟩
  | 11 => ⟨S2x2304x2x64, .f32⟩
  | 12 => ⟨S_, .f32⟩
  | 13 => ⟨S2x128x2x64, .f32⟩
  | 14 => ⟨S_, .f32⟩
  | 15 => ⟨S2x128x2x64, .f32⟩
  | 16 => ⟨S2x18x128x2x64, .f32⟩
  | 17 => ⟨S2x16x128x2x64, .f32⟩
  | 18 => ⟨S2x16x128x2x64, .f32⟩
  | 19 => ⟨S2x16x128x2x64, .f32⟩
  | 20 => ⟨S2x16x384x2x64, .f32⟩
  | 21 => ⟨S2x2304x2x64, .f32⟩
  | 22 => ⟨S_, .f32⟩
  | 23 => ⟨S2x128x2x64, .f32⟩
  | 24 => ⟨S_, .f32⟩
  | 25 => ⟨S2x128x2x64, .f32⟩
  | 26 => ⟨S2x18x128x2x64, .f32⟩
  | 27 => ⟨S2x16x128x2x64, .f32⟩
  | 28 => ⟨S2x16x128x2x64, .f32⟩
  | 29 => ⟨S2x16x128x2x64, .f32⟩
  | 30 => ⟨S2x16x384x2x64, .f32⟩
  | 31 => ⟨S16, .i32⟩
  | 32 => ⟨S16x1, .i32⟩
  | 33 => ⟨S_, .i32⟩
  | 34 => ⟨S16x1, .i32⟩
  | 35 => ⟨S16x1, .i32⟩
  | 36 => ⟨S128, .i32⟩
  | 37 => ⟨S1x128, .i32⟩
  | 38 => ⟨S16x128, .i32⟩
  | 39 => ⟨S16x128, .i32⟩
  | 40 => ⟨S16x128, .i32⟩
  | 41 => ⟨S_, .i32⟩
  | 42 => ⟨S16x1, .i32⟩
  | 43 => ⟨S16x1, .i32⟩
  | 44 => ⟨S384, .i32⟩
  | 45 => ⟨S1x384, .i32⟩
  | 46 => ⟨S16x384, .i32⟩
  | 47 => ⟨S16x384, .i32⟩
  | 48 => ⟨S16x384, .i32⟩
  | 49 => ⟨S16x128x1, .i32⟩
  | 50 => ⟨S16x1x384, .i32⟩
  | 51 => ⟨S16x128x384, .i32⟩
  | 52 => ⟨S16x128x384, .i32⟩
  | 53 => ⟨S16x128x384, .i32⟩
  | 54 => ⟨S16x128x384, .i32⟩
  | 55 => ⟨S_, .i32⟩
  | 56 => ⟨S16x128x384, .i32⟩
  | 57 => ⟨S16x128x384, .i1⟩
  | 58 => ⟨S_, .i32⟩
  | 59 => ⟨S16x384, .i32⟩
  | 60 => ⟨S16x384, .i1⟩
  | 61 => ⟨S_, .i32⟩
  | 62 => ⟨S16x384, .i32⟩
  | 63 => ⟨S16x384, .i1⟩
  | 64 => ⟨S16x384, .i1⟩
  | 65 => ⟨S16x1x384, .i1⟩
  | 66 => ⟨S16x128x384, .i1⟩
  | 67 => ⟨S16x128x384, .i1⟩
  | 68 => ⟨S2x2x16x384x128x4, .f32⟩
  | 69 => ⟨S2x2x4x16x128x384, .f32⟩
  | 70 => ⟨S_, .f32⟩
  | 71 => ⟨S2x2x4x16x128x384, .f32⟩
  | 72 => ⟨S2x2x4x16x128x384, .f32⟩
  | 73 => ⟨S1x1x1x16x128x384, .i1⟩
  | 74 => ⟨S_, .f32⟩
  | 75 => ⟨S_, .f32⟩
  | 76 => ⟨S2x2x4x16x128x384, .i1⟩
  | 77 => ⟨S2x2x4x16x128x384, .f32⟩
  | 78 => ⟨S2x2x4x16x128x384, .f32⟩
  | 79 => ⟨S_, .f32⟩
  | 80 => ⟨S2x2x4x16x128x384, .f32⟩
  | 81 => ⟨S1x2x4x1x1, .f32⟩
  | 82 => ⟨S_, .f32⟩
  | 83 => ⟨S2x2x4x16x128, .f32⟩
  | 84 => ⟨S2x2x4x16x128x1, .f32⟩
  | 85 => ⟨S2x2x4x16x128x384, .f32⟩
  | 86 => ⟨S2x2x4x16x128x384, .i1⟩
  | 87 => ⟨S2x2x4x16x128x384, .f32⟩
  | 88 => ⟨S_, .f32⟩
  | 89 => ⟨S2x2x4x16x128, .f32⟩
  | 90 => ⟨S2x2x4x16x128, .f32⟩
  | 91 => ⟨S2x2x4x16x128, .f32⟩
  | 92 => ⟨S2x2x4x16x128, .f32⟩
  | 93 => ⟨S2x2x4x16x128, .i1⟩
  | 94 => ⟨S2x2x4x16x128, .f32⟩
  | 95 => ⟨S2x2x4x16x128, .i1⟩
  | 96 => ⟨S_, .f32⟩
  | 97 => ⟨S2x2x4x16x128, .f32⟩
  | 98 => ⟨S_, .f32⟩
  | 99 => ⟨S2x2x4x16x128, .f32⟩
  | 100 => ⟨S_, .f32⟩
  | 101 => ⟨S2x2x4x16x128, .f32⟩
  | 102 => ⟨S2x2x4x16x128, .f32⟩
  | 103 => ⟨S2x2x4x16x128, .f32⟩
  | 104 => ⟨S2x2x4x16x128, .f32⟩
  | 105 => ⟨S2x2x4x16x128, .i1⟩
  | 106 => ⟨S2x2x4x16x128, .f32⟩
  | 107 => ⟨S2x2x4x16x128, .i1⟩
  | 108 => ⟨S_, .f32⟩
  | 109 => ⟨S2x2x4x16x128, .f32⟩
  | 110 => ⟨S_, .f32⟩
  | 111 => ⟨S2x2x4x16x128, .f32⟩
  | 112 => ⟨S_, .f32⟩
  | 113 => ⟨S2x2x4x16x128, .f32⟩
  | 114 => ⟨S2x2x4x16x128, .f32⟩
  | 115 => ⟨S2x2x4x16x128, .f32⟩
  | 116 => ⟨S2x2x4x16x128x1, .f32⟩
  | 117 => ⟨S2x2x4x16x128x384, .f32⟩
  | 118 => ⟨S2x2x4x16x128x384, .f32⟩
  | 119 => ⟨S2x2x4x16x128x384, .f32⟩
  | 120 => ⟨S_, .f32⟩
  | 121 => ⟨S2x2x4x16x128, .f32⟩
  | 122 => ⟨S2x2x4x16x128, .f32⟩
  | 123 => ⟨S2x2x4x16x128, .f32⟩
  | 124 => ⟨S2x2x4x16x128, .f32⟩
  | 125 => ⟨S2x2x4x16x128, .f32⟩
  | 126 => ⟨S2x2x4x16x128x1, .f32⟩
  | 127 => ⟨S2x2x4x16x128x384, .f32⟩
  | _ => ⟨S2x2048x512, .f32⟩

abbrev hbmTy0_1 (i : Nat) : BufTy := match i % 128 with
  | 0 => ⟨S2x2x4x16x128x384, .f32⟩
  | 1 => ⟨S2x2x4x16x128x1, .f32⟩
  | 2 => ⟨S_, .f32⟩
  | 3 => ⟨S2x2x4x16x128x1, .f32⟩
  | 4 => ⟨S2x2x4x16x128x1, .f32⟩
  | 5 => ⟨S2x16x2x64x4x128, .f32⟩
  | 6 => ⟨S2x16x128x2x4x64, .f32⟩
  | 7 => ⟨S2x2048x512, .f32⟩
  | 8 => ⟨S2x16x128x2x4x64, .f32⟩
  | 9 => ⟨S2x16x2x64x4x128, .f32⟩
  | 10 => ⟨S2x16x2x4x128x384, .f32⟩
  | 11 => ⟨S2x2x4x16x128x384, .f32⟩
  | 12 => ⟨S2x16x2x64x384, .f32⟩
  | 13 => ⟨S2x16x384x2x64, .f32⟩
  | 14 => ⟨S2x2x4x16x128x384, .f32⟩
  | 15 => ⟨S2x2x4x16x128x384, .f32⟩
  | 16 => ⟨S2x2x4x16x128x384, .f32⟩
  | 17 => ⟨S_, .f32⟩
  | 18 => ⟨S2x2x4x16x128, .f32⟩
  | 19 => ⟨S2x2x4x16x128x1, .f32⟩
  | 20 => ⟨S2x2x4x16x128x1, .f32⟩
  | 21 => ⟨S2x2x4x16x128x384, .f32⟩
  | 22 => ⟨S2x2x4x16x128x384, .f32⟩
  | 23 => ⟨S_, .f32⟩
  | 24 => ⟨S2x2x4x16x128, .f32⟩
  | 25 => ⟨S2x2x4x16x128, .f32⟩
  | 26 => ⟨S_, .f32⟩
  | 27 => ⟨S2x4, .f32⟩
  | 28 => ⟨S1x2x4x1x1, .f32⟩
  | 29 => ⟨S2x2x4x16x128, .f32⟩
  | 30 => ⟨S2x2x4x16x128x384, .f32⟩
  | 31 => ⟨S2x2x4x16x128x384, .f32⟩
  | 32 => ⟨S2x2x4x16x128x384, .f32⟩
  | 33 => ⟨S2x2x4x16x128x384, .f32⟩
  | 34 => ⟨S_, .f32⟩
  | 35 => ⟨S2x2x4x16x128, .f32⟩
  | 36 => ⟨S2x2x4x16x128x1, .f32⟩
  | 37 => ⟨S_, .f32⟩
  | 38 => ⟨S2x2x4x16x128, .f32⟩
  | 39 => ⟨S2x2x4x16x128, .f32⟩
  | 40 => ⟨S2x2x4x16x128, .f32⟩
  | 41 => ⟨S_, .f32⟩
  | 42 => ⟨S2x4, .f32⟩
  | 43 => ⟨S1x2x4x1x1, .f32⟩
  | 44 => ⟨S1x2x4x1x1, .f32⟩
  | 45 => ⟨S2x2x4x16x128, .f32⟩
  | 46 => ⟨S2x2x4x16x128, .f32⟩
  | 47 => ⟨S2x2x4x16x128x384, .f32⟩
  | 48 => ⟨S2x2x4x16x128x384, .f32⟩
  | 49 => ⟨S2x2x4x16x128x384, .f32⟩
  | 50 => ⟨S8, .f32⟩
  | 51 => ⟨S_, .f32⟩
  | 52 => ⟨S2x2x4x16x128x384, .f32⟩
  | 53 => ⟨S2x2x4x16x128x384, .f32⟩
  | 54 => ⟨S_, .f32⟩
  | 55 => ⟨S2x2x4x16x128x384, .f32⟩
  | 56 => ⟨S2x2x4x16x128x384, .f32⟩
  | 57 => ⟨S2x2x16x384x128x4, .f32⟩
  | 58 => ⟨S2x2x16x128x4x64, .f32⟩
  | 59 => ⟨S2x16x128x2x4x64, .f32⟩
  | 60 => ⟨S2x2x16x384x64, .f32⟩
  | 61 => ⟨S2x16x384x2x64, .f32⟩
  | 62 => ⟨S2x16x128x2x64, .f32⟩
  | 63 => ⟨S2x16x128x2x64, .f32⟩
  | 64 => ⟨S2x16x128x2x64, .f32⟩
  | 65 => ⟨S_, .f32⟩
  | 66 => ⟨S2x18x128x2x64, .f32⟩
  | 67 => ⟨S_, .f32⟩
  | 68 => ⟨S2x18x128x2x64, .f32⟩
  | 69 => ⟨S2x18x128x2x64, .f32⟩
  | 70 => ⟨S_, .f32⟩
  | 71 => ⟨S2x18x128x2x64, .f32⟩
  | 72 => ⟨S2x18x128x2x64, .f32⟩
  | 73 => ⟨S2x2304x2x64, .f32⟩
  | 74 => ⟨S2x128x2x64, .f32⟩
  | 75 => ⟨S2x2048x2x64, .f32⟩
  | 76 => ⟨S2x128x2x64, .f32⟩
  | 77 => ⟨S2x16x128x2x64, .f32⟩
  | 78 => ⟨S2x16x128x2x64, .f32⟩
  | 79 => ⟨S2x16x128x2x64, .f32⟩
  | 80 => ⟨S_, .f32⟩
  | 81 => ⟨S2x18x128x2x64, .f32⟩
  | 82 => ⟨S_, .f32⟩
  | 83 => ⟨S2x18x128x2x64, .f32⟩
  | 84 => ⟨S2x18x128x2x64, .f32⟩
  | 85 => ⟨S_, .f32⟩
  | 86 => ⟨S2x18x128x2x64, .f32⟩
  | 87 => ⟨S2x18x128x2x64, .f32⟩
  | 88 => ⟨S2x2304x2x64, .f32⟩
  | 89 => ⟨S2x128x2x64, .f32⟩
  | 90 => ⟨S2x2048x2x64, .f32⟩
  | 91 => ⟨S2x128x2x64, .f32⟩
  | 92 => ⟨S2x2048x8x64, .f32⟩
  | 93 => ⟨S2x2048x128, .f32⟩
  | 94 => ⟨S2x2048x128, .f32⟩
  | 95 => ⟨S2x2048x512, .f32⟩
  | 96 => ⟨S_, .f32⟩
  | 97 => ⟨S2x2048x512, .f32⟩
  | 98 => ⟨S2x2048x512, .f32⟩
  | 99 => ⟨S2x2048x512, .bf16⟩
  | 100 => ⟨S2x2048x128, .bf16⟩
  | 101 => ⟨S2x2048x128, .bf16⟩
  | 102 => ⟨S8x1, .f32⟩
  | 103 => ⟨S8x128, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_v43 : Ref sig .tc := ⟨.hbm, 56, rfl⟩
abbrev main_v44 : Ref sig .tc := ⟨.hbm, 57, rfl⟩
abbrev main_c_6 : Ref sig .tc := ⟨.hbm, 58, rfl⟩
abbrev main_v45 : Ref sig .tc := ⟨.hbm, 59, rfl⟩
abbrev main_v46 : Ref sig .tc := ⟨.hbm, 60, rfl⟩
abbrev main_c_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_call0_v0 : Ref sig .tc := ⟨.hbm, 75, rfl⟩
abbrev main_v58_1 : Ref sig .tc := ⟨.hbm, 76, rfl⟩
abbrev main_call0_v2 : Ref sig .tc := ⟨.hbm, 77, rfl⟩
abbrev main_v58_0 : Ref sig .tc := ⟨.hbm, 78, rfl⟩
abbrev main_call0_cst : Ref sig .tc := ⟨.hbm, 79, rfl⟩
abbrev main_v58_2 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_18 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_19 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_20 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_21 : Ref sig .tc := ⟨.hbm, 151, rfl⟩
abbrev main_v118 : Ref sig .tc := ⟨.hbm, 152, rfl⟩
abbrev main_v119 : Ref sig .tc := ⟨.hbm, 153, rfl⟩
abbrev main_cst_22 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_23 : Ref sig .tc := ⟨.hbm, 162, rfl⟩
abbrev main_v127 : Ref sig .tc := ⟨.hbm, 163, rfl⟩
abbrev main_v128 : Ref sig .tc := ⟨.hbm, 164, rfl⟩
abbrev main_cst_24 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_25 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_call1_cst : Ref sig .tc := ⟨.hbm, 179, rfl⟩
abbrev main_call1_v0 : Ref sig .tc := ⟨.hbm, 180, rfl⟩
abbrev main_v141 : Ref sig .tc := ⟨.hbm, 181, rfl⟩
abbrev main_cst_26 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_27 : Ref sig .tc := ⟨.hbm, 193, rfl⟩
abbrev main_v152 : Ref sig .tc := ⟨.hbm, 194, rfl⟩
abbrev main_cst_28 : Ref sig .tc := ⟨.hbm, 195, rfl⟩
abbrev main_v153 : Ref sig .tc := ⟨.hbm, 196, rfl⟩
abbrev main_v154 : Ref sig .tc := ⟨.hbm, 197, rfl⟩
abbrev main_cst_29 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_cst_30 : Ref sig .tc := ⟨.hbm, 208, rfl⟩
abbrev main_v164 : Ref sig .tc := ⟨.hbm, 209, rfl⟩
abbrev main_cst_31 : Ref sig .tc := ⟨.hbm, 210, rfl⟩
abbrev main_v165 : Ref sig .tc := ⟨.hbm, 211, rfl⟩
abbrev main_v166 : Ref sig .tc := ⟨.hbm, 212, rfl⟩
abbrev main_cst_32 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_cst_33 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩

abbrev nD : Nat := 1
abbrev τ : Topo := Topo.v7x

variable {F : FTy → Type} [FloatOps F]
-- ==== Kernel2.lean ====
abbrev S4096x5632 : Shape := ⟨2, ![4096, 5632]⟩
abbrev S4096x1024 : Shape := ⟨2, ![4096, 1024]⟩
abbrev S5632x1024 : Shape := ⟨2, ![5632, 1024]⟩
abbrev S512x2816 : Shape := ⟨2, ![512, 2816]⟩
abbrev S512x1024 : Shape := ⟨2, ![512, 1024]⟩
abbrev S2816x1024 : Shape := ⟨2, ![2816, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2304 : Shape := ⟨2, ![4096, 2304]⟩
abbrev S4096x1024 : Shape := ⟨2, ![4096, 1024]⟩
abbrev S2304x1024 : Shape := ⟨2, ![2304, 1024]⟩
abbrev S512x2304 : Shape := ⟨2, ![512, 2304]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2304, .bf16⟩
  | .hbm, ⟨1, _⟩ => ⟨S4096x1024, .bf16⟩
  | .hbm, ⟨2, _⟩ => ⟨S2304x1024, .bf16⟩
  | .local _ .vmem, ⟨0, _⟩ => ⟨S512x2304, .bf16⟩
  | .local _ .vmem, ⟨1, _⟩ => ⟨S512x2304, .bf16⟩
  | .local _ .vmem, ⟨2, _⟩ => ⟨S512x1024, .bf16⟩
  | .local _ .vmem, ⟨3, _⟩ => ⟨S512x1024, .bf16⟩
  | .local _ .vmem, ⟨4, _⟩ => ⟨S2304x1024, .bf16⟩
  | .local _ .vmem, ⟨5, _⟩ => ⟨S2304x1024, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S4096x2304 : Shape := ⟨2, ![4096, 2304]⟩
abbrev S4096x1024 : Shape := ⟨2, ![4096, 1024]⟩
abbrev S_ : Shape := ⟨0, ![]⟩
abbrev S1024x2304 : Shape := ⟨2, ![1024, 2304]⟩
abbrev S2304x1024 : Shape := ⟨2, ![2304, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S4096x1024, .bf16⟩
  | .hbm, ⟨2, _⟩ => ⟨S_, .f32⟩
  | .hbm, ⟨3, _⟩ => ⟨S1024x2304, .f32⟩
  | .hbm, ⟨4, _⟩ => ⟨S4096x1024, .f32⟩
  | .hbm, ⟨5, _⟩ => ⟨S4096x2304, .f32⟩
  | .hbm, ⟨6, _⟩ => ⟨S4096x2304, .f32⟩
  | .hbm, ⟨7, _⟩ => ⟨S2304x1024, .f32⟩
  | .hbm, ⟨8, _⟩ => ⟨S1024x2304, .f32⟩
  | .hbm, ⟨9, _⟩ => ⟨S2304x1024, .f32⟩
  | .hbm, ⟨10, _⟩ => ⟨S2304x1024, .bf16⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S2x6x1024 : Shape := ⟨3, ![2, 6, 1024]⟩
abbrev S1x1024 : Shape := ⟨2, ![1, 1024]⟩
abbrev S5632x1024 : Shape := ⟨2, ![5632, 1024]⟩
abbrev S4096x2816 : Shape := ⟨2, ![4096, 2816]⟩
abbrev S512x1024 : Shape := ⟨2, ![512, 1024]⟩
abbrev S1x6x1024 : Shape := ⟨3, ![1, 6, 1024]⟩
abbrev S512x2816 : Shape := ⟨2, ![512, 2816]⟩
abbrev S512 : Shape := ⟨1, ![512]⟩
abbrev S512x1 : Shape := ⟨2, ![512, 1]⟩
abbrev S1x1x1024 : Shape := ⟨3, ![1, 1, 1024]⟩
abbrev S512x5632 : Shape := ⟨2, ![512, 5632]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2x6x1024, .f32⟩
  | .hbm, ⟨2, _⟩ => ⟨S1x1024, .f32⟩
  | .hbm, ⟨3, _⟩ => ⟨S5632x1024, .bf16⟩
  | .hbm, ⟨4, _⟩ => ⟨S4096x1024, .bf16⟩
  | .hbm, ⟨5, _⟩ => ⟨S4096x2816, .bf16⟩
  | .hbm, ⟨6, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S5632x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5632x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S4096x1024 : Shape := ⟨2, ![4096, 1024]⟩
abbrev S2x6x1024 : Shape := ⟨3, ![2, 6, 1024]⟩
abbrev S1x1024 : Shape := ⟨2, ![1, 1024]⟩
abbrev S5632x1024 : Shape := ⟨2, ![5632, 1024]⟩
abbrev S2x2048x1024 : Shape := ⟨3, ![2, 2048, 1024]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S2x2048x5632 : Shape := ⟨3, ![2, 2048, 5632]⟩
abbrev S2x2048x2816 : Shape := ⟨3, ![2, 2048, 2816]⟩
abbrev S4096x2816 : Shape := ⟨2, ![4096, 2816]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x6x1024, .f32⟩
  | .hbm, ⟨2, _⟩ => ⟨S1x1024, .f32⟩
  | .hbm, ⟨3, _⟩ => ⟨S5632x1024, .bf16⟩
  | .hbm, ⟨4, _⟩ => ⟨S2x2048x1024, .f32⟩
  | .hbm, ⟨5, _⟩ => ⟨S2x1x1024, .f32⟩
  | .hbm, ⟨6, _⟩ => ⟨S2x1x1024, .f32⟩
  | .hbm, ⟨7, _⟩ => ⟨S1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S5632x1024, .f32⟩
  | .hbm, ⟨32, _⟩ => ⟨S1024x5632, .f32⟩
  | .hbm, ⟨33, _⟩ => ⟨S2x2048x5632, .f32⟩
  | .hbm, ⟨34, _⟩ => ⟨S2x2048x2816, .f32⟩
  | .hbm, ⟨35, _⟩ => ⟨S2x2048x2816, .f32⟩
  | .hbm, ⟨36, _⟩ => ⟨S4096x1024, .f32⟩
  | .hbm, ⟨37, _⟩ => ⟨S4096x1024, .bf16⟩
  | .hbm, ⟨38, _⟩ => ⟨S4096x2816, .f32⟩
  | .hbm, ⟨39, _⟩ => ⟨S4096x2816, .bf16⟩
  | .hbm, ⟨40, _⟩ => ⟨S4096x2816, .f32⟩
  | .hbm, ⟨41, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Kernel7.lean ====
abbrev S4096x1024 : Shape := ⟨2, ![4096, 1024]⟩
abbrev S2816x1024 : Shape := ⟨2, ![2816, 1024]⟩
abbrev S4096x2816 : Shape := ⟨2, ![4096, 2816]⟩
abbrev S1x2816 : Shape := ⟨2, ![1, 2816]⟩
abbrev S_ : Shape := ⟨0, ![]⟩
abbrev S8x2816 : Shape := ⟨2, ![8, 2816]⟩
abbrev S512x1024 : Shape := ⟨2, ![512, 1024]⟩
abbrev S512x2816 : Shape := ⟨2, ![512, 2816]⟩
abbrev S2816 : Shape := ⟨1, ![2816]⟩

abbrev nBuf : Space → Nat
  | .hbm => 26
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .hbm, ⟨3, _⟩ => ⟨S1x2816, .f32⟩
  | .hbm, ⟨4, _⟩ => ⟨S4096x2816, .bf16⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .bf16⟩
  | .hbm, ⟨22, _⟩ => ⟨S4096x2816, .bf16⟩
  | .hbm, ⟨23, _⟩ => ⟨S4096x2816, .bf16⟩
  | .hbm, ⟨24, _⟩ => ⟨S4096x2816, .bf16⟩
  | .hbm, ⟨25, _⟩ => ⟨S8x2816, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S8x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S4096x1024 : Shape := ⟨2, ![4096, 1024]⟩
abbrev S2816x1024 : Shape := ⟨2, ![2816, 1024]⟩
abbrev S4096x2816 : Shape := ⟨2, ![4096, 2816]⟩
abbrev S1x2816 : Shape := ⟨2, ![1, 2816]⟩
abbrev S_ : Shape := ⟨0, ![]⟩
abbrev S2816 : Shape := ⟨1, ![2816]⟩
abbrev S7x2816 : Shape := ⟨2, ![7, 2816]⟩
abbrev S8x2816 : Shape := ⟨2, ![8, 2816]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .hbm, ⟨3, _⟩ => ⟨S1x2816, .f32⟩
  | .hbm, ⟨4, _⟩ => ⟨S4096x2816, .bf16⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S2816x1024, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S2816, .f32⟩
  | .hbm, ⟨34, _⟩ => ⟨S1x2816, .f32⟩
  | .hbm, ⟨35, _⟩ => ⟨S_, .f32⟩
  | .hbm, ⟨36, _⟩ => ⟨S7x2816, .f32⟩
  | .hbm, ⟨37, _⟩ => ⟨S8x2816, .f32⟩
  | .hbm, ⟨38, _⟩ => ⟨S4096x2816, .bf16⟩
  | .hbm, ⟨39, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩

abbrev nD : Nat := 1
abbrev τ : Topo := Topo.v7x

variable {F : FTy → Type} [FloatOps F]
-- ==== Kernel8.lean ====
abbrev S4096x1024 : Shape := ⟨2, ![4096, 1024]⟩
abbrev S2x6x1024 : Shape := ⟨3, ![2, 6, 1024]⟩
abbrev S1x1024 : Shape := ⟨2, ![1, 1024]⟩
abbrev S5632x1024 : Shape := ⟨2, ![5632, 1024]⟩
abbrev S3x2816 : Shape := ⟨2, ![3, 2816]⟩
abbrev S4096x2816 : Shape := ⟨2, ![4096, 2816]⟩
abbrev S2x1x1024 : Shape := ⟨3, ![2, 1, 1024]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2816x1024 : Shape := ⟨2, ![2816, 1024]⟩
abbrev S1024x2816 : Shape := ⟨2, ![1024, 2816]⟩
abbrev S2x2048x2816 : Shape := ⟨3, ![2, 2048, 2816]⟩
abbrev S4096x5632 : Shape := ⟨2, ![4096, 5632]⟩
abbrev S8x1024 : Shape := ⟨2, ![8, 1024]⟩
abbrev S2x8x1024 : Shape := ⟨3, ![2, 8, 1024]⟩
abbrev S8x2816 : Shape := ⟨2, ![8, 2816]⟩
abbrev S256x2816 : Shape := ⟨2, ![256, 2816]⟩
abbrev S256x1024 : Shape := ⟨2, ![256, 1024]⟩
abbrev S1x6x1024 : Shape := ⟨3, ![1, 6, 1024]⟩
abbrev S256x5632 : Shape := ⟨2, ![256, 5632]⟩
abbrev S1x8x1024 : Shape := ⟨3, ![1, 8, 1024]⟩
abbrev S1x2816 : Shape := ⟨2, ![1, 2816]⟩
abbrev S2816 : Shape := ⟨1, ![2816]⟩
abbrev S256 : Shape := ⟨1, ![256]⟩
abbrev S256x1 : Shape := ⟨2, ![256, 1]⟩

abbrev nBuf : Space → Nat
  | .hbm => 54
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x6x1024, .f32⟩
  | .hbm, ⟨3, _⟩ => ⟨S1x1024, .f32⟩
  | .hbm, ⟨4, _⟩ => ⟨S5632x1024, .bf16⟩
  | .hbm, ⟨5, _⟩ => ⟨S3x2816, .f32⟩
  | .hbm, ⟨6, _⟩ => ⟨S4096x2816, .bf16⟩
  | .hbm, ⟨7, _⟩ => ⟨S4096x2816, .bf16⟩
  | .hbm, ⟨8, _⟩ => ⟨S4096x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S1024, .f32⟩
  | .hbm, ⟨18, _⟩ => ⟨S2x2048x1024, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2816x1024, .bf16⟩
  | .hbm, ⟨42, _⟩ => ⟨S2816x1024, .f32⟩
  | .hbm, ⟨43, _⟩ => ⟨S1024x2816, .f32⟩
  | .hbm, ⟨44, _⟩ => ⟨S2x2048x2816, .f32⟩
  | .hbm, ⟨45, _⟩ => ⟨S4096x2816, .f32⟩
  | .hbm, ⟨46, _⟩ => ⟨S4096x2816, .bf16⟩
  | .hbm, ⟨47, _⟩ => ⟨S4096x1024, .f32⟩
  | .hbm, ⟨48, _⟩ => ⟨S4096x5632, .bf16⟩
  | .hbm, ⟨49, _⟩ => ⟨S4096x1024, .f32⟩
  | .hbm, ⟨50, _⟩ => ⟨S4096x1024, .bf16⟩
  | .hbm, ⟨51, _⟩ => ⟨S8x1024, .f32⟩
  | .hbm, ⟨52, _⟩ => ⟨S2x8x1024, .f32⟩
  | .hbm, ⟨53, _⟩ => ⟨S8x2816, .f32⟩
  | .local _ .vmem, ⟨0, _⟩ => ⟨S256x2816, .bf16⟩
  | .local _ .vmem, ⟨1, _⟩ => ⟨S256x2816, .bf16⟩
  | .local _ .vmem, ⟨2, _⟩ => ⟨S8x2816, .bf16⟩
  | .local _ .vmem, ⟨3, _⟩ => ⟨S8x2816, .bf16⟩
  | .local _ .vmem, ⟨4, _⟩ => ⟨S8x2816, .bf16⟩
  | .local _ .vmem, ⟨5, _⟩ => ⟨S8x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S3x2816, .f32⟩
  | .local _ .vmem, ⟨11, _⟩ => ⟨S5632x1024, .bf16⟩
  | .local _ .vmem, ⟨12, _⟩ => ⟨S256x1024, .f32⟩
  | .local _ .vmem, ⟨13, _⟩ => ⟨S256x1024, .f32⟩
  | .local _ .vmem, ⟨14, _⟩ => ⟨S1x6x1024, .f32⟩
  | .local _ .vmem, ⟨15, _⟩ => ⟨S1x6x1024, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x5632, .bf16⟩
  | .local _ .vmem, ⟨22, _⟩ => ⟨S256x5632, .bf16⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S8x1024, .f32⟩
  | .local _ .vmem, ⟨28, _⟩ => ⟨S1x8x1024, .f32⟩
  | .local _ .vmem, ⟨29, _⟩ => ⟨S1x8x1024, .f32⟩
  | .local _ .vmem, ⟨30, _⟩ => ⟨S8x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_v35_2 : Ref sig .tc := ⟨.hbm, 50, rfl⟩
abbrev main_v35_3 : Ref sig .tc := ⟨.hbm, 51, rfl⟩
abbrev main_v35_4 : Ref sig .tc := ⟨.hbm, 52, rfl⟩
abbrev main_v35_5 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem16_1 : DmaSem sig := 29
abbrev cc0_sem17_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5632x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference8Ideal.lean ====
abbrev S4096x1024 : Shape := ⟨2, ![4096, 1024]⟩
abbrev S2x6x1024 : Shape := ⟨3, ![2, 6, 1024]⟩
abbrev S1x1024 : Shape := ⟨2, ![1, 1024]⟩
abbrev S5632x1024 : Shape := ⟨2, ![5632, 1024]⟩
abbrev S3x2816 : Shape := ⟨2, ![3, 2816]⟩
abbrev S4096x2816 : Shape := ⟨2, ![4096, 2816]⟩
abbrev S2x1x1024 : Shape := ⟨3, ![2, 1, 1024]⟩
abbrev S_ : Shape := ⟨0, ![]⟩
abbrev S2x2048x5632 : Shape := ⟨3, ![2, 2048, 5632]⟩
abbrev S2x2048x1024 : Shape := ⟨3, ![2, 2048, 1024]⟩
abbrev S1024 : Shape := ⟨1, ![1024]⟩
abbrev S1x2816 : Shape := ⟨2, ![1, 2816]⟩
abbrev S2816 : Shape := ⟨1, ![2816]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S2x2048x2816 : Shape := ⟨3, ![2, 2048, 2816]⟩
abbrev S2x1x2816 : Shape := ⟨3, ![2, 1, 2816]⟩
abbrev S2x2050x2816 : Shape := ⟨3, ![2, 2050, 2816]⟩
abbrev S1x1x2816 : Shape := ⟨3, ![1, 1, 2816]⟩
abbrev S2x1024 : Shape := ⟨2, ![2, 1024]⟩
abbrev S7x1024 : Shape := ⟨2, ![7, 1024]⟩
abbrev S8x1024 : Shape := ⟨2, ![8, 1024]⟩
abbrev S2x5x1024 : Shape := ⟨3, ![2, 5, 1024]⟩
abbrev S2x8x1024 : Shape := ⟨3, ![2, 8, 1024]⟩
abbrev S4x2816 : Shape := ⟨2, ![4, 2816]⟩
abbrev S8x2816 : Shape := ⟨2, ![8, 2816]⟩
abbrev S4096x5632 : Shape := ⟨2, ![4096, 5632]⟩

abbrev nBuf : Space → Nat
  | .hbm => 184
  | .vmem => 0
  | .smem => 0
  | _ => 0

abbrev hbmTy0_0 (i : Nat) : BufTy := match i % 128 with
  | 0 => ⟨S4096x1024, .f32⟩
  | 1 => ⟨S4096x1024, .f32⟩
  | 2 => ⟨S2x6x1024, .f32⟩
  | 3 => ⟨S1x1024, .f32⟩
  | 4 => ⟨S5632x1024, .bf16⟩
  | 5 => ⟨S3x2816, .f32⟩
  | 6 => ⟨S4096x2816, .bf16⟩
  | 7 => ⟨S4096x2816, .bf16⟩
  | 8 => ⟨S4096x1024, .f32⟩
  | 9 => ⟨S2x1x1024, .f32⟩
  | 10 => ⟨S2x1x1024, .f32⟩
  | 11 => ⟨S2x1x1024, .f32⟩
  | 12 => ⟨S_, .f32⟩
  | 13 => ⟨S2x2048x5632, .f32⟩
  | 14 => ⟨S2x2048x1024, .f32⟩
  | 15 => ⟨S2x2048x1024, .f32⟩
  | 16 => ⟨S1024, .f32⟩
  | 17 => ⟨S1x2816, .f32⟩
  | 18 => ⟨S2816, .f32⟩
  | 19 => ⟨S1x2816, .f32⟩
  | 20 => ⟨S2816, .f32⟩
  | 21 => ⟨S1x2816, .f32⟩
  | 22 => ⟨S2816, .f32⟩
  | 23 => ⟨S2x2048x1024, .f32⟩
  | 24 => ⟨S2x2048x1024, .f32⟩
  | 25 => ⟨S2x2048x1024, .f32⟩
  | 26 => ⟨S2x2048x1024, .f32⟩
  | 27 => ⟨S_, .f32⟩
  | 28 => ⟨S2x2048, .f32⟩
  | 29 => ⟨S2x2048x1, .f32⟩
  | 30 => ⟨S_, .f32⟩
  | 31 => ⟨S2x2048x1, .f32⟩
  | 32 => ⟨S2x2048x1, .f32⟩
  | 33 => ⟨S_, .f32⟩
  | 34 => ⟨S2x2048x1, .f32⟩
  | 35 => ⟨S2x2048x1, .f32⟩
  | 36 => ⟨S2x2048x1, .f32⟩
  | 37 => ⟨S2x2048x1, .f32⟩
  | 38 => ⟨S_, .f32⟩
  | 39 => ⟨S2x2048x1, .f32⟩
  | 40 => ⟨S2x2048x1, .f32⟩
  | 41 => ⟨S2x2048x1024, .f32⟩
  | 42 => ⟨S2x2048x1024, .f32⟩
  | 43 => ⟨S1x1x1024, .f32⟩
  | 44 => ⟨S2x2048x1024, .f32⟩
  | 45 => ⟨S2x2048x1024, .f32⟩
  | 46 => ⟨S_, .f32⟩
  | 47 => ⟨S2x1x1024, .f32⟩
  | 48 => ⟨S2x1x1024, .f32⟩
  | 49 => ⟨S2x2048x1024, .f32⟩
  | 50 => ⟨S2x2048x1024, .f32⟩
  | 51 => ⟨S2x2048x1024, .f32⟩
  | 52 => ⟨S2x2048x1024, .f32⟩
  | 53 => ⟨S5632x1024, .f32⟩
  | 54 => ⟨S1024x5632, .f32⟩
  | 55 => ⟨S2x2048x5632, .f32⟩
  | 56 => ⟨S2x2048x5632, .f32⟩
  | 57 => ⟨S2x2048x2816, .f32⟩
  | 58 => ⟨S2x2048x2816, .f32⟩
  | 59 => ⟨S_, .f32⟩
  | 60 => ⟨S2x1x2816, .f32⟩
  | 61 => ⟨S2x2050x2816, .f32⟩
  | 62 => ⟨S_, .f32⟩
  | 63 => ⟨S2x1x2816, .f32⟩
  | 64 => ⟨S_, .f32⟩
  | 65 => ⟨S2x1x2816, .f32⟩
  | 66 => ⟨S2x2048x2816, .f32⟩
  | 67 => ⟨S1x1x2816, .f32⟩
  | 68 => ⟨S2x2048x2816, .f32⟩
  | 69 => ⟨S2x2048x2816, .f32⟩
  | 70 => ⟨S2x2048x2816, .f32⟩
  | 71 => ⟨S1x1x2816, .f32⟩
  | 72 => ⟨S2x2048x2816, .f32⟩
  | 73 => ⟨S2x2048x2816, .f32⟩
  | 74 => ⟨S2x2048x2816, .f32⟩
  | 75 => ⟨S2x2048x2816, .f32⟩
  | 76 => ⟨S1x1x2816, .f32⟩
  | 77 => ⟨S2x2048x2816, .f32⟩
  | 78 => ⟨S2x2048x2816, .f32⟩
  | 79 => ⟨S2x2048x2816, .f32⟩
  | 80 => ⟨S2x2048x2816, .bf16⟩
  | 81 => ⟨S2x2048x2816, .f32⟩
  | 82 => ⟨S2x2048x2816, .bf16⟩
  | 83 => ⟨S2x2048x2816, .f32⟩
  | 84 => ⟨S2x2048x1024, .f32⟩
  | 85 => ⟨S2x2048x2816, .f32⟩
  | 86 => ⟨S_, .f32⟩
  | 87 => ⟨S2816, .f32⟩
  | 88 => ⟨S1x1x2816, .f32⟩
  | 89 => ⟨S2x2048x2816, .f32⟩
  | 90 => ⟨S2x2048x2816, .f32⟩
  | 91 => ⟨S_, .f32⟩
  | 92 => ⟨S2816, .f32⟩
  | 93 => ⟨S_, .f32⟩
  | 94 => ⟨S2x2050x2816, .f32⟩
  | 95 => ⟨S2x2048x2816, .f32⟩
  | 96 => ⟨S_, .f32⟩
  | 97 => ⟨S2816, .f32⟩
  | 98 => ⟨S1x1x2816, .f32⟩
  | 99 => ⟨S2x2048x2816, .f32⟩
  | 100 => ⟨S2x2048x2816, .f32⟩
  | 101 => ⟨S_, .f32⟩
  | 102 => ⟨S2816, .f32⟩
  | 103 => ⟨S_, .f32⟩
  | 104 => ⟨S2x2050x2816, .f32⟩
  | 105 => ⟨S2x2050x2816, .f32⟩
  | 106 => ⟨S2x2048x2816, .f32⟩
  | 107 => ⟨S_, .f32⟩
  | 108 => ⟨S2816, .f32⟩
  | 109 => ⟨S1x1x2816, .f32⟩
  | 110 => ⟨S2x2048x2816, .f32⟩
  | 111 => ⟨S2x2048x2816, .f32⟩
  | 112 => ⟨S_, .f32⟩
  | 113 => ⟨S2816, .f32⟩
  | 114 => ⟨S_, .f32⟩
  | 115 => ⟨S2x2050x2816, .f32⟩
  | 116 => ⟨S2x2050x2816, .f32⟩
  | 117 => ⟨S2x1x2816, .f32⟩
  | 118 => ⟨S2x2048x2816, .f32⟩
  | 119 => ⟨S2x1x2816, .f32⟩
  | 120 => ⟨S2x2048x5632, .f32⟩
  | 121 => ⟨S2x2048x1024, .f32⟩
  | 122 => ⟨S_, .f32⟩
  | 123 => ⟨S2x1024, .f32⟩
  | 124 => ⟨S2x1x1024, .f32⟩
  | 125 => ⟨S2x2048x1024, .f32⟩
  | 126 => ⟨S_, .f32⟩
  | 127 => ⟨S2x1024, .f32⟩
  | _ => ⟨S4096x1024, .f32⟩

abbrev hbmTy0_1 (i : Nat) : BufTy := match i % 128 with
  | 0 => ⟨S2x1x1024, .f32⟩
  | 1 => ⟨S2x2048x1024, .f32⟩
  | 2 => ⟨S2x2048x1024, .f32⟩
  | 3 => ⟨S2x2048x1024, .f32⟩
  | 4 => ⟨S_, .f32⟩
  | 5 => ⟨S1024, .f32⟩
  | 6 => ⟨S1x1x1024, .f32⟩
  | 7 => ⟨S2x2048x1024, .f32⟩
  | 8 => ⟨S2x2048x1024, .f32⟩
  | 9 => ⟨S_, .f32⟩
  | 10 => ⟨S1024, .f32⟩
  | 11 => ⟨S2x2048x1024, .f32⟩
  | 12 => ⟨S_, .f32⟩
  | 13 => ⟨S2x2048, .f32⟩
  | 14 => ⟨S2x2048x1, .f32⟩
  | 15 => ⟨S2x2048x1024, .f32⟩
  | 16 => ⟨S2x2048x1024, .f32⟩
  | 17 => ⟨S2x2048x1024, .f32⟩
  | 18 => ⟨S2x2048x1, .f32⟩
  | 19 => ⟨S_, .f32⟩
  | 20 => ⟨S2x2048x1, .f32⟩
  | 21 => ⟨S2x2048x1, .f32⟩
  | 22 => ⟨S_, .f32⟩
  | 23 => ⟨S2x2048, .f32⟩
  | 24 => ⟨S2x2048x1024, .f32⟩
  | 25 => ⟨S2x2048x1024, .f32⟩
  | 26 => ⟨S2x2048x1024, .f32⟩
  | 27 => ⟨S2x2048x1024, .f32⟩
  | 28 => ⟨S2x2048x1024, .f32⟩
  | 29 => ⟨S2x2048x1024, .f32⟩
  | 30 => ⟨S2x2048x1024, .f32⟩
  | 31 => ⟨S2x2048x1024, .f32⟩
  | 32 => ⟨S_, .f32⟩
  | 33 => ⟨S2x1024, .f32⟩
  | 34 => ⟨S2x1x1024, .f32⟩
  | 35 => ⟨S1x1024, .f32⟩
  | 36 => ⟨S_, .f32⟩
  | 37 => ⟨S7x1024, .f32⟩
  | 38 => ⟨S8x1024, .f32⟩
  | 39 => ⟨S_, .f32⟩
  | 40 => ⟨S2x5x1024, .f32⟩
  | 41 => ⟨S2x8x1024, .f32⟩
  | 42 => ⟨S_, .f32⟩
  | 43 => ⟨S1x2816, .f32⟩
  | 44 => ⟨S1x2816, .f32⟩
  | 45 => ⟨S1x2816, .f32⟩
  | 46 => ⟨S1x2816, .f32⟩
  | 47 => ⟨S3x2816, .f32⟩
  | 48 => ⟨S_, .f32⟩
  | 49 => ⟨S4x2816, .f32⟩
  | 50 => ⟨S8x2816, .f32⟩
  | 51 => ⟨S4096x5632, .f32⟩
  | 52 => ⟨S4096x5632, .bf16⟩
  | 53 => ⟨S4096x1024, .f32⟩
  | 54 => ⟨S4096x1024, .f32⟩
  | 55 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_cst_13 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_15 : Ref sig .tc := ⟨.hbm, 112, rfl⟩
abbrev main_v87 : Ref sig .tc := ⟨.hbm, 113, rfl⟩
abbrev main_cst_16 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_17 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_18 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_19 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_20 : Ref sig .tc := ⟨.hbm, 137, rfl⟩
abbrev main_v107 : Ref sig .tc := ⟨.hbm, 138, rfl⟩
abbrev main_v108 : Ref sig .tc := ⟨.hbm, 139, rfl⟩
abbrev main_cst_21 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_22 : Ref sig .tc := ⟨.hbm, 147, rfl⟩
abbrev main_v115 : Ref sig .tc := ⟨.hbm, 148, rfl⟩
abbrev main_v116 : Ref sig .tc := ⟨.hbm, 149, rfl⟩
abbrev main_cst_23 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_24 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_25 : Ref sig .tc := ⟨.hbm, 164, rfl⟩
abbrev main_v129 : Ref sig .tc := ⟨.hbm, 165, rfl⟩
abbrev main_v130 : Ref sig .tc := ⟨.hbm, 166, rfl⟩
abbrev main_cst_26 : Ref sig .tc := ⟨.hbm, 167, rfl⟩
abbrev main_v131 : Ref sig .tc := ⟨.hbm, 168, rfl⟩
abbrev main_v132 : Ref sig .tc := ⟨.hbm, 169, rfl⟩
abbrev main_cst_27 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_28 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S8x512 : Shape := ⟨2, ![8, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S1x512, .f32⟩
  | .hbm, ⟨6, _⟩ => ⟨S4096x512, .bf16⟩
  | .hbm, ⟨7, _⟩ => ⟨S4096x512, .bf16⟩
  | .hbm, ⟨8, _⟩ => ⟨S8x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S8x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S6x512 : Shape := ⟨2, ![6, 512]⟩
abbrev S8x512 : Shape := ⟨2, ![8, 512]⟩

abbrev nBuf : Space → Nat
  | .hbm => 112
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S1x512, .f32⟩
  | .hbm, ⟨6, _⟩ => ⟨S512, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S512, .f32⟩
  | .hbm, ⟨28, _⟩ => ⟨S4096x512, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x512, .f32⟩
  | .hbm, ⟨44, _⟩ => ⟨S4096x512, .f32⟩
  | .hbm, ⟨45, _⟩ => ⟨S1x512, .f32⟩
  | .hbm, ⟨46, _⟩ => ⟨S4096x512, .f32⟩
  | .hbm, ⟨47, _⟩ => ⟨S4096x512, .f32⟩
  | .hbm, ⟨48, _⟩ => ⟨S4096x1024, .f32⟩
  | .hbm, ⟨49, _⟩ => ⟨S1024x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S4096x512, .f32⟩
  | .hbm, ⟨60, _⟩ => ⟨S4096x512, .f32⟩
  | .hbm, ⟨61, _⟩ => ⟨S_, .f32⟩
  | .hbm, ⟨62, _⟩ => ⟨S512, .f32⟩
  | .hbm, ⟨63, _⟩ => ⟨S4096x512, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x512, .f32⟩
  | .hbm, ⟨68, _⟩ => ⟨S4096x512, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S1x512, .f32⟩
  | .hbm, ⟨81, _⟩ => ⟨S4096x512, .f32⟩
  | .hbm, ⟨82, _⟩ => ⟨S_, .f32⟩
  | .hbm, ⟨83, _⟩ => ⟨S512, .f32⟩
  | .hbm, ⟨84, _⟩ => ⟨S1x512, .f32⟩
  | .hbm, ⟨85, _⟩ => ⟨S4096x512, .f32⟩
  | .hbm, ⟨86, _⟩ => ⟨S4096x512, .f32⟩
  | .hbm, ⟨87, _⟩ => ⟨S_, .f32⟩
  | .hbm, ⟨88, _⟩ => ⟨S512, .f32⟩
  | .hbm, ⟨89, _⟩ => ⟨S4096x512, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x512, .f32⟩
  | .hbm, ⟨94, _⟩ => ⟨S4096x512, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x512, .f32⟩
  | .hbm, ⟨102, _⟩ => ⟨S4096x512, .f32⟩
  | .hbm, ⟨103, _⟩ => ⟨S4096x512, .f32⟩
  | .hbm, ⟨104, _⟩ => ⟨S4096x512, .f32⟩
  | .hbm, ⟨105, _⟩ => ⟨S4096x512, .f32⟩
  | .hbm, ⟨106, _⟩ => ⟨S1x512, .f32⟩
  | .hbm, ⟨107, _⟩ => ⟨S_, .f32⟩
  | .hbm, ⟨108, _⟩ => ⟨S6x512, .f32⟩
  | .hbm, ⟨109, _⟩ => ⟨S8x512, .f32⟩
  | .hbm, ⟨110, _⟩ => ⟨S4096x512, .bf16⟩
  | .hbm, ⟨111, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_13 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_17 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]
-- ==== Kernel10.lean ====
abbrev S4096x512 : Shape := ⟨2, ![4096, 512]⟩
abbrev S4096x1024 : Shape := ⟨2, ![4096, 1024]⟩
abbrev S2x6x1024 : Shape := ⟨3, ![2, 6, 1024]⟩
abbrev S1x512 : Shape := ⟨2, ![1, 512]⟩
abbrev S1024x1024 : Shape := ⟨2, ![1024, 1024]⟩
abbrev S512x512 : Shape := ⟨2, ![512, 512]⟩
abbrev S512x1024 : Shape := ⟨2, ![512, 1024]⟩
abbrev S1x6x1024 : Shape := ⟨3, ![1, 6, 1024]⟩
abbrev S512 : Shape := ⟨1, ![512]⟩
abbrev S512x1 : Shape := ⟨2, ![512, 1]⟩
abbrev S1x1x1024 : Shape := ⟨3, ![1, 1, 1024]⟩
abbrev S1x1024 : Shape := ⟨2, ![1, 1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S2x6x1024, .f32⟩
  | .hbm, ⟨4, _⟩ => ⟨S1x512, .f32⟩
  | .hbm, ⟨5, _⟩ => ⟨S1x512, .f32⟩
  | .hbm, ⟨6, _⟩ => ⟨S1024x1024, .bf16⟩
  | .hbm, ⟨7, _⟩ => ⟨S4096x1024, .bf16⟩
  | .hbm, ⟨8, _⟩ => ⟨S4096x1024, .f32⟩
  | .hbm, ⟨9, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S4096x512 : Shape := ⟨2, ![4096, 512]⟩
abbrev S4096x1024 : Shape := ⟨2, ![4096, 1024]⟩
abbrev S2x6x1024 : Shape := ⟨3, ![2, 6, 1024]⟩
abbrev S1x512 : Shape := ⟨2, ![1, 512]⟩
abbrev S1024x1024 : Shape := ⟨2, ![1024, 1024]⟩
abbrev S2x2048x512 : Shape := ⟨3, ![2, 2048, 512]⟩
abbrev S512 : Shape := ⟨1, ![512]⟩
abbrev S_ : Shape := ⟨0, ![]⟩
abbrev S2x2048 : Shape := ⟨2, ![2, 2048]⟩
abbrev S2x2048x1 : Shape := ⟨3, ![2, 2048, 1]⟩
abbrev S1x1x512 : Shape := ⟨3, ![1, 1, 512]⟩
abbrev S2x2048x1024 : Shape := ⟨3, ![2, 2048, 1024]⟩
abbrev S2x1x1024 : Shape := ⟨3, ![2, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S2x6x1024, .f32⟩
  | .hbm, ⟨4, _⟩ => ⟨S1x512, .f32⟩
  | .hbm, ⟨5, _⟩ => ⟨S1x512, .f32⟩
  | .hbm, ⟨6, _⟩ => ⟨S1024x1024, .bf16⟩
  | .hbm, ⟨7, _⟩ => ⟨S2x2048x512, .f32⟩
  | .hbm, ⟨8, _⟩ => ⟨S512, .f32⟩
  | .hbm, ⟨9, _⟩ => ⟨S2x2048x512, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x512, .f32⟩
  | .hbm, ⟨21, _⟩ => ⟨S2x2048x512, .f32⟩
  | .hbm, ⟨22, _⟩ => ⟨S1x1x512, .f32⟩
  | .hbm, ⟨23, _⟩ => ⟨S2x2048x512, .f32⟩
  | .hbm, ⟨24, _⟩ => ⟨S2x2048x512, .f32⟩
  | .hbm, ⟨25, _⟩ => ⟨S2x2048x512, .f32⟩
  | .hbm, ⟨26, _⟩ => ⟨S512, .f32⟩
  | .hbm, ⟨27, _⟩ => ⟨S2x2048x512, .f32⟩
  | .hbm, ⟨28, _⟩ => ⟨S_, .f32⟩
  | .hbm, ⟨29, _⟩ => ⟨S2x2048, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S2x2048x1, .f32⟩
  | .hbm, ⟨38, _⟩ => ⟨S2x2048x512, .f32⟩
  | .hbm, ⟨39, _⟩ => ⟨S2x2048x512, .f32⟩
  | .hbm, ⟨40, _⟩ => ⟨S1x1x512, .f32⟩
  | .hbm, ⟨41, _⟩ => ⟨S2x2048x512, .f32⟩
  | .hbm, ⟨42, _⟩ => ⟨S2x2048x512, .f32⟩
  | .hbm, ⟨43, _⟩ => ⟨S2x2048x1024, .f32⟩
  | .hbm, ⟨44, _⟩ => ⟨S1024x1024, .f32⟩
  | .hbm, ⟨45, _⟩ => ⟨S2x2048x1024, .f32⟩
  | .hbm, ⟨46, _⟩ => ⟨S2x2048x1024, .f32⟩
  | .hbm, ⟨47, _⟩ => ⟨S2x1x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S4096x1024, .f32⟩
  | .hbm, ⟨52, _⟩ => ⟨S4096x1024, .bf16⟩
  | .hbm, ⟨53, _⟩ => ⟨S4096x1024, .f32⟩
  | .hbm, ⟨54, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel11.lean ====
abbrev S4096x1024 : Shape := ⟨2, ![4096, 1024]⟩
abbrev S2x6x1024 : Shape := ⟨3, ![2, 6, 1024]⟩
abbrev S1x1024 : Shape := ⟨2, ![1, 1024]⟩
abbrev S2304x1024 : Shape := ⟨2, ![2304, 1024]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4096x2304 : Shape := ⟨2, ![4096, 2304]⟩
abbrev S512x1024 : Shape := ⟨2, ![512, 1024]⟩
abbrev S1x6x1024 : Shape := ⟨3, ![1, 6, 1024]⟩
abbrev S512x128 : Shape := ⟨2, ![512, 128]⟩
abbrev S512x2304 : Shape := ⟨2, ![512, 2304]⟩
abbrev S512 : Shape := ⟨1, ![512]⟩
abbrev S512x1 : Shape := ⟨2, ![512, 1]⟩
abbrev S1x1x1024 : Shape := ⟨3, ![1, 1, 1024]⟩
abbrev S512x640 : Shape := ⟨2, ![512, 640]⟩
abbrev S512x512 : Shape := ⟨2, ![512, 512]⟩

abbrev nBuf : Space → Nat
  | .hbm => 17
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S2x6x1024, .f32⟩
  | .hbm, ⟨2, _⟩ => ⟨S1x1024, .f32⟩
  | .hbm, ⟨3, _⟩ => ⟨S2304x1024, .bf16⟩
  | .hbm, ⟨4, _⟩ => ⟨S2048x32, .f32⟩
  | .hbm, ⟨5, _⟩ => ⟨S2048x32, .f32⟩
  | .hbm, ⟨6, _⟩ => ⟨S2048x64, .f32⟩
  | .hbm, ⟨7, _⟩ => ⟨S1x2048x1x64, .f32⟩
  | .hbm, ⟨8, _⟩ => ⟨S1x2048x2x64, .f32⟩
  | .hbm, ⟨9, _⟩ => ⟨S2048x128, .f32⟩
  | .hbm, ⟨10, _⟩ => ⟨S2048x32, .f32⟩
  | .hbm, ⟨11, _⟩ => ⟨S2048x64, .f32⟩
  | .hbm, ⟨12, _⟩ => ⟨S1x2048x1x64, .f32⟩
  | .hbm, ⟨13, _⟩ => ⟨S1x2048x2x64, .f32⟩
  | .hbm, ⟨14, _⟩ => ⟨S2048x128, .f32⟩
  | .hbm, ⟨15, _⟩ => ⟨S4096x1024, .bf16⟩
  | .hbm, ⟨16, _⟩ => ⟨S4096x2304, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S2304x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x2304, .bf16⟩
  | .local _ .vmem, ⟨13, _⟩ => ⟨S512x2304, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2304 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S4096x1024 : Shape := ⟨2, ![4096, 1024]⟩
abbrev S2x6x1024 : Shape := ⟨3, ![2, 6, 1024]⟩
abbrev S1x1024 : Shape := ⟨2, ![1, 1024]⟩
abbrev S2304x1024 : Shape := ⟨2, ![2304, 1024]⟩
abbrev S2048x32 : Shape := ⟨2, ![2048, 32]⟩
abbrev S2x1x1024 : Shape := ⟨3, ![2, 1, 1024]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2304 : Shape := ⟨2, ![1024, 2304]⟩
abbrev S2x2048x2304 : Shape := ⟨3, ![2, 2048, 2304]⟩
abbrev S2x2048x512 : Shape := ⟨3, ![2, 2048, 512]⟩
abbrev S2x2048x640 : Shape := ⟨3, ![2, 2048, 640]⟩
abbrev S2x2048x128 : Shape := ⟨3, ![2, 2048, 128]⟩
abbrev S2x2048x10x64 : Shape := ⟨4, ![2, 2048, 10, 64]⟩
abbrev S1x2048x1x32 : Shape := ⟨4, ![1, 2048, 1, 32]⟩
abbrev S2x2048x10x32 : Shape := ⟨4, ![2, 2048, 10, 32]⟩
abbrev S4096x2304 : Shape := ⟨2, ![4096, 2304]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x6x1024, .f32⟩
  | .hbm, ⟨2, _⟩ => ⟨S1x1024, .f32⟩
  | .hbm, ⟨3, _⟩ => ⟨S2304x1024, .bf16⟩
  | .hbm, ⟨4, _⟩ => ⟨S2048x32, .f32⟩
  | .hbm, ⟨5, _⟩ => ⟨S2048x32, .f32⟩
  | .hbm, ⟨6, _⟩ => ⟨S2x1x1024, .f32⟩
  | .hbm, ⟨7, _⟩ => ⟨S2x1x1024, .f32⟩
  | .hbm, ⟨8, _⟩ => ⟨S2x2048x1024, .f32⟩
  | .hbm, ⟨9, _⟩ => ⟨S1024, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2304x1024, .f32⟩
  | .hbm, ⟨34, _⟩ => ⟨S1024x2304, .f32⟩
  | .hbm, ⟨35, _⟩ => ⟨S2x2048x2304, .f32⟩
  | .hbm, ⟨36, _⟩ => ⟨S2x2048x512, .f32⟩
  | .hbm, ⟨37, _⟩ => ⟨S2x2048x512, .f32⟩
  | .hbm, ⟨38, _⟩ => ⟨S2x2048x512, .f32⟩
  | .hbm, ⟨39, _⟩ => ⟨S2x2048x640, .f32⟩
  | .hbm, ⟨40, _⟩ => ⟨S2x2048x128, .f32⟩
  | .hbm, ⟨41, _⟩ => ⟨S2x2048x10x64, .f32⟩
  | .hbm, ⟨42, _⟩ => ⟨S1x2048x1x32, .f32⟩
  | .hbm, ⟨43, _⟩ => ⟨S1x2048x1x32, .f32⟩
  | .hbm, ⟨44, _⟩ => ⟨S2x2048x10x32, .f32⟩
  | .hbm, ⟨45, _⟩ => ⟨S2x2048x10x32, .f32⟩
  | .hbm, ⟨46, _⟩ => ⟨S2x2048x10x32, .f32⟩
  | .hbm, ⟨47, _⟩ => ⟨S2x2048x10x32, .f32⟩
  | .hbm, ⟨48, _⟩ => ⟨S2x2048x10x32, .f32⟩
  | .hbm, ⟨49, _⟩ => ⟨S2x2048x10x32, .f32⟩
  | .hbm, ⟨50, _⟩ => ⟨S2x2048x10x32, .f32⟩
  | .hbm, ⟨51, _⟩ => ⟨S2x2048x10x32, .f32⟩
  | .hbm, ⟨52, _⟩ => ⟨S2x2048x10x32, .f32⟩
  | .hbm, ⟨53, _⟩ => ⟨S2x2048x10x32, .f32⟩
  | .hbm, ⟨54, _⟩ => ⟨S2x2048x10x32, .f32⟩
  | .hbm, ⟨55, _⟩ => ⟨S2x2048x10x32, .f32⟩
  | .hbm, ⟨56, _⟩ => ⟨S2x2048x10x64, .f32⟩
  | .hbm, ⟨57, _⟩ => ⟨S2x2048x640, .f32⟩
  | .hbm, ⟨58, _⟩ => ⟨S2x2048x512, .f32⟩
  | .hbm, ⟨59, _⟩ => ⟨S2x2048x128, .f32⟩
  | .hbm, ⟨60, _⟩ => ⟨S_, .f32⟩
  | .hbm, ⟨61, _⟩ => ⟨S2x2048x512, .f32⟩
  | .hbm, ⟨62, _⟩ => ⟨S2x2048x512, .f32⟩
  | .hbm, ⟨63, _⟩ => ⟨S_, .f32⟩
  | .hbm, ⟨64, _⟩ => ⟨S2x2048x512, .f32⟩
  | .hbm, ⟨65, _⟩ => ⟨S2x2048x512, .f32⟩
  | .hbm, ⟨66, _⟩ => ⟨S2x2048x2304, .f32⟩
  | .hbm, ⟨67, _⟩ => ⟨S4096x1024, .f32⟩
  | .hbm, ⟨68, _⟩ => ⟨S4096x1024, .bf16⟩
  | .hbm, ⟨69, _⟩ => ⟨S4096x2304, .f32⟩
  | .hbm, ⟨70, _⟩ => ⟨S4096x2304, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_3 : Ref sig .tc := ⟨.hbm, 60, rfl⟩
abbrev main_v50 : Ref sig .tc := ⟨.hbm, 61, rfl⟩
abbrev main_v51 : Ref sig .tc := ⟨.hbm, 62, rfl⟩
abbrev main_cst_4 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩

abbrev nD : Nat := 1
abbrev τ : Topo := Topo.v7x

variable {F : FTy → Type} [FloatOps F]
-- ==== Proof.Trip.lean ====
/-
  One trip of the kernel's loop over query blocks, as a function of vectors: what the trip adds to each of the four
  buffers it writes, in terms of the block of keys, of values, of queries and of output gradients that it reads.
-/
module

public import proofs.«01_k».proof.Proof.Gen.KernelIdeal.Frame
public import proofs.«01_k».proof.Proof.Gen.KernelIdeal.Loops
public import Idealize.ShloMosaic.Lib.VecWindow
public import Idealize.ShloMosaic.Lib.ValueIdx

@[expose] public section

set_option maxRecDepth 16384

noncomputable section

namespace Cert.KernelIdeal.Trip

open Cert.KernelIdeal Cert.KernelIdeal.Gen Idealize.ShloMosaic Idealize.ShloMosaic.TcCoe Idealize.SL.Sem

variable {F : FTy → Type} [FloatOps F] [Named F]

/-! ## The operands of a trip -/

/-- The mask of the trip: which key rows of the block lie within the window of which query. -/
def okOf (k : Fin k0_t1_loop.trips) : IVec S384x128 1 := k0_pay10 0#32 1#32 k

/-- The sink of the head in half `e` of pair `p`. -/
def skOf (x : Vec F S8 .f32) : Fin 4 → Fin 2 → Elt F .f32 :=
  ![![VecWindow.window x ![0] S1.size inb_S8_S1_0 (Shape.Idx.first (by decide)), VecWindow.window x ![1] S1.size inb_S8_S1_1 (Shape.Idx.first (by decide))],
    ![VecWindow.window x ![2] S1.size inb_S8_S1_2 (Shape.Idx.first (by decide)), VecWindow.window x ![3] S1.size inb_S8_S1_3 (Shape.Idx.first (by decide))],
    ![VecWindow.window x ![4] S1.size inb_S8_S1_4 (Shape.Idx.first (by decide)), VecWindow.window x ![5] S1.size inb_S8_S1_5 (Shape.Idx.first (by decide))],
    ![VecWindow.window x ![6] S1.size inb_S8_S1_6 (Shape.Idx.first (by decide)), VecWindow.window x ![7] S1.size inb_S8_S1_7 (Shape.Idx.first (by decide))]]

/-- The 384 rows of keys (or values) of the trip. -/
def keysOf (k : Fin k0_t1_loop.trips) (x : Vec F S1x2048x128 .bf16) : Vec F S1x384x128 .bf16 :=
  VecWindow.window x (k0_off1 k) S1x384x128.size (k0_off1_inb k)

/-- The 128 rows of queries (or output gradients) of the trip, for the pair `p` of heads. -/
def rowsOf (k : Fin k0_t1_loop.trips) (x : Vec F S1x2048x512 .bf16) : Fin 4 → Vec F S1x128x128 .bf16 :=
  ![VecWindow.window x (k0_off2 k) S1x128x128.size (k0_off2_inb k), VecWindow.window x (k0_off3 k) S1x128x128.size (k0_off3_inb k),
    VecWindow.window x (k0_off4 k) S1x128x128.size (k0_off4_inb k), VecWindow.window x (k0_off5 k) S1x128x128.size (k0_off5_inb k)]

/-- The keys of KV head `kv` moved into lane half `e`, the other half zero. -/
def half (kv e : Fin 2) (x : Vec F S1x384x128 .bf16) : FVec F S384x128 .bf16 :=
  ![![k0_pay15 x, k0_pay16 x], ![k0_pay17 x, k0_pay18 x]] kv e

/-- The KV head of a pair of query heads. -/
def kvOf : Fin 4 → Fin 2 := ![0, 0, 1, 1]

/-- The products of the keys (values) of a head with the queries (output gradients): keys down, queries across. -/
def score (p : Fin 4) (e : Fin 2) (K : Vec F S1x384x128 .bf16) (Q : Fin 4 → Vec F S1x128x128 .bf16) : FVec F S384x128 .f32 :=
  k0_pay35 (half (kvOf p) e K) (Q p)

section Pay
variable (ok : IVec S384x128 1) (sk : Fin 4 → Fin 2 → Elt F .f32) (K V : Vec F S1x384x128 .bf16) (Q D : Fin 4 → Vec F S1x128x128 .bf16)

/-- The attention weights of a head. -/
def pn (p : Fin 4) (e : Fin 2) : FVec F S384x128 .bf16 := k0_pay59 ok (score p e K Q) (sk p e)

/-- The gradient of the scores of a head. -/
def ds (p : Fin 4) (e : Fin 2) : FVec F S384x128 .bf16 := k0_pay58 ok (score p e K Q) (score p e V D) (sk p e)

/-- The row of the sinks' gradient of a head, added to what was there. -/
def sinkRow (p : Fin 4) (e : Fin 2) (prev : Vec F S1x128 .f32) : FVec F S1x128 .f32 :=
  k0_pay60 ok (score p e K Q) (score p e V D) (sk p e) prev

/-- The gradient of the queries of a pair of heads. -/
def dqPair (p : Fin 4) : FVec F S128x128 .f32 :=
  addf (matmul dot_S384x128_S384x128_S128x128_0_0_1_1_n_n none (ds ok sk K V Q D p 0) (half (kvOf p) 0 K) (constant S128x128 .f32 0x00000000#32))
    (matmul dot_S384x128_S384x128_S128x128_0_0_1_1_n_n none (ds ok sk K V Q D p 1) (half (kvOf p) 1 K) (constant S128x128 .f32 0x00000000#32))

/-- The gradient of the trip's queries. -/
def dqAll : FVec F S1x128x512 .bf16 :=
  k0_pay136 (truncf .bf16 (concatenate S128x512 1 [⟨S128x128, dqPair ok sk K V Q D 0⟩, ⟨S128x128, dqPair ok sk K V Q D 1⟩,
    ⟨S128x128, dqPair ok sk K V Q D 2⟩, ⟨S128x128, dqPair ok sk K V Q D 3⟩] concatenates_S128x128_S128x128_S128x128_S128x128_S128x512_d1) bitsLt_bf16_f32)

/-- Weights times rows of a pair of heads, each lane half from its own head. -/
def pairSum (w : Fin 4 → Fin 2 → FVec F S384x128 .bf16) (R : Fin 4 → Vec F S1x128x128 .bf16) (p : Fin 4) : FVec F S384x128 .f32 :=
  select k0_pay137
    (matmul dot_S384x128_S128x128_S384x128_1_0_0_1_n_n none (w p 0) (k0_pay27 (R p)) (constant S384x128 .f32 0x00000000#32))
    (matmul dot_S384x128_S128x128_S384x128_1_0_0_1_n_n none (w p 1) (k0_pay27 (R p)) (constant S384x128 .f32 0x00000000#32))

/-- What a trip adds to an accumulator: for each KV head the sum over its two pairs. -/
def accAdd (w : Fin 4 → Fin 2 → FVec F S384x128 .bf16) (R : Fin 4 → Vec F S1x128x128 .bf16) : FVec F S384x256 .f32 :=
  concatenate S384x256 1 [⟨S384x128, addf (pairSum w R 0) (pairSum w R 1)⟩, ⟨S384x128, addf (pairSum w R 2) (pairSum w R 3)⟩] concatenates_S384x128_S384x128_S384x256_d1

end Pay

/-! ## The trip read -/

section Read
variable (𝒱 : Variants) (c : Dev nD) (bd : Option 𝒱.V) (i : grid0.Coords)
variable (arg1 : Memref sig .tc .smem S8 .f32) (harg1 : arg1.IsWhole)
variable (arg2 : Memref sig .tc .vmem S1x2048x512 .bf16) (harg2 : arg2.IsWhole)
variable (arg3 : Memref sig .tc .vmem S1x2048x128 .bf16) (harg3 : arg3.IsWhole)
variable (arg4 : Memref sig .tc .vmem S1x2048x128 .bf16) (harg4 : arg4.IsWhole)
variable (arg5 : Memref sig .tc .vmem S1x2048x512 .bf16) (harg5 : arg5.IsWhole)
variable (arg6 : Memref sig .tc .vmem S1x2048x512 .bf16) (harg6 : arg6.IsWhole)
variable (arg7 : Memref sig .tc .vmem S1x2048x128 .bf16) (harg7 : arg7.IsWhole)
variable (arg8 : Memref sig .tc .vmem S1x2048x128 .bf16) (harg8 : arg8.IsWhole)
variable (arg9 : Memref sig .tc .vmem S8x128 .f32) (harg9 : arg9.IsWhole)
variable (arg10 : Memref sig .tc .vmem S2048x256 .f32) (harg10 : arg10.IsWhole)
variable (arg11 : Memref sig .tc .vmem S2048x256 .f32) (harg11 : arg11.IsWhole)
variable (X1 : BufTy.Contents (Elt F) arg1.view.ty)
variable (X2 : BufTy.Contents (Elt F) arg2.view.ty)
variable (X3 : BufTy.Contents (Elt F) arg3.view.ty)
variable (X4 : BufTy.Contents (Elt F) arg4.view.ty)
variable (X5 : BufTy.Contents (Elt F) arg5.view.ty)
variable (k : Fin k0_t1_loop.trips) (f6 : BufTy.Contents (Elt F) arg6.view.ty) (f9 : BufTy.Contents (Elt F) arg9.view.ty)
  (f10 : BufTy.Contents (Elt F) arg10.view.ty) (f11 : BufTy.Contents (Elt F) arg11.view.ty)

/-- The queries' gradient after a trip: the trip's rows put over what was there. -/
theorem read6 : arg6.view.read (Elt F) (arg6.view.writes (Elt F) f6 (tripL_k0_t1 (F := F) 𝒱 c bd i arg1 harg1 arg2 harg2 arg3 harg3 arg4 harg4 arg5 harg5 arg6 harg6 arg7 harg7 arg8 harg8 arg9 harg9 arg10 harg10 arg11 harg11 X1 X2 X3 X4 X5 k f6 f9 f10 f11).1)
    = VecWindow.put (arg6.view.read (Elt F) f6) (k0_off6 k) S1x128x512.size (dqAll (okOf k) (skOf (arg1.view.read (Elt F) X1)) (keysOf k (arg3.view.read (Elt F) X3)) (keysOf k (arg4.view.read (Elt F) X4)) (rowsOf k (arg2.view.read (Elt F) X2)) (rowsOf k (arg5.view.read (Elt F) X5))) := by
  unfold tripL_k0_t1 trip_k0_t1
  dsimp only
  rw [View.read_writes_cons_put (h := rfl), View.writes_nil]
  rfl

/-- The keys' accumulator after a trip: the trip's rows have the trip's sums added. -/
theorem read10 : arg10.view.read (Elt F) (arg10.view.writes (Elt F) f10 (tripL_k0_t1 (F := F) 𝒱 c bd i arg1 harg1 arg2 harg2 arg3 harg3 arg4 harg4 arg5 harg5 arg6 harg6 arg7 harg7 arg8 harg8 arg9 harg9 arg10 harg10 arg11 harg11 X1 X2 X3 X4 X5 k f6 f9 f10 f11).2.2.1)
    = VecWindow.put (arg10.view.read (Elt F) f10) (k0_off7 k) S384x256.size
        (k0_pay4 (addf (VecWindow.window (arg10.view.read (Elt F) f10) (k0_off7 k) S384x256.size (k0_off7_inb k))
          (accAdd (ds (okOf k) (skOf (arg1.view.read (Elt F) X1)) (keysOf k (arg3.view.read (Elt F) X3)) (keysOf k (arg4.view.read (Elt F) X4)) (rowsOf k (arg2.view.read (Elt F) X2)) (rowsOf k (arg5.view.read (Elt F) X5))) (rowsOf k (arg2.view.read (Elt F) X2))))) := by
  unfold tripL_k0_t1 trip_k0_t1
  dsimp only
  rw [View.read_writes_cons_put (h := rfl), View.writes_nil]
  rfl

/-- The values' accumulator after a trip: the trip's rows have the trip's sums added. -/
theorem read11 : arg11.view.read (Elt F) (arg11.view.writes (Elt F) f11 (tripL_k0_t1 (F := F) 𝒱 c bd i arg1 harg1 arg2 harg2 arg3 harg3 arg4 harg4 arg5 harg5 arg6 harg6 arg7 harg7 arg8 harg8 arg9 harg9 arg10 harg10 arg11 harg11 X1 X2 X3 X4 X5 k f6 f9 f10 f11).2.2.2)
    = VecWindow.put (arg11.view.read (Elt F) f11) (k0_off7 k) S384x256.size
        (k0_pay4 (addf (VecWindow.window (arg11.view.read (Elt F) f11) (k0_off7 k) S384x256.size (k0_off7_inb k))
          (accAdd (pn (okOf k) (skOf (arg1.view.read (Elt F) X1)) (keysOf k (arg3.view.read (Elt F) X3)) (rowsOf k (arg2.view.read (Elt F) X2))) (rowsOf k (arg5.view.read (Elt F) X5))))) := by
  unfold tripL_k0_t1 trip_k0_t1
  dsimp only
  rw [View.read_writes_cons_put (h := rfl), View.writes_nil]
  rfl

/-- The sinks' gradient after a trip: eight rows put, one per head. -/
theorem read9 : arg9.view.read (Elt F) (arg9.view.writes (Elt F) f9 (tripL_k0_t1 (F := F) 𝒱 c bd i arg1 harg1 arg2 harg2 arg3 harg3 arg4 harg4 arg5 harg5 arg6 harg6 arg7 harg7 arg8 harg8 arg9 harg9 arg10 harg10 arg11 harg11 X1 X2 X3 X4 X5 k f6 f9 f10 f11).2.1)
    = (let x := arg9.view.read (Elt F) f9
       let R := sinkRow (okOf k) (skOf (arg1.view.read (Elt F) X1)) (keysOf k (arg3.view.read (Elt F) X3)) (keysOf k (arg4.view.read (Elt F) X4)) (rowsOf k (arg2.view.read (Elt F) X2)) (rowsOf k (arg5.view.read (Elt F) X5))
       (VecWindow.put (VecWindow.put (VecWindow.put (VecWindow.put (VecWindow.put (VecWindow.put (VecWindow.put (VecWindow.put x ![0, 0] S1x128.size (R 0 0 (VecWindow.window x ![0, 0] S1x128.size inb_S8x128_S1x128_0_0))) ![1, 0] S1x128.size (R 0 1 (VecWindow.window x ![1, 0] S1x128.size inb_S8x128_S1x128_1_0))) ![2, 0] S1x128.size (R 1 0 (VecWindow.window x ![2, 0] S1x128.size inb_S8x128_S1x128_2_0))) ![3, 0] S1x128.size (R 1 1 (VecWindow.window x ![3, 0] S1x128.size inb_S8x128_S1x128_3_0))) ![4, 0] S1x128.size (R 2 0 (VecWindow.window x ![4, 0] S1x128.size inb_S8x128_S1x128_4_0))) ![5, 0] S1x128.size (R 2 1 (VecWindow.window x ![5, 0] S1x128.size inb_S8x128_S1x128_5_0))) ![6, 0] S1x128.size (R 3 0 (VecWindow.window x ![6, 0] S1x128.size inb_S8x128_S1x128_6_0))) ![7, 0] S1x128.size (R 3 1 (VecWindow.window x ![7, 0] S1x128.size inb_S8x128_S1x128_7_0)))) := by
  unfold tripL_k0_t1 trip_k0_t1
  dsimp only
  rw [View.read_writes_cons_put (h := rfl), View.read_writes_cons_put (h := rfl), View.read_writes_cons_put (h := rfl), View.read_writes_cons_put (h := rfl),
    View.read_writes_cons_put (h := rfl), View.read_writes_cons_put (h := rfl), View.read_writes_cons_put (h := rfl), View.read_writes_cons_put (h := rfl), View.writes_nil]
  rfl

end Read

end Cert.KernelIdeal.Trip

end

end
-- ==== Proof.Windows.lean ====
/-
  Windows of rows read and put, at an index: the plain arithmetic of the rectangles the kernel loads and stores.
-/
module

public import Idealize.ShloMosaic.Lib.VecWindow
public import Idealize.ShloMosaic.Lib.ValueIdx

@[expose] public section

noncomputable section

namespace Cert.KernelIdeal.Windows

open Idealize.ShloMosaic Idealize.ShloMosaic.ValueIdx

variable {α : Type}

/-- Rows put into a block with a leading unit axis, read at an index. -/
theorem put3 {N M R o : ℕ} (x : (⟨3, ![1, N, M]⟩ : Shape).Idx → α) (w : (⟨3, ![1, R, M]⟩ : Shape).Idx → α)
    (a : Fin 1) (r : Fin N) (l : Fin M) :
    VecWindow.put x ![0, o, 0] ![1, R, M] w (ix3 a r l)
      = if h : o ≤ r.val ∧ r.val < o + R then w (ix3 0 ⟨r.val - o, by omega⟩ l) else x (ix3 a r l) := by
  unfold VecWindow.put
  by_cases h : o ≤ r.val ∧ r.val < o + R
  · have h' : ∀ d : Fin 3, (![0, o, 0] : Fin 3 → ℕ) d ≤ ((ix3 a r l : (⟨3, ![1, N, M]⟩ : Shape).Idx) d).val
        ∧ ((ix3 a r l : (⟨3, ![1, N, M]⟩ : Shape).Idx) d).val < (![0, o, 0] : Fin 3 → ℕ) d + (![1, R, M] : Fin 3 → ℕ) d := fun d =>
      match d with
      | ⟨0, _⟩ => ⟨Nat.zero_le _, by show a.val < 0 + 1; omega⟩
      | ⟨1, _⟩ => h
      | ⟨2, _⟩ => ⟨Nat.zero_le _, by show l.val < 0 + M; omega⟩
    rw [dif_pos h', dif_pos h]
    refine congrArg w (funext fun d => Fin.ext ?_)
    match d with
    | ⟨0, _⟩ => show a.val - 0 = 0; omega
    | ⟨1, _⟩ => rfl
    | ⟨2, _⟩ => rfl
  · have h' : ¬ ∀ d : Fin 3, (![0, o, 0] : Fin 3 → ℕ) d ≤ ((ix3 a r l : (⟨3, ![1, N, M]⟩ : Shape).Idx) d).val
        ∧ ((ix3 a r l : (⟨3, ![1, N, M]⟩ : Shape).Idx) d).val < (![0, o, 0] : Fin 3 → ℕ) d + (![1, R, M] : Fin 3 → ℕ) d :=
      fun hh => h (show o ≤ r.val ∧ r.val < o + R from hh 1)
    rw [dif_neg h', dif_neg h]

/-- Rows put into a matrix, read at an index. -/
theorem put2 {N M R o : ℕ} (x : (⟨2, ![N, M]⟩ : Shape).Idx → α) (w : (⟨2, ![R, M]⟩ : Shape).Idx → α) (r : Fin N) (l : Fin M) :
    VecWindow.put x ![o, 0] ![R, M] w (ix2 r l)
      = if h : o ≤ r.val ∧ r.val < o + R then w (ix2 ⟨r.val - o, by omega⟩ l) else x (ix2 r l) := by
  unfold VecWindow.put
  by_cases h : o ≤ r.val ∧ r.val < o + R
  · have h' : ∀ d : Fin 2, (![o, 0] : Fin 2 → ℕ) d ≤ ((ix2 r l : (⟨2, ![N, M]⟩ : Shape).Idx) d).val
        ∧ ((ix2 r l : (⟨2, ![N, M]⟩ : Shape).Idx) d).val < (![o, 0] : Fin 2 → ℕ) d + (![R, M] : Fin 2 → ℕ) d := fun d =>
      match d with
      | ⟨0, _⟩ => h
      | ⟨1, _⟩ => ⟨Nat.zero_le _, by show l.val < 0 + M; omega⟩
    rw [dif_pos h', dif_pos h]
    refine congrArg w (funext fun d => Fin.ext ?_)
    match d with
    | ⟨0, _⟩ => rfl
    | ⟨1, _⟩ => rfl
  · have h' : ¬ ∀ d : Fin 2, (![o, 0] : Fin 2 → ℕ) d ≤ ((ix2 r l : (⟨2, ![N, M]⟩ : Shape).Idx) d).val
        ∧ ((ix2 r l : (⟨2, ![N, M]⟩ : Shape).Idx) d).val < (![o, 0] : Fin 2 → ℕ) d + (![R, M] : Fin 2 → ℕ) d :=
      fun hh => h (show o ≤ r.val ∧ r.val < o + R from hh 0)
    rw [dif_neg h', dif_neg h]

/-- A window of rows and lanes of a block with a leading unit axis, read at an index. -/
theorem window3 {N M R C o c : ℕ} (x : (⟨3, ![1, N, M]⟩ : Shape).Idx → α)
    (inb : ∀ d : Fin 3, (![0, o, c] : Fin 3 → ℕ) d + (![1, R, C] : Fin 3 → ℕ) d ≤ (![1, N, M] : Fin 3 → ℕ) d)
    (a : Fin 1) (r : Fin R) (l : Fin C) :
    VecWindow.window x ![0, o, c] ![1, R, C] inb (ix3 a r l)
      = x (ix3 0 ⟨o + r.val, by have : o + R ≤ N := inb 1; omega⟩ ⟨c + l.val, by have : c + C ≤ M := inb 2; omega⟩) := by
  refine congrArg x (funext fun d => Fin.ext ?_)
  match d with
  | ⟨0, _⟩ => show 0 + 1 * a.val = 0; omega
  | ⟨1, _⟩ => show o + 1 * r.val = o + r.val; omega
  | ⟨2, _⟩ => show c + 1 * l.val = c + l.val; omega

/-- A window of rows and lanes of a matrix, read at an index. -/
theorem window2 {N M R C o c : ℕ} (x : (⟨2, ![N, M]⟩ : Shape).Idx → α)
    (inb : ∀ d : Fin 2, (![o, c] : Fin 2 → ℕ) d + (![R, C] : Fin 2 → ℕ) d ≤ (![N, M] : Fin 2 → ℕ) d)
    (r : Fin R) (l : Fin C) :
    VecWindow.window x ![o, c] ![R, C] inb (ix2 r l)
      = x (ix2 ⟨o + r.val, by have : o + R ≤ N := inb 0; omega⟩ ⟨c + l.val, by have : c + C ≤ M := inb 1; omega⟩) := by
  refine congrArg x (funext fun d => Fin.ext ?_)
  match d with
  | ⟨0, _⟩ => show o + 1 * r.val = o + r.val; omega
  | ⟨1, _⟩ => show c + 1 * l.val = c + l.val; omega

end Cert.KernelIdeal.Windows

end

end
-- ==== Proof.Loop.lean ====
/-
  The kernel's two loops as functions of vectors: what each buffer holds after the loop over query blocks and after
  the loop that folds the two lane halves of the accumulators together.
-/
module

public import proofs.«01_k».proof.Proof.Trip
public import proofs.«01_k».proof.Proof.Windows

@[expose] public section

set_option maxRecDepth 16384

noncomputable section

namespace Cert.KernelIdeal.Trip

open Cert.KernelIdeal Cert.KernelIdeal.Gen Idealize.ShloMosaic Idealize.ShloMosaic.TcCoe Idealize.ShloMosaic.ValueIdx Idealize.SL.Sem

variable {F : FTy → Type} [FloatOps F] [Named F]

/-! ## The offsets in closed form -/

theorem trips1 : k0_t1_loop.trips = 16 := by decide +kernel
theorem trips2 : k0_t2_loop.trips = 8 := by decide +kernel
/-- The first key row of block `n`. -/
def start (n : ℕ) : ℕ := min 1664 (128 * n - 128)
theorem off1_eq : ∀ k : Fin k0_t1_loop.trips, k0_off1 k = ![0, start k.val, 0] := by decide +kernel
theorem off2_eq : ∀ k : Fin k0_t1_loop.trips, k0_off2 k = ![0, 128 * k.val, 0] := by decide +kernel
theorem off3_eq : ∀ k : Fin k0_t1_loop.trips, k0_off3 k = ![0, 128 * k.val, 128] := by decide +kernel
theorem off4_eq : ∀ k : Fin k0_t1_loop.trips, k0_off4 k = ![0, 128 * k.val, 256] := by decide +kernel
theorem off5_eq : ∀ k : Fin k0_t1_loop.trips, k0_off5 k = ![0, 128 * k.val, 384] := by decide +kernel
theorem off6_eq : ∀ k : Fin k0_t1_loop.trips, k0_off6 k = ![0, 128 * k.val, 0] := by decide +kernel
theorem off7_eq : ∀ k : Fin k0_t1_loop.trips, k0_off7 k = ![start k.val, 0] := by decide +kernel
theorem off8_eq : ∀ k : Fin k0_t2_loop.trips, k0_off8 k = ![256 * k.val, 0] := by decide +kernel
theorem off9_eq : ∀ k : Fin k0_t2_loop.trips, k0_off9 k = ![256 * k.val, 128] := by decide +kernel
theorem off10_eq : ∀ k : Fin k0_t2_loop.trips, k0_off10 k = ![0, 256 * k.val, 0] := by decide +kernel

/-! ## What the loops leave -/

section Fold
variable (x0 : Vec F S8 .f32) (x1 : Vec F S1x2048x512 .bf16) (x2 x3 : Vec F S1x2048x128 .bf16) (x4 : Vec F S1x2048x512 .bf16)

/-- The rows of the queries' gradient a trip writes. -/
def dqRows (k : Fin k0_t1_loop.trips) : FVec F S1x128x512 .bf16 :=
  dqAll (okOf k) (skOf x0) (keysOf k x2) (keysOf k x3) (rowsOf k x1) (rowsOf k x4)

/-- The queries' gradient: block `n` of 128 rows is trip `n`'s. -/
def dqBlk : Vec F S1x2048x512 .bf16 := fun y =>
  dqRows x0 x1 x2 x3 x4 ⟨(y 1).val / 128, by have : (y 1).val < 2048 := (y 1).isLt; rw [trips1]; omega⟩ (ix3 0 ⟨(y 1).val % 128, Nat.mod_lt _ (by decide)⟩ (y 2))

/-- What trip `k` adds to the keys' accumulator. -/
def dkAdd (k : Fin k0_t1_loop.trips) : FVec F S384x256 .f32 :=
  accAdd (ds (okOf k) (skOf x0) (keysOf k x2) (keysOf k x3) (rowsOf k x1) (rowsOf k x4)) (rowsOf k x1)

/-- What trip `k` adds to the values' accumulator. -/
def dvAdd (k : Fin k0_t1_loop.trips) : FVec F S384x256 .f32 :=
  accAdd (pn (okOf k) (skOf x0) (keysOf k x2) (rowsOf k x1)) (rowsOf k x4)

/-- An accumulator after the first `n` trips, each adding `add k` at its rows. -/
def accFold (add : Fin k0_t1_loop.trips → FVec F S384x256 .f32) (a : Vec F S2048x256 .f32) : ℕ → Vec F S2048x256 .f32
  | 0 => a
  | n + 1 => if h : n < k0_t1_loop.trips then
      VecWindow.put (accFold add a n) (k0_off7 ⟨n, h⟩) S384x256.size
        (k0_pay4 (addf (VecWindow.window (accFold add a n) (k0_off7 ⟨n, h⟩) S384x256.size (k0_off7_inb ⟨n, h⟩)) (add ⟨n, h⟩)))
    else accFold add a n

/-- Eight rows put over `x`, one per head: trip `k`'s step of the sinks' gradient. -/
def sinkStep (k : Fin k0_t1_loop.trips) (x : Vec F S8x128 .f32) : Vec F S8x128 .f32 :=
  let R := sinkRow (okOf k) (skOf x0) (keysOf k x2) (keysOf k x3) (rowsOf k x1) (rowsOf k x4)
  (VecWindow.put (VecWindow.put (VecWindow.put (VecWindow.put (VecWindow.put (VecWindow.put (VecWindow.put (VecWindow.put x ![0, 0] S1x128.size (R 0 0 (VecWindow.window x ![0, 0] S1x128.size inb_S8x128_S1x128_0_0))) ![1, 0] S1x128.size (R 0 1 (VecWindow.window x ![1, 0] S1x128.size inb_S8x128_S1x128_1_0))) ![2, 0] S1x128.size (R 1 0 (VecWindow.window x ![2, 0] S1x128.size inb_S8x128_S1x128_2_0))) ![3, 0] S1x128.size (R 1 1 (VecWindow.window x ![3, 0] S1x128.size inb_S8x128_S1x128_3_0))) ![4, 0] S1x128.size (R 2 0 (VecWindow.window x ![4, 0] S1x128.size inb_S8x128_S1x128_4_0))) ![5, 0] S1x128.size (R 2 1 (VecWindow.window x ![5, 0] S1x128.size inb_S8x128_S1x128_5_0))) ![6, 0] S1x128.size (R 3 0 (VecWindow.window x ![6, 0] S1x128.size inb_S8x128_S1x128_6_0))) ![7, 0] S1x128.size (R 3 1 (VecWindow.window x ![7, 0] S1x128.size inb_S8x128_S1x128_7_0)))

/-- The sinks' gradient after the first `n` trips. -/
def sinkFold (a : Vec F S8x128 .f32) : ℕ → Vec F S8x128 .f32
  | 0 => a
  | n + 1 => if h : n < k0_t1_loop.trips then sinkStep x0 x1 x2 x3 x4 ⟨n, h⟩ (sinkFold a n) else sinkFold a n

end Fold

/-- The folded rows a trip of the second loop writes, of an accumulator. -/
def foldRows (acc : Vec F S2048x256 .f32) (k : Fin k0_t2_loop.trips) : FVec F S1x256x128 .bf16 :=
  k0_pay7 (VecWindow.window acc (k0_off8 k) S256x128.size (k0_off8_inb k)) (VecWindow.window acc (k0_off9 k) S256x128.size (k0_off9_inb k))

/-- An accumulator folded: block `n` of 256 rows is trip `n`'s. -/
def foldBlk (acc : Vec F S2048x256 .f32) : Vec F S1x2048x128 .bf16 := fun y =>
  foldRows acc ⟨(y 1).val / 256, by have : (y 1).val < 2048 := (y 1).isLt; rw [trips2]; omega⟩ (ix3 0 ⟨(y 1).val % 256, Nat.mod_lt _ (by decide)⟩ (y 2))

/-! ## The first loop -/

section Loop1
variable (𝒱 : Variants) (c : Dev nD) (bd : Option 𝒱.V) (i : grid0.Coords)
variable (arg1 : Memref sig .tc .smem S8 .f32) (harg1 : arg1.IsWhole)
variable (arg2 : Memref sig .tc .vmem S1x2048x512 .bf16) (harg2 : arg2.IsWhole)
variable (arg3 : Memref sig .tc .vmem S1x2048x128 .bf16) (harg3 : arg3.IsWhole)
variable (arg4 : Memref sig .tc .vmem S1x2048x128 .bf16) (harg4 : arg4.IsWhole)
variable (arg5 : Memref sig .tc .vmem S1x2048x512 .bf16) (harg5 : arg5.IsWhole)
variable (arg6 : Memref sig .tc .vmem S1x2048x512 .bf16) (harg6 : arg6.IsWhole)
variable (arg7 : Memref sig .tc .vmem S1x2048x128 .bf16) (harg7 : arg7.IsWhole)
variable (arg8 : Memref sig .tc .vmem S1x2048x128 .bf16) (harg8 : arg8.IsWhole)
variable (arg9 : Memref sig .tc .vmem S8x128 .f32) (harg9 : arg9.IsWhole)
variable (arg10 : Memref sig .tc .vmem S2048x256 .f32) (harg10 : arg10.IsWhole)
variable (arg11 : Memref sig .tc .vmem S2048x256 .f32) (harg11 : arg11.IsWhole)
variable (X1 : BufTy.Contents (Elt F) arg1.view.ty)
variable (X2 : BufTy.Contents (Elt F) arg2.view.ty)
variable (X3 : BufTy.Contents (Elt F) arg3.view.ty)
variable (X4 : BufTy.Contents (Elt F) arg4.view.ty)
variable (X5 : BufTy.Contents (Elt F) arg5.view.ty)
variable (G6 : BufTy.Contents (Elt F) arg6.view.ty) (G9 : BufTy.Contents (Elt F) arg9.view.ty)
  (G10 : BufTy.Contents (Elt F) arg10.view.ty) (G11 : BufTy.Contents (Elt F) arg11.view.ty)

/-- The buffers after the first `n` trips. -/
theorem loop1 (n : ℕ) (hn : n ≤ 16) :
    (∀ y : S1x2048x512.Idx, (y 1).val < 128 * n → arg6.view.read (Elt F) (arg6.view.writes (Elt F) G6 (pb_k0_t1 (F := F) 𝒱 c bd i arg1 harg1 arg2 harg2 arg3 harg3 arg4 harg4 arg5 harg5 arg6 harg6 arg7 harg7 arg8 harg8 arg9 harg9 arg10 harg10 arg11 harg11 X1 X2 X3 X4 X5 G6 G9 G10 G11 n).1) y = dqBlk (arg1.view.read (Elt F) X1) (arg2.view.read (Elt F) X2) (arg3.view.read (Elt F) X3) (arg4.view.read (Elt F) X4) (arg5.view.read (Elt F) X5) y)
    ∧ arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 arg10 harg10 arg11 harg11 X1 X2 X3 X4 X5 G6 G9 G10 G11 n).2.1) = sinkFold (arg1.view.read (Elt F) X1) (arg2.view.read (Elt F) X2) (arg3.view.read (Elt F) X3) (arg4.view.read (Elt F) X4) (arg5.view.read (Elt F) X5) (arg9.view.read (Elt F) G9) n
    ∧ arg10.view.read (Elt F) (arg10.view.writes (Elt F) G10 (pb_k0_t1 (F := F) 𝒱 c bd i arg1 harg1 arg2 harg2 arg3 harg3 arg4 harg4 arg5 harg5 arg6 harg6 arg7 harg7 arg8 harg8 arg9 harg9 arg10 harg10 arg11 harg11 X1 X2 X3 X4 X5 G6 G9 G10 G11 n).2.2.1) = accFold (dkAdd (arg1.view.read (Elt F) X1) (arg2.view.read (Elt F) X2) (arg3.view.read (Elt F) X3) (arg4.view.read (Elt F) X4) (arg5.view.read (Elt F) X5)) (arg10.view.read (Elt F) G10) n
    ∧ arg11.view.read (Elt F) (arg11.view.writes (Elt F) G11 (pb_k0_t1 (F := F) 𝒱 c bd i arg1 harg1 arg2 harg2 arg3 harg3 arg4 harg4 arg5 harg5 arg6 harg6 arg7 harg7 arg8 harg8 arg9 harg9 arg10 harg10 arg11 harg11 X1 X2 X3 X4 X5 G6 G9 G10 G11 n).2.2.2) = accFold (dvAdd (arg1.view.read (Elt F) X1) (arg2.view.read (Elt F) X2) (arg3.view.read (Elt F) X3) (arg5.view.read (Elt F) X5)) (arg11.view.read (Elt F) G11) n := by
  induction n with
  | zero => exact ⟨fun y hy => absurd hy (by omega), rfl, rfl, rfl⟩
  | succ n ih =>
    obtain ⟨i6, i9, i10, i11⟩ := ih (by omega)
    have hk : n < k0_t1_loop.trips := by rw [trips1]; omega
    have e := pb_k0_t1_succ (F := F) 𝒱 c bd i arg1 harg1 arg2 harg2 arg3 harg3 arg4 harg4 arg5 harg5 arg6 harg6 arg7 harg7 arg8 harg8 arg9 harg9 arg10 harg10 arg11 harg11 X1 X2 X3 X4 X5 G6 G9 G10 G11 ⟨n, hk⟩
    refine ⟨fun y hy => ?_, ?_, ?_, ?_⟩
    · rw [show pb_k0_t1 (F := F) 𝒱 c bd i arg1 harg1 arg2 harg2 arg3 harg3 arg4 harg4 arg5 harg5 arg6 harg6 arg7 harg7 arg8 harg8 arg9 harg9 arg10 harg10 arg11 harg11 X1 X2 X3 X4 X5 G6 G9 G10 G11 (n + 1) = _ from e]
      dsimp only
      rw [View.writes_append, read6]
      obtain ⟨a, r, l, rfl⟩ : ∃ a r l, y = ix3 a r l := ⟨_, _, _, eq_ix3 y⟩
      have hr : r.val < 128 * (n + 1) := hy
      rw [off6_eq]
      refine (Windows.put3 _ _ a r l).trans ?_
      by_cases hc : 128 * n ≤ r.val
      · rw [dif_pos ⟨hc, by show r.val < 128 * n + 128; omega⟩]
        have e1 : (⟨n, hk⟩ : Fin k0_t1_loop.trips) = ⟨r.val / 128, by rw [trips1]; omega⟩ := Fin.ext (by show n = r.val / 128; omega)
        have e2 : (⟨r.val - 128 * n, by omega⟩ : Fin 128) = ⟨r.val % 128, Nat.mod_lt _ (by decide)⟩ := Fin.ext (by show r.val - 128 * n = r.val % 128; omega)
        show dqRows (arg1.view.read (Elt F) X1) (arg2.view.read (Elt F) X2) (arg3.view.read (Elt F) X3) (arg4.view.read (Elt F) X4) (arg5.view.read (Elt F) X5) ⟨n, hk⟩ (ix3 0 ⟨r.val - 128 * n, _⟩ l) = dqRows (arg1.view.read (Elt F) X1) (arg2.view.read (Elt F) X2) (arg3.view.read (Elt F) X3) (arg4.view.read (Elt F) X4) (arg5.view.read (Elt F) X5) ⟨r.val / 128, _⟩ (ix3 0 ⟨r.val % 128, _⟩ l)
        exact congrArg₂ (fun z w => dqRows (arg1.view.read (Elt F) X1) (arg2.view.read (Elt F) X2) (arg3.view.read (Elt F) X3) (arg4.view.read (Elt F) X4) (arg5.view.read (Elt F) X5) z (ix3 0 w l)) e1 e2
      · rw [dif_neg fun h => hc h.1]
        exact i6 (ix3 a r l) (by show r.val < 128 * n; omega)
    · rw [show pb_k0_t1 (F := F) 𝒱 c bd i arg1 harg1 arg2 harg2 arg3 harg3 arg4 harg4 arg5 harg5 arg6 harg6 arg7 harg7 arg8 harg8 arg9 harg9 arg10 harg10 arg11 harg11 X1 X2 X3 X4 X5 G6 G9 G10 G11 (n + 1) = _ from e]
      dsimp only
      rw [View.writes_append, read9, i9, sinkFold, dif_pos hk]
      rfl
    · rw [show pb_k0_t1 (F := F) 𝒱 c bd i arg1 harg1 arg2 harg2 arg3 harg3 arg4 harg4 arg5 harg5 arg6 harg6 arg7 harg7 arg8 harg8 arg9 harg9 arg10 harg10 arg11 harg11 X1 X2 X3 X4 X5 G6 G9 G10 G11 (n + 1) = _ from e]
      dsimp only
      rw [View.writes_append, read10, i10, accFold, dif_pos hk]
      rfl
    · rw [show pb_k0_t1 (F := F) 𝒱 c bd i arg1 harg1 arg2 harg2 arg3 harg3 arg4 harg4 arg5 harg5 arg6 harg6 arg7 harg7 arg8 harg8 arg9 harg9 arg10 harg10 arg11 harg11 X1 X2 X3 X4 X5 G6 G9 G10 G11 (n + 1) = _ from e]
      dsimp only
      rw [View.writes_append, read11, i11, accFold, dif_pos hk]
      rfl

end Loop1

/-! ## The second loop -/

section Loop2
variable (𝒱 : Variants) (c : Dev nD) (bd : Option 𝒱.V) (i : grid0.Coords)
variable (arg1 : Memref sig .tc .smem S8 .f32) (harg1 : arg1.IsWhole)
variable (arg2 : Memref sig .tc .vmem S1x2048x512 .bf16) (harg2 : arg2.IsWhole)
variable (arg3 : Memref sig .tc .vmem S1x2048x128 .bf16) (harg3 : arg3.IsWhole)
variable (arg4 : Memref sig .tc .vmem S1x2048x128 .bf16) (harg4 : arg4.IsWhole)
variable (arg5 : Memref sig .tc .vmem S1x2048x512 .bf16) (harg5 : arg5.IsWhole)
variable (arg6 : Memref sig .tc .vmem S1x2048x512 .bf16) (harg6 : arg6.IsWhole)
variable (arg7 : Memref sig .tc .vmem S1x2048x128 .bf16) (harg7 : arg7.IsWhole)
variable (arg8 : Memref sig .tc .vmem S1x2048x128 .bf16) (harg8 : arg8.IsWhole)
variable (arg9 : Memref sig .tc .vmem S8x128 .f32) (harg9 : arg9.IsWhole)
variable (arg10 : Memref sig .tc .vmem S2048x256 .f32) (harg10 : arg10.IsWhole)
variable (arg11 : Memref sig .tc .vmem S2048x256 .f32) (harg11 : arg11.IsWhole)
variable (X10 : BufTy.Contents (Elt F) arg10.view.ty) (X11 : BufTy.Contents (Elt F) arg11.view.ty)

theorem read7 (k : Fin k0_t2_loop.trips) (f7 : BufTy.Contents (Elt F) arg7.view.ty) : arg7.view.read (Elt F) (arg7.view.writes (Elt F) f7 (tripL_k0_t2 (F := F) 𝒱 c bd i arg1 harg1 arg2 harg2 arg3 harg3 arg4 harg4 arg5 harg5 arg6 harg6 arg7 harg7 arg8 harg8 arg9 harg9 arg10 harg10 arg11 harg11 X10 X11 k).1)
    = VecWindow.put (arg7.view.read (Elt F) f7) (k0_off10 k) S1x256x128.size (foldRows (arg10.view.read (Elt F) X10) k) := by
  unfold tripL_k0_t2 trip_k0_t2
  dsimp only
  rw [View.read_writes_cons_put (h := rfl), View.writes_nil]
  rfl

theorem read8 (k : Fin k0_t2_loop.trips) (f8 : BufTy.Contents (Elt F) arg8.view.ty) : arg8.view.read (Elt F) (arg8.view.writes (Elt F) f8 (tripL_k0_t2 (F := F) 𝒱 c bd i arg1 harg1 arg2 harg2 arg3 harg3 arg4 harg4 arg5 harg5 arg6 harg6 arg7 harg7 arg8 harg8 arg9 harg9 arg10 harg10 arg11 harg11 X10 X11 k).2)
    = VecWindow.put (arg8.view.read (Elt F) f8) (k0_off10 k) S1x256x128.size (foldRows (arg11.view.read (Elt F) X11) k) := by
  unfold tripL_k0_t2 trip_k0_t2
  dsimp only
  rw [View.read_writes_cons_put (h := rfl), View.writes_nil]
  rfl

/-- Rows put at block `n`, the earlier blocks being there, leave the blocks up to `n + 1`. -/
theorem fold_put (acc : Vec F S2048x256 .f32) (n : ℕ) (hk : n < k0_t2_loop.trips) (x : Vec F S1x2048x128 .bf16)
    (hx : ∀ y : S1x2048x128.Idx, (y 1).val < 256 * n → x y = foldBlk acc y) (y : S1x2048x128.Idx) (hy : (y 1).val < 256 * (n + 1)) :
    VecWindow.put x (k0_off10 ⟨n, hk⟩) S1x256x128.size (foldRows acc ⟨n, hk⟩) y = foldBlk acc y := by
  obtain ⟨a, r, l, rfl⟩ : ∃ a r l, y = ix3 a r l := ⟨_, _, _, eq_ix3 y⟩
  have hr : r.val < 256 * (n + 1) := hy
  rw [off10_eq]
  refine (Windows.put3 _ _ a r l).trans ?_
  by_cases hc : 256 * n ≤ r.val
  · rw [dif_pos ⟨hc, by show r.val < 256 * n + 256; omega⟩]
    have e1 : (⟨n, hk⟩ : Fin k0_t2_loop.trips) = ⟨r.val / 256, by rw [trips2]; omega⟩ := Fin.ext (by show n = r.val / 256; omega)
    have e2 : (⟨r.val - 256 * n, by omega⟩ : Fin 256) = ⟨r.val % 256, Nat.mod_lt _ (by decide)⟩ := Fin.ext (by show r.val - 256 * n = r.val % 256; omega)
    show foldRows acc ⟨n, hk⟩ (ix3 0 ⟨r.val - 256 * n, _⟩ l) = foldRows acc ⟨r.val / 256, _⟩ (ix3 0 ⟨r.val % 256, _⟩ l)
    exact congrArg₂ (fun z w => foldRows acc z (ix3 0 w l)) e1 e2
  · rw [dif_neg fun h => hc h.1]
    exact hx (ix3 a r l) (by show r.val < 256 * n; omega)

/-- The results after the first `n` trips. -/
theorem loop2 (G7 : BufTy.Contents (Elt F) arg7.view.ty) (G8 : BufTy.Contents (Elt F) arg8.view.ty) (n : ℕ) (hn : n ≤ 8) :
    (∀ y : S1x2048x128.Idx, (y 1).val < 256 * n → arg7.view.read (Elt F) (arg7.view.writes (Elt F) G7 (pb_k0_t2 (F := F) 𝒱 c bd i arg1 harg1 arg2 harg2 arg3 harg3 arg4 harg4 arg5 harg5 arg6 harg6 arg7 harg7 arg8 harg8 arg9 harg9 arg10 harg10 arg11 harg11 X10 X11 n).1) y = foldBlk (arg10.view.read (Elt F) X10) y)
    ∧ (∀ y : S1x2048x128.Idx, (y 1).val < 256 * n → arg8.view.read (Elt F) (arg8.view.writes (Elt F) G8 (pb_k0_t2 (F := F) 𝒱 c bd i arg1 harg1 arg2 harg2 arg3 harg3 arg4 harg4 arg5 harg5 arg6 harg6 arg7 harg7 arg8 harg8 arg9 harg9 arg10 harg10 arg11 harg11 X10 X11 n).2) y = foldBlk (arg11.view.read (Elt F) X11) y) := by
  induction n with
  | zero => exact ⟨fun y hy => absurd hy (by omega), fun y hy => absurd hy (by omega)⟩
  | succ n ih =>
    obtain ⟨i7, i8⟩ := ih (by omega)
    have hk : n < k0_t2_loop.trips := by rw [trips2]; omega
    have e := pb_k0_t2_succ (F := F) 𝒱 c bd i arg1 harg1 arg2 harg2 arg3 harg3 arg4 harg4 arg5 harg5 arg6 harg6 arg7 harg7 arg8 harg8 arg9 harg9 arg10 harg10 arg11 harg11 X10 X11 ⟨n, hk⟩
    refine ⟨fun y hy => ?_, fun y hy => ?_⟩
    · rw [show pb_k0_t2 (F := F) 𝒱 c bd i arg1 harg1 arg2 harg2 arg3 harg3 arg4 harg4 arg5 harg5 arg6 harg6 arg7 harg7 arg8 harg8 arg9 harg9 arg10 harg10 arg11 harg11 X10 X11 (n + 1) = _ from e]
      dsimp only
      rw [View.writes_append, read7]
      exact fold_put _ n hk _ i7 y hy
    · rw [show pb_k0_t2 (F := F) 𝒱 c bd i arg1 harg1 arg2 harg2 arg3 harg3 arg4 harg4 arg5 harg5 arg6 harg6 arg7 harg7 arg8 harg8 arg9 harg9 arg10 harg10 arg11 harg11 X10 X11 (n + 1) = _ from e]
      dsimp only
      rw [View.writes_append, read8]
      exact fold_put _ n hk _ i8 y hy

end Loop2

end Cert.KernelIdeal.Trip

end

end
-- ==== Proof.Body.lean ====
/-
  The kernel's body at the two grid points, on whole staging memrefs: the contents every result's buffer ends with.
-/
module

public import proofs.«01_k».proof.Proof.Loop
public import proofs.«01_k».proof.Proof.Gen.KernelIdeal.Frame

@[expose] public section

set_option maxRecDepth 16384

noncomputable section

namespace Cert.KernelIdeal.Body

open Cert.KernelIdeal Cert.KernelIdeal.Gen Cert.KernelIdeal.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body leaves -/

section Results
variable (x0 : Vec F S8 .f32) (x1 : Vec F S1x2048x512 .bf16) (x2 x3 : Vec F S1x2048x128 .bf16) (x4 : Vec F S1x2048x512 .bf16)

/-- The keys' gradient. -/
def dkBlk : Vec F S1x2048x128 .bf16 := foldBlk (accFold (dkAdd x0 x1 x2 x3 x4) k0_pay2 16)
/-- The values' gradient. -/
def dvBlk : Vec F S1x2048x128 .bf16 := foldBlk (accFold (dvAdd x0 x1 x2 x4) k0_pay3 16)
/-- The sinks' gradient after the first batch entry, lane by lane. -/
def sinkFirst : Vec F S8x128 .f32 := sinkFold x0 x1 x2 x3 x4 k0_pay1 16
/-- The sinks' gradient after the last batch entry, summed over lanes. -/
def sinkLast (x8 : Vec F S8x128 .f32) : Vec F S8x128 .f32 := k0_pay9 (sinkFold x0 x1 x2 x3 x4 x8 16)

end Results

/-! ## The grid points -/

/-- The first branch's condition, of the grid point. -/
abbrev cond0_0 (i : grid0.Coords) : Prop := (Scalar.cmpi .ne (Scalar.extui (Scalar.cmpi .eq (BitVec.ofNat 32 (i 0).val) 0#32)) 0#32) = 1#1
/-- The second branch's condition. -/
abbrev cond0_1 (i : grid0.Coords) : Prop := (Scalar.cmpi .ne (Scalar.extui (Scalar.cmpi .eq (BitVec.ofNat 32 (i 0).val) 1#32)) 0#32) = 1#1
/-- The first branch is taken at the first point, -/
theorem hcond0_0 : ∀ t : Fin cfg0.N, cond0_0 (grid0.coords t) ↔ t.val = 0 :=
  (by decide +kernel : ∀ t : Fin grid0.N, cond0_0 (grid0.coords t) ↔ t.val = 0)
/-- and the second at the last. -/
theorem hcond0_1 : ∀ t : Fin cfg0.N, cond0_1 (grid0.coords t) ↔ t.val = 1 :=
  (by decide +kernel : ∀ t : Fin grid0.N, cond0_1 (grid0.coords t) ↔ t.val = 1)

/-! ## The body's run -/

set_option maxHeartbeats 2000000 in
/-- The body at the first grid point, on whole staging memrefs holding the blocks `x0 … x4`: the results' buffers end at
    `dqBlk`, `dkBlk`, `dvBlk` and the sinks' gradient at `sinkFirst`. -/
theorem runA (c : Dev nD) (i : grid0.Coords) (arg1 : Memref sig .tc .smem S8 .f32) (harg1 : arg1.IsWhole) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S8x128 .f32) (harg9 : arg9.IsWhole) (arg10 : Memref sig .tc .vmem S2048x256 .f32) (harg10 : arg10.IsWhole) (arg11 : Memref sig .tc .vmem S2048x256 .f32) (harg11 : arg11.IsWhole) (hc0 : cond0_0 i) (hc1 : ¬cond0_1 i)
    (x0 : Vec F S8 .f32) (x1 : Vec F S1x2048x512 .bf16) (x2 x3 : Vec F S1x2048x128 .bf16) (x4 : Vec F S1x2048x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dqBlk x0 x1 x2 x3 x4) ∗ owns (c : Thread nD τ) arg7 fullShare (dkBlk x0 x1 x2 x3 x4) ∗ owns (c : Thread nD τ) arg8 fullShare (dvBlk x0 x1 x2 x4) ∗ owns (c : Thread nD τ) arg9 fullShare (sinkFirst x0 x1 x2 x3 x4) ∗ (∃ d, owns (c : Thread nD τ) arg10 fullShare d) ∗ (∃ d, owns (c : Thread nD τ) arg11 fullShare d)) -∗ K ⟨⟩))
          ⊢ wp frame (wpE (defs₀ (F := F)) Variants.none c none) E (cc0_sw_bwd i arg1 harg1 arg2 harg2 arg3 harg3 arg4 harg4 arg5 harg5 arg6 harg6 arg7 harg7 arg8 harg8 arg9 harg9 arg10 harg10 arg11 harg11) K := by
    intro E K
    simp only [cc0_sw_bwd_eq_skeleton]; unfold cc0_sw_bwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [show Scf.trips k0_t1_loop.lb k0_t1_loop.ub k0_t1_loop.st = 16 from trips1]
      funext y
      refine ((loop1 (F := F) _ _ _ _ _ _ _ _ _ _ _ _ _ _ _ _ _ _ _ _ _ _ _ _ _ _ _ _ _ _ _ _ _ _ _ 16 le_rfl).1 y (y 1).isLt).trans ?_
      simp only [hf0, hf1, hf2, hf3, hf4]
    isplitl [H6]
    · iexists _; isplitr; swap; · iexact H6
      ipureintro
      rw [show Scf.trips k0_t1_loop.lb k0_t1_loop.ub k0_t1_loop.st = 16 from trips1]
      rw [show Scf.trips k0_t2_loop.lb k0_t2_loop.ub k0_t2_loop.st = 8 from trips2]
      funext y
      refine ((loop2 (F := F) _ _ _ _ _ _ _ _ _ _ _ _ _ _ _ _ _ _ _ _ _ _ _ _ _ _ _ _ f6 f7 8 le_rfl).1 y (y 1).isLt).trans ?_
      unfold dkBlk
      congr 1
      rw [View.writes_append]
      refine (loop1 (F := F) _ _ _ _ _ _ _ _ _ _ _ _ _ _ _ _ _ _ _ _ _ _ _ _ _ _ _ _ _ _ _ _ _ _ _ 16 le_rfl).2.2.1.trans ?_
      simp only [hf0, hf1, hf2, hf3, hf4]
      congr 1
      sl_unfold_words
      exact View.read_writes_full _ _ _ _ _
    isplitl [H7]
    · iexists _; isplitr; swap; · iexact H7
      ipureintro
      rw [show Scf.trips k0_t1_loop.lb k0_t1_loop.ub k0_t1_loop.st = 16 from trips1]
      rw [show Scf.trips k0_t2_loop.lb k0_t2_loop.ub k0_t2_loop.st = 8 from trips2]
      funext y
      refine ((loop2 (F := F) _ _ _ _ _ _ _ _ _ _ _ _ _ _ _ _ _ _ _ _ _ _ _ _ _ _ _ _ f6 f7 8 le_rfl).2 y (y 1).isLt).trans ?_
      unfold dvBlk
      congr 1
      rw [View.writes_append]
      refine (loop1 (F := F) _ _ _ _ _ _ _ _ _ _ _ _ _ _ _ _ _ _ _ _ _ _ _ _ _ _ _ _ _ _ _ _ _ _ _ 16 le_rfl).2.2.2.trans ?_
      simp only [hf0, hf1, hf2, hf3, hf4]
      congr 1
      sl_unfold_words
      exact View.read_writes_full _ _ _ _ _
    isplitl [H8]
    · iexists _; isplitr; swap; · iexact H8
      ipureintro
      rw [show Scf.trips k0_t1_loop.lb k0_t1_loop.ub k0_t1_loop.st = 16 from trips1]
      rw [View.writes_append]
      refine (loop1 (F := F) _ _ _ _ _ _ _ _ _ _ _ _ _ _ _ _ _ _ _ _ _ _ _ _ _ _ _ _ _ _ _ _ _ _ _ 16 le_rfl).2.1.trans ?_
      unfold sinkFirst
      simp only [hf0, hf1, hf2, hf3, hf4]
      congr 1
      sl_unfold_words
      exact View.read_writes_full _ _ _ _ _
    isplitl [HS0]
    · iexists _, _; isplitr; swap; · iexact HS0
      ipureintro; rfl
    iexists _, _; isplitr; swap; · iexact HS1
    ipureintro; rfl

set_option maxHeartbeats 2000000 in
/-- The body at the last grid point: as at the first, the sinks' gradient going on from what the first point left, `x8`,
    and each of its rows summed at the end. -/
theorem runB (c : Dev nD) (i : grid0.Coords) (arg1 : Memref sig .tc .smem S8 .f32) (harg1 : arg1.IsWhole) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S8x128 .f32) (harg9 : arg9.IsWhole) (arg10 : Memref sig .tc .vmem S2048x256 .f32) (harg10 : arg10.IsWhole) (arg11 : Memref sig .tc .vmem S2048x256 .f32) (harg11 : arg11.IsWhole) (hc0 : ¬cond0_0 i) (hc1 : cond0_1 i)
    (x0 : Vec F S8 .f32) (x1 : Vec F S1x2048x512 .bf16) (x2 x3 : Vec F S1x2048x128 .bf16) (x4 : Vec F S1x2048x512 .bf16) (x8 : Vec F S8x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dqBlk x0 x1 x2 x3 x4) ∗ owns (c : Thread nD τ) arg7 fullShare (dkBlk x0 x1 x2 x3 x4) ∗ owns (c : Thread nD τ) arg8 fullShare (dvBlk x0 x1 x2 x4) ∗ owns (c : Thread nD τ) arg9 fullShare (sinkLast x0 x1 x2 x3 x4 x8) ∗ (∃ d, owns (c : Thread nD τ) arg10 fullShare d) ∗ (∃ d, owns (c : Thread nD τ) arg11 fullShare d)) -∗ K ⟨⟩))
          ⊢ wp frame (wpE (defs₀ (F := F)) Variants.none c none) E (cc0_sw_bwd i arg1 harg1 arg2 harg2 arg3 harg3 arg4 harg4 arg5 harg5 arg6 harg6 arg7 harg7 arg8 harg8 arg9 harg9 arg10 harg10 arg11 harg11) K := by
    intro E K
    simp only [cc0_sw_bwd_eq_skeleton]; unfold cc0_sw_bwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      rw [show Scf.trips k0_t1_loop.lb k0_t1_loop.ub k0_t1_loop.st = 16 from trips1]
      funext y
      refine ((loop1 (F := F) _ _ _ _ _ _ _ _ _ _ _ _ _ _ _ _ _ _ _ _ _ _ _ _ _ _ _ _ _ _ _ _ _ _ _ 16 le_rfl).1 y (y 1).isLt).trans ?_
      simp only [hf0, hf1, hf2, hf3, hf4]
    isplitl [H6]
    · iexists _; isplitr; swap; · iexact H6
      ipureintro
      rw [show Scf.trips k0_t1_loop.lb k0_t1_loop.ub k0_t1_loop.st = 16 from trips1]
      rw [show Scf.trips k0_t2_loop.lb k0_t2_loop.ub k0_t2_loop.st = 8 from trips2]
      funext y
      refine ((loop2 (F := F) _ _ _ _ _ _ _ _ _ _ _ _ _ _ _ _ _ _ _ _ _ _ _ _ _ _ _ _ f6 f7 8 le_rfl).1 y (y 1).isLt).trans ?_
      unfold dkBlk
      congr 1
      rw [View.writes_append]
      refine (loop1 (F := F) _ _ _ _ _ _ _ _ _ _ _ _ _ _ _ _ _ _ _ _ _ _ _ _ _ _ _ _ _ _ _ _ _ _ _ 16 le_rfl).2.2.1.trans ?_
      simp only [hf0, hf1, hf2, hf3, hf4]
      congr 1
      sl_unfold_words
      exact View.read_writes_full _ _ _ _ _
    isplitl [H7]
    · iexists _; isplitr; swap; · iexact H7
      ipureintro
      rw [show Scf.trips k0_t1_loop.lb k0_t1_loop.ub k0_t1_loop.st = 16 from trips1]
      rw [show Scf.trips k0_t2_loop.lb k0_t2_loop.ub k0_t2_loop.st = 8 from trips2]
      funext y
      refine ((loop2 (F := F) _ _ _ _ _ _ _ _ _ _ _ _ _ _ _ _ _ _ _ _ _ _ _ _ _ _ _ _ f6 f7 8 le_rfl).2 y (y 1).isLt).trans ?_
      unfold dvBlk
      congr 1
      rw [View.writes_append]
      refine (loop1 (F := F) _ _ _ _ _ _ _ _ _ _ _ _ _ _ _ _ _ _ _ _ _ _ _ _ _ _ _ _ _ _ _ _ _ _ _ 16 le_rfl).2.2.2.trans ?_
      simp only [hf0, hf1, hf2, hf3, hf4]
      congr 1
      sl_unfold_words
      exact View.read_writes_full _ _ _ _ _
    isplitl [H8]
    · iexists _; isplitr; swap; · iexact H8
      ipureintro
      sl_unfold_words
      refine (View.read_writes_full _ _ _ _ _).trans ?_
      unfold sinkLast
      congr 1
      refine (View.readAt_full _ _ _).trans ?_
      rw [show Scf.trips k0_t1_loop.lb k0_t1_loop.ub k0_t1_loop.st = 16 from trips1]
      refine (loop1 (F := F) _ _ _ _ _ _ _ _ _ _ _ _ _ _ _ _ _ _ _ _ _ _ _ _ _ _ _ _ _ _ _ _ _ _ _ 16 le_rfl).2.1.trans ?_
      simp only [hf0, hf1, hf2, hf3, hf4]
      exact congrArg (fun z => sinkFold x0 x1 x2 x3 x4 z 16) hf8
    isplitl [HS0]
    · iexists _, _; isplitr; swap; · iexact HS0
      ipureintro; rfl
    iexists _, _; isplitr; swap; · iexact HS1
    ipureintro; rfl

end Cert.KernelIdeal.Body

end

end
-- ==== Proof.Run.lean ====
/-
  The kernel's run: what its four results hold at the end.
-/
module

public import proofs.«01_k».proof.Proof.Body
public import Idealize.ShloMosaic.Lib.Claim

@[expose] public section

set_option maxRecDepth 16384

noncomputable section

namespace Cert.KernelIdeal.Run

open Cert.KernelIdeal Cert.KernelIdeal.Gen Cert.KernelIdeal.Trip Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body leaves at a point, of the arrays -/

/-- The queries' gradient at point `t`. -/
def out5 (c : Dev nD) (t : Fin cfg0.N) : Vec F S1x2048x512 .bf16 := dqBlk (iblk m c 0 t) (X0_1 m c t) (iblk m c 2 t) (iblk m c 3 t) (iblk m c 4 t)
/-- The keys' gradient. -/
def out6 (c : Dev nD) (t : Fin cfg0.N) : Vec F S1x2048x128 .bf16 := dkBlk (iblk m c 0 t) (X0_1 m c t) (iblk m c 2 t) (iblk m c 3 t) (iblk m c 4 t)
/-- The values' gradient. -/
def out7 (c : Dev nD) (t : Fin cfg0.N) : Vec F S1x2048x128 .bf16 := dvBlk (iblk m c 0 t) (X0_1 m c t) (iblk m c 2 t) (iblk m c 4 t)
/-- The sinks' gradient after the first point, as a function of the point's blocks. -/
def acc8 (c : Dev nD) (t : Fin cfg0.N) : Vec F S8x128 .f32 := sinkFirst (iblk m c 0 t) (X0_1 m c t) (iblk m c 2 t) (iblk m c 3 t) (iblk m c 4 t)
/-- The sinks' gradient: the first point's lanes, then the sum over lanes of both points'. -/
def out8 (c : Dev nD) (t : Fin cfg0.N) : Vec F S8x128 .f32 :=
  if t.val = 0 then acc8 m c t else sinkLast (iblk m c 0 t) (X0_1 m c t) (iblk m c 2 t) (iblk m c 3 t) (iblk m c 4 t) (acc8 m c ⟨t.val - 1, Nat.lt_of_le_of_lt (Nat.sub_le _ _) t.isLt⟩)

/-! ## The pipeline's proof data -/

/-- The arrays as the region finds them; after the body at point `t` each input's buffer at its block and each result's at
    `out5 … out8`; the invariant the scratch buffers at some contents; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => out5 m c t
    | ⟨6, _⟩ => out6 m c t
    | ⟨7, _⟩ => out7 m c t
    | ⟨8, _⟩ => out8 m c t
  Φ _ := Pipeline.ΦA spec0 c
  q w := Pipeline.shareOf spec0 w
  owed _ := 0

/-- The proof data's arrays are the region's. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 m c t := by dsimp only [dats]
theorem after6 (c : Dev nD) (t : Fin cfg0.N) : (dats m 0 c).after 6 t = out6 m c t := by dsimp only [dats]
theorem after7 (c : Dev nD) (t : Fin cfg0.N) : (dats m 0 c).after 7 t = out7 m c t := by dsimp only [dats]
theorem after8 (c : Dev nD) (t : Fin cfg0.N) : (dats m 0 c).after 8 t = out8 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The sinks' gradient is not written out between the points: the last point finds what the first left. -/
theorem before8 (c : Dev nD) (t : Fin cfg0.N) (ht : t.val ≠ 0) (d) :
    (dats m 0 c).before 8 t d = acc8 m c ⟨t.val - 1, Nat.lt_of_le_of_lt (Nat.sub_le _ _) t.isLt⟩ := by
  have hN : t.val < 2 := lt_of_lt_of_eq t.isLt (show cfg0.N = 2 from N_0)
  rw [(dats m 0 c).before_out_kept 8 rfl t ht (by
      rw [Bool.eq_false_iff]; intro h
      have := (flush0_8 _).mp h
      simp only at this
      omega) (fun _ => rfl) (fun _ _ => rfl) d, after8, out8, if_pos (by show t.val - 1 = 0; omega)]

/-! ## The body obligation -/

/-- The scratch buffers as memrefs at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at either point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  rw [show (dats m 0 c).Φ t.castSucc = Pipeline.ΦA spec0 c from rfl, PhiA0_eq]
  have hN : t.val < 2 := lt_of_lt_of_eq t.isLt (show cfg0.N = 2 from N_0)
  by_cases h0 : t.val = 0
  · rw [out8, if_pos h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ _ _ _ _ ((hcond0_0 t).mpr h0) (fun h => by have := (hcond0_1 t).mp h; omega) (iblk m c 0 t) (X0_1 m c t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [out8, if_neg h0]; simp only [before8 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) _ _ _ _ _ _ _ _ _ _ _ _ _ _ _ _ _ _ _ _ _ _ (fun h => h0 ((hcond0_0 t).mp h)) ((hcond0_1 t).mpr (by omega)) (iblk m c 0 t) (X0_1 m c t) (iblk m c 2 t) (iblk m c 3 t) (iblk m c 4 t) (acc8 m c ⟨t.val - 1, Nat.lt_of_le_of_lt (Nat.sub_le _ _) t.isLt⟩)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends, with the pipeline's arrays at what the proof data says, every other buffer as the region found it, and
    every semaphore at zero. -/
theorem run_quiescent : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the argument arrays end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiescent m ρ))) ((θ_run defs _ _).mono (fun _ h => h.2) (run_quiescent m ρ))

end Cert.KernelIdeal.Run

end

end
-- ==== Proof.Spec.lean ====
/-
  The gradient of windowed grouped-query attention with sinks, over the reals: one batch entry of 2048 positions, eight
  query heads of 64 lanes in two groups, each group sharing one key and value head.
-/
module

public import Idealize.ShloMosaic.Lib.Pointwise

@[expose] public section

noncomputable section

namespace Cert.Spec

open scoped BigOperators
open Idealize.ShloMosaic

/-! ## One query's softmax with a sink, and its derivative -/

section Softmax
variable {ι : Type} [Fintype ι] (N : ι → Prop) [DecidablePred N] (s : ι → ℝ) (σ : ℝ) (d : ι → ℝ)

/-- The largest of the scores of the keys in the window and the sink, as an extended real. -/
def top : EReal := max (Finset.univ.sup fun j => if N j then (s j : EReal) else ⊥) (σ : EReal)

/-- The largest of the scores of the keys in the window and the sink. -/
def mx : ℝ := (top N s σ).toReal

/-- A key's unnormalised weight, zero outside the window. -/
def wt (j : ι) : ℝ := if N j then Real.exp (s j - mx N s σ) else 0

/-- The sink's unnormalised weight. -/
def wts : ℝ := Real.exp (σ - mx N s σ)

/-- The sum of all weights. -/
def den : ℝ := (∑ j, wt N s σ j) + wts N s σ

/-- A key's weight. -/
def pr (j : ι) : ℝ := wt N s σ j * (1 / den N s σ)

/-- The sink's weight. -/
def prs : ℝ := wts N s σ * (1 / den N s σ)

/-- The weighted sum of the weights' gradients. -/
def del : ℝ := ∑ j, pr N s σ j * d j

/-- The gradient of a key's score. -/
def dsc (j : ι) : ℝ := pr N s σ j * (d j - del N s σ d)

/-- The gradient of the sink. -/
def dsk : ℝ := -(prs N s σ * del N s σ d)

theorem top_ne_bot : top N s σ ≠ ⊥ := by
  unfold top
  exact ne_of_gt (lt_of_lt_of_le (EReal.bot_lt_coe σ) (le_max_right _ _))

theorem top_ne_top : top N s σ ≠ ⊤ := by
  unfold top
  refine ne_of_lt (max_lt ?_ (EReal.coe_lt_top σ))
  refine (Finset.sup_lt_iff (bot_lt_top)).2 fun j _ => ?_
  split
  · exact EReal.coe_lt_top _
  · exact bot_lt_top

theorem coe_mx : ((mx N s σ : ℝ) : EReal) = top N s σ := EReal.coe_toReal (top_ne_top N s σ) (top_ne_bot N s σ)

theorem wts_pos : 0 < wts N s σ := Real.exp_pos _

theorem wt_nonneg (j : ι) : 0 ≤ wt N s σ j := by
  unfold wt; split
  · exact (Real.exp_pos _).le
  · exact le_rfl

theorem den_pos : 0 < den N s σ := add_pos_of_nonneg_of_pos (Finset.sum_nonneg fun j _ => wt_nonneg N s σ j) (wts_pos N s σ)

theorem pr_of_not (j : ι) (h : ¬N j) : pr N s σ j = 0 := by unfold pr wt; rw [if_neg h, zero_mul]

theorem dsc_of_not (j : ι) (h : ¬N j) : dsc N s σ d j = 0 := by unfold dsc; rw [pr_of_not N s σ j h, zero_mul]

end Softmax

/-! ## The same keys listed in another order -/

section Transfer
variable {ι κ : Type} [Fintype ι] [Fintype κ] (N' : ι → Prop) [DecidablePred N'] (N : κ → Prop) [DecidablePred N] (g : ι → κ)

/-- `g` lists the keys in the window once each. -/
structure Lists : Prop where
  into : ∀ j, N' j → N (g j)
  inj : ∀ i j, N' i → N' j → g i = g j → i = j
  onto : ∀ t, N t → ∃ j, N' j ∧ g j = t

variable {N' N g}

/-- A sum over listed keys is the sum over the keys. -/
theorem Lists.sum (L : Lists N' N g) {M : Type} [AddCommMonoid M] (f' : ι → M) (f : κ → M) (h' : ∀ j, ¬N' j → f' j = 0) (h : ∀ t, ¬N t → f t = 0)
    (e : ∀ j, N' j → f' j = f (g j)) : ∑ j, f' j = ∑ t, f t := by
  rw [← Finset.sum_filter_of_ne (p := N') fun j _ hj => by by_contra hn; exact hj (h' j hn),
    ← Finset.sum_filter_of_ne (p := N) fun j _ hj => by by_contra hn; exact hj (h j hn)]
  refine Finset.sum_bij (fun j _ => g j) (fun j hj => ?_) (fun i hi j hj hij => ?_) (fun t ht => ?_) (fun j hj => ?_)
  · exact Finset.mem_filter.2 ⟨Finset.mem_univ _, L.into j (Finset.mem_filter.1 hj).2⟩
  · exact L.inj i j (Finset.mem_filter.1 hi).2 (Finset.mem_filter.1 hj).2 hij
  · obtain ⟨j, hj, rfl⟩ := L.onto t (Finset.mem_filter.1 ht).2
    exact ⟨j, Finset.mem_filter.2 ⟨Finset.mem_univ _, hj⟩, rfl⟩
  · exact e j (Finset.mem_filter.1 hj).2

variable (L : Lists N' N g) (s' : ι → ℝ) (s : κ → ℝ) (σ : ℝ) (hs : ∀ j, N' j → s' j = s (g j))
  (d' : ι → ℝ) (d : κ → ℝ) (hd : ∀ j, N' j → d' j = d (g j))
include L hs

theorem Lists.top_eq : top N' s' σ = top N s σ := by
  unfold top
  congr 1
  apply le_antisymm
  · refine Finset.sup_le fun j _ => ?_
    split_ifs with h
    · rw [hs j h]
      refine le_trans (le_of_eq ?_) (Finset.le_sup (f := fun t => if N t then (s t : EReal) else ⊥) (Finset.mem_univ (g j)))
      simp only [if_pos (L.into j h)]
    · exact bot_le
  · refine Finset.sup_le fun t _ => ?_
    split_ifs with h
    · obtain ⟨j, hj, rfl⟩ := L.onto t h
      rw [← hs j hj]
      refine le_trans (le_of_eq ?_) (Finset.le_sup (f := fun j => if N' j then (s' j : EReal) else ⊥) (Finset.mem_univ j))
      simp only [if_pos hj]
    · exact bot_le

theorem Lists.mx_eq : mx N' s' σ = mx N s σ := by unfold mx; rw [L.top_eq s' s σ hs]

theorem Lists.wt_eq (j : ι) (h : N' j) : wt N' s' σ j = wt N s σ (g j) := by
  unfold wt; rw [if_pos h, if_pos (L.into j h), hs j h, L.mx_eq s' s σ hs]

theorem Lists.wts_eq : wts N' s' σ = wts N s σ := by unfold wts; rw [L.mx_eq s' s σ hs]

theorem Lists.den_eq : den N' s' σ = den N s σ := by
  unfold den
  rw [L.wts_eq s' s σ hs, L.sum (wt N' s' σ) (wt N s σ) (fun j h => by unfold wt; rw [if_neg h]) (fun t h => by unfold wt; rw [if_neg h])
    (L.wt_eq s' s σ hs)]

theorem Lists.pr_eq (j : ι) (h : N' j) : pr N' s' σ j = pr N s σ (g j) := by
  unfold pr; rw [L.wt_eq s' s σ hs j h, L.den_eq s' s σ hs]

theorem Lists.prs_eq : prs N' s' σ = prs N s σ := by
  unfold prs; rw [L.wts_eq s' s σ hs, L.den_eq s' s σ hs]

include hd

theorem Lists.del_eq : del N' s' σ d' = del N s σ d := by
  unfold del
  refine L.sum _ _ (fun j h => by rw [pr_of_not N' s' σ j h, zero_mul]) (fun t h => by rw [pr_of_not N s σ t h, zero_mul]) fun j h => ?_
  rw [L.pr_eq s' s σ hs j h, hd j h]

theorem Lists.dsc_eq (j : ι) (h : N' j) : dsc N' s' σ d' j = dsc N s σ d (g j) := by
  unfold dsc; rw [L.pr_eq s' s σ hs j h, hd j h, L.del_eq s' s σ hs d' d hd]

theorem Lists.dsk_eq : dsk N' s' σ d' = dsk N s σ d := by
  unfold dsk; rw [L.prs_eq s' s σ hs, L.del_eq s' s σ hs d' d hd]

end Transfer

/-! ## The attention -/

/-- The key head of a query head. -/
def grp (h : Fin 8) : Fin 2 := ⟨h.val / 4, by omega⟩

/-- The query heads of a key head. -/
def mem (c : Fin 2) (i : Fin 4) : Fin 8 := ⟨4 * c.val + i.val, by omega⟩

/-- Positions at most 128 apart. -/
def near (u t : Fin 2048) : Prop := t.val ≤ u.val + 128 ∧ u.val ≤ t.val + 128

instance (u : Fin 2048) : DecidablePred (near u) := fun t => by unfold near; infer_instance

section Attn
variable (q : Fin 2048 → Fin 8 → Fin 64 → ℝ) (k v : Fin 2048 → Fin 2 → Fin 64 → ℝ) (σ : Fin 8 → ℝ) (o : Fin 2048 → Fin 8 → Fin 64 → ℝ)

/-- The score of a key for a query: the product of their rows, the query's an eighth. -/
def sc (h : Fin 8) (u t : Fin 2048) : ℝ := ∑ d, k t (grp h) d * (q u h d * (1 / 8))

/-- The gradient of a key's weight. -/
def dp (h : Fin 8) (u t : Fin 2048) : ℝ := ∑ d, v t (grp h) d * o u h d

/-- A key's weight for a query. -/
def wgt (h : Fin 8) (u t : Fin 2048) : ℝ := pr (near u) (sc q k h u) (σ h) t

/-- The gradient of a key's score for a query. -/
def gsc (h : Fin 8) (u t : Fin 2048) : ℝ := dsc (near u) (sc q k h u) (σ h) (dp v o h u) t

/-- The gradient of the eighths of the queries. -/
def dq (u : Fin 2048) (h : Fin 8) (d : Fin 64) : ℝ := ∑ t, gsc q k v σ o h u t * k t (grp h) d

/-- The gradient of the keys. -/
def dk (t : Fin 2048) (c : Fin 2) (d : Fin 64) : ℝ := ∑ i, ∑ u, gsc q k v σ o (mem c i) u t * (q u (mem c i) d * (1 / 8))

/-- The gradient of the values. -/
def dv (t : Fin 2048) (c : Fin 2) (d : Fin 64) : ℝ := ∑ i, ∑ u, wgt q k σ (mem c i) u t * o u (mem c i) d

/-- The gradient of a head's sink. -/
def dsink (h : Fin 8) : ℝ := ∑ u, dsk (near u) (sc q k h u) (σ h) (dp v o h u)

end Attn

/-! ## Arrays -/

/-- Lane `d` of half `e` of 128 lanes. -/
def lane2 (e : Fin 2) (d : Fin 64) : Fin 128 := ⟨64 * e.val + d.val, by omega⟩

/-- Lane `d` of head `h` of 512 lanes. -/
def lane8 (h : Fin 8) (d : Fin 64) : Fin 512 := ⟨64 * h.val + d.val, by omega⟩

theorem lane2_surj (l : Fin 128) : ∃ e d, l = lane2 e d :=
  ⟨⟨l.val / 64, by omega⟩, ⟨l.val % 64, by omega⟩, Fin.ext (by show l.val = 64 * (l.val / 64) + l.val % 64; omega)⟩

theorem lane8_surj (l : Fin 512) : ∃ h d, l = lane8 h d :=
  ⟨⟨l.val / 64, by omega⟩, ⟨l.val % 64, by omega⟩, Fin.ext (by show l.val = 64 * (l.val / 64) + l.val % 64; omega)⟩

section Arrays
variable (q : Fin 2 → Fin 2048 → Fin 8 → Fin 64 → ℝ) (k v : Fin 2 → Fin 2048 → Fin 2 → Fin 64 → ℝ) (σ : Fin 8 → ℝ) (o : Fin 2 → Fin 2048 → Fin 8 → Fin 64 → ℝ)

/-- The gradient of the eighths of the queries, as an array. -/
def arrQ (y : (⟨3, ![2, 2048, 512]⟩ : Shape).Idx) : EReal :=
  (dq (q (y 0)) (k (y 0)) (v (y 0)) σ (o (y 0)) (y 1) ⟨(y 2).val / 64, by have : (y 2).val < 512 := (y 2).isLt; omega⟩ ⟨(y 2).val % 64, Nat.mod_lt _ (by decide)⟩ : ℝ)

/-- The gradient of the keys, as an array. -/
def arrK (y : (⟨3, ![2, 2048, 128]⟩ : Shape).Idx) : EReal :=
  (dk (q (y 0)) (k (y 0)) (v (y 0)) σ (o (y 0)) (y 1) ⟨(y 2).val / 64, by have : (y 2).val < 128 := (y 2).isLt; omega⟩ ⟨(y 2).val % 64, Nat.mod_lt _ (by decide)⟩ : ℝ)

/-- The gradient of the values, as an array. -/
def arrV (y : (⟨3, ![2, 2048, 128]⟩ : Shape).Idx) : EReal :=
  (dv (q (y 0)) (k (y 0)) σ (o (y 0)) (y 1) ⟨(y 2).val / 64, by have : (y 2).val < 128 := (y 2).isLt; omega⟩ ⟨(y 2).val % 64, Nat.mod_lt _ (by decide)⟩ : ℝ)

/-- The gradient of the sinks, over both batch entries, the same in every lane. -/
def arrS (y : (⟨2, ![8, 128]⟩ : Shape).Idx) : EReal :=
  (dsink (q 0) (k 0) (v 0) σ (o 0) (y 0) + dsink (q 1) (k 1) (v 1) σ (o 1) (y 0) : ℝ)

theorem arrQ_apply (b : Fin 2) (u : Fin 2048) (h : Fin 8) (d : Fin 64) : arrQ q k v σ o (ix3 b u (lane8 h d)) = (dq (q b) (k b) (v b) σ (o b) u h d : ℝ) := by
  unfold arrQ
  congr 2
  · exact Fin.ext (by show (64 * h.val + d.val) / 64 = h.val; omega)
  · exact Fin.ext (by show (64 * h.val + d.val) % 64 = d.val; omega)

theorem arrK_apply (b : Fin 2) (t : Fin 2048) (c : Fin 2) (d : Fin 64) : arrK q k v σ o (ix3 b t (lane2 c d)) = (dk (q b) (k b) (v b) σ (o b) t c d : ℝ) := by
  unfold arrK
  congr 2
  · exact Fin.ext (by show (64 * c.val + d.val) / 64 = c.val; omega)
  · exact Fin.ext (by show (64 * c.val + d.val) % 64 = d.val; omega)

theorem arrV_apply (b : Fin 2) (t : Fin 2048) (c : Fin 2) (d : Fin 64) : arrV q k σ o (ix3 b t (lane2 c d)) = (dv (q b) (k b) σ (o b) t c d : ℝ) := by
  unfold arrV
  congr 2
  · exact Fin.ext (by show (64 * c.val + d.val) / 64 = c.val; omega)
  · exact Fin.ext (by show (64 * c.val + d.val) % 64 = d.val; omega)

end Arrays

end Cert.Spec

end

end
-- ==== Proof.Reals.lean ====
/-
  Extended reals that are real: the arithmetic of the ideal values on real numbers.
-/
module

public import proofs.«01_k».proof.Proof.Spec

@[expose] public section

noncomputable section

namespace Cert.Reals

open scoped BigOperators
open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum of real terms. -/
theorem sum_eq {ι : Type} [Fintype ι] (f : ι → EReal) (g : ι → ℝ) (h : ∀ i, f i = (g i : EReal)) : ∑ i, f i = ((∑ i, g i : ℝ) : EReal) := by
  rw [coe_sum]; exact Finset.sum_congr rfl fun i _ => h i

/-- A quotient by a real that is not zero. -/
theorem div_coe (x y : ℝ) (h : y ≠ 0) : Ideal.div (x : EReal) (y : EReal) = ((x * (1 / y) : ℝ) : EReal) := by
  rw [Ideal.div_coe h, ← EReal.coe_mul]

/-- One over a real that is not zero. -/
theorem one_div_coe (y : ℝ) (h : y ≠ 0) : Ideal.div 1 (y : EReal) = ((1 / y : ℝ) : EReal) := by
  rw [show (1 : EReal) = ((1 : ℝ) : EReal) from rfl, div_coe 1 y h, one_mul]

/-- The maximum over a list of values and a start below all of them. -/
theorem fold_max {ι : Type} (s : Finset ι) (f : ι → EReal) : s.fold max ⊥ f = s.sup f := by
  rfl

theorem neg_inf : Ideal.ofBits FTy.f32 0xFF800000#32 = ⊥ := by
  simp [Ideal.ofBits, Ideal.ieee]

end Cert.Reals

end

end
-- ==== Proof.Tile.lean ====
/-
  One head of one trip of the kernel, on real scores: the values of its mask, weights and gradients.
-/
module

public import proofs.«01_k».proof.Proof.Loop
public import proofs.«01_k».proof.Proof.Reals

@[expose] public section

set_option maxRecDepth 16384

noncomputable section

namespace Cert.KernelIdeal.Tile

open scoped BigOperators
open Cert.KernelIdeal Cert.KernelIdeal.Gen Cert.KernelIdeal.Trip Idealize.ShloMosaic Idealize.ShloMosaic.TcCoe
open Cert.Spec (top mx wt wts den pr prs del dsc dsk)

/-- A selection by a bit that says whether `p` holds. -/
theorem select_iff {α : Type} (b : BitVec 1) (p : Prop) [Decidable p] (h : b = 1#1 ↔ p) (x y : α) : Scalar.select b x y = if p then x else y := by
  unfold Scalar.select
  by_cases hp : p
  · rw [if_pos hp]; exact if_pos (h.2 hp)
  · rw [if_neg hp]; exact if_neg fun e => hp (h.1 e)

theorem mask_eq : (Named.named κ "mask" 4048155338#32 : Ideal .f32) = ⊥ := IdealRules.named_const.ideal_named_scalar _ _ _ _ rfl

section Head
variable (ok : IVec S384x128 1) (S D : FVec Ideal S384x128 .f32) (σ : ℝ)
variable (N : Fin 384 → Fin 128 → Prop) [∀ r, DecidablePred fun j => N j r] (s d : Fin 384 → Fin 128 → ℝ)
variable (hok : ∀ j r, ok (ix2 j r) = 1#1 ↔ N j r) (hS : ∀ j r, S (ix2 j r) = (s j r : EReal)) (hD : ∀ j r, D (ix2 j r) = (d j r : EReal))
include hok hS

theorem pay51 (j : Fin 384) (r : Fin 128) : k0_pay51 (F := Ideal) ok S (ix2 j r) = if N j r then (s j r : EReal) else ⊥ := by
  pointwise [k0_pay51]
  rw [select_iff _ (N j r) (hok j r), hS, mask_eq]

theorem pay52 (r : Fin 128) : k0_pay52 (F := Ideal) ok S (σ : EReal) (ix2 0 r) = ((mx (fun j => N j r) (fun j => s j r) σ : ℝ) : EReal) := by
  rw [Spec.coe_mx]
  pointwise [k0_pay52]
  rw [Reals.neg_inf, Reals.fold_max]
  unfold top
  congr 1
  exact Finset.sup_congr rfl fun j _ => pay51 ok S N s hok hS j r

theorem pay53 (j : Fin 384) (r : Fin 128) : k0_pay53 (F := Ideal) ok S (σ : EReal) (ix2 j r) = ((wt (fun j => N j r) (fun j => s j r) σ j : ℝ) : EReal) := by
  pointwise [k0_pay53]
  rw [pay51 ok S N s hok hS, pay52 ok S σ N s hok hS]
  unfold wt
  by_cases h : N j r
  · simp only [if_pos h]
    rw [← EReal.coe_sub, Ideal.exp_coe]
  · simp only [if_neg h]
    rw [EReal.bot_sub, Ideal.exp_bot, EReal.coe_zero]

theorem pay54 (r : Fin 128) : k0_pay54 (F := Ideal) ok S (σ : EReal) (ix2 0 r) = ((wts (fun j => N j r) (fun j => s j r) σ : ℝ) : EReal) := by
  pointwise [k0_pay54]
  rw [pay52 ok S σ N s hok hS, ← EReal.coe_sub, Ideal.exp_coe]
  rfl

theorem pay55 (r : Fin 128) : k0_pay55 (F := Ideal) ok S (σ : EReal) (ix2 0 r) = ((1 / den (fun j => N j r) (fun j => s j r) σ : ℝ) : EReal) := by
  pointwise [k0_pay55]
  rw [Reals.sum_eq _ _ fun j => pay53 ok S σ N s hok hS j r, pay54 ok S σ N s hok hS, ← EReal.coe_add]
  exact Reals.one_div_coe _ (Spec.den_pos _ _ _).ne'

theorem pay56 (j : Fin 384) (r : Fin 128) : k0_pay56 (F := Ideal) ok S (σ : EReal) (ix2 j r) = ((pr (fun j => N j r) (fun j => s j r) σ j : ℝ) : EReal) := by
  pointwise [k0_pay56]
  rw [pay53 ok S σ N s hok hS, pay55 ok S σ N s hok hS, ← EReal.coe_mul]
  rfl

/-- The weights. -/
theorem pay59 (j : Fin 384) (r : Fin 128) : k0_pay59 (F := Ideal) ok S (σ : EReal) (ix2 j r) = ((pr (fun j => N j r) (fun j => s j r) σ j : ℝ) : EReal) := by
  pointwise [k0_pay59]
  exact pay56 ok S σ N s hok hS j r

include hD

theorem pay57 (r : Fin 128) : k0_pay57 (F := Ideal) ok S D (σ : EReal) (ix2 0 r)
    = ((del (fun j => N j r) (fun j => s j r) σ (fun j => d j r) : ℝ) : EReal) := by
  pointwise [k0_pay57]
  exact Reals.sum_eq _ _ fun j => by rw [pay56 ok S σ N s hok hS, hD, ← EReal.coe_mul]

/-- The gradients of the scores. -/
theorem pay58 (j : Fin 384) (r : Fin 128) : k0_pay58 (F := Ideal) ok S D (σ : EReal) (ix2 j r)
    = ((dsc (fun j => N j r) (fun j => s j r) σ (fun j => d j r) j : ℝ) : EReal) := by
  pointwise [k0_pay58]
  rw [pay56 ok S σ N s hok hS, hD, pay57 ok S D σ N s d hok hS hD, ← EReal.coe_sub, ← EReal.coe_mul]
  rfl

/-- The gradient of the sink, added to what was there. -/
theorem pay60 (r : Fin 128) (x : Vec Ideal S1x128 .f32) : k0_pay60 (F := Ideal) ok S D (σ : EReal) x (ix2 0 r)
    = x (ix2 0 r) + ((dsk (fun j => N j r) (fun j => s j r) σ (fun j => d j r) : ℝ) : EReal) := by
  pointwise [k0_pay60]
  rw [pay54 ok S σ N s hok hS, pay55 ok S σ N s hok hS, pay57 ok S D σ N s d hok hS hD, ← EReal.coe_mul, ← EReal.coe_mul, zero_sub, ← EReal.coe_neg]
  rfl

end Head

end Cert.KernelIdeal.Tile

end

end
-- ==== Proof.Words.lean ====
/-
  Small positions as 32-bit words.
-/
module

public import Idealize.ShloMosaic.Lib.Pointwise
public import Idealize.ShloMosaic.Lib.WordCmp

@[expose] public section

namespace Cert.Words

open Idealize.ShloMosaic

/-- The difference of two small words. -/
theorem sub_word (a b : ℕ) (h : b ≤ a) : BitVec.ofNat 32 a - BitVec.ofNat 32 b = BitVec.ofNat 32 (a - b) := by
  apply BitVec.eq_of_toNat_eq
  simp only [BitVec.toNat_sub, BitVec.toNat_ofNat]
  omega

/-- The distance of two small words compared with 128. -/
theorem dist_word (a b : ℕ) (ha : a < 4096) (hb : b < 4096) :
    IntOp.cmpi CmpIPredicate.sle (IntOp.absi (IntOp.subi (BitVec.ofNat 32 a) (BitVec.ofNat 32 b))) 128#32 = 1#1 ↔ b ≤ a + 128 ∧ a ≤ b + 128 := by
  have e : IntOp.absi (IntOp.subi (BitVec.ofNat 32 a) (BitVec.ofNat 32 b)) = BitVec.ofNat 32 ((a - b) + (b - a)) := by
    unfold IntOp.absi IntOp.subi
    rcases le_total b a with h | h
    · rw [sub_word a b h, if_neg, show (a - b) + (b - a) = a - b by omega]
      rw [Bool.not_eq_true, BitVec.msb_eq_decide, decide_eq_false_iff_not, BitVec.toNat_ofNat]
      omega
    · rcases Nat.eq_or_lt_of_le h with rfl | h'
      · simp
      have e : BitVec.ofNat 32 a - BitVec.ofNat 32 b = -(BitVec.ofNat 32 (b - a)) := by
        rw [← sub_word b a h, BitVec.neg_sub, BitVec.sub_eq_add_neg, BitVec.add_comm]
      rw [e, if_pos, BitVec.neg_neg, show (a - b) + (b - a) = b - a by omega]
      rw [BitVec.msb_eq_decide, decide_eq_true_iff, BitVec.toNat_neg, BitVec.toNat_ofNat]
      omega
  rw [e, WordCmp.cmpi_sle_ofNat (by omega) (by omega)]
  simp only [WordCmp.ofBool_decide_eq_one_iff]
  omega

/-- Two one-bit words that are both set. -/
theorem andi_iff (a b : BitVec 1) : IntOp.andi a b = 1#1 ↔ a = 1#1 ∧ b = 1#1 := by
  revert a b; decide

end Cert.Words

end
-- ==== Proof.TripReal.lean ====
/-
  One trip of the kernel's loop over query blocks on real data: its mask, its scores, what it adds to each buffer, in
  terms of the gradient of the attention over the reals.
-/
module

public import proofs.«01_k».proof.Proof.Tile
public import proofs.«01_k».proof.Proof.Words
public import Idealize.ShloMosaic.Lib.FinSumWindow

@[expose] public section

set_option maxRecDepth 16384

noncomputable section

namespace Cert.KernelIdeal.TripReal

open scoped BigOperators
open Cert.KernelIdeal Cert.KernelIdeal.Gen Cert.KernelIdeal.Trip Idealize.ShloMosaic Idealize.ShloMosaic.TcCoe
open Cert.Spec (lane2 lane8 lane2_surj lane8_surj grp near sc dp wgt gsc dsc dsk pr Lists)

/-! ## Rows, keys, heads and lanes -/

theorem lt16 (k : Fin k0_t1_loop.trips) : k.val < 16 := trips1 ▸ k.isLt

/-- The position of query row `r` of trip `k`. -/
def row (k : Fin k0_t1_loop.trips) (r : Fin 128) : Fin 2048 := ⟨128 * k.val + r.val, by have := lt16 k; omega⟩

/-- The position of key row `j` of trip `k`. -/
def key (k : Fin k0_t1_loop.trips) (j : Fin 384) : Fin 2048 := ⟨start k.val + j.val, by have : start k.val ≤ 1664 := min_le_left _ _; omega⟩

/-- The query head in half `e` of pair `p`. -/
def hd (p : Fin 4) (e : Fin 2) : Fin 8 := ⟨2 * p.val + e.val, by omega⟩

/-- Lane `d` of half `e` of KV head `c` of an accumulator. -/
def lane4 (c e : Fin 2) (d : Fin 64) : Fin 256 := ⟨128 * c.val + 64 * e.val + d.val, by omega⟩

theorem lane4_surj (l : Fin 256) : ∃ c e d, l = lane4 c e d :=
  ⟨⟨l.val / 128, by omega⟩, ⟨l.val % 128 / 64, by omega⟩, ⟨l.val % 64, by omega⟩,
    Fin.ext (by show l.val = 128 * (l.val / 128) + 64 * (l.val % 128 / 64) + l.val % 64; omega)⟩

theorem hd_surj (h : Fin 8) : ∃ p e, h = hd p e :=
  ⟨⟨h.val / 2, by omega⟩, ⟨h.val % 2, by omega⟩, Fin.ext (by show h.val = 2 * (h.val / 2) + h.val % 2; omega)⟩

theorem row_surj (u : Fin 2048) : ∃ k r, u = row k r :=
  ⟨⟨u.val / 128, by rw [trips1]; omega⟩, ⟨u.val % 128, by omega⟩, Fin.ext (by show u.val = 128 * (u.val / 128) + u.val % 128; omega)⟩

theorem grp_hd : ∀ p e, grp (hd p e) = kvOf p := by decide

/-! ## The mask -/

theorem base_word : ∀ k : Fin k0_t1_loop.trips, Scalar.muli (Scf.iv 0#32 1#32 k.val) 128#32 = BitVec.ofNat 32 (128 * k.val) := by decide +kernel

theorem start_word : ∀ k : Fin k0_t1_loop.trips,
    Scalar.minsi (1664#32) (Scalar.maxsi (0#32) (Scalar.subi (BitVec.ofNat 32 (128 * k.val)) 128#32)) = BitVec.ofNat 32 (start k.val) := by decide +kernel

theorem lt_word (r : ℕ) (h : r < 128) : IntOp.cmpi CmpIPredicate.slt (BitVec.ofNat 32 r) 64#32 = 1#1 ↔ r < 64 := by
  word_cmp

/-- The mask says whether the key lies within 128 of the query. -/
theorem ok_iff (k : Fin k0_t1_loop.trips) (j : Fin 384) (r : Fin 128) : okOf k (ix2 j r) = 1#1 ↔ near (row k r) (key k j) := by
  pointwise [okOf, k0_pay10]
  have h1 := base_word k
  have h2 := start_word k
  rw [← h1] at h2
  rw [h2, h1]
  have e1 : IntOp.addi (BitVec.ofNat 32 (128 * k.val)) (BitVec.ofNat 32 r.val) = BitVec.ofNat 32 (128 * k.val + r.val) := by
    unfold IntOp.addi; rw [BitVec.ofNat_add]
  have e2 : IntOp.addi (BitVec.ofNat 32 (start k.val)) (BitVec.ofNat 32 j.val) = BitVec.ofNat 32 (start k.val + j.val) := by
    unfold IntOp.addi; rw [BitVec.ofNat_add]
  rw [e1, e2]
  exact Words.dist_word _ _ (by have := (row k r).isLt; show (row k r).val < 4096; omega) (by have := (key k j).isLt; show (key k j).val < 4096; omega)

/-- The key rows of a trip hold every key within 128 of one of its queries. -/
theorem range (k : Fin k0_t1_loop.trips) (r : Fin 128) (t : Fin 2048) (h : near (row k r) t) : start k.val ≤ t.val ∧ t.val < start k.val + 384 := by
  have h1 : t.val ≤ 128 * k.val + r.val + 128 := h.1
  have h2 : 128 * k.val + r.val ≤ t.val + 128 := h.2
  have := lt16 k
  unfold start
  omega

theorem lists (k : Fin k0_t1_loop.trips) (r : Fin 128) : Lists (fun j => near (row k r) (key k j)) (near (row k r)) (key k) where
  into _ h := h
  inj i j _ _ h := Fin.ext (by have : start k.val + i.val = start k.val + j.val := congrArg Fin.val h; omega)
  onto t h := by
    have hr := range k r t h
    have e : key k ⟨t.val - start k.val, by omega⟩ = t := Fin.ext (by show start k.val + (t.val - start k.val) = t.val; omega)
    exact ⟨⟨t.val - start k.val, by omega⟩, by rw [e]; exact h, e⟩

/-! ## The operands -/

theorem window_of {N M R C o c : ℕ} {α : Type} (x : (⟨3, ![1, N, M]⟩ : Shape).Idx → α) (off : Fin 3 → ℕ) (e : off = ![0, o, c])
    (inb : ∀ d : Fin 3, off d + (![1, R, C] : Fin 3 → ℕ) d ≤ (![1, N, M] : Fin 3 → ℕ) d)
    (a : Fin 1) (r : Fin R) (l : Fin C) (r' : Fin N) (l' : Fin M) (hr : r'.val = o + r.val) (hl : l'.val = c + l.val) :
    VecWindow.window x off ![1, R, C] inb (ix3 a r l) = x (ix3 0 r' l') := by
  subst e
  refine (Windows.window3 x inb a r l).trans (congrArg x ?_)
  rw [show (⟨o + r.val, by have : o + R ≤ N := inb 1; omega⟩ : Fin N) = r' from Fin.ext hr.symm,
    show (⟨c + l.val, by have : c + C ≤ M := inb 2; omega⟩ : Fin M) = l' from Fin.ext hl.symm]
  rfl

theorem keysOf_apply (k : Fin k0_t1_loop.trips) (x : Vec Ideal S1x2048x128 .bf16) (j : Fin 384) (l : Fin 128) :
    keysOf k x (ix3 0 j l) = x (ix3 0 (key k j) l) :=
  window_of x _ (off1_eq k) _ 0 j l _ _ rfl (Nat.zero_add _).symm

theorem rowsOf_apply (k : Fin k0_t1_loop.trips) (x : Vec Ideal S1x2048x512 .bf16) (p : Fin 4) (r : Fin 128) (e : Fin 2) (d : Fin 64) :
    rowsOf k x p (ix3 0 r (lane2 e d)) = x (ix3 0 (row k r) (lane8 (hd p e) d)) := by
  match p with
  | ⟨0, _⟩ => exact window_of x _ (off2_eq k) _ 0 r (lane2 e d) _ _ rfl (by show 64 * (2 * 0 + e.val) + d.val = 0 + (64 * e.val + d.val); omega)
  | ⟨1, _⟩ => exact window_of x _ (off3_eq k) _ 0 r (lane2 e d) _ _ rfl (by show 64 * (2 * 1 + e.val) + d.val = 128 + (64 * e.val + d.val); omega)
  | ⟨2, _⟩ => exact window_of x _ (off4_eq k) _ 0 r (lane2 e d) _ _ rfl (by show 64 * (2 * 2 + e.val) + d.val = 256 + (64 * e.val + d.val); omega)
  | ⟨3, _⟩ => exact window_of x _ (off5_eq k) _ 0 r (lane2 e d) _ _ rfl (by show 64 * (2 * 3 + e.val) + d.val = 384 + (64 * e.val + d.val); omega)

theorem skOf_apply (x : Vec Ideal S8 .f32) (p : Fin 4) (e : Fin 2) : skOf x p e = x (ix1 (hd p e)) := by
  match p, e with
  | ⟨0, _⟩, ⟨0, _⟩ => exact congrArg x (funext fun d => match d with | ⟨0, _⟩ => rfl)
  | ⟨0, _⟩, ⟨1, _⟩ => exact congrArg x (funext fun d => match d with | ⟨0, _⟩ => rfl)
  | ⟨1, _⟩, ⟨0, _⟩ => exact congrArg x (funext fun d => match d with | ⟨0, _⟩ => rfl)
  | ⟨1, _⟩, ⟨1, _⟩ => exact congrArg x (funext fun d => match d with | ⟨0, _⟩ => rfl)
  | ⟨2, _⟩, ⟨0, _⟩ => exact congrArg x (funext fun d => match d with | ⟨0, _⟩ => rfl)
  | ⟨2, _⟩, ⟨1, _⟩ => exact congrArg x (funext fun d => match d with | ⟨0, _⟩ => rfl)
  | ⟨3, _⟩, ⟨0, _⟩ => exact congrArg x (funext fun d => match d with | ⟨0, _⟩ => rfl)
  | ⟨3, _⟩, ⟨1, _⟩ => exact congrArg x (funext fun d => match d with | ⟨0, _⟩ => rfl)

theorem rot (d : Fin 64) (e e' : Fin 2) (h : e.val + e'.val = 1) (hp : ((lane2 e d).val + 128 - 64) % 128 < 128) :
    (⟨((lane2 e d).val + 128 - 64) % 128, hp⟩ : Fin 128) = lane2 e' d :=
  Fin.ext (by show (64 * e.val + d.val + 128 - 64) % 128 = 64 * e'.val + d.val; omega)

/-- The keys of KV head `kv` in lane half `e`. -/
theorem half_apply (kv e : Fin 2) (K : Vec Ideal S1x384x128 .bf16) (j : Fin 384) (e' : Fin 2) (d : Fin 64) :
    half kv e K (ix2 j (lane2 e' d)) = if e' = e then K (ix3 0 j (lane2 kv d)) else 0 := by
  have hb : IntOp.cmpi CmpIPredicate.slt (BitVec.ofNat 32 (lane2 e' d).val) 64#32 = 1#1 ↔ e' = 0 :=
    (lt_word _ (lane2 e' d).isLt).trans ⟨fun h => Fin.ext (by have : 64 * e'.val + d.val < 64 := h; show e'.val = 0; omega), fun h => by subst h; show 64 * 0 + d.val < 64; omega⟩
  match kv, e with
  | ⟨0, _⟩, ⟨0, _⟩ =>
    show k0_pay15 K (ix2 j (lane2 e' d)) = _
    pointwise [k0_pay15, k0_pay12, k0_pay14, k0_pay13, k0_pay11]
    rw [Tile.select_iff _ _ hb]
    by_cases h : e' = 0
    · subst h; rw [if_pos rfl]
    · rw [if_neg h, if_neg h]
  | ⟨0, _⟩, ⟨1, _⟩ =>
    show k0_pay16 K (ix2 j (lane2 e' d)) = _
    pointwise [k0_pay16, k0_pay12, k0_pay14, k0_pay13, k0_pay11]
    rw [Tile.select_iff _ _ hb]
    by_cases h : e' = 0
    · subst h; rw [if_pos rfl, if_neg (by decide)]
    · have h1 : e' = 1 := by omega
      subst h1; rw [if_neg h, if_pos rfl, rot d 1 0 rfl]
  | ⟨1, _⟩, ⟨0, _⟩ =>
    show k0_pay17 K (ix2 j (lane2 e' d)) = _
    pointwise [k0_pay17, k0_pay12, k0_pay14, k0_pay13, k0_pay11]
    rw [Tile.select_iff _ _ hb]
    by_cases h : e' = 0
    · subst h; rw [if_pos rfl, if_pos rfl, rot d 0 1 rfl]
    · rw [if_neg h, if_neg h]
  | ⟨1, _⟩, ⟨1, _⟩ =>
    show k0_pay18 K (ix2 j (lane2 e' d)) = _
    pointwise [k0_pay18, k0_pay12, k0_pay14, k0_pay13, k0_pay11]
    rw [Tile.select_iff _ _ hb]
    by_cases h : e' = 0
    · subst h; rw [if_pos rfl, if_neg (by decide)]
    · have h1 : e' = 1 := by omega
      subst h1; rw [if_neg h, if_pos rfl]

/-- A sum over the lanes of a pair of which only half `e` counts. -/
theorem sum_half {M : Type} [AddCommMonoid M] (e : Fin 2) (f : Fin 128 → M) (h : ∀ e' d, e' ≠ e → f (lane2 e' d) = 0) : ∑ l, f l = ∑ d, f (lane2 e d) := by
  refine FinSumWindow.sum_window (64 * e.val) (by omega) f fun l hl => ?_
  obtain ⟨e', d, rfl⟩ := lane2_surj l
  refine h e' d fun he => hl ?_
  subst he
  show 64 * e'.val ≤ 64 * e'.val + d.val ∧ 64 * e'.val + d.val < 64 * e'.val + 64
  omega

/-! ## The scores -/

section Score
variable (p : Fin 4) (e : Fin 2) (K : Vec Ideal S1x384x128 .bf16) (Q : Fin 4 → Vec Ideal S1x128x128 .bf16)
variable (a : Fin 384 → Fin 2 → Fin 64 → ℝ) (b : Fin 128 → Fin 8 → Fin 64 → ℝ)

theorem score_apply (hK : ∀ j c d, K (ix3 0 j (lane2 c d)) = (a j c d : EReal)) (hQ : ∀ r p e d, Q p (ix3 0 r (lane2 e d)) = (b r (hd p e) d : EReal))
    (j : Fin 384) (r : Fin 128) : score p e K Q (ix2 j r) = ((∑ d, a j (grp (hd p e)) d * b r (hd p e) d : ℝ) : EReal) := by
  pointwise [score, k0_pay35, k0_pay27]
  rw [sum_half e _ fun e' d h => by rw [half_apply, if_neg h, zero_mul]]
  refine Reals.sum_eq _ _ fun d => ?_
  rw [half_apply, if_pos rfl, hK, hQ, grp_hd, EReal.coe_mul]

end Score

/-! ## A trip on one batch entry's data -/

/-- One batch entry's data, held as real numbers. -/
structure Holds (x0 : Vec Ideal S8 .f32) (x1 : Vec Ideal S1x2048x512 .bf16) (x2 x3 : Vec Ideal S1x2048x128 .bf16) (x4 : Vec Ideal S1x2048x512 .bf16)
    (q : Fin 2048 → Fin 8 → Fin 64 → ℝ) (k v : Fin 2048 → Fin 2 → Fin 64 → ℝ) (σ : Fin 8 → ℝ) (o : Fin 2048 → Fin 8 → Fin 64 → ℝ) : Prop where
  h0 : ∀ h, x0 (ix1 h) = (σ h : EReal)
  h1 : ∀ u h d, x1 (ix3 0 u (lane8 h d)) = ((q u h d * (1 / 8) : ℝ) : EReal)
  h2 : ∀ t c d, x2 (ix3 0 t (lane2 c d)) = (k t c d : EReal)
  h3 : ∀ t c d, x3 (ix3 0 t (lane2 c d)) = (v t c d : EReal)
  h4 : ∀ u h d, x4 (ix3 0 u (lane8 h d)) = (o u h d : EReal)

section Trip
variable {x0 : Vec Ideal S8 .f32} {x1 : Vec Ideal S1x2048x512 .bf16} {x2 x3 : Vec Ideal S1x2048x128 .bf16} {x4 : Vec Ideal S1x2048x512 .bf16}
variable {q : Fin 2048 → Fin 8 → Fin 64 → ℝ} {k v : Fin 2048 → Fin 2 → Fin 64 → ℝ} {σ : Fin 8 → ℝ} {o : Fin 2048 → Fin 8 → Fin 64 → ℝ}
variable (H : Holds x0 x1 x2 x3 x4 q k v σ o) (n : Fin k0_t1_loop.trips)
include H

theorem sk_eq (p : Fin 4) (e : Fin 2) : skOf x0 p e = (σ (hd p e) : EReal) := (skOf_apply x0 p e).trans (H.h0 _)

theorem sc_eq (p : Fin 4) (e : Fin 2) (j : Fin 384) (r : Fin 128) :
    score p e (keysOf n x2) (rowsOf n x1) (ix2 j r) = (sc q k (hd p e) (row n r) (key n j) : EReal) :=
  score_apply p e (keysOf n x2) (rowsOf n x1) (fun j c d => k (key n j) c d) (fun r h d => q (row n r) h d * (1 / 8))
    (fun j c d => by rw [keysOf_apply, H.h2]) (fun r p e d => by rw [rowsOf_apply, H.h1]) j r

theorem dp_eq (p : Fin 4) (e : Fin 2) (j : Fin 384) (r : Fin 128) :
    score p e (keysOf n x3) (rowsOf n x4) (ix2 j r) = (dp v o (hd p e) (row n r) (key n j) : EReal) :=
  score_apply p e (keysOf n x3) (rowsOf n x4) (fun j c d => v (key n j) c d) (fun r h d => o (row n r) h d)
    (fun j c d => by rw [keysOf_apply, H.h3]) (fun r p e d => by rw [rowsOf_apply, H.h4]) j r

theorem pn_eq (p : Fin 4) (e : Fin 2) (j : Fin 384) (r : Fin 128) :
    pn (okOf n) (skOf x0) (keysOf n x2) (rowsOf n x1) p e (ix2 j r) = (wgt q k σ (hd p e) (row n r) (key n j) : EReal) := by
  unfold pn
  rw [sk_eq H]
  refine (Tile.pay59 (okOf n) _ (σ (hd p e)) (fun j r => near (row n r) (key n j)) (fun j r => sc q k (hd p e) (row n r) (key n j))
    (ok_iff n) (sc_eq H n p e) j r).trans (congrArg Real.toEReal ?_)
  by_cases h : near (row n r) (key n j)
  · exact (lists n r).pr_eq _ (sc q k (hd p e) (row n r)) _ (fun _ _ => rfl) j h
  · exact (Spec.pr_of_not (fun j => near (row n r) (key n j)) _ _ j h).trans (Spec.pr_of_not (near (row n r)) _ _ _ h).symm

theorem ds_eq (p : Fin 4) (e : Fin 2) (j : Fin 384) (r : Fin 128) :
    ds (okOf n) (skOf x0) (keysOf n x2) (keysOf n x3) (rowsOf n x1) (rowsOf n x4) p e (ix2 j r) = (gsc q k v σ o (hd p e) (row n r) (key n j) : EReal) := by
  unfold ds
  rw [sk_eq H]
  refine (Tile.pay58 (okOf n) _ _ (σ (hd p e)) (fun j r => near (row n r) (key n j)) (fun j r => sc q k (hd p e) (row n r) (key n j))
    (fun j r => dp v o (hd p e) (row n r) (key n j)) (ok_iff n) (sc_eq H n p e) (dp_eq H n p e) j r).trans (congrArg Real.toEReal ?_)
  by_cases h : near (row n r) (key n j)
  · exact (lists n r).dsc_eq _ (sc q k (hd p e) (row n r)) _ (fun _ _ => rfl) _ (dp v o (hd p e) (row n r)) (fun _ _ => rfl) j h
  · exact (Spec.dsc_of_not (fun j => near (row n r) (key n j)) _ _ _ j h).trans (Spec.dsc_of_not (near (row n r)) _ _ _ _ h).symm

theorem sinkRow_eq (p : Fin 4) (e : Fin 2) (x : Vec Ideal S1x128 .f32) (r : Fin 128) :
    sinkRow (okOf n) (skOf x0) (keysOf n x2) (keysOf n x3) (rowsOf n x1) (rowsOf n x4) p e x (ix2 0 r)
      = x (ix2 0 r) + (dsk (near (row n r)) (sc q k (hd p e) (row n r)) (σ (hd p e)) (dp v o (hd p e) (row n r)) : EReal) := by
  unfold sinkRow
  rw [sk_eq H]
  refine (Tile.pay60 (okOf n) _ _ (σ (hd p e)) (fun j r => near (row n r) (key n j)) (fun j r => sc q k (hd p e) (row n r) (key n j))
    (fun j r => dp v o (hd p e) (row n r) (key n j)) (ok_iff n) (sc_eq H n p e) (dp_eq H n p e) r x).trans ?_
  rw [(lists n r).dsk_eq _ (sc q k (hd p e) (row n r)) _ (fun _ _ => rfl) _ (dp v o (hd p e) (row n r)) (fun _ _ => rfl)]

/-- The queries' gradient of a pair of heads. -/
theorem dqPair_eq (p : Fin 4) (r : Fin 128) (e : Fin 2) (d : Fin 64) :
    dqPair (okOf n) (skOf x0) (keysOf n x2) (keysOf n x3) (rowsOf n x1) (rowsOf n x4) p (ix2 r (lane2 e d))
      = (Spec.dq q k v σ o (row n r) (hd p e) d : EReal) := by
  have one : ∀ e, (∑ j, ds (okOf n) (skOf x0) (keysOf n x2) (keysOf n x3) (rowsOf n x1) (rowsOf n x4) p e (ix2 j r) * half (kvOf p) e (keysOf n x2) (ix2 j (lane2 e d)))
      = (Spec.dq q k v σ o (row n r) (hd p e) d : EReal) := fun e => by
    unfold Spec.dq
    rw [← (lists n r).sum (fun j => gsc q k v σ o (hd p e) (row n r) (key n j) * k (key n j) (grp (hd p e)) d) _
      (fun j h => by unfold gsc; rw [Spec.dsc_of_not (near (row n r)) _ _ _ (key n j) h, zero_mul]) (fun j h => by unfold gsc; rw [Spec.dsc_of_not _ _ _ _ _ h, zero_mul])
      fun _ _ => rfl]
    refine Reals.sum_eq _ _ fun j => ?_
    rw [ds_eq H, half_apply, if_pos rfl, keysOf_apply, H.h2, grp_hd, EReal.coe_mul]
  have zero : ∀ e' : Fin 2, e ≠ e' → (∑ j, ds (okOf n) (skOf x0) (keysOf n x2) (keysOf n x3) (rowsOf n x1) (rowsOf n x4) p e' (ix2 j r) * half (kvOf p) e' (keysOf n x2) (ix2 j (lane2 e d))) = 0 :=
    fun e' h => Finset.sum_eq_zero fun j _ => by rw [half_apply, if_neg h, mul_zero]
  pointwise [dqPair]
  match e with
  | ⟨0, _⟩ => exact (congrArg₂ (· + ·) (one 0) (zero 1 fun h => absurd (congrArg Fin.val h) Nat.zero_ne_one)).trans (add_zero _)
  | ⟨1, _⟩ => exact (congrArg₂ (· + ·) (zero 0 fun h => absurd (congrArg Fin.val h) Nat.one_ne_zero) (one 1)).trans (zero_add _)

end Trip

end Cert.KernelIdeal.TripReal

end

end
-- ==== Proof.TripAcc.lean ====
/-
  The kernel's body on real data: the blocks it leaves are the attention's gradients over the reals.
-/
module

public import proofs.«01_k».proof.Proof.TripReal
public import proofs.«01_k».proof.Proof.Body

@[expose] public section

set_option maxRecDepth 16384

noncomputable section

namespace Cert.KernelIdeal.TripReal

open scoped BigOperators
open Cert.KernelIdeal Cert.KernelIdeal.Gen Cert.KernelIdeal.Trip Idealize.ShloMosaic Idealize.ShloMosaic.TcCoe
open Cert.Spec (lane2 lane8 lane2_surj lane8_surj grp near sc dp wgt gsc dsc dsk pr mem Lists)

/-! ## Rows put and read at computed offsets -/

theorem put_of {N M R o : ℕ} {α : Type} (x : (⟨2, ![N, M]⟩ : Shape).Idx → α) (off : Fin 2 → ℕ) (e : off = ![o, 0])
    (w : (⟨2, ![R, M]⟩ : Shape).Idx → α) (r : Fin N) (l : Fin M) :
    VecWindow.put x off ![R, M] w (ix2 r l) = if h : o ≤ r.val ∧ r.val < o + R then w (ix2 ⟨r.val - o, by omega⟩ l) else x (ix2 r l) := by
  subst e
  exact Windows.put2 x w r l

theorem window2_of {N M R C o c : ℕ} {α : Type} (x : (⟨2, ![N, M]⟩ : Shape).Idx → α) (off : Fin 2 → ℕ) (e : off = ![o, c])
    (inb : ∀ d : Fin 2, off d + (![R, C] : Fin 2 → ℕ) d ≤ (![N, M] : Fin 2 → ℕ) d)
    (r : Fin R) (l : Fin C) (r' : Fin N) (l' : Fin M) (hr : r'.val = o + r.val) (hl : l'.val = c + l.val) :
    VecWindow.window x off ![R, C] inb (ix2 r l) = x (ix2 r' l') := by
  subst e
  refine (Windows.window2 x inb r l).trans (congrArg x ?_)
  rw [show (⟨o + r.val, by have : o + R ≤ N := inb 0; omega⟩ : Fin N) = r' from Fin.ext hr.symm,
    show (⟨c + l.val, by have : c + C ≤ M := inb 1; omega⟩ : Fin M) = l' from Fin.ext hl.symm]
  rfl

/-! ## The queries' gradient -/

section Dq
variable {x0 : Vec Ideal S8 .f32} {x1 : Vec Ideal S1x2048x512 .bf16} {x2 x3 : Vec Ideal S1x2048x128 .bf16} {x4 : Vec Ideal S1x2048x512 .bf16}
variable {q : Fin 2048 → Fin 8 → Fin 64 → ℝ} {k v : Fin 2048 → Fin 2 → Fin 64 → ℝ} {σ : Fin 8 → ℝ} {o : Fin 2048 → Fin 8 → Fin 64 → ℝ}
variable (H : Holds x0 x1 x2 x3 x4 q k v σ o)
include H

theorem dqRows_eq (n : Fin k0_t1_loop.trips) (r : Fin 128) (h : Fin 8) (d : Fin 64) :
    dqRows x0 x1 x2 x3 x4 n (ix3 0 r (lane8 h d)) = (Spec.dq q k v σ o (row n r) h d : EReal) := by
  obtain ⟨p, e, rfl⟩ := hd_surj h
  unfold dqRows
  pointwise [dqAll, k0_pay136]
  have fin : ∀ (p : Fin 4) (l : Fin 128), l = lane2 e d →
      dqPair (okOf n) (skOf x0) (keysOf n x2) (keysOf n x3) (rowsOf n x1) (rowsOf n x4) p (ix2 r l) = (Spec.dq q k v σ o (row n r) (hd p e) d : EReal) := by
    rintro p _ rfl
    exact dqPair_eq H n p r e d
  match p with
  | ⟨0, _⟩ =>
    refine (dif_pos (by show 64 * (2 * 0 + e.val) + d.val < 128; omega)).trans ?_
    exact fin 0 _ (Fin.ext (by show 64 * (2 * 0 + e.val) + d.val = 64 * e.val + d.val; omega))
  | ⟨1, _⟩ =>
    refine (dif_neg (by show ¬64 * (2 * 1 + e.val) + d.val < 128; omega)).trans ?_
    refine (dif_pos (by show 64 * (2 * 1 + e.val) + d.val - 128 < 128; omega)).trans ?_
    exact fin 1 _ (Fin.ext (by show 64 * (2 * 1 + e.val) + d.val - 128 = 64 * e.val + d.val; omega))
  | ⟨2, _⟩ =>
    refine (dif_neg (by show ¬64 * (2 * 2 + e.val) + d.val < 128; omega)).trans ?_
    refine (dif_neg (by show ¬64 * (2 * 2 + e.val) + d.val - 128 < 128; omega)).trans ?_
    refine (dif_pos (by show 64 * (2 * 2 + e.val) + d.val - 128 - 128 < 128; omega)).trans ?_
    exact fin 2 _ (Fin.ext (by show 64 * (2 * 2 + e.val) + d.val - 128 - 128 = 64 * e.val + d.val; omega))
  | ⟨3, _⟩ =>
    refine (dif_neg (by show ¬64 * (2 * 3 + e.val) + d.val < 128; omega)).trans ?_
    refine (dif_neg (by show ¬64 * (2 * 3 + e.val) + d.val - 128 < 128; omega)).trans ?_
    refine (dif_neg (by show ¬64 * (2 * 3 + e.val) + d.val - 128 - 128 < 128; omega)).trans ?_
    exact fin 3 _ (Fin.ext (by show 64 * (2 * 3 + e.val) + d.val - 128 - 128 - 128 = 64 * e.val + d.val; omega))

/-- The queries' gradient of the whole block. -/
theorem dqBlk_eq (u : Fin 2048) (h : Fin 8) (d : Fin 64) : dqBlk x0 x1 x2 x3 x4 (ix3 0 u (lane8 h d)) = (Spec.dq q k v σ o u h d : EReal) := by
  refine (dqRows_eq H ⟨u.val / 128, by rw [trips1]; omega⟩ ⟨u.val % 128, Nat.mod_lt _ (by decide)⟩ h d).trans ?_
  rw [show row ⟨u.val / 128, by rw [trips1]; omega⟩ ⟨u.val % 128, Nat.mod_lt _ (by decide)⟩ = u from
    Fin.ext (by show 128 * (u.val / 128) + u.val % 128 = u.val; omega)]

end Dq

/-! ## Sums over the trips -/

/-- A sum over the rows of the first `n + 1` trips. -/
theorem sum_step {f : Fin 2048 → ℝ} (n : Fin k0_t1_loop.trips) :
    (∑ u : Fin 2048, if u.val < 128 * (n.val + 1) then f u else 0) = (∑ u : Fin 2048, if u.val < 128 * n.val then f u else 0) + ∑ r, f (row n r) := by
  have hn := lt16 n
  have e : (∑ r, f (row n r)) = ∑ u : Fin 2048, if 128 * n.val ≤ u.val ∧ u.val < 128 * n.val + 128 then f u else 0 := by
    rw [FinSumWindow.sum_window (128 * n.val) (W := 128) (by omega) _ fun u hu => if_neg hu]
    exact Finset.sum_congr rfl fun r _ => (if_pos ⟨by show 128 * n.val ≤ 128 * n.val + r.val; omega, by show 128 * n.val + r.val < 128 * n.val + 128; omega⟩).symm
  rw [e, ← Finset.sum_add_distrib]
  refine Finset.sum_congr rfl fun u _ => ?_
  by_cases h1 : u.val < 128 * n.val
  · rw [if_pos h1, if_pos (by omega), if_neg (by omega), add_zero]
  · rw [if_neg h1, zero_add]
    by_cases h2 : u.val < 128 * n.val + 128
    · rw [if_pos (by omega), if_pos (by omega)]
    · rw [if_neg (by omega), if_neg (by omega)]

theorem sum_all {f : Fin 2048 → ℝ} : (∑ u : Fin 2048, if u.val < 128 * 16 then f u else 0) = ∑ u, f u :=
  Finset.sum_congr rfl fun u _ => if_pos u.isLt

/-! ## The accumulators -/

/-- Pair `i` of KV head `c`. -/
def pairOf (c i : Fin 2) : Fin 4 := ⟨2 * c.val + i.val, by omega⟩

theorem lane_lt (e : Fin 2) (d : Fin 64) : IntOp.cmpi CmpIPredicate.slt (BitVec.ofNat 32 (lane2 e d).val) 64#32 = 1#1 ↔ e = 0 :=
  (lt_word _ (lane2 e d).isLt).trans ⟨fun h => Fin.ext (by have : 64 * e.val + d.val < 64 := h; show e.val = 0; omega), fun h => by subst h; show 64 * 0 + d.val < 64; omega⟩

section Acc
variable (w : Fin 4 → Fin 2 → FVec Ideal S384x128 .bf16) (R : Fin 4 → Vec Ideal S1x128x128 .bf16)
variable (W : Fin 8 → Fin 2048 → Fin 2048 → ℝ) (X : Fin 2048 → Fin 8 → Fin 64 → ℝ) (n : Fin k0_t1_loop.trips)
variable (hw : ∀ p e j r, w p e (ix2 j r) = (W (hd p e) (row n r) (key n j) : EReal))
variable (hR : ∀ p r e d, R p (ix3 0 r (lane2 e d)) = (X (row n r) (hd p e) d : EReal))
include hw hR

theorem pairSum_eq (p : Fin 4) (j : Fin 384) (e : Fin 2) (d : Fin 64) :
    pairSum w R p (ix2 j (lane2 e d)) = ((∑ r, W (hd p e) (row n r) (key n j) * X (row n r) (hd p e) d : ℝ) : EReal) := by
  have one : ∀ e, (∑ r, w p e (ix2 j r) * R p (ix3 0 r (lane2 e d))) = ((∑ r, W (hd p e) (row n r) (key n j) * X (row n r) (hd p e) d : ℝ) : EReal) :=
    fun e => Reals.sum_eq _ _ fun r => by rw [hw, hR, EReal.coe_mul]
  pointwise [pairSum, k0_pay137, k0_pay27]
  rw [Tile.select_iff _ _ (lane_lt e d)]
  match e with
  | ⟨0, _⟩ => exact (if_pos rfl).trans (one 0)
  | ⟨1, _⟩ => exact (if_neg fun h => absurd (congrArg Fin.val h) Nat.one_ne_zero).trans (one 1)

theorem accAdd_eq (j : Fin 384) (c e : Fin 2) (d : Fin 64) :
    accAdd w R (ix2 j (lane4 c e d)) = ((∑ i, ∑ r, W (hd (pairOf c i) e) (row n r) (key n j) * X (row n r) (hd (pairOf c i) e) d : ℝ) : EReal) := by
  have fin : ∀ (p : Fin 4) (l : Fin 128), l = lane2 e d →
      pairSum w R p (ix2 j l) = ((∑ r, W (hd p e) (row n r) (key n j) * X (row n r) (hd p e) d : ℝ) : EReal) := by
    rintro p _ rfl
    exact pairSum_eq w R W X n hw hR p j e d
  rw [Fin.sum_univ_two, EReal.coe_add]
  pointwise [accAdd]
  match c with
  | ⟨0, _⟩ =>
    refine (dif_pos (by show 128 * 0 + 64 * e.val + d.val < 128; omega)).trans ?_
    have hl : 128 * 0 + 64 * e.val + d.val = 64 * e.val + d.val := by omega
    exact congrArg₂ (· + ·) (fin 0 _ (Fin.ext hl)) (fin 1 _ (Fin.ext hl))
  | ⟨1, _⟩ =>
    refine (dif_neg (by show ¬128 * 1 + 64 * e.val + d.val < 128; omega)).trans ?_
    have hl : 128 * 1 + 64 * e.val + d.val - 128 = 64 * e.val + d.val := by omega
    exact congrArg₂ (· + ·) (fin 2 _ (Fin.ext hl)) (fin 3 _ (Fin.ext hl))

end Acc

/-- The folded rows: each lane half of a KV head with the other half added. -/
theorem foldRows_eq (acc : Vec Ideal S2048x256 .f32) (m : Fin k0_t2_loop.trips) (j : Fin 256) (t : Fin 2048) (ht : t.val = 256 * m.val + j.val)
    (c : Fin 2) (d : Fin 64) : foldRows acc m (ix3 0 j (lane2 c d)) = acc (ix2 t (lane4 c c d)) + acc (ix2 t (lane4 c (1 - c) d)) := by
  have w8 : ∀ l (l' : Fin 256), l'.val = l.val → VecWindow.window acc (k0_off8 m) ![256, 128] (k0_off8_inb _) (ix2 j l)
      = acc (ix2 t l') := fun l l' hl => window2_of acc _ (off8_eq _) _ _ l t l' ht (by omega)
  have w9 : ∀ l (l' : Fin 256), l'.val = 128 + l.val → VecWindow.window acc (k0_off9 m) ![256, 128] (k0_off9_inb _) (ix2 j l)
      = acc (ix2 t l') := fun l l' hl => window2_of acc _ (off9_eq _) _ _ l t l' ht (by omega)
  unfold foldRows
  pointwise [k0_pay7, k0_pay6]
  rw [Tile.select_iff _ _ (lane_lt c d)]
  match c with
  | ⟨0, _⟩ =>
    refine (if_pos rfl).trans (congrArg₂ (· + ·) (w8 _ (lane4 0 0 d) ?_) (w8 _ (lane4 0 1 d) ?_))
    · show 128 * 0 + 64 * 0 + d.val = 64 * 0 + d.val; omega
    · show 128 * 0 + 64 * 1 + d.val = (64 * 0 + d.val + 128 - 64) % 128; omega
  | ⟨1, _⟩ =>
    refine (if_neg fun h => absurd (congrArg Fin.val h) Nat.one_ne_zero).trans (congrArg₂ (· + ·) (w9 _ (lane4 1 1 d) ?_) (w9 _ (lane4 1 0 d) ?_))
    · show 128 * 1 + 64 * 1 + d.val = 128 + (64 * 1 + d.val); omega
    · show 128 * 1 + 64 * 0 + d.val = 128 + (64 * 1 + d.val + 128 - 64) % 128; omega

section Fold
variable (add : Fin k0_t1_loop.trips → FVec Ideal S384x256 .f32) (W : Fin 8 → Fin 2048 → Fin 2048 → ℝ) (X : Fin 2048 → Fin 8 → Fin 64 → ℝ)
variable (hW : ∀ h u t, ¬near u t → W h u t = 0)
variable (hadd : ∀ n j c e d, add n (ix2 j (lane4 c e d)) = ((∑ i, ∑ r, W (hd (pairOf c i) e) (row n r) (key n j) * X (row n r) (hd (pairOf c i) e) d : ℝ) : EReal))
variable (a : Vec Ideal S2048x256 .f32) (ha : ∀ t l, a (ix2 t l) = 0)
include hW hadd ha

/-- An accumulator after `n` trips: the sums over the queries of those trips. -/
theorem accFold_eq (n : ℕ) (hn : n ≤ 16) (t : Fin 2048) (c e : Fin 2) (d : Fin 64) :
    accFold add a n (ix2 t (lane4 c e d))
      = ((∑ i, ∑ u : Fin 2048, (if u.val < 128 * n then W (hd (pairOf c i) e) u t * X u (hd (pairOf c i) e) d else 0) : ℝ) : EReal) := by
  induction n with
  | zero =>
    rw [show accFold add a 0 = a from rfl, ha]
    simp
  | succ n ih =>
    have hk : n < k0_t1_loop.trips := by rw [trips1]; omega
    have ih := ih (by omega)
    have st : ∀ i, (∑ u : Fin 2048, (if u.val < 128 * (n + 1) then W (hd (pairOf c i) e) u t * X u (hd (pairOf c i) e) d else 0))
      = (∑ u : Fin 2048, (if u.val < 128 * n then W (hd (pairOf c i) e) u t * X u (hd (pairOf c i) e) d else 0))
        + ∑ r, W (hd (pairOf c i) e) (row ⟨n, hk⟩ r) t * X (row ⟨n, hk⟩ r) (hd (pairOf c i) e) d := fun i => sum_step ⟨n, hk⟩
    simp only [st]
    rw [Finset.sum_add_distrib, accFold, dif_pos hk]
    refine (put_of (accFold add a n) _ (off7_eq ⟨n, hk⟩) _ t (lane4 c e d)).trans ?_
    show (if h : start n ≤ t.val ∧ t.val < start n + 384 then _ else _) = _
    by_cases h : start n ≤ t.val ∧ t.val < start n + 384
    · rw [dif_pos h, EReal.coe_add, ← ih]
      have et : key ⟨n, hk⟩ ⟨t.val - start n, by omega⟩ = t := Fin.ext (by show start n + (t.val - start n) = t.val; omega)
      have e1 := hadd ⟨n, hk⟩ ⟨t.val - start n, by omega⟩ c e d
      rw [et] at e1
      rw [← e1]
      pointwise [k0_pay4]
      rw [window2_of (accFold add a n) _ (off7_eq ⟨n, hk⟩) _ ⟨t.val - start n, by omega⟩ (lane4 c e d) t (lane4 c e d)
        (by show t.val = start n + (t.val - start n); omega) (Nat.zero_add _).symm]
    · rw [dif_neg h]
      have z : (∑ i, ∑ r, W (hd (pairOf c i) e) (row ⟨n, hk⟩ r) t * X (row ⟨n, hk⟩ r) (hd (pairOf c i) e) d) = 0 :=
        Finset.sum_eq_zero fun i _ => Finset.sum_eq_zero fun r _ => by
          rw [hW _ _ _ fun hnear => h (range ⟨n, hk⟩ r t hnear), zero_mul]
      rw [z, add_zero]
      exact ih

theorem foldBlk_eq (t : Fin 2048) (c : Fin 2) (d : Fin 64) :
    foldBlk (accFold add a 16) (ix3 0 t (lane2 c d)) = ((∑ i, ∑ u, W (mem c i) u t * X u (mem c i) d : ℝ) : EReal) := by
  have F := fun e => accFold_eq add W X hW hadd a ha 16 le_rfl t c e d
  simp only [sum_all] at F
  refine (foldRows_eq (accFold add a 16) ⟨t.val / 256, by rw [trips2]; omega⟩ ⟨t.val % 256, Nat.mod_lt _ (by decide)⟩ t
    (by show t.val = 256 * (t.val / 256) + t.val % 256; omega) c d).trans ?_
  rw [F, F, ← EReal.coe_add]
  refine congrArg Real.toEReal ?_
  rw [Fin.sum_univ_two, Fin.sum_univ_two, Fin.sum_univ_four]
  match c with
  | ⟨0, _⟩ => exact (add_add_add_comm _ _ _ _).trans (add_assoc _ _ _).symm
  | ⟨1, _⟩ => exact (add_comm _ _).trans ((add_add_add_comm _ _ _ _).trans (add_assoc _ _ _).symm)

end Fold

section Blocks
variable {x0 : Vec Ideal S8 .f32} {x1 : Vec Ideal S1x2048x512 .bf16} {x2 x3 : Vec Ideal S1x2048x128 .bf16} {x4 : Vec Ideal S1x2048x512 .bf16}
variable {q : Fin 2048 → Fin 8 → Fin 64 → ℝ} {k v : Fin 2048 → Fin 2 → Fin 64 → ℝ} {σ : Fin 8 → ℝ} {o : Fin 2048 → Fin 8 → Fin 64 → ℝ}
variable (H : Holds x0 x1 x2 x3 x4 q k v σ o)
include H

/-- The keys' gradient of the whole block. -/
theorem dkBlk_eq (t : Fin 2048) (c : Fin 2) (d : Fin 64) : Body.dkBlk x0 x1 x2 x3 x4 (ix3 0 t (lane2 c d)) = (Spec.dk q k v σ o t c d : EReal) := by
  unfold Body.dkBlk
  exact foldBlk_eq (dkAdd x0 x1 x2 x3 x4) (gsc q k v σ o) (fun u h d => q u h d * (1 / 8)) (fun h u t hn => Spec.dsc_of_not _ _ _ _ _ hn)
    (fun n j c e d => accAdd_eq _ _ (gsc q k v σ o) (fun u h d => q u h d * (1 / 8)) n (fun p e j r => ds_eq H n p e j r)
      (fun p r e d => by rw [rowsOf_apply, H.h1]) j c e d)
    (k0_pay2 (F := Ideal)) (fun t l => by pointwise [k0_pay2]) t c d

/-- The values' gradient of the whole block. -/
theorem dvBlk_eq (t : Fin 2048) (c : Fin 2) (d : Fin 64) : Body.dvBlk x0 x1 x2 x4 (ix3 0 t (lane2 c d)) = (Spec.dv q k σ o t c d : EReal) := by
  unfold Body.dvBlk
  exact foldBlk_eq (dvAdd x0 x1 x2 x4) (wgt q k σ) o (fun h u t hn => Spec.pr_of_not _ _ _ _ hn)
    (fun n j c e d => accAdd_eq _ _ (wgt q k σ) o n (fun p e j r => pn_eq H n p e j r)
      (fun p r e d => by rw [rowsOf_apply, H.h4]) j c e d)
    (k0_pay3 (F := Ideal)) (fun t l => by pointwise [k0_pay3]) t c d

/-! ## The sinks' gradient -/

/-- A row put over another is read back or leaves the others. -/
theorem put_row (x y : Vec Ideal S8x128 .f32) (a : ℕ) (w : Vec Ideal S1x128 .f32) (h : Fin 8) (r : Fin 128) (z : EReal)
    (h1 : h.val = a → w (ix2 0 r) = z) (h2 : h.val ≠ a → y (ix2 h r) = z) : VecWindow.put y ![a, 0] S1x128.size w (ix2 h r) = z := by
  refine (put_of y ![a, 0] rfl w h r).trans ?_
  by_cases e : h.val = a
  · rw [dif_pos (by omega)]
    exact (congrArg (fun i => w (ix2 i r)) (Fin.ext (by show h.val - a = 0; omega))).trans (h1 e)
  · rw [dif_neg (by omega)]
    exact h2 e

theorem win_row (x : Vec Ideal S8x128 .f32) (a : ℕ) (inb) (h : Fin 8) (r : Fin 128) (e : h.val = a) :
    VecWindow.window x ![a, 0] S1x128.size inb (ix2 0 r) = x (ix2 h r) :=
  window2_of x ![a, 0] rfl inb 0 r h r (by omega) (Nat.zero_add _).symm

/-- A trip adds its queries' terms to each head's row. -/
theorem sinkStep_eq (n : Fin k0_t1_loop.trips) (x : Vec Ideal S8x128 .f32) (h : Fin 8) (r : Fin 128) :
    sinkStep x0 x1 x2 x3 x4 n x (ix2 h r) = x (ix2 h r) + (dsk (near (row n r)) (sc q k h (row n r)) (σ h) (dp v o h (row n r)) : EReal) := by
  have S : ∀ (p : Fin 4) (e : Fin 2) (a : ℕ) (inb), h.val = a → a = 2 * p.val + e.val →
      sinkRow (okOf n) (skOf x0) (keysOf n x2) (keysOf n x3) (rowsOf n x1) (rowsOf n x4) p e (VecWindow.window x ![a, 0] S1x128.size inb) (ix2 0 r)
        = x (ix2 h r) + (dsk (near (row n r)) (sc q k h (row n r)) (σ h) (dp v o h (row n r)) : EReal) := fun p e a inb ha hp => by
    rw [sinkRow_eq H, win_row H x a inb h r ha, show hd p e = h from Fin.ext (by show 2 * p.val + e.val = h.val; omega)]
  unfold sinkStep
  refine put_row H x _ 7 _ h r _ (fun e7 => S 3 1 7 _ e7 rfl) fun h7 => ?_
  refine put_row H x _ 6 _ h r _ (fun e6 => S 3 0 6 _ e6 rfl) fun h6 => ?_
  refine put_row H x _ 5 _ h r _ (fun e5 => S 2 1 5 _ e5 rfl) fun h5 => ?_
  refine put_row H x _ 4 _ h r _ (fun e4 => S 2 0 4 _ e4 rfl) fun h4 => ?_
  refine put_row H x _ 3 _ h r _ (fun e3 => S 1 1 3 _ e3 rfl) fun h3 => ?_
  refine put_row H x _ 2 _ h r _ (fun e2 => S 1 0 2 _ e2 rfl) fun h2 => ?_
  refine put_row H x _ 1 _ h r _ (fun e1 => S 0 1 1 _ e1 rfl) fun h1 => ?_
  exact put_row H x _ 0 _ h r _ (fun e0 => S 0 0 0 _ e0 rfl) fun h0 => absurd h.isLt (by omega)

/-- The sinks' gradient after `n` trips: lane `r` has the terms of the queries `r` modulo 128. -/
theorem sinkFold_eq (a : Vec Ideal S8x128 .f32) (n : ℕ) (hn : n ≤ 16) (h : Fin 8) (r : Fin 128) :
    sinkFold x0 x1 x2 x3 x4 a n (ix2 h r) = a (ix2 h r)
      + ((∑ u : Fin 2048, (if u.val < 128 * n then (if u.val % 128 = r.val then dsk (near u) (sc q k h u) (σ h) (dp v o h u) else 0) else 0) : ℝ) : EReal) := by
  induction n with
  | zero =>
    rw [show sinkFold x0 x1 x2 x3 x4 a 0 = a from rfl]
    simp
  | succ n ih =>
    have hk : n < k0_t1_loop.trips := by rw [trips1]; omega
    rw [sinkFold, dif_pos hk, sinkStep_eq H, ih (by omega), add_assoc, ← EReal.coe_add]
    have st := sum_step (f := fun u => if u.val % 128 = r.val then dsk (near u) (sc q k h u) (σ h) (dp v o h u) else 0) ⟨n, hk⟩
    rw [st]
    refine congrArg (fun z : ℝ => a (ix2 h r) + (z : EReal)) (congrArg (_ + ·) ?_)
    rw [Finset.sum_eq_single r (fun b _ hb => if_neg fun e => hb (Fin.ext (by have : (128 * n + b.val) % 128 = r.val := e; omega))) fun hr => absurd (Finset.mem_univ r) hr]
    exact (if_pos (by show (128 * n + r.val) % 128 = r.val; omega)).symm

/-- The lanes' sum of what one batch entry adds. -/
theorem sum_lanes (f : Fin 2048 → ℝ) :
    (∑ r : Fin 128, ∑ u : Fin 2048, if u.val < 128 * 16 then (if u.val % 128 = r.val then f u else 0) else 0) = ∑ u, f u := by
  simp only [sum_all]
  rw [Finset.sum_comm]
  refine Finset.sum_congr rfl fun u _ => ?_
  rw [Finset.sum_eq_single ⟨u.val % 128, Nat.mod_lt _ (by decide)⟩ (fun b _ hb => if_neg fun e => hb (Fin.ext e.symm)) fun hr => absurd (Finset.mem_univ _) hr]
  exact if_pos rfl

end Blocks

/-- The sinks' gradient at the end of the grid: over both batch entries, in every lane. -/
theorem sink_eq {x0 y0 : Vec Ideal S8 .f32} {x1 y1 : Vec Ideal S1x2048x512 .bf16} {x2 x3 y2 y3 : Vec Ideal S1x2048x128 .bf16} {x4 y4 : Vec Ideal S1x2048x512 .bf16}
    {q q' : Fin 2048 → Fin 8 → Fin 64 → ℝ} {k v k' v' : Fin 2048 → Fin 2 → Fin 64 → ℝ} {σ σ' : Fin 8 → ℝ} {o o' : Fin 2048 → Fin 8 → Fin 64 → ℝ}
    (H : Holds x0 x1 x2 x3 x4 q k v σ o) (H' : Holds y0 y1 y2 y3 y4 q' k' v' σ' o') (h : Fin 8) (r : Fin 128) :
    Body.sinkLast y0 y1 y2 y3 y4 (Body.sinkFirst x0 x1 x2 x3 x4) (ix2 h r) = ((Spec.dsink q k v σ o h + Spec.dsink q' k' v' σ' o' h : ℝ) : EReal) := by
  unfold Body.sinkLast Body.sinkFirst
  pointwise [k0_pay9]
  have e : ∀ l, sinkFold y0 y1 y2 y3 y4 (sinkFold x0 x1 x2 x3 x4 (k0_pay1 (F := Ideal)) 16) 16 (ix2 h l)
      = (((∑ u : Fin 2048, (if u.val < 128 * 16 then (if u.val % 128 = l.val then dsk (near u) (sc q k h u) (σ h) (dp v o h u) else 0) else 0))
        + ∑ u : Fin 2048, (if u.val < 128 * 16 then (if u.val % 128 = l.val then dsk (near u) (sc q' k' h u) (σ' h) (dp v' o' h u) else 0) else 0) : ℝ) : EReal) := fun l => by
    rw [sinkFold_eq H' _ 16 le_rfl, sinkFold_eq H _ 16 le_rfl, EReal.coe_add]
    have z : (k0_pay1 (F := Ideal)) (ix2 h l) = 0 := by pointwise [k0_pay1]
    rw [z, zero_add]
  rw [Reals.sum_eq _ _ e, Finset.sum_add_distrib, sum_lanes H, sum_lanes H]
  rfl

end Cert.KernelIdeal.TripReal

end

end
-- ==== Proof.Final.lean ====
/-
  The kernel's four result arrays at the end of its run, on real arguments: the attention's gradients over the reals.
-/
module

public import proofs.«01_k».proof.Proof.Run
public import proofs.«01_k».proof.Proof.TripAcc
public import Idealize.ShloMosaic.Lib.Pipeline.ValueKit

@[expose] public section

set_option maxRecDepth 16384

noncomputable section

namespace Cert.KernelIdeal.Final

open scoped BigOperators
open Cert.KernelIdeal Cert.KernelIdeal.Gen Cert.KernelIdeal.Trip Cert.KernelIdeal.TripReal Cert.KernelIdeal.Run
open Idealize.ShloMosaic Idealize.ShloMosaic.TcCoe
open Idealize.ShloMosaic.Pipeline (Dat Cfg Window)
open Cert.Spec (lane2 lane8 lane2_surj lane8_surj)

/-! ## What the region finds in the packed arrays -/

section Entry
variable {F : FTy → Type} [FloatOps F] [Named F] (m : (ℓ : Loc nD τ sig) → Buf (Elt F) ℓ)

/-- The packed array: zeros, the queries' eighths, the keys, the values. -/
def packed (a0 : Vec F S2x2048x512 .f32) (a1 a2 : Vec F S2x2048x128 .f32) : Vec F S2x2048x2304 .bf16 :=
  concatenate S2x2048x2304 2 [⟨S2x2048x1536, broadcastInDim S2x2048x1536 ![] bcast_S_S2x2048x1536 (constant S_ .bf16 0x0000#16)⟩,
    ⟨S2x2048x512, truncf .bf16 (mulf a0 (broadcastInDim S2x2048x512 ![] bcast_S_S2x2048x512 (constant S_ .f32 0x3E000000#32))) bitsLt_bf16_f32⟩,
    ⟨S2x2048x128, truncf .bf16 a1 bitsLt_bf16_f32⟩, ⟨S2x2048x128, truncf .bf16 a2 bitsLt_bf16_f32⟩]
    concatenates_S2x2048x1536_S2x2048x512_S2x2048x128_S2x2048x128_S2x2048x2304_d2

theorem V_main_v6 (c : Dev nD) : V m c main_v6
    = packed (m ((c : Thread nD τ).loc main_arg0)) (m ((c : Thread nD τ).loc main_arg1)) (m ((c : Thread nD τ).loc main_arg2)) := by
  show StableHlo.after hostOps0 _ (Proc.devRef .tc main_v6) = _
  after_results
  rfl

theorem V_main_v7 (c : Dev nD) : V m c main_v7 = (truncf .bf16 (m ((c : Thread nD τ).loc main_arg4) : Vec F S2x2048x512 .f32) bitsLt_bf16_f32 : Vec F S2x2048x512 .bf16) := by
  show StableHlo.after hostOps0 _ (Proc.devRef .tc main_v7) = _
  after_results

end Entry

section Packed
variable (a0 : Vec Ideal S2x2048x512 .f32) (a1 a2 : Vec Ideal S2x2048x128 .f32) (b : Fin 2) (u : Fin 2048)

theorem eighth : Ideal.ofBits FTy.f32 1040187392#32 = ((1 / 8 : ℝ) : EReal) := by
  simp [Ideal.ofBits, Ideal.ieee]
  rw [← EReal.coe_mul]
  norm_num

theorem packed_q (l : Fin 512) (l' : Fin 2304) (h : l'.val = 1536 + l.val) : packed a0 a1 a2 (ix3 b u l') = a0 (ix3 b u l) * ((1 / 8 : ℝ) : EReal) := by
  pointwise [packed]
  rw [dif_neg (by omega), dif_pos (by omega), eighth, show (⟨l'.val - 1536, by omega⟩ : Fin 512) = l from Fin.ext (by show l'.val - 1536 = l.val; omega)]

theorem packed_k (l : Fin 128) (l' : Fin 2304) (h : l'.val = 2048 + l.val) : packed a0 a1 a2 (ix3 b u l') = a1 (ix3 b u l) := by
  pointwise [packed]
  rw [dif_neg (by omega), dif_neg (by omega), dif_pos (by omega), show (⟨l'.val - 1536 - 512, by omega⟩ : Fin 128) = l from Fin.ext (by show l'.val - 1536 - 512 = l.val; omega)]

theorem packed_v (l : Fin 128) (l' : Fin 2304) (h : l'.val = 2176 + l.val) : packed a0 a1 a2 (ix3 b u l') = a2 (ix3 b u l) := by
  pointwise [packed]
  rw [dif_neg (by omega), dif_neg (by omega), dif_neg (by omega), show (⟨l'.val - 1536 - 512 - 128, by omega⟩ : Fin 128) = l from Fin.ext (by show l'.val - 1536 - 512 - 128 = l.val; omega)]

end Packed

/-! ## The blocks of a point -/

theorem index1 : ∀ t : Fin cfg0.N, win0_1.index t 0 = t.val ∧ win0_1.index t 1 = 0 ∧ win0_1.index t 2 = 3 := by decide +kernel
theorem index2 : ∀ t : Fin cfg0.N, win0_2.index t 0 = t.val ∧ win0_2.index t 1 = 0 ∧ win0_2.index t 2 = 16 := by decide +kernel
theorem index3 : ∀ t : Fin cfg0.N, win0_3.index t 0 = t.val ∧ win0_3.index t 1 = 0 ∧ win0_3.index t 2 = 17 := by decide +kernel
theorem index4 : ∀ t : Fin cfg0.N, win0_4.index t 0 = t.val ∧ win0_4.index t 1 = 0 ∧ win0_4.index t 2 = 0 := by decide +kernel
theorem index5 : ∀ t : Fin cfg0.N, win0_5.index t 0 = t.val ∧ win0_5.index t 1 = 0 ∧ win0_5.index t 2 = 0 := by decide +kernel
theorem index6 : ∀ t : Fin cfg0.N, win0_6.index t 0 = t.val ∧ win0_6.index t 1 = 0 ∧ win0_6.index t 2 = 0 := by decide +kernel
theorem index7 : ∀ t : Fin cfg0.N, win0_7.index t 0 = t.val ∧ win0_7.index t 1 = 0 ∧ win0_7.index t 2 = 0 := by decide +kernel
theorem index0 : ∀ t : Fin cfg0.N, win0_0.index t 0 = 0 := by decide +kernel
theorem index8 : ∀ t : Fin cfg0.N, win0_8.index t 0 = 0 ∧ win0_8.index t 1 = 0 := by decide +kernel

section Blocks
variable (m : (ℓ : Loc nD τ sig) → Buf (Elt Ideal) ℓ) (c : Dev nD) (t : Fin cfg0.N) (b : Fin 2) (hb : b.val = t.val)

theorem blk0 (h : Fin 8) : iblk m c 0 t (ix1 h) = V m c main_arg3 (ix1 h) := by
  unfold iblk
  show V m c main_arg3 _ = _
  refine congrArg (V m c main_arg3) (funext fun a => Fin.ext ?_)
  match a with
  | ⟨0, _⟩ =>
    blk_simp
    rw [index0 t]; omega

include hb

theorem blk1 (u : Fin 2048) (l : Fin 512) : X0_1 m c t (ix3 0 u l) = V m c main_v6 (ix3 b u ⟨1536 + l.val, by omega⟩) := by
  unfold X0_1 Pipeline.Window.fill
  rw [dif_pos (moved0_1 t _)]
  unfold iblk
  show V m c main_v6 _ = _
  refine congrArg (V m c main_v6) (funext fun a => Fin.ext ?_)
  match a with
  | ⟨0, _⟩ =>
    blk_simp
    rw [(index1 t).1, hb]; rfl
  | ⟨1, _⟩ =>
    blk_simp
    rw [(index1 t).2.1]; show 0 * 2048 + u.val = u.val; omega
  | ⟨2, _⟩ =>
    blk_simp
    rw [(index1 t).2.2]

theorem blk2 (u : Fin 2048) (l : Fin 128) : iblk m c 2 t (ix3 0 u l) = V m c main_v6 (ix3 b u ⟨2048 + l.val, by omega⟩) := by
  unfold iblk
  show V m c main_v6 _ = _
  refine congrArg (V m c main_v6) (funext fun a => Fin.ext ?_)
  match a with
  | ⟨0, _⟩ =>
    blk_simp
    rw [(index2 t).1, hb]; rfl
  | ⟨1, _⟩ =>
    blk_simp
    rw [(index2 t).2.1]; show 0 * 2048 + u.val = u.val; omega
  | ⟨2, _⟩ =>
    blk_simp
    rw [(index2 t).2.2]

theorem blk3 (u : Fin 2048) (l : Fin 128) : iblk m c 3 t (ix3 0 u l) = V m c main_v6 (ix3 b u ⟨2176 + l.val, by omega⟩) := by
  unfold iblk
  show V m c main_v6 _ = _
  refine congrArg (V m c main_v6) (funext fun a => Fin.ext ?_)
  match a with
  | ⟨0, _⟩ =>
    blk_simp
    rw [(index3 t).1, hb]; rfl
  | ⟨1, _⟩ =>
    blk_simp
    rw [(index3 t).2.1]; show 0 * 2048 + u.val = u.val; omega
  | ⟨2, _⟩ =>
    blk_simp
    rw [(index3 t).2.2]

theorem blk4 (u : Fin 2048) (l : Fin 512) : iblk m c 4 t (ix3 0 u l) = V m c main_v7 (ix3 b u l) := by
  unfold iblk
  show V m c main_v7 _ = _
  refine congrArg (V m c main_v7) (funext fun a => Fin.ext ?_)
  match a with
  | ⟨0, _⟩ =>
    blk_simp
    rw [(index4 t).1, hb]; rfl
  | ⟨1, _⟩ =>
    blk_simp
    rw [(index4 t).2.1]; show 0 * 2048 + u.val = u.val; omega
  | ⟨2, _⟩ =>
    blk_simp
    rw [(index4 t).2.2]; omega

end Blocks

/-! ## The results -/

/-- Real arguments of one device. -/
structure RealArgs (m : (ℓ : Loc nD τ sig) → Buf (Elt Ideal) ℓ) (c : Dev nD) (q : Fin 2 → Fin 2048 → Fin 8 → Fin 64 → ℝ) (k v : Fin 2 → Fin 2048 → Fin 2 → Fin 64 → ℝ)
    (σ : Fin 8 → ℝ) (o : Fin 2 → Fin 2048 → Fin 8 → Fin 64 → ℝ) : Prop where
  a0 : ∀ b u h d, (m ((c : Thread nD τ).loc main_arg0) : Vec Ideal S2x2048x512 .f32) (ix3 b u (lane8 h d)) = (q b u h d : EReal)
  a1 : ∀ b t g d, (m ((c : Thread nD τ).loc main_arg1) : Vec Ideal S2x2048x128 .f32) (ix3 b t (lane2 g d)) = (k b t g d : EReal)
  a2 : ∀ b t g d, (m ((c : Thread nD τ).loc main_arg2) : Vec Ideal S2x2048x128 .f32) (ix3 b t (lane2 g d)) = (v b t g d : EReal)
  a3 : ∀ h, (m ((c : Thread nD τ).loc main_arg3) : Vec Ideal S8 .f32) (ix1 h) = (σ h : EReal)
  a4 : ∀ b u h d, (m ((c : Thread nD τ).loc main_arg4) : Vec Ideal S2x2048x512 .f32) (ix3 b u (lane8 h d)) = (o b u h d : EReal)

theorem ptlt (t : Fin cfg0.N) : t.val < 2 := lt_of_lt_of_eq t.isLt (show cfg0.N = 2 from N_0)

section Results
variable {m : (ℓ : Loc nD τ sig) → Buf (Elt Ideal) ℓ} {c : Dev nD} {q : Fin 2 → Fin 2048 → Fin 8 → Fin 64 → ℝ} {k v : Fin 2 → Fin 2048 → Fin 2 → Fin 64 → ℝ}
variable {σ : Fin 8 → ℝ} {o : Fin 2 → Fin 2048 → Fin 8 → Fin 64 → ℝ} (A : RealArgs m c q k v σ o)
include A

/-- A point's blocks hold its batch entry's data. -/
theorem holds (t : Fin cfg0.N) (b : Fin 2) (hb : b.val = t.val) :
    Holds (iblk m c 0 t) (X0_1 m c t) (iblk m c 2 t) (iblk m c 3 t) (iblk m c 4 t) (q b) (k b) (v b) σ (o b) where
  h0 h := (blk0 m c t h).trans (by rw [V_main_arg3]; exact A.a3 h)
  h1 u h d := (blk1 m c t b hb u (lane8 h d)).trans (by
    rw [V_main_v6]
    refine (packed_q _ _ _ b u (lane8 h d) _ rfl).trans ?_
    rw [A.a0, EReal.coe_mul])
  h2 u h d := (blk2 m c t b hb u (lane2 h d)).trans (by
    rw [V_main_v6]
    exact (packed_k _ _ _ b u (lane2 h d) _ rfl).trans (A.a1 b u h d))
  h3 u h d := (blk3 m c t b hb u (lane2 h d)).trans (by
    rw [V_main_v6]
    exact (packed_v _ _ _ b u (lane2 h d) _ rfl).trans (A.a2 b u h d))
  h4 u h d := (blk4 m c t b hb u (lane8 h d)).trans (by
    rw [V_main_v7]
    exact A.a4 b u h d)

/-- The queries' gradient. -/
theorem final5 : (dats m 0 c).arrAt 5 cfg0.N = Spec.arrQ q k v σ o :=
  (dats m 0 c).arrAt_eq_of_covers 5 (Spec.arrQ q k v σ o) (by decide +kernel) fun t _ y => by
    rw [after5]
    have ht := ptlt t
    have hy1 : (y 1).val < 2048 := (y 1).isLt
    have hy2 : (y 2).val < 512 := (y 2).isLt
    have hy0 : (y 0).val < 1 := (y 0).isLt
    have e1 : ((cfg0.win 5).blk t).view.emb y = ix3 ⟨t.val, ht⟩ ⟨(y 1).val, hy1⟩ ⟨(y 2).val, hy2⟩ := funext fun a => Fin.ext (by
      match a with
      | ⟨0, _⟩ =>
        blk_simp
        rw [(index5 t).1]
      | ⟨1, _⟩ =>
        blk_simp
        rw [(index5 t).2.1]; show 0 * 2048 + (y 1).val = (y 1).val; omega
      | ⟨2, _⟩ =>
        blk_simp
        rw [(index5 t).2.2]; show 0 * 512 + (y 2).val = (y 2).val; omega)
    have e2 : (cfg0.win 5).xinj (cfg0.grid.coords t) y = ix3 0 ⟨(y 1).val, hy1⟩ ⟨(y 2).val, hy2⟩ := funext fun a => Fin.ext (by
      match a with
      | ⟨0, _⟩ => show (y 0).val = 0; omega
      | ⟨1, _⟩ => rfl
      | ⟨2, _⟩ => rfl)
    rw [e1]
    show out5 m c t ((cfg0.win 5).xinj (cfg0.grid.coords t) y) = _
    rw [e2]
    obtain ⟨h, d, hl⟩ := lane8_surj ⟨(y 2).val, hy2⟩
    rw [hl, Spec.arrQ_apply]
    exact dqBlk_eq (holds A t ⟨t.val, ht⟩ rfl) _ h d

/-- The keys' gradient. -/
theorem final6 : (dats m 0 c).arrAt 6 cfg0.N = Spec.arrK q k v σ o :=
  (dats m 0 c).arrAt_eq_of_covers 6 (Spec.arrK q k v σ o) (by decide +kernel) fun t _ y => by
    rw [after6]
    have ht := ptlt t
    have hy1 : (y 1).val < 2048 := (y 1).isLt
    have hy2 : (y 2).val < 128 := (y 2).isLt
    have hy0 : (y 0).val < 1 := (y 0).isLt
    have e1 : ((cfg0.win 6).blk t).view.emb y = ix3 ⟨t.val, ht⟩ ⟨(y 1).val, hy1⟩ ⟨(y 2).val, hy2⟩ := funext fun a => Fin.ext (by
      match a with
      | ⟨0, _⟩ =>
        blk_simp
        rw [(index6 t).1]
      | ⟨1, _⟩ =>
        blk_simp
        rw [(index6 t).2.1]; show 0 * 2048 + (y 1).val = (y 1).val; omega
      | ⟨2, _⟩ =>
        blk_simp
        rw [(index6 t).2.2]; show 0 * 128 + (y 2).val = (y 2).val; omega)
    have e2 : (cfg0.win 6).xinj (cfg0.grid.coords t) y = ix3 0 ⟨(y 1).val, hy1⟩ ⟨(y 2).val, hy2⟩ := funext fun a => Fin.ext (by
      match a with
      | ⟨0, _⟩ => show (y 0).val = 0; omega
      | ⟨1, _⟩ => rfl
      | ⟨2, _⟩ => rfl)
    rw [e1]
    show out6 m c t ((cfg0.win 6).xinj (cfg0.grid.coords t) y) = _
    rw [e2]
    obtain ⟨h, d, hl⟩ := lane2_surj ⟨(y 2).val, hy2⟩
    rw [hl, Spec.arrK_apply]
    exact dkBlk_eq (holds A t ⟨t.val, ht⟩ rfl) _ h d

/-- The values' gradient. -/
theorem final7 : (dats m 0 c).arrAt 7 cfg0.N = Spec.arrV q k σ o :=
  (dats m 0 c).arrAt_eq_of_covers 7 (Spec.arrV q k σ o) (by decide +kernel) fun t _ y => by
    rw [after7]
    have ht := ptlt t
    have hy1 : (y 1).val < 2048 := (y 1).isLt
    have hy2 : (y 2).val < 128 := (y 2).isLt
    have hy0 : (y 0).val < 1 := (y 0).isLt
    have e1 : ((cfg0.win 7).blk t).view.emb y = ix3 ⟨t.val, ht⟩ ⟨(y 1).val, hy1⟩ ⟨(y 2).val, hy2⟩ := funext fun a => Fin.ext (by
      match a with
      | ⟨0, _⟩ =>
        blk_simp
        rw [(index7 t).1]
      | ⟨1, _⟩ =>
        blk_simp
        rw [(index7 t).2.1]; show 0 * 2048 + (y 1).val = (y 1).val; omega
      | ⟨2, _⟩ =>
        blk_simp
        rw [(index7 t).2.2]; show 0 * 128 + (y 2).val = (y 2).val; omega)
    have e2 : (cfg0.win 7).xinj (cfg0.grid.coords t) y = ix3 0 ⟨(y 1).val, hy1⟩ ⟨(y 2).val, hy2⟩ := funext fun a => Fin.ext (by
      match a with
      | ⟨0, _⟩ => show (y 0).val = 0; omega
      | ⟨1, _⟩ => rfl
      | ⟨2, _⟩ => rfl)
    rw [e1]
    show out7 m c t ((cfg0.win 7).xinj (cfg0.grid.coords t) y) = _
    rw [e2]
    obtain ⟨h, d, hl⟩ := lane2_surj ⟨(y 2).val, hy2⟩
    rw [hl, Spec.arrV_apply]
    exact dvBlk_eq (holds A t ⟨t.val, ht⟩ rfl) _ h d

/-- The sinks' gradient. -/
theorem final8 : (dats m 0 c).arrAt 8 cfg0.N = Spec.arrS q k v σ o :=
  (dats m 0 c).arrAt_eq_of_covers 8 (Spec.arrS q k v σ o) (by decide +kernel) fun t hf y => by
    rw [after8]
    have ht := ptlt t
    have h1 : t.val = 1 := by have := (flush0_8 t).mp hf; omega
    have hy0 : (y 0).val < 8 := (y 0).isLt
    have hy1 : (y 1).val < 128 := (y 1).isLt
    have e1 : ((cfg0.win 8).blk t).view.emb y = ix2 ⟨(y 0).val, hy0⟩ ⟨(y 1).val, hy1⟩ := funext fun a => Fin.ext (by
      match a with
      | ⟨0, _⟩ =>
        blk_simp
        rw [(index8 t).1]; show 0 * 8 + (y 0).val = (y 0).val; omega
      | ⟨1, _⟩ =>
        blk_simp
        rw [(index8 t).2]; show 0 * 128 + (y 1).val = (y 1).val; omega)
    have e2 : (cfg0.win 8).xinj (cfg0.grid.coords t) y = ix2 ⟨(y 0).val, hy0⟩ ⟨(y 1).val, hy1⟩ := funext fun a => Fin.ext (by
      match a with
      | ⟨0, _⟩ => rfl
      | ⟨1, _⟩ => rfl)
    rw [e1]
    show out8 m c t ((cfg0.win 8).xinj (cfg0.grid.coords t) y) = _
    rw [e2, out8, if_neg (by omega)]
    exact sink_eq (holds A ⟨t.val - 1, Nat.lt_of_le_of_lt (Nat.sub_le _ _) t.isLt⟩ 0 (by show 0 = t.val - 1; omega)) (holds A t 1 h1.symm) _ _

end Results

/-- The kernel's run on real arguments: the four results hold the attention's gradients, the arguments stay. -/
theorem run (m : (ℓ : Loc nD τ sig) → Buf (Elt Ideal) ℓ) (ρ : Dev nD → PrngReg) (q : Dev nD → Fin 2 → Fin 2048 → Fin 8 → Fin 64 → ℝ)
    (k v : Dev nD → Fin 2 → Fin 2048 → Fin 2 → Fin 64 → ℝ) (σ : Dev nD → Fin 8 → ℝ) (o : Dev nD → Fin 2 → Fin 2048 → Fin 8 → Fin 64 → ℝ)
    (A : ∀ c, RealArgs m c (q c) (k c) (v c) (σ c) (o c)) :
    θ_run defs (onTc (τ := τ) (main (F := Ideal))) ⟨m, fun _ => 0, ρ⟩ fun r => ∀ c : Dev nD,
      r.2.mem ((c.tc : Thread nD τ).loc main_v8_0) = Spec.arrQ (q c) (k c) (v c) (σ c) (o c)
      ∧ r.2.mem ((c.tc : Thread nD τ).loc main_v8_1) = Spec.arrK (q c) (k c) (v c) (σ c) (o c)
      ∧ r.2.mem ((c.tc : Thread nD τ).loc main_v8_2) = Spec.arrV (q c) (k c) (σ c) (o c)
      ∧ r.2.mem ((c.tc : Thread nD τ).loc main_v8_3) = Spec.arrS (q c) (k c) (v c) (σ c) (o c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1.1 c).1 5).trans (final5 (A c)), ((h.1.1 c).1 6).trans (final6 (A c)), ((h.1.1 c).1 7).trans (final7 (A c)),
    ((h.1.1 c).1 8).trans (final8 (A c)), h.2.1 c⟩) (θ_run_and (run_quiescent m ρ) (frame m ρ))

end Cert.KernelIdeal.Final

end

end
-- ==== Proof.Band.lean ====
/-
  The attention's gradient by blocks of 128 queries, each over a band of 384 keys that starts one block before it: the
  sequence is extended by a block of zeros at either end, and a key outside the sequence is masked.
-/
module

public import proofs.«01_k».proof.Proof.Reals

@[expose] public section

set_option maxRecDepth 16384

noncomputable section

namespace Cert.Band

open scoped BigOperators
open Cert.Spec

/-- The position of query `i` of block `n`. -/
def row (n : Fin 16) (i : Fin 128) : Fin 2048 := ⟨128 * n.val + i.val, by omega⟩

/-- Key `j` of the band of block `n` lies in the sequence. -/
def inb (n : Fin 16) (j : Fin 384) : Prop := 128 ≤ 128 * n.val + j.val ∧ 128 * n.val + j.val < 2176

instance (n : Fin 16) : DecidablePred (inb n) := fun j => by unfold inb; infer_instance

/-- The position of key `j` of the band of block `n`, when it lies in the sequence. -/
def key (n : Fin 16) (j : Fin 384) : Fin 2048 := ⟨min (128 * n.val + j.val - 128) 2047, by omega⟩

/-- Key `j` is not masked for query `i` of block `n`. -/
def ok (n : Fin 16) (i : Fin 128) (j : Fin 384) : Prop := inb n j ∧ near (row n i) (key n j)

instance (n : Fin 16) (i : Fin 128) : DecidablePred (ok n i) := fun j => by unfold ok; infer_instance

theorem lists (n : Fin 16) (i : Fin 128) : Lists (ok n i) (near (row n i)) (key n) where
  into _ h := h.2
  inj a b ha hb h := Fin.ext (by
    have h0 : min (128 * n.val + a.val - 128) 2047 = min (128 * n.val + b.val - 128) 2047 := congrArg Fin.val h
    have h1 := ha.1
    have h2 := hb.1
    unfold inb at h1 h2
    omega)
  onto t h := by
    have h1 : t.val ≤ 128 * n.val + i.val + 128 := h.1
    have h2 : 128 * n.val + i.val ≤ t.val + 128 := h.2
    have hj : t.val + 128 - 128 * n.val < 384 := by omega
    have e : key n ⟨t.val + 128 - 128 * n.val, hj⟩ = t := Fin.ext (by
      show min (128 * n.val + (t.val + 128 - 128 * n.val) - 128) 2047 = t.val
      omega)
    refine ⟨⟨t.val + 128 - 128 * n.val, hj⟩, ⟨?_, by rw [e]; exact h⟩, e⟩
    show 128 ≤ 128 * n.val + (t.val + 128 - 128 * n.val) ∧ 128 * n.val + (t.val + 128 - 128 * n.val) < 2176
    omega

/-- Rows of the sequence extended by zeros, by bands. -/
def band (f : Fin 2048 → Fin 2 → Fin 64 → ℝ) (n : Fin 16) (j : Fin 384) (c : Fin 2) (d : Fin 64) : ℝ := if inb n j then f (key n j) c d else 0

theorem band_of (f : Fin 2048 → Fin 2 → Fin 64 → ℝ) (n : Fin 16) (j : Fin 384) (c : Fin 2) (d : Fin 64) (h : inb n j) : band f n j c d = f (key n j) c d := if_pos h

/-- A sum over positions is a sum over blocks and queries. -/
theorem sum_rows {M : Type} [AddCommMonoid M] (f : Fin 2048 → M) : ∑ u, f u = ∑ n, ∑ i, f (row n i) := by
  rw [← Finset.sum_product', Finset.univ_product_univ]
  refine (Function.Bijective.sum_comp (e := fun p : Fin 16 × Fin 128 => row p.1 p.2) ⟨?_, ?_⟩ f).symm
  · rintro ⟨n, i⟩ ⟨n', i'⟩ h
    have h0 : 128 * n.val + i.val = 128 * n'.val + i'.val := congrArg Fin.val h
    exact Prod.ext (Fin.ext (by show n.val = n'.val; omega)) (Fin.ext (by show i.val = i'.val; omega))
  · intro u
    exact ⟨(⟨u.val / 128, by omega⟩, ⟨u.val % 128, by omega⟩), Fin.ext (by show 128 * (u.val / 128) + u.val % 128 = u.val; omega)⟩

theorem grp_mem (c : Fin 2) (r : Fin 4) : grp (mem c r) = c := Fin.ext (by show (4 * c.val + r.val) / 4 = c.val; omega)

theorem mem_surj (h : Fin 8) : ∃ c r, h = mem c r :=
  ⟨⟨h.val / 4, by omega⟩, ⟨h.val % 4, by omega⟩, Fin.ext (by show h.val = 4 * (h.val / 4) + h.val % 4; omega)⟩

/-- What the bands of all blocks hold for one position of the extended sequence, given what each holds by key. -/
def gather (x : Fin 16 → Fin 384 → ℝ) (s : ℕ) : ℝ := ∑ n : Fin 16, if h : 128 * n.val ≤ s ∧ s < 128 * n.val + 384 then x n ⟨s - 128 * n.val, by omega⟩ else 0

/-- The bands' three blocks, each added at its own place: the third two blocks on, the second one block on, the first in place. -/
theorem gather_blocks (x : Fin 16 → Fin 384 → ℝ) (m : Fin 18) (i : Fin 128) :
    (∑ n : Fin 16, if n.val + 2 = m.val then x n ⟨256 + i.val, by omega⟩ else 0) + (∑ n : Fin 16, if n.val + 1 = m.val then x n ⟨128 + i.val, by omega⟩ else 0)
      + (∑ n : Fin 16, if n.val = m.val then x n ⟨i.val, by omega⟩ else 0) = gather x (128 * m.val + i.val) := by
  unfold gather
  rw [← Finset.sum_add_distrib, ← Finset.sum_add_distrib]
  refine Finset.sum_congr rfl fun n _ => ?_
  by_cases h2 : n.val + 2 = m.val
  · rw [if_pos h2, if_neg (by omega), if_neg (by omega), dif_pos (by omega), add_zero, add_zero]
    exact congrArg (x n) (Fin.ext (by show 256 + i.val = 128 * m.val + i.val - 128 * n.val; omega))
  by_cases h1 : n.val + 1 = m.val
  · rw [if_neg h2, if_pos h1, if_neg (by omega), dif_pos (by omega), add_zero, zero_add]
    exact congrArg (x n) (Fin.ext (by show 128 + i.val = 128 * m.val + i.val - 128 * n.val; omega))
  by_cases h0 : n.val = m.val
  · rw [if_neg h2, if_neg h1, if_pos h0, dif_pos (by omega), add_zero, zero_add]
    exact congrArg (x n) (Fin.ext (by show i.val = 128 * m.val + i.val - 128 * n.val; omega))
  · rw [if_neg h2, if_neg h1, if_neg h0, dif_neg (by omega), add_zero, add_zero]

/-- Sums over the queries of each block, gathered, are the sum over all queries. -/
theorem gather_sum (f' : Fin 16 → Fin 128 → Fin 384 → ℝ) (f : Fin 2048 → Fin 2048 → ℝ) (h0 : ∀ n i j, ¬ok n i j → f' n i j = 0) (h1 : ∀ u t, ¬near u t → f u t = 0)
    (e : ∀ n i j, ok n i j → f' n i j = f (row n i) (key n j)) (t : Fin 2048) : gather (fun n j => ∑ i, f' n i j) (t.val + 128) = ∑ u, f u t := by
  rw [sum_rows]
  unfold gather
  refine Finset.sum_congr rfl fun n _ => ?_
  by_cases h : 128 * n.val ≤ t.val + 128 ∧ t.val + 128 < 128 * n.val + 384
  · rw [dif_pos h]
    have e1 : key n ⟨t.val + 128 - 128 * n.val, by omega⟩ = t := Fin.ext (by
      show min (128 * n.val + (t.val + 128 - 128 * n.val) - 128) 2047 = t.val
      omega)
    refine Finset.sum_congr rfl fun i _ => ?_
    by_cases hn : near (row n i) t
    · have hok : ok n i ⟨t.val + 128 - 128 * n.val, by omega⟩ := by
        refine ⟨?_, by rw [e1]; exact hn⟩
        show 128 ≤ 128 * n.val + (t.val + 128 - 128 * n.val) ∧ 128 * n.val + (t.val + 128 - 128 * n.val) < 2176
        omega
      rw [e n i _ hok, e1]
    · rw [h1 _ _ hn, h0 n i _ fun hok => hn (e1 ▸ hok.2)]
  · rw [dif_neg h]
    refine (Finset.sum_eq_zero fun i _ => h1 _ _ fun hn => h ?_).symm
    have h1 : t.val ≤ 128 * n.val + i.val + 128 := hn.1
    have h2 : 128 * n.val + i.val ≤ t.val + 128 := hn.2
    omega

theorem gather_congr (x y : Fin 16 → Fin 384 → ℝ) (h : ∀ n j, x n j = y n j) (s : ℕ) : gather x s = gather y s := by
  rw [show x = y from funext fun n => funext fun j => h n j]

theorem gather_sum_heads (x : Fin 4 → Fin 16 → Fin 384 → ℝ) (s : ℕ) : gather (fun n j => ∑ r, x r n j) s = ∑ r, gather (x r) s := by
  unfold gather
  rw [Finset.sum_comm]
  refine Finset.sum_congr rfl fun n _ => ?_
  by_cases h : 128 * n.val ≤ s ∧ s < 128 * n.val + 384
  · rw [dif_pos h]; exact Finset.sum_congr rfl fun r _ => by rw [dif_pos h]
  · rw [dif_neg h]; exact (Finset.sum_eq_zero fun r _ => by rw [dif_neg h]).symm

section Attn
variable (q : Fin 2048 → Fin 8 → Fin 64 → ℝ) (k v : Fin 2048 → Fin 2 → Fin 64 → ℝ) (σ : Fin 8 → ℝ) (o : Fin 2048 → Fin 8 → Fin 64 → ℝ)

/-- A score by bands. -/
def S (h : Fin 8) (n : Fin 16) (i : Fin 128) (j : Fin 384) : ℝ := (∑ d, band k n j (grp h) d * q (row n i) h d) * (1 / 8)

/-- The gradient of a key's weight by bands. -/
def D (h : Fin 8) (n : Fin 16) (i : Fin 128) (j : Fin 384) : ℝ := ∑ d, o (row n i) h d * band v n j (grp h) d

/-- A key's weight by bands. -/
def P (h : Fin 8) (n : Fin 16) (i : Fin 128) (j : Fin 384) : ℝ := pr (ok n i) (S q k h n i) (σ h) j

/-- The gradient of a key's score by bands. -/
def G (h : Fin 8) (n : Fin 16) (i : Fin 128) (j : Fin 384) : ℝ := dsc (ok n i) (S q k h n i) (σ h) (D v o h n i) j

/-- The part of a sink's gradient that one query gives, by bands. -/
def K (h : Fin 8) (n : Fin 16) (i : Fin 128) : ℝ := dsk (ok n i) (S q k h n i) (σ h) (D v o h n i)

theorem S_eq (h : Fin 8) (n : Fin 16) (i : Fin 128) (j : Fin 384) (hok : ok n i j) : S q k h n i j = sc q k h (row n i) (key n j) := by
  unfold S sc
  rw [Finset.sum_mul]
  refine Finset.sum_congr rfl fun d _ => ?_
  rw [band_of k n j _ d hok.1, mul_assoc]

theorem D_eq (h : Fin 8) (n : Fin 16) (i : Fin 128) (j : Fin 384) (hok : ok n i j) : D v o h n i j = dp v o h (row n i) (key n j) := by
  unfold D dp
  refine Finset.sum_congr rfl fun d _ => ?_
  rw [band_of v n j _ d hok.1, mul_comm]

theorem P_eq (h : Fin 8) (n : Fin 16) (i : Fin 128) (j : Fin 384) (hok : ok n i j) : P q k σ h n i j = wgt q k σ h (row n i) (key n j) :=
  (lists n i).pr_eq _ (sc q k h (row n i)) _ (S_eq q k h n i) j hok

theorem G_eq (h : Fin 8) (n : Fin 16) (i : Fin 128) (j : Fin 384) (hok : ok n i j) : G q k v σ o h n i j = gsc q k v σ o h (row n i) (key n j) :=
  (lists n i).dsc_eq _ (sc q k h (row n i)) _ (S_eq q k h n i) _ (dp v o h (row n i)) (D_eq v o h n i) j hok

theorem K_eq (h : Fin 8) (n : Fin 16) (i : Fin 128) : K q k v σ o h n i = dsk (near (row n i)) (sc q k h (row n i)) (σ h) (dp v o h (row n i)) :=
  (lists n i).dsk_eq _ (sc q k h (row n i)) _ (S_eq q k h n i) _ (dp v o h (row n i)) (D_eq v o h n i)

theorem P_of_not (h : Fin 8) (n : Fin 16) (i : Fin 128) (j : Fin 384) (hn : ¬ok n i j) : P q k σ h n i j = 0 := pr_of_not (ok n i) _ _ j hn

theorem G_of_not (h : Fin 8) (n : Fin 16) (i : Fin 128) (j : Fin 384) (hn : ¬ok n i j) : G q k v σ o h n i j = 0 := dsc_of_not (ok n i) _ _ _ j hn

/-- The queries' gradient, by bands. -/
theorem dq_eq (h : Fin 8) (n : Fin 16) (i : Fin 128) (d : Fin 64) :
    (∑ j, G q k v σ o h n i j * (1 / 8) * band k n j (grp h) d) * 8 = dq q k v σ o (row n i) h d := by
  rw [Finset.sum_mul]
  refine (lists n i).sum _ (fun t => gsc q k v σ o h (row n i) t * k t (grp h) d) (fun j hn => ?_) (fun t hn => ?_) fun j hok => ?_
  · show G q k v σ o h n i j * (1 / 8) * band k n j (grp h) d * 8 = 0
    rw [G_of_not q k v σ o h n i j hn]; ring
  · show gsc q k v σ o h (row n i) t * k t (grp h) d = 0
    rw [show gsc q k v σ o h (row n i) t = 0 from dsc_of_not (near (row n i)) _ _ _ t hn, zero_mul]
  · show G q k v σ o h n i j * (1 / 8) * band k n j (grp h) d * 8 = gsc q k v σ o h (row n i) (key n j) * k (key n j) (grp h) d
    rw [G_eq q k v σ o h n i j hok, band_of k n j _ d hok.1]; ring

/-- The keys' gradient, by bands. -/
theorem dk_eq (t : Fin 2048) (c : Fin 2) (d : Fin 64) :
    gather (fun n j => ∑ i, ∑ r, G q k v σ o (mem c r) n i j * (1 / 8) * q (row n i) (mem c r) d) (t.val + 128) = dk q k v σ o t c d := by
  rw [gather_congr _ (fun n j => ∑ r, ∑ i, G q k v σ o (mem c r) n i j * (1 / 8) * q (row n i) (mem c r) d) fun n j => Finset.sum_comm, gather_sum_heads]
  refine Finset.sum_congr rfl fun r _ => ?_
  refine gather_sum _ (fun u t => gsc q k v σ o (mem c r) u t * (q u (mem c r) d * (1 / 8))) (fun n i j hn => ?_) (fun u t hn => ?_) (fun n i j hok => ?_) t
  · rw [G_of_not q k v σ o _ n i j hn]; ring
  · rw [show gsc q k v σ o (mem c r) u t = 0 from dsc_of_not (near u) _ _ _ t hn, zero_mul]
  · rw [G_eq q k v σ o _ n i j hok]; ring

/-- The values' gradient, by bands. -/
theorem dv_eq (t : Fin 2048) (c : Fin 2) (d : Fin 64) :
    gather (fun n j => ∑ r, ∑ i, o (row n i) (mem c r) d * P q k σ (mem c r) n i j) (t.val + 128) = dv q k σ o t c d := by
  rw [gather_sum_heads]
  refine Finset.sum_congr rfl fun r _ => ?_
  refine gather_sum _ (fun u t => wgt q k σ (mem c r) u t * o u (mem c r) d) (fun n i j hn => ?_) (fun u t hn => ?_) (fun n i j hok => ?_) t
  · rw [P_of_not q k σ _ n i j hn, mul_zero]
  · rw [show wgt q k σ (mem c r) u t = 0 from pr_of_not (near u) _ _ t hn, zero_mul]
  · rw [P_eq q k σ _ n i j hok, mul_comm]

/-- A sink's gradient, by bands. -/
theorem dsink_eq (h : Fin 8) : ∑ n, ∑ i, K q k v σ o h n i = dsink q k v σ o h := by
  unfold dsink
  rw [sum_rows]
  exact Finset.sum_congr rfl fun n _ => Finset.sum_congr rfl fun i _ => K_eq q k v σ o h n i

end Attn

/-! ## The softmax's derivative, term by term -/

section Softmax
variable {ι : Type} [Fintype ι] (N : ι → Prop) [DecidablePred N] (s : ι → ℝ) (σ : ℝ) (d : ι → ℝ)

/-- The derivative of the reciprocal of the weights' sum. -/
theorem inv_term : -(∑ j, d j * (1 / (den N s σ * den N s σ)) * wt N s σ j) = -(1 / den N s σ * del N s σ d) := by
  unfold del pr
  rw [Finset.mul_sum]
  congr 1
  refine Finset.sum_congr rfl fun j _ => ?_
  rw [← one_div_mul_one_div_rev]; ring

/-- The derivative of the sink through its own weight. -/
theorem sink_term : -(1 / den N s σ * del N s σ d) * wts N s σ = dsk N s σ d := by
  unfold dsk prs; ring

/-- The derivative of a score through its own weight. -/
theorem score_term (j : ι) : (d j * (1 / den N s σ) + -(1 / den N s σ * del N s σ d)) * wt N s σ j = dsc N s σ d j := by
  unfold dsc pr; ring

/-- Nothing flows through the largest score: its two parts cancel. -/
theorem max_term : -dsk N s σ d + ∑ j, -dsc N s σ d j = 0 := by
  have h0 := (den_pos N s σ).ne'
  have h1 : ∑ j, pr N s σ j = 1 - prs N s σ := by
    have : (∑ j, wt N s σ j) + wts N s σ = den N s σ := rfl
    unfold pr prs
    rw [← Finset.sum_mul, eq_sub_iff_add_eq, ← add_mul, this, mul_one_div_cancel h0]
  have h2 : ∑ j, dsc N s σ d j = prs N s σ * del N s σ d := by
    unfold dsc
    simp only [mul_sub]
    rw [Finset.sum_sub_distrib, ← Finset.sum_mul, h1]
    show del N s σ d - (1 - prs N s σ) * del N s σ d = _
    ring
  rw [Finset.sum_neg_distrib, h2]
  unfold dsk; ring

end Softmax

end Cert.Band

end

end
-- ==== Proof.Stages.lean ====
/-
  The reference's operations on real data, first part: the bands of keys and values, the mask and the masked scores.
-/
module

public import proofs.«01_k».proof.Proof.Gen.ReferenceIdeal.Read
public import proofs.«01_k».proof.Proof.Band
public import Idealize.ShloMosaic.Lib.ValueIdxRank6
public import Idealize.ShloMosaic.Lib.TwoAxisContraction
public import Idealize.ShloMosaic.Lib.KernelVsHost
public import Idealize.ShloMosaic.Lib.WordCmp

@[expose] public section

set_option maxRecDepth 16384

noncomputable section

namespace Cert.ReferenceIdeal.Stages

open scoped BigOperators
open Cert.ReferenceIdeal Cert.ReferenceIdeal.Gen Cert.ReferenceIdeal.Read Idealize.ShloMosaic Idealize.ShloMosaic.TcCoe
open Cert.Spec (lane2 lane8 lane2_surj lane8_surj grp mem near)
open Cert.Band (row key inb ok band)

/-- An array of one argument's shape. -/
abbrev A512 : Type := (⟨S2x2048x512, .f32⟩ : BufTy).Contents (Elt Ideal)
/-- An array of one argument's shape. -/
abbrev A128 : Type := (⟨S2x2048x128, .f32⟩ : BufTy).Contents (Elt Ideal)
/-- An array of one argument's shape. -/
abbrev A8 : Type := (⟨S8, .f32⟩ : BufTy).Contents (Elt Ideal)

/-- The arguments hold real numbers. -/
structure Args (x0 : A512) (x1 x2 : A128) (x3 : A8) (x4 : A512) (q : Fin 2 → Fin 2048 → Fin 8 → Fin 64 → ℝ) (k v : Fin 2 → Fin 2048 → Fin 2 → Fin 64 → ℝ)
    (σ : Fin 8 → ℝ) (o : Fin 2 → Fin 2048 → Fin 8 → Fin 64 → ℝ) : Prop where
  a0 : ∀ b u h d, x0 (ix3 b u (lane8 h d)) = (q b u h d : EReal)
  a1 : ∀ b t c d, x1 (ix3 b t (lane2 c d)) = (k b t c d : EReal)
  a2 : ∀ b t c d, x2 (ix3 b t (lane2 c d)) = (v b t c d : EReal)
  a3 : ∀ h, x3 (ix1 h) = (σ h : EReal)
  a4 : ∀ b u h d, x4 (ix3 b u (lane8 h d)) = (o b u h d : EReal)

/-! ## Queries -/

theorem v0 (x0 : A512) (b : Fin 2) (u : Fin 2048) (h : Fin 8) (d : Fin 64) : val_main_v0 x0 (ix4 b u h d) = x0 (ix3 b u (lane8 h d)) := by
  unfold val_main_v0
  refine shapeCast_apply x0 _ (ix4 b u h d) (ix3 b u (lane8 h d)) ?_
  rewrite [Shape.rowMajor_val_three, Shape.rowMajor_val_four]
  show (b.val * 2048 + u.val) * 512 + (64 * h.val + d.val) = ((b.val * 2048 + u.val) * 8 + h.val) * 64 + d.val
  omega

theorem split6 (y : (⟨S2x2048x8x64, .f32⟩ : BufTy).Contents (Elt Ideal)) (b : Fin 2) (n : Fin 16) (i : Fin 128) (c : Fin 2) (r : Fin 4) (d : Fin 64) :
    shapeCast S2x16x128x2x4x64 y shapeCasts_S2x2048x8x64_S2x16x128x2x4x64 (ix6 b n i c r d) = y (ix4 b (row n i) (mem c r) d) := by
  refine shapeCast_apply y _ (ix6 b n i c r d) (ix4 b (row n i) (mem c r) d) ?_
  rewrite [Shape.rowMajor_val_four, Shape.rowMajor_val_six]
  show ((b.val * 2048 + (128 * n.val + i.val)) * 8 + (4 * c.val + r.val)) * 64 + d.val = ((((b.val * 16 + n.val) * 128 + i.val) * 2 + c.val) * 4 + r.val) * 64 + d.val
  omega

theorem v3 (x0 : A512) (b : Fin 2) (n : Fin 16) (i : Fin 128) (c : Fin 2) (r : Fin 4) (d : Fin 64) :
    val_main_v3 x0 (ix6 b n i c r d) = x0 (ix3 b (row n i) (lane8 (mem c r) d)) := (split6 _ b n i c r d).trans (v0 x0 _ _ _ _)

theorem v104 (x4 : A512) (b : Fin 2) (n : Fin 16) (i : Fin 128) (c : Fin 2) (r : Fin 4) (d : Fin 64) :
    val_main_v104 x4 (ix6 b n i c r d) = x4 (ix3 b (row n i) (lane8 (mem c r) d)) := by
  unfold val_main_v104
  refine shapeCast_apply x4 _ (ix6 b n i c r d) (ix3 b (row n i) (lane8 (mem c r) d)) ?_
  rewrite [Shape.rowMajor_val_three, Shape.rowMajor_val_six]
  show (b.val * 2048 + (128 * n.val + i.val)) * 512 + (64 * (4 * c.val + r.val) + d.val) = ((((b.val * 16 + n.val) * 128 + i.val) * 2 + c.val) * 4 + r.val) * 64 + d.val
  omega

/-! ## Keys and values -/

theorem v1 (x1 : A128) (b : Fin 2) (t : Fin 2048) (c : Fin 2) (d : Fin 64) : val_main_v1 x1 (ix4 b t c d) = x1 (ix3 b t (lane2 c d)) := by
  unfold val_main_v1
  refine shapeCast_apply x1 _ (ix4 b t c d) (ix3 b t (lane2 c d)) ?_
  rewrite [Shape.rowMajor_val_three, Shape.rowMajor_val_four]
  show (b.val * 2048 + t.val) * 128 + (64 * c.val + d.val) = ((b.val * 2048 + t.val) * 2 + c.val) * 64 + d.val
  omega

theorem v4 (i : S2x128x2x64.Idx) : val_main_v4 (F := Ideal) i = 0 := (val_main_v4_apply i).trans Ideal.ofBits_zero_f32

/-- The sequence extended by zeros, at a position of the extended sequence. -/
theorem v5 (x1 : A128) (b : Fin 2) (s : Fin 2304) (c : Fin 2) (d : Fin 64) :
    val_main_v5 x1 (ix4 b s c d) = if h : 128 ≤ s.val ∧ s.val < 2176 then x1 (ix3 b ⟨s.val - 128, by omega⟩ (lane2 c d)) else 0 := by
  unfold val_main_v5
  by_cases h1 : s.val < 128
  · rw [dif_neg (by omega)]
    refine (concatenate_apply_piece 1 _ _ (ix4 b s c d) 0 (show _ < 3 by decide) S2x128x2x64 (val_main_v4 (F := Ideal)) rfl rfl 0 rfl (ix4 b ⟨s.val, h1⟩ c d) (fun a ha => ?_) ?_).trans (v4 _)
    · match a with
      | ⟨0, _⟩ => rfl
      | ⟨1, _⟩ => exact absurd rfl ha
      | ⟨2, _⟩ => rfl
      | ⟨3, _⟩ => rfl
    · exact Nat.zero_add _
  by_cases h2 : s.val < 2176
  · rw [dif_pos (by omega)]
    refine (concatenate_apply_piece 1 _ _ (ix4 b s c d) 1 (show _ < 3 by decide) S2x2048x2x64 (val_main_v1 x1) rfl rfl 128 rfl (ix4 b ⟨s.val - 128, by omega⟩ c d) (fun a ha => ?_) ?_).trans (v1 x1 _ _ _ _)
    · match a with
      | ⟨0, _⟩ => rfl
      | ⟨1, _⟩ => exact absurd rfl ha
      | ⟨2, _⟩ => rfl
      | ⟨3, _⟩ => rfl
    · show 128 + (s.val - 128) = s.val
      omega
  · rw [dif_neg (by omega)]
    refine (concatenate_apply_piece 1 _ _ (ix4 b s c d) 2 (show _ < 3 by decide) S2x128x2x64 (val_main_v4 (F := Ideal)) rfl rfl 2176 rfl (ix4 b ⟨s.val - 2176, by omega⟩ c d) (fun a ha => ?_) ?_).trans (v4 _)
    · match a with
      | ⟨0, _⟩ => rfl
      | ⟨1, _⟩ => exact absurd rfl ha
      | ⟨2, _⟩ => rfl
      | ⟨3, _⟩ => rfl
    · show 2176 + (s.val - 2176) = s.val
      omega

theorem v8 (x1 : A128) (b : Fin 2) (m : Fin 18) (i : Fin 128) (c : Fin 2) (d : Fin 64) :
    val_main_v8 x1 (ix5 b m i c d) = val_main_v5 x1 (ix4 b ⟨128 * m.val + i.val, by omega⟩ c d) := by
  unfold val_main_v8
  refine shapeCast_apply (val_main_v5 x1) _ (ix5 b m i c d) (ix4 b ⟨128 * m.val + i.val, by omega⟩ c d) ?_
  rewrite [Shape.rowMajor_val_five, Shape.rowMajor_val_four]
  show ((b.val * 2304 + (128 * m.val + i.val)) * 2 + c.val) * 64 + d.val = (((b.val * 18 + m.val) * 128 + i.val) * 2 + c.val) * 64 + d.val
  omega

theorem v9 (x1 : A128) (b : Fin 2) (n : Fin 16) (i : Fin 128) (c : Fin 2) (d : Fin 64) :
    val_main_v9 x1 (ix5 b n i c d) = val_main_v5 x1 (ix4 b ⟨128 * n.val + i.val, by omega⟩ c d) :=
  (val_main_v9_apply x1 _).trans (v8 x1 b ⟨n.val, by omega⟩ i c d)

theorem v10 (x1 : A128) (b : Fin 2) (n : Fin 16) (i : Fin 128) (c : Fin 2) (d : Fin 64) :
    val_main_v10 x1 (ix5 b n i c d) = val_main_v5 x1 (ix4 b ⟨128 * (1 + n.val) + i.val, by omega⟩ c d) :=
  (val_main_v10_apply x1 _).trans (v8 x1 b ⟨1 + n.val, by omega⟩ i c d)

theorem v11 (x1 : A128) (b : Fin 2) (n : Fin 16) (i : Fin 128) (c : Fin 2) (d : Fin 64) :
    val_main_v11 x1 (ix5 b n i c d) = val_main_v5 x1 (ix4 b ⟨128 * (2 + n.val) + i.val, by omega⟩ c d) :=
  (val_main_v11_apply x1 _).trans (v8 x1 b ⟨2 + n.val, by omega⟩ i c d)

/-- Key `j` of a block's band is a position of the extended sequence. -/
theorem v12 (x1 : A128) (b : Fin 2) (n : Fin 16) (j : Fin 384) (c : Fin 2) (d : Fin 64) :
    val_main_v12 x1 (ix5 b n j c d) = val_main_v5 x1 (ix4 b ⟨128 * n.val + j.val, by omega⟩ c d) := by
  unfold val_main_v12
  by_cases h1 : j.val < 128
  · refine (concatenate_apply_piece 2 _ _ (ix5 b n j c d) 0 (show _ < 3 by decide) S2x16x128x2x64 (val_main_v9 x1) rfl rfl 0 rfl (ix5 b n ⟨j.val, h1⟩ c d) (fun a ha => ?_) ?_).trans (v9 x1 _ _ _ _ _)
    · match a with
      | ⟨0, _⟩ => rfl
      | ⟨1, _⟩ => rfl
      | ⟨2, _⟩ => exact absurd rfl ha
      | ⟨3, _⟩ => rfl
      | ⟨4, _⟩ => rfl
    · exact Nat.zero_add _
  by_cases h2 : j.val < 256
  · refine (concatenate_apply_piece 2 _ _ (ix5 b n j c d) 1 (show _ < 3 by decide) S2x16x128x2x64 (val_main_v10 x1) rfl rfl 128 rfl (ix5 b n ⟨j.val - 128, by omega⟩ c d) (fun a ha => ?_) ?_).trans ((v10 x1 _ _ _ _ _).trans ?_)
    · match a with
      | ⟨0, _⟩ => rfl
      | ⟨1, _⟩ => rfl
      | ⟨2, _⟩ => exact absurd rfl ha
      | ⟨3, _⟩ => rfl
      | ⟨4, _⟩ => rfl
    · show 128 + (j.val - 128) = j.val
      omega
    · exact congrArg (fun s => val_main_v5 x1 (ix4 b s c d)) (Fin.ext (by show 128 * (1 + n.val) + (j.val - 128) = 128 * n.val + j.val; omega))
  · refine (concatenate_apply_piece 2 _ _ (ix5 b n j c d) 2 (show _ < 3 by decide) S2x16x128x2x64 (val_main_v11 x1) rfl rfl 256 rfl (ix5 b n ⟨j.val - 256, by omega⟩ c d) (fun a ha => ?_) ?_).trans ((v11 x1 _ _ _ _ _).trans ?_)
    · match a with
      | ⟨0, _⟩ => rfl
      | ⟨1, _⟩ => rfl
      | ⟨2, _⟩ => exact absurd rfl ha
      | ⟨3, _⟩ => rfl
      | ⟨4, _⟩ => rfl
    · show 256 + (j.val - 256) = j.val
      omega
    · exact congrArg (fun s => val_main_v5 x1 (ix4 b s c d)) (Fin.ext (by show 128 * (2 + n.val) + (j.val - 256) = 128 * n.val + j.val; omega))

/-- The values' band is made as the keys' is. -/
theorem v20 (x2 : A128) : val_main_v20 x2 = val_main_v12 x2 := rfl

/-- A band of real rows. -/
theorem band_eq (x1 : A128) (k : Fin 2 → Fin 2048 → Fin 2 → Fin 64 → ℝ) (a1 : ∀ b t c d, x1 (ix3 b t (lane2 c d)) = (k b t c d : EReal))
    (b : Fin 2) (n : Fin 16) (j : Fin 384) (c : Fin 2) (d : Fin 64) : val_main_v12 x1 (ix5 b n j c d) = (band (k b) n j c d : EReal) := by
  rw [v12, v5]
  unfold band
  by_cases h : inb n j
  · rw [if_pos h]
    refine (dif_pos h).trans ?_
    rw [a1]
    congr 2
    have h1 := h.1
    have h2 := h.2
    exact Fin.ext (by show 128 * n.val + j.val - 128 = min (128 * n.val + j.val - 128) 2047; omega)
  · rw [if_neg h]
    exact dif_neg h

end Cert.ReferenceIdeal.Stages

end

end
-- ==== Proof.At.lean ====
/-
  An array read at an index given by another name: the two agree when their coordinates do.
-/
module

public import Idealize.ShloMosaic.Lib.Pointwise

@[expose] public section

namespace Cert.At

open Idealize.ShloMosaic

variable {α : Type} {n0 n1 n2 n3 n4 n5 : Nat}

theorem at2 {x : (⟨2, ![n0, n1]⟩ : Shape).Idx → α} {f : (⟨2, ![n0, n1]⟩ : Shape).Idx} {a0 : Fin n0} {a1 : Fin n1}
    (h0 : f 0 = a0) (h1 : f 1 = a1) : x f = x (ix2 a0 a1) := by
  subst h0 h1; rw [ix2_eta]

theorem at3 {x : (⟨3, ![n0, n1, n2]⟩ : Shape).Idx → α} {f : (⟨3, ![n0, n1, n2]⟩ : Shape).Idx} {a0 : Fin n0} {a1 : Fin n1} {a2 : Fin n2}
    (h0 : f 0 = a0) (h1 : f 1 = a1) (h2 : f 2 = a2) : x f = x (ix3 a0 a1 a2) := by
  subst h0 h1 h2; rw [ix3_eta]

theorem at4 {x : (⟨4, ![n0, n1, n2, n3]⟩ : Shape).Idx → α} {f : (⟨4, ![n0, n1, n2, n3]⟩ : Shape).Idx} {a0 : Fin n0} {a1 : Fin n1} {a2 : Fin n2} {a3 : Fin n3}
    (h0 : f 0 = a0) (h1 : f 1 = a1) (h2 : f 2 = a2) (h3 : f 3 = a3) : x f = x (ix4 a0 a1 a2 a3) := by
  subst h0 h1 h2 h3; rw [ix4_eta]

theorem at5 {x : (⟨5, ![n0, n1, n2, n3, n4]⟩ : Shape).Idx → α} {f : (⟨5, ![n0, n1, n2, n3, n4]⟩ : Shape).Idx}
    {a0 : Fin n0} {a1 : Fin n1} {a2 : Fin n2} {a3 : Fin n3} {a4 : Fin n4}
    (h0 : f 0 = a0) (h1 : f 1 = a1) (h2 : f 2 = a2) (h3 : f 3 = a3) (h4 : f 4 = a4) : x f = x (ix5 a0 a1 a2 a3 a4) := by
  subst h0 h1 h2 h3 h4; rw [ix5_eta]

theorem at6 {x : (⟨6, ![n0, n1, n2, n3, n4, n5]⟩ : Shape).Idx → α} {f : (⟨6, ![n0, n1, n2, n3, n4, n5]⟩ : Shape).Idx}
    {a0 : Fin n0} {a1 : Fin n1} {a2 : Fin n2} {a3 : Fin n3} {a4 : Fin n4} {a5 : Fin n5}
    (h0 : f 0 = a0) (h1 : f 1 = a1) (h2 : f 2 = a2) (h3 : f 3 = a3) (h4 : f 4 = a4) (h5 : f 5 = a5) : x f = x (ix6 a0 a1 a2 a3 a4 a5) := by
  subst h0 h1 h2 h3 h4 h5; rw [ix6_eta]

end Cert.At

end
-- ==== Proof.Scores.lean ====
/-
  The reference's operations on real data, second part: the mask, the masked scores and the largest score of each query.
-/
module

public import proofs.«01_k».proof.Proof.Stages
public import proofs.«01_k».proof.Proof.Words
public import proofs.«01_k».proof.Proof.At

@[expose] public section

set_option maxRecDepth 16384

noncomputable section

namespace Cert.ReferenceIdeal.Stages

open scoped BigOperators
open Cert.ReferenceIdeal Cert.ReferenceIdeal.Gen Cert.ReferenceIdeal.Read Idealize.ShloMosaic Idealize.ShloMosaic.TcCoe
open Cert.Spec (lane2 lane8 lane2_surj lane8_surj grp mem near)
open Cert.Band (row key inb ok band)
open Cert.At

/-! ## The mask -/

/-- The position of a query as a word. -/
theorem v29 (n : Fin 16) (i : Fin 128) : val_main_v29 (F := Ideal) (ix2 n i) = BitVec.ofNat 32 (row n i).val := by
  refine (val_main_v29_apply _).trans ?_
  rw [val_main_v27_apply, val_main_v24_apply, val_main_v22_apply, val_main_v21_apply, val_main_v23_apply, val_main_c_apply, val_main_v28_apply, val_main_v26_apply, val_main_v25_apply]
  show IntOp.addi (IntOp.muli (BitVec.ofNat 32 n.val) 128#32) (BitVec.ofNat 32 i.val) = BitVec.ofNat 32 (128 * n.val + i.val)
  revert n i; decide +kernel

/-- The position of a key, before the first one's word is taken off, as words. -/
theorem v36 (n : Fin 16) (j : Fin 384) : val_main_v36 (F := Ideal) (ix2 n j)
    = IntOp.addi (IntOp.subi (IntOp.muli (BitVec.ofNat 32 n.val) 128#32) 128#32) (BitVec.ofNat 32 j.val) := by
  refine (val_main_v36_apply _).trans ?_
  rw [val_main_v34_apply, val_main_v31_apply, val_main_v24_apply, val_main_v22_apply, val_main_v21_apply, val_main_v23_apply, val_main_c_apply, val_main_v30_apply, val_main_c_4_apply,
    val_main_v35_apply, val_main_v33_apply, val_main_v32_apply]
  rfl

theorem key_word : ∀ (n : Fin 16) (j : Fin 384), inb n j →
    IntOp.addi (IntOp.subi (IntOp.muli (BitVec.ofNat 32 n.val) 128#32) 128#32) (BitVec.ofNat 32 j.val) = BitVec.ofNat 32 (key n j).val := by
  decide +kernel

theorem inb_word : ∀ (n : Fin 16) (j : Fin 384),
    IntOp.andi (IntOp.cmpi .sge (IntOp.addi (IntOp.subi (IntOp.muli (BitVec.ofNat 32 n.val) 128#32) 128#32) (BitVec.ofNat 32 j.val)) 0#32)
      (IntOp.cmpi .slt (IntOp.addi (IntOp.subi (IntOp.muli (BitVec.ofNat 32 n.val) 128#32) 128#32) (BitVec.ofNat 32 j.val)) 2048#32) = 1#1 ↔ inb n j := by
  decide +kernel

theorem v49 (n : Fin 16) (j : Fin 384) : val_main_v49 (F := Ideal) (ix2 n j) = 1#1 ↔ inb n j := by
  rw [val_main_v49_apply, val_main_v46_apply, val_main_v48_apply, val_main_v45_apply, val_main_v47_apply, val_main_c_6_apply, val_main_c_7_apply, v36]
  exact inb_word n j

/-- The mask says whether the key lies in the sequence and within 128 of the query. -/
theorem v52 (n : Fin 16) (i : Fin 128) (j : Fin 384) : val_main_v52 (F := Ideal) (ix3 n i j) = 1#1 ↔ ok n i j := by
  rw [val_main_v52_apply, Words.andi_iff]
  have e : val_main_v51 (F := Ideal) (ix3 n i j) = val_main_v49 (F := Ideal) (ix2 n j) := (val_main_v51_apply _).trans (val_main_v50_apply _)
  have e1 : val_main_v39 (F := Ideal) (ix3 n i j) = BitVec.ofNat 32 (row n i).val := (val_main_v39_apply _).trans ((val_main_v37_apply _).trans (v29 n i))
  have e2 : val_main_v40 (F := Ideal) (ix3 n i j) = val_main_v36 (F := Ideal) (ix2 n j) := (val_main_v40_apply _).trans (val_main_v38_apply _)
  rw [e, v49, val_main_v44_apply, val_main_v42_apply, val_main_v41_apply, val_main_v43_apply, val_main_c_5_apply, e1, e2, and_comm]
  refine and_congr_right fun h => ?_
  rw [v36, key_word n j h]
  exact Words.dist_word _ _ (by have := (row n i).isLt; omega) (by have := (key n j).isLt; omega)

theorem v58_1 (b : Fin 2) (c : Fin 2) (r : Fin 4) (n : Fin 16) (i : Fin 128) (j : Fin 384) :
    val_main_v58_1 (F := Ideal) (ix6 b c r n i j) = 1#1 ↔ ok n i j := by
  have e : val_main_v58_1 (F := Ideal) (ix6 b c r n i j) = val_main_v52 (F := Ideal) (ix3 n i j) := (val_main_v58_1_apply _).trans (val_main_v57_apply _)
  rw [e, v52]

theorem select_iff {α : Type} (w : BitVec 1) (p : Prop) [Decidable p] (h : w = 1#1 ↔ p) (a b : α) : Scalar.select w a b = if p then a else b := by
  by_cases hp : p
  · rw [if_pos hp]; exact if_pos (h.2 hp)
  · rw [if_neg hp]; exact if_neg fun e => hp (h.1 e)

/-! ## The scores -/

theorem eighth : (Ideal.ofBits FTy.f32 0x3E000000#32 : EReal) = ((1 / 8 : ℝ) : EReal) := by
  simp [Ideal.ofBits, Ideal.ieee, ← EReal.coe_mul]; norm_num

theorem eight : (Ideal.ofBits FTy.f32 0x41000000#32 : EReal) = ((8 : ℝ) : EReal) := by
  simp [Ideal.ofBits, Ideal.ieee, ← EReal.coe_mul]; norm_num

variable {x0 : A512} {x1 x2 : A128} {x3 : A8} {x4 : A512} {q : Fin 2 → Fin 2048 → Fin 8 → Fin 64 → ℝ} {k v : Fin 2 → Fin 2048 → Fin 2 → Fin 64 → ℝ}
  {σ : Fin 8 → ℝ} {o : Fin 2 → Fin 2048 → Fin 8 → Fin 64 → ℝ} (A : Args x0 x1 x2 x3 x4 q k v σ o)
include A

theorem v56 (b : Fin 2) (c : Fin 2) (r : Fin 4) (n : Fin 16) (i : Fin 128) (j : Fin 384) :
    val_main_v56 x0 x1 (ix6 b c r n i j) = (Band.S (q b) (k b) (mem c r) n i j : EReal) := by
  have e1 : val_main_v54 x0 x1 (ix6 b c r n i j) = val_main_v53 x0 x1 (ix6 b c n j i r) := (val_main_v54_apply _ _ _).trans (at6 rfl rfl rfl rfl rfl rfl)
  have e2 : val_main_v55 (F := Ideal) (ix6 b c r n i j) = ((1 / 8 : ℝ) : EReal) := (val_main_v55_apply _).trans ((val_main_cst_8_apply _).trans eighth)
  rw [val_main_v56_apply, e1, e2, val_main_v53_apply]
  rw [Reals.sum_eq _ (fun d => band (k b) n j (grp (mem c r)) d * q b (row n i) (mem c r) d) fun d => ?_]
  · exact (EReal.coe_mul _ _).symm
  · rw [EReal.coe_mul, Band.grp_mem]
    exact congrArg₂ (· * ·) ((at5 rfl rfl rfl rfl rfl).trans (band_eq x1 k A.a1 b n j c d)) ((at6 rfl rfl rfl rfl rfl rfl).trans ((v3 x0 b n i c r d).trans (A.a0 b _ _ d)))

theorem v58_0 (b : Fin 2) (c : Fin 2) (r : Fin 4) (n : Fin 16) (i : Fin 128) (j : Fin 384) :
    val_main_v58_0 x0 x1 (ix6 b c r n i j) = if ok n i j then (Band.S (q b) (k b) (mem c r) n i j : EReal) else ⊥ := by
  have e2 : val_main_call0_v2 (F := Ideal) (ix6 b c r n i j) = ⊥ := (val_main_call0_v2_apply _).trans ((val_main_call0_v0_apply _).trans ((val_main_cst_9_apply _).trans Reals.neg_inf))
  rw [val_main_v58_0_apply, select_iff _ _ (v58_1 b c r n i j), v56 A, e2]

end Cert.ReferenceIdeal.Stages

end

end
-- ==== Proof.Softmax.lean ====
/-
  The reference's operations on real data, third part: the largest score, the weights and their sum.
-/
module

public import proofs.«01_k».proof.Proof.Scores

@[expose] public section

set_option maxRecDepth 16384

noncomputable section

namespace Cert.ReferenceIdeal.Stages

open scoped BigOperators
open Cert.ReferenceIdeal Cert.ReferenceIdeal.Gen Cert.ReferenceIdeal.Read Idealize.ShloMosaic Idealize.ShloMosaic.TcCoe
open Cert.Spec (lane2 lane8 lane2_surj lane8_surj grp mem near wt wts den pr mx top)
open Cert.Band (row key inb ok band)
open Cert.At

/-- The host's maximum over the last axis, from minus infinity. -/
theorem max6 (x : FVec Ideal S2x2x4x16x128x384 .f32) (y : FVec Ideal S_ .f32) (hy : y = fun _ => ⊥) (b : Fin 2) (c : Fin 2) (r : Fin 4) (n : Fin 16) (i : Fin 128) :
    Host.reduce FloatOps.maximumf x y reducesTo_S2x2x4x16x128x384_S2x2x4x16x128_d5 h_S_ (ix5 b c r n i) = Finset.univ.sup fun j : Fin 384 => x (ix6 b c r n i j) := by
  have h : S2x2x4x16x128x384.Reduces [5] S2x2x4x16x128 := by decide
  rw [Host.reduce_eq_fold_single FloatOps.maximumf x _ _ h h_S_, hy]
  have e : (x ∘ h.lift (ix5 b c r n i)) = fun j : Fin 384 => x (ix6 b c r n i j) :=
    funext fun j => congrArg x (funext fun a => Fin.ext (by match a with | ⟨0, _⟩ => rfl | ⟨1, _⟩ => rfl | ⟨2, _⟩ => rfl | ⟨3, _⟩ => rfl | ⟨4, _⟩ => rfl | ⟨5, _⟩ => rfl))
  exact congrArg (fun f : Fin 384 → EReal => Finset.fold max ⊥ f Finset.univ) e

theorem half : (Ideal.ofBits FTy.f32 0x3F000000#32 : EReal) = ((1 / 2 : ℝ) : EReal) := by
  simp [Ideal.ofBits, Ideal.ieee, ← EReal.coe_mul]; norm_num

variable {x0 : A512} {x1 x2 : A128} {x3 : A8} {x4 : A512} {q : Fin 2 → Fin 2048 → Fin 8 → Fin 64 → ℝ} {k v : Fin 2 → Fin 2048 → Fin 2 → Fin 64 → ℝ}
  {σ : Fin 8 → ℝ} {o : Fin 2 → Fin 2048 → Fin 8 → Fin 64 → ℝ} (A : Args x0 x1 x2 x3 x4 q k v σ o)
include A

theorem v60 (b : Fin 2) (c : Fin 2) (r : Fin 4) (n : Fin 16) (i : Fin 128) :
    val_main_v60 x0 x1 (ix5 b c r n i) = Finset.univ.sup fun j => if ok n i j then (Band.S (q b) (k b) (mem c r) n i j : EReal) else ⊥ := by
  refine (max6 _ _ (funext fun t => (val_main_cst_10_apply t).trans Reals.neg_inf) b c r n i).trans ?_
  exact Finset.sup_congr rfl fun j _ => v58_0 A b c r n i j

theorem v59 (c : Fin 2) (r : Fin 4) : val_main_v59 x3 (ix5 0 c r 0 0) = (σ (mem c r) : EReal) := by
  refine (val_main_v59_apply _ _).trans ?_
  rw [← A.a3]
  refine congrArg x3 (funext fun a => Fin.ext ?_)
  match a with
  | ⟨0, _⟩ => show _ = 4 * c.val + r.val; simp; omega

theorem v66 (b : Fin 2) (c : Fin 2) (r : Fin 4) (n : Fin 16) (i : Fin 128) : val_main_v66 x3 (ix5 b c r n i) = (σ (mem c r) : EReal) :=
  (val_main_v66_apply _ _).trans ((at5 rfl rfl rfl rfl rfl).trans (v59 A c r))

theorem v91 (b : Fin 2) (c : Fin 2) (r : Fin 4) (n : Fin 16) (i : Fin 128) : val_main_v91 x3 (ix5 b c r n i) = (σ (mem c r) : EReal) :=
  (val_main_v91_apply _ _).trans ((at5 rfl rfl rfl rfl rfl).trans (v59 A c r))

/-- The larger of the largest score and the sink. -/
theorem v67 (b : Fin 2) (c : Fin 2) (r : Fin 4) (n : Fin 16) (i : Fin 128) :
    val_main_v67 x0 x1 x3 (ix5 b c r n i) = (mx (ok n i) (Band.S (q b) (k b) (mem c r) n i) (σ (mem c r)) : EReal) := by
  rw [val_main_v67_apply, v60 A, v66 A, Spec.coe_mx]
  rfl

/-- A key's weight before the division. -/
theorem v89 (b : Fin 2) (c : Fin 2) (r : Fin 4) (n : Fin 16) (i : Fin 128) (j : Fin 384) :
    val_main_v89 x0 x1 x3 (ix6 b c r n i j) = (wt (ok n i) (Band.S (q b) (k b) (mem c r) n i) (σ (mem c r)) j : EReal) := by
  have e : val_main_v87 x0 x1 x3 (ix6 b c r n i j) = (mx (ok n i) (Band.S (q b) (k b) (mem c r) n i) (σ (mem c r)) : EReal) :=
    (val_main_v87_apply _ _ _ _).trans ((val_main_v86_apply _ _ _ _).trans ((at5 rfl rfl rfl rfl rfl).trans (v67 A b c r n i)))
  rw [val_main_v89_apply, val_main_v88_apply, v58_0 A, e, Ideal.subf_def, Ideal.hostUnary_exp_def]
  unfold wt
  by_cases h : ok n i j
  · simp only [if_pos h]
    rw [← EReal.coe_sub, Ideal.exp_coe]
  · simp only [if_neg h]
    rw [EReal.bot_sub, Ideal.exp_bot, EReal.coe_zero]

/-- The sink's weight before the division. -/
theorem v93 (b : Fin 2) (c : Fin 2) (r : Fin 4) (n : Fin 16) (i : Fin 128) :
    val_main_v93 x0 x1 x3 (ix5 b c r n i) = (wts (ok n i) (Band.S (q b) (k b) (mem c r) n i) (σ (mem c r)) : EReal) := by
  rw [val_main_v93_apply, val_main_v92_apply, v91 A, v67 A, Ideal.subf_def, Ideal.hostUnary_exp_def, ← EReal.coe_sub, Ideal.exp_coe]
  rfl

/-- The sum of all weights. -/
theorem v94 (b : Fin 2) (c : Fin 2) (r : Fin 4) (n : Fin 16) (i : Fin 128) :
    val_main_v94 x0 x1 x3 (ix5 b c r n i) = (den (ok n i) (Band.S (q b) (k b) (mem c r) n i) (σ (mem c r)) : EReal) := by
  have e : val_main_v90 x0 x1 x3 (ix5 b c r n i) = ((∑ j, wt (ok n i) (Band.S (q b) (k b) (mem c r) n i) (σ (mem c r)) j : ℝ) : EReal) := by
    rw [val_main_v90_apply]
    rw [show val_main_cst_18 (F := Ideal) (Shape.Idx.first h_S_) = 0 from (val_main_cst_18_apply _).trans Ideal.ofBits_zero_f32, zero_add]
    exact Reals.sum_eq _ _ fun j => (at6 rfl rfl rfl rfl rfl rfl).trans (v89 A b c r n i j)
  rw [val_main_v94_apply, e, v93 A, Ideal.addf_def, ← EReal.coe_add]
  rfl

theorem v95 (b : Fin 2) (c : Fin 2) (r : Fin 4) (n : Fin 16) (i : Fin 128) :
    val_main_v95 x0 x1 x3 (ix6 b c r n i 0) = (den (ok n i) (Band.S (q b) (k b) (mem c r) n i) (σ (mem c r)) : EReal) :=
  (val_main_v95_apply _ _ _ _).trans ((at5 rfl rfl rfl rfl rfl).trans (v94 A b c r n i))

/-- A key's weight. -/
theorem v97 (b : Fin 2) (c : Fin 2) (r : Fin 4) (n : Fin 16) (i : Fin 128) (j : Fin 384) :
    val_main_v97 x0 x1 x3 (ix6 b c r n i j) = (Band.P (q b) (k b) σ (mem c r) n i j : EReal) := by
  have e : val_main_v96 x0 x1 x3 (ix6 b c r n i j) = (den (ok n i) (Band.S (q b) (k b) (mem c r) n i) (σ (mem c r)) : EReal) :=
    (val_main_v96_apply _ _ _ _).trans ((at6 rfl rfl rfl rfl rfl rfl).trans (v95 A b c r n i))
  rw [val_main_v97_apply, v89 A, e, Ideal.hostDivf_def, Reals.div_coe _ _ (Spec.den_pos _ _ _).ne']
  rfl

theorem v100 (b : Fin 2) (c : Fin 2) (r : Fin 4) (n : Fin 16) (i : Fin 128) :
    val_main_v100 x0 x1 x3 (ix6 b c r n i 0) = ((1 / (den (ok n i) (Band.S (q b) (k b) (mem c r) n i) (σ (mem c r))
      * den (ok n i) (Band.S (q b) (k b) (mem c r) n i) (σ (mem c r))) : ℝ) : EReal) := by
  have e : val_main_v99 (F := Ideal) (ix6 b c r n i 0) = 1 := (val_main_v99_apply _).trans ((val_main_cst_19_apply _).trans Ideal.ofBits_one_f32)
  have h := (Spec.den_pos (ok n i) (Band.S (q b) (k b) (mem c r) n i) (σ (mem c r))).ne'
  rw [val_main_v100_apply, val_main_v98_apply, v95 A, e, Ideal.hostDivf_def, Ideal.mulf_def, ← EReal.coe_mul]
  exact Reals.one_div_coe _ (mul_ne_zero h h)

/-! ## How many keys have the largest score -/

theorem v62 (b : Fin 2) (c : Fin 2) (r : Fin 4) (n : Fin 16) (i : Fin 128) (j : Fin 384) :
    val_main_v62 x0 x1 (ix6 b c r n i j) = val_main_v60 x0 x1 (ix5 b c r n i) := by
  have e : val_main_v62 x0 x1 (ix6 b c r n i j) = val_main_v61 x0 x1 (ix6 b c r n i 0) := (val_main_v62_apply _ _ _).trans (at6 rfl rfl rfl rfl rfl rfl)
  rw [e]
  unfold val_main_v61
  refine shapeCast_apply (val_main_v60 x0 x1) _ (ix6 b c r n i 0) (ix5 b c r n i) ?_
  rewrite [Shape.rowMajor_val_five, Shape.rowMajor_val_six]
  show (((b.val * 2 + c.val) * 4 + r.val) * 16 + n.val) * 128 + i.val = ((((b.val * 2 + c.val) * 4 + r.val) * 16 + n.val) * 128 + i.val) * 1 + 0
  omega

theorem v64 (b : Fin 2) (c : Fin 2) (r : Fin 4) (n : Fin 16) (i : Fin 128) (j : Fin 384) :
    val_main_v64 x0 x1 (ix6 b c r n i j) = (((if val_main_v58_0 x0 x1 (ix6 b c r n i j) = val_main_v60 x0 x1 (ix5 b c r n i) then 1 else 0 : ℝ)) : EReal) := by
  rw [val_main_v64_apply, val_main_v63_apply, v62 A, Ideal.cmpf_def, Ideal.cmp_oeq]
  by_cases h : val_main_v58_0 x0 x1 (ix6 b c r n i j) = val_main_v60 x0 x1 (ix5 b c r n i)
  · rw [if_pos h, decide_eq_true h]; show (((1 : ℕ) : ℝ) : EReal) = _; norm_num
  · rw [if_neg h, decide_eq_false h]; show (((0 : ℕ) : ℝ) : EReal) = _; norm_num

/-- Some key has the largest score. -/
theorem v65 (b : Fin 2) (c : Fin 2) (r : Fin 4) (n : Fin 16) (i : Fin 128) :
    ∃ y : ℝ, y ≠ 0 ∧ val_main_v65 x0 x1 (ix5 b c r n i) = (y : EReal) := by
  refine ⟨∑ j, if val_main_v58_0 x0 x1 (ix6 b c r n i j) = val_main_v60 x0 x1 (ix5 b c r n i) then 1 else 0, ?_, ?_⟩
  · obtain ⟨j, -, hj⟩ := Finset.exists_mem_eq_sup Finset.univ ⟨(0 : Fin 384), Finset.mem_univ _⟩
      fun j => if ok n i j then (Band.S (q b) (k b) (mem c r) n i j : EReal) else ⊥
    refine (lt_of_lt_of_le zero_lt_one ?_).ne'
    have h1 : val_main_v58_0 x0 x1 (ix6 b c r n i j) = val_main_v60 x0 x1 (ix5 b c r n i) := by rw [v58_0 A, v60 A, hj]
    refine le_trans (le_of_eq (if_pos h1).symm)
      (Finset.single_le_sum (f := fun j => if val_main_v58_0 x0 x1 (ix6 b c r n i j) = val_main_v60 x0 x1 (ix5 b c r n i) then (1 : ℝ) else 0) (fun t _ => ?_) (Finset.mem_univ j))
    dsimp only
    split <;> norm_num
  · rw [val_main_v65_apply]
    rw [show val_main_cst_11 (F := Ideal) (Shape.Idx.first h_S_) = 0 from (val_main_cst_11_apply _).trans Ideal.ofBits_zero_f32, zero_add]
    exact Reals.sum_eq _ _ fun j => (at6 rfl rfl rfl rfl rfl rfl).trans (v64 A b c r n i j)

omit A in
theorem v76 (i : S2x2x4x16x128.Idx) : ∃ y : ℝ, val_main_v76 x0 x1 x3 i = (y : EReal) := by
  rw [val_main_v76_apply, val_main_v75_apply, val_main_v72_apply, val_main_v74_apply, val_main_v73_apply, val_main_cst_12_apply, val_main_cst_13_apply, val_main_cst_14_apply]
  unfold Scalar.select
  split
  · exact ⟨1, Ideal.ofBits_one_f32⟩
  split
  · exact ⟨1 / 2, half⟩
  · exact ⟨0, Ideal.ofBits_zero_f32⟩

omit A in
theorem v85 (i : S2x2x4x16x128.Idx) : ∃ y : ℝ, val_main_v85 x0 x1 x3 i = (y : EReal) := by
  rw [val_main_v85_apply, val_main_v84_apply, val_main_v81_apply, val_main_v83_apply, val_main_v82_apply, val_main_cst_15_apply, val_main_cst_16_apply, val_main_cst_17_apply]
  unfold Scalar.select
  split
  · exact ⟨1, Ideal.ofBits_one_f32⟩
  split
  · exact ⟨1 / 2, half⟩
  · exact ⟨0, Ideal.ofBits_zero_f32⟩

end Cert.ReferenceIdeal.Stages

end

end
-- ==== Proof.Derivative.lean ====
/-
  The reference's operations on real data, fourth part: the derivative of the softmax, back to the scores and the sinks.
-/
module

public import proofs.«01_k».proof.Proof.Softmax

@[expose] public section

set_option maxRecDepth 16384

noncomputable section

namespace Cert.ReferenceIdeal.Stages

open scoped BigOperators
open Cert.ReferenceIdeal Cert.ReferenceIdeal.Gen Cert.ReferenceIdeal.Read Idealize.ShloMosaic Idealize.ShloMosaic.TcCoe
open Cert.Spec (lane2 lane8 lane2_surj lane8_surj grp mem near wt wts den pr mx top del dsc dsk)
open Cert.Band (row key inb ok band)
open Cert.At

/-- The host's sum over the batch, the blocks and the queries. -/
theorem sum3 (x : FVec Ideal S2x2x4x16x128 .f32) (y : FVec Ideal S_ .f32) (hy : y (Shape.Idx.first h_S_) = 0) (c : Fin 2) (r : Fin 4) :
    Host.reduceAdd x y reducesTo_S2x2x4x16x128_S2x4_d0_3_4 h_S_ (ix2 c r) = ∑ b : Fin 2, ∑ n : Fin 16, ∑ i : Fin 128, x (ix5 b c r n i) := by
  rw [ValueIdx.hostReduceAdd_apply, hy]
  unfold Ideal.hostReduceAdd
  have hd (b : Fin 2) (c' : Fin 2) (r' : Fin 4) (n : Fin 16) (i : Fin 128) :
      reducesTo_S2x2x4x16x128_S2x4_d0_3_4.drop (ix5 b c' r' n i) = ix2 c' r' := by
    funext a
    match a with
    | ⟨0, _⟩ => exact Fin.ext (Shape.ReducesTo.drop_apply_val_of_eq reducesTo_S2x2x4x16x128_S2x4_d0_3_4 (ix5 b c' r' n i) 0 1)
    | ⟨1, _⟩ => exact Fin.ext (Shape.ReducesTo.drop_apply_val_of_eq reducesTo_S2x2x4x16x128_S2x4_d0_3_4 (ix5 b c' r' n i) 1 2)
  have hi (c' : Fin 2) (r' : Fin 4) : (ix2 c' r' : S2x4.Idx) = ix2 c r ↔ c' = c ∧ r' = r :=
    ⟨fun h => ⟨congrFun h 0, congrFun h 1⟩, fun h => by rw [h.1, h.2]⟩
  rw [zero_add, Finset.sum_filter, sum_idx5]
  refine Finset.sum_congr rfl fun b _ => ?_
  rw [Finset.sum_eq_single c, Finset.sum_eq_single r]
  · exact Finset.sum_congr rfl fun n _ => Finset.sum_congr rfl fun i _ => if_pos (hd b c r n i)
  · intro r' _ h
    exact Finset.sum_eq_zero fun n _ => Finset.sum_eq_zero fun i _ => if_neg fun e => h ((hi c r').1 ((hd b c r' n i).symm.trans e)).2
  · exact fun h => absurd (Finset.mem_univ _) h
  · intro c' _ h
    exact Finset.sum_eq_zero fun r' _ => Finset.sum_eq_zero fun n _ => Finset.sum_eq_zero fun i _ =>
      if_neg fun e => h ((hi c' r').1 ((hd b c' r' n i).symm.trans e)).1
  · exact fun h => absurd (Finset.mem_univ _) h

/-- An array with a last axis of extent one, from the array without it. -/
theorem last1 (y : FVec Ideal S2x2x4x16x128 .f32) (b : Fin 2) (c : Fin 2) (r : Fin 4) (n : Fin 16) (i : Fin 128) (z : Fin 1) :
    shapeCast S2x2x4x16x128x1 y shapeCasts_S2x2x4x16x128_S2x2x4x16x128x1 (ix6 b c r n i z) = y (ix5 b c r n i) := by
  refine shapeCast_apply y _ (ix6 b c r n i z) (ix5 b c r n i) ?_
  rewrite [Shape.rowMajor_val_five, Shape.rowMajor_val_six]
  show (((b.val * 2 + c.val) * 4 + r.val) * 16 + n.val) * 128 + i.val = ((((b.val * 2 + c.val) * 4 + r.val) * 16 + n.val) * 128 + i.val) * 1 + z.val
  omega

variable {x0 : A512} {x1 x2 : A128} {x3 : A8} {x4 : A512} {q : Fin 2 → Fin 2048 → Fin 8 → Fin 64 → ℝ} {k v : Fin 2 → Fin 2048 → Fin 2 → Fin 64 → ℝ}
  {σ : Fin 8 → ℝ} {o : Fin 2 → Fin 2048 → Fin 8 → Fin 64 → ℝ} (A : Args x0 x1 x2 x3 x4 q k v σ o)
include A

theorem v105 (b : Fin 2) (n : Fin 16) (c : Fin 2) (d : Fin 64) (r : Fin 4) (i : Fin 128) :
    val_main_v105 x4 (ix6 b n c d r i) = (o b (row n i) (mem c r) d : EReal) :=
  (val_main_v105_apply _ _).trans ((at6 rfl rfl rfl rfl rfl rfl).trans ((v104 x4 b n i c r d).trans (A.a4 _ _ _ _)))

/-- The gradient of a key's weight. -/
theorem v107 (b : Fin 2) (c : Fin 2) (r : Fin 4) (n : Fin 16) (i : Fin 128) (j : Fin 384) :
    val_main_v107 x2 x4 (ix6 b c r n i j) = (Band.D (v b) (o b) (mem c r) n i j : EReal) := by
  refine (val_main_v107_apply _ _ _).trans ((at6 (a0 := b) (a1 := n) (a2 := c) (a3 := r) (a4 := i) (a5 := j) rfl rfl rfl rfl rfl rfl).trans ?_)
  rw [val_main_v106_apply]
  refine Reals.sum_eq _ (fun d => o b (row n i) (mem c r) d * band (v b) n j (grp (mem c r)) d) fun d => ?_
  rw [EReal.coe_mul, Band.grp_mem, v20]
  exact congrArg₂ (· * ·) ((at6 rfl rfl rfl rfl rfl rfl).trans (v105 A b n c d r i)) ((at5 rfl rfl rfl rfl rfl).trans (band_eq x2 v A.a2 b n j c d))

theorem v113 (b : Fin 2) (c : Fin 2) (r : Fin 4) (n : Fin 16) (i : Fin 128) :
    val_main_v113 x0 x1 x2 x3 x4 (ix5 b c r n i) = ((∑ j, Band.D (v b) (o b) (mem c r) n i j
      * (1 / (den (ok n i) (Band.S (q b) (k b) (mem c r) n i) (σ (mem c r)) * den (ok n i) (Band.S (q b) (k b) (mem c r) n i) (σ (mem c r))))
      * wt (ok n i) (Band.S (q b) (k b) (mem c r) n i) (σ (mem c r)) j : ℝ) : EReal) := by
  rw [val_main_v113_apply]
  rw [show val_main_cst_20 (F := Ideal) (Shape.Idx.first h_S_) = 0 from (val_main_cst_20_apply _).trans Ideal.ofBits_zero_f32, zero_add]
  refine Reals.sum_eq _ _ fun j => (at6 (a0 := b) (a1 := c) (a2 := r) (a3 := n) (a4 := i) (a5 := j) rfl rfl rfl rfl rfl rfl).trans ?_
  have e : val_main_v110 x0 x1 x3 (ix6 b c r n i j) = _ := (val_main_v110_apply _ _ _ _).trans ((at6 rfl rfl rfl rfl rfl rfl).trans (v100 A b c r n i))
  rw [val_main_v112_apply, val_main_v111_apply, v107 A, v89 A, e, Ideal.mulf_def, Ideal.mulf_def, ← EReal.coe_mul, ← EReal.coe_mul]

/-- The gradient of the sum of the weights. -/
theorem v118 (b : Fin 2) (c : Fin 2) (r : Fin 4) (n : Fin 16) (i : Fin 128) :
    val_main_v118 x0 x1 x2 x3 x4 (ix5 b c r n i) = ((-(1 / den (ok n i) (Band.S (q b) (k b) (mem c r) n i) (σ (mem c r))
      * del (ok n i) (Band.S (q b) (k b) (mem c r) n i) (σ (mem c r)) (Band.D (v b) (o b) (mem c r) n i)) : ℝ) : EReal) := by
  rw [val_main_v118_apply]
  rw [show val_main_cst_21 (F := Ideal) (Shape.Idx.first h_S_) = 0 from (val_main_cst_21_apply _).trans Ideal.ofBits_zero_f32, zero_add, Fin.sum_univ_one]
  refine (at6 (a0 := b) (a1 := c) (a2 := r) (a3 := n) (a4 := i) (a5 := 0) rfl rfl rfl rfl rfl rfl).trans ?_
  have e : val_main_v114 x0 x1 x2 x3 x4 (ix6 b c r n i 0) = _ := (last1 _ b c r n i 0).trans (v113 A b c r n i)
  rw [val_main_v115_apply, e, Ideal.hostNegf_def, Ideal.negf_def, ← EReal.coe_neg, Band.inv_term]

/-- A query's part of the sink's gradient. -/
theorem v119 (b : Fin 2) (c : Fin 2) (r : Fin 4) (n : Fin 16) (i : Fin 128) :
    val_main_v119 x0 x1 x2 x3 x4 (ix5 b c r n i) = (Band.K (q b) (k b) (v b) σ (o b) (mem c r) n i : EReal) := by
  rw [val_main_v119_apply, v118 A, v93 A, Ideal.mulf_def, ← EReal.coe_mul, Band.sink_term]
  rfl

/-- The gradient of a score through its own weight. -/
theorem v125 (b : Fin 2) (c : Fin 2) (r : Fin 4) (n : Fin 16) (i : Fin 128) (j : Fin 384) :
    val_main_v125 x0 x1 x2 x3 x4 (ix6 b c r n i j) = (Band.G (q b) (k b) (v b) σ (o b) (mem c r) n i j : EReal) := by
  have e1 : val_main_v116 x0 x1 x3 (ix6 b c r n i j) = _ := (val_main_v116_apply _ _ _ _).trans ((at6 rfl rfl rfl rfl rfl rfl).trans (v95 A b c r n i))
  have e2 : val_main_v123 x0 x1 x2 x3 x4 (ix6 b c r n i j) = _ := (val_main_v123_apply _ _ _ _ _ _).trans ((at5 rfl rfl rfl rfl rfl).trans (v118 A b c r n i))
  rw [val_main_v125_apply, val_main_v124_apply, val_main_v117_apply, v107 A, e1, e2, v89 A, Ideal.hostDivf_def, Reals.div_coe _ _ (Spec.den_pos _ _ _).ne',
    Ideal.addf_def, Ideal.mulf_def, ← EReal.coe_add, ← EReal.coe_mul, Band.score_term]
  rfl

/-- Nothing flows through the largest score. -/
theorem v130 (b : Fin 2) (c : Fin 2) (r : Fin 4) (n : Fin 16) (i : Fin 128) : val_main_v130 x0 x1 x2 x3 x4 (ix5 b c r n i) = 0 := by
  have e : val_main_v129 x0 x1 x2 x3 x4 (ix5 b c r n i) = ((∑ j, -Band.G (q b) (k b) (v b) σ (o b) (mem c r) n i j : ℝ) : EReal) := by
    rw [val_main_v129_apply]
    rw [show val_main_cst_24 (F := Ideal) (Shape.Idx.first h_S_) = 0 from (val_main_cst_24_apply _).trans Ideal.ofBits_zero_f32, zero_add, Fin.sum_univ_one]
    refine (at6 (a0 := b) (a1 := c) (a2 := r) (a3 := n) (a4 := i) (a5 := 0) rfl rfl rfl rfl rfl rfl).trans ?_
    refine (last1 _ b c r n i 0).trans ?_
    rw [val_main_v127_apply]
    rw [show val_main_cst_23 (F := Ideal) (Shape.Idx.first h_S_) = 0 from (val_main_cst_23_apply _).trans Ideal.ofBits_zero_f32, zero_add]
    refine Reals.sum_eq _ _ fun j => (at6 (a0 := b) (a1 := c) (a2 := r) (a3 := n) (a4 := i) (a5 := j) rfl rfl rfl rfl rfl rfl).trans ?_
    rw [val_main_v126_apply, v125 A, Ideal.hostNegf_def, Ideal.negf_def, EReal.coe_neg]
  rw [val_main_v130_apply, val_main_v122_apply, v119 A, e, Ideal.hostNegf_def, Ideal.negf_def, Ideal.addf_def, ← EReal.coe_neg, ← EReal.coe_add]
  exact congrArg ((↑) : ℝ → EReal) (Band.max_term _ _ _ _)

theorem v138 (b : Fin 2) (c : Fin 2) (r : Fin 4) (n : Fin 16) (i : Fin 128) (j : Fin 384) : val_main_v138 x0 x1 x2 x3 x4 (ix6 b c r n i j) = 0 := by
  have e : val_main_v137 x0 x1 x2 x3 x4 (ix6 b c r n i j) = 0 := by
    refine (val_main_v137_apply _ _ _ _ _ _).trans ((at5 (a0 := b) (a1 := c) (a2 := r) (a3 := n) (a4 := i) rfl rfl rfl rfl rfl).trans ?_)
    obtain ⟨y, hy, e65⟩ := v65 A b c r n i
    rw [val_main_v136_apply, val_main_v135_apply, v130 A, e65, Ideal.mulf_def, zero_mul, Ideal.hostDivf_def]
    rw [← EReal.coe_zero, Reals.div_coe _ _ hy, zero_mul]
  rw [val_main_v138_apply, e, Ideal.mulf_def, zero_mul]

/-- The gradient of a score, scaled. -/
theorem v143 (b : Fin 2) (c : Fin 2) (r : Fin 4) (n : Fin 16) (i : Fin 128) (j : Fin 384) :
    val_main_v143 x0 x1 x2 x3 x4 (ix6 b c r n i j) = ((Band.G (q b) (k b) (v b) σ (o b) (mem c r) n i j * (1 / 8) : ℝ) : EReal) := by
  have e1 : val_main_v142 (F := Ideal) (ix6 b c r n i j) = ((1 / 8 : ℝ) : EReal) := (val_main_v142_apply _).trans ((val_main_cst_26_apply _).trans eighth)
  have e2 : val_main_call1_v0 (F := Ideal) (ix6 b c r n i j) = 0 := (val_main_call1_v0_apply _).trans ((val_main_call1_cst_apply _).trans Ideal.ofBits_zero_f32)
  have e : val_main_v141 x0 x1 x2 x3 x4 (ix6 b c r n i j) = (Band.G (q b) (k b) (v b) σ (o b) (mem c r) n i j : EReal) := by
    rw [val_main_v141_apply, select_iff _ _ (v58_1 b c r n i j), val_main_v139_apply, v125 A, v138 A, e2, Ideal.addf_def, add_zero]
    by_cases h : ok n i j
    · rw [if_pos h]
    · rw [if_neg h, Band.G_of_not _ _ _ _ _ _ _ _ _ h, EReal.coe_zero]
  rw [val_main_v143_apply, e, e1, Ideal.mulf_def, ← EReal.coe_mul]

/-- The gradient of a sink. -/
theorem v134 (c : Fin 2) (r : Fin 4) :
    val_main_v134 x0 x1 x2 x3 x4 (ix5 0 c r 0 0) = ((∑ b, Spec.dsink (q b) (k b) (v b) σ (o b) (mem c r) : ℝ) : EReal) := by
  have e1 : val_main_v120 x0 x1 x2 x3 x4 (ix2 c r) = ((∑ b, Spec.dsink (q b) (k b) (v b) σ (o b) (mem c r) : ℝ) : EReal) := by
    refine (sum3 _ _ ((val_main_cst_22_apply _).trans Ideal.ofBits_zero_f32) c r).trans ?_
    refine Reals.sum_eq _ _ fun b => ?_
    rw [← Band.dsink_eq]
    exact Reals.sum_eq _ _ fun n => Reals.sum_eq _ _ fun i => v119 A b c r n i
  have e2 : val_main_v132 x0 x1 x2 x3 x4 (ix2 c r) = 0 := by
    refine (sum3 _ _ ((val_main_cst_25_apply _).trans Ideal.ofBits_zero_f32) c r).trans ?_
    refine Finset.sum_eq_zero fun b _ => Finset.sum_eq_zero fun n _ => Finset.sum_eq_zero fun i _ => ?_
    rw [val_main_v131_apply, v130 A, Ideal.mulf_def, zero_mul]
  have e3 : val_main_v121 x0 x1 x2 x3 x4 (ix5 0 c r 0 0) = val_main_v120 x0 x1 x2 x3 x4 (ix2 c r) := by
    refine (val_main_v121_apply _ _ _ _ _ _).trans (at2 (Fin.ext ?_) (Fin.ext ?_))
    · show _ = c.val; simp; omega
    · show _ = r.val; simp
  have e4 : val_main_v133 x0 x1 x2 x3 x4 (ix5 0 c r 0 0) = val_main_v132 x0 x1 x2 x3 x4 (ix2 c r) := by
    refine (val_main_v133_apply _ _ _ _ _ _).trans (at2 (Fin.ext ?_) (Fin.ext ?_))
    · show _ = c.val; simp; omega
    · show _ = r.val; simp
  rw [val_main_v134_apply, e3, e4, e1, e2, Ideal.addf_def, add_zero]

end Cert.ReferenceIdeal.Stages

end

end
-- ==== Proof.Results.lean ====
/-
  The reference's operations on real data, fifth part: its four results are the gradients of the attention.
-/
module

public import proofs.«01_k».proof.Proof.Derivative

@[expose] public section

set_option maxRecDepth 16384

noncomputable section

namespace Cert.ReferenceIdeal.Stages

open scoped BigOperators
open Cert.ReferenceIdeal Cert.ReferenceIdeal.Gen Cert.ReferenceIdeal.Read Idealize.ShloMosaic Idealize.ShloMosaic.TcCoe
open Cert.Spec (lane2 lane8 lane2_surj lane8_surj grp mem near)
open Cert.Band (row key inb ok band)
open Cert.At

/-- An array moved `s` blocks on within two more blocks of zeros, on real data. -/
theorem moved (s : ℕ) (hi : Fin 5 → ℕ) (x : FVec Ideal S2x16x128x2x64 .f32) (y : FVec Ideal S_ .f32) (hy : y (Shape.Idx.first h_S_) = 0)
    (h : S2x16x128x2x64.Pads ![0, s, 0, 0, 0] hi ![0, 0, 0, 0, 0] S2x18x128x2x64) (b : Fin 2) (m : Fin 18) (i : Fin 128) (c : Fin 2) (d : Fin 64)
    (f : Fin 16 → ℝ) (hf : ∀ n, x (ix5 b n i c d) = (f n : EReal)) :
    pad S2x18x128x2x64 ![0, s, 0, 0, 0] hi ![0, 0, 0, 0, 0] x y h h_S_ (ix5 b m i c d) = ((∑ n : Fin 16, if n.val + s = m.val then f n else 0 : ℝ) : EReal) := by
  by_cases hm : s ≤ m.val ∧ m.val - s < 16
  · rw [Finset.sum_eq_single (⟨m.val - s, hm.2⟩ : Fin 16), if_pos (show m.val - s + s = m.val by omega), ← hf]
    · refine Idealize.ShloMosaic.pad_apply_of_inside _ _ _ x y h h_S_ (ix5 b m i c d) (ix5 b ⟨m.val - s, hm.2⟩ i c d) fun a => ?_
      match a with
      | ⟨0, _⟩ => show b.val = 0 + b.val * 1; omega
      | ⟨1, _⟩ => show m.val = s + (m.val - s) * 1; omega
      | ⟨2, _⟩ => show i.val = 0 + i.val * 1; omega
      | ⟨3, _⟩ => show c.val = 0 + c.val * 1; omega
      | ⟨4, _⟩ => show d.val = 0 + d.val * 1; omega
    · intro n _ hn
      exact if_neg fun e => hn (Fin.ext (by show n.val = m.val - s; omega))
    · exact fun hn => absurd (Finset.mem_univ _) hn
  · rw [Finset.sum_eq_zero fun n _ => if_neg fun e : n.val + s = m.val => hm ⟨by omega, by omega⟩, EReal.coe_zero]
    refine (Idealize.ShloMosaic.pad_apply_of_not_inside _ _ _ x y h h_S_ (ix5 b m i c d) 1 ?_).trans hy
    show ¬(s ≤ m.val ∧ (m.val - s) % 1 = 0 ∧ (m.val - s) / 1 < 16)
    omega

/-- Blocks of 128 rows joined. -/
theorem joined (y : FVec Ideal S2x18x128x2x64 .f32) (b : Fin 2) (t : Fin 2048) (c : Fin 2) (d : Fin 64) :
    shapeCast S2x2304x2x64 y shapeCasts_S2x18x128x2x64_S2x2304x2x64 (ix4 b ⟨128 + t.val, by omega⟩ c d)
      = y (ix5 b ⟨(t.val + 128) / 128, by omega⟩ ⟨(t.val + 128) % 128, by omega⟩ c d) := by
  refine shapeCast_apply y _ (ix4 b ⟨128 + t.val, by omega⟩ c d) (ix5 b ⟨(t.val + 128) / 128, by omega⟩ ⟨(t.val + 128) % 128, by omega⟩ c d) ?_
  rewrite [Shape.rowMajor_val_five, Shape.rowMajor_val_four]
  show (((b.val * 18 + (t.val + 128) / 128) * 128 + (t.val + 128) % 128) * 2 + c.val) * 64 + d.val = ((b.val * 2304 + (128 + t.val)) * 2 + c.val) * 64 + d.val
  omega

theorem lanes2 (y : FVec Ideal S2x2048x2x64 .f32) (b : Fin 2) (t : Fin 2048) (c : Fin 2) (d : Fin 64) :
    shapeCast S2x2048x128 y shapeCasts_S2x2048x2x64_S2x2048x128 (ix3 b t (lane2 c d)) = y (ix4 b t c d) := by
  refine shapeCast_apply y _ (ix3 b t (lane2 c d)) (ix4 b t c d) ?_
  rewrite [Shape.rowMajor_val_three, Shape.rowMajor_val_four]
  show ((b.val * 2048 + t.val) * 2 + c.val) * 64 + d.val = (b.val * 2048 + t.val) * 128 + (64 * c.val + d.val)
  omega

theorem lanes8 (y : FVec Ideal S2x16x128x2x4x64 .f32) (b : Fin 2) (n : Fin 16) (i : Fin 128) (c : Fin 2) (r : Fin 4) (d : Fin 64) :
    shapeCast S2x2048x512 (shapeCast S2x2048x8x64 y shapeCasts_S2x16x128x2x4x64_S2x2048x8x64) shapeCasts_S2x2048x8x64_S2x2048x512 (ix3 b (row n i) (lane8 (mem c r) d))
      = y (ix6 b n i c r d) := by
  refine (shapeCast_apply _ _ (ix3 b (row n i) (lane8 (mem c r) d)) (ix4 b (row n i) (mem c r) d) ?_).trans
    (shapeCast_apply y _ (ix4 b (row n i) (mem c r) d) (ix6 b n i c r d) ?_)
  · rewrite [Shape.rowMajor_val_three, Shape.rowMajor_val_four]
    show ((b.val * 2048 + (128 * n.val + i.val)) * 8 + (4 * c.val + r.val)) * 64 + d.val = (b.val * 2048 + (128 * n.val + i.val)) * 512 + (64 * (4 * c.val + r.val) + d.val)
    omega
  · rewrite [Shape.rowMajor_val_four, Shape.rowMajor_val_six]
    show ((((b.val * 16 + n.val) * 128 + i.val) * 2 + c.val) * 4 + r.val) * 64 + d.val = ((b.val * 2048 + (128 * n.val + i.val)) * 8 + (4 * c.val + r.val)) * 64 + d.val
    omega

theorem row_surj (u : Fin 2048) : ∃ n i, u = row n i :=
  ⟨⟨u.val / 128, by omega⟩, ⟨u.val % 128, by omega⟩, Fin.ext (by show u.val = 128 * (u.val / 128) + u.val % 128; omega)⟩

variable {x0 : A512} {x1 x2 : A128} {x3 : A8} {x4 : A512} {q : Fin 2 → Fin 2048 → Fin 8 → Fin 64 → ℝ} {k v : Fin 2 → Fin 2048 → Fin 2 → Fin 64 → ℝ}
  {σ : Fin 8 → ℝ} {o : Fin 2 → Fin 2048 → Fin 8 → Fin 64 → ℝ} (A : Args x0 x1 x2 x3 x4 q k v σ o)
include A

/-! ## The queries -/

theorem v144 (b : Fin 2) (c : Fin 2) (n : Fin 16) (j : Fin 384) (i : Fin 128) (r : Fin 4) :
    val_main_v144 x0 x1 x2 x3 x4 (ix6 b c n j i r) = ((Band.G (q b) (k b) (v b) σ (o b) (mem c r) n i j * (1 / 8) : ℝ) : EReal) :=
  (val_main_v144_apply _ _ _ _ _ _).trans ((at6 rfl rfl rfl rfl rfl rfl).trans (v143 A b c r n i j))

theorem v146 (b : Fin 2) (n : Fin 16) (i : Fin 128) (c : Fin 2) (r : Fin 4) (d : Fin 64) :
    val_main_v146 x0 x1 x2 x3 x4 (ix6 b n i c r d)
      = ((∑ j, Band.G (q b) (k b) (v b) σ (o b) (mem c r) n i j * (1 / 8) * band (k b) n j (grp (mem c r)) d : ℝ) : EReal) := by
  refine (val_main_v146_apply _ _ _ _ _ _).trans ((at6 (a0 := b) (a1 := c) (a2 := n) (a3 := i) (a4 := r) (a5 := d) rfl rfl rfl rfl rfl rfl).trans ?_)
  rw [val_main_v145_apply]
  refine Reals.sum_eq _ _ fun j => ?_
  rw [EReal.coe_mul, Band.grp_mem]
  exact congrArg₂ (· * ·) ((at6 rfl rfl rfl rfl rfl rfl).trans (v144 A b c n j i r)) ((at5 rfl rfl rfl rfl rfl).trans (band_eq x1 k A.a1 b n j c d))

/-- The first result: the gradient of the queries. -/
theorem v179 : val_main_v179 x0 x1 x2 x3 x4 = Spec.arrQ q k v σ o := by
  funext y
  rw [← ix3_eta y]
  generalize y 0 = b
  generalize y 1 = u
  generalize y 2 = l
  obtain ⟨n, i, rfl⟩ := row_surj u
  obtain ⟨h, d, rfl⟩ := lane8_surj l
  obtain ⟨c, r, rfl⟩ := Band.mem_surj h
  refine Eq.trans ?_ (Spec.arrQ_apply q k v σ o b (row n i) (mem c r) d).symm
  have e1 : val_main_v177 (F := Ideal) (ix3 b (row n i) (lane8 (mem c r) d)) = ((8 : ℝ) : EReal) := (val_main_v177_apply _).trans ((val_main_cst_33_apply _).trans eight)
  have e2 : val_main_v176 x0 x1 x2 x3 x4 (ix3 b (row n i) (lane8 (mem c r) d)) = _ := (lanes8 _ b n i c r d).trans (v146 A b n i c r d)
  rw [val_main_v179_apply, val_main_v178_apply, e1, e2, Ideal.truncf_def, Ideal.mulf_def, ← EReal.coe_mul, Band.dq_eq]

/-! ## The keys -/

theorem v148 (b : Fin 2) (n : Fin 16) (j : Fin 384) (c : Fin 2) (d : Fin 64) :
    val_main_v148 x0 x1 x2 x3 x4 (ix5 b n j c d)
      = ((∑ i, ∑ r, Band.G (q b) (k b) (v b) σ (o b) (mem c r) n i j * (1 / 8) * q b (row n i) (mem c r) d : ℝ) : EReal) := by
  refine (val_main_v148_apply _ _ _ _ _ _).trans ((at5 (a0 := b) (a1 := c) (a2 := n) (a3 := j) (a4 := d) rfl rfl rfl rfl rfl).trans ?_)
  have e : val_main_v147 x0 x1 x2 x3 x4 (ix5 b c n j d)
      = ∑ i : Fin 128, ∑ r : Fin 4, val_main_v144 x0 x1 x2 x3 x4 (ix6 b c n j i r) * val_main_v3 x0 (ix6 b n i c r d) := by
    unfold val_main_v147
    generalize val_main_v144 x0 x1 x2 x3 x4 = y0
    generalize val_main_v3 x0 = y1
    pointwise []
  rw [e]
  refine Reals.sum_eq _ _ fun i => Reals.sum_eq _ _ fun r => ?_
  rw [v144 A, v3, A.a0, ← EReal.coe_mul]

theorem v168 (b : Fin 2) (m : Fin 18) (i : Fin 128) (c : Fin 2) (d : Fin 64) :
    val_main_v168 x0 x1 x2 x3 x4 (ix5 b m i c d) = ((Band.gather (fun n j => ∑ i, ∑ r, Band.G (q b) (k b) (v b) σ (o b) (mem c r) n i j * (1 / 8) * q b (row n i) (mem c r) d) (128 * m.val + i.val) : ℝ) : EReal) := by
  have e2 : val_main_v164 x0 x1 x2 x3 x4 (ix5 b m i c d) = _ := moved 2 _ _ _ ((val_main_cst_30_apply _).trans Ideal.ofBits_zero_f32) _ b m i c d _
    fun n => (val_main_v163_apply _ _ _ _ _ _).trans ((at5 rfl rfl rfl rfl rfl).trans (v148 A b n ⟨256 + i.val, by omega⟩ c d))
  have e1 : val_main_v165 x0 x1 x2 x3 x4 (ix5 b m i c d) = _ := moved 1 _ _ _ ((val_main_cst_31_apply _).trans Ideal.ofBits_zero_f32) _ b m i c d _
    fun n => (val_main_v162_apply _ _ _ _ _ _).trans ((at5 rfl rfl rfl rfl rfl).trans (v148 A b n ⟨128 + i.val, by omega⟩ c d))
  have e0 : val_main_v167 x0 x1 x2 x3 x4 (ix5 b m i c d) = _ := moved 0 _ _ _ ((val_main_cst_32_apply _).trans Ideal.ofBits_zero_f32) _ b m i c d _
    fun n => (val_main_v161_apply _ _ _ _ _ _).trans ((at5 rfl rfl rfl rfl rfl).trans (v148 A b n ⟨i.val, by omega⟩ c d))
  rw [val_main_v168_apply, val_main_v166_apply, e2, e1, e0, Ideal.addf_def, Ideal.addf_def, ← EReal.coe_add, ← EReal.coe_add, ← Band.gather_blocks]
  rfl

theorem v175 (b : Fin 2) (t : Fin 2048) (c : Fin 2) (d : Fin 64) :
    val_main_v175 x0 x1 x2 x3 x4 (ix3 b t (lane2 c d)) = ((Band.gather (fun n j => ∑ i, ∑ r, Band.G (q b) (k b) (v b) σ (o b) (mem c r) n i j * (1 / 8) * q b (row n i) (mem c r) d) (t.val + 128) : ℝ) : EReal) := by
  have e1 : val_main_v175 x0 x1 x2 x3 x4 (ix3 b t (lane2 c d)) = val_main_v171 x0 x1 x2 x3 x4 (ix4 b t c d) := lanes2 _ b t c d
  have e2 : val_main_v171 x0 x1 x2 x3 x4 (ix4 b t c d) = val_main_v169 x0 x1 x2 x3 x4 (ix4 b ⟨128 + t.val, by omega⟩ c d) := (val_main_v171_apply _ _ _ _ _ _).trans (at4 rfl rfl rfl rfl)
  have e3 : val_main_v169 x0 x1 x2 x3 x4 (ix4 b ⟨128 + t.val, by omega⟩ c d) = _ := (joined _ b t c d).trans (v168 A b _ _ c d)
  rw [e1, e2, e3]
  congr 2
  show 128 * ((t.val + 128) / 128) + (t.val + 128) % 128 = t.val + 128
  omega

/-- The second result: the gradient of the keys. -/
theorem v180 : val_main_v180 x0 x1 x2 x3 x4 = Spec.arrK q k v σ o := by
  funext y
  rw [← ix3_eta y]
  generalize (y 0 : Fin 2) = b
  generalize (y 1 : Fin 2048) = t
  generalize (y 2 : Fin 128) = l
  obtain ⟨c, d, rfl⟩ := lane2_surj l
  refine Eq.trans ?_ (Spec.arrK_apply q k v σ o b t c d).symm
  exact (val_main_v180_apply _ _ _ _ _ _).trans ((v175 A b t c d).trans (congrArg _ (Band.dk_eq ..)))

/-! ## The values -/

theorem v109 (b : Fin 2) (n : Fin 16) (j : Fin 384) (c : Fin 2) (d : Fin 64) :
    val_main_v109 x0 x1 x3 x4 (ix5 b n j c d)
      = ((∑ r, ∑ i, o b (row n i) (mem c r) d * Band.P (q b) (k b) σ (mem c r) n i j : ℝ) : EReal) := by
  refine (val_main_v109_apply _ _ _ _ _).trans ((at5 (a0 := b) (a1 := n) (a2 := c) (a3 := d) (a4 := j) rfl rfl rfl rfl rfl).trans ?_)
  have e : val_main_v108 x0 x1 x3 x4 (ix5 b n c d j)
      = ∑ r : Fin 4, ∑ i : Fin 128, val_main_v105 x4 (ix6 b n c d r i) * val_main_v97 x0 x1 x3 (ix6 b c r n i j) := by
    unfold val_main_v108
    generalize val_main_v105 x4 = y0
    generalize val_main_v97 x0 x1 x3 = y1
    pointwise []
  rw [e]
  refine Reals.sum_eq _ _ fun r => Reals.sum_eq _ _ fun i => ?_
  rw [v105 A, v97 A, EReal.coe_mul]

theorem v156 (b : Fin 2) (m : Fin 18) (i : Fin 128) (c : Fin 2) (d : Fin 64) :
    val_main_v156 x0 x1 x3 x4 (ix5 b m i c d) = ((Band.gather (fun n j => ∑ r, ∑ i, o b (row n i) (mem c r) d * Band.P (q b) (k b) σ (mem c r) n i j) (128 * m.val + i.val) : ℝ) : EReal) := by
  have e2 : val_main_v152 x0 x1 x3 x4 (ix5 b m i c d) = _ := moved 2 _ _ _ ((val_main_cst_27_apply _).trans Ideal.ofBits_zero_f32) _ b m i c d _
    fun n => (val_main_v151_apply _ _ _ _ _).trans ((at5 rfl rfl rfl rfl rfl).trans (v109 A b n ⟨256 + i.val, by omega⟩ c d))
  have e1 : val_main_v153 x0 x1 x3 x4 (ix5 b m i c d) = _ := moved 1 _ _ _ ((val_main_cst_28_apply _).trans Ideal.ofBits_zero_f32) _ b m i c d _
    fun n => (val_main_v150_apply _ _ _ _ _).trans ((at5 rfl rfl rfl rfl rfl).trans (v109 A b n ⟨128 + i.val, by omega⟩ c d))
  have e0 : val_main_v155 x0 x1 x3 x4 (ix5 b m i c d) = _ := moved 0 _ _ _ ((val_main_cst_29_apply _).trans Ideal.ofBits_zero_f32) _ b m i c d _
    fun n => (val_main_v149_apply _ _ _ _ _).trans ((at5 rfl rfl rfl rfl rfl).trans (v109 A b n ⟨i.val, by omega⟩ c d))
  rw [val_main_v156_apply, val_main_v154_apply, e2, e1, e0, Ideal.addf_def, Ideal.addf_def, ← EReal.coe_add, ← EReal.coe_add, ← Band.gather_blocks]
  rfl

theorem v174 (b : Fin 2) (t : Fin 2048) (c : Fin 2) (d : Fin 64) :
    val_main_v174 x0 x1 x3 x4 (ix3 b t (lane2 c d)) = ((Band.gather (fun n j => ∑ r, ∑ i, o b (row n i) (mem c r) d * Band.P (q b) (k b) σ (mem c r) n i j) (t.val + 128) : ℝ) : EReal) := by
  have e1 : val_main_v174 x0 x1 x3 x4 (ix3 b t (lane2 c d)) = val_main_v159 x0 x1 x3 x4 (ix4 b t c d) := lanes2 _ b t c d
  have e2 : val_main_v159 x0 x1 x3 x4 (ix4 b t c d) = val_main_v157 x0 x1 x3 x4 (ix4 b ⟨128 + t.val, by omega⟩ c d) := (val_main_v159_apply _ _ _ _ _).trans (at4 rfl rfl rfl rfl)
  have e3 : val_main_v157 x0 x1 x3 x4 (ix4 b ⟨128 + t.val, by omega⟩ c d) = _ := (joined _ b t c d).trans (v156 A b _ _ c d)
  rw [e1, e2, e3]
  congr 2
  show 128 * ((t.val + 128) / 128) + (t.val + 128) % 128 = t.val + 128
  omega

/-- The third result: the gradient of the values. -/
theorem v181 : val_main_v181 x0 x1 x3 x4 = Spec.arrV q k σ o := by
  funext y
  rw [← ix3_eta y]
  generalize (y 0 : Fin 2) = b
  generalize (y 1 : Fin 2048) = t
  generalize (y 2 : Fin 128) = l
  obtain ⟨c, d, rfl⟩ := lane2_surj l
  refine Eq.trans ?_ (Spec.arrV_apply q k σ o b t c d).symm
  exact (val_main_v181_apply _ _ _ _ _).trans ((v174 A b t c d).trans (congrArg _ (Band.dv_eq ..)))

/-! ## The sinks -/

/-- The fourth result: the gradient of the sinks. -/
theorem v183 : val_main_v183 x0 x1 x2 x3 x4 = Spec.arrS q k v σ o := by
  funext y
  rw [← ix2_eta y]
  generalize y 0 = h
  generalize y 1 = l
  obtain ⟨c, r, rfl⟩ := Band.mem_surj h
  have e1 : val_main_v183 x0 x1 x2 x3 x4 (ix2 (mem c r) l) = val_main_v182 x0 x1 x2 x3 x4 (ix2 (mem c r) 0) := (val_main_v183_apply _ _ _ _ _ _).trans (at2 rfl rfl)
  have e2 : val_main_v182 x0 x1 x2 x3 x4 (ix2 (mem c r) 0) = val_main_v140 x0 x1 x2 x3 x4 (ix1 (mem c r)) :=
    (val_main_v182_apply _ _ _ _ _ _).trans (congrArg _ (funext fun a => match a with | ⟨0, _⟩ => rfl))
  have e3 : val_main_v140 x0 x1 x2 x3 x4 (ix1 (mem c r)) = val_main_v134 x0 x1 x2 x3 x4 (ix5 0 c r 0 0) := by
    unfold val_main_v140
    refine shapeCast_apply (val_main_v134 x0 x1 x2 x3 x4) _ (ix1 (mem c r)) (ix5 0 c r 0 0) ?_
    rewrite [Shape.rowMajor_val_one, Shape.rowMajor_val_five]
    show (((0 * 2 + c.val) * 4 + r.val) * 1 + 0) * 1 + 0 = 4 * c.val + r.val
    omega
  rw [e1, e2, e3, v134 A, Fin.sum_univ_two]
  rfl

end Cert.ReferenceIdeal.Stages

end

end
-- ==== Proof.Finite.lean ====
/-
  The precondition read over the extended reals: every entry of every argument is a real number.
-/
module

public import proofs.«01_k».proof.Pre_finite
public import Idealize.ShloMosaic.PureOps.Ideal
public import Idealize.ShloMosaic.Lib.ValueIdx

@[expose] public section

noncomputable section

namespace Cert.Finite

open Idealize.ShloMosaic

/-- An extended real whose absolute value is below plus infinity is a real number. -/
theorem real_of_lt (x : EReal) (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  have hlt : max x (-x) < ⊤ := by
    by_contra hn
    simp [Ideal.cmp, hn] at h
  refine EReal.coe_toReal (fun e => ?_) (fun e => ?_)
  · subst e; simp at hlt
  · subst e; simp at hlt

variable [Cert.Pre_finite.Facts] {x0 : FVec Ideal Cert.Pre_finite.S2x2048x512 .f32} {x1 x2 : FVec Ideal Cert.Pre_finite.S2x2048x128 .f32}
  {x3 : FVec Ideal Cert.Pre_finite.S8 .f32} {x4 : FVec Ideal Cert.Pre_finite.S2x2048x512 .f32}

theorem real0 (h : (Cert.Pre_finite.fn (F := Ideal) x0 x1 x2 x3 x4).1 = fun _ => 1#1) (i : Cert.Pre_finite.S2x2048x512.Idx) : (((x0 i : EReal).toReal : ℝ) : EReal) = x0 i :=
  real_of_lt _ (congrFun h i)
theorem real1 (h : (Cert.Pre_finite.fn (F := Ideal) x0 x1 x2 x3 x4).2.1 = fun _ => 1#1) (i : Cert.Pre_finite.S2x2048x128.Idx) : (((x1 i : EReal).toReal : ℝ) : EReal) = x1 i :=
  real_of_lt _ (congrFun h i)
theorem real2 (h : (Cert.Pre_finite.fn (F := Ideal) x0 x1 x2 x3 x4).2.2.1 = fun _ => 1#1) (i : Cert.Pre_finite.S2x2048x128.Idx) : (((x2 i : EReal).toReal : ℝ) : EReal) = x2 i :=
  real_of_lt _ (congrFun h i)
theorem real3 (h : (Cert.Pre_finite.fn (F := Ideal) x0 x1 x2 x3 x4).2.2.2.1 = fun _ => 1#1) (i : Cert.Pre_finite.S8.Idx) : (((x3 i : EReal).toReal : ℝ) : EReal) = x3 i :=
  real_of_lt _ (congrFun h i)
theorem real4 (h : (Cert.Pre_finite.fn (F := Ideal) x0 x1 x2 x3 x4).2.2.2.2 = fun _ => 1#1) (i : Cert.Pre_finite.S2x2048x512.Idx) : (((x4 i : EReal).toReal : ℝ) : EReal) = x4 i :=
  real_of_lt _ (congrFun h i)

end Cert.Finite

end

end
-- ==== Proof.Claims.lean ====
/-
  The claims about the windowed attention's gradient: frames, the named mask, and the value of the four results.
-/
module

public import proofs.«01_k».proof.Defs
public import proofs.«01_k».proof.Proof.Gen.Kernel.Skeleton
public import proofs.«01_k».proof.Proof.Final
public import proofs.«01_k».proof.Proof.Results
public import proofs.«01_k».proof.Proof.Finite
public import proofs.«01_k».proof.Proof.Gen.Pre_finite
public import Idealize.ShloMosaic.Lib.Quiescent

@[expose] public section

set_option maxRecDepth 100000
set_option maxHeartbeats 1000000

noncomputable section

namespace Cert.Claims

open Idealize.ShloMosaic Idealize.ShloMosaic.TcCoe Idealize.SL.Sem
open Cert.Spec (lane2 lane8)

/-- At the machine's words a named constant is its literal. -/
local instance literal : Named Bits where
  named _ _ {φ} b := FloatOps.ofBits φ b

/-- Where the mask's name is its literal, the two kernels' bodies are one. -/
theorem body_eq : @Cert.Kernel.cc0_sw_bwd Bits _ _ = @Cert.KernelIdeal.cc0_sw_bwd Bits _ _ _ := rfl

theorem bodies_eq : Cert.Kernel.defs₀ (F := Bits) = Cert.KernelIdeal.defs₀ (F := Bits) :=
  congrArg Defs.onTc (funext fun a => funext fun x => by
    match a, x with
    | 0, (t, s) => rfl)

theorem defs_eq : Cert.Kernel.defs (F := Bits) = Cert.KernelIdeal.defs (F := Bits) := congrArg (Pipeline.defs Cert.Kernel.pcfgs) bodies_eq

/-- The kernel runs, its arguments end unchanged and its semaphores at zero: over the machine's words it is the kernel
    with the named mask. -/
theorem frame_p : Cert.quiescent_Kernel := by
  intro m ρ _
  rw [defs_eq]
  exact Cert.KernelIdeal.Run.frame (F := Bits) m ρ

/-- The same of the kernel whose mask is minus infinity. -/
theorem frame_pi : Cert.quiescent_KernelIdeal := fun m ρ _ => Cert.KernelIdeal.Run.frame m ρ

theorem frame_pi_finite : Cert.quiescent_KernelIdeal_pre_finite := fun m ρ _ => Cert.KernelIdeal.Run.frame m ρ

/-- The reference runs and its arguments end unchanged. -/
theorem frame_ri : Cert.quiescent_ReferenceIdeal := fun m ρ _ =>
  (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)

theorem frame_ri_finite : Cert.quiescent_ReferenceIdeal_pre_finite := fun m ρ _ => frame_ri m ρ trivial

/-- The mask's literal is named: minus infinity over the extended reals, the literal's bits over the machine's words. -/
theorem preserves : Cert.preserves_Kernel_KernelIdeal := IdealRules.named_const.statement Cert.KernelIdeal.κ "mask" .f32 0xF149F2CA#32 ⊥ rfl

section Value
variable (m : (ℓ : Loc Cert.KernelIdeal.nD Cert.KernelIdeal.τ Cert.KernelIdeal.sig) → Buf (Elt Ideal) ℓ) (c : Dev Cert.KernelIdeal.nD)

/-- The queries of a device as real numbers. -/
def q (b : Fin 2) (u : Fin 2048) (h : Fin 8) (d : Fin 64) : ℝ :=
  ((m ((c.tc : Thread Cert.KernelIdeal.nD Cert.KernelIdeal.τ).loc Cert.KernelIdeal.main_arg0) : Vec Ideal Cert.KernelIdeal.S2x2048x512 .f32) (ix3 b u (lane8 h d)) : EReal).toReal
/-- The keys. -/
def k (b : Fin 2) (t : Fin 2048) (g : Fin 2) (d : Fin 64) : ℝ :=
  ((m ((c.tc : Thread Cert.KernelIdeal.nD Cert.KernelIdeal.τ).loc Cert.KernelIdeal.main_arg1) : Vec Ideal Cert.KernelIdeal.S2x2048x128 .f32) (ix3 b t (lane2 g d)) : EReal).toReal
/-- The values. -/
def v (b : Fin 2) (t : Fin 2048) (g : Fin 2) (d : Fin 64) : ℝ :=
  ((m ((c.tc : Thread Cert.KernelIdeal.nD Cert.KernelIdeal.τ).loc Cert.KernelIdeal.main_arg2) : Vec Ideal Cert.KernelIdeal.S2x2048x128 .f32) (ix3 b t (lane2 g d)) : EReal).toReal
/-- The sinks. -/
def σ (h : Fin 8) : ℝ :=
  ((m ((c.tc : Thread Cert.KernelIdeal.nD Cert.KernelIdeal.τ).loc Cert.KernelIdeal.main_arg3) : Vec Ideal Cert.KernelIdeal.S8 .f32) (ix1 h) : EReal).toReal
/-- The gradient of the attention's output. -/
def o (b : Fin 2) (u : Fin 2048) (h : Fin 8) (d : Fin 64) : ℝ :=
  ((m ((c.tc : Thread Cert.KernelIdeal.nD Cert.KernelIdeal.τ).loc Cert.KernelIdeal.main_arg4) : Vec Ideal Cert.KernelIdeal.S2x2048x512 .f32) (ix3 b u (lane8 h d)) : EReal).toReal

/-- Under the precondition the arguments are these real numbers. -/
theorem realArgs (h : Cert.Pre_KernelIdeal_finite m) : Cert.KernelIdeal.Final.RealArgs m c (q m c) (k m c) (v m c) (σ m c) (o m c) where
  a0 b u e d := (Cert.Finite.real0 (h c).1 (ix3 b u (lane8 e d))).symm
  a1 b t g d := (Cert.Finite.real1 (h c).2.1 (ix3 b t (lane2 g d))).symm
  a2 b t g d := (Cert.Finite.real2 (h c).2.2.1 (ix3 b t (lane2 g d))).symm
  a3 e := (Cert.Finite.real3 (h c).2.2.2.1 (ix1 e)).symm
  a4 b u e d := (Cert.Finite.real4 (h c).2.2.2.2 (ix3 b u (lane8 e d))).symm

end Value

/-- The four results of the kernel and of the reference are the same gradients, entry by entry, over the extended
    reals and for finite arguments. -/
theorem algebraic : Cert.algebraic_KernelIdeal_ReferenceIdeal_pre_finite := by
  intro m ρ m' ρ' h hag
  refine ⟨fun c => Spec.arrQ (q m c) (k m c) (v m c) (σ m c) (o m c), fun c => Spec.arrK (q m c) (k m c) (v m c) (σ m c) (o m c),
    fun c => Spec.arrV (q m c) (k m c) (σ m c) (o m c), fun c => Spec.arrS (q m c) (k m c) (v m c) (σ m c) (o m c),
    Cert.KernelIdeal.Final.run m ρ _ _ _ _ _ fun c => realArgs m c h, ?_⟩
  refine (θ_run Cert.ReferenceIdeal.defs _ _).mono (fun r hr c => ?_) (Cert.ReferenceIdeal.Value.run (F := Ideal) m' ρ')
  have A := realArgs m c h
  obtain ⟨g0, g1, g2, g3, g4⟩ := hag c
  have B : Cert.ReferenceIdeal.Stages.Args (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (q m c) (k m c) (v m c) (σ m c) (o m c) :=
    ⟨by rw [g0]; exact A.a0, by rw [g1]; exact A.a1, by rw [g2]; exact A.a2, by rw [g3]; exact A.a3, by rw [g4]; exact A.a4⟩
  obtain ⟨r0, r1, r2, r3, args⟩ := hr c
  exact ⟨r0.trans ((Cert.ReferenceIdeal.Read.val_main_v179_eq _).trans (Cert.ReferenceIdeal.Stages.v179 B)),
    r1.trans ((Cert.ReferenceIdeal.Read.val_main_v180_eq _).trans (Cert.ReferenceIdeal.Stages.v180 B)),
    r2.trans ((Cert.ReferenceIdeal.Read.val_main_v181_eq _).trans (Cert.ReferenceIdeal.Stages.v181 B)),
    r3.trans ((Cert.ReferenceIdeal.Read.val_main_v183_eq _).trans (Cert.ReferenceIdeal.Stages.v183 B)), args⟩

end Cert.Claims

end

end
-- ==== Proof.Cell.lean ====
/-
  A matrix read at natural-number coordinates, and sums over its rows taken a few rows at a time.
-/
module

public import proofs.«01_k».proof.Proof.At
public import Idealize.ShloMosaic.PureOps.Ideal

@[expose] public section

noncomputable section

namespace Cert.Cell

open Idealize.ShloMosaic

variable {α : Type} [Zero α] {n k : ℕ}

/-- The matrix at row `r`, lane `l`: zero where there is no such entry. -/
def cell (x : (⟨2, ![n, k]⟩ : Shape).Idx → α) (r l : ℕ) : α :=
  if h : r < n ∧ l < k then x (ix2 ⟨r, h.1⟩ ⟨l, h.2⟩) else 0

/-- An entry of the matrix, its index given by coordinates. -/
theorem cell_eq (x : (⟨2, ![n, k]⟩ : Shape).Idx → α) (f : (⟨2, ![n, k]⟩ : Shape).Idx) {r l : ℕ}
    (h0 : (f 0).val = r) (h1 : (f 1).val = l) : x f = cell x r l := by
  subst h0 h1
  unfold cell
  rw [dif_pos ⟨(f 0).isLt, (f 1).isLt⟩]
  exact At.at2 rfl rfl

/-- A three-dimensional array at natural-number coordinates: zero where there is no such entry. -/
def cell3 {p : ℕ} (x : (⟨3, ![p, n, k]⟩ : Shape).Idx → α) (b r l : ℕ) : α :=
  if h : b < p ∧ r < n ∧ l < k then x (ix3 ⟨b, h.1⟩ ⟨r, h.2.1⟩ ⟨l, h.2.2⟩) else 0

/-- An entry of the array, its index given by coordinates. -/
theorem cell3_eq {p : ℕ} (x : (⟨3, ![p, n, k]⟩ : Shape).Idx → α) (f : (⟨3, ![p, n, k]⟩ : Shape).Idx) {b r l : ℕ}
    (h0 : (f 0).val = b) (h1 : (f 1).val = r) (h2 : (f 2).val = l) : x f = cell3 x b r l := by
  subst h0 h1 h2
  unfold cell3
  rw [dif_pos ⟨(f 0).isLt, (f 1).isLt, (f 2).isLt⟩]
  exact At.at3 rfl rfl rfl

/-- An entry of block `q` of `b` whole rows, the index as the window gives it. -/
theorem cell_block (x : (⟨2, ![n, k]⟩ : Shape).Idx → α) (f : (⟨2, ![n, k]⟩ : Shape).Idx) {i0 i1 b c r l q : ℕ} (e : i0 = q ∧ i1 = 0)
    (h0 : (f 0).val = i0 * b + 1 * r) (h1 : (f 1).val = i1 * c + 1 * l) : x f = cell x (b * q + r) l :=
  cell_eq x f (by rw [h0, e.1, Nat.mul_comm, Nat.one_mul]) (by rw [h1, e.2]; omega)

/-- An entry of the only block. -/
theorem cell_whole (x : (⟨2, ![n, k]⟩ : Shape).Idx → α) (f : (⟨2, ![n, k]⟩ : Shape).Idx) {i0 i1 b c r l : ℕ} (e : i0 = 0 ∧ i1 = 0)
    (h0 : (f 0).val = i0 * b + 1 * r) (h1 : (f 1).val = i1 * c + 1 * l) : x f = cell x r l :=
  cell_eq x f (by rw [h0, e.1]; omega) (by rw [h1, e.2]; omega)

/-- An entry of slice `q` of a three-dimensional array. -/
theorem cell3_block {p : ℕ} (x : (⟨3, ![p, n, k]⟩ : Shape).Idx → α) (f : (⟨3, ![p, n, k]⟩ : Shape).Idx) {i0 i1 i2 b c r l q : ℕ} (e : i0 = q ∧ i1 = 0 ∧ i2 = 0)
    (h0 : (f 0).val = i0 * 1 + 1 * 0) (h1 : (f 1).val = i1 * b + 1 * r) (h2 : (f 2).val = i2 * c + 1 * l) : x f = cell3 x q r l :=
  cell3_eq x f (by rw [h0, e.1]; omega) (by rw [h1, e.2.1]; omega) (by rw [h2, e.2.2]; omega)

/-- A matrix known on each of its `N` blocks of `b` rows. -/
theorem of_blocks {b N : ℕ} (x : (⟨2, ![n, k]⟩ : Shape).Idx → α) (g : ℕ → ℕ → α) (emb : Fin N → (⟨2, ![b, k]⟩ : Shape).Idx → (⟨2, ![n, k]⟩ : Shape).Idx) (hn : n = b * N)
    {i0 i1 : Fin N → ℕ} (e : ∀ t, i0 t = t.val ∧ i1 t = 0) (h0 : ∀ t (r : Fin b) (l : Fin k), (emb t (ix2 r l) 0).val = i0 t * b + 1 * r.val)
    (h1 : ∀ t (r : Fin b) (l : Fin k), (emb t (ix2 r l) 1).val = i1 t * k + 1 * l.val)
    (h : ∀ t (r : Fin b) (l : Fin k), x (emb t (ix2 r l)) = g (b * t.val + r.val) l.val) (i : (⟨2, ![n, k]⟩ : Shape).Idx) : x i = g (i 0).val (i 1).val := by
  have hi : (i 0).val < b * N := hn ▸ (i 0).isLt
  have hb : 0 < b := Nat.pos_of_ne_zero fun z => by subst z; simp at hi
  have et : b * ((i 0).val / b) + (i 0).val % b = (i 0).val := Nat.div_add_mod _ _
  let t : Fin N := ⟨(i 0).val / b, Nat.div_lt_of_lt_mul hi⟩
  let r : Fin b := ⟨(i 0).val % b, Nat.mod_lt _ hb⟩
  have ei : emb t (ix2 r (i 1)) = i := funext fun a => Fin.ext (by
    match a with
    | ⟨0, _⟩ => exact (h0 t r (i 1)).trans (by rw [(e t).1, Nat.mul_comm, Nat.one_mul]; exact et)
    | ⟨1, _⟩ => exact (h1 t r (i 1)).trans (by rw [(e t).2, Nat.zero_mul, Nat.zero_add, Nat.one_mul]; rfl))
  have := h t r (i 1)
  rw [ei] at this
  exact this.trans (congrArg (fun a => g a (i 1).val) et)

/-- Adding the next `b` terms to the sum of the first `n`. -/
theorem sum_next (b n : ℕ) (g : ℕ → EReal) :
    (∑ i ∈ Finset.range n, g i) + ∑ j : Fin b, g (n + j.val) = ∑ i ∈ Finset.range (n + b), g i := by
  rw [Finset.sum_range_add, Fin.sum_univ_eq_sum_range (fun j => g (n + j)) b]

end Cert.Cell

end

end
-- ==== Proof.Up.lean ====
/-
  The gradient of the two up-projections' weights: what the kernel's eight steps over the rows add up to, and the
  reference's product over all the rows at once.
-/
module

public import proofs.«01_k».proof.Defs
public import proofs.«01_k».proof.Proof.Cell
public import proofs.«01_k».proof.Proof.Gen.Kernel2.Frame
public import proofs.«01_k».proof.Proof.Gen.Kernel2Ideal.Value
public import proofs.«01_k».proof.Proof.Gen.Reference2Ideal.Read
public import Idealize.ShloMosaic.Lib.Quiescent
public import Idealize.ShloMosaic.Lib.Pointwise
public import Idealize.ShloMosaic.Lib.Tactic

@[expose] public section

set_option maxRecDepth 16384

noncomputable section

namespace Cert.Kernel2Ideal.Value

open Cert.Kernel2Ideal Cert.Kernel2Ideal.Gen Cert.Cell
open Idealize.ShloMosaic Idealize.ShloMosaic.TcCoe Idealize.SL.Sem

theorem hz : (![0, 0] : Fin 2 → Nat) = fun _ => 0 := funext fun a => by fin_cases a <;> rfl

/-! ## One step: the accumulator and the result block after it -/

section
variable {F : FTy → Type} [FloatOps F]

/-- The first step of a block clears the accumulator and adds the step's product. -/
theorem acc_A (c : Dev nD) (i : grid0.Coords) (a0 h0 a1 h1 a2 h2 a3 h3) (hc0 : cond0_0 i) (hc1 : ¬cond0_1 i) (x0 : Vec F S512x2816 .bf16) (x1 : Vec F S512x1024 .bf16) :
    sout0_A_0 c i a0 h0 a1 h1 a2 h2 a3 h3 hc0 hc1 x0 x1 = k0_pay2 k0_pay1 x0 x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_cons_unit_zero (S := S2816x1024) hz, View.readCov_unit_zero (S := S2816x1024) _ hz]
  simp only [View.readAt_eq_ld, h0.read_unread, h1.read_unread, View.ld_unit_zero (S := S512x2816) hz, View.ld_unit_zero (S := S512x1024) hz]

/-- A middle step adds the step's product. -/
theorem acc_B (c : Dev nD) (i : grid0.Coords) (a0 h0 a1 h1 a2 h2 a3 h3) (hc0 : ¬cond0_0 i) (hc1 : ¬cond0_1 i) (x0 : Vec F S512x2816 .bf16) (x1 : Vec F S512x1024 .bf16) (xs : Vec F S2816x1024 .f32) :
    sout0_B_0 c i a0 h0 a1 h1 a2 h2 a3 h3 hc0 hc1 x0 x1 xs = k0_pay2 xs x0 x1 := by
  unfold sout0_B_0
  rw [View.read_writes_eq_canon _ _ _ (scover0_B_0 c i a0 h0 a1 h1 a2 h2 a3 h3 hc0 hc1 x0 x1 xs)]
  unfold kernelRun0_B
  dsimp only
  rw [View.canon_unit_zero (S := S2816x1024) hz]
  simp only [View.readAt_eq_ld, h0.read_unread, h1.read_unread, h3.read_unread, View.ld_unit_zero (S := S512x2816) hz, View.ld_unit_zero (S := S512x1024) hz, View.ld_unit_zero (S := S2816x1024) hz]

/-- So does the last step. -/
theorem acc_C (c : Dev nD) (i : grid0.Coords) (a0 h0 a1 h1 a2 h2 a3 h3) (hc0 : ¬cond0_0 i) (hc1 : cond0_1 i) (x0 : Vec F S512x2816 .bf16) (x1 : Vec F S512x1024 .bf16) (xs : Vec F S2816x1024 .f32) :
    sout0_C_0 c i a0 h0 a1 h1 a2 h2 a3 h3 hc0 hc1 x0 x1 xs = k0_pay2 xs x0 x1 := by
  unfold sout0_C_0
  rw [View.read_writes_eq_canon _ _ _ (scover0_C_0 c i a0 h0 a1 h1 a2 h2 a3 h3 hc0 hc1 x0 x1 xs)]
  unfold kernelRun0_C
  dsimp only
  sl_unfold_words
  rw [View.canon_unit_zero (S := S2816x1024) hz]
  simp only [View.readAt_eq_ld, h0.read_unread, h1.read_unread, h3.read_unread, View.ld_unit_zero (S := S512x2816) hz, View.ld_unit_zero (S := S512x1024) hz, View.ld_unit_zero (S := S2816x1024) hz]

/-- The last step writes the accumulator out. -/
theorem out_C (c : Dev nD) (i : grid0.Coords) (a0 h0 a1 h1 a2 h2 a3 h3) (hc0 : ¬cond0_0 i) (hc1 : cond0_1 i) (x0 : Vec F S512x2816 .bf16) (x1 : Vec F S512x1024 .bf16) (xs : Vec F S2816x1024 .f32) :
    out0_C_2 c i a0 h0 a1 h1 a2 h2 a3 h3 hc0 hc1 x0 x1 xs = k0_pay3 (k0_pay2 xs x0 x1) := by
  unfold out0_C_2
  rw [View.read_writes_eq_canon _ _ _ (cover0_C_2 c i a0 h0 a1 h1 a2 h2 a3 h3 hc0 hc1 x0 x1 xs)]
  unfold kernelRun0_C
  dsimp only
  sl_unfold_words
  rw [View.canon_unit_zero (S := S2816x1024) hz, View.readCov_unit_zero (S := S2816x1024) _ hz]
  simp only [View.readAt_eq_ld, h0.read_unread, h1.read_unread, h3.read_unread, View.ld_unit_zero (S := S512x2816) hz, View.ld_unit_zero (S := S512x1024) hz, View.ld_unit_zero (S := S2816x1024) hz]

end

/-! ## The sum over the rows, step by step -/

variable (m : (ℓ : Loc nD τ sig) → Buf (Elt Ideal) ℓ) (ρ : Dev nD → PrngReg)

/-- Row `k`'s share of the gradient's entry at row `r`, lane `l`. -/
def share (c : Dev nD) (r l k : ℕ) : EReal :=
  cell (n := 4096) (k := 5632) (α := EReal) (m ((c : Thread nD τ).loc main_arg0)) k r
    * cell (n := 4096) (k := 1024) (α := EReal) (m ((c : Thread nD τ).loc main_arg1)) k l

theorem pay1_apply (y : S2816x1024.Idx) : k0_pay1 (F := Ideal) y = 0 := by
  unfold k0_pay1
  pointwise []

theorem pay2_apply (xs : Vec Ideal S2816x1024 .f32) (x0 : Vec Ideal S512x2816 .bf16) (x1 : Vec Ideal S512x1024 .bf16) (y : S2816x1024.Idx) :
    k0_pay2 xs x0 x1 y = (xs y : EReal) + ∑ k : Fin 512, (x0 (ix2 k (y 0)) : EReal) * x1 (ix2 k (y 1)) := by
  unfold k0_pay2
  pointwise []

theorem index0 : ∀ t : Fin cfg0.N, win0_0.index t (0 : Fin 2) = t.val % 8 ∧ win0_0.index t (1 : Fin 2) = t.val / 8 :=
  (by decide +kernel : ∀ t : Fin grid0.N, _)

theorem index1 : ∀ t : Fin cfg0.N, win0_1.index t (0 : Fin 2) = t.val % 8 ∧ win0_1.index t (1 : Fin 2) = 0 :=
  (by decide +kernel : ∀ t : Fin grid0.N, _)

theorem iblk0_apply (c : Dev nD) (t : Fin cfg0.N) (k : Fin 512) (r : Fin 2816) :
    (iblk m c 0 t (ix2 k r) : EReal)
      = cell (n := 4096) (k := 5632) (α := EReal) (m ((c : Thread nD τ).loc main_arg0)) (512 * (t.val % 8) + k.val) (2816 * (t.val / 8) + r.val) := by
  obtain ⟨e0, e1⟩ := index0 t
  refine cell_eq (n := 4096) (k := 5632) (α := EReal) (m ((c : Thread nD τ).loc main_arg0)) (((cfg0.win 0).blk t).view.emb (ix2 k r)) ?_ ?_
  · show win0_0.index t (0 : Fin 2) * 512 + 1 * k.val = _
    rw [e0]; omega
  · show win0_0.index t (1 : Fin 2) * 2816 + 1 * r.val = _
    rw [e1]; omega

theorem iblk1_apply (c : Dev nD) (t : Fin cfg0.N) (k : Fin 512) (l : Fin 1024) :
    (iblk m c 1 t (ix2 k l) : EReal)
      = cell (n := 4096) (k := 1024) (α := EReal) (m ((c : Thread nD τ).loc main_arg1)) (512 * (t.val % 8) + k.val) l.val := by
  obtain ⟨e0, e1⟩ := index1 t
  refine cell_eq (n := 4096) (k := 1024) (α := EReal) (m ((c : Thread nD τ).loc main_arg1)) (((cfg0.win 1).blk t).view.emb (ix2 k l)) ?_ ?_
  · show win0_1.index t (0 : Fin 2) * 512 + 1 * k.val = _
    rw [e0]; omega
  · show win0_1.index t (1 : Fin 2) * 1024 + 1 * l.val = _
    rw [e1]; omega

/-- Adding step `t`'s product to the sum over the rows of the steps before it. -/
theorem step_apply (c : Dev nD) (t : Fin cfg0.N) (xs : Vec Ideal S2816x1024 .f32) (y : S2816x1024.Idx)
    (h : (xs y : EReal) = ∑ k ∈ Finset.range (512 * (t.val % 8)), share m c (2816 * (t.val / 8) + (y 0).val) (y 1).val k) :
    (k0_pay2 xs (iblk m c 0 t) (iblk m c 1 t) y : EReal)
      = ∑ k ∈ Finset.range (512 * (t.val % 8) + 512), share m c (2816 * (t.val / 8) + (y 0).val) (y 1).val k := by
  rw [pay2_apply, h, ← sum_next 512]
  refine congrArg _ (Finset.sum_congr rfl fun k _ => ?_)
  exact congrArg₂ (fun a b : EReal => a * b) (iblk0_apply m c t k (y 0)) (iblk1_apply m c t k (y 1))

/-- After step `n` the accumulator holds the sum over the rows so far of its block. -/
theorem acc_apply (c : Dev nD) : ∀ (n : ℕ) (hn : n < cfg0.N) (y : S2816x1024.Idx),
    ((outsAt0 m c n hn).2 y : EReal)
      = ∑ k ∈ Finset.range (512 * (n % 8) + 512), share m c (2816 * (n / 8) + (y 0).val) (y 1).val k := by
  intro n
  induction n with
  | zero =>
    intro hn y
    rw [outsAt0_A m c ⟨0, hn⟩ rfl (by show ¬(0 % 8 = 7); omega)]
    dsimp only
    rw [acc_A]
    exact step_apply m c ⟨0, hn⟩ _ y (by rw [pay1_apply]; rfl)
  | succ n ih =>
    intro hn y
    by_cases h0 : (n + 1) % 8 = 0
    · rw [outsAt0_A m c ⟨n + 1, hn⟩ h0 (by show ¬((n + 1) % 8 = 7); omega)]
      dsimp only
      rw [acc_A]
      refine step_apply m c ⟨n + 1, hn⟩ _ y ?_
      rw [pay1_apply]
      show _ = ∑ k ∈ Finset.range (512 * ((n + 1) % 8)), _
      rw [h0]; rfl
    · have hp : ((outsAt0 m c n (Nat.lt_of_succ_lt hn)).2 y : EReal)
          = ∑ k ∈ Finset.range (512 * ((n + 1) % 8)), share m c (2816 * ((n + 1) / 8) + (y 0).val) (y 1).val k := by
        rw [ih]
        rw [show 512 * (n % 8) + 512 = 512 * ((n + 1) % 8) by omega, show n / 8 = (n + 1) / 8 by omega]
      by_cases h1 : (n + 1) % 8 = 7
      · rw [outsAt0_C m c ⟨n + 1, hn⟩ h0 h1]
        dsimp only
        rw [acc_C]
        exact step_apply m c ⟨n + 1, hn⟩ _ y hp
      · rw [outsAt0_B m c ⟨n + 1, hn⟩ h0 h1]
        dsimp only
        rw [acc_B]
        exact step_apply m c ⟨n + 1, hn⟩ _ y hp

/-- The block the last step of a run writes back. -/
theorem out_apply (c : Dev nD) (t : Fin cfg0.N) (h1 : t.val % 8 = 7) (y : S2816x1024.Idx) :
    ((outsAt0 m c t.val t.isLt).1 y : EReal)
      = ∑ k ∈ Finset.range 4096, share m c (2816 * (t.val / 8) + (y 0).val) (y 1).val k := by
  have h0 : ¬ t.val % 8 = 0 := by omega
  have hp := acc_apply m c t.val t.isLt y
  rw [outsAt0_C m c t h0 h1] at hp ⊢
  dsimp only at hp ⊢
  rw [acc_C] at hp
  rw [out_C]
  rw [h1] at hp
  exact hp

/-- The kernel's result, entry by entry. -/
theorem G2_apply (c : Dev nD) (i : S5632x1024.Idx) :
    (G2 m c i : EReal) = ∑ k ∈ Finset.range 4096, share m c (i 0).val (i 1).val k := by
  have hi0 : (i 0).val < 5632 := (i 0).isLt
  have hi1 : (i 1).val < 1024 := (i 1).isLt
  have hr : run2Of i = (i 0).val / 2816 := by unfold run2Of; omega
  have hp : pt2Of i < cfg0.N := by
    rw [show cfg0.N = 16 from N_0]; show 8 * run2Of i + 7 < 16; rw [hr]; omega
  unfold G2
  rw [dif_pos hp, ← outsAt0_sweep]
  refine (out_apply m c ⟨pt2Of i, hp⟩ (by show (8 * run2Of i + 7) % 8 = 7; omega) (loc2Of i)).trans ?_
  have e0 : 2816 * ((8 * run2Of i + 7) / 8) + (i 0).val % 2816 = (i 0).val := by rw [hr]; omega
  have e1 : (i 1).val % 1024 = (i 1).val := by omega
  show ∑ k ∈ Finset.range 4096, share m c (2816 * ((8 * run2Of i + 7) / 8) + (i 0).val % 2816) ((i 1).val % 1024) k = _
  rw [e0, e1]

/-! ## The reference's entry -/

theorem reference_apply (c : Dev nD) (i : S5632x1024.Idx) :
    (Cert.Reference2Ideal.Read.val_main_v7 (F := Ideal) (m ((c : Thread nD τ).loc main_arg0)) (m ((c : Thread nD τ).loc main_arg1)) i : EReal)
      = ∑ k ∈ Finset.range 4096, share m c (i 0).val (i 1).val k := by
  rw [← Fin.sum_univ_eq_sum_range (share m c (i 0).val (i 1).val) 4096]
  refine (Cert.Reference2Ideal.Read.val_main_v6_apply (F := Ideal) _ _ i).trans ?_
  rw [Cert.Reference2Ideal.Read.val_main_v5_apply, Cert.Reference2Ideal.Read.val_main_v4_apply]
  refine Finset.sum_congr rfl fun k _ => ?_
  exact congrArg₂ (fun a b : EReal => a * b)
    (cell_eq (n := 4096) (k := 5632) (α := EReal) (m ((c : Thread nD τ).loc main_arg0)) _ rfl rfl)
    (cell_eq (n := 4096) (k := 1024) (α := EReal) (m ((c : Thread nD τ).loc main_arg1)) _ rfl rfl)

end Cert.Kernel2Ideal.Value

namespace Cert.Claims

open Idealize.ShloMosaic Idealize.ShloMosaic.TcCoe Idealize.SL.Sem

theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem preserves2 : Cert.preserves_Kernel2_Kernel2Ideal := trivial

/-- The kernel's gradient is the reference's. -/
theorem algebraic2 : Cert.algebraic_Kernel2Ideal_Reference2Ideal := by
  intro m ρ m' ρ' _ hag
  refine ⟨fun c => Cert.Kernel2Ideal.Value.G2 m c, Cert.Kernel2Ideal.Value.run m ρ, ?_⟩
  refine (θ_run Cert.Reference2Ideal.defs _ _).mono (fun r hr c => ⟨?_, (hr c).2⟩) (Cert.Reference2Ideal.Value.run (F := Ideal) m' ρ')
  refine (hr c).1.trans ((Cert.Reference2Ideal.Read.val_main_v7_eq _ _).trans ?_)
  rw [(hag c).1, (hag c).2]
  funext i
  exact (Cert.Kernel2Ideal.Value.reference_apply m c i).trans (Cert.Kernel2Ideal.Value.G2_apply m c i).symm

end Cert.Claims

end

end
-- ==== Proof.Down.lean ====
/-
  The gradient of the down-projection's weights: what the kernel's eight steps over the rows add up to, and the
  reference's product over all the rows at once.
-/
module

public import proofs.«01_k».proof.Defs
public import proofs.«01_k».proof.Proof.Cell
public import proofs.«01_k».proof.Proof.Gen.Kernel3.Frame
public import proofs.«01_k».proof.Proof.Gen.Kernel3Ideal.Value
public import proofs.«01_k».proof.Proof.Gen.Reference3Ideal.Read
public import Idealize.ShloMosaic.Lib.Quiescent
public import Idealize.ShloMosaic.Lib.Pointwise
public import Idealize.ShloMosaic.Lib.Tactic

@[expose] public section

set_option maxRecDepth 16384

noncomputable section

namespace Cert.Kernel3Ideal.Value

open Cert.Kernel3Ideal Cert.Kernel3Ideal.Gen Cert.Cell
open Idealize.ShloMosaic Idealize.ShloMosaic.TcCoe Idealize.SL.Sem

theorem hz : (![0, 0] : Fin 2 → Nat) = fun _ => 0 := funext fun a => by fin_cases a <;> rfl

/-! ## One step: the accumulator and the result block after it -/

section
variable {F : FTy → Type} [FloatOps F]

/-- The first step of a block clears the accumulator and adds the step's product. -/
theorem acc_A (c : Dev nD) (i : grid0.Coords) (a0 h0 a1 h1 a2 h2 a3 h3) (hc0 : cond0_0 i) (hc1 : ¬cond0_1 i) (x0 : Vec F S512x2816 .bf16) (x1 : Vec F S512x1024 .bf16) :
    sout0_A_0 c i a0 h0 a1 h1 a2 h2 a3 h3 hc0 hc1 x0 x1 = k0_pay2 k0_pay1 x0 x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_cons_unit_zero (S := S2816x1024) hz, View.readCov_unit_zero (S := S2816x1024) _ hz]
  simp only [View.readAt_eq_ld, h0.read_unread, h1.read_unread, View.ld_unit_zero (S := S512x2816) hz, View.ld_unit_zero (S := S512x1024) hz]

/-- A middle step adds the step's product. -/
theorem acc_B (c : Dev nD) (i : grid0.Coords) (a0 h0 a1 h1 a2 h2 a3 h3) (hc0 : ¬cond0_0 i) (hc1 : ¬cond0_1 i) (x0 : Vec F S512x2816 .bf16) (x1 : Vec F S512x1024 .bf16) (xs : Vec F S2816x1024 .f32) :
    sout0_B_0 c i a0 h0 a1 h1 a2 h2 a3 h3 hc0 hc1 x0 x1 xs = k0_pay2 xs x0 x1 := by
  unfold sout0_B_0
  rw [View.read_writes_eq_canon _ _ _ (scover0_B_0 c i a0 h0 a1 h1 a2 h2 a3 h3 hc0 hc1 x0 x1 xs)]
  unfold kernelRun0_B
  dsimp only
  rw [View.canon_unit_zero (S := S2816x1024) hz]
  simp only [View.readAt_eq_ld, h0.read_unread, h1.read_unread, h3.read_unread, View.ld_unit_zero (S := S512x2816) hz, View.ld_unit_zero (S := S512x1024) hz, View.ld_unit_zero (S := S2816x1024) hz]

/-- So does the last step. -/
theorem acc_C (c : Dev nD) (i : grid0.Coords) (a0 h0 a1 h1 a2 h2 a3 h3) (hc0 : ¬cond0_0 i) (hc1 : cond0_1 i) (x0 : Vec F S512x2816 .bf16) (x1 : Vec F S512x1024 .bf16) (xs : Vec F S2816x1024 .f32) :
    sout0_C_0 c i a0 h0 a1 h1 a2 h2 a3 h3 hc0 hc1 x0 x1 xs = k0_pay2 xs x0 x1 := by
  unfold sout0_C_0
  rw [View.read_writes_eq_canon _ _ _ (scover0_C_0 c i a0 h0 a1 h1 a2 h2 a3 h3 hc0 hc1 x0 x1 xs)]
  unfold kernelRun0_C
  dsimp only
  sl_unfold_words
  rw [View.canon_unit_zero (S := S2816x1024) hz]
  simp only [View.readAt_eq_ld, h0.read_unread, h1.read_unread, h3.read_unread, View.ld_unit_zero (S := S512x2816) hz, View.ld_unit_zero (S := S512x1024) hz, View.ld_unit_zero (S := S2816x1024) hz]

/-- The last step writes the accumulator out. -/
theorem out_C (c : Dev nD) (i : grid0.Coords) (a0 h0 a1 h1 a2 h2 a3 h3) (hc0 : ¬cond0_0 i) (hc1 : cond0_1 i) (x0 : Vec F S512x2816 .bf16) (x1 : Vec F S512x1024 .bf16) (xs : Vec F S2816x1024 .f32) :
    out0_C_2 c i a0 h0 a1 h1 a2 h2 a3 h3 hc0 hc1 x0 x1 xs = k0_pay3 (k0_pay2 xs x0 x1) := by
  unfold out0_C_2
  rw [View.read_writes_eq_canon _ _ _ (cover0_C_2 c i a0 h0 a1 h1 a2 h2 a3 h3 hc0 hc1 x0 x1 xs)]
  unfold kernelRun0_C
  dsimp only
  sl_unfold_words
  rw [View.canon_unit_zero (S := S2816x1024) hz, View.readCov_unit_zero (S := S2816x1024) _ hz]
  simp only [View.readAt_eq_ld, h0.read_unread, h1.read_unread, h3.read_unread, View.ld_unit_zero (S := S512x2816) hz, View.ld_unit_zero (S := S512x1024) hz, View.ld_unit_zero (S := S2816x1024) hz]

end

/-! ## The sum over the rows, step by step -/

variable (m : (ℓ : Loc nD τ sig) → Buf (Elt Ideal) ℓ) (ρ : Dev nD → PrngReg)

/-- Row `k`'s share of the gradient's entry at row `r`, lane `l`. -/
def share (c : Dev nD) (r l k : ℕ) : EReal :=
  cell (n := 4096) (k := 2816) (α := EReal) (m ((c : Thread nD τ).loc main_arg0)) k r
    * cell (n := 4096) (k := 1024) (α := EReal) (m ((c : Thread nD τ).loc main_arg1)) k l

theorem pay1_apply (y : S2816x1024.Idx) : k0_pay1 (F := Ideal) y = 0 := by
  unfold k0_pay1
  pointwise []

theorem pay2_apply (xs : Vec Ideal S2816x1024 .f32) (x0 : Vec Ideal S512x2816 .bf16) (x1 : Vec Ideal S512x1024 .bf16) (y : S2816x1024.Idx) :
    k0_pay2 xs x0 x1 y = (xs y : EReal) + ∑ k : Fin 512, (x0 (ix2 k (y 0)) : EReal) * x1 (ix2 k (y 1)) := by
  unfold k0_pay2
  pointwise []

theorem index0 : ∀ t : Fin cfg0.N, win0_0.index t (0 : Fin 2) = t.val % 8 ∧ win0_0.index t (1 : Fin 2) = t.val / 8 :=
  (by decide +kernel : ∀ t : Fin grid0.N, _)

theorem index1 : ∀ t : Fin cfg0.N, win0_1.index t (0 : Fin 2) = t.val % 8 ∧ win0_1.index t (1 : Fin 2) = 0 :=
  (by decide +kernel : ∀ t : Fin grid0.N, _)

theorem iblk0_apply (c : Dev nD) (t : Fin cfg0.N) (k : Fin 512) (r : Fin 2816) :
    (iblk m c 0 t (ix2 k r) : EReal)
      = cell (n := 4096) (k := 2816) (α := EReal) (m ((c : Thread nD τ).loc main_arg0)) (512 * (t.val % 8) + k.val) (2816 * (t.val / 8) + r.val) := by
  obtain ⟨e0, e1⟩ := index0 t
  refine cell_eq (n := 4096) (k := 2816) (α := EReal) (m ((c : Thread nD τ).loc main_arg0)) (((cfg0.win 0).blk t).view.emb (ix2 k r)) ?_ ?_
  · show win0_0.index t (0 : Fin 2) * 512 + 1 * k.val = _
    rw [e0]; omega
  · show win0_0.index t (1 : Fin 2) * 2816 + 1 * r.val = _
    rw [e1]; omega

theorem iblk1_apply (c : Dev nD) (t : Fin cfg0.N) (k : Fin 512) (l : Fin 1024) :
    (iblk m c 1 t (ix2 k l) : EReal)
      = cell (n := 4096) (k := 1024) (α := EReal) (m ((c : Thread nD τ).loc main_arg1)) (512 * (t.val % 8) + k.val) l.val := by
  obtain ⟨e0, e1⟩ := index1 t
  refine cell_eq (n := 4096) (k := 1024) (α := EReal) (m ((c : Thread nD τ).loc main_arg1)) (((cfg0.win 1).blk t).view.emb (ix2 k l)) ?_ ?_
  · show win0_1.index t (0 : Fin 2) * 512 + 1 * k.val = _
    rw [e0]; omega
  · show win0_1.index t (1 : Fin 2) * 1024 + 1 * l.val = _
    rw [e1]; omega

/-- Adding step `t`'s product to the sum over the rows of the steps before it. -/
theorem step_apply (c : Dev nD) (t : Fin cfg0.N) (xs : Vec Ideal S2816x1024 .f32) (y : S2816x1024.Idx)
    (h : (xs y : EReal) = ∑ k ∈ Finset.range (512 * (t.val % 8)), share m c (2816 * (t.val / 8) + (y 0).val) (y 1).val k) :
    (k0_pay2 xs (iblk m c 0 t) (iblk m c 1 t) y : EReal)
      = ∑ k ∈ Finset.range (512 * (t.val % 8) + 512), share m c (2816 * (t.val / 8) + (y 0).val) (y 1).val k := by
  rw [pay2_apply, h, ← sum_next 512]
  refine congrArg _ (Finset.sum_congr rfl fun k _ => ?_)
  exact congrArg₂ (fun a b : EReal => a * b) (iblk0_apply m c t k (y 0)) (iblk1_apply m c t k (y 1))

/-- After step `n` the accumulator holds the sum over the rows so far of its block. -/
theorem acc_apply (c : Dev nD) : ∀ (n : ℕ) (hn : n < cfg0.N) (y : S2816x1024.Idx),
    ((outsAt0 m c n hn).2 y : EReal)
      = ∑ k ∈ Finset.range (512 * (n % 8) + 512), share m c (2816 * (n / 8) + (y 0).val) (y 1).val k := by
  intro n
  induction n with
  | zero =>
    intro hn y
    rw [outsAt0_A m c ⟨0, hn⟩ rfl (by show ¬(0 % 8 = 7); omega)]
    dsimp only
    rw [acc_A]
    exact step_apply m c ⟨0, hn⟩ _ y (by rw [pay1_apply]; rfl)
  | succ n ih =>
    intro hn y
    by_cases h0 : (n + 1) % 8 = 0
    · rw [outsAt0_A m c ⟨n + 1, hn⟩ h0 (by show ¬((n + 1) % 8 = 7); omega)]
      dsimp only
      rw [acc_A]
      refine step_apply m c ⟨n + 1, hn⟩ _ y ?_
      rw [pay1_apply]
      show _ = ∑ k ∈ Finset.range (512 * ((n + 1) % 8)), _
      rw [h0]; rfl
    · have hp : ((outsAt0 m c n (Nat.lt_of_succ_lt hn)).2 y : EReal)
          = ∑ k ∈ Finset.range (512 * ((n + 1) % 8)), share m c (2816 * ((n + 1) / 8) + (y 0).val) (y 1).val k := by
        rw [ih]
        rw [show 512 * (n % 8) + 512 = 512 * ((n + 1) % 8) by omega, show n / 8 = (n + 1) / 8 by omega]
      by_cases h1 : (n + 1) % 8 = 7
      · rw [outsAt0_C m c ⟨n + 1, hn⟩ h0 h1]
        dsimp only
        rw [acc_C]
        exact step_apply m c ⟨n + 1, hn⟩ _ y hp
      · rw [outsAt0_B m c ⟨n + 1, hn⟩ h0 h1]
        dsimp only
        rw [acc_B]
        exact step_apply m c ⟨n + 1, hn⟩ _ y hp

/-- The block the last step of a run writes back. -/
theorem out_apply (c : Dev nD) (t : Fin cfg0.N) (h1 : t.val % 8 = 7) (y : S2816x1024.Idx) :
    ((outsAt0 m c t.val t.isLt).1 y : EReal)
      = ∑ k ∈ Finset.range 4096, share m c (2816 * (t.val / 8) + (y 0).val) (y 1).val k := by
  have h0 : ¬ t.val % 8 = 0 := by omega
  have hp := acc_apply m c t.val t.isLt y
  rw [outsAt0_C m c t h0 h1] at hp ⊢
  dsimp only at hp ⊢
  rw [acc_C] at hp
  rw [out_C]
  rw [h1] at hp
  exact hp

/-- The kernel's result, entry by entry. -/
theorem G2_apply (c : Dev nD) (i : S2816x1024.Idx) :
    (G2 m c i : EReal) = ∑ k ∈ Finset.range 4096, share m c (i 0).val (i 1).val k := by
  have hi0 : (i 0).val < 2816 := (i 0).isLt
  have hi1 : (i 1).val < 1024 := (i 1).isLt
  have hr : run2Of i = (i 0).val / 2816 := by unfold run2Of; omega
  have hp : pt2Of i < cfg0.N := by
    rw [show cfg0.N = 8 from N_0]; show 8 * run2Of i + 7 < 8; rw [hr]; omega
  unfold G2
  rw [dif_pos hp, ← outsAt0_sweep]
  refine (out_apply m c ⟨pt2Of i, hp⟩ (by show (8 * run2Of i + 7) % 8 = 7; omega) (loc2Of i)).trans ?_
  have e0 : 2816 * ((8 * run2Of i + 7) / 8) + (i 0).val % 2816 = (i 0).val := by rw [hr]; omega
  have e1 : (i 1).val % 1024 = (i 1).val := by omega
  show ∑ k ∈ Finset.range 4096, share m c (2816 * ((8 * run2Of i + 7) / 8) + (i 0).val % 2816) ((i 1).val % 1024) k = _
  rw [e0, e1]

/-! ## The reference's entry -/

theorem reference_apply (c : Dev nD) (i : S2816x1024.Idx) :
    (Cert.Reference3Ideal.Read.val_main_v6 (F := Ideal) (m ((c : Thread nD τ).loc main_arg0)) (m ((c : Thread nD τ).loc main_arg1)) i : EReal)
      = ∑ k ∈ Finset.range 4096, share m c (i 0).val (i 1).val k := by
  rw [← Fin.sum_univ_eq_sum_range (share m c (i 0).val (i 1).val) 4096]
  refine (Cert.Reference3Ideal.Read.val_main_v5_apply (F := Ideal) _ _ i).trans ?_
  rw [Cert.Reference3Ideal.Read.val_main_v4_apply]
  refine Finset.sum_congr rfl fun k _ => (mul_comm (_ : EReal) _).trans ?_
  exact congrArg₂ (fun a b : EReal => a * b)
    (cell_eq (n := 4096) (k := 2816) (α := EReal) (m ((c : Thread nD τ).loc main_arg0)) _ rfl rfl)
    (cell_eq (n := 4096) (k := 1024) (α := EReal) (m ((c : Thread nD τ).loc main_arg1)) _ rfl rfl)

end Cert.Kernel3Ideal.Value

namespace Cert.Claims

open Idealize.ShloMosaic Idealize.ShloMosaic.TcCoe Idealize.SL.Sem

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem preserves3 : Cert.preserves_Kernel3_Kernel3Ideal := trivial

/-- The kernel's gradient is the reference's. -/
theorem algebraic3 : Cert.algebraic_Kernel3Ideal_Reference3Ideal := by
  intro m ρ m' ρ' _ hag
  refine ⟨fun c => Cert.Kernel3Ideal.Value.G2 m c, Cert.Kernel3Ideal.Value.run m ρ, ?_⟩
  refine (θ_run Cert.Reference3Ideal.defs _ _).mono (fun r hr c => ⟨?_, (hr c).2⟩) (Cert.Reference3Ideal.Value.run (F := Ideal) m' ρ')
  refine (hr c).1.trans ((Cert.Reference3Ideal.Read.val_main_v6_eq _ _).trans ?_)
  rw [(hag c).1, (hag c).2]
  funext i
  exact (Cert.Kernel3Ideal.Value.reference_apply m c i).trans (Cert.Kernel3Ideal.Value.G2_apply m c i).symm

end Cert.Claims

end

end
-- ==== Proof.In.lean ====
/-
  The gradient of the attention's input weights: what the kernel's eight steps over the rows add up to, and the
  reference's product over all the rows at once.
-/
module

public import proofs.«01_k».proof.Defs
public import proofs.«01_k».proof.Proof.Cell
public import proofs.«01_k».proof.Proof.Gen.Kernel4.Frame
public import proofs.«01_k».proof.Proof.Gen.Kernel4Ideal.Value
public import proofs.«01_k».proof.Proof.Gen.Reference4Ideal.Read
public import Idealize.ShloMosaic.Lib.Quiescent
public import Idealize.ShloMosaic.Lib.Pointwise
public import Idealize.ShloMosaic.Lib.Tactic

@[expose] public section

set_option maxRecDepth 16384

noncomputable section

namespace Cert.Kernel4Ideal.Value

open Cert.Kernel4Ideal Cert.Kernel4Ideal.Gen Cert.Cell
open Idealize.ShloMosaic Idealize.ShloMosaic.TcCoe Idealize.SL.Sem

theorem hz : (![0, 0] : Fin 2 → Nat) = fun _ => 0 := funext fun a => by fin_cases a <;> rfl

/-! ## One step: the accumulator and the result block after it -/

section
variable {F : FTy → Type} [FloatOps F]

/-- The first step of a block clears the accumulator and adds the step's product. -/
theorem acc_A (c : Dev nD) (i : grid0.Coords) (a0 h0 a1 h1 a2 h2 a3 h3) (hc0 : cond0_0 i) (hc1 : ¬cond0_1 i) (x0 : Vec F S512x2304 .bf16) (x1 : Vec F S512x1024 .bf16) :
    sout0_A_0 c i a0 h0 a1 h1 a2 h2 a3 h3 hc0 hc1 x0 x1 = k0_pay2 k0_pay1 x0 x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_cons_unit_zero (S := S2304x1024) hz, View.readCov_unit_zero (S := S2304x1024) _ hz]
  simp only [View.readAt_eq_ld, h0.read_unread, h1.read_unread, View.ld_unit_zero (S := S512x2304) hz, View.ld_unit_zero (S := S512x1024) hz]

/-- A middle step adds the step's product. -/
theorem acc_B (c : Dev nD) (i : grid0.Coords) (a0 h0 a1 h1 a2 h2 a3 h3) (hc0 : ¬cond0_0 i) (hc1 : ¬cond0_1 i) (x0 : Vec F S512x2304 .bf16) (x1 : Vec F S512x1024 .bf16) (xs : Vec F S2304x1024 .f32) :
    sout0_B_0 c i a0 h0 a1 h1 a2 h2 a3 h3 hc0 hc1 x0 x1 xs = k0_pay2 xs x0 x1 := by
  unfold sout0_B_0
  rw [View.read_writes_eq_canon _ _ _ (scover0_B_0 c i a0 h0 a1 h1 a2 h2 a3 h3 hc0 hc1 x0 x1 xs)]
  unfold kernelRun0_B
  dsimp only
  rw [View.canon_unit_zero (S := S2304x1024) hz]
  simp only [View.readAt_eq_ld, h0.read_unread, h1.read_unread, h3.read_unread, View.ld_unit_zero (S := S512x2304) hz, View.ld_unit_zero (S := S512x1024) hz, View.ld_unit_zero (S := S2304x1024) hz]

/-- So does the last step. -/
theorem acc_C (c : Dev nD) (i : grid0.Coords) (a0 h0 a1 h1 a2 h2 a3 h3) (hc0 : ¬cond0_0 i) (hc1 : cond0_1 i) (x0 : Vec F S512x2304 .bf16) (x1 : Vec F S512x1024 .bf16) (xs : Vec F S2304x1024 .f32) :
    sout0_C_0 c i a0 h0 a1 h1 a2 h2 a3 h3 hc0 hc1 x0 x1 xs = k0_pay2 xs x0 x1 := by
  unfold sout0_C_0
  rw [View.read_writes_eq_canon _ _ _ (scover0_C_0 c i a0 h0 a1 h1 a2 h2 a3 h3 hc0 hc1 x0 x1 xs)]
  unfold kernelRun0_C
  dsimp only
  sl_unfold_words
  rw [View.canon_unit_zero (S := S2304x1024) hz]
  simp only [View.readAt_eq_ld, h0.read_unread, h1.read_unread, h3.read_unread, View.ld_unit_zero (S := S512x2304) hz, View.ld_unit_zero (S := S512x1024) hz, View.ld_unit_zero (S := S2304x1024) hz]

/-- The last step writes the accumulator out. -/
theorem out_C (c : Dev nD) (i : grid0.Coords) (a0 h0 a1 h1 a2 h2 a3 h3) (hc0 : ¬cond0_0 i) (hc1 : cond0_1 i) (x0 : Vec F S512x2304 .bf16) (x1 : Vec F S512x1024 .bf16) (xs : Vec F S2304x1024 .f32) :
    out0_C_2 c i a0 h0 a1 h1 a2 h2 a3 h3 hc0 hc1 x0 x1 xs = k0_pay3 (k0_pay2 xs x0 x1) := by
  unfold out0_C_2
  rw [View.read_writes_eq_canon _ _ _ (cover0_C_2 c i a0 h0 a1 h1 a2 h2 a3 h3 hc0 hc1 x0 x1 xs)]
  unfold kernelRun0_C
  dsimp only
  sl_unfold_words
  rw [View.canon_unit_zero (S := S2304x1024) hz, View.readCov_unit_zero (S := S2304x1024) _ hz]
  simp only [View.readAt_eq_ld, h0.read_unread, h1.read_unread, h3.read_unread, View.ld_unit_zero (S := S512x2304) hz, View.ld_unit_zero (S := S512x1024) hz, View.ld_unit_zero (S := S2304x1024) hz]

end

/-! ## The sum over the rows, step by step -/

variable (m : (ℓ : Loc nD τ sig) → Buf (Elt Ideal) ℓ) (ρ : Dev nD → PrngReg)

/-- Row `k`'s share of the gradient's entry at row `r`, lane `l`. -/
def share (c : Dev nD) (r l k : ℕ) : EReal :=
  cell (n := 4096) (k := 2304) (α := EReal) (m ((c : Thread nD τ).loc main_arg0)) k r
    * cell (n := 4096) (k := 1024) (α := EReal) (m ((c : Thread nD τ).loc main_arg1)) k l

theorem pay1_apply (y : S2304x1024.Idx) : k0_pay1 (F := Ideal) y = 0 := by
  unfold k0_pay1
  pointwise []

theorem pay2_apply (xs : Vec Ideal S2304x1024 .f32) (x0 : Vec Ideal S512x2304 .bf16) (x1 : Vec Ideal S512x1024 .bf16) (y : S2304x1024.Idx) :
    k0_pay2 xs x0 x1 y = (xs y : EReal) + ∑ k : Fin 512, (x0 (ix2 k (y 0)) : EReal) * x1 (ix2 k (y 1)) := by
  unfold k0_pay2
  pointwise []

theorem index0 : ∀ t : Fin cfg0.N, win0_0.index t (0 : Fin 2) = t.val % 8 ∧ win0_0.index t (1 : Fin 2) = t.val / 8 :=
  (by decide +kernel : ∀ t : Fin grid0.N, _)

theorem index1 : ∀ t : Fin cfg0.N, win0_1.index t (0 : Fin 2) = t.val % 8 ∧ win0_1.index t (1 : Fin 2) = 0 :=
  (by decide +kernel : ∀ t : Fin grid0.N, _)

theorem iblk0_apply (c : Dev nD) (t : Fin cfg0.N) (k : Fin 512) (r : Fin 2304) :
    (iblk m c 0 t (ix2 k r) : EReal)
      = cell (n := 4096) (k := 2304) (α := EReal) (m ((c : Thread nD τ).loc main_arg0)) (512 * (t.val % 8) + k.val) (2304 * (t.val / 8) + r.val) := by
  obtain ⟨e0, e1⟩ := index0 t
  refine cell_eq (n := 4096) (k := 2304) (α := EReal) (m ((c : Thread nD τ).loc main_arg0)) (((cfg0.win 0).blk t).view.emb (ix2 k r)) ?_ ?_
  · show win0_0.index t (0 : Fin 2) * 512 + 1 * k.val = _
    rw [e0]; omega
  · show win0_0.index t (1 : Fin 2) * 2304 + 1 * r.val = _
    rw [e1]; omega

theorem iblk1_apply (c : Dev nD) (t : Fin cfg0.N) (k : Fin 512) (l : Fin 1024) :
    (iblk m c 1 t (ix2 k l) : EReal)
      = cell (n := 4096) (k := 1024) (α := EReal) (m ((c : Thread nD τ).loc main_arg1)) (512 * (t.val % 8) + k.val) l.val := by
  obtain ⟨e0, e1⟩ := index1 t
  refine cell_eq (n := 4096) (k := 1024) (α := EReal) (m ((c : Thread nD τ).loc main_arg1)) (((cfg0.win 1).blk t).view.emb (ix2 k l)) ?_ ?_
  · show win0_1.index t (0 : Fin 2) * 512 + 1 * k.val = _
    rw [e0]; omega
  · show win0_1.index t (1 : Fin 2) * 1024 + 1 * l.val = _
    rw [e1]; omega

/-- Adding step `t`'s product to the sum over the rows of the steps before it. -/
theorem step_apply (c : Dev nD) (t : Fin cfg0.N) (xs : Vec Ideal S2304x1024 .f32) (y : S2304x1024.Idx)
    (h : (xs y : EReal) = ∑ k ∈ Finset.range (512 * (t.val % 8)), share m c (2304 * (t.val / 8) + (y 0).val) (y 1).val k) :
    (k0_pay2 xs (iblk m c 0 t) (iblk m c 1 t) y : EReal)
      = ∑ k ∈ Finset.range (512 * (t.val % 8) + 512), share m c (2304 * (t.val / 8) + (y 0).val) (y 1).val k := by
  rw [pay2_apply, h, ← sum_next 512]
  refine congrArg _ (Finset.sum_congr rfl fun k _ => ?_)
  exact congrArg₂ (fun a b : EReal => a * b) (iblk0_apply m c t k (y 0)) (iblk1_apply m c t k (y 1))

/-- After step `n` the accumulator holds the sum over the rows so far of its block. -/
theorem acc_apply (c : Dev nD) : ∀ (n : ℕ) (hn : n < cfg0.N) (y : S2304x1024.Idx),
    ((outsAt0 m c n hn).2 y : EReal)
      = ∑ k ∈ Finset.range (512 * (n % 8) + 512), share m c (2304 * (n / 8) + (y 0).val) (y 1).val k := by
  intro n
  induction n with
  | zero =>
    intro hn y
    rw [outsAt0_A m c ⟨0, hn⟩ rfl (by show ¬(0 % 8 = 7); omega)]
    dsimp only
    rw [acc_A]
    exact step_apply m c ⟨0, hn⟩ _ y (by rw [pay1_apply]; rfl)
  | succ n ih =>
    intro hn y
    by_cases h0 : (n + 1) % 8 = 0
    · rw [outsAt0_A m c ⟨n + 1, hn⟩ h0 (by show ¬((n + 1) % 8 = 7); omega)]
      dsimp only
      rw [acc_A]
      refine step_apply m c ⟨n + 1, hn⟩ _ y ?_
      rw [pay1_apply]
      show _ = ∑ k ∈ Finset.range (512 * ((n + 1) % 8)), _
      rw [h0]; rfl
    · have hp : ((outsAt0 m c n (Nat.lt_of_succ_lt hn)).2 y : EReal)
          = ∑ k ∈ Finset.range (512 * ((n + 1) % 8)), share m c (2304 * ((n + 1) / 8) + (y 0).val) (y 1).val k := by
        rw [ih]
        rw [show 512 * (n % 8) + 512 = 512 * ((n + 1) % 8) by omega, show n / 8 = (n + 1) / 8 by omega]
      by_cases h1 : (n + 1) % 8 = 7
      · rw [outsAt0_C m c ⟨n + 1, hn⟩ h0 h1]
        dsimp only
        rw [acc_C]
        exact step_apply m c ⟨n + 1, hn⟩ _ y hp
      · rw [outsAt0_B m c ⟨n + 1, hn⟩ h0 h1]
        dsimp only
        rw [acc_B]
        exact step_apply m c ⟨n + 1, hn⟩ _ y hp

/-- The block the last step of a run writes back. -/
theorem out_apply (c : Dev nD) (t : Fin cfg0.N) (h1 : t.val % 8 = 7) (y : S2304x1024.Idx) :
    ((outsAt0 m c t.val t.isLt).1 y : EReal)
      = ∑ k ∈ Finset.range 4096, share m c (2304 * (t.val / 8) + (y 0).val) (y 1).val k := by
  have h0 : ¬ t.val % 8 = 0 := by omega
  have hp := acc_apply m c t.val t.isLt y
  rw [outsAt0_C m c t h0 h1] at hp ⊢
  dsimp only at hp ⊢
  rw [acc_C] at hp
  rw [out_C]
  rw [h1] at hp
  exact hp

/-- The kernel's result, entry by entry. -/
theorem G2_apply (c : Dev nD) (i : S2304x1024.Idx) :
    (G2 m c i : EReal) = ∑ k ∈ Finset.range 4096, share m c (i 0).val (i 1).val k := by
  have hi0 : (i 0).val < 2304 := (i 0).isLt
  have hi1 : (i 1).val < 1024 := (i 1).isLt
  have hr : run2Of i = (i 0).val / 2304 := by unfold run2Of; omega
  have hp : pt2Of i < cfg0.N := by
    rw [show cfg0.N = 8 from N_0]; show 8 * run2Of i + 7 < 8; rw [hr]; omega
  unfold G2
  rw [dif_pos hp, ← outsAt0_sweep]
  refine (out_apply m c ⟨pt2Of i, hp⟩ (by show (8 * run2Of i + 7) % 8 = 7; omega) (loc2Of i)).trans ?_
  have e0 : 2304 * ((8 * run2Of i + 7) / 8) + (i 0).val % 2304 = (i 0).val := by rw [hr]; omega
  have e1 : (i 1).val % 1024 = (i 1).val := by omega
  show ∑ k ∈ Finset.range 4096, share m c (2304 * ((8 * run2Of i + 7) / 8) + (i 0).val % 2304) ((i 1).val % 1024) k = _
  rw [e0, e1]

/-! ## The reference's entry -/

theorem reference_apply (c : Dev nD) (i : S2304x1024.Idx) :
    (Cert.Reference4Ideal.Read.val_main_v7 (F := Ideal) (m ((c : Thread nD τ).loc main_arg0)) (m ((c : Thread nD τ).loc main_arg1)) i : EReal)
      = ∑ k ∈ Finset.range 4096, share m c (i 0).val (i 1).val k := by
  rw [← Fin.sum_univ_eq_sum_range (share m c (i 0).val (i 1).val) 4096]
  refine (Cert.Reference4Ideal.Read.val_main_v6_apply (F := Ideal) _ _ i).trans ?_
  rw [Cert.Reference4Ideal.Read.val_main_v5_apply, Cert.Reference4Ideal.Read.val_main_v4_apply]
  refine Finset.sum_congr rfl fun k _ => ?_
  exact congrArg₂ (fun a b : EReal => a * b)
    (cell_eq (n := 4096) (k := 2304) (α := EReal) (m ((c : Thread nD τ).loc main_arg0)) _ rfl rfl)
    (cell_eq (n := 4096) (k := 1024) (α := EReal) (m ((c : Thread nD τ).loc main_arg1)) _ rfl rfl)

end Cert.Kernel4Ideal.Value

namespace Cert.Claims

open Idealize.ShloMosaic Idealize.ShloMosaic.TcCoe Idealize.SL.Sem

theorem frame_p4 : Cert.quiescent_Kernel4 := fun m ρ _ => Cert.Kernel4.Gen.frame m ρ

theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem preserves4 : Cert.preserves_Kernel4_Kernel4Ideal := trivial

/-- The kernel's gradient is the reference's. -/
theorem algebraic4 : Cert.algebraic_Kernel4Ideal_Reference4Ideal := by
  intro m ρ m' ρ' _ hag
  refine ⟨fun c => Cert.Kernel4Ideal.Value.G2 m c, Cert.Kernel4Ideal.Value.run m ρ, ?_⟩
  refine (θ_run Cert.Reference4Ideal.defs _ _).mono (fun r hr c => ⟨?_, (hr c).2⟩) (Cert.Reference4Ideal.Value.run (F := Ideal) m' ρ')
  refine (hr c).1.trans ((Cert.Reference4Ideal.Read.val_main_v7_eq _ _).trans ?_)
  rw [(hag c).1, (hag c).2]
  funext i
  exact (Cert.Kernel4Ideal.Value.reference_apply m c i).trans (Cert.Kernel4Ideal.Value.G2_apply m c i).symm

end Cert.Claims

end

end
-- ==== Proof.Out.lean ====
/-
  The gradient of the attention's output weights: what the kernel's eight steps over the rows add up to, and the
  reference's product over all the rows at once.
-/
module

public import proofs.«01_k».proof.Defs
public import proofs.«01_k».proof.Proof.Cell
public import proofs.«01_k».proof.Proof.Gen.Kernel5.Frame
public import proofs.«01_k».proof.Proof.Gen.Kernel5Ideal.Value
public import proofs.«01_k».proof.Proof.Gen.Reference5Ideal.Read
public import Idealize.ShloMosaic.Lib.Quiescent
public import Idealize.ShloMosaic.Lib.Pointwise
public import Idealize.ShloMosaic.Lib.Tactic

@[expose] public section

set_option maxRecDepth 16384

noncomputable section

namespace Cert.Kernel5Ideal.Value

open Cert.Kernel5Ideal Cert.Kernel5Ideal.Gen Cert.Cell
open Idealize.ShloMosaic Idealize.ShloMosaic.TcCoe Idealize.SL.Sem

theorem hz : (![0, 0] : Fin 2 → Nat) = fun _ => 0 := funext fun a => by fin_cases a <;> rfl

/-! ## One step: the accumulator and the result block after it -/

section
variable {F : FTy → Type} [FloatOps F]

/-- The first step of a block clears the accumulator and adds the step's product. -/
theorem acc_A (c : Dev nD) (i : grid0.Coords) (a0 h0 a1 h1 a2 h2 a3 h3) (hc0 : cond0_0 i) (hc1 : ¬cond0_1 i) (x0 : Vec F S512x1024 .bf16) (x1 : Vec F S512x1024 .bf16) :
    sout0_A_0 c i a0 h0 a1 h1 a2 h2 a3 h3 hc0 hc1 x0 x1 = k0_pay2 k0_pay1 x0 x1 := by
  unfold sout0_A_0
  rw [View.read_writes_eq_canon _ _ _ (scover0_A_0 c i a0 h0 a1 h1 a2 h2 a3 h3 hc0 hc1 x0 x1)]
  unfold kernelRun0_A
  dsimp only
  sl_unfold_words
  rw [View.canon_cons_unit_zero (S := S1024x1024) hz, View.readCov_unit_zero (S := S1024x1024) _ hz]
  simp only [View.readAt_eq_ld, h0.read_unread, h1.read_unread, View.ld_unit_zero (S := S512x1024) hz]

/-- A middle step adds the step's product. -/
theorem acc_B (c : Dev nD) (i : grid0.Coords) (a0 h0 a1 h1 a2 h2 a3 h3) (hc0 : ¬cond0_0 i) (hc1 : ¬cond0_1 i) (x0 : Vec F S512x1024 .bf16) (x1 : Vec F S512x1024 .bf16) (xs : Vec F S1024x1024 .f32) :
    sout0_B_0 c i a0 h0 a1 h1 a2 h2 a3 h3 hc0 hc1 x0 x1 xs = k0_pay2 xs x0 x1 := by
  unfold sout0_B_0
  rw [View.read_writes_eq_canon _ _ _ (scover0_B_0 c i a0 h0 a1 h1 a2 h2 a3 h3 hc0 hc1 x0 x1 xs)]
  unfold kernelRun0_B
  dsimp only
  rw [View.canon_unit_zero (S := S1024x1024) hz]
  simp only [View.readAt_eq_ld, h0.read_unread, h1.read_unread, h3.read_unread, View.ld_unit_zero (S := S512x1024) hz, View.ld_unit_zero (S := S1024x1024) hz]

/-- So does the last step. -/
theorem acc_C (c : Dev nD) (i : grid0.Coords) (a0 h0 a1 h1 a2 h2 a3 h3) (hc0 : ¬cond0_0 i) (hc1 : cond0_1 i) (x0 : Vec F S512x1024 .bf16) (x1 : Vec F S512x1024 .bf16) (xs : Vec F S1024x1024 .f32) :
    sout0_C_0 c i a0 h0 a1 h1 a2 h2 a3 h3 hc0 hc1 x0 x1 xs = k0_pay2 xs x0 x1 := by
  unfold sout0_C_0
  rw [View.read_writes_eq_canon _ _ _ (scover0_C_0 c i a0 h0 a1 h1 a2 h2 a3 h3 hc0 hc1 x0 x1 xs)]
  unfold kernelRun0_C
  dsimp only
  sl_unfold_words
  rw [View.canon_unit_zero (S := S1024x1024) hz]
  simp only [View.readAt_eq_ld, h0.read_unread, h1.read_unread, h3.read_unread, View.ld_unit_zero (S := S512x1024) hz, View.ld_unit_zero (S := S1024x1024) hz]

/-- The last step writes the accumulator out. -/
theorem out_C (c : Dev nD) (i : grid0.Coords) (a0 h0 a1 h1 a2 h2 a3 h3) (hc0 : ¬cond0_0 i) (hc1 : cond0_1 i) (x0 : Vec F S512x1024 .bf16) (x1 : Vec F S512x1024 .bf16) (xs : Vec F S1024x1024 .f32) :
    out0_C_2 c i a0 h0 a1 h1 a2 h2 a3 h3 hc0 hc1 x0 x1 xs = k0_pay3 (k0_pay2 xs x0 x1) := by
  unfold out0_C_2
  rw [View.read_writes_eq_canon _ _ _ (cover0_C_2 c i a0 h0 a1 h1 a2 h2 a3 h3 hc0 hc1 x0 x1 xs)]
  unfold kernelRun0_C
  dsimp only
  sl_unfold_words
  rw [View.canon_unit_zero (S := S1024x1024) hz, View.readCov_unit_zero (S := S1024x1024) _ hz]
  simp only [View.readAt_eq_ld, h0.read_unread, h1.read_unread, h3.read_unread, View.ld_unit_zero (S := S512x1024) hz, View.ld_unit_zero (S := S1024x1024) hz]

end

/-! ## The sum over the rows, step by step -/

variable (m : (ℓ : Loc nD τ sig) → Buf (Elt Ideal) ℓ) (ρ : Dev nD → PrngReg)

/-- Row `k`'s share of the gradient's entry at row `r`, lane `l`. -/
def share (c : Dev nD) (r l k : ℕ) : EReal :=
  cell (n := 4096) (k := 1024) (α := EReal) (m ((c : Thread nD τ).loc main_arg0)) k r
    * cell (n := 4096) (k := 1024) (α := EReal) (m ((c : Thread nD τ).loc main_arg1)) k l

theorem pay1_apply (y : S1024x1024.Idx) : k0_pay1 (F := Ideal) y = 0 := by
  unfold k0_pay1
  pointwise []

theorem pay2_apply (xs : Vec Ideal S1024x1024 .f32) (x0 : Vec Ideal S512x1024 .bf16) (x1 : Vec Ideal S512x1024 .bf16) (y : S1024x1024.Idx) :
    k0_pay2 xs x0 x1 y = (xs y : EReal) + ∑ k : Fin 512, (x0 (ix2 k (y 0)) : EReal) * x1 (ix2 k (y 1)) := by
  unfold k0_pay2
  pointwise []

theorem index0 : ∀ t : Fin cfg0.N, win0_0.index t (0 : Fin 2) = t.val % 8 ∧ win0_0.index t (1 : Fin 2) = t.val / 8 :=
  (by decide +kernel : ∀ t : Fin grid0.N, _)

theorem index1 : ∀ t : Fin cfg0.N, win0_1.index t (0 : Fin 2) = t.val % 8 ∧ win0_1.index t (1 : Fin 2) = 0 :=
  (by decide +kernel : ∀ t : Fin grid0.N, _)

theorem iblk0_apply (c : Dev nD) (t : Fin cfg0.N) (k : Fin 512) (r : Fin 1024) :
    (iblk m c 0 t (ix2 k r) : EReal)
      = cell (n := 4096) (k := 1024) (α := EReal) (m ((c : Thread nD τ).loc main_arg0)) (512 * (t.val % 8) + k.val) (1024 * (t.val / 8) + r.val) := by
  obtain ⟨e0, e1⟩ := index0 t
  refine cell_eq (n := 4096) (k := 1024) (α := EReal) (m ((c : Thread nD τ).loc main_arg0)) (((cfg0.win 0).blk t).view.emb (ix2 k r)) ?_ ?_
  · show win0_0.index t (0 : Fin 2) * 512 + 1 * k.val = _
    rw [e0]; omega
  · show win0_0.index t (1 : Fin 2) * 1024 + 1 * r.val = _
    rw [e1]; omega

theorem iblk1_apply (c : Dev nD) (t : Fin cfg0.N) (k : Fin 512) (l : Fin 1024) :
    (iblk m c 1 t (ix2 k l) : EReal)
      = cell (n := 4096) (k := 1024) (α := EReal) (m ((c : Thread nD τ).loc main_arg1)) (512 * (t.val % 8) + k.val) l.val := by
  obtain ⟨e0, e1⟩ := index1 t
  refine cell_eq (n := 4096) (k := 1024) (α := EReal) (m ((c : Thread nD τ).loc main_arg1)) (((cfg0.win 1).blk t).view.emb (ix2 k l)) ?_ ?_
  · show win0_1.index t (0 : Fin 2) * 512 + 1 * k.val = _
    rw [e0]; omega
  · show win0_1.index t (1 : Fin 2) * 1024 + 1 * l.val = _
    rw [e1]; omega

/-- Adding step `t`'s product to the sum over the rows of the steps before it. -/
theorem step_apply (c : Dev nD) (t : Fin cfg0.N) (xs : Vec Ideal S1024x1024 .f32) (y : S1024x1024.Idx)
    (h : (xs y : EReal) = ∑ k ∈ Finset.range (512 * (t.val % 8)), share m c (1024 * (t.val / 8) + (y 0).val) (y 1).val k) :
    (k0_pay2 xs (iblk m c 0 t) (iblk m c 1 t) y : EReal)
      = ∑ k ∈ Finset.range (512 * (t.val % 8) + 512), share m c (1024 * (t.val / 8) + (y 0).val) (y 1).val k := by
  rw [pay2_apply, h, ← sum_next 512]
  refine congrArg _ (Finset.sum_congr rfl fun k _ => ?_)
  exact congrArg₂ (fun a b : EReal => a * b) (iblk0_apply m c t k (y 0)) (iblk1_apply m c t k (y 1))

/-- After step `n` the accumulator holds the sum over the rows so far of its block. -/
theorem acc_apply (c : Dev nD) : ∀ (n : ℕ) (hn : n < cfg0.N) (y : S1024x1024.Idx),
    ((outsAt0 m c n hn).2 y : EReal)
      = ∑ k ∈ Finset.range (512 * (n % 8) + 512), share m c (1024 * (n / 8) + (y 0).val) (y 1).val k := by
  intro n
  induction n with
  | zero =>
    intro hn y
    rw [outsAt0_A m c ⟨0, hn⟩ rfl (by show ¬(0 % 8 = 7); omega)]
    dsimp only
    rw [acc_A]
    exact step_apply m c ⟨0, hn⟩ _ y (by rw [pay1_apply]; rfl)
  | succ n ih =>
    intro hn y
    by_cases h0 : (n + 1) % 8 = 0
    · rw [outsAt0_A m c ⟨n + 1, hn⟩ h0 (by show ¬((n + 1) % 8 = 7); omega)]
      dsimp only
      rw [acc_A]
      refine step_apply m c ⟨n + 1, hn⟩ _ y ?_
      rw [pay1_apply]
      show _ = ∑ k ∈ Finset.range (512 * ((n + 1) % 8)), _
      rw [h0]; rfl
    · have hp : ((outsAt0 m c n (Nat.lt_of_succ_lt hn)).2 y : EReal)
          = ∑ k ∈ Finset.range (512 * ((n + 1) % 8)), share m c (1024 * ((n + 1) / 8) + (y 0).val) (y 1).val k := by
        rw [ih]
        rw [show 512 * (n % 8) + 512 = 512 * ((n + 1) % 8) by omega, show n / 8 = (n + 1) / 8 by omega]
      by_cases h1 : (n + 1) % 8 = 7
      · rw [outsAt0_C m c ⟨n + 1, hn⟩ h0 h1]
        dsimp only
        rw [acc_C]
        exact step_apply m c ⟨n + 1, hn⟩ _ y hp
      · rw [outsAt0_B m c ⟨n + 1, hn⟩ h0 h1]
        dsimp only
        rw [acc_B]
        exact step_apply m c ⟨n + 1, hn⟩ _ y hp

/-- The block the last step of a run writes back. -/
theorem out_apply (c : Dev nD) (t : Fin cfg0.N) (h1 : t.val % 8 = 7) (y : S1024x1024.Idx) :
    ((outsAt0 m c t.val t.isLt).1 y : EReal)
      = ∑ k ∈ Finset.range 4096, share m c (1024 * (t.val / 8) + (y 0).val) (y 1).val k := by
  have h0 : ¬ t.val % 8 = 0 := by omega
  have hp := acc_apply m c t.val t.isLt y
  rw [outsAt0_C m c t h0 h1] at hp ⊢
  dsimp only at hp ⊢
  rw [acc_C] at hp
  rw [out_C]
  rw [h1] at hp
  exact hp

/-- The kernel's result, entry by entry. -/
theorem G2_apply (c : Dev nD) (i : S1024x1024.Idx) :
    (G2 m c i : EReal) = ∑ k ∈ Finset.range 4096, share m c (i 0).val (i 1).val k := by
  have hi0 : (i 0).val < 1024 := (i 0).isLt
  have hi1 : (i 1).val < 1024 := (i 1).isLt
  have hr : run2Of i = (i 0).val / 1024 := by unfold run2Of; omega
  have hp : pt2Of i < cfg0.N := by
    rw [show cfg0.N = 8 from N_0]; show 8 * run2Of i + 7 < 8; rw [hr]; omega
  unfold G2
  rw [dif_pos hp, ← outsAt0_sweep]
  refine (out_apply m c ⟨pt2Of i, hp⟩ (by show (8 * run2Of i + 7) % 8 = 7; omega) (loc2Of i)).trans ?_
  have e0 : 1024 * ((8 * run2Of i + 7) / 8) + (i 0).val % 1024 = (i 0).val := by rw [hr]; omega
  have e1 : (i 1).val % 1024 = (i 1).val := by omega
  show ∑ k ∈ Finset.range 4096, share m c (1024 * ((8 * run2Of i + 7) / 8) + (i 0).val % 1024) ((i 1).val % 1024) k = _
  rw [e0, e1]

/-! ## The reference's entry -/

theorem reference_apply (c : Dev nD) (i : S1024x1024.Idx) :
    (Cert.Reference5Ideal.Read.val_main_v6 (F := Ideal) (m ((c : Thread nD τ).loc main_arg0)) (m ((c : Thread nD τ).loc main_arg1)) i : EReal)
      = ∑ k ∈ Finset.range 4096, share m c (i 0).val (i 1).val k := by
  rw [← Fin.sum_univ_eq_sum_range (share m c (i 0).val (i 1).val) 4096]
  refine (Cert.Reference5Ideal.Read.val_main_v5_apply (F := Ideal) _ _ i).trans ?_
  rw [Cert.Reference5Ideal.Read.val_main_v4_apply]
  refine Finset.sum_congr rfl fun k _ => (mul_comm (_ : EReal) _).trans ?_
  exact congrArg₂ (fun a b : EReal => a * b)
    (cell_eq (n := 4096) (k := 1024) (α := EReal) (m ((c : Thread nD τ).loc main_arg0)) _ rfl rfl)
    (cell_eq (n := 4096) (k := 1024) (α := EReal) (m ((c : Thread nD τ).loc main_arg1)) _ rfl rfl)

end Cert.Kernel5Ideal.Value

namespace Cert.Claims

open Idealize.ShloMosaic Idealize.ShloMosaic.TcCoe Idealize.SL.Sem

theorem frame_p5 : Cert.quiescent_Kernel5 := fun m ρ _ => Cert.Kernel5.Gen.frame m ρ

theorem frame_pi5 : Cert.quiescent_Kernel5Ideal := fun m ρ _ => Cert.Kernel5Ideal.Gen.frame m ρ

theorem frame_ri5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem preserves5 : Cert.preserves_Kernel5_Kernel5Ideal := trivial

/-- The kernel's gradient is the reference's. -/
theorem algebraic5 : Cert.algebraic_Kernel5Ideal_Reference5Ideal := by
  intro m ρ m' ρ' _ hag
  refine ⟨fun c => Cert.Kernel5Ideal.Value.G2 m c, Cert.Kernel5Ideal.Value.run m ρ, ?_⟩
  refine (θ_run Cert.Reference5Ideal.defs _ _).mono (fun r hr c => ⟨?_, (hr c).2⟩) (Cert.Reference5Ideal.Value.run (F := Ideal) m' ρ')
  refine (hr c).1.trans ((Cert.Reference5Ideal.Read.val_main_v6_eq _ _).trans ?_)
  rw [(hag c).1, (hag c).2]
  funext i
  exact (Cert.Kernel5Ideal.Value.reference_apply m c i).trans (Cert.Kernel5Ideal.Value.G2_apply m c i).symm

end Cert.Claims

end

end
-- ==== Proof.Norm.lean ====
/-
  A row divided by its root mean square, over the extended reals.
-/
module

public import Idealize.ShloMosaic.PureOps.Ideal

@[expose] public section

noncomputable section

namespace Cert.Norm

open Idealize.ShloMosaic

/-- The number added to the mean square. -/
def eps : EReal := Ideal.ofBits .f32 0x358637BD#32

/-- One over the root mean square of the row `x` of `n` entries, where `w` stands for the number of entries. -/
def inv (w : EReal) (n : ℕ) (x : ℕ → EReal) : EReal :=
  Ideal.rsqrt (Ideal.div (∑ k ∈ Finset.range n, x k * x k) w + eps)

end Cert.Norm

end

end
-- ==== Proof.UpForward.lean ====
/-
  The two up-projections: the kernel normalises and multiplies one block of 512 tokens at a time, the reference all of
  them at once.
-/
module

public import proofs.«01_k».proof.Defs
public import proofs.«01_k».proof.Proof.Cell
public import proofs.«01_k».proof.Proof.Norm
public import proofs.«01_k».proof.Proof.Gen.Kernel6.Frame
public import proofs.«01_k».proof.Proof.Gen.Kernel6Ideal.Value
public import proofs.«01_k».proof.Proof.Gen.Reference6Ideal.Read
public import Idealize.ShloMosaic.Lib.Quiescent
public import Idealize.ShloMosaic.Lib.Pointwise
public import Idealize.ShloMosaic.Lib.Tactic

@[expose] public section

set_option maxRecDepth 16384

noncomputable section

namespace Cert.Kernel6Ideal.Value

open Cert.Kernel6Ideal Cert.Kernel6Ideal.Gen Cert.Cell
open Idealize.ShloMosaic Idealize.ShloMosaic.TcCoe Idealize.SL.Sem

theorem hz : (![0, 0] : Fin 2 → Nat) = fun _ => 0 := funext fun a => by fin_cases a <;> rfl

/-! ## What one step computes from its blocks -/

theorem pay1_apply (x : Vec Ideal S512x1024 .f32) (g : Vec Ideal S1x1024 .f32) (s h : Vec Ideal S1x1x1024 .f32) (r : Fin 512) (l : Fin 1024)
    (X : ℕ → EReal) (G S H : EReal) (hx : ∀ k : Fin 1024, (x (ix2 r k) : EReal) = X k.val) (hg : (g (ix2 0 l) : EReal) = G)
    (hs : (s (ix3 0 0 l) : EReal) = S) (hh : (h (ix3 0 0 l) : EReal) = H) :
    (k0_pay1 x g s h (ix2 r l) : EReal) = X l.val * Norm.inv (Ideal.ofBits .f32 0x44800000#32) 1024 X * G * (Ideal.ofBits .f32 0x3F800000#32 + S) + H := by
  have e : (k0_pay1 x g s h (ix2 r l) : EReal)
      = (x (ix2 r l) : EReal) * Ideal.rsqrt (Ideal.div (∑ k : Fin 1024, (x (ix2 r k) : EReal) * x (ix2 r k)) (Ideal.ofBits .f32 0x44800000#32) + Ideal.ofBits .f32 0x358637BD#32)
        * g (ix2 0 l) * (Ideal.ofBits .f32 0x3F800000#32 + s (ix3 0 0 l)) + h (ix3 0 0 l) := by
    unfold k0_pay1
    pointwise []
  rw [e, hg, hs, hh]
  simp only [hx]
  unfold Norm.inv Norm.eps
  rw [← Fin.sum_univ_eq_sum_range (fun k => X k * X k) 1024]

theorem pay2_apply (x : Vec Ideal S512x1024 .f32) (g : Vec Ideal S1x1024 .f32) (s h : Vec Ideal S1x1x1024 .f32) (w : Vec Ideal S5632x1024 .bf16) (y : S512x5632.Idx) :
    (k0_pay2 x g s h w y : EReal) = ∑ k : Fin 1024, (k0_pay1 x g s h (ix2 (y 0) k) : EReal) * w (ix2 (y 1) k) := by
  unfold k0_pay2
  pointwise []

theorem pay3_apply (x : Vec Ideal S512x1024 .f32) (g : Vec Ideal S1x1024 .f32) (s h : Vec Ideal S1x1x1024 .f32) (w : Vec Ideal S5632x1024 .bf16) (r : Fin 512) (l : Fin 2816) :
    (k0_pay3 x g s h w (ix2 r l) : EReal) = k0_pay2 x g s h w (ix2 r ⟨l.val, by omega⟩) := by
  unfold k0_pay3
  pointwise []

theorem pay4_apply (x : Vec Ideal S512x1024 .f32) (g : Vec Ideal S1x1024 .f32) (s h : Vec Ideal S1x1x1024 .f32) (w : Vec Ideal S5632x1024 .bf16) (r : Fin 512) (l : Fin 2816) :
    (k0_pay4 x g s h w (ix2 r l) : EReal) = k0_pay2 x g s h w (ix2 r ⟨2816 + l.val, by omega⟩) := by
  unfold k0_pay4
  pointwise []

theorem out4 (x0 x1 x2 x3) : out0_4 (F := Ideal) x0 x1 x2 x3 = k0_pay1 x0 x2 (View.ld x1 r0_2) (View.ld x1 r0_3) := by
  unfold out0_4
  rw [View.canon_unit_zero (S := S512x1024) hz]
  simp only [View.ld_unit_zero (S := S512x1024) hz, View.ld_unit_zero (S := S1x1024) hz]

theorem out5 (x0 x1 x2 x3) : out0_5 (F := Ideal) x0 x1 x2 x3 = k0_pay3 x0 x2 (View.ld x1 r0_2) (View.ld x1 r0_3) x3 := by
  unfold out0_5
  rw [View.canon_unit_zero (S := S512x2816) hz]
  simp only [View.ld_unit_zero (S := S512x1024) hz, View.ld_unit_zero (S := S1x1024) hz, View.ld_unit_zero (S := S5632x1024) hz]

theorem out6 (x0 x1 x2 x3) : out0_6 (F := Ideal) x0 x1 x2 x3 = k0_pay4 x0 x2 (View.ld x1 r0_2) (View.ld x1 r0_3) x3 := by
  unfold out0_6
  rw [View.canon_unit_zero (S := S512x2816) hz]
  simp only [View.ld_unit_zero (S := S512x1024) hz, View.ld_unit_zero (S := S1x1024) hz, View.ld_unit_zero (S := S5632x1024) hz]

/-! ## The results in terms of the arguments -/

section
variable (x0 : (⟨S4096x1024, .f32⟩ : BufTy).Contents (Elt Ideal)) (x1 : (⟨S2x6x1024, .f32⟩ : BufTy).Contents (Elt Ideal))
  (x2 : (⟨S1x1024, .f32⟩ : BufTy).Contents (Elt Ideal)) (x3 : (⟨S5632x1024, .bf16⟩ : BufTy).Contents (Elt Ideal))

/-- The normalised and modulated row of token `t` at lane `l`. -/
def hidden (t l : ℕ) : EReal :=
  cell (n := 4096) (k := 1024) (α := EReal) x0 t l
    * Norm.inv (Ideal.ofBits .f32 0x44800000#32) 1024 (cell (n := 4096) (k := 1024) (α := EReal) x0 t)
    * cell (n := 1) (k := 1024) (α := EReal) x2 0 l
    * (Ideal.ofBits .f32 0x3F800000#32 + cell3 (p := 2) (n := 6) (k := 1024) (α := EReal) x1 (t / 2048) 4 l)
    + cell3 (p := 2) (n := 6) (k := 1024) (α := EReal) x1 (t / 2048) 3 l

/-- The projection of token `t`, feature `f` of both projections side by side. -/
def project (t f : ℕ) : EReal :=
  ∑ k ∈ Finset.range 1024, hidden x0 x1 x2 t k * cell (n := 5632) (k := 1024) (α := EReal) x3 f k

end

/-! ## The kernel's results -/

variable (m : (ℓ : Loc nD τ sig) → Buf (Elt Ideal) ℓ) (ρ : Dev nD → PrngReg)

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 3) = t.val / 4 ∧ win0_1.index t (1 : Fin 3) = 0 ∧ win0_1.index t (2 : Fin 3) = 0 :=
  (by decide +kernel : ∀ t : Fin grid0.N, _)

theorem index2 : ∀ t : Fin cfg0.N, win0_2.index t (0 : Fin 2) = 0 ∧ win0_2.index t (1 : Fin 2) = 0 :=
  (by decide +kernel : ∀ t : Fin grid0.N, _)

theorem index3 : ∀ t : Fin cfg0.N, win0_3.index t (0 : Fin 2) = 0 ∧ win0_3.index t (1 : Fin 2) = 0 :=
  (by decide +kernel : ∀ t : Fin grid0.N, _)

theorem index4 : ∀ t : Fin cfg0.N, win0_4.index t (0 : Fin 2) = t.val ∧ win0_4.index t (1 : Fin 2) = 0 :=
  (by decide +kernel : ∀ t : Fin grid0.N, _)

theorem index5 : ∀ t : Fin cfg0.N, win0_5.index t (0 : Fin 2) = t.val ∧ win0_5.index t (1 : Fin 2) = 0 :=
  (by decide +kernel : ∀ t : Fin grid0.N, _)

theorem index6 : ∀ t : Fin cfg0.N, win0_6.index t (0 : Fin 2) = t.val ∧ win0_6.index t (1 : Fin 2) = 0 :=
  (by decide +kernel : ∀ t : Fin grid0.N, _)

theorem iblk0_apply (c : Dev nD) (t : Fin cfg0.N) (r : Fin 512) (l : Fin 1024) :
    (iblk m c 0 t (ix2 r l) : EReal) = cell (n := 4096) (k := 1024) (α := EReal) (m ((c : Thread nD τ).loc main_arg0)) (512 * t.val + r.val) l.val :=
  cell_block (n := 4096) (k := 1024) (α := EReal) (m ((c : Thread nD τ).loc main_arg0)) (((cfg0.win 0).blk t).view.emb (ix2 r l)) (index0 t) rfl rfl

theorem iblk1_apply (c : Dev nD) (t : Fin cfg0.N) (j : Fin 6) (l : Fin 1024) :
    (iblk m c 1 t (ix3 0 j l) : EReal) = cell3 (p := 2) (n := 6) (k := 1024) (α := EReal) (m ((c : Thread nD τ).loc main_arg1)) (t.val / 4) j.val l.val :=
  cell3_block (p := 2) (n := 6) (k := 1024) (α := EReal) (m ((c : Thread nD τ).loc main_arg1)) (((cfg0.win 1).blk t).view.emb (ix3 0 j l)) (index1 t) rfl rfl rfl

theorem iblk2_apply (c : Dev nD) (t : Fin cfg0.N) (l : Fin 1024) :
    (iblk m c 2 t (ix2 0 l) : EReal) = cell (n := 1) (k := 1024) (α := EReal) (m ((c : Thread nD τ).loc main_arg2)) 0 l.val :=
  cell_whole (n := 1) (k := 1024) (α := EReal) (m ((c : Thread nD τ).loc main_arg2)) (((cfg0.win 2).blk t).view.emb (ix2 0 l)) (index2 t) rfl rfl

theorem iblk3_apply (c : Dev nD) (t : Fin cfg0.N) (f : Fin 5632) (l : Fin 1024) :
    (iblk m c 3 t (ix2 f l) : EReal) = cell (n := 5632) (k := 1024) (α := EReal) (m ((c : Thread nD τ).loc main_arg3)) f.val l.val :=
  cell_whole (n := 5632) (k := 1024) (α := EReal) (m ((c : Thread nD τ).loc main_arg3)) (((cfg0.win 3).blk t).view.emb (ix2 f l)) (index3 t) rfl rfl

/-- The normalised rows a step computes. -/
theorem hidden_apply (c : Dev nD) (t : Fin cfg0.N) (r : Fin 512) (l : Fin 1024) :
    (k0_pay1 (iblk m c 0 t) (iblk m c 2 t) (View.ld (iblk m c 1 t) r0_2) (View.ld (iblk m c 1 t) r0_3) (ix2 r l) : EReal)
      = hidden (m ((c : Thread nD τ).loc main_arg0)) (m ((c : Thread nD τ).loc main_arg1)) (m ((c : Thread nD τ).loc main_arg2)) (512 * t.val + r.val) l.val := by
  have hb : (512 * t.val + r.val) / 2048 = t.val / 4 := by omega
  have es : (View.ld (iblk m c 1 t) r0_2 (ix3 0 0 l) : EReal) = _ :=
    (congrArg (fun j => (iblk m c 1 t j : EReal)) (show r0_2.idx (ix3 0 0 l) = ix3 0 4 l from
      funext fun a => Fin.ext (by fin_cases a <;> first | rfl | exact (by show 0 + 1 * l.val = l.val; omega)))).trans (iblk1_apply m c t 4 l)
  have eh : (View.ld (iblk m c 1 t) r0_3 (ix3 0 0 l) : EReal) = _ :=
    (congrArg (fun j => (iblk m c 1 t j : EReal)) (show r0_3.idx (ix3 0 0 l) = ix3 0 3 l from
      funext fun a => Fin.ext (by fin_cases a <;> first | rfl | exact (by show 0 + 1 * l.val = l.val; omega)))).trans (iblk1_apply m c t 3 l)
  unfold hidden
  rw [hb]
  exact pay1_apply _ _ _ _ r l _ _ _ _ (fun k => iblk0_apply m c t r k) (iblk2_apply m c t l) es eh

/-- The projections a step computes. -/
theorem project_apply (c : Dev nD) (t : Fin cfg0.N) (r : Fin 512) (f : Fin 5632) :
    (k0_pay2 (iblk m c 0 t) (iblk m c 2 t) (View.ld (iblk m c 1 t) r0_2) (View.ld (iblk m c 1 t) r0_3) (iblk m c 3 t) (ix2 r f) : EReal)
      = project (m ((c : Thread nD τ).loc main_arg0)) (m ((c : Thread nD τ).loc main_arg1)) (m ((c : Thread nD τ).loc main_arg2)) (m ((c : Thread nD τ).loc main_arg3)) (512 * t.val + r.val) f.val := by
  refine (pay2_apply _ _ _ _ _ _).trans ?_
  unfold project
  rw [← Fin.sum_univ_eq_sum_range (fun k => hidden (m ((c : Thread nD τ).loc main_arg0)) (m ((c : Thread nD τ).loc main_arg1)) (m ((c : Thread nD τ).loc main_arg2)) (512 * t.val + r.val) k * cell (n := 5632) (k := 1024) (α := EReal) (m ((c : Thread nD τ).loc main_arg3)) f.val k) 1024]
  exact Finset.sum_congr rfl fun k _ => congrArg₂ (fun a b : EReal => a * b) (hidden_apply m c t r k) (iblk3_apply m c t f k)

/-- The step that handles row `r`. -/
abbrev stepOf (r : ℕ) (h : r < 4096) : Fin cfg0.N := ⟨r / 512, by rw [show cfg0.N = 8 from N_0]; omega⟩

theorem final4 (c : Dev nD) (i : S4096x1024.Idx) :
    ((dats m 0 c).arrAt 4 cfg0.N i : EReal)
      = hidden (m ((c : Thread nD τ).loc main_arg0)) (m ((c : Thread nD τ).loc main_arg1)) (m ((c : Thread nD τ).loc main_arg2)) (i 0).val (i 1).val :=
  of_blocks (b := 512) (N := cfg0.N) (α := EReal) ((dats m 0 c).arrAt 4 cfg0.N) (hidden (m ((c : Thread nD τ).loc main_arg0)) (m ((c : Thread nD τ).loc main_arg1)) (m ((c : Thread nD τ).loc main_arg2))) (fun t => ((cfg0.win 4).blk t).view.emb) (by rw [show cfg0.N = 8 from N_0]) index4 (fun _ _ _ => rfl) (fun _ _ _ => rfl) (fun t r l => by
    have h := congrFun (blocks4 m c t ((by decide +kernel : ∀ t : Fin grid0.N, (cfg0.win 4).flush t = true) t)) (ix2 r l)
    rw [flushed4, out4] at h
    exact h.trans ((hidden_apply m c t r l))) i

theorem final5 (c : Dev nD) (i : S4096x2816.Idx) :
    ((dats m 0 c).arrAt 5 cfg0.N i : EReal)
      = project (m ((c : Thread nD τ).loc main_arg0)) (m ((c : Thread nD τ).loc main_arg1)) (m ((c : Thread nD τ).loc main_arg2)) (m ((c : Thread nD τ).loc main_arg3)) (i 0).val (i 1).val :=
  of_blocks (b := 512) (N := cfg0.N) (α := EReal) ((dats m 0 c).arrAt 5 cfg0.N) (project (m ((c : Thread nD τ).loc main_arg0)) (m ((c : Thread nD τ).loc main_arg1)) (m ((c : Thread nD τ).loc main_arg2)) (m ((c : Thread nD τ).loc main_arg3))) (fun t => ((cfg0.win 5).blk t).view.emb) (by rw [show cfg0.N = 8 from N_0]) index5 (fun _ _ _ => rfl) (fun _ _ _ => rfl) (fun t r l => by
    have h := congrFun (blocks5 m c t ((by decide +kernel : ∀ t : Fin grid0.N, (cfg0.win 5).flush t = true) t)) (ix2 r l)
    rw [flushed5, out5] at h
    exact h.trans ((pay3_apply _ _ _ _ _ r l).trans (project_apply m c t r ⟨l.val, by omega⟩))) i

theorem final6 (c : Dev nD) (i : S4096x2816.Idx) :
    ((dats m 0 c).arrAt 6 cfg0.N i : EReal)
      = project (m ((c : Thread nD τ).loc main_arg0)) (m ((c : Thread nD τ).loc main_arg1)) (m ((c : Thread nD τ).loc main_arg2)) (m ((c : Thread nD τ).loc main_arg3)) (i 0).val (2816 + (i 1).val) :=
  of_blocks (b := 512) (N := cfg0.N) (α := EReal) ((dats m 0 c).arrAt 6 cfg0.N) (fun r l => project (m ((c : Thread nD τ).loc main_arg0)) (m ((c : Thread nD τ).loc main_arg1)) (m ((c : Thread nD τ).loc main_arg2)) (m ((c : Thread nD τ).loc main_arg3)) r (2816 + l)) (fun t => ((cfg0.win 6).blk t).view.emb) (by rw [show cfg0.N = 8 from N_0]) index6 (fun _ _ _ => rfl) (fun _ _ _ => rfl) (fun t r l => by
    have h := congrFun (blocks6 m c t ((by decide +kernel : ∀ t : Fin grid0.N, (cfg0.win 6).flush t = true) t)) (ix2 r l)
    rw [flushed6, out6] at h
    exact h.trans ((pay4_apply _ _ _ _ _ r l).trans (project_apply m c t r ⟨2816 + l.val, by omega⟩))) i

/-! ## The reference's results -/

section
open Cert.Reference6Ideal.Read
variable (x0 : (⟨S4096x1024, .f32⟩ : BufTy).Contents (Elt Ideal)) (x1 : (⟨S2x6x1024, .f32⟩ : BufTy).Contents (Elt Ideal))
  (x2 : (⟨S1x1024, .f32⟩ : BufTy).Contents (Elt Ideal)) (x3 : (⟨S5632x1024, .bf16⟩ : BufTy).Contents (Elt Ideal))

theorem reference_x (i : Cert.Reference6Ideal.S2x2048x1024.Idx) :
    (val_main_v0 (F := Ideal) x0 i : EReal) = cell (n := 4096) (k := 1024) (α := EReal) x0 (2048 * (i 0).val + (i 1).val) (i 2).val := by
  have h0 : (i 0).val < 2 := (i 0).isLt
  have h1 : (i 1).val < 2048 := (i 1).isLt
  have h2 : (i 2).val < 1024 := (i 2).isLt
  refine (val_main_v0_apply x0 i).trans (cell_eq (n := 4096) (k := 1024) (α := EReal) x0 _ ?_ ?_)
  · show (((i 0).val * 2048 + (i 1).val) * 1024 + (i 2).val) / 1024 = _; omega
  · show (((i 0).val * 2048 + (i 1).val) * 1024 + (i 2).val) % 1024 = _; omega

theorem reference_hidden (i : Cert.Reference6Ideal.S2x2048x1024.Idx) :
    (val_main_v22 (F := Ideal) x0 x1 x2 i : EReal) = hidden x0 x1 x2 (2048 * (i 0).val + (i 1).val) (i 2).val := by
  have h0 : (i 0).val < 2 := (i 0).isLt
  have h1 : (i 1).val < 2048 := (i 1).isLt
  rw [val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v3_apply, val_main_v2_apply, val_main_v1_apply]
  simp only [val_main_v4_apply, reference_x]
  unfold hidden Norm.inv Norm.eps
  have hb : (2048 * (i 0).val + (i 1).val) / 2048 = (i 0).val := by omega
  rw [hb, ← Fin.sum_univ_eq_sum_range (fun k => cell (n := 4096) (k := 1024) (α := EReal) x0 (2048 * (i 0).val + (i 1).val) k * cell (n := 4096) (k := 1024) (α := EReal) x0 (2048 * (i 0).val + (i 1).val) k) 1024]
  have eg : (x2 (idx_main_v3 (idx_main_v14 (idx_main_v15 i))) : EReal) = _ := cell_eq (n := 1) (k := 1024) (α := EReal) x2 _ (r := 0) (l := (i 2).val) rfl (Nat.mod_eq_of_lt (i 2).isLt)
  have es : (x1 (idx_main_v2 (idx_main_v19 i)) : EReal) = _ := cell3_eq (p := 2) (n := 6) (k := 1024) (α := EReal) x1 _ (b := (i 0).val) (r := 4) (l := (i 2).val) rfl rfl rfl
  have eh : (x1 (idx_main_v1 (idx_main_v21 i)) : EReal) = _ := cell3_eq (p := 2) (n := 6) (k := 1024) (α := EReal) x1 _ (b := (i 0).val) (r := 3) (l := (i 2).val) rfl rfl rfl
  rw [eg, es, eh]
  have z : (val_main_cst (F := Ideal) (Shape.Idx.first Cert.Reference6Ideal.Gen.h_S_) : EReal) = 0 := Ideal.ofBits_zero .f32
  rw [z, zero_add]
  rfl

theorem reference_project (i : Cert.Reference6Ideal.S2x2048x5632.Idx) :
    (val_main_v25 (F := Ideal) x0 x1 x2 x3 i : EReal) = project x0 x1 x2 x3 (2048 * (i 0).val + (i 1).val) (i 2).val := by
  rw [val_main_v25_apply]
  unfold project
  rw [← Fin.sum_univ_eq_sum_range (fun k => hidden x0 x1 x2 (2048 * (i 0).val + (i 1).val) k * cell (n := 5632) (k := 1024) (α := EReal) x3 (i 2).val k) 1024]
  refine Finset.sum_congr rfl fun k _ => congrArg₂ (fun a b : EReal => a * b) (reference_hidden x0 x1 x2 _) ?_
  rw [val_main_v24_apply, val_main_v23_apply]
  exact cell_eq (n := 5632) (k := 1024) (α := EReal) x3 _ rfl rfl

theorem reference0 (i : S4096x1024.Idx) : (val_main_v29 (F := Ideal) x0 x1 x2 i : EReal) = hidden x0 x1 x2 (i 0).val (i 1).val := by
  have h0 : (i 0).val < 4096 := (i 0).isLt
  have h1 : (i 1).val < 1024 := (i 1).isLt
  refine (val_main_v28_apply x0 x1 x2 i).trans ((reference_hidden x0 x1 x2 _).trans ?_)
  refine congrArg₂ (hidden x0 x1 x2) ?_ ?_
  · show 2048 * (((i 0).val * 1024 + (i 1).val) / 2097152) + ((i 0).val * 1024 + (i 1).val) / 1024 % 2048 = (i 0).val; omega
  · show ((i 0).val * 1024 + (i 1).val) % 1024 = (i 1).val; omega

theorem reference1 (i : S4096x2816.Idx) : (val_main_v31 (F := Ideal) x0 x1 x2 x3 i : EReal) = project x0 x1 x2 x3 (i 0).val (i 1).val := by
  have h0 : (i 0).val < 4096 := (i 0).isLt
  have h1 : (i 1).val < 2816 := (i 1).isLt
  refine (val_main_v30_apply x0 x1 x2 x3 i).trans ((val_main_v26_apply x0 x1 x2 x3 _).trans ((reference_project x0 x1 x2 x3 _).trans ?_))
  refine congrArg₂ (project x0 x1 x2 x3) ?_ ?_
  · show 2048 * (((i 0).val * 2816 + (i 1).val) / 5767168) + ((i 0).val * 2816 + (i 1).val) / 2816 % 2048 = (i 0).val; omega
  · show ((i 0).val * 2816 + (i 1).val) % 2816 = (i 1).val; omega

theorem reference2 (i : S4096x2816.Idx) : (val_main_v33 (F := Ideal) x0 x1 x2 x3 i : EReal) = project x0 x1 x2 x3 (i 0).val (2816 + (i 1).val) := by
  have h0 : (i 0).val < 4096 := (i 0).isLt
  have h1 : (i 1).val < 2816 := (i 1).isLt
  refine (val_main_v32_apply x0 x1 x2 x3 i).trans ((val_main_v27_apply x0 x1 x2 x3 _).trans ((reference_project x0 x1 x2 x3 _).trans ?_))
  refine congrArg₂ (project x0 x1 x2 x3) ?_ ?_
  · show 2048 * (((i 0).val * 2816 + (i 1).val) / 5767168) + ((i 0).val * 2816 + (i 1).val) / 2816 % 2048 = (i 0).val; omega
  · show 2816 + ((i 0).val * 2816 + (i 1).val) % 2816 = 2816 + (i 1).val; omega

end

end Cert.Kernel6Ideal.Value

namespace Cert.Claims

open Idealize.ShloMosaic Idealize.ShloMosaic.TcCoe Idealize.SL.Sem

theorem frame_p6 : Cert.quiescent_Kernel6 := fun m ρ _ => Cert.Kernel6.Gen.frame m ρ

theorem frame_pi6 : Cert.quiescent_Kernel6Ideal := fun m ρ _ => Cert.Kernel6Ideal.Gen.frame m ρ

theorem frame_ri6 : Cert.quiescent_Reference6Ideal := fun m ρ _ =>
  (θ_run Cert.Reference6Ideal.defs _ _).mono (fun r h => ⟨fun c => (h c).2.2.2, Idealize.ShloMosaic.sem_eq_zero_of_no_sems (by decide) r.2⟩)
    (Cert.Reference6Ideal.Value.run (F := Ideal) m ρ)

theorem preserves6 : Cert.preserves_Kernel6_Kernel6Ideal := trivial

/-- The kernel's three results are the reference's. -/
theorem algebraic6 : Cert.algebraic_Kernel6Ideal_Reference6Ideal := by
  intro m ρ m' ρ' _ hag
  refine ⟨fun c => (Cert.Kernel6Ideal.Gen.dats m 0 c).arrAt 4 Cert.Kernel6Ideal.cfg0.N, fun c => (Cert.Kernel6Ideal.Gen.dats m 0 c).arrAt 5 Cert.Kernel6Ideal.cfg0.N,
    fun c => (Cert.Kernel6Ideal.Gen.dats m 0 c).arrAt 6 Cert.Kernel6Ideal.cfg0.N, Cert.Kernel6Ideal.Value.run_blocks m ρ, ?_⟩
  refine (θ_run Cert.Reference6Ideal.defs _ _).mono (fun r hr c => ?_) (Cert.Reference6Ideal.Value.run (F := Ideal) m' ρ')
  obtain ⟨g0, g1, g2, g3⟩ := hag c
  obtain ⟨r0, r1, r2, rest⟩ := hr c
  refine ⟨r0.trans ((Cert.Reference6Ideal.Read.val_main_v29_eq _ _ _).trans ?_), r1.trans ((Cert.Reference6Ideal.Read.val_main_v31_eq _ _ _ _).trans ?_),
    r2.trans ((Cert.Reference6Ideal.Read.val_main_v33_eq _ _ _ _).trans ?_), rest⟩
  · rw [g0, g1, g2]
    funext i
    exact (Cert.Kernel6Ideal.Value.reference0 _ _ _ i).trans (Cert.Kernel6Ideal.Value.final4 m c i).symm
  · rw [g0, g1, g2, g3]
    funext i
    exact (Cert.Kernel6Ideal.Value.reference1 _ _ _ _ i).trans (Cert.Kernel6Ideal.Value.final5 m c i).symm
  · rw [g0, g1, g2, g3]
    funext i
    exact (Cert.Kernel6Ideal.Value.reference2 _ _ _ _ i).trans (Cert.Kernel6Ideal.Value.final6 m c i).symm

end Cert.Claims

end

end
-- ==== Proof.Rows.lean ====
/-
  A buffer of rows, one of which is stored: that row reads what was stored, the others what they held.
-/
module

public import proofs.«01_k».proof.Proof.At
public import Idealize.ShloMosaic.Lib.Tactic
public import Idealize.ShloMosaic.Lib.WritesUnit

@[expose] public section

noncomputable section

namespace Cert.Rows

open Idealize.ShloMosaic

variable {sig : RefSig} {κ : Kind} {sp : Space} {e : EltTy} {Val : EltTy → Type} {n k : ℕ}

/-- A load of row `o` reads that row. -/
theorem ld_row (X : (⟨2, ![n, k]⟩ : Shape).Idx → Val e) (o : ℕ) (inb : ∀ a : Fin 2, ![o, 0] a + ![1, k] a ≤ (⟨2, ![n, k]⟩ : Shape).size a) (ho : o < n) (l : Fin k) :
    View.ld (e' := e) X (Rect.unit (s := ⟨2, ![n, k]⟩) ![o, 0] ![1, k] inb) (ix2 (0 : Fin 1) l) = X (ix2 ⟨o, ho⟩ l) :=
  congrArg X (funext fun a => Fin.ext (by
    fin_cases a
    · show o + 1 * 0 = o; omega
    · show 0 + 1 * l.val = l.val; omega))

/-- The stored row. -/
theorem row_stored (v : View sig κ sp (⟨2, ![n, k]⟩ : Shape) e) (f : v.ty.Contents Val) (o : ℕ) (inb : ∀ a : Fin 2, ![o, 0] a + ![1, k] a ≤ (⟨2, ![n, k]⟩ : Shape).size a)
    (w : (Rect.unit (s := ⟨2, ![n, k]⟩) ![o, 0] ![1, k] inb).shape.Idx → Val e) (L : List (View.Piece Val (⟨2, ![n, k]⟩ : Shape) e))
    (y : (⟨2, ![n, k]⟩ : Shape).Idx) (h : (y 0).val = o) :
    v.read Val (v.writes Val f ((⟨Rect.unit (s := ⟨2, ![n, k]⟩) ![o, 0] ![1, k] inb, w⟩ : View.Piece Val (⟨2, ![n, k]⟩ : Shape) e) :: L)) y
      = w (ix2 (0 : Fin 1) (y 1)) :=
  View.read_writes_cons_rows_of_mem v f inb w L y (ix2 (0 : Fin 1) (y 1)) rfl (by rw [h]; rfl) rfl

/-- The other rows. -/
theorem row_kept (v : View sig κ sp (⟨2, ![n, k]⟩ : Shape) e) (f : v.ty.Contents Val) (o : ℕ) (inb : ∀ a : Fin 2, ![o, 0] a + ![1, k] a ≤ (⟨2, ![n, k]⟩ : Shape).size a)
    (w : (Rect.unit (s := ⟨2, ![n, k]⟩) ![o, 0] ![1, k] inb).shape.Idx → Val e) (L : List (View.Piece Val (⟨2, ![n, k]⟩ : Shape) e))
    (y : (⟨2, ![n, k]⟩ : Shape).Idx) (h : (y 0).val ≠ o) :
    v.read Val (v.writes Val f ((⟨Rect.unit (s := ⟨2, ![n, k]⟩) ![o, 0] ![1, k] inb, w⟩ : View.Piece Val (⟨2, ![n, k]⟩ : Shape) e) :: L)) y
      = v.read Val (v.writes Val f L) y :=
  View.read_writes_cons_rows_of_not_mem (o := o) (W := 1) v f inb w L y rfl rfl (by omega)

/-- The whole buffer stored. -/
theorem all_stored (v : View sig κ sp (⟨2, ![n, k]⟩ : Shape) e) (f : v.ty.Contents Val) (inb : ∀ a : Fin 2, ![0, 0] a + ![n, k] a ≤ (⟨2, ![n, k]⟩ : Shape).size a)
    (w : (Rect.unit (s := ⟨2, ![n, k]⟩) ![0, 0] ![n, k] inb).shape.Idx → Val e) (L : List (View.Piece Val (⟨2, ![n, k]⟩ : Shape) e))
    (y : (⟨2, ![n, k]⟩ : Shape).Idx) :
    v.read Val (v.writes Val f ((⟨Rect.unit (s := ⟨2, ![n, k]⟩) ![0, 0] ![n, k] inb, w⟩ : View.Piece Val (⟨2, ![n, k]⟩ : Shape) e) :: L)) y = w y :=
  View.read_writes_cons_rows_of_mem v f inb w L y y rfl (Nat.zero_add _).symm rfl

/-- A row read back past the store of another one. -/
theorem cov_kept [∀ e, Nonempty (Val e)] (v : View sig κ sp (⟨2, ![n, k]⟩ : Shape) e) (o o' : ℕ) (inb : ∀ a : Fin 2, ![o, 0] a + ![1, k] a ≤ (⟨2, ![n, k]⟩ : Shape).size a)
    (inb' : ∀ a : Fin 2, ![o', 0] a + ![1, k] a ≤ (⟨2, ![n, k]⟩ : Shape).size a)
    (w : (Rect.unit (s := ⟨2, ![n, k]⟩) ![o, 0] ![1, k] inb).shape.Idx → Val e) (L : List (View.Piece Val (⟨2, ![n, k]⟩ : Shape) e)) (l : Fin k) (h : o' ≠ o) :
    v.readCov ((⟨Rect.unit (s := ⟨2, ![n, k]⟩) ![o, 0] ![1, k] inb, w⟩ : View.Piece Val (⟨2, ![n, k]⟩ : Shape) e) :: L) (Rect.unit (s := ⟨2, ![n, k]⟩) ![o', 0] ![1, k] inb').toLoadRect (ix2 (0 : Fin 1) l)
      = v.readCov L (Rect.unit (s := ⟨2, ![n, k]⟩) ![o', 0] ![1, k] inb').toLoadRect (ix2 (0 : Fin 1) l) :=
  row_kept v _ o inb w L _ (by show o' + 1 * 0 ≠ o; omega)

/-- A row read back from the store of the whole buffer. -/
theorem cov_all [∀ e, Nonempty (Val e)] (v : View sig κ sp (⟨2, ![n, k]⟩ : Shape) e) (o' : ℕ) (inb : ∀ a : Fin 2, ![0, 0] a + ![n, k] a ≤ (⟨2, ![n, k]⟩ : Shape).size a)
    (inb' : ∀ a : Fin 2, ![o', 0] a + ![1, k] a ≤ (⟨2, ![n, k]⟩ : Shape).size a)
    (w : (Rect.unit (s := ⟨2, ![n, k]⟩) ![0, 0] ![n, k] inb).shape.Idx → Val e) (l : Fin k) :
    v.readCov [(⟨Rect.unit (s := ⟨2, ![n, k]⟩) ![0, 0] ![n, k] inb, w⟩ : View.Piece Val (⟨2, ![n, k]⟩ : Shape) e)] (Rect.unit (s := ⟨2, ![n, k]⟩) ![o', 0] ![1, k] inb').toLoadRect (ix2 (0 : Fin 1) l)
      = w ((Rect.unit (s := ⟨2, ![n, k]⟩) ![o', 0] ![1, k] inb').toLoadRect.idx (ix2 (0 : Fin 1) l)) :=
  all_stored v _ inb w [] _

/-! ## One row among the rows of a batch's buffer -/

theorem ld_row3 {p : ℕ} (X : (⟨3, ![p, n, k]⟩ : Shape).Idx → Val e) (o : ℕ) (inb : ∀ a : Fin 3, ![0, o, 0] a + ![1, 1, k] a ≤ (⟨3, ![p, n, k]⟩ : Shape).size a) (hp : 0 < p) (ho : o < n) (l : Fin k) :
    View.ld (e' := e) X (Rect.unit (s := ⟨3, ![p, n, k]⟩) ![0, o, 0] ![1, 1, k] inb) (ix3 (0 : Fin 1) (0 : Fin 1) l) = X (ix3 ⟨0, hp⟩ ⟨o, ho⟩ l) :=
  congrArg X (funext fun a => Fin.ext (by
    fin_cases a
    · show 0 + 1 * 0 = 0; rfl
    · show o + 1 * 0 = o; omega
    · show 0 + 1 * l.val = l.val; omega))

theorem row_stored3 (v : View sig κ sp (⟨3, ![1, n, k]⟩ : Shape) e) (f : v.ty.Contents Val) (o : ℕ) (inb : ∀ a : Fin 3, ![0, o, 0] a + ![1, 1, k] a ≤ (⟨3, ![1, n, k]⟩ : Shape).size a)
    (w : (Rect.unit (s := ⟨3, ![1, n, k]⟩) ![0, o, 0] ![1, 1, k] inb).shape.Idx → Val e) (L : List (View.Piece Val (⟨3, ![1, n, k]⟩ : Shape) e))
    (y : (⟨3, ![1, n, k]⟩ : Shape).Idx) (h : (y 1).val = o) :
    v.read Val (v.writes Val f ((⟨Rect.unit (s := ⟨3, ![1, n, k]⟩) ![0, o, 0] ![1, 1, k] inb, w⟩ : View.Piece Val (⟨3, ![1, n, k]⟩ : Shape) e) :: L)) y
      = w (ix3 (0 : Fin 1) (0 : Fin 1) (y 2)) :=
  View.read_writes_cons_unit_of_mem v f inb w L y (ix3 (0 : Fin 1) (0 : Fin 1) (y 2)) rfl (fun a => by
    fin_cases a
    · show (y 0).val = 0 + 0; have : (y 0).val < 1 := (y 0).isLt; omega
    · show (y 1).val = o + 0; omega
    · show (y 2).val = 0 + (y 2).val; omega)

theorem row_kept3 (v : View sig κ sp (⟨3, ![1, n, k]⟩ : Shape) e) (f : v.ty.Contents Val) (o : ℕ) (inb : ∀ a : Fin 3, ![0, o, 0] a + ![1, 1, k] a ≤ (⟨3, ![1, n, k]⟩ : Shape).size a)
    (w : (Rect.unit (s := ⟨3, ![1, n, k]⟩) ![0, o, 0] ![1, 1, k] inb).shape.Idx → Val e) (L : List (View.Piece Val (⟨3, ![1, n, k]⟩ : Shape) e))
    (y : (⟨3, ![1, n, k]⟩ : Shape).Idx) (h : (y 1).val ≠ o) :
    v.read Val (v.writes Val f ((⟨Rect.unit (s := ⟨3, ![1, n, k]⟩) ![0, o, 0] ![1, 1, k] inb, w⟩ : View.Piece Val (⟨3, ![1, n, k]⟩ : Shape) e) :: L)) y
      = v.read Val (v.writes Val f L) y :=
  View.read_writes_cons_unit_of_not_mem v f inb w L y rfl 1 (by
    show (y 1).val < o ∨ o + 1 ≤ (y 1).val
    omega)

theorem all_stored3 (v : View sig κ sp (⟨3, ![1, n, k]⟩ : Shape) e) (f : v.ty.Contents Val) (inb : ∀ a : Fin 3, ![0, 0, 0] a + ![1, n, k] a ≤ (⟨3, ![1, n, k]⟩ : Shape).size a)
    (w : (Rect.unit (s := ⟨3, ![1, n, k]⟩) ![0, 0, 0] ![1, n, k] inb).shape.Idx → Val e) (L : List (View.Piece Val (⟨3, ![1, n, k]⟩ : Shape) e))
    (y : (⟨3, ![1, n, k]⟩ : Shape).Idx) :
    v.read Val (v.writes Val f ((⟨Rect.unit (s := ⟨3, ![1, n, k]⟩) ![0, 0, 0] ![1, n, k] inb, w⟩ : View.Piece Val (⟨3, ![1, n, k]⟩ : Shape) e) :: L)) y = w y :=
  View.read_writes_cons_unit_of_mem v f inb w L y y rfl (fun a => by
    fin_cases a
    · show (y 0).val = 0 + (y 0).val; omega
    · show (y 1).val = 0 + (y 1).val; omega
    · show (y 2).val = 0 + (y 2).val; omega)

theorem cov_kept3 [∀ e, Nonempty (Val e)] (v : View sig κ sp (⟨3, ![1, n, k]⟩ : Shape) e) (o o' : ℕ) (inb : ∀ a : Fin 3, ![0, o, 0] a + ![1, 1, k] a ≤ (⟨3, ![1, n, k]⟩ : Shape).size a)
    (inb' : ∀ a : Fin 3, ![0, o', 0] a + ![1, 1, k] a ≤ (⟨3, ![1, n, k]⟩ : Shape).size a)
    (w : (Rect.unit (s := ⟨3, ![1, n, k]⟩) ![0, o, 0] ![1, 1, k] inb).shape.Idx → Val e) (L : List (View.Piece Val (⟨3, ![1, n, k]⟩ : Shape) e)) (l : Fin k) (h : o' ≠ o) :
    v.readCov ((⟨Rect.unit (s := ⟨3, ![1, n, k]⟩) ![0, o, 0] ![1, 1, k] inb, w⟩ : View.Piece Val (⟨3, ![1, n, k]⟩ : Shape) e) :: L) (Rect.unit (s := ⟨3, ![1, n, k]⟩) ![0, o', 0] ![1, 1, k] inb').toLoadRect (ix3 (0 : Fin 1) (0 : Fin 1) l)
      = v.readCov L (Rect.unit (s := ⟨3, ![1, n, k]⟩) ![0, o', 0] ![1, 1, k] inb').toLoadRect (ix3 (0 : Fin 1) (0 : Fin 1) l) :=
  row_kept3 v _ o inb w L _ (by show o' + 1 * 0 ≠ o; omega)

theorem cov_all3 [∀ e, Nonempty (Val e)] (v : View sig κ sp (⟨3, ![1, n, k]⟩ : Shape) e) (o' : ℕ) (inb : ∀ a : Fin 3, ![0, 0, 0] a + ![1, n, k] a ≤ (⟨3, ![1, n, k]⟩ : Shape).size a)
    (inb' : ∀ a : Fin 3, ![0, o', 0] a + ![1, 1, k] a ≤ (⟨3, ![1, n, k]⟩ : Shape).size a)
    (w : (Rect.unit (s := ⟨3, ![1, n, k]⟩) ![0, 0, 0] ![1, n, k] inb).shape.Idx → Val e) (l : Fin k) :
    v.readCov [(⟨Rect.unit (s := ⟨3, ![1, n, k]⟩) ![0, 0, 0] ![1, n, k] inb, w⟩ : View.Piece Val (⟨3, ![1, n, k]⟩ : Shape) e)] (Rect.unit (s := ⟨3, ![1, n, k]⟩) ![0, o', 0] ![1, 1, k] inb').toLoadRect (ix3 (0 : Fin 1) (0 : Fin 1) l)
      = w ((Rect.unit (s := ⟨3, ![1, n, k]⟩) ![0, o', 0] ![1, 1, k] inb').toLoadRect.idx (ix3 (0 : Fin 1) (0 : Fin 1) l)) :=
  all_stored3 v _ inb w [] _

end Cert.Rows

end

end
-- ==== Proof.IsReal.lean ====
/-
  The extended reals that are real numbers are closed under the arithmetic the programs do on them.
-/
module

public import proofs.«01_k».proof.Proof.Reals
public import proofs.«01_k».proof.Proof.Norm
public import proofs.«01_k».proof.Proof.Cell

@[expose] public section

noncomputable section

namespace Cert

open Idealize.ShloMosaic

/-- The extended real is a real number. -/
def IsReal (x : EReal) : Prop := ∃ r : ℝ, x = (r : EReal)

namespace IsReal

variable {x y : EReal}

theorem of_toReal (h : ((x.toReal : ℝ) : EReal) = x) : IsReal x := ⟨_, h.symm⟩

theorem zero : IsReal 0 := ⟨0, rfl⟩

theorem one : IsReal 1 := ⟨1, rfl⟩

theorem add (hx : IsReal x) (hy : IsReal y) : IsReal (x + y) := by
  obtain ⟨a, rfl⟩ := hx; obtain ⟨b, rfl⟩ := hy; exact ⟨a + b, (EReal.coe_add a b).symm⟩

theorem sub (hx : IsReal x) (hy : IsReal y) : IsReal (x - y) := by
  obtain ⟨a, rfl⟩ := hx; obtain ⟨b, rfl⟩ := hy; exact ⟨a - b, (EReal.coe_sub a b).symm⟩

theorem mul (hx : IsReal x) (hy : IsReal y) : IsReal (x * y) := by
  obtain ⟨a, rfl⟩ := hx; obtain ⟨b, rfl⟩ := hy; exact ⟨a * b, (EReal.coe_mul a b).symm⟩

theorem neg (hx : IsReal x) : IsReal (-x) := by
  obtain ⟨a, rfl⟩ := hx; exact ⟨-a, (EReal.coe_neg a).symm⟩

theorem sum {ι : Type} (s : Finset ι) (f : ι → EReal) (h : ∀ i ∈ s, IsReal (f i)) : IsReal (∑ i ∈ s, f i) := by
  classical
  induction s using Finset.induction_on with
  | empty => exact zero
  | insert a s ha ih =>
    rw [Finset.sum_insert ha]
    exact (h a (Finset.mem_insert_self a s)).add (ih fun i hi => h i (Finset.mem_insert_of_mem hi))

/-- Every entry of a matrix of real numbers is a real number, and so is the zero outside it. -/
theorem cell {n k : ℕ} {x : (⟨2, ![n, k]⟩ : Shape).Idx → EReal} (h : ∀ i, IsReal (x i)) (r l : ℕ) : IsReal (Cell.cell x r l) := by
  unfold Cell.cell
  split
  · exact h _
  · exact zero

theorem cell3 {p n k : ℕ} {x : (⟨3, ![p, n, k]⟩ : Shape).Idx → EReal} (h : ∀ i, IsReal (x i)) (b r l : ℕ) : IsReal (Cell.cell3 x b r l) := by
  unfold Cell.cell3
  split
  · exact h _
  · exact zero

end IsReal

end Cert

end

end
-- ==== Proof.DownBack.lean ====
/-
  The backward pass of the down-projection: the gradients of the two halves of the gated product and of the
  convolution's bias, the kernel's eight steps over the tokens against the reference's gradient of all of them.
-/
module

public import proofs.«01_k».proof.Defs
public import proofs.«01_k».proof.Proof.Cell
public import proofs.«01_k».proof.Proof.Rows
public import proofs.«01_k».proof.Proof.Finite
public import proofs.«01_k».proof.Proof.IsReal
public import proofs.«01_k».proof.Proof.Gen.Pre_finite7
public import proofs.«01_k».proof.Proof.Gen.Kernel7.Frame
public import proofs.«01_k».proof.Proof.Gen.Kernel7Ideal.Value
public import proofs.«01_k».proof.Proof.Gen.Reference7Ideal.Read
public import Idealize.ShloMosaic.Lib.Quiescent
public import Idealize.ShloMosaic.Lib.Pointwise
public import Idealize.ShloMosaic.Lib.Tactic

@[expose] public section

set_option maxRecDepth 16384

noncomputable section

namespace Cert.Kernel7Ideal.Value

open Cert.Kernel7Ideal Cert.Kernel7Ideal.Gen Cert.Cell Cert.Rows
open Idealize.ShloMosaic Idealize.ShloMosaic.TcCoe Idealize.SL.Sem

theorem hz : (![0, 0] : Fin 2 → Nat) = fun _ => 0 := funext fun a => by fin_cases a <;> rfl

/-! ## One step -/

section
variable {F : FTy → Type} [FloatOps F]

theorem dval_A (c : Dev nD) (i : grid0.Coords) (a1 h1 a2 h2 a3 h3 a4 h4 a5 h5 a6 h6 a7 h7) (hc : cond0_0 i) (x0 : Vec F S512x1024 .bf16) (x1 : Vec F S2816x1024 .bf16) (x2 x3 : Vec F S512x2816 .bf16) :
    out0_A_4 c i a1 h1 a2 h2 a3 h3 a4 h4 a5 h5 a6 h6 a7 h7 hc x0 x1 x2 x3 = k0_pay2 x0 x1 x2 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero (S := S512x2816) hz]
  simp only [View.readAt_eq_ld, Memref.IsWhole.read_unread, View.ld_unit_zero (S := S512x1024) hz, View.ld_unit_zero (S := S2816x1024) hz, View.ld_unit_zero (S := S512x2816) hz]

theorem dval_B (c : Dev nD) (i : grid0.Coords) (a1 h1 a2 h2 a3 h3 a4 h4 a5 h5 a6 h6 a7 h7) (hc : ¬cond0_0 i) (x0 : Vec F S512x1024 .bf16) (x1 : Vec F S2816x1024 .bf16) (x2 x3 : Vec F S512x2816 .bf16) (xo : Vec F S8x2816 .f32) :
    out0_B_4 c i a1 h1 a2 h2 a3 h3 a4 h4 a5 h5 a6 h6 a7 h7 hc x0 x1 x2 x3 xo = k0_pay2 x0 x1 x2 := by
  unfold out0_B_4
  rw [View.read_writes_eq_canon _ _ _ (cover0_B_4 c i a1 h1 a2 h2 a3 h3 a4 h4 a5 h5 a6 h6 a7 h7 hc x0 x1 x2 x3 xo)]
  unfold kernelRun0_B
  dsimp only
  sl_unfold_words
  rw [View.canon_unit_zero (S := S512x2816) hz]
  simp only [View.readAt_eq_ld, Memref.IsWhole.read_unread, View.ld_unit_zero (S := S512x1024) hz, View.ld_unit_zero (S := S2816x1024) hz, View.ld_unit_zero (S := S512x2816) hz]

theorem dgc_A (c : Dev nD) (i : grid0.Coords) (a1 h1 a2 h2 a3 h3 a4 h4 a5 h5 a6 h6 a7 h7) (hc : cond0_0 i) (x0 : Vec F S512x1024 .bf16) (x1 : Vec F S2816x1024 .bf16) (x2 x3 : Vec F S512x2816 .bf16) :
    out0_A_5 c i a1 h1 a2 h2 a3 h3 a4 h4 a5 h5 a6 h6 a7 h7 hc x0 x1 x2 x3 = k0_pay4 x0 x1 x3 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_unit_zero (S := S512x2816) hz]
  simp only [View.readAt_eq_ld, Memref.IsWhole.read_unread, View.ld_unit_zero (S := S512x1024) hz, View.ld_unit_zero (S := S2816x1024) hz, View.ld_unit_zero (S := S512x2816) hz]

theorem dgc_B (c : Dev nD) (i : grid0.Coords) (a1 h1 a2 h2 a3 h3 a4 h4 a5 h5 a6 h6 a7 h7) (hc : ¬cond0_0 i) (x0 : Vec F S512x1024 .bf16) (x1 : Vec F S2816x1024 .bf16) (x2 x3 : Vec F S512x2816 .bf16) (xo : Vec F S8x2816 .f32) :
    out0_B_5 c i a1 h1 a2 h2 a3 h3 a4 h4 a5 h5 a6 h6 a7 h7 hc x0 x1 x2 x3 xo = k0_pay4 x0 x1 x3 := by
  unfold out0_B_5
  rw [View.read_writes_eq_canon _ _ _ (cover0_B_5 c i a1 h1 a2 h2 a3 h3 a4 h4 a5 h5 a6 h6 a7 h7 hc x0 x1 x2 x3 xo)]
  unfold kernelRun0_B
  dsimp only
  sl_unfold_words
  rw [View.canon_unit_zero (S := S512x2816) hz]
  simp only [View.readAt_eq_ld, Memref.IsWhole.read_unread, View.ld_unit_zero (S := S512x1024) hz, View.ld_unit_zero (S := S2816x1024) hz, View.ld_unit_zero (S := S512x2816) hz]

end

theorem pay5_apply (y : S8x2816.Idx) : (k0_pay5 (F := Ideal) y : EReal) = 0 := by
  unfold k0_pay5
  pointwise []

theorem pay6_apply (x0 : Vec Ideal S512x1024 .bf16) (x1 : Vec Ideal S2816x1024 .bf16) (x3 : Vec Ideal S512x2816 .bf16) (v : Vec Ideal S1x2816 .f32) (l : Fin 2816) :
    (k0_pay6 x0 x1 x3 v (ix2 0 l) : EReal) = (v (ix2 0 l) : EReal) + ∑ r : Fin 512, (k0_pay3 x0 x1 x3 (ix2 r l) : EReal) := by
  unfold k0_pay6
  pointwise []

/-- The first step clears the sums and puts the step's own in row 0. -/
theorem stat_A (c : Dev nD) (i : grid0.Coords) (a1 h1 a2 h2 a3 h3 a4 h4 a5 h5 a6 h6 a7 h7) (hc : cond0_0 i) (x0 : Vec Ideal S512x1024 .bf16) (x1 : Vec Ideal S2816x1024 .bf16) (x2 x3 : Vec Ideal S512x2816 .bf16) (j : Fin 8) (l : Fin 2816) :
    (out0_A_6 c i a1 h1 a2 h2 a3 h3 a4 h4 a5 h5 a6 h6 a7 h7 hc x0 x1 x2 x3 (ix2 j l) : EReal)
      = if j.val = 0 then ∑ r : Fin 512, (k0_pay3 x0 x1 x3 (ix2 r l) : EReal) else 0 := by
  unfold out0_A_6
  unfold kernelRun0_A
  dsimp only
  sl_unfold_words
  simp only [View.readAt_eq_ld, Memref.IsWhole.read_unread, View.ld_unit_zero (S := S512x1024) hz, View.ld_unit_zero (S := S2816x1024) hz, View.ld_unit_zero (S := S512x2816) hz]
  by_cases h : j.val = 0
  · rw [if_pos h]
    refine (row_stored _ _ _ _ _ _ _ h).trans ((pay6_apply _ _ _ _ l).trans ?_)
    exact (congrArg (fun a : EReal => a + _) ((all_stored a7.view _ _ _ _ _).trans (pay5_apply _))).trans (zero_add _)
  · rw [if_neg h, row_kept _ _ _ _ _ _ _ h, all_stored]
    exact pay5_apply _

/-- A later step adds its own to row 0. -/
theorem stat_B (c : Dev nD) (i : grid0.Coords) (a1 h1 a2 h2 a3 h3 a4 h4 a5 h5 a6 h6 a7 h7) (hc : ¬cond0_0 i) (x0 : Vec Ideal S512x1024 .bf16) (x1 : Vec Ideal S2816x1024 .bf16) (x2 x3 : Vec Ideal S512x2816 .bf16) (xo : Vec Ideal S8x2816 .f32) (j : Fin 8) (l : Fin 2816) :
    (out0_B_6 c i a1 h1 a2 h2 a3 h3 a4 h4 a5 h5 a6 h6 a7 h7 hc x0 x1 x2 x3 xo (ix2 j l) : EReal)
      = if j.val = 0 then (xo (ix2 j l) : EReal) + ∑ r : Fin 512, (k0_pay3 x0 x1 x3 (ix2 r l) : EReal) else xo (ix2 j l) := by
  unfold out0_B_6
  unfold kernelRun0_B
  dsimp only
  sl_unfold_words
  simp only [View.readAt_eq_ld, Memref.IsWhole.read_unread, View.ld_unit_zero (S := S512x1024) hz, View.ld_unit_zero (S := S2816x1024) hz, View.ld_unit_zero (S := S512x2816) hz]
  by_cases h : j.val = 0
  · rw [if_pos h]
    refine (row_stored _ _ _ _ _ _ _ h).trans ((pay6_apply _ _ _ _ l).trans ?_)
    rw [ld_row _ _ _ (by omega)]
    exact congrArg (fun i => (xo i : EReal) + _) (funext fun a => Fin.ext (by fin_cases a; exacts [h.symm, rfl]))
  · rw [if_neg h, row_kept _ _ _ _ _ _ _ h, View.writes_nil, h7.read_unread]

theorem pay2_apply (x0 : Vec Ideal S512x1024 .bf16) (x1 : Vec Ideal S2816x1024 .bf16) (x2 : Vec Ideal S512x2816 .bf16) (r : Fin 512) (l : Fin 2816) :
    (k0_pay2 x0 x1 x2 (ix2 r l) : EReal) = (∑ k : Fin 1024, (x0 (ix2 r k) : EReal) * x1 (ix2 l k)) * x2 (ix2 r l) := by
  unfold k0_pay2 k0_pay1
  pointwise []

theorem pay3_apply (x0 : Vec Ideal S512x1024 .bf16) (x1 : Vec Ideal S2816x1024 .bf16) (x3 : Vec Ideal S512x2816 .bf16) (r : Fin 512) (l : Fin 2816) :
    (k0_pay3 x0 x1 x3 (ix2 r l) : EReal) = (∑ k : Fin 1024, (x0 (ix2 r k) : EReal) * x1 (ix2 l k)) * x3 (ix2 r l) := by
  unfold k0_pay3 k0_pay1
  pointwise []

theorem pay4_apply (x0 : Vec Ideal S512x1024 .bf16) (x1 : Vec Ideal S2816x1024 .bf16) (x3 : Vec Ideal S512x2816 .bf16) (y : S512x2816.Idx) :
    (k0_pay4 x0 x1 x3 y : EReal) = k0_pay3 x0 x1 x3 y := by
  unfold k0_pay4
  pointwise []

/-! ## The results in terms of the arguments -/

/-- One over one plus the exponential of minus `z`. -/
def sig (z : EReal) : EReal := Ideal.div 1 (1 + Ideal.exp (-z))

/-- The gate's derivative, as the kernel multiplies it out. -/
def slope (z : EReal) : EReal := sig z + z * sig z - z * sig z * sig z

section
variable (x0 : (⟨S4096x1024, .bf16⟩ : BufTy).Contents (Elt Ideal)) (x1 : (⟨S2816x1024, .bf16⟩ : BufTy).Contents (Elt Ideal))
  (x2 : (⟨S4096x2816, .f32⟩ : BufTy).Contents (Elt Ideal)) (x3 : (⟨S1x2816, .f32⟩ : BufTy).Contents (Elt Ideal))
  (x4 : (⟨S4096x2816, .bf16⟩ : BufTy).Contents (Elt Ideal))

/-- The gradient of the gated product of token `t`, feature `f`. -/
def inner (t f : ℕ) : EReal :=
  ∑ k ∈ Finset.range 1024, cell (n := 4096) (k := 1024) (α := EReal) x0 t k * cell (n := 2816) (k := 1024) (α := EReal) x1 f k

/-- The gate's argument. -/
def gate (t f : ℕ) : EReal := cell (n := 4096) (k := 2816) (α := EReal) x2 t f + cell (n := 1) (k := 2816) (α := EReal) x3 0 f

def dval (t f : ℕ) : EReal := inner x0 x1 t f * (gate x2 x3 t f * sig (gate x2 x3 t f))

def dgate (t f : ℕ) : EReal := inner x0 x1 t f * (cell (n := 4096) (k := 2816) (α := EReal) x4 t f * slope (gate x2 x3 t f))

end

/-! ## The kernel's results -/

variable (m : (ℓ : Loc nD τ Cert.Kernel7Ideal.sig) → Buf (Elt Ideal) ℓ) (ρ : Dev nD → PrngReg)

section Entry
variable {F : FTy → Type} [FloatOps F] (mm : (ℓ : Loc nD τ Cert.Kernel7Ideal.sig) → Buf (Elt F) ℓ)

/-- The gate's argument at every token. -/
def gates (a2 : FVec F S4096x2816 .f32) (a3 : FVec F S1x2816 .f32) : FVec F S4096x2816 .f32 :=
  addf a2 (broadcastInDim S4096x2816 ![0, 1] bcast_S1x2816_S4096x2816_0_1 a3)

def sigs (a2 : FVec F S4096x2816 .f32) (a3 : FVec F S1x2816 .f32) : FVec F S4096x2816 .f32 :=
  Host.divf (broadcastInDim S4096x2816 ![] bcast_S_S4096x2816 (constant S_ .f32 0x3F800000#32))
    (addf (broadcastInDim S4096x2816 ![] bcast_S_S4096x2816 (constant S_ .f32 0x3F800000#32)) (Host.exp (Host.negf (gates a2 a3))))

def acts (a2 : FVec F S4096x2816 .f32) (a3 : FVec F S1x2816 .f32) : FVec F S4096x2816 .f32 :=
  mulf (gates a2 a3) (sigs a2 a3)

theorem V_main_v14 (c : Dev nD) : V mm c main_v14
    = (truncf .bf16 (acts (mm ((c : Thread nD τ).loc main_arg2)) (mm ((c : Thread nD τ).loc main_arg3))) bitsLt_bf16_f32 : FVec F S4096x2816 .bf16) := by
  show StableHlo.after hostOps0 _ (Proc.devRef .tc main_v14) = _
  after_results
  rfl

theorem V_main_v15 (c : Dev nD) : V mm c main_v15
    = (truncf .bf16 (mulf (extf .f32 (mm ((c : Thread nD τ).loc main_arg4) : FVec F S4096x2816 .bf16) bitsLt_bf16_f32)
        (subf (addf (sigs (mm ((c : Thread nD τ).loc main_arg2)) (mm ((c : Thread nD τ).loc main_arg3))) (acts (mm ((c : Thread nD τ).loc main_arg2)) (mm ((c : Thread nD τ).loc main_arg3))))
          (mulf (acts (mm ((c : Thread nD τ).loc main_arg2)) (mm ((c : Thread nD τ).loc main_arg3))) (sigs (mm ((c : Thread nD τ).loc main_arg2)) (mm ((c : Thread nD τ).loc main_arg3)))))) bitsLt_bf16_f32 : FVec F S4096x2816 .bf16) := by
  show StableHlo.after hostOps0 _ (Proc.devRef .tc main_v15) = _
  after_results
  rfl

end Entry

theorem gates_apply (a2 : FVec Ideal S4096x2816 .f32) (a3 : FVec Ideal S1x2816 .f32) (y : S4096x2816.Idx) :
    (gates a2 a3 y : EReal) = gate a2 a3 (y 0).val (y 1).val := by
  have e : (gates a2 a3 y : EReal) = (a2 y : EReal) + a3 (ix2 0 (y 1)) := by
    unfold gates
    pointwise []
  rw [e]
  exact congrArg₂ (fun a b : EReal => a + b) (cell_eq (n := 4096) (k := 2816) (α := EReal) a2 y rfl rfl) (cell_eq (n := 1) (k := 2816) (α := EReal) a3 _ rfl rfl)

theorem sigs_apply (a2 : FVec Ideal S4096x2816 .f32) (a3 : FVec Ideal S1x2816 .f32) (y : S4096x2816.Idx) :
    (sigs a2 a3 y : EReal) = sig (gate a2 a3 (y 0).val (y 1).val) := by
  rw [← gates_apply]
  unfold sigs
  generalize gates a2 a3 = g
  have e : (Host.divf (broadcastInDim S4096x2816 ![] bcast_S_S4096x2816 (constant S_ .f32 0x3F800000#32))
    (addf (broadcastInDim S4096x2816 ![] bcast_S_S4096x2816 (constant S_ .f32 0x3F800000#32)) (Host.exp (Host.negf g))) y : EReal) = sig (g y) := by
    pointwise []
    rfl
  exact e

theorem acts_apply (a2 : FVec Ideal S4096x2816 .f32) (a3 : FVec Ideal S1x2816 .f32) (y : S4096x2816.Idx) :
    (acts a2 a3 y : EReal) = gate a2 a3 (y 0).val (y 1).val * sig (gate a2 a3 (y 0).val (y 1).val) := by
  exact congrArg₂ (fun a b : EReal => a * b) (gates_apply a2 a3 y) (sigs_apply a2 a3 y)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)

theorem iblk0_apply (c : Dev nD) (t : Fin cfg0.N) (r : Fin 512) (l : Fin 1024) :
    (iblk m c 0 t (ix2 r l) : EReal) = cell (n := 4096) (k := 1024) (α := EReal) (m ((c : Thread nD τ).loc main_arg0)) (512 * t.val + r.val) l.val :=
  (congrFun (V_main_arg0 m c) _).trans (cell_block (n := 4096) (k := 1024) (α := EReal) (m ((c : Thread nD τ).loc main_arg0)) (((cfg0.win 0).blk t).view.emb (ix2 r l)) (index0 t) rfl rfl)

theorem iblk1_apply (c : Dev nD) (t : Fin cfg0.N) (f : Fin 2816) (l : Fin 1024) :
    (iblk m c 1 t (ix2 f l) : EReal) = cell (n := 2816) (k := 1024) (α := EReal) (m ((c : Thread nD τ).loc main_arg1)) f.val l.val :=
  (congrFun (V_main_arg1 m c) _).trans (cell_whole (n := 2816) (k := 1024) (α := EReal) (m ((c : Thread nD τ).loc main_arg1)) (((cfg0.win 1).blk t).view.emb (ix2 f l)) (index1 t) rfl rfl)

theorem iblk2_apply (c : Dev nD) (t : Fin cfg0.N) (r : Fin 512) (l : Fin 2816) :
    (iblk m c 2 t (ix2 r l) : EReal) = gate (m ((c : Thread nD τ).loc main_arg2)) (m ((c : Thread nD τ).loc main_arg3)) (512 * t.val + r.val) l.val
      * sig (gate (m ((c : Thread nD τ).loc main_arg2)) (m ((c : Thread nD τ).loc main_arg3)) (512 * t.val + r.val) l.val) := by
  obtain ⟨e0, e1⟩ := index2 t
  unfold iblk
  show (V m c main_v14 (((cfg0.win 2).blk t).view.emb (ix2 r l)) : EReal) = _
  rw [V_main_v14]
  refine (acts_apply (m ((c : Thread nD τ).loc main_arg2)) (m ((c : Thread nD τ).loc main_arg3)) (((cfg0.win 2).blk t).view.emb (ix2 r l))).trans ?_
  have h0 : (((cfg0.win 2).blk t).view.emb (ix2 r l) 0).val = 512 * t.val + r.val := by
    show win0_2.index t (0 : Fin 2) * 512 + 1 * r.val = _
    rw [e0]; omega
  have h1 : (((cfg0.win 2).blk t).view.emb (ix2 r l) 1).val = l.val := by
    show win0_2.index t (1 : Fin 2) * 2816 + 1 * l.val = _
    rw [e1]; omega
  rw [h0, h1]

theorem iblk3_apply (c : Dev nD) (t : Fin cfg0.N) (r : Fin 512) (l : Fin 2816) :
    (iblk m c 3 t (ix2 r l) : EReal) = cell (n := 4096) (k := 2816) (α := EReal) (m ((c : Thread nD τ).loc main_arg4)) (512 * t.val + r.val) l.val
      * slope (gate (m ((c : Thread nD τ).loc main_arg2)) (m ((c : Thread nD τ).loc main_arg3)) (512 * t.val + r.val) l.val) := by
  obtain ⟨e0, e1⟩ := index3 t
  unfold iblk
  show (V m c main_v15 (((cfg0.win 3).blk t).view.emb (ix2 r l)) : EReal) = _
  rw [V_main_v15]
  have h0 : (((cfg0.win 3).blk t).view.emb (ix2 r l) 0).val = 512 * t.val + r.val := by
    show win0_3.index t (0 : Fin 2) * 512 + 1 * r.val = _
    rw [e0]; omega
  have h1 : (((cfg0.win 3).blk t).view.emb (ix2 r l) 1).val = l.val := by
    show win0_3.index t (1 : Fin 2) * 2816 + 1 * l.val = _
    rw [e1]; omega
  have ea := acts_apply (m ((c : Thread nD τ).loc main_arg2)) (m ((c : Thread nD τ).loc main_arg3)) (((cfg0.win 3).blk t).view.emb (ix2 r l))
  have es := sigs_apply (m ((c : Thread nD τ).loc main_arg2)) (m ((c : Thread nD τ).loc main_arg3)) (((cfg0.win 3).blk t).view.emb (ix2 r l))
  rw [h0, h1] at ea es
  unfold slope
  exact congrArg₂ (fun a b : EReal => a * b) (cell_eq (n := 4096) (k := 2816) (α := EReal) (m ((c : Thread nD τ).loc main_arg4)) _ h0 h1)
    (congrArg₂ (fun a b : EReal => a - b) (congrArg₂ (fun a b : EReal => a + b) es ea) (congrArg₂ (fun a b : EReal => a * b) ea es))

theorem inner_apply (c : Dev nD) (t : Fin cfg0.N) (r : Fin 512) (f : Fin 2816) (D : ℕ → ℕ → EReal)
    (hD : D = inner (m ((c : Thread nD τ).loc main_arg0)) (m ((c : Thread nD τ).loc main_arg1))) :
    D (512 * t.val + r.val) f.val = ∑ k : Fin 1024, (fun a b : EReal => a * b) (iblk m c 0 t (ix2 r k)) (iblk m c 1 t (ix2 f k)) := by
  subst hD
  unfold inner
  rw [← Fin.sum_univ_eq_sum_range (fun k => cell (n := 4096) (k := 1024) (α := EReal) (m ((c : Thread nD τ).loc main_arg0)) (512 * t.val + r.val) k * cell (n := 2816) (k := 1024) (α := EReal) (m ((c : Thread nD τ).loc main_arg1)) f.val k) 1024]
  exact Finset.sum_congr rfl fun k _ => (congrArg₂ (fun a b : EReal => a * b) (iblk0_apply m c t r k) (iblk1_apply m c t f k)).symm

/-- The gradients a step computes. -/
theorem dval_apply (c : Dev nD) (t : Fin cfg0.N) (r : Fin 512) (f : Fin 2816) :
    (k0_pay2 (iblk m c 0 t) (iblk m c 1 t) (iblk m c 2 t) (ix2 r f) : EReal)
      = dval (m ((c : Thread nD τ).loc main_arg0)) (m ((c : Thread nD τ).loc main_arg1)) (m ((c : Thread nD τ).loc main_arg2)) (m ((c : Thread nD τ).loc main_arg3)) (512 * t.val + r.val) f.val :=
  (pay2_apply _ _ _ r f).trans (congrArg₂ (fun a b : EReal => a * b) (inner_apply m c t r f _ rfl).symm (iblk2_apply m c t r f))

theorem dgate_apply (c : Dev nD) (t : Fin cfg0.N) (r : Fin 512) (f : Fin 2816) :
    (k0_pay3 (iblk m c 0 t) (iblk m c 1 t) (iblk m c 3 t) (ix2 r f) : EReal)
      = dgate (m ((c : Thread nD τ).loc main_arg0)) (m ((c : Thread nD τ).loc main_arg1)) (m ((c : Thread nD τ).loc main_arg2)) (m ((c : Thread nD τ).loc main_arg3)) (m ((c : Thread nD τ).loc main_arg4)) (512 * t.val + r.val) f.val :=
  (pay3_apply _ _ _ r f).trans (congrArg₂ (fun a b : EReal => a * b) (inner_apply m c t r f _ rfl).symm (iblk3_apply m c t r f))

/-- After step `n` row 0 holds the sums over the tokens so far, the other rows zero. -/
theorem stat_apply (c : Dev nD) : ∀ (n : ℕ) (hn : n < cfg0.N) (j : Fin 8) (l : Fin 2816),
    ((outsAt0 m c n hn).2.2 (ix2 j l) : EReal)
      = if j.val = 0 then ∑ k ∈ Finset.range (512 * n + 512), dgate (m ((c : Thread nD τ).loc main_arg0)) (m ((c : Thread nD τ).loc main_arg1)) (m ((c : Thread nD τ).loc main_arg2)) (m ((c : Thread nD τ).loc main_arg3)) (m ((c : Thread nD τ).loc main_arg4)) k l.val else 0 := by
  intro n
  induction n with
  | zero =>
    intro hn j l
    rw [outsAt0_A m c ⟨0, hn⟩ rfl]
    dsimp only
    rw [stat_A]
    by_cases h : j.val = 0
    · rw [if_pos h, if_pos h, Nat.mul_zero, ← sum_next 512, Finset.sum_range_zero, zero_add]
      exact Finset.sum_congr rfl fun k _ => dgate_apply m c ⟨0, hn⟩ k l
    · rw [if_neg h, if_neg h]
  | succ n ih =>
    intro hn j l
    have hN : n + 1 < 8 := hn
    rw [outsAt0_B m c ⟨n + 1, hn⟩ (by show ¬((n + 1) % 8 = 0); omega)]
    dsimp only
    rw [stat_B]
    have hp := ih (Nat.lt_of_succ_lt hn) j l
    by_cases h : j.val = 0
    · rw [if_pos h] at hp
      rw [if_pos h, if_pos h, ← sum_next 512]
      exact congrArg₂ (fun a b : EReal => a + b) hp (Finset.sum_congr rfl fun k _ => dgate_apply m c ⟨n + 1, hn⟩ k l)
    · rw [if_neg h] at hp
      rw [if_neg h, if_neg h]
      exact hp

/-- The step that handles row `r`. -/
abbrev stepOf (r : ℕ) (h : r < 4096) : Fin cfg0.N := ⟨r / 512, by rw [show cfg0.N = 8 from N_0]; omega⟩

theorem outs4 (c : Dev nD) (t : Fin cfg0.N) : (outsAt0 m c t.val t.isLt).1 = k0_pay2 (iblk m c 0 t) (iblk m c 1 t) (iblk m c 2 t) := by
  by_cases h : t.val % 8 = 0
  · rw [outsAt0_A m c t h]
    dsimp only
    rw [dval_A]
  · rw [outsAt0_B m c t h]
    dsimp only
    rw [dval_B]

theorem outs5 (c : Dev nD) (t : Fin cfg0.N) : (outsAt0 m c t.val t.isLt).2.1 = k0_pay4 (iblk m c 0 t) (iblk m c 1 t) (iblk m c 3 t) := by
  by_cases h : t.val % 8 = 0
  · rw [outsAt0_A m c t h]
    dsimp only
    rw [dgc_A]
  · rw [outsAt0_B m c t h]
    dsimp only
    rw [dgc_B]

theorem final4 (c : Dev nD) (i : S4096x2816.Idx) :
    ((dats m 0 c).arrAt 4 cfg0.N i : EReal)
      = dval (m ((c : Thread nD τ).loc main_arg0)) (m ((c : Thread nD τ).loc main_arg1)) (m ((c : Thread nD τ).loc main_arg2)) (m ((c : Thread nD τ).loc main_arg3)) (i 0).val (i 1).val :=
  of_blocks (b := 512) (N := cfg0.N) (α := EReal) ((dats m 0 c).arrAt 4 cfg0.N) (dval (m ((c : Thread nD τ).loc main_arg0)) (m ((c : Thread nD τ).loc main_arg1)) (m ((c : Thread nD τ).loc main_arg2)) (m ((c : Thread nD τ).loc main_arg3))) (fun t => ((cfg0.win 4).blk t).view.emb) (by rw [show cfg0.N = 8 from N_0]) index4 (fun _ _ _ => rfl) (fun _ _ _ => rfl) (fun t r l => by
    have h := congrFun (blocks4 m c t ((by decide +kernel : ∀ t : Fin grid0.N, (cfg0.win 4).flush t = true) t)) (ix2 r l)
    rw [flushed4, outs4] at h
    exact h.trans ((dval_apply m c t r l))) i

theorem final5 (c : Dev nD) (i : S4096x2816.Idx) :
    ((dats m 0 c).arrAt 5 cfg0.N i : EReal)
      = dgate (m ((c : Thread nD τ).loc main_arg0)) (m ((c : Thread nD τ).loc main_arg1)) (m ((c : Thread nD τ).loc main_arg2)) (m ((c : Thread nD τ).loc main_arg3)) (m ((c : Thread nD τ).loc main_arg4)) (i 0).val (i 1).val := by
  have h0 : (i 0).val < 4096 := (i 0).isLt
  obtain ⟨e0, e1⟩ := index5 (stepOf _ h0)
  have h := congrFun (blocks5 m c (stepOf _ h0) ((by decide +kernel : ∀ t : Fin grid0.N, (cfg0.win 5).flush t = true) _)) (ix2 ⟨(i 0).val % 512, by omega⟩ (i 1))
  rw [flushed5, outs5] at h
  have e : ((cfg0.win 5).blk (stepOf _ h0)).view.emb (ix2 ⟨(i 0).val % 512, by omega⟩ (i 1)) = i := by
    refine funext fun a => Fin.ext ?_
    fin_cases a
    · show win0_5.index (stepOf _ h0) (0 : Fin 2) * 512 + 1 * ((i 0).val % 512) = _
      rw [e0]; show (i 0).val / 512 * 512 + 1 * ((i 0).val % 512) = (i 0).val; omega
    · show win0_5.index (stepOf _ h0) (1 : Fin 2) * 2816 + 1 * (i 1).val = (i 1).val
      rw [e1]; omega
  refine (congrArg (fun j => ((dats m 0 c).arrAt 5 cfg0.N j : EReal)) e.symm).trans (h.trans ?_)
  refine (pay4_apply _ _ _ _).trans ((dgate_apply m c (stepOf _ h0) ⟨(i 0).val % 512, by omega⟩ (i 1)).trans ?_)
  rw [show 512 * (stepOf _ h0).val + (i 0).val % 512 = (i 0).val by show 512 * ((i 0).val / 512) + _ = _; omega]

theorem last6 : ∀ t : Fin cfg0.N, (cfg0.win 6).flush t = true ↔ t.val = 7 :=
  (by decide +kernel : ∀ t : Fin grid0.N, _)

theorem disjoint6 : ∀ t t' : Fin cfg0.N, (cfg0.win 6).flush t = true → (cfg0.win 6).flush t' = true → t ≠ t' →
    Disjoint ((cfg0.win 6).blk t).view.set ((cfg0.win 6).blk t').view.set :=
  fun t t' h h' hne => absurd (Fin.ext (((last6 t).mp h).trans ((last6 t').mp h').symm)) hne

theorem final6 (c : Dev nD) (i : S8x2816.Idx) :
    ((dats m 0 c).arrAt 6 cfg0.N i : EReal)
      = if (i 0).val = 0 then ∑ k ∈ Finset.range 4096, dgate (m ((c : Thread nD τ).loc main_arg0)) (m ((c : Thread nD τ).loc main_arg1)) (m ((c : Thread nD τ).loc main_arg2)) (m ((c : Thread nD τ).loc main_arg3)) (m ((c : Thread nD τ).loc main_arg4)) k (i 1).val else 0 := by
  have h := congrFun ((dats m 0 c).read_blk_arrAt_eq_flushed 6 disjoint6 cfg0.N t0_7 t0_7.isLt ((last6 _).mpr rfl)) i
  rw [flushed6] at h
  obtain ⟨e0, e1⟩ := index6 t0_7
  have e : ((cfg0.win 6).blk t0_7).view.emb i = i := by
    refine funext fun a => Fin.ext ?_
    fin_cases a
    · show win0_6.index t0_7 (0 : Fin 2) * 8 + 1 * (i 0).val = (i 0).val
      rw [e0]; omega
    · show win0_6.index t0_7 (1 : Fin 2) * 2816 + 1 * (i 1).val = (i 1).val
      rw [e1]; omega
  refine (congrArg (fun j => ((dats m 0 c).arrAt 6 cfg0.N j : EReal)) e.symm).trans (h.trans ?_)
  have hs := stat_apply m c 7 t0_7.isLt (i 0) (i 1)
  rw [show (ix2 (i 0) (i 1) : S8x2816.Idx) = i from ix2_eta i] at hs
  exact hs

/-! ## The reference's results -/

theorem sig_coe (z : ℝ) : sig (z : EReal) = ((1 / (1 + Real.exp (-z)) : ℝ) : EReal) := by
  have h : (1 + Real.exp (-z)) ≠ 0 := by positivity
  unfold sig
  rw [← EReal.coe_neg, Ideal.exp_coe, ← EReal.coe_one, ← EReal.coe_add, Reals.div_coe _ _ h, one_mul]

/-- The product rule of the gate over the real numbers. -/
theorem slope_rule {d v z : EReal} (hd : IsReal d) (hv : IsReal v) (hz : IsReal z) :
    d * v * sig z + z * (d * v) * (sig z * (1 - sig z)) = d * (v * slope z) := by
  obtain ⟨d, rfl⟩ := hd; obtain ⟨v, rfl⟩ := hv; obtain ⟨z, rfl⟩ := hz
  unfold slope
  rw [sig_coe]
  generalize 1 / (1 + Real.exp (-z)) = s
  norm_cast
  ring

section
open Cert.Reference7Ideal.Read
variable (x0 : (⟨S4096x1024, .bf16⟩ : BufTy).Contents (Elt Ideal)) (x1 : (⟨S2816x1024, .bf16⟩ : BufTy).Contents (Elt Ideal))
  (x2 : (⟨S4096x2816, .f32⟩ : BufTy).Contents (Elt Ideal)) (x3 : (⟨S1x2816, .f32⟩ : BufTy).Contents (Elt Ideal))
  (x4 : (⟨S4096x2816, .bf16⟩ : BufTy).Contents (Elt Ideal))

theorem reference_gate (i : S4096x2816.Idx) : (val_main_v2 (F := Ideal) x2 x3 i : EReal) = gate x2 x3 (i 0).val (i 1).val := by
  rw [val_main_v2_apply, val_main_v1_apply]
  exact congrArg₂ (fun a b : EReal => a + b) (cell_eq (n := 4096) (k := 2816) (α := EReal) x2 i rfl rfl) (cell_eq (n := 1) (k := 2816) (α := EReal) x3 _ rfl rfl)

theorem reference_sig (i : S4096x2816.Idx) : (val_main_v3_2 (F := Ideal) x2 x3 i : EReal) = sig (gate x2 x3 (i 0).val (i 1).val) := by
  rw [← reference_gate, val_main_v3_2_apply, val_main_call0_v4_apply, val_main_call0_v3_apply, val_main_call0_v2_apply, val_main_call0_v1_apply, val_main_call0_v0_apply]
  have h1 : ∀ j, (val_main_call0_cst (F := Ideal) j : EReal) = 1 := fun j => (val_main_call0_cst_apply j).trans Ideal.ofBits_one_f32
  have h2 : ∀ j, (val_main_call0_cst_0 (F := Ideal) j : EReal) = 1 := fun j => (val_main_call0_cst_0_apply j).trans Ideal.ofBits_one_f32
  rw [h1, h2]
  rfl

theorem reference_inner (i : S4096x2816.Idx) : (val_main_v8 (F := Ideal) x0 x1 i : EReal) = inner x0 x1 (i 0).val (i 1).val := by
  rw [val_main_v8_apply]
  unfold inner
  rw [← Fin.sum_univ_eq_sum_range (fun k => cell (n := 4096) (k := 1024) (α := EReal) x0 (i 0).val k * cell (n := 2816) (k := 1024) (α := EReal) x1 (i 1).val k) 1024]
  exact Finset.sum_congr rfl fun k _ => congrArg₂ (fun a b : EReal => a * b) (cell_eq (n := 4096) (k := 1024) (α := EReal) x0 _ rfl rfl) (cell_eq (n := 2816) (k := 1024) (α := EReal) x1 _ rfl rfl)

theorem reference4 (i : S4096x2816.Idx) : (val_main_v16 (F := Ideal) x0 x1 x2 x3 i : EReal) = dval x0 x1 x2 x3 (i 0).val (i 1).val := by
  rw [val_main_v16_apply, val_main_v9_apply, val_main_v3_0_apply]
  exact (congrArg₂ (fun a b : EReal => a * b) (congrArg₂ (fun a b : EReal => a * b) (reference_gate x2 x3 i) (reference_sig x2 x3 i)) (reference_inner x0 x1 i)).trans (EReal.mul_comm _ _)

variable (h0 : ∀ i, IsReal (x0 i)) (h1 : ∀ i, IsReal (x1 i)) (h2 : ∀ i, IsReal (x2 i)) (h3 : ∀ i, IsReal (x3 i)) (h4 : ∀ i, IsReal (x4 i))

include h0 h1 h2 h3 h4

theorem reference_dgate (i : S4096x2816.Idx) : (val_main_v11 (F := Ideal) x0 x1 x2 x3 x4 i : EReal) = dgate x0 x1 x2 x3 x4 (i 0).val (i 1).val := by
  rw [val_main_v11_apply, val_main_call1_v1_apply, val_main_call1_v2_apply, val_main_call1_v0_apply, val_main_v10_apply, val_main_v3_1_apply, val_main_call0_v7_apply, val_main_call0_v6_apply, val_main_v0_apply]
  have hc : ∀ j, (val_main_call0_cst_1 (F := Ideal) j : EReal) = 1 := fun j => (val_main_call0_cst_1_apply j).trans Ideal.ofBits_one_f32
  have e4 : (x4 i : EReal) = _ := cell_eq (n := 4096) (k := 2816) (α := EReal) x4 i rfl rfl
  rw [hc, reference_gate, reference_sig, reference_inner]
  refine Eq.trans ?_ (slope_rule (d := inner x0 x1 (i 0).val (i 1).val) (v := cell (n := 4096) (k := 2816) (α := EReal) x4 (i 0).val (i 1).val) (z := gate x2 x3 (i 0).val (i 1).val)
    (IsReal.sum _ _ fun k _ => (IsReal.cell h0 _ _).mul (IsReal.cell h1 _ _)) (IsReal.cell h4 _ _) ((IsReal.cell h2 _ _).add (IsReal.cell h3 _ _)))
  rw [← e4]
  rfl

theorem reference5 (i : S4096x2816.Idx) : (val_main_v17 (F := Ideal) x0 x1 x2 x3 x4 i : EReal) = dgate x0 x1 x2 x3 x4 (i 0).val (i 1).val :=
  (val_main_v17_apply x0 x1 x2 x3 x4 i).trans (reference_dgate x0 x1 x2 x3 x4 h0 h1 h2 h3 h4 i)

theorem reference6 (i : S8x2816.Idx) : (val_main_v15 (F := Ideal) x0 x1 x2 x3 x4 i : EReal)
    = if (i 0).val = 0 then ∑ k ∈ Finset.range 4096, dgate x0 x1 x2 x3 x4 k (i 1).val else 0 := by
  have hi : (i 0).val < 8 := (i 0).isLt
  unfold val_main_v15
  by_cases h : (i 0).val = 0
  · rw [if_pos h]
    refine (concatenate_pair_apply_left 0 _ _ Cert.Reference7Ideal.Gen.concatenates_S1x2816_S7x2816_S8x2816_d0 i rfl (ix2 0 (i 1)) (fun b => by
      match b with
      | ⟨0, _⟩ => exact h.symm
      | ⟨1, _⟩ => rfl)).trans ?_
    rw [val_main_v13_apply, val_main_v12_apply]
    have z : (val_main_cst (F := Ideal) (Shape.Idx.first Cert.Reference7Ideal.Gen.h_S_) : EReal) = 0 := Ideal.ofBits_zero .f32
    rw [z, zero_add, ← Fin.sum_univ_eq_sum_range (fun k => dgate x0 x1 x2 x3 x4 k (i 1).val) 4096]
    refine Finset.sum_congr rfl fun k _ => (reference_dgate x0 x1 x2 x3 x4 h0 h1 h2 h3 h4 _).trans ?_
    refine congrArg (dgate x0 x1 x2 x3 x4 k.val) ?_
    show 0 * 2816 + (i 1).val = (i 1).val
    omega
  · rw [if_neg h]
    refine (concatenate_pair_apply_right 0 _ _ Cert.Reference7Ideal.Gen.concatenates_S1x2816_S7x2816_S8x2816_d0 i rfl rfl (ix2 ⟨(i 0).val - 1, by omega⟩ (i 1)) (fun b hb => by
      match b with
      | ⟨0, _⟩ => exact absurd rfl hb
      | ⟨1, _⟩ => rfl) (by show (i 0).val - 1 + 1 = (i 0).val; omega)).trans ?_
    rw [val_main_v14_apply]
    exact Ideal.ofBits_zero .f32

end

end Cert.Kernel7Ideal.Value

namespace Cert.Claims

open Idealize.ShloMosaic Idealize.ShloMosaic.TcCoe Idealize.SL.Sem

theorem frame_p7 : Cert.quiescent_Kernel7 := fun m ρ _ => Cert.Kernel7.Gen.frame m ρ

theorem frame_pi7 : Cert.quiescent_Kernel7Ideal := fun m ρ _ => Cert.Kernel7Ideal.Gen.frame m ρ

theorem frame_pi7_finite : Cert.quiescent_Kernel7Ideal_pre_finite7 := fun m ρ _ => Cert.Kernel7Ideal.Gen.frame m ρ

theorem frame_ri7 : Cert.quiescent_Reference7Ideal := fun m ρ _ =>
  (θ_run Cert.Reference7Ideal.defs _ _).mono (fun r h => ⟨fun c => (h c).2.2.2, Idealize.ShloMosaic.sem_eq_zero_of_no_sems (by decide) r.2⟩)
    (Cert.Reference7Ideal.Value.run (F := Ideal) m ρ)

theorem frame_ri7_finite : Cert.quiescent_Reference7Ideal_pre_finite7 := fun m ρ _ => frame_ri7 m ρ trivial

theorem preserves7 : Cert.preserves_Kernel7_Kernel7Ideal := trivial

/-- The kernel's three results are the reference's, for finite arguments. -/
theorem algebraic7 : Cert.algebraic_Kernel7Ideal_Reference7Ideal_pre_finite7 := by
  intro m ρ m' ρ' hp hag
  refine ⟨fun c => (Cert.Kernel7Ideal.Gen.dats m 0 c).arrAt 4 Cert.Kernel7Ideal.cfg0.N, fun c => (Cert.Kernel7Ideal.Gen.dats m 0 c).arrAt 5 Cert.Kernel7Ideal.cfg0.N,
    fun c => (Cert.Kernel7Ideal.Gen.dats m 0 c).arrAt 6 Cert.Kernel7Ideal.cfg0.N, Cert.Kernel7Ideal.Value.run_blocks m ρ, ?_⟩
  refine (θ_run Cert.Reference7Ideal.defs _ _).mono (fun r hr c => ?_) (Cert.Reference7Ideal.Value.run (F := Ideal) m' ρ')
  obtain ⟨g0, g1, g2, g3, g4⟩ := hag c
  obtain ⟨r0, r1, r2, rest⟩ := hr c
  obtain ⟨p0, p1, p2, p3, p4⟩ := hp c
  have h0 : ∀ i, IsReal (m ((c.tc : Thread Cert.Kernel7Ideal.nD Cert.Kernel7Ideal.τ).loc Cert.Kernel7Ideal.main_arg0) i) := fun i => .of_toReal (Finite.real_of_lt _ (congrFun p0 i))
  have h1 : ∀ i, IsReal (m ((c.tc : Thread Cert.Kernel7Ideal.nD Cert.Kernel7Ideal.τ).loc Cert.Kernel7Ideal.main_arg1) i) := fun i => .of_toReal (Finite.real_of_lt _ (congrFun p1 i))
  have h2 : ∀ i, IsReal (m ((c.tc : Thread Cert.Kernel7Ideal.nD Cert.Kernel7Ideal.τ).loc Cert.Kernel7Ideal.main_arg2) i) := fun i => .of_toReal (Finite.real_of_lt _ (congrFun p2 i))
  have h3 : ∀ i, IsReal (m ((c.tc : Thread Cert.Kernel7Ideal.nD Cert.Kernel7Ideal.τ).loc Cert.Kernel7Ideal.main_arg3) i) := fun i => .of_toReal (Finite.real_of_lt _ (congrFun p3 i))
  have h4 : ∀ i, IsReal (m ((c.tc : Thread Cert.Kernel7Ideal.nD Cert.Kernel7Ideal.τ).loc Cert.Kernel7Ideal.main_arg4) i) := fun i => .of_toReal (Finite.real_of_lt _ (congrFun p4 i))
  refine ⟨r0.trans ((Cert.Reference7Ideal.Read.val_main_v16_eq _ _ _ _).trans ?_), r1.trans ((Cert.Reference7Ideal.Read.val_main_v17_eq _ _ _ _ _).trans ?_),
    r2.trans ((Cert.Reference7Ideal.Read.val_main_v15_eq _ _ _ _ _).trans ?_), rest⟩
  · rw [g0, g1, g2, g3]
    funext i
    exact (Cert.Kernel7Ideal.Value.reference4 _ _ _ _ i).trans (Cert.Kernel7Ideal.Value.final4 m c i).symm
  · rw [g0, g1, g2, g3, g4]
    funext i
    exact (Cert.Kernel7Ideal.Value.reference5 _ _ _ _ _ h0 h1 h2 h3 h4 i).trans (Cert.Kernel7Ideal.Value.final5 m c i).symm
  · rw [g0, g1, g2, g3, g4]
    funext i
    exact (Cert.Kernel7Ideal.Value.reference6 _ _ _ _ _ h0 h1 h2 h3 h4 i).trans (Cert.Kernel7Ideal.Value.final6 m c i).symm

end Cert.Claims

end

end
-- ==== Proof.NormBack.lean ====
/-
  The gradient through a row's division by its root mean square: the form that takes the row's projection off the
  normalised gradient, against the form that follows the square root and the mean back to the row. The two agree for
  every row: of a row with an infinite entry the inverse root is zero, and so are both forms.
-/
module

public import proofs.«01_k».proof.Proof.IsReal

@[expose] public section

noncomputable section

namespace Cert.Norm

open Idealize.ShloMosaic

/-- The number added to the mean square is a positive real number. -/
theorem eps_real : ∃ e : ℝ, 0 < e ∧ eps = (e : EReal) := by
  refine ⟨8796093 * (2 ^ 43)⁻¹, by positivity, ?_⟩
  unfold eps
  simp [Ideal.ofBits, Ideal.ieee, ← EReal.coe_mul]

theorem minus_half : Ideal.ofBits .f32 0xBF000000#32 = ((-(1 / 2) : ℝ) : EReal) := by
  simp [Ideal.ofBits, Ideal.ieee, ← EReal.coe_mul]; norm_num

theorem thousand : Ideal.ofBits .f32 0x44800000#32 = ((1024 : ℝ) : EReal) := by
  simp [Ideal.ofBits, Ideal.ieee, ← EReal.coe_mul]; norm_num

theorem fivehundred : Ideal.ofBits .f32 0x44000000#32 = ((512 : ℝ) : EReal) := by
  simp [Ideal.ofBits, Ideal.ieee, ← EReal.coe_mul]; norm_num

theorem mul_sum_pos {r : ℝ} (hr : 0 < r) (n : ℕ) (f : ℕ → EReal) :
    (∑ j ∈ Finset.range n, (r : EReal) * f j) = r * ∑ j ∈ Finset.range n, f j := by
  induction n with
  | zero => simp
  | succ n ih =>
    rw [Finset.sum_range_succ, Finset.sum_range_succ, ih,
      EReal.left_distrib_of_nonneg_of_ne_top (by exact_mod_cast hr.le) (EReal.coe_ne_top r)]

theorem mul_sub_pos {r : ℝ} (hr : 0 < r) (a b : EReal) : (r : EReal) * (a - b) = a * r + -(b * r) := by
  rw [sub_eq_add_neg, EReal.left_distrib_of_nonneg_of_ne_top (by exact_mod_cast hr.le) (EReal.coe_ne_top r), mul_comm,
    mul_comm (r : EReal) (-b), EReal.neg_mul]

/-- A real multiple of any number, twice. -/
theorem twice (s : EReal) (c : ℝ) : s * (c : EReal) + s * (c : EReal) = s * ((c + c : ℝ) : EReal) := by
  rcases lt_trichotomy c 0 with h | h | h
  · induction s with
    | coe r => norm_cast; ring
    | top => rw [EReal.top_mul_coe_of_neg h, EReal.top_mul_coe_of_neg (by linarith)]; rfl
    | bot => rw [EReal.bot_mul_coe_of_neg h, EReal.bot_mul_coe_of_neg (by linarith)]; rfl
  · subst h; simp
  · induction s with
    | coe r => norm_cast; ring
    | top => rw [EReal.top_mul_coe_of_pos h, EReal.top_mul_coe_of_pos (by linarith)]; rfl
    | bot => rw [EReal.bot_mul_coe_of_pos h, EReal.bot_mul_coe_of_pos (by linarith)]; rfl

theorem square_nonneg (x : EReal) : 0 ≤ x * x := by
  induction x with
  | coe r => exact_mod_cast mul_self_nonneg r
  | top => exact le_top
  | bot => exact le_top

/-- The mean square of a row, with `eps` added: a positive real number, or infinite; of a row of real numbers the
former. -/
theorem mean {W : ℝ} (hW : 0 < W) (n : ℕ) (x : ℕ → EReal) :
    (∃ v : ℝ, 0 < v ∧ Ideal.div (∑ k ∈ Finset.range n, x k * x k) (W : EReal) + eps = (v : EReal))
        ∧ (∀ k, k < n → IsReal (x k))
      ∨ Ideal.div (∑ k ∈ Finset.range n, x k * x k) (W : EReal) + eps = ⊤ := by
  obtain ⟨e, he, hE⟩ := eps_real
  have h0 : 0 ≤ ∑ k ∈ Finset.range n, x k * x k := Finset.sum_nonneg fun k _ => square_nonneg _
  have hle : ∀ k, k < n → x k * x k ≤ ∑ k ∈ Finset.range n, x k * x k := fun k hk =>
    Finset.single_le_sum (f := fun k => x k * x k) (fun k _ => square_nonneg _) (Finset.mem_range.mpr hk)
  rw [Ideal.div_coe hW.ne', hE]
  generalize (∑ k ∈ Finset.range n, x k * x k) = s at h0 hle ⊢
  have hw : (0 : ℝ) < 1 / W := by positivity
  induction s with
  | bot => exact absurd h0 (by simp)
  | top => exact .inr (by rw [EReal.top_mul_coe_of_pos hw]; rfl)
  | coe s =>
    have h0' : (0 : ℝ) ≤ s := by exact_mod_cast h0
    refine .inl ⟨⟨s * (1 / W) + e, by positivity, by rw [EReal.coe_add, EReal.coe_mul]⟩, fun k hk => ?_⟩
    have h := hle k hk
    generalize x k = y at h
    induction y with
    | coe r => exact ⟨r, rfl⟩
    | top => exact absurd h (by simp)
    | bot => exact absurd h (by simp)

/-- The two forms of the gradient. -/
theorem back {W : ℝ} (hW : 0 < W) (n : ℕ) (x y : ℕ → EReal) (k : ℕ) (hk : k < n) :
    inv (W : EReal) n x * (y k - x k * inv (W : EReal) n x * Ideal.div (∑ j ∈ Finset.range n, x j * inv (W : EReal) n x * y j) (W : EReal))
      = y k * inv (W : EReal) n x
        + x k * Ideal.div ((∑ j ∈ Finset.range n, x j * y j) * (Ideal.ofBits .f32 0xBF000000#32 * Ideal.div (inv (W : EReal) n x) (Ideal.div (∑ k ∈ Finset.range n, x k * x k) (W : EReal) + eps))) (W : EReal)
        + Ideal.div ((∑ j ∈ Finset.range n, x j * y j) * (Ideal.ofBits .f32 0xBF000000#32 * Ideal.div (inv (W : EReal) n x) (Ideal.div (∑ k ∈ Finset.range n, x k * x k) (W : EReal) + eps))) (W : EReal) * x k := by
  rw [minus_half]
  rcases mean hW n x with ⟨⟨v, hv, e⟩, hx⟩ | e
  · have hr : inv (W : EReal) n x = (((√v)⁻¹ : ℝ) : EReal) := by
      unfold inv
      rw [e, Ideal.rsqrt_coe, if_neg (not_lt.mpr hv.le), if_neg hv.ne']
    have hu : 0 < (√v)⁻¹ := inv_pos.mpr (Real.sqrt_pos.mpr hv)
    have hsq : (√v)⁻¹ * (√v)⁻¹ = 1 / v := by rw [← mul_inv, Real.mul_self_sqrt hv.le, one_div]
    rw [hr, e]
    generalize (√v)⁻¹ = u at hu hsq ⊢
    rw [Finset.sum_congr rfl fun j _ => by rw [mul_comm (x j), mul_assoc], mul_sum_pos hu n (fun j => x j * y j)]
    generalize (∑ j ∈ Finset.range n, x j * y j) = s
    obtain ⟨p, hp⟩ := hx k hk
    rw [mul_sub_pos hu, hp, add_assoc]
    simp only [Ideal.div_coe hW.ne', Ideal.div_coe hv.ne']
    congr 1
    have hl : (p : EReal) * u * (u * s * ((1 / W : ℝ) : EReal)) * u = s * ((p * u * u * (1 / W) * u : ℝ) : EReal) := by
      simp only [EReal.coe_mul]; ac_rfl
    have hm : s * (((-(1 / 2) : ℝ) : EReal) * (u * ((1 / v : ℝ) : EReal))) * ((1 / W : ℝ) : EReal) * p
        = s * ((-(1 / 2) * (u * (1 / v)) * (1 / W) * p : ℝ) : EReal) := by
      simp only [EReal.coe_mul]; ac_rfl
    rw [hl, mul_comm (p : EReal), hm, twice, mul_comm s, ← EReal.neg_mul, mul_comm s, ← EReal.coe_neg, ← hsq]
    congr 2
    ring
  · have hr : inv (W : EReal) n x = 0 := by unfold inv; rw [e, Ideal.rsqrt_top]
    have hd : Ideal.div 0 ⊤ = 0 := by rw [Ideal.div, if_neg (by simp)]; simp
    rw [hr, e, hd]
    simp only [mul_zero, zero_mul, Ideal.div_coe hW.ne', add_zero]

end Cert.Norm

end

end
-- ==== Proof.UpBackSpec.lean ====
/-
  The backward pass of the up-projection, over natural-number coordinates: the gradients of the projection, of the
  residual stream and of the small parameters, token by token.
-/
module

public import proofs.«01_k».proof.Proof.Cell
public import proofs.«01_k».proof.Proof.NormBack

@[expose] public section

noncomputable section

namespace Cert.UpBack

open Idealize.ShloMosaic

/-- What the pass is given, token by token: the residual stream and the attention's output added to it, the
    modulation, the norm's weights, the projection, the convolution's taps, and the three gradients. -/
structure Args where
  x : ℕ → ℕ → EReal
  mix : ℕ → ℕ → EReal
  mod : ℕ → ℕ → ℕ → EReal
  g : ℕ → EReal
  w : ℕ → ℕ → EReal
  tap : ℕ → ℕ → EReal
  dval : ℕ → ℕ → EReal
  dgc : ℕ → ℕ → EReal
  dx : ℕ → ℕ → EReal

/-- One thousand and twenty-four, as a number of the programs' type. -/
def width : EReal := Ideal.ofBits .f32 0x44800000#32

namespace Args
variable (A : Args)

/-- The residual stream after the attention. -/
def stream (t k : ℕ) : EReal := A.x t k + A.mod (t / 2048) 2 k * A.mix t k

/-- One over the stream's root mean square. -/
def inv (t : ℕ) : EReal := Norm.inv width 1024 (A.stream t)

/-- The normalised stream. -/
def unit (t k : ℕ) : EReal := A.stream t k * A.inv t

def weighted (t k : ℕ) : EReal := A.unit t k * A.g k

def scale (t k : ℕ) : EReal := 1 + A.mod (t / 2048) 4 k

def hidden (t k : ℕ) : EReal := A.weighted t k * A.scale t k + A.mod (t / 2048) 3 k

/-- The second half of the projection, which the convolution takes. -/
def gt (t f : ℕ) : EReal := ∑ k ∈ Finset.range 1024, A.hidden t k * A.w (2816 + f) k

/-- The convolution's gradient one token later in the sequence, and one earlier: zero past its ends. -/
def next (t f : ℕ) : EReal := if t % 2048 = 2047 then 0 else A.dgc (t + 1) f
def prev (t f : ℕ) : EReal := if t % 2048 = 0 then 0 else A.dgc (t - 1) f

/-- The gradient of the projection's second half. -/
def dgt (t f : ℕ) : EReal := A.next t f * A.tap 0 f + A.dgc t f * A.tap 1 f + A.prev t f * A.tap 2 f

/-- The projection's gradient. -/
def du (t j : ℕ) : EReal := if j < 2816 then A.dval t j else A.dgt t (j - 2816)

/-- The hidden state's gradient. -/
def dh (t k : ℕ) : EReal := ∑ j ∈ Finset.range 5632, A.du t j * A.w j k

/-- The normalised stream's gradient. -/
def dunit (t k : ℕ) : EReal := A.dh t k * A.g k * A.scale t k

/-- The stream's gradient. -/
def dstream (t k : ℕ) : EReal :=
  A.dx t k + A.inv t * (A.dunit t k - A.unit t k * Ideal.div (∑ j ∈ Finset.range 1024, A.unit t j * A.dunit t j) width)

def dmix (t k : ℕ) : EReal := A.mod (t / 2048) 2 k * A.dstream t k

/-- The summands of the small parameters' gradients: the norm's weights'; a sequence's shift's, scale's and gate's;
    the three taps'. -/
def gterm (j t k : ℕ) : EReal := if j = 0 then A.dh t k * A.scale t k * A.unit t k else 0

def bterm (j t k : ℕ) : EReal :=
  if j = 0 then A.dh t k else if j = 1 then A.dh t k * A.weighted t k else if j = 2 then A.dstream t k * A.mix t k else 0

def cterm (j t f : ℕ) : EReal :=
  if j = 1 then A.next t f * A.gt t f else if j = 2 then A.dgc t f * A.gt t f else if j = 3 then A.prev t f * A.gt t f else 0

end Args

end Cert.UpBack

end

end
-- ==== Proof.UpBackStep.lean ====
/-
  One step of the up-projection's backward kernel: what it stores in each of its results, given its blocks.
-/
module

public import proofs.«01_k».proof.Defs
public import proofs.«01_k».proof.Proof.Cell
public import proofs.«01_k».proof.Proof.Rows
public import proofs.«01_k».proof.Proof.NormBack
public import proofs.«01_k».proof.Proof.Gen.Kernel8Ideal.Value
public import Idealize.ShloMosaic.Lib.Pointwise
public import Idealize.ShloMosaic.Lib.Tactic

@[expose] public section

set_option maxRecDepth 16384

noncomputable section

namespace Cert.Kernel8Ideal.Value

open Cert.Kernel8Ideal Cert.Kernel8Ideal.Gen Cert.Cell Cert.Rows
open Idealize.ShloMosaic Idealize.ShloMosaic.TcCoe Idealize.SL.Sem

theorem hz : (![0, 0] : Fin 2 → Nat) = fun _ => 0 := funext fun a => by fin_cases a <;> rfl

section
variable {F : FTy → Type} [FloatOps F]

/-- The gradients one token earlier. -/
def before (i : grid0.Coords) (x0 : Vec F S256x2816 .bf16) (x1 : Vec F S8x2816 .bf16) : FVec F S256x2816 .f32 :=
  k0_pay3 i x0 (View.ld x1 (Rect.unit ![7, 0] ![1, 2816] inb_S8x2816_S1x2816_7_0))

/-- The gradients one token later. -/
def after (i : grid0.Coords) (x0 : Vec F S256x2816 .bf16) (x2 : Vec F S8x2816 .bf16) : FVec F S256x2816 .f32 :=
  k0_pay4 i x0 (View.ld x2 (Rect.unit ![0, 0] ![1, 2816] inb_S8x2816_S1x2816_0_0))

/-- The first two taps' part of the convolution's gradient. -/
def taps (i : grid0.Coords) (x0 : Vec F S256x2816 .bf16) (x2 : Vec F S8x2816 .bf16) (x5 : Vec F S3x2816 .f32) : FVec F S256x2816 .f32 :=
  k0_pay11 (k0_pay2 x0) (after i x0 x2) (View.ld x5 (Rect.unit ![0, 0] ![1, 2816] inb_S3x2816_S1x2816_0_0)) (View.ld x5 (Rect.unit ![1, 0] ![1, 2816] inb_S3x2816_S1x2816_1_0))

/-- The projection's gradient. -/
def duB (i : grid0.Coords) (x0 : Vec F S256x2816 .bf16) (x1 x2 : Vec F S8x2816 .bf16) (x3 : Vec F S256x2816 .bf16) (x5 : Vec F S3x2816 .f32) : FVec F S256x5632 .bf16 :=
  k0_pay12 (before i x0 x1) (taps i x0 x2 x5) (View.ld x5 (Rect.unit ![2, 0] ![1, 2816] inb_S3x2816_S1x2816_2_0)) x3

/-- The hidden state's gradient. -/
def dhB (i : grid0.Coords) (x0 : Vec F S256x2816 .bf16) (x1 x2 : Vec F S8x2816 .bf16) (x3 : Vec F S256x2816 .bf16) (x5 : Vec F S3x2816 .f32) (x6 : Vec F S5632x1024 .bf16) : FVec F S256x1024 .f32 :=
  k0_pay13 (before i x0 x1) (taps i x0 x2 x5) (View.ld x5 (Rect.unit ![2, 0] ![1, 2816] inb_S3x2816_S1x2816_2_0)) x3 x6

/-- The normalised row's gradient. -/
def gyB (i : grid0.Coords) (x0 : Vec F S256x2816 .bf16) (x1 x2 : Vec F S8x2816 .bf16) (x3 : Vec F S256x2816 .bf16) (x5 : Vec F S3x2816 .f32) (x6 : Vec F S5632x1024 .bf16) (x8 : Vec F S1x6x1024 .f32) (x9 : Vec F S1x1024 .f32) : FVec F S256x1024 .f32 :=
  k0_pay19 (before i x0 x1) (taps i x0 x2 x5) (View.ld x5 (Rect.unit ![2, 0] ![1, 2816] inb_S3x2816_S1x2816_2_0)) x3 x6 (View.ld x8 (Rect.unit ![0, 4, 0] ![1, 1, 1024] inb_S1x6x1024_S1x1x1024_0_4_0)) x9

/-- Its projection on the row. -/
def alongB (i : grid0.Coords) (x0 : Vec F S256x2816 .bf16) (x1 x2 : Vec F S8x2816 .bf16) (x3 : Vec F S256x2816 .bf16) (x5 : Vec F S3x2816 .f32) (x6 : Vec F S5632x1024 .bf16) (x7 : Vec F S256x1024 .f32) (x8 : Vec F S1x6x1024 .f32) (x9 : Vec F S1x1024 .f32) : FVec F S256 .f32 :=
  k0_pay20 (before i x0 x1) (taps i x0 x2 x5) (View.ld x5 (Rect.unit ![2, 0] ![1, 2816] inb_S3x2816_S1x2816_2_0)) x3 x6 x7 (View.ld x8 (Rect.unit ![0, 4, 0] ![1, 1, 1024] inb_S1x6x1024_S1x1x1024_0_4_0)) x9

/-- The residual stream's gradient. -/
def dxB (i : grid0.Coords) (x0 : Vec F S256x2816 .bf16) (x1 x2 : Vec F S8x2816 .bf16) (x3 : Vec F S256x2816 .bf16) (x5 : Vec F S3x2816 .f32) (x6 : Vec F S5632x1024 .bf16) (x7 : Vec F S256x1024 .f32) (x8 : Vec F S1x6x1024 .f32) (x9 : Vec F S1x1024 .f32) (x10 : Vec F S256x1024 .f32) : FVec F S256x1024 .f32 :=
  k0_pay21 (k0_pay15 x7) (k0_pay16 x7) x10 (gyB i x0 x1 x2 x3 x5 x6 x8 x9) (alongB i x0 x1 x2 x3 x5 x6 x7 x8 x9)

/-- The attention output's gradient. -/
def dmixB (i : grid0.Coords) (x0 : Vec F S256x2816 .bf16) (x1 x2 : Vec F S8x2816 .bf16) (x3 : Vec F S256x2816 .bf16) (x5 : Vec F S3x2816 .f32) (x6 : Vec F S5632x1024 .bf16) (x7 : Vec F S256x1024 .f32) (x8 : Vec F S1x6x1024 .f32) (x9 : Vec F S1x1024 .f32) (x10 : Vec F S256x1024 .f32) : FVec F S256x1024 .bf16 :=
  k0_pay22 (k0_pay15 x7) (k0_pay16 x7) x10 (gyB i x0 x1 x2 x3 x5 x6 x8 x9) (alongB i x0 x1 x2 x3 x5 x6 x7 x8 x9) (View.ld x8 (Rect.unit ![0, 2, 0] ![1, 1, 1024] inb_S1x6x1024_S1x1x1024_0_2_0))

section

variable (x0 : Vec F S256x2816 .bf16) (x1 x2 : Vec F S8x2816 .bf16) (x3 x4 : Vec F S256x2816 .bf16) (x5 : Vec F S3x2816 .f32)
  (x6 : Vec F S5632x1024 .bf16) (x7 : Vec F S256x1024 .f32) (x8 : Vec F S1x6x1024 .f32) (x9 : Vec F S1x1024 .f32) (x10 x11 : Vec F S256x1024 .f32)
  (xo15 : Vec F S8x1024 .f32) (xo16 : Vec F S1x8x1024 .f32) (xo17 : Vec F S8x2816 .f32)

theorem du_A (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : cond0_0 i) (hc1 : cond0_1 i) (hc2 : cond0_2 i) :
    out0_A_12 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 = duB i x0 x1 x2 x3 x5 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11)]
  unfold kernelRun0_A
  dsimp only
  sl_unfold_words
  rw [View.canon_unit_zero (S := S256x5632) hz]
  simp only [View.readAt_eq_ld, Memref.IsWhole.read_unread, View.ld_unit_zero (S := S256x1024) hz, View.ld_unit_zero (S := S5632x1024) hz, View.ld_unit_zero (S := S256x2816) hz, View.ld_unit_zero (S := S1x1024) hz]
  rfl

theorem du_B (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : ¬cond0_0 i) (hc1 : ¬cond0_1 i) (hc2 : ¬cond0_2 i) :
    out0_B_12 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo16 xo17 = duB i x0 x1 x2 x3 x5 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo16 xo17)]
  unfold kernelRun0_B
  dsimp only
  sl_unfold_words
  rw [View.canon_unit_zero (S := S256x5632) hz]
  simp only [View.readAt_eq_ld, Memref.IsWhole.read_unread, View.ld_unit_zero (S := S256x1024) hz, View.ld_unit_zero (S := S5632x1024) hz, View.ld_unit_zero (S := S256x2816) hz, View.ld_unit_zero (S := S1x1024) hz]
  rfl

theorem du_C (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : ¬cond0_0 i) (hc1 : ¬cond0_1 i) (hc2 : cond0_2 i) :
    out0_C_12 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo17 = duB i x0 x1 x2 x3 x5 := by
  unfold out0_C_12
  rw [View.read_writes_eq_canon _ _ _ (cover0_C_12 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo17)]
  unfold kernelRun0_C
  dsimp only
  sl_unfold_words
  rw [View.canon_unit_zero (S := S256x5632) hz]
  simp only [View.readAt_eq_ld, Memref.IsWhole.read_unread, View.ld_unit_zero (S := S256x1024) hz, View.ld_unit_zero (S := S5632x1024) hz, View.ld_unit_zero (S := S256x2816) hz, View.ld_unit_zero (S := S1x1024) hz]
  rfl

theorem dx_A (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : cond0_0 i) (hc1 : cond0_1 i) (hc2 : cond0_2 i) :
    out0_A_13 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 = dxB i x0 x1 x2 x3 x5 x6 x7 x8 x9 x10 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11)]
  unfold kernelRun0_A
  dsimp only
  sl_unfold_words
  rw [View.canon_unit_zero (S := S256x1024) hz]
  simp only [View.readAt_eq_ld, Memref.IsWhole.read_unread, View.ld_unit_zero (S := S256x1024) hz, View.ld_unit_zero (S := S5632x1024) hz, View.ld_unit_zero (S := S256x2816) hz, View.ld_unit_zero (S := S1x1024) hz]
  rfl

theorem dx_B (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : ¬cond0_0 i) (hc1 : ¬cond0_1 i) (hc2 : ¬cond0_2 i) :
    out0_B_13 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo16 xo17 = dxB i x0 x1 x2 x3 x5 x6 x7 x8 x9 x10 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo16 xo17)]
  unfold kernelRun0_B
  dsimp only
  sl_unfold_words
  rw [View.canon_unit_zero (S := S256x1024) hz]
  simp only [View.readAt_eq_ld, Memref.IsWhole.read_unread, View.ld_unit_zero (S := S256x1024) hz, View.ld_unit_zero (S := S5632x1024) hz, View.ld_unit_zero (S := S256x2816) hz, View.ld_unit_zero (S := S1x1024) hz]
  rfl

theorem dx_C (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : ¬cond0_0 i) (hc1 : ¬cond0_1 i) (hc2 : cond0_2 i) :
    out0_C_13 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo17 = dxB i x0 x1 x2 x3 x5 x6 x7 x8 x9 x10 := by
  unfold out0_C_13
  rw [View.read_writes_eq_canon _ _ _ (cover0_C_13 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo17)]
  unfold kernelRun0_C
  dsimp only
  sl_unfold_words
  rw [View.canon_unit_zero (S := S256x1024) hz]
  simp only [View.readAt_eq_ld, Memref.IsWhole.read_unread, View.ld_unit_zero (S := S256x1024) hz, View.ld_unit_zero (S := S5632x1024) hz, View.ld_unit_zero (S := S256x2816) hz, View.ld_unit_zero (S := S1x1024) hz]
  rfl

theorem dmix_A (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : cond0_0 i) (hc1 : cond0_1 i) (hc2 : cond0_2 i) :
    out0_A_14 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 = dmixB i x0 x1 x2 x3 x5 x6 x7 x8 x9 x10 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11)]
  unfold kernelRun0_A
  dsimp only
  sl_unfold_words
  rw [View.canon_unit_zero (S := S256x1024) hz]
  simp only [View.readAt_eq_ld, Memref.IsWhole.read_unread, View.ld_unit_zero (S := S256x1024) hz, View.ld_unit_zero (S := S5632x1024) hz, View.ld_unit_zero (S := S256x2816) hz, View.ld_unit_zero (S := S1x1024) hz]
  rfl

theorem dmix_B (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : ¬cond0_0 i) (hc1 : ¬cond0_1 i) (hc2 : ¬cond0_2 i) :
    out0_B_14 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo16 xo17 = dmixB i x0 x1 x2 x3 x5 x6 x7 x8 x9 x10 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo16 xo17)]
  unfold kernelRun0_B
  dsimp only
  sl_unfold_words
  rw [View.canon_unit_zero (S := S256x1024) hz]
  simp only [View.readAt_eq_ld, Memref.IsWhole.read_unread, View.ld_unit_zero (S := S256x1024) hz, View.ld_unit_zero (S := S5632x1024) hz, View.ld_unit_zero (S := S256x2816) hz, View.ld_unit_zero (S := S1x1024) hz]
  rfl

theorem dmix_C (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : ¬cond0_0 i) (hc1 : ¬cond0_1 i) (hc2 : cond0_2 i) :
    out0_C_14 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo17 = dmixB i x0 x1 x2 x3 x5 x6 x7 x8 x9 x10 := by
  unfold out0_C_14
  rw [View.read_writes_eq_canon _ _ _ (cover0_C_14 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo17)]
  unfold kernelRun0_C
  dsimp only
  sl_unfold_words
  rw [View.canon_unit_zero (S := S256x1024) hz]
  simp only [View.readAt_eq_ld, Memref.IsWhole.read_unread, View.ld_unit_zero (S := S256x1024) hz, View.ld_unit_zero (S := S5632x1024) hz, View.ld_unit_zero (S := S256x2816) hz, View.ld_unit_zero (S := S1x1024) hz]
  rfl

end

end

/-! ## The sums over a step's tokens -/

theorem pay7_apply (y : S8x2816.Idx) : (k0_pay7 (F := Ideal) y : EReal) = 0 := by
  unfold k0_pay7
  pointwise []

theorem pay23_apply (y : S8x1024.Idx) : (k0_pay23 (F := Ideal) y : EReal) = 0 := by
  unfold k0_pay23
  pointwise []

theorem pay24_apply (y : S1x8x1024.Idx) : (k0_pay24 (F := Ideal) y : EReal) = 0 := by
  unfold k0_pay24
  pointwise []

theorem pay27_apply (n : FVec Ideal S256x1024 .f32) (v : Vec Ideal S1x1024 .f32) (p : FVec Ideal S256x1024 .f32) (l : Fin 1024) :
    (k0_pay27 n (k0_pay25 v) p (ix2 0 l) : EReal) = (v (ix2 0 l) : EReal) + ∑ r : Fin 256, (p (ix2 r l) : EReal) * n (ix2 r l) := by
  unfold k0_pay27 k0_pay25
  pointwise []

theorem pay28_apply (p : FVec Ideal S256x1024 .f32) (v : Vec Ideal S1x1x1024 .f32) (l : Fin 1024) :
    (k0_pay28 p v (ix3 0 0 l) : EReal) = (v (ix3 0 0 l) : EReal) + ∑ r : Fin 256, (p (ix2 r l) : EReal) := by
  unfold k0_pay28
  pointwise []

theorem pay29_apply (p n : FVec Ideal S256x1024 .f32) (v : Vec Ideal S1x1x1024 .f32) (l : Fin 1024) :
    (k0_pay29 p n v (ix3 0 0 l) : EReal) = (v (ix3 0 0 l) : EReal) + ∑ r : Fin 256, (p (ix2 r l) : EReal) * n (ix2 r l) := by
  unfold k0_pay29
  pointwise []

theorem pay30_apply (p : FVec Ideal S256x1024 .f32) (v : Vec Ideal S1x1x1024 .f32) (x11 : Vec Ideal S256x1024 .f32) (l : Fin 1024) :
    (k0_pay1 (k0_pay30 p v x11) (ix3 0 0 l) : EReal) = (v (ix3 0 0 l) : EReal) + ∑ r : Fin 256, (p (ix2 r l) : EReal) * x11 (ix2 r l) := by
  unfold k0_pay1 k0_pay30
  pointwise []

theorem pay8_apply (p : FVec Ideal S256x2816 .f32) (x4 : Vec Ideal S256x2816 .bf16) (v : Vec Ideal S1x2816 .f32) (l : Fin 2816) :
    (k0_pay8 p (k0_pay5 x4) v (ix2 0 l) : EReal) = (v (ix2 0 l) : EReal) + ∑ r : Fin 256, (p (ix2 r l) : EReal) * x4 (ix2 r l) := by
  unfold k0_pay8 k0_pay6 k0_pay5
  pointwise []

theorem pay9_apply (p : FVec Ideal S256x2816 .f32) (x4 : Vec Ideal S256x2816 .bf16) (v : Vec Ideal S1x2816 .f32) (l : Fin 2816) :
    (k0_pay9 p (k0_pay5 x4) v (ix2 0 l) : EReal) = (v (ix2 0 l) : EReal) + ∑ r : Fin 256, (p (ix2 r l) : EReal) * x4 (ix2 r l) := by
  unfold k0_pay9 k0_pay6 k0_pay5
  pointwise []

theorem pay10_apply (p : FVec Ideal S256x2816 .f32) (x4 : Vec Ideal S256x2816 .bf16) (v : Vec Ideal S1x2816 .f32) (l : Fin 2816) :
    (k0_pay10 p (k0_pay5 x4) v (ix2 0 l) : EReal) = (v (ix2 0 l) : EReal) + ∑ r : Fin 256, (p (ix2 r l) : EReal) * x4 (ix2 r l) := by
  unfold k0_pay10 k0_pay6 k0_pay5
  pointwise []

/-- A step's part of the row of gradients of the norm's weights. -/
def gsum (d : FVec Ideal S256x1024 .f32) (x7 : Vec Ideal S256x1024 .f32) (x8 : Vec Ideal S1x6x1024 .f32) (j : ℕ) (l : Fin 1024) : EReal :=
  if j = 0 then ∑ r : Fin 256, (k0_pay26 d (k0_pay17 (View.ld x8 (Rect.unit ![0, 4, 0] ![1, 1, 1024] inb_S1x6x1024_S1x1x1024_0_4_0))) (ix2 r l) : EReal) * k0_pay16 x7 (ix2 r l) else 0

/-- A step's part of the rows of gradients of a sequence's shift, scale and gate. -/
def bsum (d dx : FVec Ideal S256x1024 .f32) (x7 : Vec Ideal S256x1024 .f32) (x9 : Vec Ideal S1x1024 .f32) (x11 : Vec Ideal S256x1024 .f32) (j : ℕ) (l : Fin 1024) : EReal :=
  if j = 0 then ∑ r : Fin 256, (d (ix2 r l) : EReal)
  else if j = 1 then ∑ r : Fin 256, (d (ix2 r l) : EReal) * k0_pay18 x7 x9 (ix2 r l)
  else if j = 2 then ∑ r : Fin 256, (dx (ix2 r l) : EReal) * x11 (ix2 r l) else 0

/-- A step's part of the rows of gradients of the convolution's taps. -/
def csum (dn dc dp : FVec Ideal S256x2816 .f32) (x4 : Vec Ideal S256x2816 .bf16) (j : ℕ) (l : Fin 2816) : EReal :=
  if j = 1 then ∑ r : Fin 256, (dn (ix2 r l) : EReal) * x4 (ix2 r l)
  else if j = 2 then ∑ r : Fin 256, (dc (ix2 r l) : EReal) * x4 (ix2 r l)
  else if j = 3 then ∑ r : Fin 256, (dp (ix2 r l) : EReal) * x4 (ix2 r l) else 0

theorem ix2_row {n k : ℕ} {α : Type} (x : (⟨2, ![n, k]⟩ : Shape).Idx → α) {o : ℕ} {j : Fin n} (h : j.val = o) (ho : o < n) (l : Fin k) : x (ix2 ⟨o, ho⟩ l) = x (ix2 j l) := by
  subst h; rfl

theorem ix3_row {n k : ℕ} {α : Type} (x : (⟨3, ![1, n, k]⟩ : Shape).Idx → α) {o : ℕ} {j : Fin n} (h : j.val = o) (ho : o < n) (l : Fin k) : x (ix3 ⟨0, Nat.one_pos⟩ ⟨o, ho⟩ l) = x (ix3 0 j l) := by
  subst h; rfl

/-- A sum added to an entry. -/
theorem plus {a a' b b' : EReal} (h : a = a') (h' : b = b') : a + b = a' + b' := by rw [h, h']

section

variable (x0 : Vec Ideal S256x2816 .bf16) (x1 x2 : Vec Ideal S8x2816 .bf16) (x3 x4 : Vec Ideal S256x2816 .bf16) (x5 : Vec Ideal S3x2816 .f32)
  (x6 : Vec Ideal S5632x1024 .bf16) (x7 : Vec Ideal S256x1024 .f32) (x8 : Vec Ideal S1x6x1024 .f32) (x9 : Vec Ideal S1x1024 .f32) (x10 x11 : Vec Ideal S256x1024 .f32)
  (xo15 : Vec Ideal S8x1024 .f32) (xo16 : Vec Ideal S1x8x1024 .f32) (xo17 : Vec Ideal S8x2816 .f32)

theorem gstat_A (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : cond0_0 i) (hc1 : cond0_1 i) (hc2 : cond0_2 i) (j : Fin 8) (l : Fin 1024) :
    (out0_A_15 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 (ix2 j l) : EReal) = gsum (dhB i x0 x1 x2 x3 x5 x6) x7 x8 j.val l := by
  unfold out0_A_15
  unfold kernelRun0_A
  dsimp only
  sl_unfold_words
  simp only [View.readAt_eq_ld, Memref.IsWhole.read_unread, View.ld_unit_zero (S := S256x1024) hz, View.ld_unit_zero (S := S5632x1024) hz, View.ld_unit_zero (S := S256x2816) hz, View.ld_unit_zero (S := S1x1024) hz]
  unfold gsum
  by_cases h : j.val = 0
  · rw [if_pos h]
    refine (row_stored _ _ _ _ _ _ _ h).trans ((pay27_apply _ _ _ l).trans ?_)
    exact (plus ((cov_all a16.view _ _ _ _ _).trans (pay23_apply _)) rfl).trans (zero_add _)
  · rw [if_neg h, row_kept _ _ _ _ _ _ _ h, all_stored]
    exact pay23_apply _

theorem cstat_A (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : cond0_0 i) (hc1 : cond0_1 i) (hc2 : cond0_2 i) (j : Fin 8) (l : Fin 2816) :
    (out0_A_17 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 (ix2 j l) : EReal) = csum (after i x0 x2) (k0_pay2 x0) (before i x0 x1) x4 j.val l := by
  unfold out0_A_17
  unfold kernelRun0_A
  dsimp only
  sl_unfold_words
  simp only [View.readAt_eq_ld, Memref.IsWhole.read_unread, View.ld_unit_zero (S := S256x1024) hz, View.ld_unit_zero (S := S5632x1024) hz, View.ld_unit_zero (S := S256x2816) hz, View.ld_unit_zero (S := S1x1024) hz]
  unfold csum
  by_cases h3 : j.val = 3
  · rw [if_neg (by omega), if_neg (by omega), if_pos h3]
    refine (row_stored _ _ _ _ _ _ _ h3).trans ((pay10_apply _ _ _ l).trans ?_)
    refine (plus ((cov_kept a18.view _ _ _ _ _ _ _ (by omega)).trans ((cov_kept a18.view _ _ _ _ _ _ _ (by omega)).trans ((cov_all a18.view _ _ _ _ _).trans (pay7_apply _)))) rfl).trans (zero_add _)
  rw [row_kept _ _ _ _ _ _ _ h3]
  by_cases h2 : j.val = 2
  · rw [if_neg (by omega), if_pos h2]
    refine (row_stored _ _ _ _ _ _ _ h2).trans ((pay9_apply _ _ _ l).trans ?_)
    refine (plus ((cov_kept a18.view _ _ _ _ _ _ _ (by omega)).trans ((cov_all a18.view _ _ _ _ _).trans (pay7_apply _))) rfl).trans (zero_add _)
  rw [row_kept _ _ _ _ _ _ _ h2]
  by_cases h1 : j.val = 1
  · rw [if_pos h1]
    refine (row_stored _ _ _ _ _ _ _ h1).trans ((pay8_apply _ _ _ l).trans ?_)
    refine (plus ((cov_all a18.view _ _ _ _ _).trans (pay7_apply _)) rfl).trans (zero_add _)
  rw [if_neg h1, if_neg h2, if_neg h3, row_kept _ _ _ _ _ _ _ h1, all_stored]
  exact pay7_apply _

theorem bstat_A (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : cond0_0 i) (hc1 : cond0_1 i) (hc2 : cond0_2 i) (j : Fin 8) (l : Fin 1024) :
    (out0_A_16 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 (ix3 0 j l) : EReal) = bsum (dhB i x0 x1 x2 x3 x5 x6) (dxB i x0 x1 x2 x3 x5 x6 x7 x8 x9 x10) x7 x9 x11 j.val l := by
  unfold out0_A_16
  unfold kernelRun0_A
  dsimp only
  sl_unfold_words
  simp only [View.readAt_eq_ld, Memref.IsWhole.read_unread, View.ld_unit_zero (S := S256x1024) hz, View.ld_unit_zero (S := S5632x1024) hz, View.ld_unit_zero (S := S256x2816) hz, View.ld_unit_zero (S := S1x1024) hz]
  unfold bsum
  by_cases h2 : j.val = 2
  · rw [if_neg (by omega), if_neg (by omega), if_pos h2]
    refine (row_stored3 _ _ _ _ _ _ _ h2).trans ((pay30_apply _ _ _ l).trans ?_)
    refine (plus ((cov_kept3 a17.view _ _ _ _ _ _ _ (by omega)).trans ((cov_kept3 a17.view _ _ _ _ _ _ _ (by omega)).trans ((cov_all3 a17.view _ _ _ _ _).trans (pay24_apply _)))) rfl).trans (zero_add _)
  rw [row_kept3 _ _ _ _ _ _ _ h2]
  by_cases h1 : j.val = 1
  · rw [if_neg (by omega), if_pos h1]
    refine (row_stored3 _ _ _ _ _ _ _ h1).trans ((pay29_apply _ _ _ l).trans ?_)
    refine (plus ((cov_kept3 a17.view _ _ _ _ _ _ _ (by omega)).trans ((cov_all3 a17.view _ _ _ _ _).trans (pay24_apply _))) rfl).trans (zero_add _)
  rw [row_kept3 _ _ _ _ _ _ _ h1]
  by_cases h0 : j.val = 0
  · rw [if_pos h0]
    refine (row_stored3 _ _ _ _ _ _ _ h0).trans ((pay28_apply _ _ l).trans ?_)
    refine (plus ((cov_all3 a17.view _ _ _ _ _).trans (pay24_apply _)) rfl).trans (zero_add _)
  rw [if_neg h0, if_neg h1, if_neg h2, row_kept3 _ _ _ _ _ _ _ h0, all_stored3]
  exact pay24_apply _

theorem gstat_B (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : ¬cond0_0 i) (hc1 : ¬cond0_1 i) (hc2 : ¬cond0_2 i) (j : Fin 8) (l : Fin 1024) :
    (out0_B_15 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo16 xo17 (ix2 j l) : EReal) = (xo15 (ix2 j l) : EReal) + gsum (dhB i x0 x1 x2 x3 x5 x6) x7 x8 j.val l := by
  unfold out0_B_15
  unfold kernelRun0_B
  dsimp only
  sl_unfold_words
  simp only [View.readAt_eq_ld, Memref.IsWhole.read_unread, View.ld_unit_zero (S := S256x1024) hz, View.ld_unit_zero (S := S5632x1024) hz, View.ld_unit_zero (S := S256x2816) hz, View.ld_unit_zero (S := S1x1024) hz]
  unfold gsum
  by_cases h : j.val = 0
  · rw [if_pos h]
    refine (row_stored _ _ _ _ _ _ _ h).trans ((pay27_apply _ _ _ l).trans ?_)
    exact plus ((ld_row xo15 _ _ (by omega) _).trans (ix2_row xo15 h _ _)) rfl
  · rw [if_neg h, row_kept _ _ _ _ _ _ _ h, View.writes_nil, h16.read_unread, add_zero]

theorem cstat_B (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : ¬cond0_0 i) (hc1 : ¬cond0_1 i) (hc2 : ¬cond0_2 i) (j : Fin 8) (l : Fin 2816) :
    (out0_B_17 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo16 xo17 (ix2 j l) : EReal) = (xo17 (ix2 j l) : EReal) + csum (after i x0 x2) (k0_pay2 x0) (before i x0 x1) x4 j.val l := by
  unfold out0_B_17
  unfold kernelRun0_B
  dsimp only
  sl_unfold_words
  simp only [View.readAt_eq_ld, Memref.IsWhole.read_unread, View.ld_unit_zero (S := S256x1024) hz, View.ld_unit_zero (S := S5632x1024) hz, View.ld_unit_zero (S := S256x2816) hz, View.ld_unit_zero (S := S1x1024) hz]
  unfold csum
  by_cases h3 : j.val = 3
  · rw [if_neg (by omega), if_neg (by omega), if_pos h3]
    refine (row_stored _ _ _ _ _ _ _ h3).trans ((pay10_apply _ _ _ l).trans ?_)
    exact plus ((ld_row xo17 _ _ (by omega) _).trans (ix2_row xo17 h3 _ _)) rfl
  rw [row_kept _ _ _ _ _ _ _ h3]
  by_cases h2 : j.val = 2
  · rw [if_neg (by omega), if_pos h2]
    refine (row_stored _ _ _ _ _ _ _ h2).trans ((pay9_apply _ _ _ l).trans ?_)
    exact plus ((ld_row xo17 _ _ (by omega) _).trans (ix2_row xo17 h2 _ _)) rfl
  rw [row_kept _ _ _ _ _ _ _ h2]
  by_cases h1 : j.val = 1
  · rw [if_pos h1]
    refine (row_stored _ _ _ _ _ _ _ h1).trans ((pay8_apply _ _ _ l).trans ?_)
    exact plus ((ld_row xo17 _ _ (by omega) _).trans (ix2_row xo17 h1 _ _)) rfl
  rw [if_neg h1, if_neg h2, if_neg h3, row_kept _ _ _ _ _ _ _ h1, View.writes_nil, h18.read_unread, add_zero]

theorem bstat_B (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : ¬cond0_0 i) (hc1 : ¬cond0_1 i) (hc2 : ¬cond0_2 i) (j : Fin 8) (l : Fin 1024) :
    (out0_B_16 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo16 xo17 (ix3 0 j l) : EReal) = (xo16 (ix3 0 j l) : EReal) + bsum (dhB i x0 x1 x2 x3 x5 x6) (dxB i x0 x1 x2 x3 x5 x6 x7 x8 x9 x10) x7 x9 x11 j.val l := by
  unfold out0_B_16
  unfold kernelRun0_B
  dsimp only
  sl_unfold_words
  simp only [View.readAt_eq_ld, Memref.IsWhole.read_unread, View.ld_unit_zero (S := S256x1024) hz, View.ld_unit_zero (S := S5632x1024) hz, View.ld_unit_zero (S := S256x2816) hz, View.ld_unit_zero (S := S1x1024) hz]
  unfold bsum
  by_cases h2 : j.val = 2
  · rw [if_neg (by omega), if_neg (by omega), if_pos h2]
    refine (row_stored3 _ _ _ _ _ _ _ h2).trans ((pay30_apply _ _ _ l).trans ?_)
    exact plus ((ld_row3 xo16 _ _ Nat.one_pos (by omega) _).trans (ix3_row xo16 h2 _ _)) rfl
  rw [row_kept3 _ _ _ _ _ _ _ h2]
  by_cases h1 : j.val = 1
  · rw [if_neg (by omega), if_pos h1]
    refine (row_stored3 _ _ _ _ _ _ _ h1).trans ((pay29_apply _ _ _ l).trans ?_)
    exact plus ((ld_row3 xo16 _ _ Nat.one_pos (by omega) _).trans (ix3_row xo16 h1 _ _)) rfl
  rw [row_kept3 _ _ _ _ _ _ _ h1]
  by_cases h0 : j.val = 0
  · rw [if_pos h0]
    refine (row_stored3 _ _ _ _ _ _ _ h0).trans ((pay28_apply _ _ l).trans ?_)
    exact plus ((ld_row3 xo16 _ _ Nat.one_pos (by omega) _).trans (ix3_row xo16 h0 _ _)) rfl
  rw [if_neg h0, if_neg h1, if_neg h2, row_kept3 _ _ _ _ _ _ _ h0, View.writes_nil, h17.read_unread, add_zero]

theorem gstat_C (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : ¬cond0_0 i) (hc1 : ¬cond0_1 i) (hc2 : cond0_2 i) (j : Fin 8) (l : Fin 1024) :
    (out0_C_15 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo17 (ix2 j l) : EReal) = (xo15 (ix2 j l) : EReal) + gsum (dhB i x0 x1 x2 x3 x5 x6) x7 x8 j.val l := by
  unfold out0_C_15
  unfold kernelRun0_C
  dsimp only
  sl_unfold_words
  simp only [View.readAt_eq_ld, Memref.IsWhole.read_unread, View.ld_unit_zero (S := S256x1024) hz, View.ld_unit_zero (S := S5632x1024) hz, View.ld_unit_zero (S := S256x2816) hz, View.ld_unit_zero (S := S1x1024) hz]
  unfold gsum
  by_cases h : j.val = 0
  · rw [if_pos h]
    refine (row_stored _ _ _ _ _ _ _ h).trans ((pay27_apply _ _ _ l).trans ?_)
    exact plus ((ld_row xo15 _ _ (by omega) _).trans (ix2_row xo15 h _ _)) rfl
  · rw [if_neg h, row_kept _ _ _ _ _ _ _ h, View.writes_nil, h16.read_unread, add_zero]

theorem cstat_C (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : ¬cond0_0 i) (hc1 : ¬cond0_1 i) (hc2 : cond0_2 i) (j : Fin 8) (l : Fin 2816) :
    (out0_C_17 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo17 (ix2 j l) : EReal) = (xo17 (ix2 j l) : EReal) + csum (after i x0 x2) (k0_pay2 x0) (before i x0 x1) x4 j.val l := by
  unfold out0_C_17
  unfold kernelRun0_C
  dsimp only
  sl_unfold_words
  simp only [View.readAt_eq_ld, Memref.IsWhole.read_unread, View.ld_unit_zero (S := S256x1024) hz, View.ld_unit_zero (S := S5632x1024) hz, View.ld_unit_zero (S := S256x2816) hz, View.ld_unit_zero (S := S1x1024) hz]
  unfold csum
  by_cases h3 : j.val = 3
  · rw [if_neg (by omega), if_neg (by omega), if_pos h3]
    refine (row_stored _ _ _ _ _ _ _ h3).trans ((pay10_apply _ _ _ l).trans ?_)
    exact plus ((ld_row xo17 _ _ (by omega) _).trans (ix2_row xo17 h3 _ _)) rfl
  rw [row_kept _ _ _ _ _ _ _ h3]
  by_cases h2 : j.val = 2
  · rw [if_neg (by omega), if_pos h2]
    refine (row_stored _ _ _ _ _ _ _ h2).trans ((pay9_apply _ _ _ l).trans ?_)
    exact plus ((ld_row xo17 _ _ (by omega) _).trans (ix2_row xo17 h2 _ _)) rfl
  rw [row_kept _ _ _ _ _ _ _ h2]
  by_cases h1 : j.val = 1
  · rw [if_pos h1]
    refine (row_stored _ _ _ _ _ _ _ h1).trans ((pay8_apply _ _ _ l).trans ?_)
    exact plus ((ld_row xo17 _ _ (by omega) _).trans (ix2_row xo17 h1 _ _)) rfl
  rw [if_neg h1, if_neg h2, if_neg h3, row_kept _ _ _ _ _ _ _ h1, View.writes_nil, h18.read_unread, add_zero]

theorem bstat_C (c : Dev nD) (i : grid0.Coords) (a1 h1 a2 h2 a3 h3 a4 h4 a5 h5 a6 h6 a7 h7 a8 h8 a9 h9 a10 h10 a11 h11 a12 h12 a13 h13 a14 h14 a15 h15 a16 h16 a17 h17 a18 h18) (hc0 : ¬cond0_0 i) (hc1 : ¬cond0_1 i) (hc2 : cond0_2 i) (j : Fin 8) (l : Fin 1024) :
    (out0_C_16 c i a1 h1 a2 h2 a3 h3 a4 h4 a5 h5 a6 h6 a7 h7 a8 h8 a9 h9 a10 h10 a11 h11 a12 h12 a13 h13 a14 h14 a15 h15 a16 h16 a17 h17 a18 h18 hc0 hc1 hc2 x0 x1 x2 x3 x4 x5 x6 x7 x8 x9 x10 x11 xo15 xo17 (ix3 0 j l) : EReal) = bsum (dhB i x0 x1 x2 x3 x5 x6) (dxB i x0 x1 x2 x3 x5 x6 x7 x8 x9 x10) x7 x9 x11 j.val l := by
  unfold out0_C_16
  unfold kernelRun0_C
  dsimp only
  sl_unfold_words
  simp only [View.readAt_eq_ld, Memref.IsWhole.read_unread, View.ld_unit_zero (S := S256x1024) hz, View.ld_unit_zero (S := S5632x1024) hz, View.ld_unit_zero (S := S256x2816) hz, View.ld_unit_zero (S := S1x1024) hz]
  unfold bsum
  by_cases h2 : j.val = 2
  · rw [if_neg (by omega), if_neg (by omega), if_pos h2]
    refine (row_stored3 _ _ _ _ _ _ _ h2).trans ((pay30_apply _ _ _ l).trans ?_)
    refine (plus ((cov_kept3 a17.view _ _ _ _ _ _ _ (by omega)).trans ((cov_kept3 a17.view _ _ _ _ _ _ _ (by omega)).trans ((cov_all3 a17.view _ _ _ _ _).trans (pay24_apply _)))) rfl).trans (zero_add _)
  rw [row_kept3 _ _ _ _ _ _ _ h2]
  by_cases h1 : j.val = 1
  · rw [if_neg (by omega), if_pos h1]
    refine (row_stored3 _ _ _ _ _ _ _ h1).trans ((pay29_apply _ _ _ l).trans ?_)
    refine (plus ((cov_kept3 a17.view _ _ _ _ _ _ _ (by omega)).trans ((cov_all3 a17.view _ _ _ _ _).trans (pay24_apply _))) rfl).trans (zero_add _)
  rw [row_kept3 _ _ _ _ _ _ _ h1]
  by_cases h0 : j.val = 0
  · rw [if_pos h0]
    refine (row_stored3 _ _ _ _ _ _ _ h0).trans ((pay28_apply _ _ l).trans ?_)
    refine (plus ((cov_all3 a17.view _ _ _ _ _).trans (pay24_apply _)) rfl).trans (zero_add _)
  rw [if_neg h0, if_neg h1, if_neg h2, row_kept3 _ _ _ _ _ _ _ h0, all_stored3]
  exact pay24_apply _

end

/-! ## What a step computes, entry by entry -/

/-- A tile's place in its sequence, as the step computes it. -/
def place (n : ℕ) : BitVec 32 :=
  Scalar.select
    (Scalar.andi (Scalar.xori (Scalar.cmpi .slt (Scalar.remsi (BitVec.ofNat 32 n) (Scalar.select (Scalar.cmpi .eq 8#32 0#32) 1#32 8#32)) 0#32) (Scalar.cmpi .slt (Scalar.select (Scalar.cmpi .eq 8#32 0#32) 1#32 8#32) 0#32))
      (Scalar.cmpi .ne (Scalar.remsi (BitVec.ofNat 32 n) (Scalar.select (Scalar.cmpi .eq 8#32 0#32) 1#32 8#32)) 0#32))
    (Scalar.addi (Scalar.remsi (BitVec.ofNat 32 n) (Scalar.select (Scalar.cmpi .eq 8#32 0#32) 1#32 8#32)) (Scalar.select (Scalar.cmpi .eq 8#32 0#32) 1#32 8#32))
    (Scalar.remsi (BitVec.ofNat 32 n) (Scalar.select (Scalar.cmpi .eq 8#32 0#32) 1#32 8#32))

theorem not_first : ∀ n : Fin 16, Scalar.cmpi .sgt (place n.val) 0#32 = if n.val % 8 = 0 then 0#1 else 1#1 := by
  decide +kernel

theorem not_last : ∀ n : Fin 16, Scalar.cmpi .slt (place n.val) 7#32 = if n.val % 8 = 7 then 0#1 else 1#1 := by
  decide +kernel

theorem row_first : ∀ r : Fin 256, IntOp.cmpi .eq (BitVec.ofNat 32 r.val) 0#32 = if r.val = 0 then 1#1 else 0#1 := by
  decide +kernel

theorem row_last : ∀ r : Fin 256, IntOp.cmpi .eq (BitVec.ofNat 32 r.val) 255#32 = if r.val = 255 then 1#1 else 0#1 := by
  decide +kernel

theorem pay2_apply (x0 : Vec Ideal S256x2816 .bf16) (y : S256x2816.Idx) : (k0_pay2 (F := Ideal) x0 y : EReal) = x0 y := by
  unfold k0_pay2
  rfl

theorem before_apply (i : grid0.Coords) (x0 : Vec Ideal S256x2816 .bf16) (x1 : Vec Ideal S8x2816 .bf16) (r : Fin 256) (l : Fin 2816) :
    (before i x0 x1 (ix2 r l) : EReal) = if r.val = 0 then (if (i 0).val % 8 = 0 then 0 else x1 (ix2 7 l)) else x0 (ix2 ⟨(r.val + 256 - 1) % 256, Nat.mod_lt _ (by norm_num)⟩ l) := by
  have e : (before i x0 x1 (ix2 r l) : EReal) = Scalar.select (IntOp.cmpi .eq (BitVec.ofNat 32 r.val) 0#32)
      (Scalar.select (Scalar.cmpi .sgt (place (i 0).val) 0#32) (x1 (ix2 7 l) : EReal) 0) (k0_pay2 x0 (ix2 ⟨(r.val + 256 - 1) % 256, Nat.mod_lt _ (by norm_num)⟩ l)) := by
    unfold before k0_pay3
    pointwise []
    rfl
  rw [e, row_first r, not_first (i 0), pay2_apply]
  by_cases h : r.val = 0
  · rw [if_pos h, if_pos h]
    by_cases h' : (i 0).val % 8 = 0
    · rw [if_pos h', if_pos h']; rfl
    · rw [if_neg h', if_neg h']; rfl
  · rw [if_neg h, if_neg h]; rfl

theorem after_apply (i : grid0.Coords) (x0 : Vec Ideal S256x2816 .bf16) (x2 : Vec Ideal S8x2816 .bf16) (r : Fin 256) (l : Fin 2816) :
    (after i x0 x2 (ix2 r l) : EReal) = if r.val = 255 then (if (i 0).val % 8 = 7 then 0 else x2 (ix2 0 l)) else x0 (ix2 ⟨(r.val + 256 - 255) % 256, Nat.mod_lt _ (by norm_num)⟩ l) := by
  have e : (after i x0 x2 (ix2 r l) : EReal) = Scalar.select (IntOp.cmpi .eq (BitVec.ofNat 32 r.val) 255#32)
      (Scalar.select (Scalar.cmpi .slt (place (i 0).val) 7#32) (x2 (ix2 0 l) : EReal) 0) (k0_pay2 x0 (ix2 ⟨(r.val + 256 - 255) % 256, Nat.mod_lt _ (by norm_num)⟩ l)) := by
    unfold after k0_pay4
    pointwise []
    rfl
  rw [e, row_last r, not_last (i 0), pay2_apply]
  by_cases h : r.val = 255
  · rw [if_pos h, if_pos h]
    by_cases h' : (i 0).val % 8 = 7
    · rw [if_pos h', if_pos h']; rfl
    · rw [if_neg h', if_neg h']; rfl
  · rw [if_neg h, if_neg h]; rfl

theorem du_left (i : grid0.Coords) (x0 : Vec Ideal S256x2816 .bf16) (x1 x2 : Vec Ideal S8x2816 .bf16) (x3 : Vec Ideal S256x2816 .bf16) (x5 : Vec Ideal S3x2816 .f32) (r : Fin 256) (j : Fin 5632) (h : j.val < 2816) :
    (duB i x0 x1 x2 x3 x5 (ix2 r j) : EReal) = x3 (ix2 r ⟨j.val, h⟩) := by
  unfold duB k0_pay12
  refine (concatenate_pair_apply_left 1 _ _ concatenates_S256x2816_S256x2816_S256x5632_d1 (ix2 r j) rfl (ix2 r ⟨j.val, h⟩) (fun b => match b with | ⟨0, _⟩ => rfl | ⟨1, _⟩ => rfl)).trans ?_
  rfl

theorem du_right (i : grid0.Coords) (x0 : Vec Ideal S256x2816 .bf16) (x1 x2 : Vec Ideal S8x2816 .bf16) (x3 : Vec Ideal S256x2816 .bf16) (x5 : Vec Ideal S3x2816 .f32) (r : Fin 256) (j : Fin 5632) (f : Fin 2816) (h : j.val = 2816 + f.val) :
    (duB i x0 x1 x2 x3 x5 (ix2 r j) : EReal) = (after i x0 x2 (ix2 r f) : EReal) * x5 (ix2 0 f) + (x0 (ix2 r f) : EReal) * x5 (ix2 1 f) + (before i x0 x1 (ix2 r f) : EReal) * x5 (ix2 2 f) := by
  unfold duB k0_pay12
  refine (concatenate_pair_apply_right 1 _ _ concatenates_S256x2816_S256x2816_S256x5632_d1 (ix2 r j) rfl rfl (ix2 r f) (fun b hb => match b, hb with | ⟨0, _⟩, _ => rfl | ⟨1, _⟩, hb => absurd rfl hb) (by show f.val + 2816 = j.val; omega)).trans ?_
  unfold taps k0_pay11
  generalize before i x0 x1 = p
  generalize after i x0 x2 = n
  rw [← pay2_apply x0]
  generalize k0_pay2 x0 = d
  pointwise []

theorem dh_apply (i : grid0.Coords) (x0 : Vec Ideal S256x2816 .bf16) (x1 x2 : Vec Ideal S8x2816 .bf16) (x3 : Vec Ideal S256x2816 .bf16) (x5 : Vec Ideal S3x2816 .f32) (x6 : Vec Ideal S5632x1024 .bf16) (r : Fin 256) (k : Fin 1024) :
    (dhB i x0 x1 x2 x3 x5 x6 (ix2 r k) : EReal) = ∑ j : Fin 5632, (duB i x0 x1 x2 x3 x5 (ix2 r j) : EReal) * x6 (ix2 j k) := by
  unfold dhB k0_pay13 duB
  generalize k0_pay12 (F := Ideal) _ _ _ _ = u
  pointwise []

/-- One over a row's root mean square. -/
def rinv (x7 : Vec Ideal S256x1024 .f32) (r : Fin 256) : EReal :=
  Ideal.rsqrt (Ideal.div (∑ k : Fin 1024, (x7 (ix2 r k) : EReal) * x7 (ix2 r k)) (Ideal.ofBits .f32 0x44800000#32) + Norm.eps)

theorem pay15_apply (x7 : Vec Ideal S256x1024 .f32) (r : Fin 256) : (k0_pay15 x7 (ix2 r 0) : EReal) = rinv x7 r := by
  unfold k0_pay15 k0_pay14
  pointwise []
  rfl

theorem pay16_apply (x7 : Vec Ideal S256x1024 .f32) (r : Fin 256) (k : Fin 1024) : (k0_pay16 x7 (ix2 r k) : EReal) = (x7 (ix2 r k) : EReal) * rinv x7 r := by
  rw [← pay15_apply]
  unfold k0_pay16 k0_pay14
  generalize k0_pay15 x7 = q
  pointwise []

theorem pay18_apply (x7 : Vec Ideal S256x1024 .f32) (x9 : Vec Ideal S1x1024 .f32) (r : Fin 256) (k : Fin 1024) : (k0_pay18 x7 x9 (ix2 r k) : EReal) = (x7 (ix2 r k) : EReal) * rinv x7 r * x9 (ix2 0 k) := by
  rw [← pay16_apply]
  unfold k0_pay18
  generalize k0_pay16 x7 = q
  pointwise []

theorem pay26_apply (d : FVec Ideal S256x1024 .f32) (x8 : Vec Ideal S1x6x1024 .f32) (r : Fin 256) (k : Fin 1024) :
    (k0_pay26 d (k0_pay17 (View.ld x8 (Rect.unit ![0, 4, 0] ![1, 1, 1024] inb_S1x6x1024_S1x1x1024_0_4_0))) (ix2 r k) : EReal) = (d (ix2 r k) : EReal) * (1 + (x8 (ix3 0 4 k) : EReal)) := by
  unfold k0_pay26 k0_pay17
  pointwise []

theorem gy_apply (i : grid0.Coords) (x0 : Vec Ideal S256x2816 .bf16) (x1 x2 : Vec Ideal S8x2816 .bf16) (x3 : Vec Ideal S256x2816 .bf16) (x5 : Vec Ideal S3x2816 .f32) (x6 : Vec Ideal S5632x1024 .bf16) (x8 : Vec Ideal S1x6x1024 .f32) (x9 : Vec Ideal S1x1024 .f32) (r : Fin 256) (k : Fin 1024) :
    (gyB i x0 x1 x2 x3 x5 x6 x8 x9 (ix2 r k) : EReal) = (dhB i x0 x1 x2 x3 x5 x6 (ix2 r k) : EReal) * x9 (ix2 0 k) * (1 + (x8 (ix3 0 4 k) : EReal)) := by
  unfold gyB k0_pay19 dhB k0_pay17
  generalize k0_pay13 (F := Ideal) _ _ _ _ _ = d
  pointwise []

theorem along_apply (i : grid0.Coords) (x0 : Vec Ideal S256x2816 .bf16) (x1 x2 : Vec Ideal S8x2816 .bf16) (x3 : Vec Ideal S256x2816 .bf16) (x5 : Vec Ideal S3x2816 .f32) (x6 : Vec Ideal S5632x1024 .bf16) (x7 : Vec Ideal S256x1024 .f32) (x8 : Vec Ideal S1x6x1024 .f32) (x9 : Vec Ideal S1x1024 .f32) (r : Fin 256) :
    (alongB i x0 x1 x2 x3 x5 x6 x7 x8 x9 (ix1 r) : EReal) = ∑ k : Fin 1024, (k0_pay16 x7 (ix2 r k) : EReal) * gyB i x0 x1 x2 x3 x5 x6 x8 x9 (ix2 r k) := by
  unfold alongB k0_pay20 gyB
  generalize k0_pay19 (F := Ideal) _ _ _ _ _ _ _ = y
  generalize k0_pay16 x7 = q
  pointwise []

theorem dx_apply (i : grid0.Coords) (x0 : Vec Ideal S256x2816 .bf16) (x1 x2 : Vec Ideal S8x2816 .bf16) (x3 : Vec Ideal S256x2816 .bf16) (x5 : Vec Ideal S3x2816 .f32) (x6 : Vec Ideal S5632x1024 .bf16) (x7 : Vec Ideal S256x1024 .f32) (x8 : Vec Ideal S1x6x1024 .f32) (x9 : Vec Ideal S1x1024 .f32) (x10 : Vec Ideal S256x1024 .f32) (r : Fin 256) (k : Fin 1024) :
    (dxB i x0 x1 x2 x3 x5 x6 x7 x8 x9 x10 (ix2 r k) : EReal) = (x10 (ix2 r k) : EReal) + rinv x7 r * ((gyB i x0 x1 x2 x3 x5 x6 x8 x9 (ix2 r k) : EReal)
      - (x7 (ix2 r k) : EReal) * rinv x7 r * Ideal.div (∑ j : Fin 1024, (x7 (ix2 r j) : EReal) * rinv x7 r * gyB i x0 x1 x2 x3 x5 x6 x8 x9 (ix2 r j)) (Ideal.ofBits .f32 0x44800000#32)) := by
  have e : (dxB i x0 x1 x2 x3 x5 x6 x7 x8 x9 x10 (ix2 r k) : EReal) = (x10 (ix2 r k) : EReal) + (k0_pay15 x7 (ix2 r 0) : EReal) * ((gyB i x0 x1 x2 x3 x5 x6 x8 x9 (ix2 r k) : EReal)
      - (k0_pay16 x7 (ix2 r k) : EReal) * Ideal.div (alongB i x0 x1 x2 x3 x5 x6 x7 x8 x9 (ix1 r)) (Ideal.ofBits .f32 0x44800000#32)) := by
    unfold dxB k0_pay21
    generalize gyB (F := Ideal) _ _ _ _ _ _ _ _ _ = y
    generalize alongB (F := Ideal) _ _ _ _ _ _ _ _ _ _ = a
    generalize k0_pay16 x7 = q
    generalize k0_pay15 x7 = q'
    pointwise []
  rw [e, along_apply, pay15_apply, pay16_apply]
  simp only [pay16_apply]

theorem dmix_apply (i : grid0.Coords) (x0 : Vec Ideal S256x2816 .bf16) (x1 x2 : Vec Ideal S8x2816 .bf16) (x3 : Vec Ideal S256x2816 .bf16) (x5 : Vec Ideal S3x2816 .f32) (x6 : Vec Ideal S5632x1024 .bf16) (x7 : Vec Ideal S256x1024 .f32) (x8 : Vec Ideal S1x6x1024 .f32) (x9 : Vec Ideal S1x1024 .f32) (x10 : Vec Ideal S256x1024 .f32) (r : Fin 256) (k : Fin 1024) :
    (dmixB i x0 x1 x2 x3 x5 x6 x7 x8 x9 x10 (ix2 r k) : EReal) = (x8 (ix3 0 2 k) : EReal) * dxB i x0 x1 x2 x3 x5 x6 x7 x8 x9 x10 (ix2 r k) := by
  unfold dmixB k0_pay22 dxB
  generalize k0_pay21 (F := Ideal) _ _ _ _ _ = p
  pointwise []

end Cert.Kernel8Ideal.Value

end

end
-- ==== Proof.UpBackHost.lean ====
/-
  What the up-projection's backward kernel is given besides its arguments: the residual stream after the attention and
  the second half of the projection, computed before the call.
-/
module

public import proofs.«01_k».proof.Proof.UpBackSpec
public import proofs.«01_k».proof.Proof.UpBackStep

@[expose] public section

set_option maxRecDepth 16384

noncomputable section

namespace Cert.Kernel8Ideal.Value

open Cert.Kernel8Ideal Cert.Kernel8Ideal.Gen Cert.Cell Cert.Rows
open Idealize.ShloMosaic Idealize.ShloMosaic.TcCoe Idealize.SL.Sem

section Entry
variable {F : FTy → Type} [FloatOps F] (mm : (ℓ : Loc nD τ Cert.Kernel8Ideal.sig) → Buf (Elt F) ℓ)

def streamH (x mix : FVec F S4096x1024 .f32) (mod : FVec F S2x6x1024 .f32) : FVec F S2x2048x1024 .f32 :=
  addf (shapeCast S2x2048x1024 x shapeCasts_S4096x1024_S2x2048x1024)
    (mulf (broadcastInDim S2x2048x1024 ![0, 1, 2] bcast_S2x1x1024_S2x2048x1024_0_1_2 (extractStridedSlice S2x1x1024 ![0, 2, 0] mod slices_S2x6x1024_S2x1x1024_0_2_0))
      (shapeCast S2x2048x1024 mix shapeCasts_S4096x1024_S2x2048x1024))

def invH (s : FVec F S2x2048x1024 .f32) : FVec F S2x2048x1 .f32 :=
  Host.rsqrt (addf (Host.divf (broadcastInDim S2x2048x1 ![0, 1] bcast_S2x2048_S2x2048x1_0_1 (Host.reduceAdd (mulf s s) (constant S_ .f32 0x00000000#32) reducesTo_S2x2048x1024_S2x2048_d2 h_S_))
      (broadcastInDim S2x2048x1 ![] bcast_S_S2x2048x1 (constant S_ .f32 0x44800000#32)))
    (broadcastInDim S2x2048x1 ![] bcast_S_S2x2048x1 (constant S_ .f32 0x358637BD#32)))

def hiddenH (s : FVec F S2x2048x1024 .f32) (mod : FVec F S2x6x1024 .f32) (g : FVec F S1x1024 .f32) : FVec F S2x2048x1024 .f32 :=
  addf (mulf (mulf (mulf s (broadcastInDim S2x2048x1024 ![0, 1, 2] bcast_S2x2048x1_S2x2048x1024_0_1_2 (invH s)))
      (broadcastInDim S2x2048x1024 ![0, 1, 2] bcast_S1x1x1024_S2x2048x1024_0_1_2 (broadcastInDim S1x1x1024 ![2] bcast_S1024_S1x1x1024_2 (shapeCast S1024 g shapeCasts_S1x1024_S1024))))
      (broadcastInDim S2x2048x1024 ![0, 1, 2] bcast_S2x1x1024_S2x2048x1024_0_1_2 (addf (broadcastInDim S2x1x1024 ![] bcast_S_S2x1x1024 (constant S_ .f32 0x3F800000#32)) (extractStridedSlice S2x1x1024 ![0, 4, 0] mod slices_S2x6x1024_S2x1x1024_0_4_0))))
    (broadcastInDim S2x2048x1024 ![0, 1, 2] bcast_S2x1x1024_S2x2048x1024_0_1_2 (extractStridedSlice S2x1x1024 ![0, 3, 0] mod slices_S2x6x1024_S2x1x1024_0_3_0))

def gtH (h : FVec F S2x2048x1024 .f32) (w : FVec F S5632x1024 .bf16) : FVec F S2x2048x2816 .f32 :=
  Host.dotGeneral dot_S2x2048x1024_S1024x2816_S2x2048x2816_2_0_01_1_n_n none h
    (transpose S1024x2816 [1, 0] (extf .f32 (extractStridedSlice S2816x1024 ![2816, 0] w slices_S5632x1024_S2816x1024_2816_0) bitsLt_bf16_f32) transposes_S2816x1024_S1024x2816_1_0)

theorem V_main_v34 (c : Dev nD) : V mm c main_v34
    = (shapeCast S4096x1024 (streamH (mm ((c : Thread nD τ).loc main_arg0)) (mm ((c : Thread nD τ).loc main_arg1)) (mm ((c : Thread nD τ).loc main_arg2))) shapeCasts_S2x2048x1024_S4096x1024 : FVec F S4096x1024 .f32) := by
  show StableHlo.after hostOps0 _ (Proc.devRef .tc main_v34) = _
  after_results
  rfl

theorem V_main_v33 (c : Dev nD) : V mm c main_v33
    = (truncf .bf16 (shapeCast S4096x2816 (gtH (hiddenH (streamH (mm ((c : Thread nD τ).loc main_arg0)) (mm ((c : Thread nD τ).loc main_arg1)) (mm ((c : Thread nD τ).loc main_arg2))) (mm ((c : Thread nD τ).loc main_arg2)) (mm ((c : Thread nD τ).loc main_arg3))) (mm ((c : Thread nD τ).loc main_arg4))) shapeCasts_S2x2048x2816_S4096x2816) bitsLt_bf16_f32 : FVec F S4096x2816 .bf16) := by
  show StableHlo.after hostOps0 _ (Proc.devRef .tc main_v33) = _
  after_results
  rfl

end Entry

/-- The program's arguments, token by token. -/
def args (x0 x1 : (⟨S4096x1024, .f32⟩ : BufTy).Contents (Elt Ideal)) (x2 : (⟨S2x6x1024, .f32⟩ : BufTy).Contents (Elt Ideal)) (x3 : (⟨S1x1024, .f32⟩ : BufTy).Contents (Elt Ideal))
    (x4 : (⟨S5632x1024, .bf16⟩ : BufTy).Contents (Elt Ideal)) (x5 : (⟨S3x2816, .f32⟩ : BufTy).Contents (Elt Ideal)) (x6 x7 : (⟨S4096x2816, .bf16⟩ : BufTy).Contents (Elt Ideal)) (x8 : (⟨S4096x1024, .f32⟩ : BufTy).Contents (Elt Ideal)) : UpBack.Args where
  x := cell (n := 4096) (k := 1024) (α := EReal) x0
  mix := cell (n := 4096) (k := 1024) (α := EReal) x1
  mod := cell3 (p := 2) (n := 6) (k := 1024) (α := EReal) x2
  g := cell (n := 1) (k := 1024) (α := EReal) x3 0
  w := cell (n := 5632) (k := 1024) (α := EReal) x4
  tap := cell (n := 3) (k := 2816) (α := EReal) x5
  dval := cell (n := 4096) (k := 2816) (α := EReal) x6
  dgc := cell (n := 4096) (k := 2816) (α := EReal) x7
  dx := cell (n := 4096) (k := 1024) (α := EReal) x8

section
variable (x0 x1 : FVec Ideal S4096x1024 .f32) (x2 : FVec Ideal S2x6x1024 .f32) (x3 : FVec Ideal S1x1024 .f32)
    (x4 : FVec Ideal S5632x1024 .bf16) (x5 : FVec Ideal S3x2816 .f32) (x6 x7 : FVec Ideal S4096x2816 .bf16) (x8 : FVec Ideal S4096x1024 .f32)

theorem streamH_apply (b : Fin 2) (s : Fin 2048) (k : Fin 1024) :
    (streamH x0 x1 x2 (ix3 b s k) : EReal) = (args x0 x1 x2 x3 x4 x5 x6 x7 x8).stream (2048 * b.val + s.val) k.val := by
  have e : (streamH x0 x1 x2 (ix3 b s k) : EReal) = (x0 (ix2 ⟨b.val * 2048 + s.val, by omega⟩ k) : EReal) + (x2 (ix3 b 2 k) : EReal) * x1 (ix2 ⟨b.val * 2048 + s.val, by omega⟩ k) := by
    unfold streamH
    pointwise []
  have hq : (2048 * b.val + s.val) / 2048 = b.val := by omega
  rw [e]
  unfold UpBack.Args.stream
  rw [hq]
  exact congrArg₂ (fun a b : EReal => a + b) (cell_eq (n := 4096) (k := 1024) (α := EReal) x0 _ (by show b.val * 2048 + s.val = _; omega) rfl)
    (congrArg₂ (fun a b : EReal => a * b) (cell3_eq (p := 2) (n := 6) (k := 1024) (α := EReal) x2 _ rfl rfl rfl) (cell_eq (n := 4096) (k := 1024) (α := EReal) x1 _ (by show b.val * 2048 + s.val = _; omega) rfl))

theorem invH_apply (v : FVec Ideal S2x2048x1024 .f32) (b : Fin 2) (s : Fin 2048) :
    (invH v (ix3 b s 0) : EReal) = Ideal.rsqrt (Ideal.div (∑ k : Fin 1024, (v (ix3 b s k) : EReal) * v (ix3 b s k)) UpBack.width + Norm.eps) := by
  unfold invH
  pointwise []
  rfl

theorem hiddenH_apply (v : FVec Ideal S2x2048x1024 .f32) (b : Fin 2) (s : Fin 2048) (k : Fin 1024) :
    (hiddenH v x2 x3 (ix3 b s k) : EReal) = (v (ix3 b s k) : EReal) * invH v (ix3 b s 0) * x3 (ix2 0 k) * (1 + (x2 (ix3 b 4 k) : EReal)) + x2 (ix3 b 3 k) := by
  unfold hiddenH
  generalize invH v = r
  pointwise []

theorem gtH_apply (v : FVec Ideal S2x2048x1024 .f32) (b : Fin 2) (s : Fin 2048) (f : Fin 2816) :
    (gtH v x4 (ix3 b s f) : EReal) = ∑ k : Fin 1024, (v (ix3 b s k) : EReal) * x4 (ix2 ⟨2816 + f.val, by omega⟩ k) := by
  unfold gtH
  pointwise []

theorem hidden_stream (b : Fin 2) (s : Fin 2048) (k : Fin 1024) :
    (hiddenH (streamH x0 x1 x2) x2 x3 (ix3 b s k) : EReal) = (args x0 x1 x2 x3 x4 x5 x6 x7 x8).hidden (2048 * b.val + s.val) k.val := by
  have hq : (2048 * b.val + s.val) / 2048 = b.val := by omega
  have hr : Ideal.rsqrt (Ideal.div (∑ k : Fin 1024, (streamH x0 x1 x2 (ix3 b s k) : EReal) * streamH x0 x1 x2 (ix3 b s k)) UpBack.width + Norm.eps) = (args x0 x1 x2 x3 x4 x5 x6 x7 x8).inv (2048 * b.val + s.val) := by
    unfold UpBack.Args.inv Norm.inv
    rw [← Fin.sum_univ_eq_sum_range (fun k => (args x0 x1 x2 x3 x4 x5 x6 x7 x8).stream (2048 * b.val + s.val) k * (args x0 x1 x2 x3 x4 x5 x6 x7 x8).stream (2048 * b.val + s.val) k) 1024]
    simp only [streamH_apply x0 x1 x2 x3 x4 x5 x6 x7 x8]
  rw [hiddenH_apply, invH_apply, hr, streamH_apply x0 x1 x2 x3 x4 x5 x6 x7 x8]
  unfold UpBack.Args.hidden UpBack.Args.weighted UpBack.Args.unit UpBack.Args.scale
  rw [hq]
  exact congrArg₂ (fun a b : EReal => a + b) (congrArg₂ (fun a b : EReal => a * b) (congrArg (fun b : EReal => _ * b) (cell_eq (n := 1) (k := 1024) (α := EReal) x3 _ rfl rfl))
    (congrArg (fun b : EReal => 1 + b) (cell3_eq (p := 2) (n := 6) (k := 1024) (α := EReal) x2 _ rfl rfl rfl))) (cell3_eq (p := 2) (n := 6) (k := 1024) (α := EReal) x2 _ rfl rfl rfl)

theorem gt_stream (b : Fin 2) (s : Fin 2048) (f : Fin 2816) :
    (gtH (hiddenH (streamH x0 x1 x2) x2 x3) x4 (ix3 b s f) : EReal) = (args x0 x1 x2 x3 x4 x5 x6 x7 x8).gt (2048 * b.val + s.val) f.val := by
  rw [gtH_apply]
  unfold UpBack.Args.gt
  rw [← Fin.sum_univ_eq_sum_range (fun k => (args x0 x1 x2 x3 x4 x5 x6 x7 x8).hidden (2048 * b.val + s.val) k * (args x0 x1 x2 x3 x4 x5 x6 x7 x8).w (2816 + f.val) k) 1024]
  exact Finset.sum_congr rfl fun k _ => congrArg₂ (fun a b : EReal => a * b) (hidden_stream x0 x1 x2 x3 x4 x5 x6 x7 x8 b s k) (cell_eq (n := 5632) (k := 1024) (α := EReal) x4 _ rfl rfl)

theorem flat_stream (t : Fin 4096) (k : Fin 1024) :
    (shapeCast S4096x1024 (streamH x0 x1 x2) shapeCasts_S2x2048x1024_S4096x1024 (ix2 t k) : EReal) = (args x0 x1 x2 x3 x4 x5 x6 x7 x8).stream t.val k.val := by
  have e : (shapeCast S4096x1024 (streamH x0 x1 x2) shapeCasts_S2x2048x1024_S4096x1024 (ix2 t k) : EReal) = streamH x0 x1 x2 (ix3 ⟨t.val / 2048, by omega⟩ ⟨t.val % 2048, by omega⟩ k) := by
    generalize streamH x0 x1 x2 = v
    pointwise []
  rw [e, streamH_apply x0 x1 x2 x3 x4 x5 x6 x7 x8, show 2048 * (t.val / 2048) + t.val % 2048 = t.val by omega]

theorem flat_gt (t : Fin 4096) (f : Fin 2816) :
    (shapeCast S4096x2816 (gtH (hiddenH (streamH x0 x1 x2) x2 x3) x4) shapeCasts_S2x2048x2816_S4096x2816 (ix2 t f) : EReal) = (args x0 x1 x2 x3 x4 x5 x6 x7 x8).gt t.val f.val := by
  have e : (shapeCast S4096x2816 (gtH (hiddenH (streamH x0 x1 x2) x2 x3) x4) shapeCasts_S2x2048x2816_S4096x2816 (ix2 t f) : EReal) = gtH (hiddenH (streamH x0 x1 x2) x2 x3) x4 (ix3 ⟨t.val / 2048, by omega⟩ ⟨t.val % 2048, by omega⟩ f) := by
    generalize gtH (F := Ideal) _ _ = v
    pointwise []
  rw [e, gt_stream x0 x1 x2 x3 x4 x5 x6 x7 x8, show 2048 * (t.val / 2048) + t.val % 2048 = t.val by omega]

end

end Cert.Kernel8Ideal.Value

end

end
-- ==== Proof.UpBackKernel.lean ====
/-
  What the up-projection's backward kernel leaves in its results: the sixteen steps' blocks and sums, in terms of the
  arguments.
-/
module

public import proofs.«01_k».proof.Proof.UpBackHost

@[expose] public section

set_option maxRecDepth 16384

noncomputable section

namespace Cert.Kernel8Ideal.Value

open Cert.Kernel8Ideal Cert.Kernel8Ideal.Gen Cert.Cell Cert.Rows
open Idealize.ShloMosaic Idealize.ShloMosaic.TcCoe Idealize.SL.Sem

variable (m : (ℓ : Loc nD τ Cert.Kernel8Ideal.sig) → Buf (Elt Ideal) ℓ)

/-- The arguments a device's memory holds, token by token. -/
def held (c : Dev nD) : UpBack.Args := args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-! ## A step's blocks -/

theorem coords0 : ∀ t : Fin cfg0.N, (grid0.coords t 0).val = t.val :=
  (by decide +kernel : ∀ t : Fin grid0.N, _)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val * 32 - 1 ∧ win0_1.index t (1 : Fin 2) = 0 :=
  (by decide +kernel : ∀ t : Fin grid0.N, _)
theorem index2 : ∀ t : Fin cfg0.N, win0_2.index t (0 : Fin 2) = min (t.val * 32 + 32) 511 ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)
theorem index8 : ∀ t : Fin cfg0.N, win0_8.index t (0 : Fin 3) = t.val / 8 ∧ win0_8.index t (1 : Fin 3) = 0 ∧ win0_8.index t (2 : Fin 3) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = t.val ∧ win0_10.index t (1 : Fin 2) = 0 :=
  (by decide +kernel : ∀ t : Fin grid0.N, _)
theorem index11 : ∀ t : Fin cfg0.N, win0_11.index t (0 : Fin 2) = t.val ∧ win0_11.index t (1 : Fin 2) = 0 :=
  (by decide +kernel : ∀ t : Fin grid0.N, _)
theorem index12 : ∀ t : Fin cfg0.N, win0_12.index t (0 : Fin 2) = t.val ∧ win0_12.index t (1 : Fin 2) = 0 :=
  (by decide +kernel : ∀ t : Fin grid0.N, _)
theorem index13 : ∀ t : Fin cfg0.N, win0_13.index t (0 : Fin 2) = t.val ∧ win0_13.index t (1 : Fin 2) = 0 :=
  (by decide +kernel : ∀ t : Fin grid0.N, _)
theorem index14 : ∀ t : Fin cfg0.N, win0_14.index t (0 : Fin 2) = t.val ∧ win0_14.index t (1 : Fin 2) = 0 :=
  (by decide +kernel : ∀ t : Fin grid0.N, _)
theorem index15 : ∀ t : Fin cfg0.N, win0_15.index t (0 : Fin 2) = 0 ∧ win0_15.index t (1 : Fin 2) = 0 :=
  (by decide +kernel : ∀ t : Fin grid0.N, _)
theorem index16 : ∀ t : Fin cfg0.N, win0_16.index t (0 : Fin 3) = t.val / 8 ∧ win0_16.index t (1 : Fin 3) = 0 ∧ win0_16.index t (2 : Fin 3) = 0 :=
  (by decide +kernel : ∀ t : Fin grid0.N, _)
theorem index17 : ∀ t : Fin cfg0.N, win0_17.index t (0 : Fin 2) = 0 ∧ win0_17.index t (1 : Fin 2) = 0 :=
  (by decide +kernel : ∀ t : Fin grid0.N, _)

theorem iblk0_apply (c : Dev nD) (t : Fin cfg0.N) (r : Fin 256) (l : Fin 2816) :
    (iblk m c 0 t (ix2 r l) : EReal) = (held m c).dgc (256 * t.val + r.val) l.val :=
  (congrFun (V_main_arg7 m c) _).trans (cell_block (n := 4096) (k := 2816) (α := EReal) (m ((c : Thread nD τ).loc main_arg7)) (((cfg0.win 0).blk t).view.emb (ix2 r l)) (index0 t) rfl rfl)

/-- The token before the step's first one. -/
theorem iblk1_apply (c : Dev nD) (t : Fin cfg0.N) (l : Fin 2816) (h : t.val ≠ 0) :
    (iblk m c 1 t (ix2 7 l) : EReal) = (held m c).dgc (256 * t.val - 1) l.val := by
  obtain ⟨e0, e1⟩ := index1 t
  unfold iblk
  show (V m c main_arg7 (((cfg0.win 1).blk t).view.emb (ix2 7 l)) : EReal) = _
  rw [V_main_arg7]
  refine cell_eq (n := 4096) (k := 2816) (α := EReal) (m ((c : Thread nD τ).loc main_arg7)) _ ?_ ?_
  · show win0_1.index t (0 : Fin 2) * 8 + 1 * 7 = _
    rw [e0]; omega
  · show win0_1.index t (1 : Fin 2) * 2816 + 1 * l.val = _
    rw [e1]; omega

/-- The token after the step's last one. -/
theorem iblk2_apply (c : Dev nD) (t : Fin cfg0.N) (l : Fin 2816) (h : t.val < 15) :
    (iblk m c 2 t (ix2 0 l) : EReal) = (held m c).dgc (256 * t.val + 256) l.val := by
  obtain ⟨e0, e1⟩ := index2 t
  unfold iblk
  show (V m c main_arg7 (((cfg0.win 2).blk t).view.emb (ix2 0 l)) : EReal) = _
  rw [V_main_arg7]
  refine cell_eq (n := 4096) (k := 2816) (α := EReal) (m ((c : Thread nD τ).loc main_arg7)) _ ?_ ?_
  · show win0_2.index t (0 : Fin 2) * 8 + 1 * 0 = _
    rw [e0]; omega
  · show win0_2.index t (1 : Fin 2) * 2816 + 1 * l.val = _
    rw [e1]; omega

theorem iblk3_apply (c : Dev nD) (t : Fin cfg0.N) (r : Fin 256) (l : Fin 2816) :
    (iblk m c 3 t (ix2 r l) : EReal) = (held m c).dval (256 * t.val + r.val) l.val :=
  (congrFun (V_main_arg6 m c) _).trans (cell_block (n := 4096) (k := 2816) (α := EReal) (m ((c : Thread nD τ).loc main_arg6)) (((cfg0.win 3).blk t).view.emb (ix2 r l)) (index3 t) rfl rfl)

theorem iblk5_apply (c : Dev nD) (t : Fin cfg0.N) (r : Fin 3) (l : Fin 2816) :
    (iblk m c 5 t (ix2 r l) : EReal) = (held m c).tap r.val l.val :=
  (congrFun (V_main_arg5 m c) _).trans (cell_whole (n := 3) (k := 2816) (α := EReal) (m ((c : Thread nD τ).loc main_arg5)) (((cfg0.win 5).blk t).view.emb (ix2 r l)) (index5 t) rfl rfl)

theorem iblk6_apply (c : Dev nD) (t : Fin cfg0.N) (r : Fin 5632) (l : Fin 1024) :
    (iblk m c 6 t (ix2 r l) : EReal) = (held m c).w r.val l.val :=
  (congrFun (V_main_arg4 m c) _).trans (cell_whole (n := 5632) (k := 1024) (α := EReal) (m ((c : Thread nD τ).loc main_arg4)) (((cfg0.win 6).blk t).view.emb (ix2 r l)) (index6 t) rfl rfl)

theorem iblk9_apply (c : Dev nD) (t : Fin cfg0.N) (l : Fin 1024) :
    (iblk m c 9 t (ix2 0 l) : EReal) = (held m c).g l.val :=
  (congrFun (V_main_arg3 m c) _).trans (cell_whole (n := 1) (k := 1024) (α := EReal) (m ((c : Thread nD τ).loc main_arg3)) (((cfg0.win 9).blk t).view.emb (ix2 0 l)) (index9 t) rfl rfl)

theorem iblk10_apply (c : Dev nD) (t : Fin cfg0.N) (r : Fin 256) (l : Fin 1024) :
    (iblk m c 10 t (ix2 r l) : EReal) = (held m c).dx (256 * t.val + r.val) l.val :=
  (congrFun (V_main_arg8 m c) _).trans (cell_block (n := 4096) (k := 1024) (α := EReal) (m ((c : Thread nD τ).loc main_arg8)) (((cfg0.win 10).blk t).view.emb (ix2 r l)) (index10 t) rfl rfl)

theorem iblk11_apply (c : Dev nD) (t : Fin cfg0.N) (r : Fin 256) (l : Fin 1024) :
    (iblk m c 11 t (ix2 r l) : EReal) = (held m c).mix (256 * t.val + r.val) l.val :=
  (congrFun (V_main_arg1 m c) _).trans (cell_block (n := 4096) (k := 1024) (α := EReal) (m ((c : Thread nD τ).loc main_arg1)) (((cfg0.win 11).blk t).view.emb (ix2 r l)) (index11 t) rfl rfl)

theorem iblk4_apply (c : Dev nD) (t : Fin cfg0.N) (r : Fin 256) (l : Fin 2816) :
    (iblk m c 4 t (ix2 r l) : EReal) = (held m c).gt (256 * t.val + r.val) l.val := by
  obtain ⟨e0, e1⟩ := index4 t
  have hN : t.val < 16 := t.isLt
  unfold iblk
  show (V m c main_v33 (((cfg0.win 4).blk t).view.emb (ix2 r l)) : EReal) = _
  rw [V_main_v33]
  have h0 : (((cfg0.win 4).blk t).view.emb (ix2 r l) 0).val = 256 * t.val + r.val := by
    show win0_4.index t (0 : Fin 2) * 256 + 1 * r.val = _
    rw [e0]; omega
  have h1 : (((cfg0.win 4).blk t).view.emb (ix2 r l) 1).val = l.val := by
    show win0_4.index t (1 : Fin 2) * 2816 + 1 * l.val = _
    rw [e1]; omega
  rw [show ((cfg0.win 4).blk t).view.emb (ix2 r l) = (ix2 (⟨256 * t.val + r.val, by omega⟩ : Fin 4096) l : S4096x2816.Idx) from funext fun a => Fin.ext (by
    match a with
    | ⟨0, _⟩ => exact h0
    | ⟨1, _⟩ => exact h1)]
  exact flat_gt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨256 * t.val + r.val, by omega⟩ l

theorem iblk7_apply (c : Dev nD) (t : Fin cfg0.N) (r : Fin 256) (l : Fin 1024) :
    (iblk m c 7 t (ix2 r l) : EReal) = (held m c).stream (256 * t.val + r.val) l.val := by
  obtain ⟨e0, e1⟩ := index7 t
  have hN : t.val < 16 := t.isLt
  unfold iblk
  show (V m c main_v34 (((cfg0.win 7).blk t).view.emb (ix2 r l)) : EReal) = _
  rw [V_main_v34]
  have h0 : (((cfg0.win 7).blk t).view.emb (ix2 r l) 0).val = 256 * t.val + r.val := by
    show win0_7.index t (0 : Fin 2) * 256 + 1 * r.val = _
    rw [e0]; omega
  have h1 : (((cfg0.win 7).blk t).view.emb (ix2 r l) 1).val = l.val := by
    show win0_7.index t (1 : Fin 2) * 1024 + 1 * l.val = _
    rw [e1]; omega
  rw [show ((cfg0.win 7).blk t).view.emb (ix2 r l) = (ix2 (⟨256 * t.val + r.val, by omega⟩ : Fin 4096) l : S4096x1024.Idx) from funext fun a => Fin.ext (by
    match a with
    | ⟨0, _⟩ => exact h0
    | ⟨1, _⟩ => exact h1)]
  exact flat_stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨256 * t.val + r.val, by omega⟩ l

theorem iblk8_apply (c : Dev nD) (t : Fin cfg0.N) (r : Fin 6) (l : Fin 1024) :
    (iblk m c 8 t (ix3 0 r l) : EReal) = (held m c).mod (t.val / 8) r.val l.val :=
  (congrFun (V_main_arg2 m c) _).trans (cell3_block (p := 2) (n := 6) (k := 1024) (α := EReal) (m ((c : Thread nD τ).loc main_arg2)) (((cfg0.win 8).blk t).view.emb (ix3 0 r l)) (index8 t) rfl rfl rfl)

/-! ## What a step computes -/

section
variable (c : Dev nD) (t : Fin cfg0.N)

theorem before_step (r : Fin 256) (f : Fin 2816) : (before (grid0.coords t) (iblk m c 0 t) (iblk m c 1 t) (ix2 r f) : EReal) = (held m c).prev (256 * t.val + r.val) f.val := by
  rw [before_apply, coords0]
  unfold UpBack.Args.prev
  by_cases h : r.val = 0
  · rw [if_pos h]
    by_cases h' : t.val % 8 = 0
    · rw [if_pos h', if_pos (by omega)]
    · rw [if_neg h', if_neg (by omega), iblk1_apply m c t f (by omega), h]
      rfl
  · rw [if_neg h, if_neg (by omega), iblk0_apply]
    exact congrArg (fun n => (held m c).dgc n f.val) (by show 256 * t.val + (r.val + 256 - 1) % 256 = _; omega)

theorem after_step (r : Fin 256) (f : Fin 2816) : (after (grid0.coords t) (iblk m c 0 t) (iblk m c 2 t) (ix2 r f) : EReal) = (held m c).next (256 * t.val + r.val) f.val := by
  have hN : t.val < 16 := t.isLt
  rw [after_apply, coords0]
  unfold UpBack.Args.next
  by_cases h : r.val = 255
  · rw [if_pos h]
    by_cases h' : t.val % 8 = 7
    · rw [if_pos h', if_pos (by omega)]
    · rw [if_neg h', if_neg (by omega), iblk2_apply m c t f (by omega), h]
  · rw [if_neg h, if_neg (by omega), iblk0_apply]
    exact congrArg (fun n => (held m c).dgc n f.val) (by show 256 * t.val + (r.val + 256 - 255) % 256 = _; omega)

theorem du_step (r : Fin 256) (j : Fin 5632) :
    (duB (grid0.coords t) (iblk m c 0 t) (iblk m c 1 t) (iblk m c 2 t) (iblk m c 3 t) (iblk m c 5 t) (ix2 r j) : EReal) = (held m c).du (256 * t.val + r.val) j.val := by
  unfold UpBack.Args.du
  by_cases h : j.val < 2816
  · rw [if_pos h, du_left _ _ _ _ _ _ r j h, iblk3_apply]
  · rw [if_neg h, du_right _ _ _ _ _ _ r j ⟨j.val - 2816, by omega⟩ (by show j.val = 2816 + (j.val - 2816); omega), before_step, after_step]
    unfold UpBack.Args.dgt
    rw [iblk0_apply, iblk5_apply, iblk5_apply, iblk5_apply]
    rfl

theorem dh_step (r : Fin 256) (k : Fin 1024) :
    (dhB (grid0.coords t) (iblk m c 0 t) (iblk m c 1 t) (iblk m c 2 t) (iblk m c 3 t) (iblk m c 5 t) (iblk m c 6 t) (ix2 r k) : EReal) = (held m c).dh (256 * t.val + r.val) k.val := by
  rw [dh_apply]
  unfold UpBack.Args.dh
  rw [← Fin.sum_univ_eq_sum_range (fun j => (held m c).du (256 * t.val + r.val) j * (held m c).w j k.val) 5632]
  exact Finset.sum_congr rfl fun j _ => congrArg₂ (fun a b : EReal => a * b) (du_step m c t r j) (iblk6_apply m c t j k)

theorem inv_step (r : Fin 256) : rinv (iblk m c 7 t) r = (held m c).inv (256 * t.val + r.val) := by
  unfold rinv UpBack.Args.inv Norm.inv
  rw [← Fin.sum_univ_eq_sum_range (fun k => (held m c).stream (256 * t.val + r.val) k * (held m c).stream (256 * t.val + r.val) k) 1024]
  simp only [iblk7_apply]
  rfl

theorem mod_batch (r : Fin 256) : t.val / 8 = (256 * t.val + r.val) / 2048 := by omega

theorem dunit_step (r : Fin 256) (k : Fin 1024) :
    (gyB (grid0.coords t) (iblk m c 0 t) (iblk m c 1 t) (iblk m c 2 t) (iblk m c 3 t) (iblk m c 5 t) (iblk m c 6 t) (iblk m c 8 t) (iblk m c 9 t) (ix2 r k) : EReal) = (held m c).dunit (256 * t.val + r.val) k.val := by
  rw [gy_apply, dh_step, iblk8_apply, iblk9_apply, mod_batch t r]
  rfl

theorem dstream_step (r : Fin 256) (k : Fin 1024) :
    (dxB (grid0.coords t) (iblk m c 0 t) (iblk m c 1 t) (iblk m c 2 t) (iblk m c 3 t) (iblk m c 5 t) (iblk m c 6 t) (iblk m c 7 t) (iblk m c 8 t) (iblk m c 9 t) (iblk m c 10 t) (ix2 r k) : EReal) = (held m c).dstream (256 * t.val + r.val) k.val := by
  rw [dx_apply, dunit_step, iblk10_apply, inv_step, iblk7_apply]
  unfold UpBack.Args.dstream
  rw [← Fin.sum_univ_eq_sum_range (fun j => (held m c).unit (256 * t.val + r.val) j * (held m c).dunit (256 * t.val + r.val) j) 1024]
  simp only [iblk7_apply, dunit_step]
  rfl

theorem dmix_step (r : Fin 256) (k : Fin 1024) :
    (dmixB (grid0.coords t) (iblk m c 0 t) (iblk m c 1 t) (iblk m c 2 t) (iblk m c 3 t) (iblk m c 5 t) (iblk m c 6 t) (iblk m c 7 t) (iblk m c 8 t) (iblk m c 9 t) (iblk m c 10 t) (ix2 r k) : EReal) = (held m c).dmix (256 * t.val + r.val) k.val := by
  rw [dmix_apply, dstream_step, iblk8_apply, mod_batch t r]
  rfl

theorem gsum_step (j : Fin 8) (k : Fin 1024) :
    gsum (dhB (grid0.coords t) (iblk m c 0 t) (iblk m c 1 t) (iblk m c 2 t) (iblk m c 3 t) (iblk m c 5 t) (iblk m c 6 t)) (iblk m c 7 t) (iblk m c 8 t) j.val k
      = ∑ r : Fin 256, (held m c).gterm j.val (256 * t.val + r.val) k.val := by
  unfold gsum UpBack.Args.gterm
  by_cases h : j.val = 0
  · simp only [if_pos h]
    refine Finset.sum_congr rfl fun r _ => ?_
    rw [pay26_apply, pay16_apply, dh_step, inv_step, iblk7_apply, iblk8_apply, mod_batch t r]
    rfl
  · simp only [if_neg h, Finset.sum_const_zero]

theorem bsum_step (j : Fin 8) (k : Fin 1024) :
    bsum (dhB (grid0.coords t) (iblk m c 0 t) (iblk m c 1 t) (iblk m c 2 t) (iblk m c 3 t) (iblk m c 5 t) (iblk m c 6 t))
      (dxB (grid0.coords t) (iblk m c 0 t) (iblk m c 1 t) (iblk m c 2 t) (iblk m c 3 t) (iblk m c 5 t) (iblk m c 6 t) (iblk m c 7 t) (iblk m c 8 t) (iblk m c 9 t) (iblk m c 10 t)) (iblk m c 7 t) (iblk m c 9 t) (iblk m c 11 t) j.val k
      = ∑ r : Fin 256, (held m c).bterm j.val (256 * t.val + r.val) k.val := by
  unfold bsum UpBack.Args.bterm
  by_cases h0 : j.val = 0
  · simp only [if_pos h0]
    exact Finset.sum_congr rfl fun r _ => dh_step m c t r k
  simp only [if_neg h0]
  by_cases h1 : j.val = 1
  · simp only [if_pos h1]
    refine Finset.sum_congr rfl fun r _ => ?_
    rw [pay18_apply, dh_step, inv_step, iblk7_apply, iblk9_apply]
    rfl
  simp only [if_neg h1]
  by_cases h2 : j.val = 2
  · simp only [if_pos h2]
    exact Finset.sum_congr rfl fun r _ => congrArg₂ (fun a b : EReal => a * b) (dstream_step m c t r k) (iblk11_apply m c t r k)
  · simp only [if_neg h2, Finset.sum_const_zero]

theorem csum_step (j : Fin 8) (f : Fin 2816) :
    csum (after (grid0.coords t) (iblk m c 0 t) (iblk m c 2 t)) (k0_pay2 (iblk m c 0 t)) (before (grid0.coords t) (iblk m c 0 t) (iblk m c 1 t)) (iblk m c 4 t) j.val f
      = ∑ r : Fin 256, (held m c).cterm j.val (256 * t.val + r.val) f.val := by
  unfold csum UpBack.Args.cterm
  by_cases h1 : j.val = 1
  · simp only [if_pos h1]
    exact Finset.sum_congr rfl fun r _ => congrArg₂ (fun a b : EReal => a * b) (after_step m c t r f) (iblk4_apply m c t r f)
  simp only [if_neg h1]
  by_cases h2 : j.val = 2
  · simp only [if_pos h2]
    exact Finset.sum_congr rfl fun r _ => congrArg₂ (fun a b : EReal => a * b) ((pay2_apply _ _).trans (iblk0_apply m c t r f)) (iblk4_apply m c t r f)
  simp only [if_neg h2]
  by_cases h3 : j.val = 3
  · simp only [if_pos h3]
    exact Finset.sum_congr rfl fun r _ => congrArg₂ (fun a b : EReal => a * b) (before_step m c t r f) (iblk4_apply m c t r f)
  · simp only [if_neg h3, Finset.sum_const_zero]

end

/-! ## What is left after each step -/

theorem outs12 (c : Dev nD) (t : Fin cfg0.N) : (outsAt0 m c t.val t.isLt).1 = duB (grid0.coords t) (iblk m c 0 t) (iblk m c 1 t) (iblk m c 2 t) (iblk m c 3 t) (iblk m c 5 t) := by
  have hN : t.val < 16 := t.isLt
  by_cases h : t.val % 16 = 0
  · rw [outsAt0_A m c t h h (by omega)]
    dsimp only
    rw [du_A]
  by_cases h' : t.val % 8 = 0
  · rw [outsAt0_C m c t h h h']
    dsimp only
    rw [du_C]
  · rw [outsAt0_B m c t h h h']
    dsimp only
    rw [du_B]

theorem outs13 (c : Dev nD) (t : Fin cfg0.N) : (outsAt0 m c t.val t.isLt).2.1 = dxB (grid0.coords t) (iblk m c 0 t) (iblk m c 1 t) (iblk m c 2 t) (iblk m c 3 t) (iblk m c 5 t) (iblk m c 6 t) (iblk m c 7 t) (iblk m c 8 t) (iblk m c 9 t) (iblk m c 10 t) := by
  have hN : t.val < 16 := t.isLt
  by_cases h : t.val % 16 = 0
  · rw [outsAt0_A m c t h h (by omega)]
    dsimp only
    rw [dx_A]
  by_cases h' : t.val % 8 = 0
  · rw [outsAt0_C m c t h h h']
    dsimp only
    rw [dx_C]
  · rw [outsAt0_B m c t h h h']
    dsimp only
    rw [dx_B]

theorem outs14 (c : Dev nD) (t : Fin cfg0.N) : (outsAt0 m c t.val t.isLt).2.2.1 = dmixB (grid0.coords t) (iblk m c 0 t) (iblk m c 1 t) (iblk m c 2 t) (iblk m c 3 t) (iblk m c 5 t) (iblk m c 6 t) (iblk m c 7 t) (iblk m c 8 t) (iblk m c 9 t) (iblk m c 10 t) := by
  have hN : t.val < 16 := t.isLt
  by_cases h : t.val % 16 = 0
  · rw [outsAt0_A m c t h h (by omega)]
    dsimp only
    rw [dmix_A]
  by_cases h' : t.val % 8 = 0
  · rw [outsAt0_C m c t h h h']
    dsimp only
    rw [dmix_C]
  · rw [outsAt0_B m c t h h h']
    dsimp only
    rw [dmix_B]

/-- The sums over the tokens so far. -/
theorem gstat_apply (c : Dev nD) : ∀ (n : ℕ) (hn : n < cfg0.N) (j : Fin 8) (l : Fin 1024),
    ((outsAt0 m c n hn).2.2.2.1 (ix2 j l) : EReal) = ∑ k ∈ Finset.range (256 * n + 256), (held m c).gterm j.val k l.val := by
  intro n
  induction n with
  | zero =>
    intro hn j l
    rw [outsAt0_A m c ⟨0, hn⟩ rfl rfl rfl]
    dsimp only
    rw [gstat_A, gsum_step, ← sum_next 256, Nat.mul_zero, Finset.sum_range_zero, zero_add]
  | succ n ih =>
    intro hn j l
    have hN : n + 1 < 16 := hn
    have h0 : ¬(n + 1) % 16 = 0 := by omega
    by_cases h : (n + 1) % 8 = 0
    · rw [outsAt0_C m c ⟨n + 1, hn⟩ h0 h0 h]
      dsimp only
      rw [gstat_C, gsum_step, ← sum_next 256]
      exact plus (ih (Nat.lt_of_succ_lt hn) j l) rfl
    · rw [outsAt0_B m c ⟨n + 1, hn⟩ h0 h0 h]
      dsimp only
      rw [gstat_B, gsum_step, ← sum_next 256]
      exact plus (ih (Nat.lt_of_succ_lt hn) j l) rfl

/-- The sums over the tokens so far. -/
theorem cstat_apply (c : Dev nD) : ∀ (n : ℕ) (hn : n < cfg0.N) (j : Fin 8) (l : Fin 2816),
    ((outsAt0 m c n hn).2.2.2.2.2 (ix2 j l) : EReal) = ∑ k ∈ Finset.range (256 * n + 256), (held m c).cterm j.val k l.val := by
  intro n
  induction n with
  | zero =>
    intro hn j l
    rw [outsAt0_A m c ⟨0, hn⟩ rfl rfl rfl]
    dsimp only
    rw [cstat_A, csum_step, ← sum_next 256, Nat.mul_zero, Finset.sum_range_zero, zero_add]
  | succ n ih =>
    intro hn j l
    have hN : n + 1 < 16 := hn
    have h0 : ¬(n + 1) % 16 = 0 := by omega
    by_cases h : (n + 1) % 8 = 0
    · rw [outsAt0_C m c ⟨n + 1, hn⟩ h0 h0 h]
      dsimp only
      rw [cstat_C, csum_step, ← sum_next 256]
      exact plus (ih (Nat.lt_of_succ_lt hn) j l) rfl
    · rw [outsAt0_B m c ⟨n + 1, hn⟩ h0 h0 h]
      dsimp only
      rw [cstat_B, csum_step, ← sum_next 256]
      exact plus (ih (Nat.lt_of_succ_lt hn) j l) rfl

/-- The sums over the sequence's tokens so far. -/
theorem bstat_apply (c : Dev nD) : ∀ (n : ℕ) (hn : n < cfg0.N) (j : Fin 8) (l : Fin 1024),
    ((outsAt0 m c n hn).2.2.2.2.1 (ix3 0 j l) : EReal) = ∑ k ∈ Finset.range (256 * (n % 8) + 256), (held m c).bterm j.val (2048 * (n / 8) + k) l.val := by
  intro n
  induction n with
  | zero =>
    intro hn j l
    rw [outsAt0_A m c ⟨0, hn⟩ rfl rfl rfl]
    dsimp only
    rw [bstat_A, bsum_step, ← sum_next 256, Nat.zero_mod, Nat.mul_zero, Finset.sum_range_zero, zero_add]
    exact Finset.sum_congr rfl fun r _ => congrArg (fun t => (held m c).bterm j.val t l.val) (by show 256 * 0 + r.val = 2048 * (0 / 8) + (0 + r.val); omega)
  | succ n ih =>
    intro hn j l
    have hN : n + 1 < 16 := hn
    have h0 : ¬(n + 1) % 16 = 0 := by omega
    by_cases h : (n + 1) % 8 = 0
    · rw [outsAt0_C m c ⟨n + 1, hn⟩ h0 h0 h]
      dsimp only
      rw [bstat_C, bsum_step, ← sum_next 256, h, Nat.mul_zero, Finset.sum_range_zero, zero_add]
      exact Finset.sum_congr rfl fun r _ => congrArg (fun t => (held m c).bterm j.val t l.val) (by show 256 * (n + 1) + r.val = 2048 * ((n + 1) / 8) + (0 + r.val); omega)
    · rw [outsAt0_B m c ⟨n + 1, hn⟩ h0 h0 h]
      dsimp only
      rw [bstat_B, bsum_step, ← sum_next 256]
      refine plus ((ih (Nat.lt_of_succ_lt hn) j l).trans ?_) (Finset.sum_congr rfl fun r _ => congrArg (fun t => (held m c).bterm j.val t l.val) ?_)
      · rw [show 256 * ((n + 1) % 8) = 256 * (n % 8) + 256 by omega, show (n + 1) / 8 = n / 8 by omega]
      · show 256 * (n + 1) + r.val = 2048 * ((n + 1) / 8) + (256 * ((n + 1) % 8) + r.val)
        omega

/-! ## The arrays at the end -/

/-- The step that handles token `r`. -/
abbrev stepOf (r : ℕ) (h : r < 4096) : Fin cfg0.N := ⟨r / 256, by rw [show cfg0.N = 16 from N_0]; omega⟩

theorem final12 (c : Dev nD) (i : S4096x5632.Idx) :
    ((dats m 0 c).arrAt 12 cfg0.N i : EReal) = (held m c).du (i 0).val (i 1).val :=
  of_blocks (b := 256) (N := cfg0.N) (α := EReal) ((dats m 0 c).arrAt 12 cfg0.N) ((held m c).du) (fun t => ((cfg0.win 12).blk t).view.emb) (by rw [show cfg0.N = 16 from N_0]) index12 (fun _ _ _ => rfl) (fun _ _ _ => rfl) (fun t r l => by
    have h := congrFun (blocks12 m c t ((by decide +kernel : ∀ t : Fin grid0.N, (cfg0.win 12).flush t = true) t)) (ix2 r l)
    rw [flushed12, outs12] at h
    exact h.trans ((du_step m c t r l))) i

theorem final13 (c : Dev nD) (i : S4096x1024.Idx) :
    ((dats m 0 c).arrAt 13 cfg0.N i : EReal) = (held m c).dstream (i 0).val (i 1).val :=
  of_blocks (b := 256) (N := cfg0.N) (α := EReal) ((dats m 0 c).arrAt 13 cfg0.N) ((held m c).dstream) (fun t => ((cfg0.win 13).blk t).view.emb) (by rw [show cfg0.N = 16 from N_0]) index13 (fun _ _ _ => rfl) (fun _ _ _ => rfl) (fun t r l => by
    have h := congrFun (blocks13 m c t ((by decide +kernel : ∀ t : Fin grid0.N, (cfg0.win 13).flush t = true) t)) (ix2 r l)
    rw [flushed13, outs13] at h
    exact h.trans ((dstream_step m c t r l))) i

theorem final14 (c : Dev nD) (i : S4096x1024.Idx) :
    ((dats m 0 c).arrAt 14 cfg0.N i : EReal) = (held m c).dmix (i 0).val (i 1).val :=
  of_blocks (b := 256) (N := cfg0.N) (α := EReal) ((dats m 0 c).arrAt 14 cfg0.N) ((held m c).dmix) (fun t => ((cfg0.win 14).blk t).view.emb) (by rw [show cfg0.N = 16 from N_0]) index14 (fun _ _ _ => rfl) (fun _ _ _ => rfl) (fun t r l => by
    have h := congrFun (blocks14 m c t ((by decide +kernel : ∀ t : Fin grid0.N, (cfg0.win 14).flush t = true) t)) (ix2 r l)
    rw [flushed14, outs14] at h
    exact h.trans ((dmix_step m c t r l))) i

theorem last15 : ∀ t : Fin cfg0.N, (cfg0.win 15).flush t = true ↔ t.val = 15 :=
  (by decide +kernel : ∀ t : Fin grid0.N, _)

theorem disjoint15 : ∀ t t' : Fin cfg0.N, (cfg0.win 15).flush t = true → (cfg0.win 15).flush t' = true → t ≠ t' →
    Disjoint ((cfg0.win 15).blk t).view.set ((cfg0.win 15).blk t').view.set :=
  fun t t' h h' hne => absurd (Fin.ext (((last15 t).mp h).trans ((last15 t').mp h').symm)) hne

theorem final15 (c : Dev nD) (i : S8x1024.Idx) :
    ((dats m 0 c).arrAt 15 cfg0.N i : EReal) = ∑ k ∈ Finset.range 4096, (held m c).gterm (i 0).val k (i 1).val := by
  have h := congrFun ((dats m 0 c).read_blk_arrAt_eq_flushed 15 disjoint15 cfg0.N t0_15 t0_15.isLt ((last15 _).mpr rfl)) i
  rw [flushed15] at h
  obtain ⟨e0, e1⟩ := index15 t0_15
  have e : ((cfg0.win 15).blk t0_15).view.emb i = i := by
    refine funext fun a => Fin.ext ?_
    fin_cases a
    · show win0_15.index t0_15 (0 : Fin 2) * 8 + 1 * (i 0).val = (i 0).val
      rw [e0]; omega
    · show win0_15.index t0_15 (1 : Fin 2) * 1024 + 1 * (i 1).val = (i 1).val
      rw [e1]; omega
  refine (congrArg (fun j => ((dats m 0 c).arrAt 15 cfg0.N j : EReal)) e.symm).trans (h.trans ?_)
  have hs := gstat_apply m c t0_15.val t0_15.isLt (i 0) (i 1)
  rw [show (ix2 (i 0) (i 1) : S8x1024.Idx) = i from ix2_eta i, show 256 * t0_15.val + 256 = 4096 from rfl] at hs
  generalize (outsAt0 m c t0_15.val t0_15.isLt).2.2.2.1 = y at hs ⊢
  exact hs

theorem last17 : ∀ t : Fin cfg0.N, (cfg0.win 17).flush t = true ↔ t.val = 15 :=
  (by decide +kernel : ∀ t : Fin grid0.N, _)

theorem disjoint17 : ∀ t t' : Fin cfg0.N, (cfg0.win 17).flush t = true → (cfg0.win 17).flush t' = true → t ≠ t' →
    Disjoint ((cfg0.win 17).blk t).view.set ((cfg0.win 17).blk t').view.set :=
  fun t t' h h' hne => absurd (Fin.ext (((last17 t).mp h).trans ((last17 t').mp h').symm)) hne

theorem final17 (c : Dev nD) (i : S8x2816.Idx) :
    ((dats m 0 c).arrAt 17 cfg0.N i : EReal) = ∑ k ∈ Finset.range 4096, (held m c).cterm (i 0).val k (i 1).val := by
  have h := congrFun ((dats m 0 c).read_blk_arrAt_eq_flushed 17 disjoint17 cfg0.N t0_15 t0_15.isLt ((last17 _).mpr rfl)) i
  rw [flushed17] at h
  obtain ⟨e0, e1⟩ := index17 t0_15
  have e : ((cfg0.win 17).blk t0_15).view.emb i = i := by
    refine funext fun a => Fin.ext ?_
    fin_cases a
    · show win0_17.index t0_15 (0 : Fin 2) * 8 + 1 * (i 0).val = (i 0).val
      rw [e0]; omega
    · show win0_17.index t0_15 (1 : Fin 2) * 2816 + 1 * (i 1).val = (i 1).val
      rw [e1]; omega
  refine (congrArg (fun j => ((dats m 0 c).arrAt 17 cfg0.N j : EReal)) e.symm).trans (h.trans ?_)
  have hs := cstat_apply m c t0_15.val t0_15.isLt (i 0) (i 1)
  rw [show (ix2 (i 0) (i 1) : S8x2816.Idx) = i from ix2_eta i, show 256 * t0_15.val + 256 = 4096 from rfl] at hs
  generalize (outsAt0 m c t0_15.val t0_15.isLt).2.2.2.2.2 = y at hs ⊢
  exact hs

theorem last16 : ∀ t : Fin cfg0.N, (cfg0.win 16).flush t = true ↔ t.val % 8 = 7 :=
  (by decide +kernel : ∀ t : Fin grid0.N, _)

theorem disjoint16 : ∀ t t' : Fin cfg0.N, (cfg0.win 16).flush t = true → (cfg0.win 16).flush t' = true → t ≠ t' →
    Disjoint ((cfg0.win 16).blk t).view.set ((cfg0.win 16).blk t').view.set :=
  fun t t' h h' hne => (cfg0.win 16).disjoint_blk fun e => hne (Fin.ext (by
    have e0 : win0_16.index t (0 : Fin 3) = win0_16.index t' (0 : Fin 3) := congrFun e 0
    rw [(index16 t).1, (index16 t').1] at e0
    have := (last16 t).mp h
    have := (last16 t').mp h'
    omega))

/-- The step that finishes sequence `b`. -/
abbrev closeOf (b : ℕ) (h : b < 2) : Fin cfg0.N := ⟨8 * b + 7, by rw [show cfg0.N = 16 from N_0]; omega⟩

theorem final16 (c : Dev nD) (i : S2x8x1024.Idx) :
    ((dats m 0 c).arrAt 16 cfg0.N i : EReal) = ∑ k ∈ Finset.range 2048, (held m c).bterm (i 1).val (2048 * (i 0).val + k) (i 2).val := by
  have hb : (i 0).val < 2 := (i 0).isLt
  obtain ⟨e0, e1, e2⟩ := index16 (closeOf _ hb)
  have h := congrFun ((dats m 0 c).read_blk_arrAt_eq_flushed 16 disjoint16 cfg0.N (closeOf _ hb) (closeOf _ hb).isLt ((last16 _).mpr (by show (8 * (i 0).val + 7) % 8 = 7; omega))) (ix3 0 (i 1) (i 2))
  rw [flushed16] at h
  have e : ((cfg0.win 16).blk (closeOf _ hb)).view.emb (ix3 0 (i 1) (i 2)) = i := by
    refine funext fun a => Fin.ext ?_
    fin_cases a
    · show win0_16.index (closeOf _ hb) (0 : Fin 3) * 1 + 1 * 0 = (i 0).val
      rw [e0]; show (8 * (i 0).val + 7) / 8 * 1 + 1 * 0 = (i 0).val; omega
    · show win0_16.index (closeOf _ hb) (1 : Fin 3) * 8 + 1 * (i 1).val = (i 1).val
      rw [e1]; omega
    · show win0_16.index (closeOf _ hb) (2 : Fin 3) * 1024 + 1 * (i 2).val = (i 2).val
      rw [e2]; omega
  refine (congrArg (fun j => ((dats m 0 c).arrAt 16 cfg0.N j : EReal)) e.symm).trans (h.trans ?_)
  refine (bstat_apply m c (8 * (i 0).val + 7) (closeOf _ hb).isLt (i 1) (i 2)).trans ?_
  rw [show 256 * ((8 * (i 0).val + 7) % 8) + 256 = 2048 by omega, show (8 * (i 0).val + 7) / 8 = (i 0).val by omega]

end Cert.Kernel8Ideal.Value

end

end
-- ==== Proof.HostSums.lean ====
/-
  Sums over a batch of sequences: over two axes at once, over all tokens, and the sum in which one factor is shifted by
  a token.
-/
module

public import Idealize.ShloMosaic.Lib.Pointwise
public import Idealize.ShloMosaic.PureOps.Ideal.Laws

@[expose] public section

noncomputable section

namespace Cert.HostSums

open Idealize.ShloMosaic

/-- The host's sum over the first two axes of a three-dimensional array. -/
theorem two_axes {a b c : ℕ} (h : (⟨3, ![a, b, c]⟩ : Shape).ReducesTo [0, 1] ⟨1, ![c]⟩) (x : (⟨3, ![a, b, c]⟩ : Shape).Idx → EReal)
    (init : EReal) (j : (⟨1, ![c]⟩ : Shape).Idx) :
    Ideal.hostReduceAdd h x init j = init + ∑ p : Fin a, ∑ q : Fin b, x (ix3 p q (j 0)) := by
  unfold Ideal.hostReduceAdd
  refine congrArg (init + ·) ?_
  rw [← Fintype.sum_prod_type' (f := fun p q => x (ix3 p q (j 0)))]
  have hd : ∀ i, (h.drop i 0 : ℕ) = i 2 := fun i => h.drop_apply_val_of_eq i 0 2 Nat.one_pos rfl
  have back : ∀ i, h.drop i = j → ix3 (i 0) (i 1) (j 0) = i := fun i hi => funext fun d => Fin.ext (by
    match d with
    | ⟨0, _⟩ => rfl
    | ⟨1, _⟩ => rfl
    | ⟨2, _⟩ => exact (congrArg (fun f : (⟨1, ![c]⟩ : Shape).Idx => (f 0).val) hi).symm.trans (hd i))
  refine Finset.sum_nbij' (fun i => ((i 0, i 1) : Fin a × Fin b)) (fun p => ix3 p.1 p.2 (j 0)) ?_ ?_ ?_ ?_ ?_
  · exact fun _ _ => Finset.mem_univ _
  · exact fun p _ => Finset.mem_filter.mpr ⟨Finset.mem_univ _, funext fun d => Fin.ext (by
      match d with
      | ⟨0, _⟩ => exact hd _)⟩
  · exact fun i hi => back i (Finset.mem_filter.mp hi).2
  · exact fun _ _ => rfl
  · exact fun i hi => (congrArg x (back i (Finset.mem_filter.mp hi).2)).symm

/-- Both sequences' tokens are all tokens. -/
theorem sum_tokens (f : ℕ → EReal) :
    ∑ p : Fin 2, ∑ q : Fin 2048, f (2048 * p.val + q.val) = ∑ t ∈ Finset.range 4096, f t := by
  rw [Fin.sum_univ_two, Fin.sum_univ_eq_sum_range (fun q => f (2048 * (0 : Fin 2).val + q)) 2048,
    Fin.sum_univ_eq_sum_range (fun q => f (2048 * (1 : Fin 2).val + q)) 2048, show 4096 = 2048 + 2048 from rfl, Finset.sum_range_add]
  refine congrArg₂ (fun a b : EReal => a + b) (Finset.sum_congr rfl fun q _ => congrArg f ?_) (Finset.sum_congr rfl fun q _ => congrArg f ?_)
  · show 2048 * 0 + q = q
    omega
  · rfl

/-- Shifting one factor a step down is shifting the other a step up. -/
theorem shift (n : ℕ) (g d : ℕ → EReal) :
    ∑ k : Fin (n + 1), (if k.val = 0 then 0 else g (k.val - 1)) * d k.val
      = ∑ k : Fin (n + 1), (if k.val = n then 0 else d (k.val + 1)) * g k.val := by
  rw [Fin.sum_univ_eq_sum_range (fun k => (if k = 0 then 0 else g (k - 1)) * d k) (n + 1),
    Fin.sum_univ_eq_sum_range (fun k => (if k = n then 0 else d (k + 1)) * g k) (n + 1), Finset.sum_range_succ', Finset.sum_range_succ,
    if_pos rfl, if_pos rfl, zero_mul, zero_mul]
  refine congrArg (· + 0) (Finset.sum_congr rfl fun k hk => ?_)
  have := Finset.mem_range.mp hk
  rw [if_neg (by omega), if_neg (by omega), mul_comm]
  rfl

end Cert.HostSums

end

end
-- ==== Proof.UpBackReference.lean ====
/-
  The up-projection's backward reference at an index: its values and its six results in terms of the arguments.
-/
module

public import proofs.«01_k».proof.Proof.UpBackHost
public import proofs.«01_k».proof.Proof.HostSums
public import proofs.«01_k».proof.Proof.NormBack
public import proofs.«01_k».proof.Proof.Gen.Reference8Ideal.Read
public import Idealize.ShloMosaic.Lib.KernelVsHost

@[expose] public section

set_option maxRecDepth 16384

noncomputable section

namespace Cert.Kernel8Ideal.Value

open Cert.Reference8Ideal Cert.Reference8Ideal.Read Cert.Cell
open Idealize.ShloMosaic Idealize.ShloMosaic.TcCoe Idealize.SL.Sem

/-- The arguments' arrays: the stream, the product, the modulation, the norm's weights, the up-projection's, the taps, the gate's and
the values' gradients, and the stream's. -/
structure Arrays where
  x : (⟨S4096x1024, .f32⟩ : BufTy).Contents (Elt Ideal)
  y : (⟨S4096x1024, .f32⟩ : BufTy).Contents (Elt Ideal)
  p : (⟨S2x6x1024, .f32⟩ : BufTy).Contents (Elt Ideal)
  g : (⟨S1x1024, .f32⟩ : BufTy).Contents (Elt Ideal)
  w : (⟨S5632x1024, .bf16⟩ : BufTy).Contents (Elt Ideal)
  k : (⟨S3x2816, .f32⟩ : BufTy).Contents (Elt Ideal)
  u : (⟨S4096x2816, .bf16⟩ : BufTy).Contents (Elt Ideal)
  v : (⟨S4096x2816, .bf16⟩ : BufTy).Contents (Elt Ideal)
  d : (⟨S4096x1024, .f32⟩ : BufTy).Contents (Elt Ideal)

abbrev Arrays.args (A : Arrays) : UpBack.Args := Cert.Kernel8Ideal.Value.args A.x A.y A.p A.g A.w A.k A.u A.v A.d

section
variable (A : Arrays)

/-! ## The forward values -/

theorem reference_x (i : S2x2048x1024.Idx) : (val_main_v4 (F := Ideal) A.x i : EReal) = A.args.x (2048 * (i 0).val + (i 1).val) (i 2).val := by
  have h0 : (i 0).val < 2 := (i 0).isLt
  have h1 : (i 1).val < 2048 := (i 1).isLt
  have h2 : (i 2).val < 1024 := (i 2).isLt
  rw [val_main_v4_apply]
  refine cell_eq (n := 4096) (k := 1024) (α := EReal) A.x _ ?_ ?_
  · show (((i 0).val * 2048 + (i 1).val) * 1024 + (i 2).val) / 1024 = _; omega
  · show (((i 0).val * 2048 + (i 1).val) * 1024 + (i 2).val) % 1024 = _; omega

theorem reference_mix (i : S2x2048x1024.Idx) : (val_main_v5 (F := Ideal) A.y i : EReal) = A.args.mix (2048 * (i 0).val + (i 1).val) (i 2).val := by
  have h0 : (i 0).val < 2 := (i 0).isLt
  have h1 : (i 1).val < 2048 := (i 1).isLt
  have h2 : (i 2).val < 1024 := (i 2).isLt
  rw [val_main_v5_apply]
  refine cell_eq (n := 4096) (k := 1024) (α := EReal) A.y _ ?_ ?_
  · show (((i 0).val * 2048 + (i 1).val) * 1024 + (i 2).val) / 1024 = _; omega
  · show (((i 0).val * 2048 + (i 1).val) * 1024 + (i 2).val) % 1024 = _; omega

theorem reference_dval (i : S2x2048x2816.Idx) : (val_main_v63 (F := Ideal) A.u i : EReal) = A.args.dval (2048 * (i 0).val + (i 1).val) (i 2).val := by
  have h0 : (i 0).val < 2 := (i 0).isLt
  have h1 : (i 1).val < 2048 := (i 1).isLt
  have h2 : (i 2).val < 2816 := (i 2).isLt
  rw [val_main_v63_apply, val_main_v62_apply]
  refine cell_eq (n := 4096) (k := 2816) (α := EReal) A.u _ ?_ ?_
  · show (((i 0).val * 2048 + (i 1).val) * 2816 + (i 2).val) / 2816 = _; omega
  · show (((i 0).val * 2048 + (i 1).val) * 2816 + (i 2).val) % 2816 = _; omega

theorem reference_dgc (i : S2x2048x2816.Idx) : (val_main_v65 (F := Ideal) A.v i : EReal) = A.args.dgc (2048 * (i 0).val + (i 1).val) (i 2).val := by
  have h0 : (i 0).val < 2 := (i 0).isLt
  have h1 : (i 1).val < 2048 := (i 1).isLt
  have h2 : (i 2).val < 2816 := (i 2).isLt
  rw [val_main_v65_apply, val_main_v64_apply]
  refine cell_eq (n := 4096) (k := 2816) (α := EReal) A.v _ ?_ ?_
  · show (((i 0).val * 2048 + (i 1).val) * 2816 + (i 2).val) / 2816 = _; omega
  · show (((i 0).val * 2048 + (i 1).val) * 2816 + (i 2).val) % 2816 = _; omega

theorem reference_dx (i : S2x2048x1024.Idx) : (val_main_v66 (F := Ideal) A.d i : EReal) = A.args.dx (2048 * (i 0).val + (i 1).val) (i 2).val := by
  have h0 : (i 0).val < 2 := (i 0).isLt
  have h1 : (i 1).val < 2048 := (i 1).isLt
  have h2 : (i 2).val < 1024 := (i 2).isLt
  rw [val_main_v66_apply]
  refine cell_eq (n := 4096) (k := 1024) (α := EReal) A.d _ ?_ ?_
  · show (((i 0).val * 2048 + (i 1).val) * 1024 + (i 2).val) / 1024 = _; omega
  · show (((i 0).val * 2048 + (i 1).val) * 1024 + (i 2).val) % 1024 = _; omega

theorem reference_gate (i : S2x2048x1024.Idx) : (val_main_v13 (F := Ideal) A.p i : EReal) = A.args.mod ((2048 * (i 0).val + (i 1).val) / 2048) 2 (i 2).val := by
  have h0 : (i 0).val < 2 := (i 0).isLt
  have h1 : (i 1).val < 2048 := (i 1).isLt
  rw [show (2048 * (i 0).val + (i 1).val) / 2048 = (i 0).val by omega, val_main_v13_apply, val_main_v0_apply]
  exact cell3_eq (p := 2) (n := 6) (k := 1024) (α := EReal) A.p _ rfl rfl rfl

theorem reference_gate_back (i : S2x2048x1024.Idx) : (val_main_v123 (F := Ideal) A.p i : EReal) = A.args.mod ((2048 * (i 0).val + (i 1).val) / 2048) 2 (i 2).val := by
  have h0 : (i 0).val < 2 := (i 0).isLt
  have h1 : (i 1).val < 2048 := (i 1).isLt
  rw [show (2048 * (i 0).val + (i 1).val) / 2048 = (i 0).val by omega, val_main_v123_apply, val_main_v0_apply]
  exact cell3_eq (p := 2) (n := 6) (k := 1024) (α := EReal) A.p _ rfl rfl rfl

theorem reference_shift (i : S2x2048x1024.Idx) : (val_main_v36 (F := Ideal) A.p i : EReal) = A.args.mod ((2048 * (i 0).val + (i 1).val) / 2048) 3 (i 2).val := by
  have h0 : (i 0).val < 2 := (i 0).isLt
  have h1 : (i 1).val < 2048 := (i 1).isLt
  rw [show (2048 * (i 0).val + (i 1).val) / 2048 = (i 0).val by omega, val_main_v36_apply, val_main_v1_apply]
  exact cell3_eq (p := 2) (n := 6) (k := 1024) (α := EReal) A.p _ rfl rfl rfl

theorem reference_scale (i : S2x2048x1024.Idx) : (val_main_v34 (F := Ideal) A.p i : EReal) = A.args.scale (2048 * (i 0).val + (i 1).val) (i 2).val := by
  have h0 : (i 0).val < 2 := (i 0).isLt
  have h1 : (i 1).val < 2048 := (i 1).isLt
  have o : ∀ j, (val_main_cst_4 (F := Ideal) j : EReal) = 1 := fun j => (val_main_cst_4_apply j).trans Ideal.ofBits_one_f32
  have e : (A.p (idx_main_v2 (idx_main_v34 i)) : EReal) = _ := cell3_eq (p := 2) (n := 6) (k := 1024) (α := EReal) A.p _ (b := (i 0).val) (r := 4) (l := (i 2).val) rfl rfl rfl
  unfold UpBack.Args.scale
  rw [show (2048 * (i 0).val + (i 1).val) / 2048 = (i 0).val by omega, val_main_v34_apply, val_main_v33_apply, val_main_v32_apply, val_main_v2_apply, o, e]
  rfl

theorem reference_scale_back (i : S2x2048x1024.Idx) : (val_main_v100 (F := Ideal) A.p i : EReal) = A.args.scale (2048 * (i 0).val + (i 1).val) (i 2).val := by
  have h0 : (i 0).val < 2 := (i 0).isLt
  have h1 : (i 1).val < 2048 := (i 1).isLt
  have o : ∀ j, (val_main_cst_4 (F := Ideal) j : EReal) = 1 := fun j => (val_main_cst_4_apply j).trans Ideal.ofBits_one_f32
  have e : (A.p (idx_main_v2 (idx_main_v100 i)) : EReal) = _ := cell3_eq (p := 2) (n := 6) (k := 1024) (α := EReal) A.p _ (b := (i 0).val) (r := 4) (l := (i 2).val) rfl rfl rfl
  unfold UpBack.Args.scale
  rw [show (2048 * (i 0).val + (i 1).val) / 2048 = (i 0).val by omega, val_main_v100_apply, val_main_v33_apply, val_main_v32_apply, val_main_v2_apply, o, e]
  rfl

theorem reference_g (i : S2x2048x1024.Idx) : (val_main_v30 (F := Ideal) A.g i : EReal) = A.args.g (i 2).val := by
  rw [val_main_v30_apply, val_main_v29_apply, val_main_v6_apply]
  exact cell_eq (n := 1) (k := 1024) (α := EReal) A.g _ rfl (Nat.mod_eq_of_lt (i 2).isLt)

theorem reference_g_back (i : S2x2048x1024.Idx) : (val_main_v105 (F := Ideal) A.g i : EReal) = A.args.g (i 2).val := by
  rw [val_main_v105_apply, val_main_v29_apply, val_main_v6_apply]
  exact cell_eq (n := 1) (k := 1024) (α := EReal) A.g _ rfl (Nat.mod_eq_of_lt (i 2).isLt)

theorem reference_stream (i : S2x2048x1024.Idx) : (val_main_v15 (F := Ideal) A.x A.y A.p i : EReal) = A.args.stream (2048 * (i 0).val + (i 1).val) (i 2).val := by
  rw [val_main_v15_apply, val_main_v14_apply]
  exact congrArg₂ (fun a b : EReal => a + b) (reference_x A i)
    (congrArg₂ (fun a b : EReal => a * b) (reference_gate A i) (reference_mix A i))

theorem reference_mean (i : S2x2048x1.Idx) : (val_main_v22 (F := Ideal) A.x A.y A.p i : EReal)
    = Ideal.div (∑ k ∈ Finset.range 1024, A.args.stream (2048 * (i 0).val + (i 1).val) k * A.args.stream (2048 * (i 0).val + (i 1).val) k) UpBack.width + Norm.eps := by
  have zc : (val_main_cst_0 (F := Ideal) (Shape.Idx.first Cert.Reference8Ideal.Gen.h_S_) : EReal) = 0 := Ideal.ofBits_zero .f32
  rw [← Fin.sum_univ_eq_sum_range (fun k => A.args.stream (2048 * (i 0).val + (i 1).val) k * A.args.stream (2048 * (i 0).val + (i 1).val) k) 1024, val_main_v22_apply, val_main_v20_apply, val_main_v18_apply, val_main_v17_apply, zc, zero_add]
  simp only [val_main_v16_apply, reference_stream A]
  rw [val_main_v19_apply, val_main_v21_apply]
  rfl

theorem reference_inv (i : S2x2048x1.Idx) : (val_main_v23 (F := Ideal) A.x A.y A.p i : EReal) = A.args.inv (2048 * (i 0).val + (i 1).val) :=
  (val_main_v23_apply A.x A.y A.p i).trans (congrArg Ideal.rsqrt (reference_mean A i))

theorem reference_unit (i : S2x2048x1024.Idx) : (val_main_v28 (F := Ideal) A.x A.y A.p i : EReal) = A.args.unit (2048 * (i 0).val + (i 1).val) (i 2).val := by
  rw [val_main_v28_apply, val_main_v27_apply]
  exact congrArg₂ (fun a b : EReal => a * b) (reference_stream A i) (reference_inv A _)

theorem reference_weighted (i : S2x2048x1024.Idx) : (val_main_v31 (F := Ideal) A.x A.y A.p A.g i : EReal) = A.args.weighted (2048 * (i 0).val + (i 1).val) (i 2).val :=
  (val_main_v31_apply A.x A.y A.p A.g i).trans (congrArg₂ (fun a b : EReal => a * b) (reference_unit A i) (reference_g A i))

theorem reference_hidden (i : S2x2048x1024.Idx) : (val_main_v37 (F := Ideal) A.x A.y A.p A.g i : EReal) = A.args.hidden (2048 * (i 0).val + (i 1).val) (i 2).val := by
  rw [val_main_v37_apply, val_main_v35_apply]
  exact congrArg₂ (fun a b : EReal => a + b)
    (congrArg₂ (fun a b : EReal => a * b) (reference_weighted A i) (reference_scale A i))
    (reference_shift A i)

theorem reference_gt (i : S2x2048x2816.Idx) : (val_main_v43 (F := Ideal) A.x A.y A.p A.g A.w i : EReal) = A.args.gt (2048 * (i 0).val + (i 1).val) (i 2).val := by
  have zc : ∀ j, (val_main_cst (F := Ideal) j : EReal) = 0 := fun j => (val_main_cst_apply j).trans (Ideal.ofBits_zero .f32)
  rw [val_main_v43_apply, val_main_v41_apply, val_main_v40_apply, val_main_v3_apply]
  unfold UpBack.Args.gt
  rw [← Fin.sum_univ_eq_sum_range (fun k => A.args.hidden (2048 * (i 0).val + (i 1).val) k * A.args.w (2816 + (i 2).val) k) 1024, zc]
  refine (add_zero _).trans (Finset.sum_congr rfl fun k _ => congrArg₂ (fun a b : EReal => a * b) (reference_hidden A _) ?_)
  rw [val_main_v39_apply, val_main_v38_apply]
  exact cell_eq (n := 5632) (k := 1024) (α := EReal) A.w _ rfl rfl

/-! ## The convolution's gradients -/

/-- The projection's second half with a token of zeros before and after each sequence. -/
theorem reference_padded (b : Fin 2) (s : Fin 2050) (f : Fin 2816) :
    (val_main_v45 (F := Ideal) A.x A.y A.p A.g A.w (ix3 b s f) : EReal)
      = if s.val = 0 then 0 else if s.val = 2049 then 0 else A.args.gt (2048 * b.val + (s.val - 1)) f.val := by
  have zc : ∀ j, (val_main_v44 (F := Ideal) j : EReal) = 0 := fun j => (val_main_v44_apply j).trans (Ideal.ofBits_zero .f32)
  unfold val_main_v45
  by_cases h : s.val = 0
  · rw [if_pos h]
    exact (concatenate_apply_piece 1 _ _ (ix3 b s f) 0 (by simp) S2x1x2816 _ rfl rfl 0 rfl (ix3 b 0 f) (fun d hd => by
      match d with
      | ⟨0, _⟩ => rfl
      | ⟨1, _⟩ => exact absurd rfl hd
      | ⟨2, _⟩ => rfl) (by show 0 + 0 = s.val; omega)).trans (zc _)
  rw [if_neg h]
  by_cases h' : s.val = 2049
  · rw [if_pos h']
    exact (concatenate_apply_piece 1 _ _ (ix3 b s f) 2 (by simp) S2x1x2816 _ rfl rfl 2049 rfl (ix3 b 0 f) (fun d hd => by
      match d with
      | ⟨0, _⟩ => rfl
      | ⟨1, _⟩ => exact absurd rfl hd
      | ⟨2, _⟩ => rfl) (by show 2049 + 0 = s.val; omega)).trans (zc _)
  rw [if_neg h']
  exact (concatenate_apply_piece 1 _ _ (ix3 b s f) 1 (by simp) S2x2048x2816 _ rfl rfl 1 rfl (ix3 b ⟨s.val - 1, by omega⟩ f) (fun d hd => by
    match d with
    | ⟨0, _⟩ => rfl
    | ⟨1, _⟩ => exact absurd rfl hd
    | ⟨2, _⟩ => rfl) (by show 1 + (s.val - 1) = s.val; omega)).trans (reference_gt A _)

theorem reference_taken0 (b : Fin 2) (s : Fin 2048) (f : Fin 2816) :
    (val_main_v48 (F := Ideal) A.x A.y A.p A.g A.w (ix3 b s f) : EReal) = if s.val = 0 then 0 else A.args.gt (2048 * b.val + (s.val - 1)) f.val := by
  rw [val_main_v48_apply]
  refine (congrArg (val_main_v45 (F := Ideal) A.x A.y A.p A.g A.w) (show idx_main_v48 (ix3 b s f) = ix3 b ⟨s.val, by omega⟩ f from funext fun a => Fin.ext (by
    match a with
    | ⟨0, _⟩ => rfl
    | ⟨1, _⟩ => rfl
    | ⟨2, _⟩ => rfl))).trans ((reference_padded A _ _ _).trans ?_)
  show (if s.val = 0 then (0 : EReal) else if s.val = 2049 then 0 else _) = _
  by_cases h : s.val = 0
  · rw [if_pos h, if_pos (by omega)]
  · rw [if_neg h, if_neg (by omega), if_neg (by omega)]

theorem reference_taken1 (b : Fin 2) (s : Fin 2048) (f : Fin 2816) :
    (val_main_v52 (F := Ideal) A.x A.y A.p A.g A.w (ix3 b s f) : EReal) = A.args.gt (2048 * b.val + s.val) f.val := by
  rw [val_main_v52_apply]
  refine (congrArg (val_main_v45 (F := Ideal) A.x A.y A.p A.g A.w) (show idx_main_v52 (ix3 b s f) = ix3 b ⟨1 + s.val, by omega⟩ f from funext fun a => Fin.ext (by
    match a with
    | ⟨0, _⟩ => rfl
    | ⟨1, _⟩ => rfl
    | ⟨2, _⟩ => rfl))).trans ((reference_padded A _ _ _).trans ?_)
  show (if 1 + s.val = 0 then (0 : EReal) else if 1 + s.val = 2049 then 0 else _) = _
  rw [if_neg (by omega), if_neg (by omega)]
  exact congrArg (fun t => A.args.gt t f.val) (by show 2048 * b.val + (1 + s.val - 1) = _; omega)

theorem reference_taken2 (b : Fin 2) (s : Fin 2048) (f : Fin 2816) :
    (val_main_v57 (F := Ideal) A.x A.y A.p A.g A.w (ix3 b s f) : EReal) = if s.val = 2047 then 0 else A.args.gt (2048 * b.val + (s.val + 1)) f.val := by
  rw [val_main_v57_apply]
  refine (congrArg (val_main_v45 (F := Ideal) A.x A.y A.p A.g A.w) (show idx_main_v57 (ix3 b s f) = ix3 b ⟨2 + s.val, by omega⟩ f from funext fun a => Fin.ext (by
    match a with
    | ⟨0, _⟩ => rfl
    | ⟨1, _⟩ => rfl
    | ⟨2, _⟩ => rfl))).trans ((reference_padded A _ _ _).trans ?_)
  show (if 2 + s.val = 0 then (0 : EReal) else if 2 + s.val = 2049 then 0 else _) = _
  rw [if_neg (by omega)]
  by_cases h : s.val = 2047
  · rw [if_pos h, if_pos (by omega)]
  · rw [if_neg h, if_neg (by omega)]
    exact congrArg (fun t => A.args.gt t f.val) (by show 2048 * b.val + (2 + s.val - 1) = _; omega)

theorem next_token (b : Fin 2) (k : Fin 2048) (f : ℕ) :
    A.args.next (2048 * b.val + k.val) f = if k.val = 2047 then 0 else A.args.dgc (2048 * b.val + (k.val + 1)) f := by
  unfold UpBack.Args.next
  by_cases h : k.val = 2047
  · rw [if_pos h, if_pos (by omega)]
  · rw [if_neg h, if_neg (by omega)]
    rfl

theorem prev_token (b : Fin 2) (k : Fin 2048) (f : ℕ) :
    A.args.prev (2048 * b.val + k.val) f = if k.val = 0 then 0 else A.args.dgc (2048 * b.val + (k.val - 1)) f := by
  unfold UpBack.Args.prev
  by_cases h : k.val = 0
  · rw [if_pos h, if_pos (by omega)]
  · rw [if_neg h, if_neg (by omega)]
    exact congrArg (fun t => A.args.dgc t f) (by omega)

/-- The taps' gradients: the token paired with the one before it is the one paired with the next. -/
theorem reference_tap0 (j : S2816.Idx) : (val_main_v87 (F := Ideal) A.x A.y A.p A.g A.w A.v j : EReal) = ∑ t ∈ Finset.range 4096, A.args.cterm 1 t (j 0).val := by
  have z0 : (val_main_cst_14 (F := Ideal) (Shape.Idx.first Cert.Reference8Ideal.Gen.h_S_) : EReal) = 0 := Ideal.ofBits_zero .f32
  have z1 : (val_main_cst_15 (F := Ideal) (Shape.Idx.first Cert.Reference8Ideal.Gen.h_S_) : EReal) = 0 := Ideal.ofBits_zero .f32
  unfold val_main_v87
  simp only [Host.reduceAdd, Ideal.hostReduceAdd_def]
  refine (HostSums.two_axes _ _ _ j).trans ?_
  rw [z1, zero_add, Fin.sum_univ_one, Fin.sum_univ_one, val_main_v84_apply]
  unfold val_main_v83
  simp only [Host.reduceAdd, Ideal.hostReduceAdd_def]
  refine (HostSums.two_axes _ _ _ _).trans ?_
  rw [z0, zero_add, ← HostSums.sum_tokens]
  refine Finset.sum_congr rfl fun p _ => ?_
  have ej : ∀ q, (ix3 p q (idx_main_v84 (ix3 0 0 (j 0)) 0) : S2x2048x2816.Idx) = ix3 p q (j 0) := fun q => funext fun a => Fin.ext (by
    match a with
    | ⟨0, _⟩ => rfl
    | ⟨1, _⟩ => rfl
    | ⟨2, _⟩ => show (0 * 1 + 0) * 2816 + (j 0).val = (j 0).val; omega)
  have d : ∀ q, (val_main_v65 (F := Ideal) A.v (ix3 p q (j 0)) : EReal) = A.args.dgc (2048 * p.val + q.val) (j 0).val := fun q => reference_dgc A _
  refine (Finset.sum_congr rfl fun q _ => (congrArg (val_main_v82 (F := Ideal) A.x A.y A.p A.g A.w A.v) (ej q)).trans ((val_main_v82_apply A.x A.y A.p A.g A.w A.v _).trans
    (congrArg₂ (fun a b : EReal => a * b) (reference_taken0 A p q (j 0)) (d q)))).trans ?_
  refine (HostSums.shift 2047 (fun t => A.args.gt (2048 * p.val + t) (j 0).val) (fun t => A.args.dgc (2048 * p.val + t) (j 0).val)).trans ?_
  refine Finset.sum_congr rfl fun q _ => ?_
  refine (congrArg (fun a : EReal => a * A.args.gt (2048 * p.val + q.val) (j 0).val) (next_token A p q (j 0).val).symm).trans ?_
  rfl

theorem reference_tap1 (j : S2816.Idx) : (val_main_v79 (F := Ideal) A.x A.y A.p A.g A.w A.v j : EReal) = ∑ t ∈ Finset.range 4096, A.args.cterm 2 t (j 0).val := by
  have z0 : (val_main_cst_11 (F := Ideal) (Shape.Idx.first Cert.Reference8Ideal.Gen.h_S_) : EReal) = 0 := Ideal.ofBits_zero .f32
  have z1 : (val_main_cst_12 (F := Ideal) (Shape.Idx.first Cert.Reference8Ideal.Gen.h_S_) : EReal) = 0 := Ideal.ofBits_zero .f32
  unfold val_main_v79
  simp only [Host.reduceAdd, Ideal.hostReduceAdd_def]
  refine (HostSums.two_axes _ _ _ j).trans ?_
  rw [z1, zero_add, Fin.sum_univ_one, Fin.sum_univ_one, val_main_v76_apply]
  unfold val_main_v75
  simp only [Host.reduceAdd, Ideal.hostReduceAdd_def]
  refine (HostSums.two_axes _ _ _ _).trans ?_
  rw [z0, zero_add, ← HostSums.sum_tokens]
  refine Finset.sum_congr rfl fun p _ => ?_
  have ej : ∀ q, (ix3 p q (idx_main_v76 (ix3 0 0 (j 0)) 0) : S2x2048x2816.Idx) = ix3 p q (j 0) := fun q => funext fun a => Fin.ext (by
    match a with
    | ⟨0, _⟩ => rfl
    | ⟨1, _⟩ => rfl
    | ⟨2, _⟩ => show (0 * 1 + 0) * 2816 + (j 0).val = (j 0).val; omega)
  have d : ∀ q, (val_main_v65 (F := Ideal) A.v (ix3 p q (j 0)) : EReal) = A.args.dgc (2048 * p.val + q.val) (j 0).val := fun q => reference_dgc A _
  refine (Finset.sum_congr rfl fun q _ => (congrArg (val_main_v74 (F := Ideal) A.x A.y A.p A.g A.w A.v) (ej q)).trans ((val_main_v74_apply A.x A.y A.p A.g A.w A.v _).trans
    (congrArg₂ (fun a b : EReal => a * b) (reference_taken1 A p q (j 0)) (d q)))).trans ?_
  exact Finset.sum_congr rfl fun q _ => EReal.mul_comm _ _

theorem reference_tap2 (j : S2816.Idx) : (val_main_v72 (F := Ideal) A.x A.y A.p A.g A.w A.v j : EReal) = ∑ t ∈ Finset.range 4096, A.args.cterm 3 t (j 0).val := by
  have z0 : (val_main_cst_8 (F := Ideal) (Shape.Idx.first Cert.Reference8Ideal.Gen.h_S_) : EReal) = 0 := Ideal.ofBits_zero .f32
  have z1 : (val_main_cst_9 (F := Ideal) (Shape.Idx.first Cert.Reference8Ideal.Gen.h_S_) : EReal) = 0 := Ideal.ofBits_zero .f32
  unfold val_main_v72
  simp only [Host.reduceAdd, Ideal.hostReduceAdd_def]
  refine (HostSums.two_axes _ _ _ j).trans ?_
  rw [z1, zero_add, Fin.sum_univ_one, Fin.sum_univ_one, val_main_v69_apply]
  unfold val_main_v68
  simp only [Host.reduceAdd, Ideal.hostReduceAdd_def]
  refine (HostSums.two_axes _ _ _ _).trans ?_
  rw [z0, zero_add, ← HostSums.sum_tokens]
  refine Finset.sum_congr rfl fun p _ => ?_
  have ej : ∀ q, (ix3 p q (idx_main_v69 (ix3 0 0 (j 0)) 0) : S2x2048x2816.Idx) = ix3 p q (j 0) := fun q => funext fun a => Fin.ext (by
    match a with
    | ⟨0, _⟩ => rfl
    | ⟨1, _⟩ => rfl
    | ⟨2, _⟩ => show (0 * 1 + 0) * 2816 + (j 0).val = (j 0).val; omega)
  have d : ∀ q, (val_main_v65 (F := Ideal) A.v (ix3 p q (j 0)) : EReal) = A.args.dgc (2048 * p.val + q.val) (j 0).val := fun q => reference_dgc A _
  refine (Finset.sum_congr rfl fun q _ => (congrArg (val_main_v67 (F := Ideal) A.x A.y A.p A.g A.w A.v) (ej q)).trans ((val_main_v67_apply A.x A.y A.p A.g A.w A.v _).trans
    (congrArg₂ (fun a b : EReal => a * b) (reference_taken2 A p q (j 0)) (d q)))).trans ?_
  refine (HostSums.shift 2047 (fun t => A.args.dgc (2048 * p.val + t) (j 0).val) (fun t => A.args.gt (2048 * p.val + t) (j 0).val)).symm.trans ?_
  refine Finset.sum_congr rfl fun q _ => ?_
  refine (congrArg (fun a : EReal => a * A.args.gt (2048 * p.val + q.val) (j 0).val) (prev_token A p q (j 0).val).symm).trans ?_
  rfl

theorem reference_at_tap0 (i : S2x2048x2816.Idx) : (val_main_v85 (F := Ideal) A.k i : EReal) = A.args.tap 0 (i 2).val := by
  rw [val_main_v85_apply, val_main_v49_apply, val_main_v8_apply, val_main_v7_apply]
  exact cell_eq (n := 3) (k := 2816) (α := EReal) A.k _ rfl (Nat.mod_eq_of_lt (i 2).isLt)

theorem reference_at_tap1 (i : S2x2048x2816.Idx) : (val_main_v77 (F := Ideal) A.k i : EReal) = A.args.tap 1 (i 2).val := by
  rw [val_main_v77_apply, val_main_v53_apply, val_main_v10_apply, val_main_v9_apply]
  exact cell_eq (n := 3) (k := 2816) (α := EReal) A.k _ rfl (Nat.mod_eq_of_lt (i 2).isLt)

theorem reference_at_tap2 (i : S2x2048x2816.Idx) : (val_main_v70 (F := Ideal) A.k i : EReal) = A.args.tap 2 (i 2).val := by
  rw [val_main_v70_apply, val_main_v58_apply, val_main_v12_apply, val_main_v11_apply]
  exact cell_eq (n := 3) (k := 2816) (α := EReal) A.k _ rfl (Nat.mod_eq_of_lt (i 2).isLt)

theorem reference_pad2 (b : Fin 2) (s : Fin 2048) (f : Fin 2816) :
    (val_main_v73 (F := Ideal) A.k A.v (ix3 b ⟨1 + s.val, by omega⟩ f) : EReal) = A.args.prev (2048 * b.val + s.val) f.val * A.args.tap 2 f.val := by
  have zc : (val_main_cst_10 (F := Ideal) (Shape.Idx.first Cert.Reference8Ideal.Gen.h_S_) : EReal) = 0 := Ideal.ofBits_zero .f32
  have d : ∀ q, (val_main_v71 (F := Ideal) A.k A.v (ix3 b q f) : EReal) = A.args.dgc (2048 * b.val + q.val) f.val * A.args.tap 2 f.val := fun q =>
    (val_main_v71_apply A.k A.v _).trans (congrArg₂ (fun a b : EReal => a * b) (reference_dgc A _) (reference_at_tap2 A _))
  unfold val_main_v73
  rw [prev_token]
  by_cases h : s.val = 0
  · rw [if_pos h]
    refine (pad_apply_of_not_inside _ _ _ _ _ _ _ _ 1 (fun hin => ?_)).trans (zc.trans (zero_mul _).symm)
    have q0 : 2 ≤ 1 + s.val := hin.1
    have q1 : (1 + s.val - 2) / 1 < 2048 := hin.2.2
    omega
  · rw [if_neg h]
    refine (pad_apply_of_inside _ _ _ _ _ _ _ _ (ix3 b ⟨s.val - 1, by omega⟩ f) (fun a => by
      match a with
      | ⟨0, _⟩ => show b.val = 0 + b.val * 1; omega
      | ⟨1, _⟩ => show 1 + s.val = 2 + (s.val - 1) * 1; omega
      | ⟨2, _⟩ => show f.val = 0 + f.val * 1; omega)).trans ((d _).trans ?_)
    rfl

theorem reference_pad1 (b : Fin 2) (s : Fin 2048) (f : Fin 2816) :
    (val_main_v80 (F := Ideal) A.k A.v (ix3 b ⟨1 + s.val, by omega⟩ f) : EReal) = A.args.dgc (2048 * b.val + s.val) f.val * A.args.tap 1 f.val := by
  have zc : (val_main_cst_13 (F := Ideal) (Shape.Idx.first Cert.Reference8Ideal.Gen.h_S_) : EReal) = 0 := Ideal.ofBits_zero .f32
  have d : ∀ q, (val_main_v78 (F := Ideal) A.k A.v (ix3 b q f) : EReal) = A.args.dgc (2048 * b.val + q.val) f.val * A.args.tap 1 f.val := fun q =>
    (val_main_v78_apply A.k A.v _).trans (congrArg₂ (fun a b : EReal => a * b) (reference_dgc A _) (reference_at_tap1 A _))
  unfold val_main_v80
  refine (pad_apply_of_inside _ _ _ _ _ _ _ _ (ix3 b ⟨s.val, by omega⟩ f) (fun a => by
    match a with
    | ⟨0, _⟩ => show b.val = 0 + b.val * 1; omega
    | ⟨1, _⟩ => show 1 + s.val = 1 + (s.val) * 1; omega
    | ⟨2, _⟩ => show f.val = 0 + f.val * 1; omega)).trans ((d _).trans ?_)
  rfl

theorem reference_pad0 (b : Fin 2) (s : Fin 2048) (f : Fin 2816) :
    (val_main_v88 (F := Ideal) A.k A.v (ix3 b ⟨1 + s.val, by omega⟩ f) : EReal) = A.args.next (2048 * b.val + s.val) f.val * A.args.tap 0 f.val := by
  have zc : (val_main_cst_16 (F := Ideal) (Shape.Idx.first Cert.Reference8Ideal.Gen.h_S_) : EReal) = 0 := Ideal.ofBits_zero .f32
  have d : ∀ q, (val_main_v86 (F := Ideal) A.k A.v (ix3 b q f) : EReal) = A.args.dgc (2048 * b.val + q.val) f.val * A.args.tap 0 f.val := fun q =>
    (val_main_v86_apply A.k A.v _).trans (congrArg₂ (fun a b : EReal => a * b) (reference_dgc A _) (reference_at_tap0 A _))
  unfold val_main_v88
  rw [next_token]
  by_cases h : s.val = 2047
  · rw [if_pos h]
    refine (pad_apply_of_not_inside _ _ _ _ _ _ _ _ 1 (fun hin => ?_)).trans (zc.trans (zero_mul _).symm)
    have q0 : 0 ≤ 1 + s.val := hin.1
    have q1 : (1 + s.val - 0) / 1 < 2048 := hin.2.2
    omega
  · rw [if_neg h]
    refine (pad_apply_of_inside _ _ _ _ _ _ _ _ (ix3 b ⟨s.val + 1, by omega⟩ f) (fun a => by
      match a with
      | ⟨0, _⟩ => show b.val = 0 + b.val * 1; omega
      | ⟨1, _⟩ => show 1 + s.val = 0 + (s.val + 1) * 1; omega
      | ⟨2, _⟩ => show f.val = 0 + f.val * 1; omega)).trans ((d _).trans ?_)
    rfl

theorem reference_dgt (b : Fin 2) (s : Fin 2048) (f : Fin 2816) :
    (val_main_v91 (F := Ideal) A.k A.v (ix3 b s f) : EReal) = A.args.dgt (2048 * b.val + s.val) f.val := by
  rw [val_main_v91_apply]
  refine (congrArg (val_main_v89 (F := Ideal) A.k A.v) (show idx_main_v91 (ix3 b s f) = ix3 b ⟨1 + s.val, by omega⟩ f from funext fun a => Fin.ext (by
    match a with
    | ⟨0, _⟩ => rfl
    | ⟨1, _⟩ => rfl
    | ⟨2, _⟩ => rfl))).trans ?_
  rw [val_main_v89_apply, val_main_v81_apply]
  refine (congrArg₂ (fun a b : EReal => a + b) (congrArg₂ (fun a b : EReal => a + b) (reference_pad2 A b s f) (reference_pad1 A b s f)) (reference_pad0 A b s f)).trans ?_
  unfold UpBack.Args.dgt
  rw [add_comm, add_comm (A.args.prev _ _ * _), ← add_assoc]

theorem reference_du (b : Fin 2) (s : Fin 2048) (j : Fin 5632) :
    (val_main_v93 (F := Ideal) A.k A.u A.v (ix3 b s j) : EReal) = A.args.du (2048 * b.val + s.val) j.val := by
  unfold val_main_v93 UpBack.Args.du
  by_cases h : j.val < 2816
  · rw [if_pos h]
    exact (concatenate_pair_apply_left 2 _ _ Cert.Reference8Ideal.Gen.concatenates_S2x2048x2816_S2x2048x2816_S2x2048x5632_d2 (ix3 b s j) rfl (ix3 b s ⟨j.val, h⟩) (fun d => by
      match d with
      | ⟨0, _⟩ => rfl
      | ⟨1, _⟩ => rfl
      | ⟨2, _⟩ => rfl)).trans (reference_dval A _)
  · rw [if_neg h]
    exact (concatenate_pair_apply_right 2 _ _ Cert.Reference8Ideal.Gen.concatenates_S2x2048x2816_S2x2048x2816_S2x2048x5632_d2 (ix3 b s j) rfl rfl (ix3 b s ⟨j.val - 2816, by omega⟩) (fun d hd => by
      match d with
      | ⟨0, _⟩ => rfl
      | ⟨1, _⟩ => rfl
      | ⟨2, _⟩ => exact absurd rfl hd) (by show j.val - 2816 + 2816 = j.val; omega)).trans (reference_dgt A _ _ _)

/-! ## The stream's gradient and the sums -/

theorem reference_dh (i : S2x2048x1024.Idx) : (val_main_v94 (F := Ideal) A.w A.k A.u A.v i : EReal) = A.args.dh (2048 * (i 0).val + (i 1).val) (i 2).val := by
  rw [val_main_v94_apply]
  unfold UpBack.Args.dh
  rw [← Fin.sum_univ_eq_sum_range (fun j => A.args.du (2048 * (i 0).val + (i 1).val) j * A.args.w j (i 2).val) 5632]
  refine Finset.sum_congr rfl fun k _ => congrArg₂ (fun a b : EReal => a * b) ?_ ?_
  · exact (congrArg (val_main_v93 (F := Ideal) A.k A.u A.v) (show lidx_main_v94 i k = ix3 (i 0) (i 1) k from funext fun a => Fin.ext (by
      match a with
      | ⟨0, _⟩ => rfl
      | ⟨1, _⟩ => rfl
      | ⟨2, _⟩ => rfl))).trans (reference_du A _ _ _)
  · rw [val_main_v39_apply, val_main_v38_apply]
    exact cell_eq (n := 5632) (k := 1024) (α := EReal) A.w _ rfl rfl

theorem reference_scaled (i : S2x2048x1024.Idx) : (val_main_v101 (F := Ideal) A.p A.w A.k A.u A.v i : EReal) = A.args.dh (2048 * (i 0).val + (i 1).val) (i 2).val * A.args.scale (2048 * (i 0).val + (i 1).val) (i 2).val :=
  (val_main_v101_apply A.p A.w A.k A.u A.v i).trans (congrArg₂ (fun a b : EReal => a * b) (reference_dh A i) (reference_scale_back A i))

theorem reference_dunit (i : S2x2048x1024.Idx) : (val_main_v106 (F := Ideal) A.p A.g A.w A.k A.u A.v i : EReal) = A.args.dunit (2048 * (i 0).val + (i 1).val) (i 2).val := by
  refine (val_main_v106_apply A.p A.g A.w A.k A.u A.v i).trans ((congrArg₂ (fun a b : EReal => a * b) (reference_scaled A i) (reference_g_back A i)).trans ?_)
  exact mul_right_comm _ _ _

/-- The norm's weights' gradient. -/
theorem reference_dg (j : S1024.Idx) : (val_main_v107 (F := Ideal) A.x A.y A.p A.w A.k A.u A.v j : EReal) = ∑ t ∈ Finset.range 4096, A.args.gterm 0 t (j 0).val := by
  have z0 : (val_main_cst_19 (F := Ideal) (Shape.Idx.first Cert.Reference8Ideal.Gen.h_S_) : EReal) = 0 := Ideal.ofBits_zero .f32
  have z1 : (val_main_cst_20 (F := Ideal) (Shape.Idx.first Cert.Reference8Ideal.Gen.h_S_) : EReal) = 0 := Ideal.ofBits_zero .f32
  unfold val_main_v107
  simp only [Host.reduceAdd, Ideal.hostReduceAdd_def]
  refine (HostSums.two_axes _ _ _ j).trans ?_
  rw [z1, zero_add, Fin.sum_univ_one, Fin.sum_univ_one, val_main_v104_apply]
  unfold val_main_v103
  simp only [Host.reduceAdd, Ideal.hostReduceAdd_def]
  refine (HostSums.two_axes _ _ _ _).trans ?_
  rw [z0, zero_add, ← HostSums.sum_tokens]
  refine Finset.sum_congr rfl fun p _ => Finset.sum_congr rfl fun q _ => ?_
  rw [val_main_v102_apply]
  refine (congrArg₂ (fun a b : EReal => a * b) (reference_unit A _) (reference_scaled A _)).trans ((EReal.mul_comm _ _).trans ?_)
  refine congrArg (fun k => A.args.gterm 0 (2048 * p.val + q.val) k) ?_
  show (0 * 1 + 0) * 1024 + (j 0).val = (j 0).val
  omega

theorem reference_gstat (i : S8x1024.Idx) : (val_main_v130 (F := Ideal) A.x A.y A.p A.w A.k A.u A.v i : EReal) = ∑ t ∈ Finset.range 4096, A.args.gterm (i 0).val t (i 1).val := by
  have hi : (i 0).val < 8 := (i 0).isLt
  unfold val_main_v130
  by_cases h : (i 0).val = 0
  · refine (concatenate_pair_apply_left 0 _ _ Cert.Reference8Ideal.Gen.concatenates_S1x1024_S7x1024_S8x1024_d0 i rfl (ix2 0 (i 1)) (fun b => by
      match b with
      | ⟨0, _⟩ => exact h.symm
      | ⟨1, _⟩ => rfl)).trans ?_
    rw [val_main_v128_apply, h]
    exact reference_dg A _
  · unfold UpBack.Args.gterm
    simp only [if_neg h, Finset.sum_const_zero]
    refine (concatenate_pair_apply_right 0 _ _ Cert.Reference8Ideal.Gen.concatenates_S1x1024_S7x1024_S8x1024_d0 i rfl rfl (ix2 ⟨(i 0).val - 1, by omega⟩ (i 1)) (fun b hb => by
      match b with
      | ⟨0, _⟩ => exact absurd rfl hb
      | ⟨1, _⟩ => rfl) (by show (i 0).val - 1 + 1 = (i 0).val; omega)).trans ?_
    rw [val_main_v129_apply]
    exact Ideal.ofBits_zero .f32

/-- The small parameters' gradients of the convolution: three rows of eight, the others zero. -/
theorem reference_cstat (i : S8x2816.Idx) : (val_main_v139 (F := Ideal) A.x A.y A.p A.g A.w A.v i : EReal) = ∑ t ∈ Finset.range 4096, A.args.cterm (i 0).val t (i 1).val := by
  have hi : (i 0).val < 8 := (i 0).isLt
  have zero : (i 0).val ≠ 1 → (i 0).val ≠ 2 → (i 0).val ≠ 3 → ∑ t ∈ Finset.range 4096, A.args.cterm (i 0).val t (i 1).val = 0 := fun h1 h2 h3 => by
    unfold UpBack.Args.cterm
    simp only [if_neg h1, if_neg h2, if_neg h3, Finset.sum_const_zero]
  unfold val_main_v139
  by_cases h : (i 0).val = 0
  · refine (concatenate_apply_piece 0 _ _ i 0 (by simp) S1x2816 _ rfl rfl 0 rfl (ix2 0 (i 1)) (fun d hd => by
      match d with
      | ⟨0, _⟩ => exact absurd rfl hd
      | ⟨1, _⟩ => rfl) (by show 0 + 0 = (i 0).val; omega)).trans (Eq.trans ?_ (zero (by omega) (by omega) (by omega)).symm)
    rw [val_main_v133_apply]
    exact Ideal.ofBits_zero .f32
  by_cases h' : 4 ≤ (i 0).val
  · refine (concatenate_apply_piece 0 _ _ i 2 (by simp) S4x2816 _ rfl rfl 4 rfl (ix2 ⟨(i 0).val - 4, by omega⟩ (i 1)) (fun d hd => by
      match d with
      | ⟨0, _⟩ => exact absurd rfl hd
      | ⟨1, _⟩ => rfl) (by show 4 + ((i 0).val - 4) = (i 0).val; omega)).trans (Eq.trans ?_ (zero (by omega) (by omega) (by omega)).symm)
    rw [val_main_v138_apply]
    exact Ideal.ofBits_zero .f32
  refine (concatenate_apply_piece 0 _ _ i 1 (by simp) S3x2816 _ rfl rfl 1 rfl (ix2 ⟨(i 0).val - 1, by omega⟩ (i 1)) (fun d hd => by
    match d with
    | ⟨0, _⟩ => exact absurd rfl hd
    | ⟨1, _⟩ => rfl) (by show 1 + ((i 0).val - 1) = (i 0).val; omega)).trans ?_
  unfold val_main_v137
  by_cases c1 : (i 0).val = 1
  · refine (concatenate_apply_piece 0 _ _ (ix2 (⟨(i 0).val - 1, by omega⟩ : Fin 3) (i 1)) 0 (by simp) S1x2816 _ rfl rfl 0 rfl (ix2 0 (i 1)) (fun d hd => by
      match d with
      | ⟨0, _⟩ => exact absurd rfl hd
      | ⟨1, _⟩ => rfl) (by show 0 + 0 = (i 0).val - 1; omega)).trans ?_
    rw [val_main_v134_apply, c1]
    exact reference_tap0 A _
  by_cases c2 : (i 0).val = 2
  · refine (concatenate_apply_piece 0 _ _ (ix2 (⟨(i 0).val - 1, by omega⟩ : Fin 3) (i 1)) 1 (by simp) S1x2816 _ rfl rfl 1 rfl (ix2 0 (i 1)) (fun d hd => by
      match d with
      | ⟨0, _⟩ => exact absurd rfl hd
      | ⟨1, _⟩ => rfl) (by show 1 + 0 = (i 0).val - 1; omega)).trans ?_
    rw [val_main_v135_apply, c2]
    exact reference_tap1 A _
  have c3 : (i 0).val = 3 := by omega
  refine (concatenate_apply_piece 0 _ _ (ix2 (⟨(i 0).val - 1, by omega⟩ : Fin 3) (i 1)) 2 (by simp) S1x2816 _ rfl rfl 2 rfl (ix2 0 (i 1)) (fun d hd => by
    match d with
    | ⟨0, _⟩ => exact absurd rfl hd
    | ⟨1, _⟩ => rfl) (by show 2 + 0 = (i 0).val - 1; omega)).trans ?_
  rw [val_main_v136_apply, c3]
  exact reference_tap2 A _

theorem reference_dshift (j : S2x1x1024.Idx) : (val_main_v96 (F := Ideal) A.w A.k A.u A.v j : EReal)
    = ∑ s ∈ Finset.range 2048, A.args.bterm 0 (2048 * (j 0).val + s) (j 2).val := by
  have zc : (val_main_cst_17 (F := Ideal) (Shape.Idx.first Cert.Reference8Ideal.Gen.h_S_) : EReal) = 0 := Ideal.ofBits_zero .f32
  have b1 : (j 1).val < 1 := (j 1).isLt
  have b2 : (j 2).val < 1024 := (j 2).isLt
  rw [val_main_v96_apply, val_main_v95_apply, zc, zero_add, ← Fin.sum_univ_eq_sum_range (fun s => A.args.bterm 0 (2048 * (j 0).val + s) (j 2).val) 2048]
  refine Finset.sum_congr rfl fun s _ => ?_
  refine (reference_dh A _).trans ?_
  refine congrArg₂ (fun t k => A.args.bterm 0 t k) ?_ ?_
  · show 2048 * ((((j 0).val * 1 + (j 1).val) * 1024 + (j 2).val) / 1024) + s.val = _; omega
  · show (((j 0).val * 1 + (j 1).val) * 1024 + (j 2).val) % 1024 = _; omega

theorem reference_dscale (j : S2x1x1024.Idx) : (val_main_v99 (F := Ideal) A.x A.y A.p A.g A.w A.k A.u A.v j : EReal)
    = ∑ s ∈ Finset.range 2048, A.args.bterm 1 (2048 * (j 0).val + s) (j 2).val := by
  have zc : (val_main_cst_18 (F := Ideal) (Shape.Idx.first Cert.Reference8Ideal.Gen.h_S_) : EReal) = 0 := Ideal.ofBits_zero .f32
  have b1 : (j 1).val < 1 := (j 1).isLt
  have b2 : (j 2).val < 1024 := (j 2).isLt
  rw [val_main_v99_apply, val_main_v98_apply, zc, zero_add, ← Fin.sum_univ_eq_sum_range (fun s => A.args.bterm 1 (2048 * (j 0).val + s) (j 2).val) 2048]
  refine Finset.sum_congr rfl fun s _ => ?_
  rw [val_main_v97_apply]
  refine (congrArg₂ (fun a b : EReal => a * b) (reference_weighted A _) (reference_dh A _)).trans ((EReal.mul_comm _ _).trans ?_)
  refine congrArg₂ (fun t k => A.args.bterm 1 t k) ?_ ?_
  · show 2048 * ((((j 0).val * 1 + (j 1).val) * 1024 + (j 2).val) / 1024) + s.val = _; omega
  · show (((j 0).val * 1 + (j 1).val) * 1024 + (j 2).val) % 1024 = _; omega

/-- The stream's gradient, by the norm's derivative. -/
theorem reference_dstream (i : S2x2048x1024.Idx) : (val_main_v122 (F := Ideal) A.x A.y A.p A.g A.w A.k A.u A.v A.d i : EReal) = A.args.dstream (2048 * (i 0).val + (i 1).val) (i 2).val := by
  have b0 : (i 0).val < 2 := (i 0).isLt
  have b1 : (i 1).val < 2048 := (i 1).isLt
  have b2 : (i 2).val < 1024 := (i 2).isLt
  have z0 : (val_main_cst_21 (F := Ideal) (Shape.Idx.first Cert.Reference8Ideal.Gen.h_S_) : EReal) = 0 := Ideal.ofBits_zero .f32
  have z1 : (val_main_cst_23 (F := Ideal) (Shape.Idx.first Cert.Reference8Ideal.Gen.h_S_) : EReal) = 0 := Ideal.ofBits_zero .f32
  have e : ∀ j : S2x2048x1.Idx, j 0 = i 0 → j 1 = i 1 → (val_main_v116 (F := Ideal) A.x A.y A.p A.g A.w A.k A.u A.v j : EReal)
      = Ideal.div ((∑ k ∈ Finset.range 1024, A.args.stream (2048 * (i 0).val + (i 1).val) k * A.args.dunit (2048 * (i 0).val + (i 1).val) k) * (Ideal.ofBits .f32 0xBF000000#32 * Ideal.div (A.args.inv (2048 * (i 0).val + (i 1).val))
          (Ideal.div (∑ k ∈ Finset.range 1024, A.args.stream (2048 * (i 0).val + (i 1).val) k * A.args.stream (2048 * (i 0).val + (i 1).val) k) UpBack.width + Norm.eps))) UpBack.width := fun j ja jb => by
    have j2 : (j 2).val < 1 := (j 2).isLt
    rw [val_main_v116_apply, val_main_v114_apply, val_main_v110_apply, val_main_v109_apply, val_main_v26_apply, val_main_v25_apply, val_main_v24_apply, val_main_v115_apply]
    rw [z0, zero_add, reference_inv A j, reference_mean A j, ja, jb]
    refine congrArg (fun a : EReal => Ideal.div (a * _) _) ?_
    rw [← Fin.sum_univ_eq_sum_range (fun k => A.args.stream (2048 * (i 0).val + (i 1).val) k * A.args.dunit (2048 * (i 0).val + (i 1).val) k) 1024]
    refine Finset.sum_congr rfl fun k _ => ?_
    rw [val_main_v108_apply]
    have t : 2048 * (idx_main_v109 (idx_main_v110 j) k 0).val + (idx_main_v109 (idx_main_v110 j) k 1).val = 2048 * (i 0).val + (i 1).val := by
      show 2048 * ((((j 0).val * 2048 + (j 1).val) * 1 + (j 2).val) / 2048) + (((j 0).val * 2048 + (j 1).val) * 1 + (j 2).val) % 2048 = _
      rw [ja, jb]; omega
    refine (congrArg₂ (fun a b : EReal => a * b) (reference_stream A _) (reference_dunit A _)).trans ?_
    rw [t]
  rw [val_main_v122_apply, val_main_v121_apply, val_main_v120_apply, val_main_v119_apply, val_main_v113_apply, val_main_v112_apply, val_main_v111_apply, val_main_v118_apply, val_main_v117_apply]
  rw [z1, zero_add, Fin.sum_univ_one, e _ rfl rfl]
  refine (congrArg₂ (fun a b : EReal => a + b) (congrArg₂ (fun a b : EReal => a + b) (congrArg₂ (fun a b : EReal => a + b) (reference_dx A i)
    (congrArg₂ (fun a b : EReal => a * b) (reference_dunit A i) (reference_inv A _))) (congrArg (fun a : EReal => a * _) (reference_stream A i)))
    (congrArg (fun a : EReal => _ * a) (reference_stream A i))).trans ?_
  rw [add_assoc, add_assoc]
  refine congrArg (fun a : EReal => A.args.dx (2048 * (i 0).val + (i 1).val) (i 2).val + a) ?_
  have hb := Norm.back (W := 1024) (by norm_num) 1024 (A.args.stream (2048 * (i 0).val + (i 1).val)) (A.args.dunit (2048 * (i 0).val + (i 1).val)) (i 2).val b2
  rw [← Norm.thousand, add_assoc] at hb
  exact hb.symm

theorem reference_dgate (j : S2x1x1024.Idx) : (val_main_v127 (F := Ideal) A.x A.y A.p A.g A.w A.k A.u A.v A.d j : EReal)
    = ∑ s ∈ Finset.range 2048, A.args.bterm 2 (2048 * (j 0).val + s) (j 2).val := by
  have zc : (val_main_cst_24 (F := Ideal) (Shape.Idx.first Cert.Reference8Ideal.Gen.h_S_) : EReal) = 0 := Ideal.ofBits_zero .f32
  have b1 : (j 1).val < 1 := (j 1).isLt
  have b2 : (j 2).val < 1024 := (j 2).isLt
  rw [val_main_v127_apply, val_main_v126_apply, zc, zero_add, ← Fin.sum_univ_eq_sum_range (fun s => A.args.bterm 2 (2048 * (j 0).val + s) (j 2).val) 2048]
  refine Finset.sum_congr rfl fun s _ => ?_
  rw [val_main_v125_apply]
  refine (congrArg₂ (fun a b : EReal => a * b) (reference_dstream A _) (reference_mix A _)).trans ?_
  refine congrArg₂ (fun t k => A.args.bterm 2 t k) ?_ ?_
  · show 2048 * ((((j 0).val * 1 + (j 1).val) * 1024 + (j 2).val) / 1024) + s.val = _; omega
  · show (((j 0).val * 1 + (j 1).val) * 1024 + (j 2).val) % 1024 = _; omega

theorem reference_bstat (i : S2x8x1024.Idx) : (val_main_v132 (F := Ideal) A.x A.y A.p A.g A.w A.k A.u A.v A.d i : EReal)
    = ∑ s ∈ Finset.range 2048, A.args.bterm (i 1).val (2048 * (i 0).val + s) (i 2).val := by
  have hi : (i 1).val < 8 := (i 1).isLt
  unfold val_main_v132
  by_cases c0 : (i 1).val = 0
  · refine (concatenate_apply_piece 1 _ _ i 0 (by simp) S2x1x1024 _ rfl rfl 0 rfl (ix3 (i 0) 0 (i 2)) (fun d hd => by
      match d with
      | ⟨0, _⟩ => rfl
      | ⟨1, _⟩ => exact absurd rfl hd
      | ⟨2, _⟩ => rfl) (by show 0 + 0 = (i 1).val; omega)).trans ?_
    rw [c0]
    exact reference_dshift A _
  by_cases c1 : (i 1).val = 1
  · refine (concatenate_apply_piece 1 _ _ i 1 (by simp) S2x1x1024 _ rfl rfl 1 rfl (ix3 (i 0) 0 (i 2)) (fun d hd => by
      match d with
      | ⟨0, _⟩ => rfl
      | ⟨1, _⟩ => exact absurd rfl hd
      | ⟨2, _⟩ => rfl) (by show 1 + 0 = (i 1).val; omega)).trans ?_
    rw [c1]
    exact reference_dscale A _
  by_cases c2 : (i 1).val = 2
  · refine (concatenate_apply_piece 1 _ _ i 2 (by simp) S2x1x1024 _ rfl rfl 2 rfl (ix3 (i 0) 0 (i 2)) (fun d hd => by
      match d with
      | ⟨0, _⟩ => rfl
      | ⟨1, _⟩ => exact absurd rfl hd
      | ⟨2, _⟩ => rfl) (by show 2 + 0 = (i 1).val; omega)).trans ?_
    rw [c2]
    exact reference_dgate A _
  · refine (concatenate_apply_piece 1 _ _ i 3 (by simp) S2x5x1024 _ rfl rfl 3 rfl (ix3 (i 0) ⟨(i 1).val - 3, by omega⟩ (i 2)) (fun d hd => by
      match d with
      | ⟨0, _⟩ => rfl
      | ⟨1, _⟩ => exact absurd rfl hd
      | ⟨2, _⟩ => rfl) (by show 3 + ((i 1).val - 3) = (i 1).val; omega)).trans ?_
    unfold UpBack.Args.bterm
    simp only [if_neg c0, if_neg c1, if_neg c2, Finset.sum_const_zero]
    rw [val_main_v131_apply]
    exact Ideal.ofBits_zero .f32

theorem reference_dx1 (i : S4096x1024.Idx) : (val_main_v142 (F := Ideal) A.x A.y A.p A.g A.w A.k A.u A.v A.d i : EReal) = A.args.dstream (i 0).val (i 1).val := by
  have b0 : (i 0).val < 4096 := (i 0).isLt
  have b1 : (i 1).val < 1024 := (i 1).isLt
  refine (val_main_v142_apply A.x A.y A.p A.g A.w A.k A.u A.v A.d i).trans ((reference_dstream A _).trans (congrArg₂ (fun t k => A.args.dstream t k) ?_ ?_))
  · show 2048 * (((i 0).val * 1024 + (i 1).val) / 2097152) + ((i 0).val * 1024 + (i 1).val) / 1024 % 2048 = (i 0).val; omega
  · show ((i 0).val * 1024 + (i 1).val) % 1024 = (i 1).val; omega

theorem reference_dmix (i : S4096x1024.Idx) : (val_main_v144 (F := Ideal) A.x A.y A.p A.g A.w A.k A.u A.v A.d i : EReal) = A.args.dmix (i 0).val (i 1).val := by
  have b0 : (i 0).val < 4096 := (i 0).isLt
  have b1 : (i 1).val < 1024 := (i 1).isLt
  rw [val_main_v144_apply, val_main_v143_apply, val_main_v124_apply]
  refine (congrArg₂ (fun a b : EReal => a * b) (reference_gate_back A _) (reference_dstream A _)).trans (congrArg₂ (fun t k => A.args.dmix t k) ?_ ?_)
  · show 2048 * (((i 0).val * 1024 + (i 1).val) / 2097152) + ((i 0).val * 1024 + (i 1).val) / 1024 % 2048 = (i 0).val; omega
  · show ((i 0).val * 1024 + (i 1).val) % 1024 = (i 1).val; omega

theorem reference_du_flat (i : S4096x5632.Idx) : (val_main_v141 (F := Ideal) A.k A.u A.v i : EReal) = A.args.du (i 0).val (i 1).val := by
  have b0 : (i 0).val < 4096 := (i 0).isLt
  have b1 : (i 1).val < 5632 := (i 1).isLt
  rw [val_main_v141_apply, val_main_v140_apply]
  refine (congrArg (val_main_v93 (F := Ideal) A.k A.u A.v) (show idx_main_v140 i = ix3 (idx_main_v140 i 0) (idx_main_v140 i 1) (idx_main_v140 i 2) from funext fun a => Fin.ext (by
    match a with
    | ⟨0, _⟩ => rfl
    | ⟨1, _⟩ => rfl
    | ⟨2, _⟩ => rfl))).trans ((reference_du A _ _ _).trans (congrArg₂ (fun t k => A.args.du t k) ?_ ?_))
  · show 2048 * (((i 0).val * 5632 + (i 1).val) / 11534336) + ((i 0).val * 5632 + (i 1).val) / 5632 % 2048 = (i 0).val; omega
  · show ((i 0).val * 5632 + (i 1).val) % 5632 = (i 1).val; omega

end

end Cert.Kernel8Ideal.Value

end

end
-- ==== Proof.UpBack.lean ====
/-
  The backward pass of the feed-forward layer's up-projection: the kernel's six results are its reference's.
-/
module

public import proofs.«01_k».proof.Proof.UpBackKernel
public import proofs.«01_k».proof.Proof.UpBackReference
public import proofs.«01_k».proof.Defs
public import proofs.«01_k».proof.Proof.Gen.Kernel8.Frame
public import Idealize.ShloMosaic.Lib.Quiescent

@[expose] public section

set_option maxRecDepth 16384

noncomputable section

namespace Cert.Claims

open Idealize.ShloMosaic Idealize.ShloMosaic.TcCoe Idealize.SL.Sem

theorem frame_p8 : Cert.quiescent_Kernel8 := fun m ρ _ => Cert.Kernel8.Gen.frame m ρ

theorem frame_pi8 : Cert.quiescent_Kernel8Ideal := fun m ρ _ => Cert.Kernel8Ideal.Gen.frame m ρ

theorem frame_ri8 : Cert.quiescent_Reference8Ideal := fun m ρ _ =>
  (θ_run Cert.Reference8Ideal.defs _ _).mono (fun r h => ⟨fun c => (h c).2.2.2.2.2.2, Idealize.ShloMosaic.sem_eq_zero_of_no_sems (by decide) r.2⟩)
    (Cert.Reference8Ideal.Value.run (F := Ideal) m ρ)

theorem preserves8 : Cert.preserves_Kernel8_Kernel8Ideal := trivial

open Cert.Kernel8Ideal.Value in
/-- The arguments' arrays as device `c` holds them. -/
abbrev arrays (m : (ℓ : Loc Cert.Kernel8Ideal.nD Cert.Kernel8Ideal.τ Cert.Kernel8Ideal.sig) → Buf (Elt Ideal) ℓ) (c : Dev Cert.Kernel8Ideal.nD) : Arrays :=
  open Cert.Kernel8Ideal in
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8)⟩

set_option maxHeartbeats 2000000 in
open Cert.Kernel8Ideal.Value in
/-- The kernel's six results are the reference's. -/
theorem algebraic8 : Cert.algebraic_Kernel8Ideal_Reference8Ideal := by
  intro m ρ m' ρ' _ hag
  refine ⟨fun c => (Cert.Kernel8Ideal.Gen.dats m 0 c).arrAt 12 Cert.Kernel8Ideal.cfg0.N, fun c => (Cert.Kernel8Ideal.Gen.dats m 0 c).arrAt 13 Cert.Kernel8Ideal.cfg0.N,
    fun c => (Cert.Kernel8Ideal.Gen.dats m 0 c).arrAt 14 Cert.Kernel8Ideal.cfg0.N, fun c => (Cert.Kernel8Ideal.Gen.dats m 0 c).arrAt 15 Cert.Kernel8Ideal.cfg0.N,
    fun c => (Cert.Kernel8Ideal.Gen.dats m 0 c).arrAt 16 Cert.Kernel8Ideal.cfg0.N, fun c => (Cert.Kernel8Ideal.Gen.dats m 0 c).arrAt 17 Cert.Kernel8Ideal.cfg0.N,
    Cert.Kernel8Ideal.Value.run_blocks m ρ, ?_⟩
  refine (θ_run Cert.Reference8Ideal.defs _ _).mono (fun r hr c => ?_) (Cert.Reference8Ideal.Value.run (F := Ideal) m' ρ')
  obtain ⟨g0, g1, g2, g3, g4, g5, g6, g7, g8⟩ := hag c
  obtain ⟨r0, r1, r2, r3, r4, r5, rest⟩ := hr c
  refine ⟨r0.trans ((Cert.Reference8Ideal.Read.val_main_v141_eq _ _ _).trans ?_), r1.trans ((Cert.Reference8Ideal.Read.val_main_v142_eq _ _).trans ?_),
    r2.trans ((Cert.Reference8Ideal.Read.val_main_v144_eq _ _).trans ?_), r3.trans ((Cert.Reference8Ideal.Read.val_main_v130_eq _ _).trans ?_),
    r4.trans ((Cert.Reference8Ideal.Read.val_main_v132_eq _ _).trans ?_), r5.trans ((Cert.Reference8Ideal.Read.val_main_v139_eq _ _).trans ?_), rest⟩
  · rw [g5, g6, g7]
    funext i
    have e := final12 m c i
    unfold held at e
    exact (reference_du_flat (arrays m c) i).trans e.symm
  · rw [g0, g1, g2, g3, g4, g5, g6, g7, g8]
    funext i
    have e := final13 m c i
    unfold held at e
    exact (reference_dx1 (arrays m c) i).trans e.symm
  · rw [g0, g1, g2, g3, g4, g5, g6, g7, g8]
    funext i
    have e := final14 m c i
    unfold held at e
    exact (reference_dmix (arrays m c) i).trans e.symm
  · rw [g0, g1, g2, g4, g5, g6, g7]
    funext i
    have e := final15 m c i
    unfold held at e
    exact (reference_gstat (arrays m c) i).trans e.symm
  · rw [g0, g1, g2, g3, g4, g5, g6, g7, g8]
    funext i
    have e := final16 m c i
    unfold held at e
    exact (reference_bstat (arrays m c) i).trans e.symm
  · rw [g0, g1, g2, g3, g4, g7]
    funext i
    have e := final17 m c i
    unfold held at e
    exact (reference_cstat (arrays m c) i).trans e.symm

end Cert.Claims

end

end
-- ==== Proof.OutBack.lean ====
/-
  The backward pass of the attention's output projection: the kernel multiplies and takes the derivative of the two
  normalisations one block of 512 tokens at a time and adds up their weights' gradients; the reference does each at once.
-/
module

public import proofs.«01_k».proof.Defs
public import proofs.«01_k».proof.Proof.Cell
public import proofs.«01_k».proof.Proof.NormBack
public import proofs.«01_k».proof.Proof.Rows
public import proofs.«01_k».proof.Proof.Gen.Kernel9.Frame
public import proofs.«01_k».proof.Proof.Gen.Kernel9Ideal.Value
public import proofs.«01_k».proof.Proof.Gen.Reference9Ideal.Read
public import Idealize.ShloMosaic.Lib.Quiescent
public import Idealize.ShloMosaic.Lib.Pointwise
public import Idealize.ShloMosaic.Lib.Tactic

@[expose] public section

set_option maxRecDepth 16384

noncomputable section

namespace Cert.Kernel9Ideal.Value

open Cert.Kernel9Ideal Cert.Kernel9Ideal.Gen Cert.Cell Cert.Rows
open Idealize.ShloMosaic Idealize.ShloMosaic.TcCoe Idealize.SL.Sem

theorem hz : (![0, 0] : Fin 2 → Nat) = fun _ => 0 := funext fun a => by fin_cases a <;> rfl

/-- The width of a group of heads. -/
abbrev W : EReal := Ideal.ofBits .f32 0x44000000#32

/-- The reciprocal of a row's root mean square. -/
abbrev inv (X : ℕ → EReal) : EReal := Norm.inv W 512 X

/-- The gradient of a normalised row `X`, from the gradient `D` of the scaled row and its scales `G`. -/
def down (X D G : ℕ → EReal) (l : ℕ) : EReal :=
  inv X * (D l * G l - X l * inv X * Ideal.div (∑ k ∈ Finset.range 512, X k * inv X * (D k * G k)) W)

/-- The arguments of the call: the gradient of the product, its weights, the two groups of heads and their scales. -/
structure Args where
  d : (⟨S4096x1024, .bf16⟩ : BufTy).Contents (Elt Ideal)
  w : (⟨S1024x1024, .bf16⟩ : BufTy).Contents (Elt Ideal)
  a : (⟨S4096x512, .f32⟩ : BufTy).Contents (Elt Ideal)
  b : (⟨S4096x512, .f32⟩ : BufTy).Contents (Elt Ideal)
  g : (⟨S1x512, .f32⟩ : BufTy).Contents (Elt Ideal)
  h : (⟨S1x512, .f32⟩ : BufTy).Contents (Elt Ideal)

/-- The row of token `t` of a group of heads. -/
abbrev row (x : (⟨S4096x512, .f32⟩ : BufTy).Contents (Elt Ideal)) (t : ℕ) : ℕ → EReal := cell (n := 4096) (k := 512) (α := EReal) x t

/-- A group's scales. -/
abbrev scales (x : (⟨S1x512, .f32⟩ : BufTy).Contents (Elt Ideal)) : ℕ → EReal := cell (n := 1) (k := 512) (α := EReal) x 0

/-- The gradient of the product's left factor, from column `o` on. -/
def Args.back (A : Args) (o t l : ℕ) : EReal :=
  ∑ k ∈ Finset.range 1024, cell (n := 4096) (k := 1024) (α := EReal) A.d t k * cell (n := 1024) (k := 1024) (α := EReal) A.w (o + l) k

/-- What token `t` adds to row `j` of the gradients of the scales. -/
def Args.term (A : Args) (j t l : ℕ) : EReal :=
  if j = 0 then A.back 0 t l * (row A.a t l * inv (row A.a t)) else if j = 1 then A.back 512 t l * (row A.b t l * inv (row A.b t)) else 0

/-! ## What one step computes from its blocks -/

theorem pay1_apply (d : Vec Ideal S512x1024 .bf16) (w : Vec Ideal S1024x1024 .bf16) (r : Fin 512) (f : Fin 1024) :
    (k0_pay1 d w (ix2 r f) : EReal) = ∑ k : Fin 1024, (d (ix2 r k) : EReal) * w (ix2 f k) := by
  unfold k0_pay1
  pointwise []

theorem pay3_apply (d : Vec Ideal S512x1024 .bf16) (w : Vec Ideal S1024x1024 .bf16) (r l : Fin 512) (f : Fin 1024) (e : f.val = 0 + l.val) :
    (k0_pay3 d w (ix2 r l) : EReal) = ∑ k : Fin 1024, (d (ix2 r k) : EReal) * w (ix2 f k) :=
  (congrArg (k0_pay1 d w) (show _ = ix2 r f from funext fun a => Fin.ext (by
    fin_cases a
    · show 0 + r.val = r.val; omega
    · show 0 + l.val = f.val; omega))).trans (pay1_apply d w r f)

theorem pay9_apply (d : Vec Ideal S512x1024 .bf16) (w : Vec Ideal S1024x1024 .bf16) (r l : Fin 512) (f : Fin 1024) (e : f.val = 512 + l.val) :
    (k0_pay9 (k0_pay1 d w) (ix2 r l) : EReal) = ∑ k : Fin 1024, (d (ix2 r k) : EReal) * w (ix2 f k) :=
  (congrArg (k0_pay1 d w) (show _ = ix2 r f from funext fun a => Fin.ext (by
    fin_cases a
    · show 0 + r.val = r.val; omega
    · show 512 + l.val = f.val; omega))).trans (pay1_apply d w r f)

/-- The reciprocal root mean square of row `r` of a block. -/
def rms (x : Vec Ideal S512x512 .f32) (r : Fin 512) : EReal :=
  Ideal.rsqrt (Ideal.div (∑ k : Fin 512, (x (ix2 r k) : EReal) * x (ix2 r k)) W + Ideal.ofBits .f32 0x358637BD#32)

theorem rms_eq (x : Vec Ideal S512x512 .f32) (r : Fin 512) (X : ℕ → EReal) (hx : ∀ k : Fin 512, (x (ix2 r k) : EReal) = X k.val) : rms x r = inv X := by
  unfold rms inv Norm.inv Norm.eps
  rw [← Fin.sum_univ_eq_sum_range (fun k => X k * X k) 512]
  simp only [hx]

/-- `down` of the rows of blocks. -/
def raw (x p : FVec Ideal S512x512 .f32) (g : Vec Ideal S1x512 .f32) (r l : Fin 512) : EReal :=
  rms x r * ((p (ix2 r l) : EReal) * g (ix2 0 l) - (x (ix2 r l) : EReal) * rms x r * Ideal.div (∑ k : Fin 512, (x (ix2 r k) : EReal) * rms x r * ((p (ix2 r k) : EReal) * g (ix2 0 k))) W)

theorem raw_eq (x p : FVec Ideal S512x512 .f32) (g : Vec Ideal S1x512 .f32) (r l : Fin 512) (X D G : ℕ → EReal) (hx : ∀ k : Fin 512, (x (ix2 r k) : EReal) = X k.val)
    (hp : ∀ k : Fin 512, (p (ix2 r k) : EReal) = D k.val) (hg : ∀ k : Fin 512, (g (ix2 0 k) : EReal) = G k.val) : raw x p g r l = down X D G l.val := by
  unfold raw down
  rw [rms_eq x r X hx, ← Fin.sum_univ_eq_sum_range (fun k => X k * inv X * (D k * G k)) 512]
  simp only [hx, hp, hg]

theorem pay8_apply (d : Vec Ideal S512x1024 .bf16) (w : Vec Ideal S1024x1024 .bf16) (x : Vec Ideal S512x512 .f32) (g : Vec Ideal S1x512 .f32) (r l : Fin 512) :
    (k0_pay8 (k0_pay4 x) (k0_pay7 d w x g) (ix2 r l) : EReal) = raw x (k0_pay3 d w) g r l := by
  unfold k0_pay8 k0_pay7 k0_pay5 k0_pay4 raw rms
  generalize k0_pay3 d w = p
  pointwise []

theorem pay13_apply (q : FVec Ideal S512x1024 .f32) (x : Vec Ideal S512x512 .f32) (g : Vec Ideal S1x512 .f32) (r l : Fin 512) :
    (k0_pay13 q x g (ix2 r l) : EReal) = raw x (k0_pay9 q) g r l := by
  unfold k0_pay13 k0_pay11 k0_pay10 raw rms
  generalize k0_pay9 q = p
  pointwise []

/-- A step's sum for a row of the gradients of the scales. -/
def rsum (p : FVec Ideal S512x512 .f32) (x : Vec Ideal S512x512 .f32) (l : Fin 512) : EReal :=
  ∑ r : Fin 512, (p (ix2 r l) : EReal) * ((x (ix2 r l) : EReal) * rms x r)

theorem pay6_apply (d : Vec Ideal S512x1024 .bf16) (w : Vec Ideal S1024x1024 .bf16) (x : Vec Ideal S512x512 .f32) (v : Vec Ideal S1x512 .f32) (l : Fin 512) :
    (k0_pay6 d w x v (ix2 0 l) : EReal) = (v (ix2 0 l) : EReal) + rsum (k0_pay3 d w) x l := by
  unfold k0_pay6 k0_pay5 k0_pay4 rsum rms
  generalize k0_pay3 d w = p
  pointwise []

theorem pay12_apply (q : FVec Ideal S512x1024 .f32) (x : Vec Ideal S512x512 .f32) (v : Vec Ideal S1x512 .f32) (l : Fin 512) :
    (k0_pay12 q x v (ix2 0 l) : EReal) = (v (ix2 0 l) : EReal) + rsum (k0_pay9 q) x l := by
  unfold k0_pay12 k0_pay11 k0_pay10 rsum rms
  generalize k0_pay9 q = p
  pointwise []

theorem pay2_apply (y : S8x512.Idx) : (k0_pay2 (F := Ideal) y : EReal) = 0 := by
  unfold k0_pay2
  pointwise []

/-- A step's part of the rows of gradients of the scales. -/
def rows (p q : FVec Ideal S512x512 .f32) (x y : Vec Ideal S512x512 .f32) (j : ℕ) (l : Fin 512) : EReal :=
  if j = 0 then rsum p x l else if j = 1 then rsum q y l else 0

theorem plus {a a' b : EReal} (h : a = a') : a + b = a' + b := by rw [h]

theorem ix2_row {n k : ℕ} {α : Type} (x : (⟨2, ![n, k]⟩ : Shape).Idx → α) {o : ℕ} {j : Fin n} (h : j.val = o) (ho : o < n) (l : Fin k) : x (ix2 ⟨o, ho⟩ l) = x (ix2 j l) := by
  subst h; rfl

theorem out6_A (c : Dev nD) (i : grid0.Coords) (a1 h1 a2 h2 a3 h3 a4 h4 a5 h5 a6 h6 a7 h7 a8 h8 a9 h9) (hc0 : cond0_0 i) (x0 : Vec Ideal S512x1024 .bf16) (x1 : Vec Ideal S1024x1024 .bf16) (x2 x3 : Vec Ideal S512x512 .f32) (x4 x5 : Vec Ideal S1x512 .f32) :
    out0_A_6 c i a1 h1 a2 h2 a3 h3 a4 h4 a5 h5 a6 h6 a7 h7 a8 h8 a9 h9 hc0 x0 x1 x2 x3 x4 x5 = k0_pay8 (k0_pay4 x2) (k0_pay7 x0 x1 x2 x4) := by
  unfold out0_A_6
  rw [View.read_writes_eq_canon _ _ _ (cover0_A_6 c i a1 h1 a2 h2 a3 h3 a4 h4 a5 h5 a6 h6 a7 h7 a8 h8 a9 h9 hc0 x0 x1 x2 x3 x4 x5)]
  unfold kernelRun0_A
  dsimp only
  sl_unfold_words
  rw [View.canon_unit_zero (S := S512x512) hz]
  simp only [View.readAt_eq_ld, Memref.IsWhole.read_unread, View.ld_unit_zero (S := S512x1024) hz, View.ld_unit_zero (S := S1024x1024) hz, View.ld_unit_zero (S := S512x512) hz, View.ld_unit_zero (S := S1x512) hz]

theorem out7_A (c : Dev nD) (i : grid0.Coords) (a1 h1 a2 h2 a3 h3 a4 h4 a5 h5 a6 h6 a7 h7 a8 h8 a9 h9) (hc0 : cond0_0 i) (x0 : Vec Ideal S512x1024 .bf16) (x1 : Vec Ideal S1024x1024 .bf16) (x2 x3 : Vec Ideal S512x512 .f32) (x4 x5 : Vec Ideal S1x512 .f32) :
    out0_A_7 c i a1 h1 a2 h2 a3 h3 a4 h4 a5 h5 a6 h6 a7 h7 a8 h8 a9 h9 hc0 x0 x1 x2 x3 x4 x5 = k0_pay13 (k0_pay1 x0 x1) x3 x5 := by
  unfold out0_A_7
  rw [View.read_writes_eq_canon _ _ _ (cover0_A_7 c i a1 h1 a2 h2 a3 h3 a4 h4 a5 h5 a6 h6 a7 h7 a8 h8 a9 h9 hc0 x0 x1 x2 x3 x4 x5)]
  unfold kernelRun0_A
  dsimp only
  sl_unfold_words
  rw [View.canon_unit_zero (S := S512x512) hz]
  simp only [View.readAt_eq_ld, Memref.IsWhole.read_unread, View.ld_unit_zero (S := S512x1024) hz, View.ld_unit_zero (S := S1024x1024) hz, View.ld_unit_zero (S := S512x512) hz, View.ld_unit_zero (S := S1x512) hz]

theorem out8_A (c : Dev nD) (i : grid0.Coords) (a1 h1 a2 h2 a3 h3 a4 h4 a5 h5 a6 h6 a7 h7 a8 h8 a9 h9) (hc0 : cond0_0 i) (x0 : Vec Ideal S512x1024 .bf16) (x1 : Vec Ideal S1024x1024 .bf16) (x2 x3 : Vec Ideal S512x512 .f32) (x4 x5 : Vec Ideal S1x512 .f32) (j : Fin 8) (l : Fin 512) :
    (out0_A_8 c i a1 h1 a2 h2 a3 h3 a4 h4 a5 h5 a6 h6 a7 h7 a8 h8 a9 h9 hc0 x0 x1 x2 x3 x4 x5 (ix2 j l) : EReal) = rows (k0_pay3 x0 x1) (k0_pay9 (k0_pay1 x0 x1)) x2 x3 j.val l := by
  unfold out0_A_8 kernelRun0_A rows
  dsimp only
  sl_unfold_words
  simp only [View.readAt_eq_ld, Memref.IsWhole.read_unread, View.ld_unit_zero (S := S512x1024) hz, View.ld_unit_zero (S := S1024x1024) hz, View.ld_unit_zero (S := S512x512) hz, View.ld_unit_zero (S := S1x512) hz]
  by_cases e1 : j.val = 1
  · rw [if_neg (by omega), if_pos e1]
    refine (row_stored _ _ _ _ _ _ _ e1).trans ((pay12_apply _ _ _ l).trans ?_)
    exact (plus ((cov_kept a9.view _ _ _ _ _ _ _ (by omega)).trans ((cov_all a9.view _ _ _ _ _).trans (pay2_apply _)))).trans (zero_add _)
  rw [row_kept _ _ _ _ _ _ _ e1]
  by_cases e0 : j.val = 0
  · rw [if_pos e0]
    refine (row_stored _ _ _ _ _ _ _ e0).trans ((pay6_apply _ _ _ _ l).trans ?_)
    exact (plus ((cov_all a9.view _ _ _ _ _).trans (pay2_apply _))).trans (zero_add _)
  rw [if_neg e0, if_neg e1, row_kept _ _ _ _ _ _ _ e0, all_stored]
  exact pay2_apply _

theorem out6_B (c : Dev nD) (i : grid0.Coords) (a1 h1 a2 h2 a3 h3 a4 h4 a5 h5 a6 h6 a7 h7 a8 h8 a9 h9) (hc0 : ¬cond0_0 i) (x0 : Vec Ideal S512x1024 .bf16) (x1 : Vec Ideal S1024x1024 .bf16) (x2 x3 : Vec Ideal S512x512 .f32) (x4 x5 : Vec Ideal S1x512 .f32) (xo8 : Vec Ideal S8x512 .f32) :
    out0_B_6 c i a1 h1 a2 h2 a3 h3 a4 h4 a5 h5 a6 h6 a7 h7 a8 h8 a9 h9 hc0 x0 x1 x2 x3 x4 x5 xo8 = k0_pay8 (k0_pay4 x2) (k0_pay7 x0 x1 x2 x4) := by
  unfold out0_B_6
  rw [View.read_writes_eq_canon _ _ _ (cover0_B_6 c i a1 h1 a2 h2 a3 h3 a4 h4 a5 h5 a6 h6 a7 h7 a8 h8 a9 h9 hc0 x0 x1 x2 x3 x4 x5 xo8)]
  unfold kernelRun0_B
  dsimp only
  sl_unfold_words
  rw [View.canon_unit_zero (S := S512x512) hz]
  simp only [View.readAt_eq_ld, Memref.IsWhole.read_unread, View.ld_unit_zero (S := S512x1024) hz, View.ld_unit_zero (S := S1024x1024) hz, View.ld_unit_zero (S := S512x512) hz, View.ld_unit_zero (S := S1x512) hz]

theorem out7_B (c : Dev nD) (i : grid0.Coords) (a1 h1 a2 h2 a3 h3 a4 h4 a5 h5 a6 h6 a7 h7 a8 h8 a9 h9) (hc0 : ¬cond0_0 i) (x0 : Vec Ideal S512x1024 .bf16) (x1 : Vec Ideal S1024x1024 .bf16) (x2 x3 : Vec Ideal S512x512 .f32) (x4 x5 : Vec Ideal S1x512 .f32) (xo8 : Vec Ideal S8x512 .f32) :
    out0_B_7 c i a1 h1 a2 h2 a3 h3 a4 h4 a5 h5 a6 h6 a7 h7 a8 h8 a9 h9 hc0 x0 x1 x2 x3 x4 x5 xo8 = k0_pay13 (k0_pay1 x0 x1) x3 x5 := by
  unfold out0_B_7
  rw [View.read_writes_eq_canon _ _ _ (cover0_B_7 c i a1 h1 a2 h2 a3 h3 a4 h4 a5 h5 a6 h6 a7 h7 a8 h8 a9 h9 hc0 x0 x1 x2 x3 x4 x5 xo8)]
  unfold kernelRun0_B
  dsimp only
  sl_unfold_words
  rw [View.canon_unit_zero (S := S512x512) hz]
  simp only [View.readAt_eq_ld, Memref.IsWhole.read_unread, View.ld_unit_zero (S := S512x1024) hz, View.ld_unit_zero (S := S1024x1024) hz, View.ld_unit_zero (S := S512x512) hz, View.ld_unit_zero (S := S1x512) hz]

theorem out8_B (c : Dev nD) (i : grid0.Coords) (a1 h1 a2 h2 a3 h3 a4 h4 a5 h5 a6 h6 a7 h7 a8 h8 a9 h9) (hc0 : ¬cond0_0 i) (x0 : Vec Ideal S512x1024 .bf16) (x1 : Vec Ideal S1024x1024 .bf16) (x2 x3 : Vec Ideal S512x512 .f32) (x4 x5 : Vec Ideal S1x512 .f32) (xo8 : Vec Ideal S8x512 .f32) (j : Fin 8) (l : Fin 512) :
    (out0_B_8 c i a1 h1 a2 h2 a3 h3 a4 h4 a5 h5 a6 h6 a7 h7 a8 h8 a9 h9 hc0 x0 x1 x2 x3 x4 x5 xo8 (ix2 j l) : EReal) = (xo8 (ix2 j l) : EReal) + rows (k0_pay3 x0 x1) (k0_pay9 (k0_pay1 x0 x1)) x2 x3 j.val l := by
  unfold out0_B_8 kernelRun0_B rows
  dsimp only
  sl_unfold_words
  simp only [View.readAt_eq_ld, Memref.IsWhole.read_unread, View.ld_unit_zero (S := S512x1024) hz, View.ld_unit_zero (S := S1024x1024) hz, View.ld_unit_zero (S := S512x512) hz, View.ld_unit_zero (S := S1x512) hz]
  by_cases e1 : j.val = 1
  · rw [if_neg (by omega), if_pos e1]
    refine (row_stored _ _ _ _ _ _ _ e1).trans ((pay12_apply _ _ _ l).trans ?_)
    exact plus ((ld_row xo8 _ _ (by omega) _).trans (ix2_row xo8 e1 _ _))
  rw [row_kept _ _ _ _ _ _ _ e1]
  by_cases e0 : j.val = 0
  · rw [if_pos e0]
    refine (row_stored _ _ _ _ _ _ _ e0).trans ((pay6_apply _ _ _ _ l).trans ?_)
    exact plus ((ld_row xo8 _ _ (by omega) _).trans (ix2_row xo8 e0 _ _))
  rw [if_neg e0, if_neg e1, row_kept _ _ _ _ _ _ _ e0, View.writes_nil, h9.read_unread, add_zero]

/-! ## The kernel's results -/

variable (m : (ℓ : Loc nD τ sig) → Buf (Elt Ideal) ℓ) (ρ : Dev nD → PrngReg)

/-- The arguments as device `c` holds them. -/
def held (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5)⟩

theorem moving : ∀ t : Fin cfg0.N, (win0_0.index t (0 : Fin 2) = t.val ∧ win0_0.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem fixed : ∀ t : Fin cfg0.N, (win0_1.index t (0 : Fin 2) = 0 ∧ win0_1.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_8.index t (0 : Fin 2) = 0 ∧ win0_8.index t (1 : Fin 2) = 0) :=
  (by decide +kernel : ∀ t : Fin grid0.N, _)

theorem iblk0_apply (c : Dev nD) (t : Fin cfg0.N) (r : Fin 512) (l : Fin 1024) :
    (iblk m c 0 t (ix2 r l) : EReal) = cell (n := 4096) (k := 1024) (α := EReal) (held m c).d (512 * t.val + r.val) l.val := by
  obtain ⟨⟨e0, e1⟩, -⟩ := moving t
  exact cell_eq (held m c).d (((cfg0.win 0).blk t).view.emb (ix2 r l)) (by show win0_0.index t (0 : Fin 2) * 512 + 1 * r.val = _; rw [e0]; omega)
    (by show win0_0.index t (1 : Fin 2) * 1024 + 1 * l.val = _; rw [e1]; omega)

theorem iblk1_apply (c : Dev nD) (t : Fin cfg0.N) (r l : Fin 1024) :
    (iblk m c 1 t (ix2 r l) : EReal) = cell (n := 1024) (k := 1024) (α := EReal) (held m c).w r.val l.val := by
  obtain ⟨⟨e0, e1⟩, -⟩ := fixed t
  exact cell_eq (held m c).w (((cfg0.win 1).blk t).view.emb (ix2 r l)) (by show win0_1.index t (0 : Fin 2) * 1024 + 1 * r.val = _; rw [e0]; omega)
    (by show win0_1.index t (1 : Fin 2) * 1024 + 1 * l.val = _; rw [e1]; omega)

theorem iblk2_apply (c : Dev nD) (t : Fin cfg0.N) (r l : Fin 512) : (iblk m c 2 t (ix2 r l) : EReal) = row (held m c).a (512 * t.val + r.val) l.val := by
  obtain ⟨-, ⟨e0, e1⟩, -⟩ := moving t
  exact cell_eq (held m c).a (((cfg0.win 2).blk t).view.emb (ix2 r l)) (by show win0_2.index t (0 : Fin 2) * 512 + 1 * r.val = _; rw [e0]; omega)
    (by show win0_2.index t (1 : Fin 2) * 512 + 1 * l.val = _; rw [e1]; omega)

theorem iblk3_apply (c : Dev nD) (t : Fin cfg0.N) (r l : Fin 512) : (iblk m c 3 t (ix2 r l) : EReal) = row (held m c).b (512 * t.val + r.val) l.val := by
  obtain ⟨-, -, ⟨e0, e1⟩, -⟩ := moving t
  exact cell_eq (held m c).b (((cfg0.win 3).blk t).view.emb (ix2 r l)) (by show win0_3.index t (0 : Fin 2) * 512 + 1 * r.val = _; rw [e0]; omega)
    (by show win0_3.index t (1 : Fin 2) * 512 + 1 * l.val = _; rw [e1]; omega)

theorem iblk4_apply (c : Dev nD) (t : Fin cfg0.N) (l : Fin 512) : (iblk m c 4 t (ix2 0 l) : EReal) = scales (held m c).g l.val := by
  obtain ⟨-, ⟨e0, e1⟩, -⟩ := fixed t
  exact cell_eq (held m c).g (((cfg0.win 4).blk t).view.emb (ix2 0 l)) (by show win0_4.index t (0 : Fin 2) * 1 + 1 * 0 = _; rw [e0])
    (by show win0_4.index t (1 : Fin 2) * 512 + 1 * l.val = _; rw [e1]; omega)

theorem iblk5_apply (c : Dev nD) (t : Fin cfg0.N) (l : Fin 512) : (iblk m c 5 t (ix2 0 l) : EReal) = scales (held m c).h l.val := by
  obtain ⟨-, -, ⟨e0, e1⟩, -⟩ := fixed t
  exact cell_eq (held m c).h (((cfg0.win 5).blk t).view.emb (ix2 0 l)) (by show win0_5.index t (0 : Fin 2) * 1 + 1 * 0 = _; rw [e0])
    (by show win0_5.index t (1 : Fin 2) * 512 + 1 * l.val = _; rw [e1]; omega)

theorem back_sum (A : Args) (o t : ℕ) (d : Vec Ideal S512x1024 .bf16) (w : Vec Ideal S1024x1024 .bf16) (r : Fin 512) (f : Fin 1024) {l : ℕ} (e : f.val = o + l)
    (hd : ∀ k : Fin 1024, (d (ix2 r k) : EReal) = cell (n := 4096) (k := 1024) (α := EReal) A.d t k.val) (hw : ∀ k : Fin 1024, (w (ix2 f k) : EReal) = cell (n := 1024) (k := 1024) (α := EReal) A.w f.val k.val) :
    (∑ k : Fin 1024, (d (ix2 r k) : EReal) * w (ix2 f k)) = A.back o t l := by
  unfold Args.back
  rw [← e, ← Fin.sum_univ_eq_sum_range (fun k => cell (n := 4096) (k := 1024) (α := EReal) A.d t k * cell (n := 1024) (k := 1024) (α := EReal) A.w f.val k) 1024]
  exact Finset.sum_congr rfl fun k _ => congrArg₂ (fun a b : EReal => a * b) (hd k) (hw k)

theorem first_back (c : Dev nD) (t : Fin cfg0.N) (r l : Fin 512) :
    (k0_pay3 (iblk m c 0 t) (iblk m c 1 t) (ix2 r l) : EReal) = (held m c).back 0 (512 * t.val + r.val) l.val :=
  (pay3_apply _ _ r l ⟨0 + l.val, by omega⟩ rfl).trans (back_sum (held m c) 0 _ _ _ r ⟨0 + l.val, by omega⟩ rfl (iblk0_apply m c t r) (iblk1_apply m c t _))

theorem second_back (c : Dev nD) (t : Fin cfg0.N) (r l : Fin 512) :
    (k0_pay9 (k0_pay1 (iblk m c 0 t) (iblk m c 1 t)) (ix2 r l) : EReal) = (held m c).back 512 (512 * t.val + r.val) l.val :=
  (pay9_apply _ _ r l ⟨512 + l.val, by omega⟩ rfl).trans (back_sum (held m c) 512 _ _ _ r ⟨512 + l.val, by omega⟩ rfl (iblk0_apply m c t r) (iblk1_apply m c t _))

theorem first_apply (c : Dev nD) (t : Fin cfg0.N) (r l : Fin 512) : ((outsAt0 m c t.val t.isLt).1 (ix2 r l) : EReal)
    = down (row (held m c).a (512 * t.val + r.val)) ((held m c).back 0 (512 * t.val + r.val)) (scales (held m c).g) l.val := by
  have h : (outsAt0 m c t.val t.isLt).1 = k0_pay8 (k0_pay4 (iblk m c 2 t)) (k0_pay7 (iblk m c 0 t) (iblk m c 1 t) (iblk m c 2 t) (iblk m c 4 t)) := by
    by_cases h0 : t.val % 8 = 0
    · rw [outsAt0_A m c t h0]; dsimp only; rw [out6_A]
    · rw [outsAt0_B m c t h0]; dsimp only; rw [out6_B]
  rw [h]
  exact (pay8_apply _ _ _ _ r l).trans (raw_eq _ _ _ r l _ _ _ (iblk2_apply m c t r) (first_back m c t r) (iblk4_apply m c t))

theorem second_apply (c : Dev nD) (t : Fin cfg0.N) (r l : Fin 512) : ((outsAt0 m c t.val t.isLt).2.1 (ix2 r l) : EReal)
    = down (row (held m c).b (512 * t.val + r.val)) ((held m c).back 512 (512 * t.val + r.val)) (scales (held m c).h) l.val := by
  have h : (outsAt0 m c t.val t.isLt).2.1 = k0_pay13 (k0_pay1 (iblk m c 0 t) (iblk m c 1 t)) (iblk m c 3 t) (iblk m c 5 t) := by
    by_cases h0 : t.val % 8 = 0
    · rw [outsAt0_A m c t h0]; dsimp only; rw [out7_A]
    · rw [outsAt0_B m c t h0]; dsimp only; rw [out7_B]
  rw [h]
  exact (pay13_apply _ _ _ r l).trans (raw_eq _ _ _ r l _ _ _ (iblk3_apply m c t r) (second_back m c t r) (iblk5_apply m c t))

theorem rows_step (c : Dev nD) (t : Fin cfg0.N) (j : ℕ) (l : Fin 512) :
    rows (k0_pay3 (iblk m c 0 t) (iblk m c 1 t)) (k0_pay9 (k0_pay1 (iblk m c 0 t) (iblk m c 1 t))) (iblk m c 2 t) (iblk m c 3 t) j l
      = ∑ r : Fin 512, (held m c).term j (512 * t.val + r.val) l.val := by
  unfold rows rsum Args.term
  by_cases e0 : j = 0
  · simp only [if_pos e0]
    exact Finset.sum_congr rfl fun r _ => congrArg₂ (fun a b : EReal => a * b) (first_back m c t r l) (congrArg₂ (fun a b : EReal => a * b) (iblk2_apply m c t r l) (rms_eq _ r _ (iblk2_apply m c t r)))
  by_cases e1 : j = 1
  · simp only [if_neg e0, if_pos e1]
    exact Finset.sum_congr rfl fun r _ => congrArg₂ (fun a b : EReal => a * b) (second_back m c t r l) (congrArg₂ (fun a b : EReal => a * b) (iblk3_apply m c t r l) (rms_eq _ r _ (iblk3_apply m c t r)))
  simp only [if_neg e0, if_neg e1, Finset.sum_const_zero]

/-- The sums over the tokens so far. -/
theorem stat_apply (c : Dev nD) : ∀ (n : ℕ) (hn : n < cfg0.N) (j : Fin 8) (l : Fin 512),
    ((outsAt0 m c n hn).2.2 (ix2 j l) : EReal) = ∑ k ∈ Finset.range (512 * n + 512), (held m c).term j.val k l.val := by
  intro n
  induction n with
  | zero =>
    intro hn j l
    rw [outsAt0_A m c ⟨0, hn⟩ rfl]
    dsimp only
    rw [out8_A, rows_step, ← sum_next 512, Nat.mul_zero, Finset.sum_range_zero, zero_add]
  | succ n ih =>
    intro hn j l
    have hN : n + 1 < 8 := hn
    rw [outsAt0_B m c ⟨n + 1, hn⟩ (by show ¬(n + 1) % 8 = 0; omega)]
    dsimp only
    rw [out8_B, rows_step, ← sum_next 512]
    exact plus (ih (Nat.lt_of_succ_lt hn) j l)

/-- The step that handles row `r`. -/
abbrev stepOf (r : ℕ) (h : r < 4096) : Fin cfg0.N := ⟨r / 512, by rw [show cfg0.N = 8 from N_0]; omega⟩

theorem final6 (c : Dev nD) (i : S4096x512.Idx) :
    ((dats m 0 c).arrAt 6 cfg0.N i : EReal) = down (row (held m c).a (i 0).val) ((held m c).back 0 (i 0).val) (scales (held m c).g) (i 1).val := by
  have h0 : (i 0).val < 4096 := (i 0).isLt
  obtain ⟨-, -, -, ⟨e0, e1⟩, -⟩ := moving (stepOf _ h0)
  have h := congrFun (blocks6 m c (stepOf _ h0) ((by decide +kernel : ∀ t : Fin grid0.N, (cfg0.win 6).flush t = true) _)) (ix2 ⟨(i 0).val % 512, by omega⟩ (i 1))
  rw [flushed6] at h
  have e : ((cfg0.win 6).blk (stepOf _ h0)).view.emb (ix2 ⟨(i 0).val % 512, by omega⟩ (i 1)) = i := by
    refine funext fun a => Fin.ext ?_
    fin_cases a
    · show win0_6.index (stepOf _ h0) (0 : Fin 2) * 512 + 1 * ((i 0).val % 512) = _
      rw [e0]; show (i 0).val / 512 * 512 + 1 * ((i 0).val % 512) = (i 0).val; omega
    · show win0_6.index (stepOf _ h0) (1 : Fin 2) * 512 + 1 * (i 1).val = (i 1).val
      rw [e1]; omega
  refine (congrArg (fun j => ((dats m 0 c).arrAt 6 cfg0.N j : EReal)) e.symm).trans (h.trans ?_)
  have hs := first_apply m c (stepOf _ h0) ⟨(i 0).val % 512, by omega⟩ (i 1)
  rw [show 512 * (stepOf _ h0).val + (i 0).val % 512 = (i 0).val by show 512 * ((i 0).val / 512) + _ = _; omega] at hs
  generalize (outsAt0 m c (stepOf _ h0).val (stepOf _ h0).isLt).1 = y at hs ⊢
  exact hs

theorem final7 (c : Dev nD) (i : S4096x512.Idx) :
    ((dats m 0 c).arrAt 7 cfg0.N i : EReal) = down (row (held m c).b (i 0).val) ((held m c).back 512 (i 0).val) (scales (held m c).h) (i 1).val := by
  have h0 : (i 0).val < 4096 := (i 0).isLt
  obtain ⟨-, -, -, -, ⟨e0, e1⟩⟩ := moving (stepOf _ h0)
  have h := congrFun (blocks7 m c (stepOf _ h0) ((by decide +kernel : ∀ t : Fin grid0.N, (cfg0.win 7).flush t = true) _)) (ix2 ⟨(i 0).val % 512, by omega⟩ (i 1))
  rw [flushed7] at h
  have e : ((cfg0.win 7).blk (stepOf _ h0)).view.emb (ix2 ⟨(i 0).val % 512, by omega⟩ (i 1)) = i := by
    refine funext fun a => Fin.ext ?_
    fin_cases a
    · show win0_7.index (stepOf _ h0) (0 : Fin 2) * 512 + 1 * ((i 0).val % 512) = _
      rw [e0]; show (i 0).val / 512 * 512 + 1 * ((i 0).val % 512) = (i 0).val; omega
    · show win0_7.index (stepOf _ h0) (1 : Fin 2) * 512 + 1 * (i 1).val = (i 1).val
      rw [e1]; omega
  refine (congrArg (fun j => ((dats m 0 c).arrAt 7 cfg0.N j : EReal)) e.symm).trans (h.trans ?_)
  have hs := second_apply m c (stepOf _ h0) ⟨(i 0).val % 512, by omega⟩ (i 1)
  rw [show 512 * (stepOf _ h0).val + (i 0).val % 512 = (i 0).val by show 512 * ((i 0).val / 512) + _ = _; omega] at hs
  generalize (outsAt0 m c (stepOf _ h0).val (stepOf _ h0).isLt).2.1 = y at hs ⊢
  exact hs

theorem last8 : ∀ t : Fin cfg0.N, (cfg0.win 8).flush t = true ↔ t.val = 7 :=
  (by decide +kernel : ∀ t : Fin grid0.N, _)

theorem final8 (c : Dev nD) (i : S8x512.Idx) :
    ((dats m 0 c).arrAt 8 cfg0.N i : EReal) = ∑ k ∈ Finset.range 4096, (held m c).term (i 0).val k (i 1).val := by
  have h := congrFun ((dats m 0 c).read_blk_arrAt_eq_flushed 8 (fun t t' h h' hne => absurd (Fin.ext (((last8 t).mp h).trans ((last8 t').mp h').symm)) hne) cfg0.N t0_7 t0_7.isLt ((last8 _).mpr rfl)) i
  rw [flushed8] at h
  obtain ⟨-, -, -, ⟨e0, e1⟩⟩ := fixed t0_7
  have e : ((cfg0.win 8).blk t0_7).view.emb i = i := by
    refine funext fun a => Fin.ext ?_
    fin_cases a
    · show win0_8.index t0_7 (0 : Fin 2) * 8 + 1 * (i 0).val = (i 0).val
      rw [e0]; omega
    · show win0_8.index t0_7 (1 : Fin 2) * 512 + 1 * (i 1).val = (i 1).val
      rw [e1]; omega
  refine (congrArg (fun j => ((dats m 0 c).arrAt 8 cfg0.N j : EReal)) e.symm).trans (h.trans ?_)
  have hs := stat_apply m c t0_7.val t0_7.isLt (i 0) (i 1)
  rw [show (ix2 (i 0) (i 1) : S8x512.Idx) = i from ix2_eta i, show 512 * t0_7.val + 512 = 4096 from rfl] at hs
  generalize (outsAt0 m c t0_7.val t0_7.isLt).2.2 = y at hs ⊢
  exact hs

/-! ## The reference's results -/

section
open Cert.Reference9Ideal.Read
variable (A : Args)

/-- The derivative of a normalised row as the reference sums it. -/
theorem down_eq (X D G : ℕ → EReal) (l : ℕ) (hl : l < 512) (y e : EReal) (hy : y = D l * G l) (he : e = Ideal.div ((∑ k ∈ Finset.range 512, X k * (D k * G k))
      * (Ideal.ofBits .f32 0xBF000000#32 * Ideal.div (inv X) (Ideal.div (∑ k ∈ Finset.range 512, X k * X k) W + Norm.eps))) W) :
    y * inv X + X l * e + e * X l = down X D G l := by
  have h := Norm.back (W := 512) (by norm_num) 512 X (fun k => D k * G k) l hl
  rw [← Norm.fivehundred] at h
  rw [hy, he]
  exact h.symm

/-- A row's sum of squares, from its entries. -/
theorem squares (x : (⟨S4096x512, .f32⟩ : BufTy).Contents (Elt Ideal)) (t : ℕ) (s : Fin 512 → S4096x512.Idx) (h0 : ∀ k, (s k 0).val = t) (h1 : ∀ k, (s k 1).val = k.val) :
    (∑ k : Fin 512, (x (s k) : EReal) * x (s k)) = ∑ k ∈ Finset.range 512, row x t k * row x t k := by
  rw [← Fin.sum_univ_eq_sum_range (fun k => row x t k * row x t k) 512]
  exact Finset.sum_congr rfl fun k _ => congrArg (fun a : EReal => a * a) (cell_eq (n := 4096) (k := 512) (α := EReal) x (s k) (h0 k) (h1 k))

theorem reference_back (i : S4096x1024.Idx) (o l : ℕ) (h : (i 1).val = o + l) : (val_main_v38 (F := Ideal) A.d A.w i : EReal) = A.back o (i 0).val l := by
  rw [val_main_v38_apply]
  unfold Args.back
  rw [← Fin.sum_univ_eq_sum_range (fun k => cell (n := 4096) (k := 1024) (α := EReal) A.d (i 0).val k * cell (n := 1024) (k := 1024) (α := EReal) A.w (o + l) k) 1024]
  refine Finset.sum_congr rfl fun k _ => congrArg₂ (fun a b : EReal => a * b) ?_ ?_
  · rw [val_main_v37_apply]; exact cell_eq (n := 4096) (k := 1024) (α := EReal) A.d _ rfl rfl
  · rw [val_main_v35_apply]; exact cell_eq (n := 1024) (k := 1024) (α := EReal) A.w _ h rfl

theorem first_mean (j : Cert.Reference9Ideal.S4096x1.Idx) : (val_main_v7 (F := Ideal) A.a j : EReal)
    = Ideal.div (∑ k ∈ Finset.range 512, row A.a (j 0).val k * row A.a (j 0).val k) W + Norm.eps := by
  have z : (val_main_cst (F := Ideal) (Shape.Idx.first Cert.Reference9Ideal.Gen.h_S_) : EReal) = 0 := Ideal.ofBits_zero .f32
  rw [val_main_v7_apply, val_main_v6_apply, val_main_v5_apply, val_main_v4_apply, val_main_v3_apply, val_main_v2_apply, z, zero_add]
  simp only [val_main_v1_apply]
  exact congrArg (fun a : EReal => Ideal.div a W + Norm.eps) (squares A.a (j 0).val _ (fun _ => rfl) fun _ => rfl)

theorem second_mean (j : Cert.Reference9Ideal.S4096x1.Idx) : (val_main_v24 (F := Ideal) A.b j : EReal)
    = Ideal.div (∑ k ∈ Finset.range 512, row A.b (j 0).val k * row A.b (j 0).val k) W + Norm.eps := by
  have z : (val_main_cst_3 (F := Ideal) (Shape.Idx.first Cert.Reference9Ideal.Gen.h_S_) : EReal) = 0 := Ideal.ofBits_zero .f32
  rw [val_main_v24_apply, val_main_v23_apply, val_main_v22_apply, val_main_v21_apply, val_main_v20_apply, val_main_v19_apply, z, zero_add]
  simp only [val_main_v18_apply]
  exact congrArg (fun a : EReal => Ideal.div a W + Norm.eps) (squares A.b (j 0).val _ (fun _ => rfl) fun _ => rfl)

theorem first_inv (j : Cert.Reference9Ideal.S4096x1.Idx) : (val_main_v8 (F := Ideal) A.a j : EReal) = inv (row A.a (j 0).val) :=
  congrArg Ideal.rsqrt (first_mean A j)

theorem second_inv (j : Cert.Reference9Ideal.S4096x1.Idx) : (val_main_v25 (F := Ideal) A.b j : EReal) = inv (row A.b (j 0).val) :=
  congrArg Ideal.rsqrt (second_mean A j)

theorem first_scaled (i : S4096x512.Idx) : (val_main_v66 (F := Ideal) A.d A.w A.g i : EReal) = A.back 0 (i 0).val (i 1).val * scales A.g (i 1).val := by
  rw [val_main_v66_apply, val_main_v65_apply, val_main_v14_apply, val_main_v0_apply, val_main_v39_apply]
  exact congrArg₂ (fun a b : EReal => a * b) (reference_back A _ 0 _ (by show _ = 0 + _; rw [Nat.zero_add])) (cell_eq (n := 1) (k := 512) (α := EReal) A.g _ rfl (Nat.mod_eq_of_lt (i 1).isLt))

theorem second_scaled (i : S4096x512.Idx) : (val_main_v45 (F := Ideal) A.d A.w A.h i : EReal) = A.back 512 (i 0).val (i 1).val * scales A.h (i 1).val := by
  rw [val_main_v45_apply, val_main_v44_apply, val_main_v31_apply, val_main_v17_apply, val_main_v40_apply]
  exact congrArg₂ (fun a b : EReal => a * b) (reference_back A _ 512 _ rfl) (cell_eq (n := 1) (k := 512) (α := EReal) A.h _ rfl (Nat.mod_eq_of_lt (i 1).isLt))

/-- The sum that a row's derivative takes with the row. -/
theorem along (x : (⟨S4096x512, .f32⟩ : BufTy).Contents (Elt Ideal)) (y : S4096x512.Idx → EReal) (Y : ℕ → ℕ → EReal) (hy : ∀ i, y i = Y (i 0).val (i 1).val) (t : ℕ) (s : Fin 512 → S4096x512.Idx)
    (h0 : ∀ k, (s k 0).val = t) (h1 : ∀ k, (s k 1).val = k.val) : (∑ k : Fin 512, (x (s k) : EReal) * y (s k)) = ∑ k ∈ Finset.range 512, row x t k * Y t k := by
  rw [← Fin.sum_univ_eq_sum_range (fun k => row x t k * Y t k) 512]
  exact Finset.sum_congr rfl fun k _ => congrArg₂ (fun a b : EReal => a * b) (cell_eq (n := 4096) (k := 512) (α := EReal) x (s k) (h0 k) (h1 k)) ((hy (s k)).trans (by rw [h0 k, h1 k]))

theorem reference_first (i : S4096x512.Idx) :
    (val_main_v81 (F := Ideal) A.d A.w A.a A.g i : EReal) = down (row A.a (i 0).val) (A.back 0 (i 0).val) (scales A.g) (i 1).val := by
  have z : (val_main_cst_14 (F := Ideal) (Shape.Idx.first Cert.Reference9Ideal.Gen.h_S_) : EReal) = 0 := Ideal.ofBits_zero .f32
  have z' : (val_main_cst_16 (F := Ideal) (Shape.Idx.first Cert.Reference9Ideal.Gen.h_S_) : EReal) = 0 := Ideal.ofBits_zero .f32
  have h0 : (i 0).val < 4096 := (i 0).isLt
  have e : A.a i = row A.a (i 0).val (i 1).val := cell_eq (n := 4096) (k := 512) (α := EReal) A.a i rfl rfl
  rw [val_main_v81_apply, val_main_v80_apply, val_main_v79_apply, val_main_v78_apply, val_main_v77_apply, val_main_v76_apply, z', zero_add, Fin.sum_univ_one, val_main_v75_apply, val_main_v74_apply,
    val_main_v73_apply, val_main_v72_apply, val_main_v71_apply, val_main_v70_apply, val_main_v69_apply, val_main_v11_apply, val_main_v10_apply, val_main_v9_apply, z, zero_add, first_inv, first_inv, first_mean, e]
  simp only [val_main_v68_apply]
  refine down_eq _ _ _ _ (i 1).isLt _ _ (first_scaled A i) ?_
  refine congrArg (fun a : EReal => Ideal.div (a * _) W) (along A.a _ (fun t l => A.back 0 t l * scales A.g l) (first_scaled A) (i 0).val _ (fun _ => ?_) fun _ => rfl)
  show ((i 0).val * 1 + 0) = _
  omega

theorem reference_second (i : S4096x512.Idx) :
    (val_main_v60 (F := Ideal) A.d A.w A.b A.h i : EReal) = down (row A.b (i 0).val) (A.back 512 (i 0).val) (scales A.h) (i 1).val := by
  have z : (val_main_cst_9 (F := Ideal) (Shape.Idx.first Cert.Reference9Ideal.Gen.h_S_) : EReal) = 0 := Ideal.ofBits_zero .f32
  have z' : (val_main_cst_11 (F := Ideal) (Shape.Idx.first Cert.Reference9Ideal.Gen.h_S_) : EReal) = 0 := Ideal.ofBits_zero .f32
  have h0 : (i 0).val < 4096 := (i 0).isLt
  have e : A.b i = row A.b (i 0).val (i 1).val := cell_eq (n := 4096) (k := 512) (α := EReal) A.b i rfl rfl
  rw [val_main_v60_apply, val_main_v59_apply, val_main_v58_apply, val_main_v57_apply, val_main_v56_apply, val_main_v55_apply, z', zero_add, Fin.sum_univ_one, val_main_v54_apply, val_main_v53_apply,
    val_main_v52_apply, val_main_v51_apply, val_main_v50_apply, val_main_v49_apply, val_main_v48_apply, val_main_v28_apply, val_main_v27_apply, val_main_v26_apply, z, zero_add, second_inv, second_inv, second_mean, e]
  simp only [val_main_v47_apply]
  refine down_eq _ _ _ _ (i 1).isLt _ _ (second_scaled A i) ?_
  refine congrArg (fun a : EReal => Ideal.div (a * _) W) (along A.b _ (fun t l => A.back 512 t l * scales A.h l) (second_scaled A) (i 0).val _ (fun _ => ?_) fun _ => rfl)
  show ((i 0).val * 1 + 0) = _
  omega

theorem reference_row0 (j : S1x512.Idx) : (val_main_v82 (F := Ideal) A.d A.w A.a j : EReal) = ∑ k ∈ Finset.range 4096, A.term 0 k (j 1).val := by
  have z : (val_main_cst_12 (F := Ideal) (Shape.Idx.first Cert.Reference9Ideal.Gen.h_S_) : EReal) = 0 := Ideal.ofBits_zero .f32
  have z' : (val_main_cst_13 (F := Ideal) (Shape.Idx.first Cert.Reference9Ideal.Gen.h_S_) : EReal) = 0 := Ideal.ofBits_zero .f32
  have h1 : (j 1).val < 512 := (j 1).isLt
  rw [val_main_v82_apply, val_main_v67_apply, z', zero_add, Fin.sum_univ_one, val_main_v64_apply, val_main_v63_apply, z, zero_add, ← Fin.sum_univ_eq_sum_range (fun k => A.term 0 k (j 1).val) 4096]
  refine Finset.sum_congr rfl fun k _ => ?_
  rw [val_main_v62_apply, val_main_v39_apply, val_main_v13_apply, val_main_v12_apply, first_inv]
  unfold Args.term
  rw [if_pos rfl]
  refine (mul_comm (_ : EReal) _).trans (congrArg₂ (fun a b : EReal => a * b) (reference_back A _ 0 _ ?_) (congrArg (fun a : EReal => a * _) (cell_eq (n := 4096) (k := 512) (α := EReal) A.a _ rfl ?_)))
  · show 0 * 512 + (j 1).val = 0 + (j 1).val; omega
  · show 0 * 512 + (j 1).val = (j 1).val; omega

theorem reference_row1 (j : S1x512.Idx) : (val_main_v61 (F := Ideal) A.d A.w A.b j : EReal) = ∑ k ∈ Finset.range 4096, A.term 1 k (j 1).val := by
  have z : (val_main_cst_7 (F := Ideal) (Shape.Idx.first Cert.Reference9Ideal.Gen.h_S_) : EReal) = 0 := Ideal.ofBits_zero .f32
  have z' : (val_main_cst_8 (F := Ideal) (Shape.Idx.first Cert.Reference9Ideal.Gen.h_S_) : EReal) = 0 := Ideal.ofBits_zero .f32
  have h1 : (j 1).val < 512 := (j 1).isLt
  rw [val_main_v61_apply, val_main_v46_apply, z', zero_add, Fin.sum_univ_one, val_main_v43_apply, val_main_v42_apply, z, zero_add, ← Fin.sum_univ_eq_sum_range (fun k => A.term 1 k (j 1).val) 4096]
  refine Finset.sum_congr rfl fun k _ => ?_
  rw [val_main_v41_apply, val_main_v40_apply, val_main_v30_apply, val_main_v29_apply, second_inv]
  unfold Args.term
  rw [if_neg (by decide), if_pos rfl]
  refine (mul_comm (_ : EReal) _).trans (congrArg₂ (fun a b : EReal => a * b) (reference_back A _ 512 _ ?_) (congrArg (fun a : EReal => a * _) (cell_eq (n := 4096) (k := 512) (α := EReal) A.b _ rfl ?_)))
  · show 512 + (0 * 512 + (j 1).val) = 512 + (j 1).val; omega
  · show 0 * 512 + (j 1).val = (j 1).val; omega

theorem reference_stat (i : S8x512.Idx) : (val_main_v84 (F := Ideal) A.d A.w A.a A.b i : EReal) = ∑ k ∈ Finset.range 4096, A.term (i 0).val k (i 1).val := by
  have h0 : (i 0).val < 8 := (i 0).isLt
  unfold val_main_v84
  by_cases e0 : (i 0).val = 0
  · rw [e0]
    exact (concatenate_apply_piece 0 _ _ i 0 (by simp) S1x512 _ rfl rfl 0 rfl (ix2 0 (i 1)) (fun d hd => match d, hd with | ⟨0, _⟩, hd => absurd rfl hd | ⟨1, _⟩, _ => rfl) (by show 0 + 0 = (i 0).val; omega)).trans (reference_row0 A _)
  by_cases e1 : (i 0).val = 1
  · rw [e1]
    exact (concatenate_apply_piece 0 _ _ i 1 (by simp) S1x512 _ rfl rfl 1 rfl (ix2 0 (i 1)) (fun d hd => match d, hd with | ⟨0, _⟩, hd => absurd rfl hd | ⟨1, _⟩, _ => rfl) (by show 1 + 0 = (i 0).val; omega)).trans (reference_row1 A _)
  refine (concatenate_apply_piece 0 _ _ i 2 (by simp) Cert.Reference9Ideal.S6x512 _ rfl rfl 2 rfl (ix2 ⟨(i 0).val - 2, by omega⟩ (i 1)) (fun d hd => match d, hd with | ⟨0, _⟩, hd => absurd rfl hd | ⟨1, _⟩, _ => rfl) (by show 2 + ((i 0).val - 2) = (i 0).val; omega)).trans ?_
  unfold Args.term
  simp only [if_neg e0, if_neg e1, Finset.sum_const_zero]
  exact Ideal.ofBits_zero .f32

end

end Cert.Kernel9Ideal.Value

namespace Cert.Claims

open Idealize.ShloMosaic Idealize.ShloMosaic.TcCoe Idealize.SL.Sem

theorem frame_p9 : Cert.quiescent_Kernel9 := fun m ρ _ => Cert.Kernel9.Gen.frame m ρ

theorem frame_pi9 : Cert.quiescent_Kernel9Ideal := fun m ρ _ => Cert.Kernel9Ideal.Gen.frame m ρ

theorem frame_ri9 : Cert.quiescent_Reference9Ideal := fun m ρ _ =>
  (θ_run Cert.Reference9Ideal.defs _ _).mono (fun r h => ⟨fun c => (h c).2.2.2, Idealize.ShloMosaic.sem_eq_zero_of_no_sems (by decide) r.2⟩)
    (Cert.Reference9Ideal.Value.run (F := Ideal) m ρ)

theorem preserves9 : Cert.preserves_Kernel9_Kernel9Ideal := trivial

open Cert.Kernel9Ideal.Value in
/-- The kernel's three results are the reference's. -/
theorem algebraic9 : Cert.algebraic_Kernel9Ideal_Reference9Ideal := by
  intro m ρ m' ρ' _ hag
  refine ⟨fun c => (Cert.Kernel9Ideal.Gen.dats m 0 c).arrAt 6 Cert.Kernel9Ideal.cfg0.N, fun c => (Cert.Kernel9Ideal.Gen.dats m 0 c).arrAt 7 Cert.Kernel9Ideal.cfg0.N,
    fun c => (Cert.Kernel9Ideal.Gen.dats m 0 c).arrAt 8 Cert.Kernel9Ideal.cfg0.N, Cert.Kernel9Ideal.Value.run_blocks m ρ, ?_⟩
  refine (θ_run Cert.Reference9Ideal.defs _ _).mono (fun r hr c => ?_) (Cert.Reference9Ideal.Value.run (F := Ideal) m' ρ')
  obtain ⟨g0, g1, g2, g3, g4, g5⟩ := hag c
  obtain ⟨r0, r1, r2, rest⟩ := hr c
  refine ⟨r0.trans ((Cert.Reference9Ideal.Read.val_main_v85_eq m' c).trans ?_), r1.trans ((Cert.Reference9Ideal.Read.val_main_v86_eq m' c).trans ?_),
    r2.trans ((Cert.Reference9Ideal.Read.val_main_v84_eq _ _ _ _).trans ?_), rest⟩
  · rw [g0, g1, g2, g4]
    funext i
    exact (reference_first (held m c) i).trans (final6 m c i).symm
  · rw [g0, g1, g3, g5]
    funext i
    exact (reference_second (held m c) i).trans (final7 m c i).symm
  · rw [g0, g1, g2, g3]
    funext i
    exact (reference_stat (held m c) i).trans (final8 m c i).symm

end Cert.Claims

end

end
-- ==== Proof.OutForward.lean ====
/-
  The attention's output projection: the kernel normalises the two groups of heads, joins them, multiplies and adds to the
  stream one block of 512 tokens at a time, the reference all of them at once.
-/
module

public import proofs.«01_k».proof.Defs
public import proofs.«01_k».proof.Proof.Cell
public import proofs.«01_k».proof.Proof.Norm
public import proofs.«01_k».proof.Proof.Gen.Kernel10.Frame
public import proofs.«01_k».proof.Proof.Gen.Kernel10Ideal.Value
public import proofs.«01_k».proof.Proof.Gen.Reference10Ideal.Read
public import Idealize.ShloMosaic.Lib.Quiescent
public import Idealize.ShloMosaic.Lib.Pointwise
public import Idealize.ShloMosaic.Lib.Tactic

@[expose] public section

set_option maxRecDepth 16384

noncomputable section

namespace Cert.Kernel10Ideal.Value

open Cert.Kernel10Ideal Cert.Kernel10Ideal.Gen Cert.Cell
open Idealize.ShloMosaic Idealize.ShloMosaic.TcCoe Idealize.SL.Sem

theorem hz : (![0, 0] : Fin 2 → Nat) = fun _ => 0 := funext fun a => by fin_cases a <;> rfl

/-- A row of 512 entries divided by its root mean square and scaled. -/
def unit (X G : ℕ → EReal) (l : ℕ) : EReal := X l * Norm.inv (Ideal.ofBits .f32 0x44000000#32) 512 X * G l

/-- The arguments of the call: the two groups of heads, the stream, the modulation, the two scales and the weights. -/
structure Args where
  a : (⟨S4096x512, .f32⟩ : BufTy).Contents (Elt Ideal)
  b : (⟨S4096x512, .f32⟩ : BufTy).Contents (Elt Ideal)
  x : (⟨S4096x1024, .f32⟩ : BufTy).Contents (Elt Ideal)
  mods : (⟨S2x6x1024, .f32⟩ : BufTy).Contents (Elt Ideal)
  g : (⟨S1x512, .f32⟩ : BufTy).Contents (Elt Ideal)
  h : (⟨S1x512, .f32⟩ : BufTy).Contents (Elt Ideal)
  w : (⟨S1024x1024, .bf16⟩ : BufTy).Contents (Elt Ideal)

/-- The row of token `t` of a group of heads, normalised. -/
def normed (x : (⟨S4096x512, .f32⟩ : BufTy).Contents (Elt Ideal)) (g : (⟨S1x512, .f32⟩ : BufTy).Contents (Elt Ideal)) (t : ℕ) : ℕ → EReal :=
  unit (cell (n := 4096) (k := 512) (α := EReal) x t) (cell (n := 1) (k := 512) (α := EReal) g 0)

/-- The two normalised groups side by side. -/
def Args.mixin (A : Args) (t l : ℕ) : EReal := if l < 512 then normed A.a A.g t l else normed A.b A.h t (l - 512)

/-- The product. -/
def Args.mix (A : Args) (t l : ℕ) : EReal := ∑ k ∈ Finset.range 1024, A.mixin t k * cell (n := 1024) (k := 1024) (α := EReal) A.w k l

/-- The stream, with the product added through its gate. -/
def Args.stream (A : Args) (t l : ℕ) : EReal :=
  cell (n := 4096) (k := 1024) (α := EReal) A.x t l + cell3 (p := 2) (n := 6) (k := 1024) (α := EReal) A.mods (t / 2048) 2 l * A.mix t l

/-! ## What one step computes from its blocks -/

theorem half (x : ℕ → EReal) (y : Fin 512 → EReal) (hx : ∀ k : Fin 512, y k = x k.val) :
    Ideal.rsqrt (Ideal.div (∑ k : Fin 512, y k * y k) (Ideal.ofBits .f32 0x44000000#32) + Ideal.ofBits .f32 0x358637BD#32)
      = Norm.inv (Ideal.ofBits .f32 0x44000000#32) 512 x := by
  unfold Norm.inv Norm.eps
  rw [← Fin.sum_univ_eq_sum_range (fun k => x k * x k) 512]
  simp only [hx]

theorem pay2_left (x y : Vec Ideal S512x512 .f32) (g h : Vec Ideal S1x512 .f32) (r : Fin 512) (l : Fin 1024) (f : Fin 512) (e : l.val = f.val) :
    (k0_pay2 x y g h (ix2 r l) : EReal) = x (ix2 r f)
      * Ideal.rsqrt (Ideal.div (∑ k : Fin 512, (x (ix2 r k) : EReal) * x (ix2 r k)) (Ideal.ofBits .f32 0x44000000#32) + Ideal.ofBits .f32 0x358637BD#32) * g (ix2 0 f) := by
  unfold k0_pay2
  refine (concatenate_pair_apply_left 1 _ _ concatenates_S512x512_S512x512_S512x1024_d1 (ix2 r l) rfl (ix2 r f) (fun b => match b with | ⟨0, _⟩ => rfl | ⟨1, _⟩ => e.symm)).trans ?_
  pointwise []

theorem pay2_right (x y : Vec Ideal S512x512 .f32) (g h : Vec Ideal S1x512 .f32) (r : Fin 512) (l : Fin 1024) (f : Fin 512) (e : l.val = 512 + f.val) :
    (k0_pay2 x y g h (ix2 r l) : EReal) = y (ix2 r f)
      * Ideal.rsqrt (Ideal.div (∑ k : Fin 512, (y (ix2 r k) : EReal) * y (ix2 r k)) (Ideal.ofBits .f32 0x44000000#32) + Ideal.ofBits .f32 0x358637BD#32) * h (ix2 0 f) := by
  unfold k0_pay2
  refine (concatenate_pair_apply_right 1 _ _ concatenates_S512x512_S512x512_S512x1024_d1 (ix2 r l) rfl rfl (ix2 r f) (fun b hb => match b, hb with | ⟨0, _⟩, _ => rfl | ⟨1, _⟩, hb => absurd rfl hb) (by show f.val + 512 = l.val; omega)).trans ?_
  pointwise []

theorem pay2_apply (x y : Vec Ideal S512x512 .f32) (g h : Vec Ideal S1x512 .f32) (r : Fin 512) (l : Fin 1024) (X Y G H : ℕ → EReal)
    (hx : ∀ k : Fin 512, (x (ix2 r k) : EReal) = X k.val) (hy : ∀ k : Fin 512, (y (ix2 r k) : EReal) = Y k.val)
    (hg : ∀ k : Fin 512, (g (ix2 0 k) : EReal) = G k.val) (hh : ∀ k : Fin 512, (h (ix2 0 k) : EReal) = H k.val) :
    (k0_pay2 x y g h (ix2 r l) : EReal) = if l.val < 512 then unit X G l.val else unit Y H (l.val - 512) := by
  by_cases c : l.val < 512
  · rw [if_pos c, pay2_left x y g h r l ⟨l.val, c⟩ rfl, half X _ hx, hx, hg]; rfl
  · rw [if_neg c, pay2_right x y g h r l ⟨l.val - 512, by omega⟩ (by show l.val = 512 + (l.val - 512); omega), half Y _ hy, hy, hh]; rfl

theorem pay3_apply (x y : Vec Ideal S512x512 .f32) (g h : Vec Ideal S1x512 .f32) (w : Vec Ideal S1024x1024 .bf16) (r : Fin 512) (l : Fin 1024) :
    (k0_pay3 x y g h w (ix2 r l) : EReal) = ∑ k : Fin 1024, (k0_pay2 x y g h (ix2 r k) : EReal) * w (ix2 k l) := by
  unfold k0_pay3
  generalize k0_pay2 x y g h = z
  pointwise []

theorem pay1_apply (p x : Vec Ideal S512x1024 .f32) (s : Vec Ideal S1x1x1024 .f32) (r : Fin 512) (l : Fin 1024) :
    (k0_pay1 (F := Ideal) p x s (ix2 r l) : EReal) = x (ix2 r l) + s (ix3 0 0 l) * p (ix2 r l) := by
  unfold k0_pay1
  pointwise []

theorem out7 (x0 x1 x2 x3 x4 x5 x6) : out0_7 (F := Ideal) x0 x1 x2 x3 x4 x5 x6 = k0_pay2 x0 x1 x4 x5 := by
  unfold out0_7
  rw [View.canon_unit_zero (S := S512x1024) hz]
  simp only [View.ld_unit_zero (S := S512x512) hz, View.ld_unit_zero (S := S1x512) hz]

theorem out8 (x0 x1 x2 x3 x4 x5 x6) : out0_8 (F := Ideal) x0 x1 x2 x3 x4 x5 x6 = k0_pay3 x0 x1 x4 x5 x6 := by
  unfold out0_8
  rw [View.canon_unit_zero (S := S512x1024) hz]
  simp only [View.ld_unit_zero (S := S512x512) hz, View.ld_unit_zero (S := S1x512) hz, View.ld_unit_zero (S := S1024x1024) hz]

theorem out9 (x0 x1 x2 x3 x4 x5 x6) : out0_9 (F := Ideal) x0 x1 x2 x3 x4 x5 x6 = k0_pay1 (k0_pay3 x0 x1 x4 x5 x6) x2 (View.ld x3 r0_4) := by
  unfold out0_9
  rw [View.canon_unit_zero (S := S512x1024) hz]
  simp only [View.ld_unit_zero (S := S512x512) hz, View.ld_unit_zero (S := S1x512) hz, View.ld_unit_zero (S := S1024x1024) hz, View.ld_unit_zero (S := S512x1024) hz]

/-! ## The kernel's results -/

variable (m : (ℓ : Loc nD τ sig) → Buf (Elt Ideal) ℓ) (ρ : Dev nD → PrngReg)

/-- The arguments as device `c` holds them. -/
def held (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6)⟩

theorem index0 : ∀ t : Fin cfg0.N, win0_0.index t (0 : Fin 2) = t.val ∧ win0_0.index t (1 : Fin 2) = 0 :=
  (by decide +kernel : ∀ t : Fin grid0.N, _)

theorem index1 : ∀ t : Fin cfg0.N, win0_1.index t (0 : Fin 2) = t.val ∧ win0_1.index t (1 : Fin 2) = 0 :=
  (by decide +kernel : ∀ t : Fin grid0.N, _)

theorem index2 : ∀ t : Fin cfg0.N, win0_2.index t (0 : Fin 2) = t.val ∧ win0_2.index t (1 : Fin 2) = 0 :=
  (by decide +kernel : ∀ t : Fin grid0.N, _)

theorem index7 : ∀ t : Fin cfg0.N, win0_7.index t (0 : Fin 2) = t.val ∧ win0_7.index t (1 : Fin 2) = 0 :=
  (by decide +kernel : ∀ t : Fin grid0.N, _)

theorem index8 : ∀ t : Fin cfg0.N, win0_8.index t (0 : Fin 2) = t.val ∧ win0_8.index t (1 : Fin 2) = 0 :=
  (by decide +kernel : ∀ t : Fin grid0.N, _)

theorem index9 : ∀ t : Fin cfg0.N, win0_9.index t (0 : Fin 2) = t.val ∧ win0_9.index t (1 : Fin 2) = 0 :=
  (by decide +kernel : ∀ t : Fin grid0.N, _)

theorem index4 : ∀ t : Fin cfg0.N, win0_4.index t (0 : Fin 2) = 0 ∧ win0_4.index t (1 : Fin 2) = 0 :=
  (by decide +kernel : ∀ t : Fin grid0.N, _)

theorem index5 : ∀ t : Fin cfg0.N, win0_5.index t (0 : Fin 2) = 0 ∧ win0_5.index t (1 : Fin 2) = 0 :=
  (by decide +kernel : ∀ t : Fin grid0.N, _)

theorem index6 : ∀ t : Fin cfg0.N, win0_6.index t (0 : Fin 2) = 0 ∧ win0_6.index t (1 : Fin 2) = 0 :=
  (by decide +kernel : ∀ t : Fin grid0.N, _)

theorem index3 : ∀ t : Fin cfg0.N, win0_3.index t (0 : Fin 3) = t.val / 4 ∧ win0_3.index t (1 : Fin 3) = 0 ∧ win0_3.index t (2 : Fin 3) = 0 :=
  (by decide +kernel : ∀ t : Fin grid0.N, _)

theorem iblk0_apply (c : Dev nD) (t : Fin cfg0.N) (r : Fin 512) (l : Fin 512) :
    (iblk m c 0 t (ix2 r l) : EReal) = cell (n := 4096) (k := 512) (α := EReal) (held m c).a (512 * t.val + r.val) l.val :=
  cell_block (n := 4096) (k := 512) (α := EReal) (held m c).a (((cfg0.win 0).blk t).view.emb (ix2 r l)) (index0 t) rfl rfl

theorem iblk1_apply (c : Dev nD) (t : Fin cfg0.N) (r : Fin 512) (l : Fin 512) :
    (iblk m c 1 t (ix2 r l) : EReal) = cell (n := 4096) (k := 512) (α := EReal) (held m c).b (512 * t.val + r.val) l.val :=
  cell_block (n := 4096) (k := 512) (α := EReal) (held m c).b (((cfg0.win 1).blk t).view.emb (ix2 r l)) (index1 t) rfl rfl

theorem iblk2_apply (c : Dev nD) (t : Fin cfg0.N) (r : Fin 512) (l : Fin 1024) :
    (iblk m c 2 t (ix2 r l) : EReal) = cell (n := 4096) (k := 1024) (α := EReal) (held m c).x (512 * t.val + r.val) l.val :=
  cell_block (n := 4096) (k := 1024) (α := EReal) (held m c).x (((cfg0.win 2).blk t).view.emb (ix2 r l)) (index2 t) rfl rfl

theorem iblk4_apply (c : Dev nD) (t : Fin cfg0.N) (r : Fin 1) (l : Fin 512) :
    (iblk m c 4 t (ix2 r l) : EReal) = cell (n := 1) (k := 512) (α := EReal) (held m c).g (r.val) l.val :=
  cell_whole (n := 1) (k := 512) (α := EReal) (held m c).g (((cfg0.win 4).blk t).view.emb (ix2 r l)) (index4 t) rfl rfl

theorem iblk5_apply (c : Dev nD) (t : Fin cfg0.N) (r : Fin 1) (l : Fin 512) :
    (iblk m c 5 t (ix2 r l) : EReal) = cell (n := 1) (k := 512) (α := EReal) (held m c).h (r.val) l.val :=
  cell_whole (n := 1) (k := 512) (α := EReal) (held m c).h (((cfg0.win 5).blk t).view.emb (ix2 r l)) (index5 t) rfl rfl

theorem iblk6_apply (c : Dev nD) (t : Fin cfg0.N) (r : Fin 1024) (l : Fin 1024) :
    (iblk m c 6 t (ix2 r l) : EReal) = cell (n := 1024) (k := 1024) (α := EReal) (held m c).w (r.val) l.val :=
  cell_whole (n := 1024) (k := 1024) (α := EReal) (held m c).w (((cfg0.win 6).blk t).view.emb (ix2 r l)) (index6 t) rfl rfl

theorem iblk3_apply (c : Dev nD) (t : Fin cfg0.N) (j : Fin 6) (l : Fin 1024) :
    (iblk m c 3 t (ix3 0 j l) : EReal) = cell3 (p := 2) (n := 6) (k := 1024) (α := EReal) (held m c).mods (t.val / 4) j.val l.val :=
  cell3_block (p := 2) (n := 6) (k := 1024) (α := EReal) (held m c).mods (((cfg0.win 3).blk t).view.emb (ix3 0 j l)) (index3 t) rfl rfl rfl

theorem mixin_apply (c : Dev nD) (t : Fin cfg0.N) (r : Fin 512) (l : Fin 1024) :
    (k0_pay2 (iblk m c 0 t) (iblk m c 1 t) (iblk m c 4 t) (iblk m c 5 t) (ix2 r l) : EReal) = (held m c).mixin (512 * t.val + r.val) l.val :=
  pay2_apply _ _ _ _ r l _ _ _ _ (iblk0_apply m c t r) (iblk1_apply m c t r) (iblk4_apply m c t 0) (iblk5_apply m c t 0)

theorem mix_apply (c : Dev nD) (t : Fin cfg0.N) (r : Fin 512) (l : Fin 1024) :
    (k0_pay3 (iblk m c 0 t) (iblk m c 1 t) (iblk m c 4 t) (iblk m c 5 t) (iblk m c 6 t) (ix2 r l) : EReal) = (held m c).mix (512 * t.val + r.val) l.val := by
  refine (pay3_apply _ _ _ _ _ _ _).trans ?_
  unfold Args.mix
  rw [← Fin.sum_univ_eq_sum_range (fun k => (held m c).mixin (512 * t.val + r.val) k * cell (n := 1024) (k := 1024) (α := EReal) (held m c).w k l.val) 1024]
  exact Finset.sum_congr rfl fun k _ => congrArg₂ (fun a b : EReal => a * b) (mixin_apply m c t r k) (iblk6_apply m c t k l)

theorem stream_apply (c : Dev nD) (t : Fin cfg0.N) (r : Fin 512) (l : Fin 1024) :
    (k0_pay1 (k0_pay3 (iblk m c 0 t) (iblk m c 1 t) (iblk m c 4 t) (iblk m c 5 t) (iblk m c 6 t)) (iblk m c 2 t) (View.ld (iblk m c 3 t) r0_4) (ix2 r l) : EReal)
      = (held m c).stream (512 * t.val + r.val) l.val := by
  have es : (View.ld (iblk m c 3 t) r0_4 (ix3 0 0 l) : EReal) = _ :=
    (congrArg (fun j => (iblk m c 3 t j : EReal)) (show r0_4.idx (ix3 0 0 l) = ix3 0 2 l from
      funext fun a => Fin.ext (by fin_cases a <;> first | rfl | exact (by show 0 + 1 * l.val = l.val; omega)))).trans (iblk3_apply m c t 2 l)
  refine (pay1_apply _ _ _ r l).trans ?_
  unfold Args.stream
  rw [show (512 * t.val + r.val) / 2048 = t.val / 4 by omega]
  exact congrArg₂ (fun a b : EReal => a + b) (iblk2_apply m c t r l) (congrArg₂ (fun a b : EReal => a * b) es (mix_apply m c t r l))

/-- The step that handles row `r`. -/
abbrev stepOf (r : ℕ) (h : r < 4096) : Fin cfg0.N := ⟨r / 512, by rw [show cfg0.N = 8 from N_0]; omega⟩

theorem final7 (c : Dev nD) (i : S4096x1024.Idx) : ((dats m 0 c).arrAt 7 cfg0.N i : EReal) = (held m c).mixin (i 0).val (i 1).val :=
  of_blocks (b := 512) (N := cfg0.N) (α := EReal) ((dats m 0 c).arrAt 7 cfg0.N) ((held m c).mixin) (fun t => ((cfg0.win 7).blk t).view.emb) (by rw [show cfg0.N = 8 from N_0]) index7 (fun _ _ _ => rfl) (fun _ _ _ => rfl) (fun t r l => by
    have h := congrFun (blocks7 m c t ((by decide +kernel : ∀ t : Fin grid0.N, (cfg0.win 7).flush t = true) t)) (ix2 r l)
    rw [flushed7, out7] at h
    exact h.trans ((mixin_apply m c t r l))) i

theorem final8 (c : Dev nD) (i : S4096x1024.Idx) : ((dats m 0 c).arrAt 8 cfg0.N i : EReal) = (held m c).mix (i 0).val (i 1).val :=
  of_blocks (b := 512) (N := cfg0.N) (α := EReal) ((dats m 0 c).arrAt 8 cfg0.N) ((held m c).mix) (fun t => ((cfg0.win 8).blk t).view.emb) (by rw [show cfg0.N = 8 from N_0]) index8 (fun _ _ _ => rfl) (fun _ _ _ => rfl) (fun t r l => by
    have h := congrFun (blocks8 m c t ((by decide +kernel : ∀ t : Fin grid0.N, (cfg0.win 8).flush t = true) t)) (ix2 r l)
    rw [flushed8, out8] at h
    exact h.trans ((mix_apply m c t r l))) i

theorem final9 (c : Dev nD) (i : S4096x1024.Idx) : ((dats m 0 c).arrAt 9 cfg0.N i : EReal) = (held m c).stream (i 0).val (i 1).val :=
  of_blocks (b := 512) (N := cfg0.N) (α := EReal) ((dats m 0 c).arrAt 9 cfg0.N) ((held m c).stream) (fun t => ((cfg0.win 9).blk t).view.emb) (by rw [show cfg0.N = 8 from N_0]) index9 (fun _ _ _ => rfl) (fun _ _ _ => rfl) (fun t r l => by
    have h := congrFun (blocks9 m c t ((by decide +kernel : ∀ t : Fin grid0.N, (cfg0.win 9).flush t = true) t)) (ix2 r l)
    rw [flushed9, out9] at h
    exact h.trans ((stream_apply m c t r l))) i

/-! ## The reference's results -/

section
open Cert.Reference10Ideal.Read
variable (x0 x1 : (⟨S4096x512, .f32⟩ : BufTy).Contents (Elt Ideal)) (x2 : (⟨S4096x1024, .f32⟩ : BufTy).Contents (Elt Ideal)) (x3 : (⟨S2x6x1024, .f32⟩ : BufTy).Contents (Elt Ideal))
  (x4 x5 : (⟨S1x512, .f32⟩ : BufTy).Contents (Elt Ideal)) (x6 : (⟨S1024x1024, .bf16⟩ : BufTy).Contents (Elt Ideal))

theorem reference_first (i : Cert.Reference10Ideal.S2x2048x512.Idx) : (val_main_v14 (F := Ideal) x0 x4 i : EReal) = normed x0 x4 (2048 * (i 0).val + (i 1).val) (i 2).val := by
  have ex : ∀ j : Cert.Reference10Ideal.S2x2048x512.Idx, (val_main_v0 (F := Ideal) x0 j : EReal) = cell (n := 4096) (k := 512) (α := EReal) x0 (2048 * (j 0).val + (j 1).val) (j 2).val := fun j => by
    have h0 : (j 0).val < 2 := (j 0).isLt
    have h1 : (j 1).val < 2048 := (j 1).isLt
    have h2 : (j 2).val < 512 := (j 2).isLt
    refine (val_main_v0_apply x0 j).trans (cell_eq (n := 4096) (k := 512) (α := EReal) x0 _ ?_ ?_)
    · show (((j 0).val * 2048 + (j 1).val) * 512 + (j 2).val) / 512 = _; omega
    · show (((j 0).val * 2048 + (j 1).val) * 512 + (j 2).val) % 512 = _; omega
  have eg : (x4 (idx_main_v1 (idx_main_v12 (idx_main_v13 i))) : EReal) = _ := cell_eq (n := 1) (k := 512) (α := EReal) x4 _ (r := 0) (l := (i 2).val) rfl (Nat.mod_eq_of_lt (i 2).isLt)
  have z : (val_main_cst (F := Ideal) (Shape.Idx.first Cert.Reference10Ideal.Gen.h_S_) : EReal) = 0 := Ideal.ofBits_zero .f32
  rw [val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v1_apply, eg, z, zero_add, ex]
  simp only [val_main_v2_apply, ex]
  unfold normed unit
  rw [← half _ (fun k => cell (n := 4096) (k := 512) (α := EReal) x0 (2048 * (i 0).val + (i 1).val) k.val) fun _ => rfl]
  rfl

theorem reference_second (i : Cert.Reference10Ideal.S2x2048x512.Idx) : (val_main_v29 (F := Ideal) x1 x5 i : EReal) = normed x1 x5 (2048 * (i 0).val + (i 1).val) (i 2).val := by
  have ex : ∀ j : Cert.Reference10Ideal.S2x2048x512.Idx, (val_main_v15 (F := Ideal) x1 j : EReal) = cell (n := 4096) (k := 512) (α := EReal) x1 (2048 * (j 0).val + (j 1).val) (j 2).val := fun j => by
    have h0 : (j 0).val < 2 := (j 0).isLt
    have h1 : (j 1).val < 2048 := (j 1).isLt
    have h2 : (j 2).val < 512 := (j 2).isLt
    refine (val_main_v15_apply x1 j).trans (cell_eq (n := 4096) (k := 512) (α := EReal) x1 _ ?_ ?_)
    · show (((j 0).val * 2048 + (j 1).val) * 512 + (j 2).val) / 512 = _; omega
    · show (((j 0).val * 2048 + (j 1).val) * 512 + (j 2).val) % 512 = _; omega
  have eg : (x5 (idx_main_v16 (idx_main_v27 (idx_main_v28 i))) : EReal) = _ := cell_eq (n := 1) (k := 512) (α := EReal) x5 _ (r := 0) (l := (i 2).val) rfl (Nat.mod_eq_of_lt (i 2).isLt)
  have z : (val_main_cst_2 (F := Ideal) (Shape.Idx.first Cert.Reference10Ideal.Gen.h_S_) : EReal) = 0 := Ideal.ofBits_zero .f32
  rw [val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v16_apply, eg, z, zero_add, ex]
  simp only [val_main_v17_apply, ex]
  unfold normed unit
  rw [← half _ (fun k => cell (n := 4096) (k := 512) (α := EReal) x1 (2048 * (i 0).val + (i 1).val) k.val) fun _ => rfl]
  rfl

theorem reference_mixin (i : Cert.Reference10Ideal.S2x2048x1024.Idx) :
    (val_main_v30 (F := Ideal) x0 x1 x4 x5 i : EReal) = (⟨x0, x1, x2, x3, x4, x5, x6⟩ : Args).mixin (2048 * (i 0).val + (i 1).val) (i 2).val := by
  have h2 : (i 2).val < 1024 := (i 2).isLt
  unfold val_main_v30 Args.mixin
  by_cases c : (i 2).val < 512
  · rw [if_pos c]
    exact (concatenate_pair_apply_left 2 _ _ Cert.Reference10Ideal.Gen.concatenates_S2x2048x512_S2x2048x512_S2x2048x1024_d2 i rfl (ix3 (i 0) (i 1) ⟨(i 2).val, c⟩) (fun d => by
      match d with
      | ⟨0, _⟩ => rfl
      | ⟨1, _⟩ => rfl
      | ⟨2, _⟩ => rfl)).trans (reference_first x0 x4 _)
  · rw [if_neg c]
    exact (concatenate_pair_apply_right 2 _ _ Cert.Reference10Ideal.Gen.concatenates_S2x2048x512_S2x2048x512_S2x2048x1024_d2 i rfl rfl (ix3 (i 0) (i 1) ⟨(i 2).val - 512, by omega⟩) (fun d hd => by
      match d with
      | ⟨0, _⟩ => rfl
      | ⟨1, _⟩ => rfl
      | ⟨2, _⟩ => exact absurd rfl hd) (by show (i 2).val - 512 + 512 = (i 2).val; omega)).trans (reference_second x1 x5 _)

theorem reference_mix (i : Cert.Reference10Ideal.S2x2048x1024.Idx) :
    (val_main_v32 (F := Ideal) x0 x1 x4 x5 x6 i : EReal) = (⟨x0, x1, x2, x3, x4, x5, x6⟩ : Args).mix (2048 * (i 0).val + (i 1).val) (i 2).val := by
  rw [val_main_v32_apply]
  unfold Args.mix
  rw [← Fin.sum_univ_eq_sum_range (fun k => (⟨x0, x1, x2, x3, x4, x5, x6⟩ : Args).mixin (2048 * (i 0).val + (i 1).val) k * cell (n := 1024) (k := 1024) (α := EReal) x6 k (i 2).val) 1024]
  refine Finset.sum_congr rfl fun k _ => congrArg₂ (fun a b : EReal => a * b) (reference_mixin x0 x1 x2 x3 x4 x5 x6 _) ?_
  rw [val_main_v31_apply]
  exact cell_eq (n := 1024) (k := 1024) (α := EReal) x6 _ rfl rfl

theorem reference_stream (i : Cert.Reference10Ideal.S2x2048x1024.Idx) :
    (val_main_v37 (F := Ideal) x0 x1 x2 x3 x4 x5 x6 i : EReal) = (⟨x0, x1, x2, x3, x4, x5, x6⟩ : Args).stream (2048 * (i 0).val + (i 1).val) (i 2).val := by
  have h0 : (i 0).val < 2 := (i 0).isLt
  have h1 : (i 1).val < 2048 := (i 1).isLt
  have h2 : (i 2).val < 1024 := (i 2).isLt
  rw [val_main_v37_apply, val_main_v36_apply, val_main_v35_apply, val_main_v34_apply, val_main_v33_apply]
  unfold Args.stream
  rw [show (2048 * (i 0).val + (i 1).val) / 2048 = (i 0).val by omega]
  refine congrArg₂ (fun a b : EReal => a + b) (cell_eq (n := 4096) (k := 1024) (α := EReal) x2 _ ?_ ?_)
    (congrArg₂ (fun a b : EReal => a * b) (cell3_eq (p := 2) (n := 6) (k := 1024) (α := EReal) x3 _ rfl rfl rfl) (reference_mix x0 x1 x2 x3 x4 x5 x6 i))
  · show (((i 0).val * 2048 + (i 1).val) * 1024 + (i 2).val) / 1024 = _; omega
  · show (((i 0).val * 2048 + (i 1).val) * 1024 + (i 2).val) % 1024 = _; omega

/-- A token's place in the batch, and back. -/
theorem flat (i : S4096x1024.Idx) (f : ℕ → ℕ → EReal) :
    f (2048 * (idx_main_v38 i 0).val + (idx_main_v38 i 1).val) (idx_main_v38 i 2).val = f (i 0).val (i 1).val := by
  have h0 : (i 0).val < 4096 := (i 0).isLt
  have h1 : (i 1).val < 1024 := (i 1).isLt
  refine congrArg₂ f ?_ ?_
  · show 2048 * (((i 0).val * 1024 + (i 1).val) / 2097152) + ((i 0).val * 1024 + (i 1).val) / 1024 % 2048 = (i 0).val; omega
  · show ((i 0).val * 1024 + (i 1).val) % 1024 = (i 1).val; omega

theorem reference0 (i : S4096x1024.Idx) : (val_main_v39 (F := Ideal) x0 x1 x4 x5 i : EReal) = (⟨x0, x1, x2, x3, x4, x5, x6⟩ : Args).mixin (i 0).val (i 1).val :=
  (val_main_v38_apply x0 x1 x4 x5 i).trans ((reference_mixin x0 x1 x2 x3 x4 x5 x6 _).trans (flat i _))

theorem reference1 (i : S4096x1024.Idx) : (val_main_v40 (F := Ideal) x0 x1 x4 x5 x6 i : EReal) = (⟨x0, x1, x2, x3, x4, x5, x6⟩ : Args).mix (i 0).val (i 1).val :=
  (val_main_v40_apply x0 x1 x4 x5 x6 i).trans ((reference_mix x0 x1 x2 x3 x4 x5 x6 _).trans (flat i _))

theorem reference2 (i : S4096x1024.Idx) : (val_main_v41 (F := Ideal) x0 x1 x2 x3 x4 x5 x6 i : EReal) = (⟨x0, x1, x2, x3, x4, x5, x6⟩ : Args).stream (i 0).val (i 1).val :=
  (val_main_v41_apply x0 x1 x2 x3 x4 x5 x6 i).trans ((reference_stream x0 x1 x2 x3 x4 x5 x6 _).trans (flat i _))

end

end Cert.Kernel10Ideal.Value

namespace Cert.Claims

open Idealize.ShloMosaic Idealize.ShloMosaic.TcCoe Idealize.SL.Sem

theorem frame_p10 : Cert.quiescent_Kernel10 := fun m ρ _ => Cert.Kernel10.Gen.frame m ρ

theorem frame_pi10 : Cert.quiescent_Kernel10Ideal := fun m ρ _ => Cert.Kernel10Ideal.Gen.frame m ρ

theorem frame_ri10 : Cert.quiescent_Reference10Ideal := fun m ρ _ =>
  (θ_run Cert.Reference10Ideal.defs _ _).mono (fun r h => ⟨fun c => (h c).2.2.2, Idealize.ShloMosaic.sem_eq_zero_of_no_sems (by decide) r.2⟩)
    (Cert.Reference10Ideal.Value.run (F := Ideal) m ρ)

theorem preserves10 : Cert.preserves_Kernel10_Kernel10Ideal := trivial

open Cert.Kernel10Ideal.Value in
/-- The kernel's three results are the reference's. -/
theorem algebraic10 : Cert.algebraic_Kernel10Ideal_Reference10Ideal := by
  intro m ρ m' ρ' _ hag
  refine ⟨fun c => (Cert.Kernel10Ideal.Gen.dats m 0 c).arrAt 7 Cert.Kernel10Ideal.cfg0.N, fun c => (Cert.Kernel10Ideal.Gen.dats m 0 c).arrAt 8 Cert.Kernel10Ideal.cfg0.N,
    fun c => (Cert.Kernel10Ideal.Gen.dats m 0 c).arrAt 9 Cert.Kernel10Ideal.cfg0.N, Cert.Kernel10Ideal.Value.run_blocks m ρ, ?_⟩
  refine (θ_run Cert.Reference10Ideal.defs _ _).mono (fun r hr c => ?_) (Cert.Reference10Ideal.Value.run (F := Ideal) m' ρ')
  obtain ⟨g0, g1, g2, g3, g4, g5, g6⟩ := hag c
  obtain ⟨r0, r1, r2, rest⟩ := hr c
  refine ⟨r0.trans ((Cert.Reference10Ideal.Read.val_main_v39_eq _ _ _ _).trans ?_), r1.trans ((Cert.Reference10Ideal.Read.val_main_v40_eq _ _ _ _ _).trans ?_),
    r2.trans ((Cert.Reference10Ideal.Read.val_main_v41_eq _ _ _ _ _ _ _).trans ?_), rest⟩
  · rw [g0, g1, g4, g5]
    funext i
    have e := final7 m c i
    unfold held at e
    exact (reference0 _ _ _ _ _ _ _ i).trans e.symm
  · rw [g0, g1, g4, g5, g6]
    funext i
    have e := final8 m c i
    unfold held at e
    exact (reference1 _ _ _ _ _ _ _ i).trans e.symm
  · rw [g0, g1, g2, g3, g4, g5, g6]
    funext i
    have e := final9 m c i
    unfold held at e
    exact (reference2 _ _ _ _ _ _ _ i).trans e.symm

end Cert.Claims

end

end
-- ==== Proof.InForward.lean ====
/-
  The attention's input projection: the kernel normalises the stream, multiplies it and turns the windowed heads one
  block of 512 tokens at a time, the reference all of them at once.
-/
module

public import proofs.«01_k».proof.Defs
public import proofs.«01_k».proof.Proof.Cell
public import proofs.«01_k».proof.Proof.Norm
public import proofs.«01_k».proof.Proof.UpForward
public import proofs.«01_k».proof.Proof.Gen.Kernel11.Frame
public import proofs.«01_k».proof.Proof.Gen.Kernel11Ideal.Value
public import proofs.«01_k».proof.Proof.Gen.Reference11Ideal.Read
public import Idealize.ShloMosaic.Lib.Quiescent
public import Idealize.ShloMosaic.Lib.Pointwise
public import Idealize.ShloMosaic.Lib.Tactic
public import Idealize.ShloMosaic.Lib.WritesUnit

@[expose] public section

set_option maxRecDepth 16384

noncomputable section

namespace Cert.Kernel11Ideal.Value

open Cert.Kernel11Ideal Cert.Kernel11Ideal.Gen Cert.Cell
open Idealize.ShloMosaic Idealize.ShloMosaic.TcCoe Idealize.SL.Sem

theorem hz : (![0, 0] : Fin 2 → Nat) = fun _ => 0 := funext fun a => by fin_cases a <;> rfl

/-! ## Lanes of a buffer stored one group after another -/

section Lanes
variable {sig : RefSig} {κ : Kind} {sp : Space} {e : EltTy} {Val : EltTy → Type} {n k W : ℕ}

theorem lanes_stored (v : View sig κ sp (⟨2, ![n, k]⟩ : Shape) e) (f : v.ty.Contents Val) (o : ℕ) (inb : ∀ a : Fin 2, ![0, o] a + ![n, W] a ≤ (⟨2, ![n, k]⟩ : Shape).size a)
    (w : (Rect.unit (s := ⟨2, ![n, k]⟩) ![0, o] ![n, W] inb).shape.Idx → Val e) (L : List (View.Piece Val (⟨2, ![n, k]⟩ : Shape) e))
    (r : Fin n) (l : Fin k) (j : Fin W) (h : l.val = o + j.val) :
    v.read Val (v.writes Val f ((⟨Rect.unit (s := ⟨2, ![n, k]⟩) ![0, o] ![n, W] inb, w⟩ : View.Piece Val (⟨2, ![n, k]⟩ : Shape) e) :: L)) (ix2 r l) = w (ix2 r j) :=
  View.read_writes_cons_unit_of_mem v f inb w L (ix2 r l) (ix2 r j) rfl (fun a => by
    fin_cases a
    · show r.val = 0 + r.val; omega
    · show l.val = o + j.val; exact h)

theorem lanes_kept (v : View sig κ sp (⟨2, ![n, k]⟩ : Shape) e) (f : v.ty.Contents Val) (o : ℕ) (inb : ∀ a : Fin 2, ![0, o] a + ![n, W] a ≤ (⟨2, ![n, k]⟩ : Shape).size a)
    (w : (Rect.unit (s := ⟨2, ![n, k]⟩) ![0, o] ![n, W] inb).shape.Idx → Val e) (L : List (View.Piece Val (⟨2, ![n, k]⟩ : Shape) e))
    (r : Fin n) (l : Fin k) (h : l.val < o) :
    v.read Val (v.writes Val f ((⟨Rect.unit (s := ⟨2, ![n, k]⟩) ![0, o] ![n, W] inb, w⟩ : View.Piece Val (⟨2, ![n, k]⟩ : Shape) e) :: L)) (ix2 r l)
      = v.read Val (v.writes Val f L) (ix2 r l) :=
  View.read_writes_cons_unit_of_not_mem v f inb w L (ix2 r l) rfl 1 (Or.inl h)

end Lanes

/-! ## What one step computes from its blocks -/

/-- One over the root of a head's width. -/
def eighth : EReal := Ideal.ofBits .f32 0x3E000000#32

/-- The windowed heads' queries and keys, turned by the tables' rows `C` and `S`. -/
def turned (X C S : ℕ → EReal) (j : ℕ) : EReal :=
  X (1536 + j) * C (j % 128) + X (1536 + if j % 64 < 32 then j + 32 else j - 32) * S (j % 128)

/-- The projections of one token: the queries scaled, the windowed heads' queries and keys turned. -/
def laid (X T : ℕ → EReal) (l : ℕ) : EReal :=
  if l < 512 then X l * eighth else if l < 1536 then X l else if l < 2048 then T (l - 1536) * eighth else if l < 2176 then T (l - 1536) else X l

abbrev scaleRow : Rect S1x6x1024 := Rect.unit (s := S1x6x1024) ![0, 1, 0] S1x1x1024.size inb_S1x6x1024_S1x1x1024_0_1_0

abbrev shiftRow : Rect S1x6x1024 := Rect.unit (s := S1x6x1024) ![0, 0, 0] S1x1x1024.size inb_S1x6x1024_S1x1x1024_0_0_0

theorem pay2_apply (x : Vec Ideal S512x1024 .f32) (g : Vec Ideal S1x1024 .f32) (s h : Vec Ideal S1x1x1024 .f32) (r : Fin 512) (l : Fin 1024)
    (X : ℕ → EReal) (G S H : EReal) (hx : ∀ k : Fin 1024, (x (ix2 r k) : EReal) = X k.val) (hg : (g (ix2 0 l) : EReal) = G)
    (hs : (s (ix3 0 0 l) : EReal) = S) (hh : (h (ix3 0 0 l) : EReal) = H) :
    (k0_pay2 x g s h (ix2 r l) : EReal) = X l.val * Norm.inv (Ideal.ofBits .f32 0x44800000#32) 1024 X * G * (Ideal.ofBits .f32 0x3F800000#32 + S) + H :=
  Cert.Kernel6Ideal.Value.pay1_apply x g s h r l X G S H hx hg hs hh

theorem pay3_apply (x : Vec Ideal S512x1024 .f32) (g : Vec Ideal S1x1024 .f32) (s h : Vec Ideal S1x1x1024 .f32) (w : Vec Ideal S2304x1024 .bf16) (r : Fin 512) (l : Fin 2304) :
    (k0_pay3 x g s h w (ix2 r l) : EReal) = ∑ k : Fin 1024, (k0_pay2 x g s h (ix2 r k) : EReal) * w (ix2 l k) := by
  unfold k0_pay3
  pointwise []

/-- The table's 128 lanes, five times. -/
theorem five (x : Vec Ideal S512x128 .f32) (r : Fin 512) (j : Fin 640) :
    (concatenate S512x640 1 [⟨S512x128, x⟩, ⟨S512x128, x⟩, ⟨S512x128, x⟩, ⟨S512x128, x⟩, ⟨S512x128, x⟩] concatenates_S512x128_S512x128_S512x128_S512x128_S512x128_S512x640_d1 (ix2 r j) : EReal)
      = x (ix2 r ⟨j.val % 128, Nat.mod_lt _ (by norm_num)⟩) := by
  have hj := j.isLt
  have off : ∀ b : Fin 2, b ≠ 1 → ((ix2 r ⟨j.val % 128, Nat.mod_lt _ (by norm_num)⟩ : S512x128.Idx) b).val = ((ix2 r j : S512x640.Idx) b).val := fun b hb =>
    match b, hb with
    | ⟨0, _⟩, _ => rfl
    | ⟨1, _⟩, hb => absurd rfl hb
  obtain h | h | h | h | h : j.val / 128 = 0 ∨ j.val / 128 = 1 ∨ j.val / 128 = 2 ∨ j.val / 128 = 3 ∨ j.val / 128 = 4 := by omega
  · exact concatenate_apply_piece 1 _ _ (ix2 r j) 0 (by simp) S512x128 _ rfl rfl 0 rfl _ off (by show 0 + j.val % 128 = j.val; omega)
  · exact concatenate_apply_piece 1 _ _ (ix2 r j) 1 (by simp) S512x128 _ rfl rfl 128 rfl _ off (by show 128 + j.val % 128 = j.val; omega)
  · exact concatenate_apply_piece 1 _ _ (ix2 r j) 2 (by simp) S512x128 _ rfl rfl 256 rfl _ off (by show 256 + j.val % 128 = j.val; omega)
  · exact concatenate_apply_piece 1 _ _ (ix2 r j) 3 (by simp) S512x128 _ rfl rfl 384 rfl _ off (by show 384 + j.val % 128 = j.val; omega)
  · exact concatenate_apply_piece 1 _ _ (ix2 r j) 4 (by simp) S512x128 _ rfl rfl 512 rfl _ off (by show 512 + j.val % 128 = j.val; omega)

/-- The first half of a head, as the step tests for it. -/
def half (j : ℕ) : BitVec 1 :=
  let w : BitVec 32 := Scalar.select (Scalar.cmpi .eq 64#32 0#32) 1#32 64#32
  let m : BitVec 32 := IntOp.remsi .vector (BitVec.ofNat 32 j) w
  IntOp.cmpi .slt (Scalar.select (IntOp.andi (IntOp.xori (IntOp.cmpi .slt m 0#32) (Scalar.cmpi .slt w 0#32)) (IntOp.cmpi .ne m 0#32)) (IntOp.addi m w) m) 32#32

theorem half_eq : ∀ j : Fin 640, half j.val = if j.val % 64 < 32 then 1#1 else 0#1 := by
  decide +kernel

theorem pay6_apply (P Q : Vec Ideal S512x640 .f32) (y : Vec Ideal S512x128 .f32) (r : Fin 512) (j : Fin 640) :
    (k0_pay6 P Q (iota .tc S512x640 32 [1] iota_S512x640_d1_w32) 64#32 (Scalar.cmpi .eq 64#32 0#32) y (ix2 r j) : EReal)
      = Q (ix2 r j) + (if j.val % 64 < 32 then P (ix2 r ⟨(j.val + 640 - 608) % 640, Nat.mod_lt _ (by norm_num)⟩) else P (ix2 r ⟨(j.val + 640 - 32) % 640, Nat.mod_lt _ (by norm_num)⟩))
        * y (ix2 r ⟨j.val % 128, Nat.mod_lt _ (by norm_num)⟩) := by
  have hcast : shapeCast S512x128 y shapeCasts_S512x128_S512x128 = y := shapeCast_id y _
  have hc := five y r j
  have e : (k0_pay6 P Q (iota .tc S512x640 32 [1] iota_S512x640_d1_w32) 64#32 (Scalar.cmpi .eq 64#32 0#32) y (ix2 r j) : EReal)
      = Q (ix2 r j) + Scalar.select (half j.val) (P (ix2 r ⟨(j.val + 640 - 608) % 640, Nat.mod_lt _ (by norm_num)⟩) : EReal) (P (ix2 r ⟨(j.val + 640 - 32) % 640, Nat.mod_lt _ (by norm_num)⟩))
        * y (ix2 r ⟨j.val % 128, Nat.mod_lt _ (by norm_num)⟩) := by
    unfold k0_pay6 half
    dsimp only
    rw [hcast, ← hc]
    generalize concatenate S512x640 1 [⟨S512x128, y⟩, ⟨S512x128, y⟩, ⟨S512x128, y⟩, ⟨S512x128, y⟩, ⟨S512x128, y⟩] concatenates_S512x128_S512x128_S512x128_S512x128_S512x128_S512x640_d1 = z
    pointwise []
  rw [e, half_eq]
  by_cases h : j.val % 64 < 32
  · rw [if_pos h, if_pos h]; rfl
  · rw [if_neg h, if_neg h]; rfl

theorem pay5_apply (x : Vec Ideal S512x1024 .f32) (g : Vec Ideal S1x1024 .f32) (s h : Vec Ideal S1x1x1024 .f32) (w : Vec Ideal S2304x1024 .bf16) (y : Vec Ideal S512x128 .f32) (r : Fin 512) (j : Fin 640) :
    (k0_pay5 x g s h w y (ix2 r j) : EReal) = k0_pay4 x g s h w (ix2 r j) * y (ix2 r ⟨j.val % 128, Nat.mod_lt _ (by norm_num)⟩) := by
  have hcast : shapeCast S512x128 y shapeCasts_S512x128_S512x128 = y := shapeCast_id y _
  unfold k0_pay5
  rw [hcast, ← five y r j]
  rfl

theorem pay4_apply (x : Vec Ideal S512x1024 .f32) (g : Vec Ideal S1x1024 .f32) (s h : Vec Ideal S1x1x1024 .f32) (w : Vec Ideal S2304x1024 .bf16) (r : Fin 512) (j : Fin 640) :
    (k0_pay4 x g s h w (ix2 r j) : EReal) = k0_pay3 x g s h w (ix2 r ⟨1536 + j.val, by omega⟩) := by
  unfold k0_pay4
  generalize k0_pay3 x g s h w = z
  pointwise []

theorem pay1_apply (z : Vec Ideal S512x2304 .f32) (r : Fin 512) (j : Fin 128) : (k0_pay1 (F := Ideal) z (ix2 r j) : EReal) = z (ix2 r ⟨2176 + j.val, by omega⟩) := by
  unfold k0_pay1
  pointwise []

theorem pay7_apply (z : Vec Ideal S512x2304 .f32) (r : Fin 512) (j : Fin 512) : (k0_pay7 (F := Ideal) z (ix2 r j) : EReal) = z (ix2 r ⟨j.val, by omega⟩) * eighth := by
  unfold k0_pay7 eighth
  pointwise []

theorem pay8_apply (z : Vec Ideal S512x2304 .f32) (r : Fin 512) (j : Fin 1024) : (k0_pay8 (F := Ideal) z (ix2 r j) : EReal) = z (ix2 r ⟨512 + j.val, by omega⟩) := by
  unfold k0_pay8
  pointwise []

theorem pay9_apply (P Q : Vec Ideal S512x640 .f32) (i : IVec S512x640 32) (a : BitVec 32) (b : BitVec 1) (y : Vec Ideal S512x128 .f32) (r : Fin 512) (j : Fin 512) :
    (k0_pay9 P Q i a b y (ix2 r j) : EReal) = k0_pay6 P Q i a b y (ix2 r ⟨j.val, by omega⟩) * eighth := by
  unfold k0_pay9 eighth
  generalize k0_pay6 P Q i a b y = z
  pointwise []

theorem pay10_apply (P Q : Vec Ideal S512x640 .f32) (i : IVec S512x640 32) (a : BitVec 32) (b : BitVec 1) (y : Vec Ideal S512x128 .f32) (r : Fin 512) (j : Fin 128) :
    (k0_pay10 P Q i a b y (ix2 r j) : EReal) = k0_pay6 P Q i a b y (ix2 r ⟨512 + j.val, by omega⟩) := by
  unfold k0_pay10
  generalize k0_pay6 P Q i a b y = z
  pointwise []

theorem out6_A (c : Dev nD) (i : grid0.Coords) (a1 h1 a2 h2 a3 h3 a4 h4 a5 h5 a6 h6 a7 h7 a8 h8) (x0 : Vec Ideal S512x1024 .f32) (x1 : Vec Ideal S1x6x1024 .f32) (x2 : Vec Ideal S1x1024 .f32) (x3 : Vec Ideal S2304x1024 .bf16) (x4 x5 : Vec Ideal S512x128 .f32) :
    out0_A_6 c i a1 h1 a2 h2 a3 h3 a4 h4 a5 h5 a6 h6 a7 h7 a8 h8 x0 x1 x2 x3 x4 x5
      = k0_pay2 x0 x2 (View.ld x1 scaleRow) (View.ld x1 shiftRow) := by
  unfold out0_A_6
  rw [View.read_writes_eq_canon _ _ _ (cover0_A_6 c i a1 h1 a2 h2 a3 h3 a4 h4 a5 h5 a6 h6 a7 h7 a8 h8 x0 x1 x2 x3 x4 x5)]
  unfold kernelRun0_A
  dsimp only
  sl_unfold_words
  rw [View.canon_unit_zero (S := S512x1024) hz]
  simp only [View.readAt_eq_ld, Memref.IsWhole.read_unread, View.ld_unit_zero (S := S512x1024) hz, View.ld_unit_zero (S := S1x1024) hz]

/-- Both halves of a turned head. -/
theorem turn_apply (z : ℕ → EReal) (P Q : Vec Ideal S512x640 .f32) (x y : Vec Ideal S512x128 .f32) (r : Fin 512) (C S : ℕ → EReal)
    (hP : ∀ j : Fin 640, (P (ix2 r j) : EReal) = z (1536 + j.val)) (hQ : ∀ j : Fin 640, (Q (ix2 r j) : EReal) = P (ix2 r j) * x (ix2 r ⟨j.val % 128, Nat.mod_lt _ (by norm_num)⟩))
    (hC : ∀ j : Fin 128, (x (ix2 r j) : EReal) = C j.val) (hS : ∀ j : Fin 128, (y (ix2 r j) : EReal) = S j.val) (j : Fin 640) :
    (k0_pay6 P Q (iota .tc S512x640 32 [1] iota_S512x640_d1_w32) 64#32 (Scalar.cmpi .eq 64#32 0#32) y (ix2 r j) : EReal) = turned z C S j.val := by
  rw [pay6_apply, hQ, hP, hC, hS]
  unfold turned
  by_cases h : j.val % 64 < 32
  · rw [if_pos h, if_pos h, hP]; congr 3; show 1536 + (j.val + 640 - 608) % 640 = 1536 + (j.val + 32); omega
  · rw [if_neg h, if_neg h, hP]; congr 3; show 1536 + (j.val + 640 - 32) % 640 = 1536 + (j.val - 32); omega

theorem out7_A (c : Dev nD) (i : grid0.Coords) (a1 h1 a2 h2 a3 h3 a4 h4 a5 h5 a6 h6 a7 h7 a8 h8) (x0 : Vec Ideal S512x1024 .f32) (x1 : Vec Ideal S1x6x1024 .f32) (x2 : Vec Ideal S1x1024 .f32) (x3 : Vec Ideal S2304x1024 .bf16) (x4 x5 : Vec Ideal S512x128 .f32)
    (r : Fin 512) (l : Fin 2304) (X C S : ℕ → EReal)
    (hX : ∀ l : Fin 2304, (k0_pay3 x0 x2 (View.ld x1 scaleRow) (View.ld x1 shiftRow) x3 (ix2 r l) : EReal) = X l.val)
    (hC : ∀ j : Fin 128, (x4 (ix2 r j) : EReal) = C j.val) (hS : ∀ j : Fin 128, (x5 (ix2 r j) : EReal) = S j.val) :
    (out0_A_7 c i a1 h1 a2 h2 a3 h3 a4 h4 a5 h5 a6 h6 a7 h7 a8 h8 x0 x1 x2 x3 x4 x5 (ix2 r l) : EReal) = laid X (turned X C S) l.val := by
  have hl := l.isLt
  have ht := turn_apply X _ _ x4 x5 r C S (fun j => (pay4_apply _ _ _ _ _ r j).trans (hX _)) (fun j => pay5_apply _ _ _ _ _ x4 r j) hC hS
  unfold out0_A_7 kernelRun0_A laid
  dsimp only
  sl_unfold_words
  simp only [View.readAt_eq_ld, Memref.IsWhole.read_unread, View.ld_unit_zero (S := S512x1024) hz, View.ld_unit_zero (S := S1x1024) hz, View.ld_unit_zero (S := S2304x1024) hz, View.ld_unit_zero (S := S512x128) hz]
  by_cases b4 : l.val < 2176
  swap
  · rw [if_neg (by omega), if_neg (by omega), if_neg (by omega), if_neg b4]
    refine (lanes_stored _ _ _ _ _ _ r l (⟨l.val - 2176, by omega⟩ : Fin 128) (by show l.val = 2176 + (l.val - 2176); omega)).trans ((pay1_apply _ r _).trans ((hX _).trans (congrArg X ?_)))
    show 2176 + (l.val - 2176) = l.val; omega
  refine (lanes_kept _ _ _ _ _ _ r l b4).trans ?_
  by_cases b3 : l.val < 2048
  swap
  · rw [if_neg (by omega), if_neg (by omega), if_neg b3, if_pos b4]
    refine (lanes_stored _ _ _ _ _ _ r l (⟨l.val - 2048, by omega⟩ : Fin 128) (by show l.val = 2048 + (l.val - 2048); omega)).trans ((pay10_apply _ _ _ _ _ _ r _).trans ((ht _).trans (congrArg _ ?_)))
    show 512 + (l.val - 2048) = l.val - 1536; omega
  refine (lanes_kept _ _ _ _ _ _ r l b3).trans ?_
  by_cases b2 : l.val < 1536
  swap
  · rw [if_neg (by omega), if_neg b2, if_pos b3]
    exact (lanes_stored _ _ _ _ _ _ r l (⟨l.val - 1536, by omega⟩ : Fin 512) (by show l.val = 1536 + (l.val - 1536); omega)).trans ((pay9_apply _ _ _ _ _ _ r _).trans (congrArg (fun a : EReal => a * eighth) (ht _)))
  refine (lanes_kept _ _ _ _ _ _ r l b2).trans ?_
  by_cases b1 : l.val < 512
  swap
  · rw [if_neg b1, if_pos b2]
    refine (lanes_stored _ _ _ _ _ _ r l (⟨l.val - 512, by omega⟩ : Fin 1024) (by show l.val = 512 + (l.val - 512); omega)).trans ((pay8_apply _ r _).trans ((hX _).trans (congrArg X ?_)))
    show 512 + (l.val - 512) = l.val; omega
  refine (lanes_kept _ _ _ _ _ _ r l b1).trans ?_
  rw [if_pos b1]
  exact (lanes_stored _ _ _ _ _ _ r l (⟨l.val, b1⟩ : Fin 512) (Nat.zero_add _).symm).trans ((pay7_apply _ r _).trans (congrArg (fun a : EReal => a * eighth) (hX _)))

/-! ## The results in terms of the arguments -/

/-- The arguments: the stream, the modulations, the gain, the weights, and the cosines and sines of the angles. -/
structure Args where
  x : (⟨S4096x1024, .f32⟩ : BufTy).Contents (Elt Ideal)
  mods : (⟨S2x6x1024, .f32⟩ : BufTy).Contents (Elt Ideal)
  g : (⟨S1x1024, .f32⟩ : BufTy).Contents (Elt Ideal)
  w : (⟨S2304x1024, .bf16⟩ : BufTy).Contents (Elt Ideal)
  cs : (⟨S2048x32, .f32⟩ : BufTy).Contents (Elt Ideal)
  sn : (⟨S2048x32, .f32⟩ : BufTy).Contents (Elt Ideal)

/-- The normalised and modulated row of token `t` at lane `l`. -/
def Args.hidden (A : Args) (t l : ℕ) : EReal :=
  cell (n := 4096) (k := 1024) (α := EReal) A.x t l
    * Norm.inv (Ideal.ofBits .f32 0x44800000#32) 1024 (cell (n := 4096) (k := 1024) (α := EReal) A.x t)
    * cell (n := 1) (k := 1024) (α := EReal) A.g 0 l
    * (Ideal.ofBits .f32 0x3F800000#32 + cell3 (p := 2) (n := 6) (k := 1024) (α := EReal) A.mods (t / 2048) 1 l)
    + cell3 (p := 2) (n := 6) (k := 1024) (α := EReal) A.mods (t / 2048) 0 l

/-- The projection of token `t` to lane `f`. -/
def Args.proj (A : Args) (t f : ℕ) : EReal :=
  ∑ k ∈ Finset.range 1024, A.hidden t k * cell (n := 2304) (k := 1024) (α := EReal) A.w f k

/-- The cosine for token `t` and lane `j`. -/
def Args.cosAt (A : Args) (t j : ℕ) : EReal := cell (n := 2048) (k := 32) (α := EReal) A.cs (t % 2048) (j % 32)

/-- The sine for token `t` and lane `j`. -/
def Args.sinAt (A : Args) (t j : ℕ) : EReal := cell (n := 2048) (k := 32) (α := EReal) A.sn (t % 2048) (j % 32)

/-- The windowed heads' queries and keys of token `t`, each head's two halves turned by the token's angles. -/
def Args.turn (A : Args) (t j : ℕ) : EReal :=
  if j % 64 < 32 then A.proj t (1536 + j) * A.cosAt t j - A.proj t (1536 + (j + 32)) * A.sinAt t j
  else A.proj t (1536 + j) * A.cosAt t j + A.proj t (1536 + (j - 32)) * A.sinAt t j

/-- The projections of token `t`. -/
def Args.qkv (A : Args) (t : ℕ) : ℕ → EReal := laid (A.proj t) (A.turn t)

/-- Adding the product with the negated sine is subtracting the product. -/
theorem turned_eq (A : Args) (t j : ℕ) :
    turned (A.proj t) (A.cosAt t) (fun j => if j % 64 < 32 then -A.sinAt t j else A.sinAt t j) j = A.turn t j := by
  have hc : A.cosAt t (j % 128) = A.cosAt t j := by unfold Args.cosAt; rw [show j % 128 % 32 = j % 32 by omega]
  have hs : A.sinAt t (j % 128) = A.sinAt t j := by unfold Args.sinAt; rw [show j % 128 % 32 = j % 32 by omega]
  unfold turned Args.turn
  dsimp only
  rw [hc, hs, show j % 128 % 64 = j % 64 by omega]
  by_cases h : j % 64 < 32
  · simp only [if_pos h]; rw [mul_neg, ← sub_eq_add_neg]
  · simp only [if_neg h]

/-! ## The kernel's results -/

variable (m : (ℓ : Loc nD τ sig) → Buf (Elt Ideal) ℓ) (ρ : Dev nD → PrngReg)

section Entry
variable {F : FTy → Type} [FloatOps F] (mm : (ℓ : Loc nD τ sig) → Buf (Elt F) ℓ)

/-- A head's 64 lanes, twice. -/
def twice (z : FVec F S2048x64 .f32) : FVec F S2048x128 .f32 :=
  shapeCast S2048x128 (broadcastInDim S1x2048x2x64 ![0, 1, 2, 3] bcast_S1x2048x1x64_S1x2048x2x64_0_1_2_3 (shapeCast S1x2048x1x64 z shapeCasts_S2048x64_S1x2048x1x64)) shapeCasts_S1x2048x2x64_S2048x128

/-- Two halves of a head side by side. -/
def halves (a b : FVec F S2048x32 .f32) : FVec F S2048x64 .f32 :=
  concatenate S2048x64 1 [⟨S2048x32, a⟩, ⟨S2048x32, b⟩] concatenates_S2048x32_S2048x32_S2048x64_d1

theorem V_main_v3 (c : Dev nD) : V mm c main_v3
    = (twice (halves (mm ((c : Thread nD τ).loc main_arg4)) (mm ((c : Thread nD τ).loc main_arg4))) : FVec F S2048x128 .f32) := by
  show StableHlo.after hostOps0 _ (Proc.devRef .tc main_v3) = _
  after_results
  rfl

theorem V_main_v8 (c : Dev nD) : V mm c main_v8
    = (twice (halves (Host.negf (mm ((c : Thread nD τ).loc main_arg5) : FVec F S2048x32 .f32)) (mm ((c : Thread nD τ).loc main_arg5))) : FVec F S2048x128 .f32) := by
  show StableHlo.after hostOps0 _ (Proc.devRef .tc main_v8) = _
  after_results
  rfl

end Entry

theorem twice_apply (z : FVec Ideal S2048x64 .f32) (p : Fin 2048) (j : Fin 128) :
    (twice z (ix2 p j) : EReal) = z (ix2 p ⟨j.val % 64, Nat.mod_lt _ (by norm_num)⟩) := by
  unfold twice
  pointwise []

theorem halves_apply (a b : FVec Ideal S2048x32 .f32) (p : Fin 2048) (j : Fin 64) :
    (halves a b (ix2 p j) : EReal) = if j.val < 32 then a (ix2 p ⟨j.val % 32, Nat.mod_lt _ (by norm_num)⟩) else b (ix2 p ⟨j.val % 32, Nat.mod_lt _ (by norm_num)⟩) := by
  have hj := j.isLt
  unfold halves
  by_cases h : j.val < 32
  · rw [if_pos h]
    exact concatenate_pair_apply_left 1 _ _ concatenates_S2048x32_S2048x32_S2048x64_d1 (ix2 p j) rfl _ (fun b => match b with | ⟨0, _⟩ => rfl | ⟨1, _⟩ => (by show j.val % 32 = j.val; omega))
  · rw [if_neg h]
    exact concatenate_pair_apply_right 1 _ _ concatenates_S2048x32_S2048x32_S2048x64_d1 (ix2 p j) rfl rfl _ (fun b hb => match b, hb with | ⟨0, _⟩, _ => rfl | ⟨1, _⟩, hb => absurd rfl hb) (by show j.val % 32 + 32 = j.val; omega)

/-- The arguments as device `c` holds them. -/
def held (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5)⟩

theorem index0 : ∀ t : Fin cfg0.N, win0_0.index t (0 : Fin 2) = t.val ∧ win0_0.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val % 4 ∧ win0_4.index t (1 : Fin 2) = 0 :=
  (by decide +kernel : ∀ t : Fin grid0.N, _)
theorem index5 : ∀ t : Fin cfg0.N, win0_5.index t (0 : Fin 2) = t.val % 4 ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)
theorem index1 : ∀ t : Fin cfg0.N, win0_1.index t (0 : Fin 3) = t.val / 4 ∧ win0_1.index t (1 : Fin 3) = 0 ∧ win0_1.index t (2 : Fin 3) = 0 :=
  (by decide +kernel : ∀ t : Fin grid0.N, _)

theorem iblk0_apply (c : Dev nD) (t : Fin cfg0.N) (r : Fin 512) (l : Fin 1024) :
    (iblk m c 0 t (ix2 r l) : EReal) = cell (n := 4096) (k := 1024) (α := EReal) (held m c).x (512 * t.val + r.val) l.val :=
  (congrFun (V_main_arg0 m c) _).trans (cell_block (n := 4096) (k := 1024) (α := EReal) (held m c).x (((cfg0.win 0).blk t).view.emb (ix2 r l)) (index0 t) rfl rfl)

theorem iblk2_apply (c : Dev nD) (t : Fin cfg0.N) (r : Fin 1) (l : Fin 1024) :
    (iblk m c 2 t (ix2 r l) : EReal) = cell (n := 1) (k := 1024) (α := EReal) (held m c).g (r.val) l.val :=
  (congrFun (V_main_arg2 m c) _).trans (cell_whole (n := 1) (k := 1024) (α := EReal) (held m c).g (((cfg0.win 2).blk t).view.emb (ix2 r l)) (index2 t) rfl rfl)

theorem iblk3_apply (c : Dev nD) (t : Fin cfg0.N) (r : Fin 2304) (l : Fin 1024) :
    (iblk m c 3 t (ix2 r l) : EReal) = cell (n := 2304) (k := 1024) (α := EReal) (held m c).w (r.val) l.val :=
  (congrFun (V_main_arg3 m c) _).trans (cell_whole (n := 2304) (k := 1024) (α := EReal) (held m c).w (((cfg0.win 3).blk t).view.emb (ix2 r l)) (index3 t) rfl rfl)

theorem iblk1_apply (c : Dev nD) (t : Fin cfg0.N) (j : Fin 6) (l : Fin 1024) :
    (iblk m c 1 t (ix3 0 j l) : EReal) = cell3 (p := 2) (n := 6) (k := 1024) (α := EReal) (held m c).mods (t.val / 4) j.val l.val :=
  (congrFun (V_main_arg1 m c) _).trans (cell3_block (p := 2) (n := 6) (k := 1024) (α := EReal) (held m c).mods (((cfg0.win 1).blk t).view.emb (ix3 0 j l)) (index1 t) rfl rfl rfl)

theorem iblk4_apply (c : Dev nD) (t : Fin cfg0.N) (r : Fin 512) (j : Fin 128) :
    (iblk m c 4 t (ix2 r j) : EReal) = (held m c).cosAt (512 * t.val + r.val) j.val := by
  obtain ⟨e0, e1⟩ := index4 t
  have hr : (512 * t.val + r.val) % 2048 = t.val % 4 * 512 + r.val := by omega
  unfold iblk
  show (V m c main_v3 (((cfg0.win 4).blk t).view.emb (ix2 r j)) : EReal) = _
  rw [V_main_v3]
  have e : ((cfg0.win 4).blk t).view.emb (ix2 r j) = (ix2 ⟨t.val % 4 * 512 + r.val, by omega⟩ j : S2048x128.Idx) := by
    refine funext fun a => Fin.ext ?_
    fin_cases a
    · show win0_4.index t (0 : Fin 2) * 512 + 1 * r.val = t.val % 4 * 512 + r.val
      rw [e0]; omega
    · show win0_4.index t (1 : Fin 2) * 128 + 1 * j.val = j.val
      rw [e1]; omega
  rw [e]
  refine (twice_apply _ _ _).trans ((halves_apply _ _ _ _).trans ?_)
  unfold Args.cosAt
  rw [hr, ite_self]
  exact cell_eq (n := 2048) (k := 32) (α := EReal) (held m c).cs _ rfl (by show j.val % 64 % 32 = j.val % 32; omega)

theorem iblk5_apply (c : Dev nD) (t : Fin cfg0.N) (r : Fin 512) (j : Fin 128) :
    (iblk m c 5 t (ix2 r j) : EReal) = (if j.val % 64 < 32 then -(held m c).sinAt (512 * t.val + r.val) j.val else (held m c).sinAt (512 * t.val + r.val) j.val) := by
  obtain ⟨e0, e1⟩ := index5 t
  have hr : (512 * t.val + r.val) % 2048 = t.val % 4 * 512 + r.val := by omega
  unfold iblk
  show (V m c main_v8 (((cfg0.win 5).blk t).view.emb (ix2 r j)) : EReal) = _
  rw [V_main_v8]
  have e : ((cfg0.win 5).blk t).view.emb (ix2 r j) = (ix2 ⟨t.val % 4 * 512 + r.val, by omega⟩ j : S2048x128.Idx) := by
    refine funext fun a => Fin.ext ?_
    fin_cases a
    · show win0_5.index t (0 : Fin 2) * 512 + 1 * r.val = t.val % 4 * 512 + r.val
      rw [e0]; omega
    · show win0_5.index t (1 : Fin 2) * 128 + 1 * j.val = j.val
      rw [e1]; omega
  rw [e]
  refine (twice_apply _ _ _).trans ((halves_apply _ _ _ _).trans ?_)
  unfold Args.sinAt
  have es : ((held m c).sn (ix2 ⟨t.val % 4 * 512 + r.val, by omega⟩ ⟨j.val % 64 % 32, Nat.mod_lt _ (by norm_num)⟩) : EReal) = cell (n := 2048) (k := 32) (α := EReal) (held m c).sn (t.val % 4 * 512 + r.val) (j.val % 32) :=
    cell_eq (n := 2048) (k := 32) (α := EReal) (held m c).sn _ rfl (by show j.val % 64 % 32 = j.val % 32; omega)
  rw [hr, ← es]
  rfl

/-- The normalised rows a step computes. -/
theorem hidden_apply (c : Dev nD) (t : Fin cfg0.N) (r : Fin 512) (l : Fin 1024) :
    (k0_pay2 (iblk m c 0 t) (iblk m c 2 t) (View.ld (iblk m c 1 t) scaleRow) (View.ld (iblk m c 1 t) shiftRow) (ix2 r l) : EReal)
      = (held m c).hidden (512 * t.val + r.val) l.val := by
  have es : (View.ld (iblk m c 1 t) scaleRow (ix3 0 0 l) : EReal) = _ :=
    (congrArg (fun j => (iblk m c 1 t j : EReal)) (show scaleRow.idx (ix3 0 0 l) = ix3 0 1 l from
      funext fun a => Fin.ext (by fin_cases a <;> first | rfl | exact (by show 0 + 1 * l.val = l.val; omega)))).trans (iblk1_apply m c t 1 l)
  have eh : (View.ld (iblk m c 1 t) shiftRow (ix3 0 0 l) : EReal) = _ :=
    (congrArg (fun j => (iblk m c 1 t j : EReal)) (show shiftRow.idx (ix3 0 0 l) = ix3 0 0 l from
      funext fun a => Fin.ext (by fin_cases a <;> first | rfl | exact (by show 0 + 1 * l.val = l.val; omega)))).trans (iblk1_apply m c t 0 l)
  unfold Args.hidden
  rw [show (512 * t.val + r.val) / 2048 = t.val / 4 by omega]
  exact pay2_apply _ _ _ _ r l _ _ _ _ (fun k => iblk0_apply m c t r k) (iblk2_apply m c t 0 l) es eh

/-- The projections a step computes. -/
theorem proj_apply (c : Dev nD) (t : Fin cfg0.N) (r : Fin 512) (f : Fin 2304) :
    (k0_pay3 (iblk m c 0 t) (iblk m c 2 t) (View.ld (iblk m c 1 t) scaleRow) (View.ld (iblk m c 1 t) shiftRow) (iblk m c 3 t) (ix2 r f) : EReal)
      = (held m c).proj (512 * t.val + r.val) f.val := by
  refine (pay3_apply _ _ _ _ _ _ _).trans ?_
  unfold Args.proj
  rw [← Fin.sum_univ_eq_sum_range (fun k => (held m c).hidden (512 * t.val + r.val) k * cell (n := 2304) (k := 1024) (α := EReal) (held m c).w f.val k) 1024]
  exact Finset.sum_congr rfl fun k _ => congrArg₂ (fun a b : EReal => a * b) (hidden_apply m c t r k) (iblk3_apply m c t f k)

/-- The step that handles row `r`. -/
abbrev stepOf (r : ℕ) (h : r < 4096) : Fin cfg0.N := ⟨r / 512, by rw [show cfg0.N = 8 from N_0]; omega⟩

theorem final6 (c : Dev nD) (i : S4096x1024.Idx) : ((dats m 0 c).arrAt 6 cfg0.N i : EReal) = (held m c).hidden (i 0).val (i 1).val := by
  have h0 : (i 0).val < 4096 := (i 0).isLt
  obtain ⟨e0, e1⟩ := index6 (stepOf _ h0)
  have h := congrFun (blocks6 m c (stepOf _ h0) ((by decide +kernel : ∀ t : Fin grid0.N, (cfg0.win 6).flush t = true) _)) (ix2 ⟨(i 0).val % 512, by omega⟩ (i 1))
  rw [flushed6_A] at h
  have e : ((cfg0.win 6).blk (stepOf _ h0)).view.emb (ix2 ⟨(i 0).val % 512, by omega⟩ (i 1)) = i := by
    refine funext fun a => Fin.ext ?_
    fin_cases a
    · show win0_6.index (stepOf _ h0) (0 : Fin 2) * 512 + 1 * ((i 0).val % 512) = _
      rw [e0]; show (i 0).val / 512 * 512 + 1 * ((i 0).val % 512) = (i 0).val; omega
    · show win0_6.index (stepOf _ h0) (1 : Fin 2) * 1024 + 1 * (i 1).val = (i 1).val
      rw [e1]; omega
  refine (congrArg (fun j => ((dats m 0 c).arrAt 6 cfg0.N j : EReal)) e.symm).trans (h.trans ?_)
  refine (congrFun (out6_A c _ _ _ _ _ _ _ _ _ _ _ _ _ _ _ _ _ _ _ _ _ _ _) _).trans ((hidden_apply m c (stepOf _ h0) ⟨(i 0).val % 512, by omega⟩ (i 1)).trans ?_)
  rw [show 512 * (stepOf _ h0).val + (i 0).val % 512 = (i 0).val by show 512 * ((i 0).val / 512) + _ = _; omega]

theorem final7 (c : Dev nD) (i : S4096x2304.Idx) : ((dats m 0 c).arrAt 7 cfg0.N i : EReal) = (held m c).qkv (i 0).val (i 1).val := by
  have h0 : (i 0).val < 4096 := (i 0).isLt
  obtain ⟨e0, e1⟩ := index7 (stepOf _ h0)
  have h := congrFun (blocks7 m c (stepOf _ h0) ((by decide +kernel : ∀ t : Fin grid0.N, (cfg0.win 7).flush t = true) _)) (ix2 ⟨(i 0).val % 512, by omega⟩ (i 1))
  rw [flushed7_A] at h
  have e : ((cfg0.win 7).blk (stepOf _ h0)).view.emb (ix2 ⟨(i 0).val % 512, by omega⟩ (i 1)) = i := by
    refine funext fun a => Fin.ext ?_
    fin_cases a
    · show win0_7.index (stepOf _ h0) (0 : Fin 2) * 512 + 1 * ((i 0).val % 512) = _
      rw [e0]; show (i 0).val / 512 * 512 + 1 * ((i 0).val % 512) = (i 0).val; omega
    · show win0_7.index (stepOf _ h0) (1 : Fin 2) * 2304 + 1 * (i 1).val = (i 1).val
      rw [e1]; omega
  refine (congrArg (fun j => ((dats m 0 c).arrAt 7 cfg0.N j : EReal)) e.symm).trans (h.trans ?_)
  refine (out7_A c _ _ _ _ _ _ _ _ _ _ _ _ _ _ _ _ _ _ _ _ _ _ _ ⟨(i 0).val % 512, by omega⟩ (i 1) _ _
    (fun j => if j % 64 < 32 then -(held m c).sinAt (512 * (stepOf _ h0).val + (i 0).val % 512) j else (held m c).sinAt (512 * (stepOf _ h0).val + (i 0).val % 512) j) (proj_apply m c (stepOf _ h0) _)
    (fun j => iblk4_apply m c (stepOf _ h0) _ j) (fun j => iblk5_apply m c (stepOf _ h0) _ j)).trans ?_
  rw [show 512 * (stepOf _ h0).val + (i 0).val % 512 = (i 0).val by show 512 * ((i 0).val / 512) + _ = _; omega]
  unfold Args.qkv
  exact congrArg (fun T => laid ((held m c).proj (i 0).val) T (i 1).val) (funext fun j => turned_eq (held m c) (i 0).val j)

/-! ## The reference's results -/

section
open Cert.Reference11Ideal.Read
variable (x0 : (⟨S4096x1024, .f32⟩ : BufTy).Contents (Elt Ideal)) (x1 : (⟨S2x6x1024, .f32⟩ : BufTy).Contents (Elt Ideal)) (x2 : (⟨S1x1024, .f32⟩ : BufTy).Contents (Elt Ideal))
  (x3 : (⟨S2304x1024, .bf16⟩ : BufTy).Contents (Elt Ideal)) (x4 x5 : (⟨S2048x32, .f32⟩ : BufTy).Contents (Elt Ideal))

theorem reference_x (i : Cert.Reference11Ideal.S2x2048x1024.Idx) :
    (val_main_v2 (F := Ideal) x0 i : EReal) = cell (n := 4096) (k := 1024) (α := EReal) x0 (2048 * (i 0).val + (i 1).val) (i 2).val := by
  have h0 : (i 0).val < 2 := (i 0).isLt
  have h1 : (i 1).val < 2048 := (i 1).isLt
  have h2 : (i 2).val < 1024 := (i 2).isLt
  refine (val_main_v2_apply x0 i).trans (cell_eq (n := 4096) (k := 1024) (α := EReal) x0 _ ?_ ?_)
  · show (((i 0).val * 2048 + (i 1).val) * 1024 + (i 2).val) / 1024 = _; omega
  · show (((i 0).val * 2048 + (i 1).val) * 1024 + (i 2).val) % 1024 = _; omega

theorem reference_hidden (i : Cert.Reference11Ideal.S2x2048x1024.Idx) :
    (val_main_v22 (F := Ideal) x0 x1 x2 i : EReal) = (⟨x0, x1, x2, x3, x4, x5⟩ : Args).hidden (2048 * (i 0).val + (i 1).val) (i 2).val := by
  have h0 : (i 0).val < 2 := (i 0).isLt
  have h1 : (i 1).val < 2048 := (i 1).isLt
  rw [val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v3_apply, val_main_v1_apply, val_main_v0_apply, reference_x]
  simp only [val_main_v4_apply, reference_x]
  unfold Args.hidden Norm.inv Norm.eps
  dsimp only
  have hb : (2048 * (i 0).val + (i 1).val) / 2048 = (i 0).val := by omega
  rw [hb, ← Fin.sum_univ_eq_sum_range (fun k => cell (n := 4096) (k := 1024) (α := EReal) x0 (2048 * (i 0).val + (i 1).val) k * cell (n := 4096) (k := 1024) (α := EReal) x0 (2048 * (i 0).val + (i 1).val) k) 1024]
  have eg : (x2 (idx_main_v3 (idx_main_v14 (idx_main_v15 i))) : EReal) = _ := cell_eq (n := 1) (k := 1024) (α := EReal) x2 _ (r := 0) (l := (i 2).val) rfl (Nat.mod_eq_of_lt (i 2).isLt)
  have es : (x1 (idx_main_v1 (idx_main_v19 i)) : EReal) = _ := cell3_eq (p := 2) (n := 6) (k := 1024) (α := EReal) x1 _ (b := (i 0).val) (r := 1) (l := (i 2).val) rfl rfl rfl
  have eh : (x1 (idx_main_v0 (idx_main_v21 i)) : EReal) = _ := cell3_eq (p := 2) (n := 6) (k := 1024) (α := EReal) x1 _ (b := (i 0).val) (r := 0) (l := (i 2).val) rfl rfl rfl
  rw [eg, es, eh]
  have z : (val_main_cst (F := Ideal) (Shape.Idx.first Cert.Reference11Ideal.Gen.h_S_) : EReal) = 0 := Ideal.ofBits_zero .f32
  rw [z, zero_add]
  rfl

theorem reference_proj (i : Cert.Reference11Ideal.S2x2048x2304.Idx) :
    (val_main_v25 (F := Ideal) x0 x1 x2 x3 i : EReal) = (⟨x0, x1, x2, x3, x4, x5⟩ : Args).proj (2048 * (i 0).val + (i 1).val) (i 2).val := by
  rw [val_main_v25_apply]
  unfold Args.proj
  rw [← Fin.sum_univ_eq_sum_range (fun k => (⟨x0, x1, x2, x3, x4, x5⟩ : Args).hidden (2048 * (i 0).val + (i 1).val) k * cell (n := 2304) (k := 1024) (α := EReal) x3 (i 2).val k) 1024]
  refine Finset.sum_congr rfl fun k _ => congrArg₂ (fun a b : EReal => a * b) (reference_hidden x0 x1 x2 x3 x4 x5 _) ?_
  rw [val_main_v24_apply, val_main_v23_apply]
  exact cell_eq (n := 2304) (k := 1024) (α := EReal) x3 _ rfl rfl

/-- The windowed heads, one row of 64 lanes each. -/
theorem reference_heads (i : Cert.Reference11Ideal.S2x2048x10x64.Idx) :
    (val_main_v31 (F := Ideal) x0 x1 x2 x3 i : EReal) = (⟨x0, x1, x2, x3, x4, x5⟩ : Args).proj (2048 * (i 0).val + (i 1).val) (1536 + (64 * (i 2).val + (i 3).val)) := by
  have h0 : (i 0).val < 2 := (i 0).isLt
  have h1 : (i 1).val < 2048 := (i 1).isLt
  have h2 : (i 2).val < 10 := (i 2).isLt
  have h3 : (i 3).val < 64 := (i 3).isLt
  refine (val_main_v31_apply x0 x1 x2 x3 i).trans ((val_main_v29_apply x0 x1 x2 x3 _).trans ((reference_proj x0 x1 x2 x3 x4 x5 _).trans (congrArg₂ _ ?_ ?_)))
  · show 2048 * (((((i 0).val * 2048 + (i 1).val) * 10 + (i 2).val) * 64 + (i 3).val) / 1310720) + ((((i 0).val * 2048 + (i 1).val) * 10 + (i 2).val) * 64 + (i 3).val) / 640 % 2048 = _; omega
  · show 1536 + ((((i 0).val * 2048 + (i 1).val) * 10 + (i 2).val) * 64 + (i 3).val) % 640 = _; omega

/-- A table's entry for a token and a lane of either half. -/
theorem table (x : (⟨S2048x32, .f32⟩ : BufTy).Contents (Elt Ideal)) (y : S2048x32.Idx) (a p j : ℕ) (hp : p < 2048) (h0 : (y 0).val = p) (h1 : (y 1).val = j % 32) :
    (x y : EReal) = cell (n := 2048) (k := 32) (α := EReal) x ((2048 * a + p) % 2048) (j % 32) :=
  cell_eq (n := 2048) (k := 32) (α := EReal) x y (by omega) h1

theorem reference_turn (i : Cert.Reference11Ideal.S2x2048x10x64.Idx) :
    (val_main_v46 (F := Ideal) x0 x1 x2 x3 x4 x5 i : EReal) = (⟨x0, x1, x2, x3, x4, x5⟩ : Args).turn (2048 * (i 0).val + (i 1).val) (64 * (i 2).val + (i 3).val) := by
  have h1 : (i 1).val < 2048 := (i 1).isLt
  have h3 : (i 3).val < 64 := (i 3).isLt
  unfold val_main_v46 Args.turn Args.cosAt Args.sinAt
  by_cases h : (i 3).val < 32
  · rw [if_pos (by omega)]
    refine (concatenate_pair_apply_left 3 _ _ Cert.Reference11Ideal.Gen.concatenates_S2x2048x10x32_S2x2048x10x32_S2x2048x10x64_d3 i rfl (ix4 (i 0) (i 1) (i 2) ⟨(i 3).val, h⟩) (fun d => match d with | ⟨0, _⟩ => rfl | ⟨1, _⟩ => rfl | ⟨2, _⟩ => rfl | ⟨3, _⟩ => rfl)).trans ?_
    rw [val_main_v40_apply, val_main_v37_apply, val_main_v39_apply, val_main_v34_apply, val_main_v35_apply, val_main_v36_apply, val_main_v38_apply, val_main_v32_apply, val_main_v33_apply, reference_heads x0 x1 x2 x3 x4 x5, reference_heads x0 x1 x2 x3 x4 x5]
    exact congrArg₂ (fun a b : EReal => a - b)
      (congrArg₂ (fun a b : EReal => a * b) rfl (table x4 _ (i 0).val (i 1).val _ h1 rfl (by show (i 3).val = _; omega)))
      (congrArg₂ (fun a b : EReal => a * b) (congrArg _ (by show 1536 + (64 * (i 2).val + (32 + (i 3).val)) = _; omega)) (table x5 _ (i 0).val (i 1).val _ h1 rfl (by show (i 3).val = _; omega)))
  · rw [if_neg (by omega)]
    refine (concatenate_pair_apply_right 3 _ _ Cert.Reference11Ideal.Gen.concatenates_S2x2048x10x32_S2x2048x10x32_S2x2048x10x64_d3 i rfl rfl (ix4 (i 0) (i 1) (i 2) ⟨(i 3).val - 32, by omega⟩) (fun d hd => match d, hd with | ⟨0, _⟩, _ => rfl | ⟨1, _⟩, _ => rfl | ⟨2, _⟩, _ => rfl | ⟨3, _⟩, hd => absurd rfl hd) (by show (i 3).val - 32 + 32 = (i 3).val; omega)).trans ?_
    rw [val_main_v45_apply, val_main_v42_apply, val_main_v44_apply, val_main_v34_apply, val_main_v35_apply, val_main_v41_apply, val_main_v43_apply, val_main_v32_apply, val_main_v33_apply, reference_heads x0 x1 x2 x3 x4 x5, reference_heads x0 x1 x2 x3 x4 x5]
    exact congrArg₂ (fun a b : EReal => a + b)
      (congrArg₂ (fun a b : EReal => a * b) (congrArg _ (by show 1536 + (64 * (i 2).val + (32 + ((i 3).val - 32))) = _; omega)) (table x4 _ (i 0).val (i 1).val _ h1 rfl (by show (i 3).val - 32 = _; omega)))
      (congrArg₂ (fun a b : EReal => a * b) (congrArg _ (by show 1536 + (64 * (i 2).val + ((i 3).val - 32)) = _; omega)) (table x5 _ (i 0).val (i 1).val _ h1 rfl (by show (i 3).val - 32 = _; omega)))

/-- The windowed heads side by side again. -/
theorem reference_turned (i : Cert.Reference11Ideal.S2x2048x640.Idx) :
    (val_main_v47 (F := Ideal) x0 x1 x2 x3 x4 x5 i : EReal) = (⟨x0, x1, x2, x3, x4, x5⟩ : Args).turn (2048 * (i 0).val + (i 1).val) (i 2).val := by
  have h0 : (i 0).val < 2 := (i 0).isLt
  have h1 : (i 1).val < 2048 := (i 1).isLt
  have h2 : (i 2).val < 640 := (i 2).isLt
  refine (val_main_v47_apply x0 x1 x2 x3 x4 x5 i).trans ((reference_turn x0 x1 x2 x3 x4 x5 _).trans (congrArg₂ _ ?_ ?_))
  · show 2048 * ((((i 0).val * 2048 + (i 1).val) * 640 + (i 2).val) / 1310720) + (((i 0).val * 2048 + (i 1).val) * 640 + (i 2).val) / 640 % 2048 = _; omega
  · show 64 * ((((i 0).val * 2048 + (i 1).val) * 640 + (i 2).val) / 64 % 10) + (((i 0).val * 2048 + (i 1).val) * 640 + (i 2).val) % 64 = _; omega

theorem reference_qkv (i : Cert.Reference11Ideal.S2x2048x2304.Idx) :
    (val_main_v54 (F := Ideal) x0 x1 x2 x3 x4 x5 i : EReal) = (⟨x0, x1, x2, x3, x4, x5⟩ : Args).qkv (2048 * (i 0).val + (i 1).val) (i 2).val := by
  have h2 : (i 2).val < 2304 := (i 2).isLt
  have off : ∀ {k : ℕ} (f : Fin k) (b : Fin 3), b ≠ 2 → ((ix3 (i 0) (i 1) f : Shape.Idx ⟨3, ![2, 2048, k]⟩) b).val = (i b).val := fun f b hb =>
    match b, hb with
    | ⟨0, _⟩, _ => rfl
    | ⟨1, _⟩, _ => rfl
    | ⟨2, _⟩, hb => absurd rfl hb
  unfold val_main_v54 Args.qkv laid
  by_cases b1 : (i 2).val < 512
  · rw [if_pos b1]
    refine (concatenate_apply_piece 2 _ _ i 0 (by simp) Cert.Reference11Ideal.S2x2048x512 _ rfl rfl 0 rfl (ix3 (i 0) (i 1) ⟨(i 2).val, b1⟩) (off _) (by show 0 + (i 2).val = _; omega)).trans ?_
    exact congrArg (fun a : EReal => a * eighth) ((val_main_v26_apply x0 x1 x2 x3 _).trans (reference_proj x0 x1 x2 x3 x4 x5 _))
  rw [if_neg b1]
  by_cases b2 : (i 2).val < 1536
  · rw [if_pos b2]
    by_cases b : (i 2).val < 1024
    · refine (concatenate_apply_piece 2 _ _ i 1 (by simp) Cert.Reference11Ideal.S2x2048x512 _ rfl rfl 512 rfl (ix3 (i 0) (i 1) ⟨(i 2).val - 512, by omega⟩) (off _) (by show 512 + ((i 2).val - 512) = _; omega)).trans ?_
      exact (val_main_v27_apply x0 x1 x2 x3 _).trans ((reference_proj x0 x1 x2 x3 x4 x5 _).trans (congrArg _ (by show 512 + ((i 2).val - 512) = _; omega)))
    · refine (concatenate_apply_piece 2 _ _ i 2 (by simp) Cert.Reference11Ideal.S2x2048x512 _ rfl rfl 1024 rfl (ix3 (i 0) (i 1) ⟨(i 2).val - 1024, by omega⟩) (off _) (by show 1024 + ((i 2).val - 1024) = _; omega)).trans ?_
      exact (val_main_v28_apply x0 x1 x2 x3 _).trans ((reference_proj x0 x1 x2 x3 x4 x5 _).trans (congrArg _ (by show 1024 + ((i 2).val - 1024) = _; omega)))
  rw [if_neg b2]
  by_cases b3 : (i 2).val < 2048
  · rw [if_pos b3]
    refine (concatenate_apply_piece 2 _ _ i 3 (by simp) Cert.Reference11Ideal.S2x2048x512 _ rfl rfl 1536 rfl (ix3 (i 0) (i 1) ⟨(i 2).val - 1536, by omega⟩) (off _) (by show 1536 + ((i 2).val - 1536) = _; omega)).trans ?_
    exact congrArg (fun a : EReal => a * eighth) ((val_main_v48_apply x0 x1 x2 x3 x4 x5 _).trans (reference_turned x0 x1 x2 x3 x4 x5 _))
  rw [if_neg b3]
  by_cases b4 : (i 2).val < 2176
  · rw [if_pos b4]
    refine (concatenate_apply_piece 2 _ _ i 4 (by simp) Cert.Reference11Ideal.S2x2048x128 _ rfl rfl 2048 rfl (ix3 (i 0) (i 1) ⟨(i 2).val - 2048, by omega⟩) (off _) (by show 2048 + ((i 2).val - 2048) = _; omega)).trans ?_
    exact (val_main_v49_apply x0 x1 x2 x3 x4 x5 _).trans ((reference_turned x0 x1 x2 x3 x4 x5 _).trans (congrArg _ (by show 512 + ((i 2).val - 2048) = _; omega)))
  rw [if_neg b4]
  refine (concatenate_apply_piece 2 _ _ i 5 (by simp) Cert.Reference11Ideal.S2x2048x128 _ rfl rfl 2176 rfl (ix3 (i 0) (i 1) ⟨(i 2).val - 2176, by omega⟩) (off _) (by show 2176 + ((i 2).val - 2176) = _; omega)).trans ?_
  exact (val_main_v30_apply x0 x1 x2 x3 _).trans ((reference_proj x0 x1 x2 x3 x4 x5 _).trans (congrArg _ (by show 2176 + ((i 2).val - 2176) = _; omega)))

theorem reference0 (i : S4096x1024.Idx) : (val_main_v56 (F := Ideal) x0 x1 x2 i : EReal) = (⟨x0, x1, x2, x3, x4, x5⟩ : Args).hidden (i 0).val (i 1).val := by
  have h0 : (i 0).val < 4096 := (i 0).isLt
  have h1 : (i 1).val < 1024 := (i 1).isLt
  refine (val_main_v55_apply x0 x1 x2 i).trans ((reference_hidden x0 x1 x2 x3 x4 x5 _).trans (congrArg₂ _ ?_ ?_))
  · show 2048 * (((i 0).val * 1024 + (i 1).val) / 2097152) + ((i 0).val * 1024 + (i 1).val) / 1024 % 2048 = (i 0).val; omega
  · show ((i 0).val * 1024 + (i 1).val) % 1024 = (i 1).val; omega

theorem reference1 (i : S4096x2304.Idx) : (val_main_v58 (F := Ideal) x0 x1 x2 x3 x4 x5 i : EReal) = (⟨x0, x1, x2, x3, x4, x5⟩ : Args).qkv (i 0).val (i 1).val := by
  have h0 : (i 0).val < 4096 := (i 0).isLt
  have h1 : (i 1).val < 2304 := (i 1).isLt
  refine (val_main_v57_apply x0 x1 x2 x3 x4 x5 i).trans ((reference_qkv x0 x1 x2 x3 x4 x5 _).trans (congrArg₂ _ ?_ ?_))
  · show 2048 * (((i 0).val * 2304 + (i 1).val) / 4718592) + ((i 0).val * 2304 + (i 1).val) / 2304 % 2048 = (i 0).val; omega
  · show ((i 0).val * 2304 + (i 1).val) % 2304 = (i 1).val; omega

end

end Cert.Kernel11Ideal.Value

namespace Cert.Claims

open Idealize.ShloMosaic Idealize.ShloMosaic.TcCoe Idealize.SL.Sem

theorem frame_p11 : Cert.quiescent_Kernel11 := fun m ρ _ => Cert.Kernel11.Gen.frame m ρ

theorem frame_pi11 : Cert.quiescent_Kernel11Ideal := fun m ρ _ => Cert.Kernel11Ideal.Gen.frame m ρ

theorem frame_ri11 : Cert.quiescent_Reference11Ideal := fun m ρ _ =>
  (θ_run Cert.Reference11Ideal.defs _ _).mono (fun r h => ⟨fun c => (h c).2.2, Idealize.ShloMosaic.sem_eq_zero_of_no_sems (by decide) r.2⟩)
    (Cert.Reference11Ideal.Value.run (F := Ideal) m ρ)

theorem preserves11 : Cert.preserves_Kernel11_Kernel11Ideal := trivial

open Cert.Kernel11Ideal.Value in
/-- The kernel's two results are the reference's. -/
theorem algebraic11 : Cert.algebraic_Kernel11Ideal_Reference11Ideal := by
  intro m ρ m' ρ' _ hag
  refine ⟨fun c => (Cert.Kernel11Ideal.Gen.dats m 0 c).arrAt 6 Cert.Kernel11Ideal.cfg0.N, fun c => (Cert.Kernel11Ideal.Gen.dats m 0 c).arrAt 7 Cert.Kernel11Ideal.cfg0.N,
    Cert.Kernel11Ideal.Value.run_blocks m ρ, ?_⟩
  refine (θ_run Cert.Reference11Ideal.defs _ _).mono (fun r hr c => ?_) (Cert.Reference11Ideal.Value.run (F := Ideal) m' ρ')
  obtain ⟨g0, g1, g2, g3, g4, g5⟩ := hag c
  obtain ⟨r0, r1, rest⟩ := hr c
  refine ⟨r0.trans ((Cert.Reference11Ideal.Read.val_main_v56_eq _ _ _).trans ?_), r1.trans ((Cert.Reference11Ideal.Read.val_main_v58_eq _ _).trans ?_), rest⟩
  · rw [g0, g1, g2]
    funext i
    have e := final6 m c i
    unfold held at e
    exact (reference0 _ _ _ _ _ _ i).trans e.symm
  · rw [g0, g1, g2, g3, g4, g5]
    funext i
    have e := final7 m c i
    unfold held at e
    exact (reference1 _ _ _ _ _ _ i).trans e.symm

end Cert.Claims

end

end
-- ==== Proof.lean ====
module

public import proofs.«01_k».proof.Defs
public import proofs.«01_k».proof.Proof.Claims
public import proofs.«01_k».proof.Proof.Up
public import proofs.«01_k».proof.Proof.Down
public import proofs.«01_k».proof.Proof.In
public import proofs.«01_k».proof.Proof.Out
public import proofs.«01_k».proof.Proof.UpForward
public import proofs.«01_k».proof.Proof.DownBack
public import proofs.«01_k».proof.Proof.UpBack
public import proofs.«01_k».proof.Proof.OutBack
public import proofs.«01_k».proof.Proof.OutForward
public import proofs.«01_k».proof.Proof.InForward
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Pre_finite7
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_finite.Gen.facts, Cert.Pre_finite7.Gen.facts,
    Claims.frame_p, Claims.frame_pi, Claims.frame_pi_finite, Claims.frame_ri, Claims.frame_ri_finite, Claims.frame_p2, Claims.frame_pi2, Claims.frame_ri2, Claims.frame_p3, Claims.frame_pi3, Claims.frame_ri3, Claims.frame_p4, Claims.frame_pi4, Claims.frame_ri4, Claims.frame_p5, Claims.frame_pi5, Claims.frame_ri5, Claims.frame_p6, Claims.frame_pi6, Claims.frame_ri6, Claims.frame_p7, Claims.frame_pi7, Claims.frame_pi7_finite, Claims.frame_ri7, Claims.frame_ri7_finite, Claims.frame_p8, Claims.frame_pi8, Claims.frame_ri8, Claims.frame_p9, Claims.frame_pi9, Claims.frame_ri9, Claims.frame_p10, Claims.frame_pi10, Claims.frame_ri10, Claims.frame_p11, Claims.frame_pi11, Claims.frame_ri11,
    Claims.preserves, Claims.algebraic, Claims.preserves2, Claims.algebraic2, Claims.preserves3, Claims.algebraic3, Claims.preserves4, Claims.algebraic4, Claims.preserves5, Claims.algebraic5, Claims.preserves6, Claims.algebraic6, Claims.preserves7, Claims.algebraic7, Claims.preserves8, Claims.algebraic8, Claims.preserves9, Claims.algebraic9, Claims.preserves10, Claims.algebraic10, Claims.preserves11, Claims.algebraic11⟩

end Cert.Proof

end
